-- ==== Defs.lean ====
def Pre_Kernel [hPre_first_expert_in_range : Cert.Pre_first_expert_in_range.Facts] (m : (ℓ : Loc Cert.Kernel.nD Cert.Kernel.τ Cert.Kernel.sig) → Buf (Elt Bits) ℓ) : Prop :=
  ∀ c : Dev Cert.Kernel.nD,
    (Cert.Pre_first_expert_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_first_expert_in_range : Cert.Pre_first_expert_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_first_expert_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_expert_in_range [hPre_first_expert_in_range : Cert.Pre_first_expert_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_expert_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_first_expert_in_range : Cert.Pre_first_expert_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_first_expert_in_range : Cert.Pre_first_expert_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_first_expert_in_range [hReferenceIdeal : Cert.ReferenceIdeal.Facts] [hPre_first_expert_in_range : Cert.Pre_first_expert_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_expert_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_first_expert_in_range : Cert.Pre_first_expert_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_first_expert_in_range : Cert.Pre_first_expert_in_range.Facts),
    quiescent_Kernel (hKernel := hKernel) (hPre_first_expert_in_range := hPre_first_expert_in_range)
    ∧ quiescent_KernelIdeal (hKernelIdeal := hKernelIdeal) (hPre_first_expert_in_range := hPre_first_expert_in_range)
    ∧ quiescent_ReferenceIdeal (hReferenceIdeal := hReferenceIdeal)
    ∧ quiescent_ReferenceIdeal_pre_first_expert_in_range (hReferenceIdeal := hReferenceIdeal) (hPre_first_expert_in_range := hPre_first_expert_in_range)
    ∧ preserves_Kernel_KernelIdeal
    ∧ algebraic_KernelIdeal_ReferenceIdeal (hKernelIdeal := hKernelIdeal) (hReferenceIdeal := hReferenceIdeal) (hPre_first_expert_in_range := hPre_first_expert_in_range)
-- ==== Pre_first_expert_in_range.lean ====
abbrev S32x1x7168 : Shape := ⟨3, ![32, 1, 7168]⟩
abbrev S32x1x2 : Shape := ⟨3, ![32, 1, 2]⟩
abbrev S32 : Shape := ⟨1, ![32]⟩
abbrev S4x7168x4096 : Shape := ⟨3, ![4, 7168, 4096]⟩
abbrev S4x4096 : Shape := ⟨2, ![4, 4096]⟩
abbrev S4x2048x7168 : Shape := ⟨3, ![4, 2048, 7168]⟩
abbrev S4x7168 : Shape := ⟨2, ![4, 7168]⟩
abbrev S4x8x7168x16 : Shape := ⟨4, ![4, 8, 7168, 16]⟩
abbrev S4x8x16x4096 : Shape := ⟨4, ![4, 8, 16, 4096]⟩
abbrev S1x1x1 : Shape := ⟨3, ![1, 1, 1]⟩
abbrev S_ : Shape := ⟨0, ![]⟩

class Facts : Prop where
  slices_S32x1x2_S1x1x1_0_0_0 : S32x1x2.Slices ![0, 0, 0] S1x1x1
  shapeCasts_S1x1x1_S_ : S1x1x1.ShapeCasts S_

variable [Facts]

def fn {F : FTy → Type} [FloatOps F] (main_arg0 : FVec F S32x1x7168 .bf16) (main_arg1 : IVec S32x1x2 32) (main_arg2 : FVec F S32x1x2 .f32) (main_arg3 : IVec S32 32) (main_arg4 : FVec F S4x7168x4096 .fp8e4m3) (main_arg5 : FVec F S4x4096 .f32) (main_arg6 : FVec F S4x2048x7168 .fp8e4m3) (main_arg7 : FVec F S4x7168 .f32) (main_arg8 : FVec F S4x8x7168x16 .bf16) (main_arg9 : FVec F S4x8x16x4096 .bf16) : IVec S_ 1 :=
  let main_v0 : IVec S1x1x1 32 := (extractStridedSlice S1x1x1 ![0, 0, 0] · slices_S32x1x2_S1x1x1_0_0_0) main_arg1
  let main_v1 : IVec S_ 32 := shapeCast S_ main_v0 shapeCasts_S1x1x1_S_
  let main_c : IVec S_ 32 := constantI S_ 32 0#32
  let main_v2 : IVec S_ 1 := cmpi .sge main_v1 main_c
  let main_v3 : IVec S1x1x1 32 := (extractStridedSlice S1x1x1 ![0, 0, 0] · slices_S32x1x2_S1x1x1_0_0_0) main_arg1
  let main_v4 : IVec S_ 32 := shapeCast S_ main_v3 shapeCasts_S1x1x1_S_
  let main_c_0 : IVec S_ 32 := constantI S_ 32 4#32
  let main_v5 : IVec S_ 1 := cmpi .slt main_v4 main_c_0
  let main_v6 : IVec S_ 1 := andi main_v2 main_v5
  main_v6
-- ==== Kernel.lean ====
abbrev S32x1x7168 : Shape := ⟨3, ![32, 1, 7168]⟩
abbrev S32x1x2 : Shape := ⟨3, ![32, 1, 2]⟩
abbrev S32 : Shape := ⟨1, ![32]⟩
abbrev S4x7168x4096 : Shape := ⟨3, ![4, 7168, 4096]⟩
abbrev S4x4096 : Shape := ⟨2, ![4, 4096]⟩
abbrev S4x2048x7168 : Shape := ⟨3, ![4, 2048, 7168]⟩
abbrev S4x7168 : Shape := ⟨2, ![4, 7168]⟩
abbrev S4x8x7168x16 : Shape := ⟨4, ![4, 8, 7168, 16]⟩
abbrev S4x8x16x4096 : Shape := ⟨4, ![4, 8, 16, 4096]⟩
abbrev S32x2 : Shape := ⟨2, ![32, 2]⟩
abbrev S2x32 : Shape := ⟨2, ![2, 32]⟩
abbrev S32x1 : Shape := ⟨2, ![32, 1]⟩
abbrev S1x32 : Shape := ⟨2, ![1, 32]⟩
abbrev S32x7168 : Shape := ⟨2, ![32, 7168]⟩
abbrev S4x8x16x7168 : Shape := ⟨4, ![4, 8, 16, 7168]⟩
abbrev S4x128x7168 : Shape := ⟨3, ![4, 128, 7168]⟩
abbrev S4x128x4096 : Shape := ⟨3, ![4, 128, 4096]⟩
abbrev S7168x4096 : Shape := ⟨2, ![7168, 4096]⟩
abbrev S14x2048x512 : Shape := ⟨3, ![14, 2048, 512]⟩
abbrev S128x7168 : Shape := ⟨2, ![128, 7168]⟩
abbrev S5x32x128 : Shape := ⟨3, ![5, 32, 128]⟩
abbrev S32x128 : Shape := ⟨2, ![32, 128]⟩
abbrev S32x4096 : Shape := ⟨2, ![32, 4096]⟩
abbrev S32x2048 : Shape := ⟨2, ![32, 2048]⟩
abbrev S5 : Shape := ⟨1, ![5]⟩
abbrev S28 : Shape := ⟨1, ![28]⟩
abbrev S14 : Shape := ⟨1, ![14]⟩
abbrev S_ : Shape := ⟨0, ![]⟩
abbrev S16x7168 : Shape := ⟨2, ![16, 7168]⟩
abbrev S1x64x4096 : Shape := ⟨3, ![1, 64, 4096]⟩
abbrev S64x4096 : Shape := ⟨2, ![64, 4096]⟩
abbrev S1x1 : Shape := ⟨2, ![1, 1]⟩
abbrev S1x128x7168 : Shape := ⟨3, ![1, 128, 7168]⟩
abbrev S1 : Shape := ⟨1, ![1]⟩
abbrev S256x4096 : Shape := ⟨2, ![256, 4096]⟩
abbrev S1x256x4096 : Shape := ⟨3, ![1, 256, 4096]⟩
abbrev S1x2x32 : Shape := ⟨3, ![1, 2, 32]⟩
abbrev S1x1x1 : Shape := ⟨3, ![1, 1, 1]⟩
abbrev S32x32 : Shape := ⟨2, ![32, 32]⟩
abbrev S1x32x128 : Shape := ⟨3, ![1, 32, 128]⟩
abbrev S1x2048x512 : Shape := ⟨3, ![1, 2048, 512]⟩
abbrev S2048x512 : Shape := ⟨2, ![2048, 512]⟩
abbrev S1x128x512 : Shape := ⟨3, ![1, 128, 512]⟩
abbrev S128x512 : Shape := ⟨2, ![128, 512]⟩
abbrev S32x512 : Shape := ⟨2, ![32, 512]⟩
abbrev S32x1024 : Shape := ⟨2, ![32, 1024]⟩
abbrev S1024x512 : Shape := ⟨2, ![1024, 512]⟩
abbrev S512x512 : Shape := ⟨2, ![512, 512]⟩
abbrev S1x512 : Shape := ⟨2, ![1, 512]⟩
abbrev S32x6656 : Shape := ⟨2, ![32, 6656]⟩
abbrev S32x1x1 : Shape := ⟨3, ![32, 1, 1]⟩

abbrev nBuf : Space → Nat
  | .hbm => 26
  | .vmem => 21
  | .smem => 1
  | _ => 0

abbrev bufTy : (tb : Table) → Fin (tcTables nBuf tb) → BufTy
  | .hbm, ⟨0, _⟩ => ⟨S32x1x7168, .bf16⟩
  | .hbm, ⟨1, _⟩ => ⟨S32x1x2, .i32⟩
  | .hbm, ⟨2, _⟩ => ⟨S32x1x2, .f32⟩
  | .hbm, ⟨3, _⟩ => ⟨S32, .i32⟩
  | .hbm, ⟨4, _⟩ => ⟨S4x7168x4096, .fp8e4m3⟩
  | .hbm, ⟨5, _⟩ => ⟨S4x4096, .f32⟩
  | .hbm, ⟨6, _⟩ => ⟨S4x2048x7168, .fp8e4m3⟩
  | .hbm, ⟨7, _⟩ => ⟨S4x7168, .f32⟩
  | .hbm, ⟨8, _⟩ => ⟨S4x8x7168x16, .bf16⟩
  | .hbm, ⟨9, _⟩ => ⟨S4x8x16x4096, .bf16⟩
  | .hbm, ⟨10, _⟩ => ⟨S32x2, .i32⟩
  | .hbm, ⟨11, _⟩ => ⟨S2x32, .i32⟩
  | .hbm, ⟨12, _⟩ => ⟨S32x2, .f32⟩
  | .hbm, ⟨13, _⟩ => ⟨S2x32, .f32⟩
  | .hbm, ⟨14, _⟩ => ⟨S32x1, .i32⟩
  | .hbm, ⟨15, _⟩ => ⟨S1x32, .i32⟩
  | .hbm, ⟨16, _⟩ => ⟨S32x7168, .bf16⟩
  | .hbm, ⟨17, _⟩ => ⟨S4x8x16x7168, .bf16⟩
  | .hbm, ⟨18, _⟩ => ⟨S4x128x7168, .bf16⟩
  | .hbm, ⟨19, _⟩ => ⟨S4x128x4096, .bf16⟩
  | .hbm, ⟨20, _⟩ => ⟨S32x7168, .bf16⟩
  | .hbm, ⟨21, _⟩ => ⟨S32x7168, .fp8e4m3⟩
  | .hbm, ⟨22, _⟩ => ⟨S1x32, .f32⟩
  | .hbm, ⟨23, _⟩ => ⟨S32x1x7168, .bf16⟩
  | .hbm, ⟨24, _⟩ => ⟨S32x1x7168, .fp8e4m3⟩
  | .hbm, ⟨25, _⟩ => ⟨S32x1x1, .f32⟩
  | .local _ .vmem, ⟨0, _⟩ => ⟨S7168x4096, .fp8e4m3⟩
  | .local _ .vmem, ⟨1, _⟩ => ⟨S14x2048x512, .fp8e4m3⟩
  | .local _ .vmem, ⟨2, _⟩ => ⟨S128x7168, .bf16⟩
  | .local _ .vmem, ⟨3, _⟩ => ⟨S4x128x4096, .bf16⟩
  | .local _ .vmem, ⟨4, _⟩ => ⟨S2x32, .i32⟩
  | .local _ .vmem, ⟨5, _⟩ => ⟨S2x32, .f32⟩
  | .local _ .vmem, ⟨6, _⟩ => ⟨S1x32, .i32⟩
  | .local _ .vmem, ⟨7, _⟩ => ⟨S4x4096, .f32⟩
  | .local _ .vmem, ⟨8, _⟩ => ⟨S4x7168, .f32⟩
  | .local _ .vmem, ⟨9, _⟩ => ⟨S32x7168, .bf16⟩
  | .local _ .vmem, ⟨10, _⟩ => ⟨S32x7168, .fp8e4m3⟩
  | .local _ .vmem, ⟨11, _⟩ => ⟨S5x32x128, .f32⟩
  | .local _ .vmem, ⟨12, _⟩ => ⟨S32x128, .f32⟩
  | .local _ .vmem, ⟨13, _⟩ => ⟨S1x32, .f32⟩
  | .local _ .vmem, ⟨14, _⟩ => ⟨S32x4096, .f32⟩
  | .local _ .vmem, ⟨15, _⟩ => ⟨S32x4096, .f32⟩
  | .local _ .vmem, ⟨16, _⟩ => ⟨S32x2048, .f32⟩
  | .local _ .vmem, ⟨17, _⟩ => ⟨S32x2048, .fp8e4m3⟩
  | .local _ .vmem, ⟨18, _⟩ => ⟨S32x128, .f32⟩
  | .local _ .vmem, ⟨19, _⟩ => ⟨S32x7168, .f32⟩
  | .local _ .vmem, ⟨20, _⟩ => ⟨S32x7168, .bf16⟩
  | .local _ .smem, ⟨0, _⟩ => ⟨S5, .i32⟩
  | _, _ => ⟨S32x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.smem, 0, rfl⟩

abbrev nD : Nat := 1
abbrev τ : Topo := Topo.v7x

variable {F : FTy → Type} [FloatOps F]

abbrev grid0 : Pipeline.Grid := .none

@[reducible] def k0_t1_loop : Scf.Loop 32 :=
  let c0_i32_0_r0 : BitVec 32 := 0#32
  let c2_i32_r0 : BitVec 32 := 2#32
  let v14_r0 : BitVec 32 := Scalar.addi c0_i32_0_r0 c2_i32_r0
  let c1_i32_r0 : BitVec 32 := 1#32
  ⟨c0_i32_0_r0, v14_r0, c1_i32_r0⟩
def k0_off1 (k0_t1 : Fin k0_t1_loop.trips) : Fin 2 → Nat :=
  let c0_i32_0_r0 : BitVec 32 := 0#32
  let c1_i32_r0 : BitVec 32 := 1#32
  let arg35_r0 : BitVec 32 := Scf.iv c0_i32_0_r0 c1_i32_r0 k0_t1
  let c16_i32_153_r0 : BitVec 32 := 16#32
  let v232_r0 : BitVec 32 := Scalar.muli arg35_r0 c16_i32_153_r0
  let c0_i32_154_r0 : BitVec 32 := 0#32
  ![v232_r0.toNat, 0]
@[reducible] def k0_t2_loop : Scf.Loop 32 :=
  let c0_i32_3_r0 : BitVec 32 := 0#32
  let c4_i32_r0 : BitVec 32 := 4#32
  let v15_r0 : BitVec 32 := Scalar.addi c0_i32_3_r0 c4_i32_r0
  let c1_i32_4_r0 : BitVec 32 := 1#32
  ⟨c0_i32_3_r0, v15_r0, c1_i32_4_r0⟩
def k0_off2 (k0_t2 : Fin k0_t2_loop.trips) : Fin 3 → Nat :=
  let c0_i32_3_r0 : BitVec 32 := 0#32
  let c1_i32_4_r0 : BitVec 32 := 1#32
  let arg35_r0 : BitVec 32 := Scf.iv c0_i32_3_r0 c1_i32_4_r0 k0_t2
  let c0_i32_153_r0 : BitVec 32 := 0#32
  let c0_i32_154_r0 : BitVec 32 := 0#32
  ![arg35_r0.toNat, 0, 0]
def k0_off3 (v17_r0 : BitVec 32) : Fin 3 → Nat :=
  let c0_i32_7_r0 : BitVec 32 := 0#32
  let c0_i32_8_r0 : BitVec 32 := 0#32
  ![v17_r0.toNat, 0, 0]

def k0_off4 (v17_r0 : BitVec 32) : Fin 3 → Nat :=
  let c64_i32_r0 : BitVec 32 := 64#32
  let c0_i32_9_r0 : BitVec 32 := 0#32
  ![v17_r0.toNat, 64, 0]
@[reducible] def k0_t3_loop : Scf.Loop 32 :=
  let c0_i32_13_r0 : BitVec 32 := 0#32
  let c5_i32_r0 : BitVec 32 := 5#32
  let v24_r0 : BitVec 32 := Scalar.addi c0_i32_13_r0 c5_i32_r0
  let c1_i32_14_r0 : BitVec 32 := 1#32
  ⟨c0_i32_13_r0, v24_r0, c1_i32_14_r0⟩
def k0_mult1 (k0_t3 : Fin k0_t3_loop.trips) : BitVec 32 :=
  let c0_i32_13_r0 : BitVec 32 := 0#32
  let c1_i32_14_r0 : BitVec 32 := 1#32
  let arg35_r0 : BitVec 32 := Scf.iv c0_i32_13_r0 c1_i32_14_r0 k0_t3
  let c256_i32_r0 : BitVec 32 := 256#32
  let v232_r0 : BitVec 32 := Scalar.muli arg35_r0 c256_i32_r0
  v232_r0
def k0_off5 (k0_t3 : Fin k0_t3_loop.trips) : Fin 1 → Nat :=
  let c0_i32_13_r0 : BitVec 32 := 0#32
  let c1_i32_14_r0 : BitVec 32 := 1#32
  let arg35_r0 : BitVec 32 := Scf.iv c0_i32_13_r0 c1_i32_14_r0 k0_t3
  ![arg35_r0.toNat]
def k0_off6 (k0_t3 : Fin k0_t3_loop.trips) : Fin 2 → Nat :=
  let c0_i32_13_r0 : BitVec 32 := 0#32
  let c1_i32_14_r0 : BitVec 32 := 1#32
  let arg35_r0 : BitVec 32 := Scf.iv c0_i32_13_r0 c1_i32_14_r0 k0_t3
  let c256_i32_r0 : BitVec 32 := 256#32
  let v232_r0 : BitVec 32 := Scalar.muli arg35_r0 c256_i32_r0
  let v233_r0 : BitVec 32 := v232_r0
  let c0_i32_153_r0 : BitVec 32 := 0#32
  ![v233_r0.toNat, 0]
def k0_off7 (v17_r0 : BitVec 32) (k0_t3 : Fin k0_t3_loop.trips) : Fin 3 → Nat :=
  let c0_i32_13_r0 : BitVec 32 := 0#32
  let c1_i32_14_r0 : BitVec 32 := 1#32
  let arg35_r0 : BitVec 32 := Scf.iv c0_i32_13_r0 c1_i32_14_r0 k0_t3
  let c256_i32_r0 : BitVec 32 := 256#32
  let v232_r0 : BitVec 32 := Scalar.muli arg35_r0 c256_i32_r0
  let v233_r0 : BitVec 32 := v232_r0
  let c0_i32_154_r0 : BitVec 32 := 0#32
  ![v17_r0.toNat, v233_r0.toNat, 0]

def k0_chk1 (v17_r0 : BitVec 32) : Prop :=
  (∀ a, (k0_off3 v17_r0) a + S1x128x7168.size a ≤ S4x128x7168.size a) ∧
  (∀ (hinb : ∀ a, (k0_off3 v17_r0) a + S1x128x7168.size a ≤ S4x128x7168.size a), (Rect.unit (s := S4x128x7168) (k0_off3 v17_r0) S1x128x7168.size hinb).WholeWords (EltTy.packing .bf16)) ∧
  (∀ a, (k0_off4 v17_r0) a + S1x64x4096.size a ≤ S4x128x4096.size a) ∧
  (∀ (hinb : ∀ a, (k0_off4 v17_r0) a + S1x64x4096.size a ≤ S4x128x4096.size a), (Rect.unit (s := S4x128x4096) (k0_off4 v17_r0) S1x64x4096.size hinb).WholeWords (EltTy.packing .bf16)) ∧
  (∀ k0_t3 : Fin k0_t3_loop.trips, ∀ a, (k0_off7 v17_r0 k0_t3) a + S1x256x4096.size a ≤ S4x7168x4096.size a) ∧
  (∀ k0_t3 : Fin k0_t3_loop.trips, ∀ (hinb : ∀ a, (k0_off7 v17_r0 k0_t3) a + S1x256x4096.size a ≤ S4x7168x4096.size a), (Rect.unit (s := S4x7168x4096) (k0_off7 v17_r0 k0_t3) S1x256x4096.size hinb).WholeWords (EltTy.packing .fp8e4m3))
theorem k0_off3_inb : ∀ (v17_r0 : BitVec 32) (k0_hw1 : k0_chk1 v17_r0), ∀ a, (k0_off3 v17_r0) a + S1x128x7168.size a ≤ S4x128x7168.size a := fun v17_r0 k0_hw1 => k0_hw1.1
theorem k0_off3_wordsbf16 : ∀ (v17_r0 : BitVec 32) (k0_hw1 : k0_chk1 v17_r0), (Rect.unit (s := S4x128x7168) (k0_off3 v17_r0) S1x128x7168.size (k0_off3_inb v17_r0 k0_hw1)).WholeWords (EltTy.packing .bf16) := fun v17_r0 k0_hw1 => k0_hw1.2.1 (k0_off3_inb v17_r0 k0_hw1)
theorem k0_off4_inb : ∀ (v17_r0 : BitVec 32) (k0_hw1 : k0_chk1 v17_r0), ∀ a, (k0_off4 v17_r0) a + S1x64x4096.size a ≤ S4x128x4096.size a := fun v17_r0 k0_hw1 => k0_hw1.2.2.1
theorem k0_off4_wordsbf16 : ∀ (v17_r0 : BitVec 32) (k0_hw1 : k0_chk1 v17_r0), (Rect.unit (s := S4x128x4096) (k0_off4 v17_r0) S1x64x4096.size (k0_off4_inb v17_r0 k0_hw1)).WholeWords (EltTy.packing .bf16) := fun v17_r0 k0_hw1 => k0_hw1.2.2.2.1 (k0_off4_inb v17_r0 k0_hw1)
theorem k0_off7_inb : ∀ (v17_r0 : BitVec 32) (k0_hw1 : k0_chk1 v17_r0) (k0_t3 : Fin k0_t3_loop.trips), ∀ a, (k0_off7 v17_r0 k0_t3) a + S1x256x4096.size a ≤ S4x7168x4096.size a := fun v17_r0 k0_hw1 k0_t3 => k0_hw1.2.2.2.2.1 k0_t3
theorem k0_off7_wordsfp8e4m3 : ∀ (v17_r0 : BitVec 32) (k0_hw1 : k0_chk1 v17_r0) (k0_t3 : Fin k0_t3_loop.trips), (Rect.unit (s := S4x7168x4096) (k0_off7 v17_r0 k0_t3) S1x256x4096.size (k0_off7_inb v17_r0 k0_hw1 k0_t3)).WholeWords (EltTy.packing .fp8e4m3) := fun v17_r0 k0_hw1 k0_t3 => k0_hw1.2.2.2.2.2 k0_t3 (k0_off7_inb v17_r0 k0_hw1 k0_t3)

def k0_off8 (v17_r0 : BitVec 32) (v36_r0 : BitVec 32) : Fin 1 → Nat :=
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let v40_r0 : Index := Scalar.indexCast v39_r0
  ![v40_r0.toNat]

def k0_chk2 (v17_r0 : BitVec 32) (v36_r0 : BitVec 32) : Prop :=
  (∀ a, (k0_off8 v17_r0 v36_r0) a + S1.size a ≤ S5.size a)
theorem k0_off8_inb : ∀ (v17_r0 : BitVec 32) (v36_r0 : BitVec 32) (k0_hw2 : k0_chk2 v17_r0 v36_r0), ∀ a, (k0_off8 v17_r0 v36_r0) a + S1.size a ≤ S5.size a := fun v17_r0 v36_r0 k0_hw2 => k0_hw2

def k0_off9 (v17_r0 : BitVec 32) (v36_r0 : BitVec 32) (v51_r0 : BitVec 32) : Fin 1 → Nat :=
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let v55_r0 : Index := Scalar.indexCast v54_r0
  ![v55_r0.toNat]

def k0_chk3 (v17_r0 : BitVec 32) (v36_r0 : BitVec 32) (v51_r0 : BitVec 32) : Prop :=
  (∀ a, (k0_off9 v17_r0 v36_r0 v51_r0) a + S1.size a ≤ S5.size a)
theorem k0_off9_inb : ∀ (v17_r0 : BitVec 32) (v36_r0 : BitVec 32) (v51_r0 : BitVec 32) (k0_hw3 : k0_chk3 v17_r0 v36_r0 v51_r0), ∀ a, (k0_off9 v17_r0 v36_r0 v51_r0) a + S1.size a ≤ S5.size a := fun v17_r0 v36_r0 v51_r0 k0_hw3 => k0_hw3

def k0_off10 (v17_r0 : BitVec 32) (v36_r0 : BitVec 32) (v51_r0 : BitVec 32) (v66_r0 : BitVec 32) : Fin 1 → Nat :=
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let v70_r0 : Index := Scalar.indexCast v69_r0
  ![v70_r0.toNat]

def k0_chk4 (v17_r0 : BitVec 32) (v36_r0 : BitVec 32) (v51_r0 : BitVec 32) (v66_r0 : BitVec 32) : Prop :=
  (∀ a, (k0_off10 v17_r0 v36_r0 v51_r0 v66_r0) a + S1.size a ≤ S5.size a)
theorem k0_off10_inb : ∀ (v17_r0 : BitVec 32) (v36_r0 : BitVec 32) (v51_r0 : BitVec 32) (v66_r0 : BitVec 32) (k0_hw4 : k0_chk4 v17_r0 v36_r0 v51_r0 v66_r0), ∀ a, (k0_off10 v17_r0 v36_r0 v51_r0 v66_r0) a + S1.size a ≤ S5.size a := fun v17_r0 v36_r0 v51_r0 v66_r0 k0_hw4 => k0_hw4

@[reducible] def k0_t4_loop (v17_r0 : BitVec 32) (v36_r0 : BitVec 32) (v51_r0 : BitVec 32) (v66_r0 : BitVec 32) (v81_r0 : BitVec 32) : Scf.Loop 32 :=
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_140_r0 : BitVec 32 := 1#32
  ⟨c0_i32_138_r0, v225_r0, c1_i32_140_r0⟩

def k0_off11 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) : Fin 1 → Nat :=
  let c0_i32_138_r0 : BitVec 32 := 0#32
  let c1_i32_140_r0 : BitVec 32 := 1#32
  let arg35_r0 : BitVec 32 := Scf.iv c0_i32_138_r0 c1_i32_140_r0 k0_t4
  let v232_r0 : Index := Scalar.indexCast arg35_r0
  ![v232_r0.toNat]
def k0_off12 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) : Fin 1 → Nat :=
  let c0_i32_138_r0 : BitVec 32 := 0#32
  let c1_i32_140_r0 : BitVec 32 := 1#32
  let arg35_r0 : BitVec 32 := Scf.iv c0_i32_138_r0 c1_i32_140_r0 k0_t4
  let c1_i32_153_r0 : BitVec 32 := 1#32
  let v234_r0 : BitVec 32 := Scalar.addi arg35_r0 c1_i32_153_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let c1_i32_154_r0 : BitVec 32 := 1#32
  let v235_r0 : BitVec 32 := Scalar.subi v84_r0 c1_i32_154_r0
  let v236_r0 : BitVec 32 := Scalar.minsi v234_r0 v235_r0
  let v237_r0 : Index := Scalar.indexCast v236_r0
  ![v237_r0.toNat]
def k0_off13 (v233_r0 : BitVec 32) : Fin 3 → Nat :=
  let c0_i32_171_r0 : BitVec 32 := 0#32
  let c0_i32_172_r0 : BitVec 32 := 0#32
  ![v233_r0.toNat, 0, 0]

def k0_off14 (v233_r0 : BitVec 32) : Fin 3 → Nat :=
  let c64_i32_173_r0 : BitVec 32 := 64#32
  let c0_i32_174_r0 : BitVec 32 := 0#32
  ![v233_r0.toNat, 64, 0]
def k0_cond1 : BitVec 1 :=
  let c0_i32_177_r0 : BitVec 32 := 0#32
  let c7_i32_r0 : BitVec 32 := 7#32
  let v271_r0 : BitVec 32 := Scalar.addi c0_i32_177_r0 c7_i32_r0
  let c2_i32_178_r0 : BitVec 32 := 2#32
  let v272_r0 : BitVec 1 := Scalar.cmpi .sge v271_r0 c2_i32_178_r0
  let c30_i32_r0 : BitVec 32 := 30#32
  let v273_r0 : BitVec 1 := Scalar.cmpi .slt v271_r0 c30_i32_r0
  let v274_r0 : BitVec 1 := Scalar.andi v272_r0 v273_r0
  let v_true_r0 : BitVec 1 := 1#1
  let v275_r0 : BitVec 1 := Scalar.andi v274_r0 v_true_r0
  let v276_r0 : BitVec 32 := Scalar.extui v275_r0
  let c0_i32_179_r0 : BitVec 32 := 0#32
  let v277_r0 : BitVec 1 := Scalar.cmpi .ne v276_r0 c0_i32_179_r0
  v277_r0

def k0_mult2 : BitVec 32 :=
  let c0_i32_177_r0 : BitVec 32 := 0#32
  let c7_i32_r0 : BitVec 32 := 7#32
  let v271_r0 : BitVec 32 := Scalar.addi c0_i32_177_r0 c7_i32_r0
  let c2_i32_356_r0 : BitVec 32 := 2#32
  let v586_r0 : BitVec 32 := Scalar.subi v271_r0 c2_i32_356_r0
  let c256_i32_r0 : BitVec 32 := 256#32
  let v587_r0 : BitVec 32 := Scalar.muli v586_r0 c256_i32_r0
  v587_r0
def k0_off15 : Fin 1 → Nat :=
  let c0_i32_177_r0 : BitVec 32 := 0#32
  let c7_i32_r0 : BitVec 32 := 7#32
  let v271_r0 : BitVec 32 := Scalar.addi c0_i32_177_r0 c7_i32_r0
  let c2_i32_356_r0 : BitVec 32 := 2#32
  let v586_r0 : BitVec 32 := Scalar.subi v271_r0 c2_i32_356_r0
  ![v586_r0.toNat]
def k0_off16 : Fin 2 → Nat :=
  let c0_i32_177_r0 : BitVec 32 := 0#32
  let c7_i32_r0 : BitVec 32 := 7#32
  let v271_r0 : BitVec 32 := Scalar.addi c0_i32_177_r0 c7_i32_r0
  let c2_i32_356_r0 : BitVec 32 := 2#32
  let v586_r0 : BitVec 32 := Scalar.subi v271_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off17 (v233_r0 : BitVec 32) : Fin 3 → Nat :=
  let c0_i32_177_r0 : BitVec 32 := 0#32
  let c7_i32_r0 : BitVec 32 := 7#32
  let v271_r0 : BitVec 32 := Scalar.addi c0_i32_177_r0 c7_i32_r0
  let c2_i32_356_r0 : BitVec 32 := 2#32
  let v586_r0 : BitVec 32 := Scalar.subi v271_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
def k0_cond2 : BitVec 1 :=
  let c1_i32_180_r0 : BitVec 32 := 1#32
  let c7_i32_181_r0 : BitVec 32 := 7#32
  let v278_r0 : BitVec 32 := Scalar.addi c1_i32_180_r0 c7_i32_181_r0
  let c2_i32_182_r0 : BitVec 32 := 2#32
  let v279_r0 : BitVec 1 := Scalar.cmpi .sge v278_r0 c2_i32_182_r0
  let c30_i32_183_r0 : BitVec 32 := 30#32
  let v280_r0 : BitVec 1 := Scalar.cmpi .slt v278_r0 c30_i32_183_r0
  let v281_r0 : BitVec 1 := Scalar.andi v279_r0 v280_r0
  let true_184_r0 : BitVec 1 := 1#1
  let v282_r0 : BitVec 1 := Scalar.andi v281_r0 true_184_r0
  let v283_r0 : BitVec 32 := Scalar.extui v282_r0
  let c0_i32_185_r0 : BitVec 32 := 0#32
  let v284_r0 : BitVec 1 := Scalar.cmpi .ne v283_r0 c0_i32_185_r0
  v284_r0

def k0_mult3 : BitVec 32 :=
  let c1_i32_180_r0 : BitVec 32 := 1#32
  let c7_i32_181_r0 : BitVec 32 := 7#32
  let v278_r0 : BitVec 32 := Scalar.addi c1_i32_180_r0 c7_i32_181_r0
  let c2_i32_356_r0 : BitVec 32 := 2#32
  let v586_r0 : BitVec 32 := Scalar.subi v278_r0 c2_i32_356_r0
  let c256_i32_r0 : BitVec 32 := 256#32
  let v587_r0 : BitVec 32 := Scalar.muli v586_r0 c256_i32_r0
  v587_r0
def k0_off18 : Fin 1 → Nat :=
  let c1_i32_180_r0 : BitVec 32 := 1#32
  let c7_i32_181_r0 : BitVec 32 := 7#32
  let v278_r0 : BitVec 32 := Scalar.addi c1_i32_180_r0 c7_i32_181_r0
  let c2_i32_356_r0 : BitVec 32 := 2#32
  let v586_r0 : BitVec 32 := Scalar.subi v278_r0 c2_i32_356_r0
  ![v586_r0.toNat]
def k0_off19 : Fin 2 → Nat :=
  let c1_i32_180_r0 : BitVec 32 := 1#32
  let c7_i32_181_r0 : BitVec 32 := 7#32
  let v278_r0 : BitVec 32 := Scalar.addi c1_i32_180_r0 c7_i32_181_r0
  let c2_i32_356_r0 : BitVec 32 := 2#32
  let v586_r0 : BitVec 32 := Scalar.subi v278_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off20 (v233_r0 : BitVec 32) : Fin 3 → Nat :=
  let c1_i32_180_r0 : BitVec 32 := 1#32
  let c7_i32_181_r0 : BitVec 32 := 7#32
  let v278_r0 : BitVec 32 := Scalar.addi c1_i32_180_r0 c7_i32_181_r0
  let c2_i32_356_r0 : BitVec 32 := 2#32
  let v586_r0 : BitVec 32 := Scalar.subi v278_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
def k0_cond3 : BitVec 1 :=
  let c2_i32_186_r0 : BitVec 32 := 2#32
  let c7_i32_187_r0 : BitVec 32 := 7#32
  let v285_r0 : BitVec 32 := Scalar.addi c2_i32_186_r0 c7_i32_187_r0
  let c2_i32_188_r0 : BitVec 32 := 2#32
  let v286_r0 : BitVec 1 := Scalar.cmpi .sge v285_r0 c2_i32_188_r0
  let c30_i32_189_r0 : BitVec 32 := 30#32
  let v287_r0 : BitVec 1 := Scalar.cmpi .slt v285_r0 c30_i32_189_r0
  let v288_r0 : BitVec 1 := Scalar.andi v286_r0 v287_r0
  let true_190_r0 : BitVec 1 := 1#1
  let v289_r0 : BitVec 1 := Scalar.andi v288_r0 true_190_r0
  let v290_r0 : BitVec 32 := Scalar.extui v289_r0
  let c0_i32_191_r0 : BitVec 32 := 0#32
  let v291_r0 : BitVec 1 := Scalar.cmpi .ne v290_r0 c0_i32_191_r0
  v291_r0

def k0_mult4 : BitVec 32 :=
  let c2_i32_186_r0 : BitVec 32 := 2#32
  let c7_i32_187_r0 : BitVec 32 := 7#32
  let v285_r0 : BitVec 32 := Scalar.addi c2_i32_186_r0 c7_i32_187_r0
  let c2_i32_356_r0 : BitVec 32 := 2#32
  let v586_r0 : BitVec 32 := Scalar.subi v285_r0 c2_i32_356_r0
  let c256_i32_r0 : BitVec 32 := 256#32
  let v587_r0 : BitVec 32 := Scalar.muli v586_r0 c256_i32_r0
  v587_r0
def k0_off21 : Fin 1 → Nat :=
  let c2_i32_186_r0 : BitVec 32 := 2#32
  let c7_i32_187_r0 : BitVec 32 := 7#32
  let v285_r0 : BitVec 32 := Scalar.addi c2_i32_186_r0 c7_i32_187_r0
  let c2_i32_356_r0 : BitVec 32 := 2#32
  let v586_r0 : BitVec 32 := Scalar.subi v285_r0 c2_i32_356_r0
  ![v586_r0.toNat]
def k0_off22 : Fin 2 → Nat :=
  let c2_i32_186_r0 : BitVec 32 := 2#32
  let c7_i32_187_r0 : BitVec 32 := 7#32
  let v285_r0 : BitVec 32 := Scalar.addi c2_i32_186_r0 c7_i32_187_r0
  let c2_i32_356_r0 : BitVec 32 := 2#32
  let v586_r0 : BitVec 32 := Scalar.subi v285_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off23 (v233_r0 : BitVec 32) : Fin 3 → Nat :=
  let c2_i32_186_r0 : BitVec 32 := 2#32
  let c7_i32_187_r0 : BitVec 32 := 7#32
  let v285_r0 : BitVec 32 := Scalar.addi c2_i32_186_r0 c7_i32_187_r0
  let c2_i32_356_r0 : BitVec 32 := 2#32
  let v586_r0 : BitVec 32 := Scalar.subi v285_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
def k0_cond4 : BitVec 1 :=
  let c3_i32_192_r0 : BitVec 32 := 3#32
  let c7_i32_193_r0 : BitVec 32 := 7#32
  let v292_r0 : BitVec 32 := Scalar.addi c3_i32_192_r0 c7_i32_193_r0
  let c2_i32_194_r0 : BitVec 32 := 2#32
  let v293_r0 : BitVec 1 := Scalar.cmpi .sge v292_r0 c2_i32_194_r0
  let c30_i32_195_r0 : BitVec 32 := 30#32
  let v294_r0 : BitVec 1 := Scalar.cmpi .slt v292_r0 c30_i32_195_r0
  let v295_r0 : BitVec 1 := Scalar.andi v293_r0 v294_r0
  let true_196_r0 : BitVec 1 := 1#1
  let v296_r0 : BitVec 1 := Scalar.andi v295_r0 true_196_r0
  let v297_r0 : BitVec 32 := Scalar.extui v296_r0
  let c0_i32_197_r0 : BitVec 32 := 0#32
  let v298_r0 : BitVec 1 := Scalar.cmpi .ne v297_r0 c0_i32_197_r0
  v298_r0

def k0_mult5 : BitVec 32 :=
  let c3_i32_192_r0 : BitVec 32 := 3#32
  let c7_i32_193_r0 : BitVec 32 := 7#32
  let v292_r0 : BitVec 32 := Scalar.addi c3_i32_192_r0 c7_i32_193_r0
  let c2_i32_356_r0 : BitVec 32 := 2#32
  let v586_r0 : BitVec 32 := Scalar.subi v292_r0 c2_i32_356_r0
  let c256_i32_r0 : BitVec 32 := 256#32
  let v587_r0 : BitVec 32 := Scalar.muli v586_r0 c256_i32_r0
  v587_r0
def k0_off24 : Fin 1 → Nat :=
  let c3_i32_192_r0 : BitVec 32 := 3#32
  let c7_i32_193_r0 : BitVec 32 := 7#32
  let v292_r0 : BitVec 32 := Scalar.addi c3_i32_192_r0 c7_i32_193_r0
  let c2_i32_356_r0 : BitVec 32 := 2#32
  let v586_r0 : BitVec 32 := Scalar.subi v292_r0 c2_i32_356_r0
  ![v586_r0.toNat]
def k0_off25 : Fin 2 → Nat :=
  let c3_i32_192_r0 : BitVec 32 := 3#32
  let c7_i32_193_r0 : BitVec 32 := 7#32
  let v292_r0 : BitVec 32 := Scalar.addi c3_i32_192_r0 c7_i32_193_r0
  let c2_i32_356_r0 : BitVec 32 := 2#32
  let v586_r0 : BitVec 32 := Scalar.subi v292_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off26 (v233_r0 : BitVec 32) : Fin 3 → Nat :=
  let c3_i32_192_r0 : BitVec 32 := 3#32
  let c7_i32_193_r0 : BitVec 32 := 7#32
  let v292_r0 : BitVec 32 := Scalar.addi c3_i32_192_r0 c7_i32_193_r0
  let c2_i32_356_r0 : BitVec 32 := 2#32
  let v586_r0 : BitVec 32 := Scalar.subi v292_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
def k0_cond5 : BitVec 1 :=
  let c4_i32_198_r0 : BitVec 32 := 4#32
  let c7_i32_199_r0 : BitVec 32 := 7#32
  let v299_r0 : BitVec 32 := Scalar.addi c4_i32_198_r0 c7_i32_199_r0
  let c2_i32_200_r0 : BitVec 32 := 2#32
  let v300_r0 : BitVec 1 := Scalar.cmpi .sge v299_r0 c2_i32_200_r0
  let c30_i32_201_r0 : BitVec 32 := 30#32
  let v301_r0 : BitVec 1 := Scalar.cmpi .slt v299_r0 c30_i32_201_r0
  let v302_r0 : BitVec 1 := Scalar.andi v300_r0 v301_r0
  let true_202_r0 : BitVec 1 := 1#1
  let v303_r0 : BitVec 1 := Scalar.andi v302_r0 true_202_r0
  let v304_r0 : BitVec 32 := Scalar.extui v303_r0
  let c0_i32_203_r0 : BitVec 32 := 0#32
  let v305_r0 : BitVec 1 := Scalar.cmpi .ne v304_r0 c0_i32_203_r0
  v305_r0

def k0_mult6 : BitVec 32 :=
  let c4_i32_198_r0 : BitVec 32 := 4#32
  let c7_i32_199_r0 : BitVec 32 := 7#32
  let v299_r0 : BitVec 32 := Scalar.addi c4_i32_198_r0 c7_i32_199_r0
  let c2_i32_356_r0 : BitVec 32 := 2#32
  let v586_r0 : BitVec 32 := Scalar.subi v299_r0 c2_i32_356_r0
  let c256_i32_r0 : BitVec 32 := 256#32
  let v587_r0 : BitVec 32 := Scalar.muli v586_r0 c256_i32_r0
  v587_r0
def k0_off27 : Fin 1 → Nat :=
  let c4_i32_198_r0 : BitVec 32 := 4#32
  let c7_i32_199_r0 : BitVec 32 := 7#32
  let v299_r0 : BitVec 32 := Scalar.addi c4_i32_198_r0 c7_i32_199_r0
  let c2_i32_356_r0 : BitVec 32 := 2#32
  let v586_r0 : BitVec 32 := Scalar.subi v299_r0 c2_i32_356_r0
  ![v586_r0.toNat]
def k0_off28 : Fin 2 → Nat :=
  let c4_i32_198_r0 : BitVec 32 := 4#32
  let c7_i32_199_r0 : BitVec 32 := 7#32
  let v299_r0 : BitVec 32 := Scalar.addi c4_i32_198_r0 c7_i32_199_r0
  let c2_i32_356_r0 : BitVec 32 := 2#32
  let v586_r0 : BitVec 32 := Scalar.subi v299_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off29 (v233_r0 : BitVec 32) : Fin 3 → Nat :=
  let c4_i32_198_r0 : BitVec 32 := 4#32
  let c7_i32_199_r0 : BitVec 32 := 7#32
  let v299_r0 : BitVec 32 := Scalar.addi c4_i32_198_r0 c7_i32_199_r0
  let c2_i32_356_r0 : BitVec 32 := 2#32
  let v586_r0 : BitVec 32 := Scalar.subi v299_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
def k0_cond6 : BitVec 1 :=
  let c5_i32_204_r0 : BitVec 32 := 5#32
  let c7_i32_205_r0 : BitVec 32 := 7#32
  let v306_r0 : BitVec 32 := Scalar.addi c5_i32_204_r0 c7_i32_205_r0
  let c2_i32_206_r0 : BitVec 32 := 2#32
  let v307_r0 : BitVec 1 := Scalar.cmpi .sge v306_r0 c2_i32_206_r0
  let c30_i32_207_r0 : BitVec 32 := 30#32
  let v308_r0 : BitVec 1 := Scalar.cmpi .slt v306_r0 c30_i32_207_r0
  let v309_r0 : BitVec 1 := Scalar.andi v307_r0 v308_r0
  let true_208_r0 : BitVec 1 := 1#1
  let v310_r0 : BitVec 1 := Scalar.andi v309_r0 true_208_r0
  let v311_r0 : BitVec 32 := Scalar.extui v310_r0
  let c0_i32_209_r0 : BitVec 32 := 0#32
  let v312_r0 : BitVec 1 := Scalar.cmpi .ne v311_r0 c0_i32_209_r0
  v312_r0

def k0_mult7 : BitVec 32 :=
  let c5_i32_204_r0 : BitVec 32 := 5#32
  let c7_i32_205_r0 : BitVec 32 := 7#32
  let v306_r0 : BitVec 32 := Scalar.addi c5_i32_204_r0 c7_i32_205_r0
  let c2_i32_356_r0 : BitVec 32 := 2#32
  let v586_r0 : BitVec 32 := Scalar.subi v306_r0 c2_i32_356_r0
  let c256_i32_r0 : BitVec 32 := 256#32
  let v587_r0 : BitVec 32 := Scalar.muli v586_r0 c256_i32_r0
  v587_r0
def k0_off30 : Fin 1 → Nat :=
  let c5_i32_204_r0 : BitVec 32 := 5#32
  let c7_i32_205_r0 : BitVec 32 := 7#32
  let v306_r0 : BitVec 32 := Scalar.addi c5_i32_204_r0 c7_i32_205_r0
  let c2_i32_356_r0 : BitVec 32 := 2#32
  let v586_r0 : BitVec 32 := Scalar.subi v306_r0 c2_i32_356_r0
  ![v586_r0.toNat]
def k0_off31 : Fin 2 → Nat :=
  let c5_i32_204_r0 : BitVec 32 := 5#32
  let c7_i32_205_r0 : BitVec 32 := 7#32
  let v306_r0 : BitVec 32 := Scalar.addi c5_i32_204_r0 c7_i32_205_r0
  let c2_i32_356_r0 : BitVec 32 := 2#32
  let v586_r0 : BitVec 32 := Scalar.subi v306_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off32 (v233_r0 : BitVec 32) : Fin 3 → Nat :=
  let c5_i32_204_r0 : BitVec 32 := 5#32
  let c7_i32_205_r0 : BitVec 32 := 7#32
  let v306_r0 : BitVec 32 := Scalar.addi c5_i32_204_r0 c7_i32_205_r0
  let c2_i32_356_r0 : BitVec 32 := 2#32
  let v586_r0 : BitVec 32 := Scalar.subi v306_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
@[reducible] def k0_t5_loop : Scf.Loop 32 :=
  let c0_i32_230_r0 : BitVec 32 := 0#32
  let c6_i32_r0 : BitVec 32 := 6#32
  let v352_r0 : BitVec 32 := Scalar.addi c0_i32_230_r0 c6_i32_r0
  let c1_i32_231_r0 : BitVec 32 := 1#32
  ⟨c0_i32_230_r0, v352_r0, c1_i32_231_r0⟩
def k0_mult8 (k0_t5 : Fin k0_t5_loop.trips) : BitVec 32 :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c0_i32_359_r0 : BitVec 32 := 0#32
  let v589_r0 : BitVec 32 := Scalar.addi v588_r0 c0_i32_359_r0
  let c256_i32_r0 : BitVec 32 := 256#32
  let v590_r0 : BitVec 32 := Scalar.muli v589_r0 c256_i32_r0
  v590_r0
def k0_off33 (k0_t5 : Fin k0_t5_loop.trips) (c0_i32_359_r0 : BitVec 32) : Fin 1 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v589_r0 : BitVec 32 := Scalar.addi v588_r0 c0_i32_359_r0
  ![v589_r0.toNat]
def k0_off34 (k0_t5 : Fin k0_t5_loop.trips) (c0_i32_359_r0 : BitVec 32) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v589_r0 : BitVec 32 := Scalar.addi v588_r0 c0_i32_359_r0
  let c256_i32_r0 : BitVec 32 := 256#32
  let v590_r0 : BitVec 32 := Scalar.muli v589_r0 c256_i32_r0
  let v591_r0 : BitVec 32 := v590_r0
  let c0_i32_360_r0 : BitVec 32 := 0#32
  ![v591_r0.toNat, 0]
def k0_off35 (v233_r0 : BitVec 32) (k0_t5 : Fin k0_t5_loop.trips) (c0_i32_359_r0 : BitVec 32) : Fin 3 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v589_r0 : BitVec 32 := Scalar.addi v588_r0 c0_i32_359_r0
  let c256_i32_r0 : BitVec 32 := 256#32
  let v590_r0 : BitVec 32 := Scalar.muli v589_r0 c256_i32_r0
  let v591_r0 : BitVec 32 := v590_r0
  let c0_i32_361_r0 : BitVec 32 := 0#32
  ![v233_r0.toNat, v591_r0.toNat, 0]
def k0_cond7 (k0_t5 : Fin k0_t5_loop.trips) : BitVec 1 :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c2_i32_367_r0 : BitVec 32 := 2#32
  let v602_r0 : BitVec 1 := Scalar.cmpi .sge v601_r0 c2_i32_367_r0
  let c30_i32_368_r0 : BitVec 32 := 30#32
  let v603_r0 : BitVec 1 := Scalar.cmpi .slt v601_r0 c30_i32_368_r0
  let v604_r0 : BitVec 1 := Scalar.andi v602_r0 v603_r0
  let c0_i32_364_r0 : BitVec 32 := 0#32
  let v599_r0 : BitVec 32 := Scalar.addi v588_r0 c0_i32_364_r0
  let c4_i32_365_r0 : BitVec 32 := 4#32
  let v600_r0 : BitVec 1 := Scalar.cmpi .sge v599_r0 c4_i32_365_r0
  let v605_r0 : BitVec 1 := Scalar.andi v604_r0 v600_r0
  let v606_r0 : BitVec 32 := Scalar.extui v605_r0
  let c0_i32_369_r0 : BitVec 32 := 0#32
  let v607_r0 : BitVec 1 := Scalar.cmpi .ne v606_r0 c0_i32_369_r0
  v607_r0

def k0_mult9 (k0_t5 : Fin k0_t5_loop.trips) : BitVec 32 :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c2_i32_479_r0 : BitVec 32 := 2#32
  let v782_r0 : BitVec 32 := Scalar.subi v601_r0 c2_i32_479_r0
  let c256_i32_480_r0 : BitVec 32 := 256#32
  let v783_r0 : BitVec 32 := Scalar.muli v782_r0 c256_i32_480_r0
  v783_r0
def k0_off36 (k0_t5 : Fin k0_t5_loop.trips) : Fin 1 → Nat :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c2_i32_479_r0 : BitVec 32 := 2#32
  let v782_r0 : BitVec 32 := Scalar.subi v601_r0 c2_i32_479_r0
  ![v782_r0.toNat]
def k0_off37 (k0_t5 : Fin k0_t5_loop.trips) : Fin 2 → Nat :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c2_i32_479_r0 : BitVec 32 := 2#32
  let v782_r0 : BitVec 32 := Scalar.subi v601_r0 c2_i32_479_r0
  let c256_i32_480_r0 : BitVec 32 := 256#32
  let v783_r0 : BitVec 32 := Scalar.muli v782_r0 c256_i32_480_r0
  let v784_r0 : BitVec 32 := v783_r0
  let c0_i32_481_r0 : BitVec 32 := 0#32
  ![v784_r0.toNat, 0]
def k0_off38 (v233_r0 : BitVec 32) (k0_t5 : Fin k0_t5_loop.trips) : Fin 3 → Nat :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c2_i32_479_r0 : BitVec 32 := 2#32
  let v782_r0 : BitVec 32 := Scalar.subi v601_r0 c2_i32_479_r0
  let c256_i32_480_r0 : BitVec 32 := 256#32
  let v783_r0 : BitVec 32 := Scalar.muli v782_r0 c256_i32_480_r0
  let v784_r0 : BitVec 32 := v783_r0
  let c0_i32_482_r0 : BitVec 32 := 0#32
  ![v233_r0.toNat, v784_r0.toNat, 0]
def k0_cond8 (k0_t5 : Fin k0_t5_loop.trips) : BitVec 1 :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c30_i32_370_r0 : BitVec 32 := 30#32
  let v608_r0 : BitVec 1 := Scalar.cmpi .sge v601_r0 c30_i32_370_r0
  let c44_i32_371_r0 : BitVec 32 := 44#32
  let v609_r0 : BitVec 1 := Scalar.cmpi .slt v601_r0 c44_i32_371_r0
  let v610_r0 : BitVec 1 := Scalar.andi v608_r0 v609_r0
  let c0_i32_364_r0 : BitVec 32 := 0#32
  let v599_r0 : BitVec 32 := Scalar.addi v588_r0 c0_i32_364_r0
  let c4_i32_365_r0 : BitVec 32 := 4#32
  let v600_r0 : BitVec 1 := Scalar.cmpi .sge v599_r0 c4_i32_365_r0
  let v611_r0 : BitVec 1 := Scalar.andi v610_r0 v600_r0
  let v612_r0 : BitVec 32 := Scalar.extui v611_r0
  let c0_i32_372_r0 : BitVec 32 := 0#32
  let v613_r0 : BitVec 1 := Scalar.cmpi .ne v612_r0 c0_i32_372_r0
  v613_r0

def k0_mult10 (k0_t5 : Fin k0_t5_loop.trips) : BitVec 32 :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c30_i32_479_r0 : BitVec 32 := 30#32
  let v782_r0 : BitVec 32 := Scalar.subi v601_r0 c30_i32_479_r0
  let c512_i32_480_r0 : BitVec 32 := 512#32
  let v783_r0 : BitVec 32 := Scalar.muli v782_r0 c512_i32_480_r0
  v783_r0
def k0_off39 (k0_t5 : Fin k0_t5_loop.trips) : Fin 1 → Nat :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c30_i32_479_r0 : BitVec 32 := 30#32
  let v782_r0 : BitVec 32 := Scalar.subi v601_r0 c30_i32_479_r0
  ![v782_r0.toNat]
def k0_off40 (k0_t5 : Fin k0_t5_loop.trips) : Fin 3 → Nat :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c30_i32_479_r0 : BitVec 32 := 30#32
  let v782_r0 : BitVec 32 := Scalar.subi v601_r0 c30_i32_479_r0
  let c0_i32_481_r0 : BitVec 32 := 0#32
  let c0_i32_482_r0 : BitVec 32 := 0#32
  ![v782_r0.toNat, 0, 0]
def k0_off41 (v233_r0 : BitVec 32) (k0_t5 : Fin k0_t5_loop.trips) : Fin 3 → Nat :=
  let c0_i32_483_r0 : BitVec 32 := 0#32
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c30_i32_479_r0 : BitVec 32 := 30#32
  let v782_r0 : BitVec 32 := Scalar.subi v601_r0 c30_i32_479_r0
  let c512_i32_480_r0 : BitVec 32 := 512#32
  let v783_r0 : BitVec 32 := Scalar.muli v782_r0 c512_i32_480_r0
  let v784_r0 : BitVec 32 := v783_r0
  ![v233_r0.toNat, 0, v784_r0.toNat]
def k0_mult11 (k0_t5 : Fin k0_t5_loop.trips) : BitVec 32 :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c1_i32_373_r0 : BitVec 32 := 1#32
  let v614_r0 : BitVec 32 := Scalar.addi v588_r0 c1_i32_373_r0
  let c256_i32_374_r0 : BitVec 32 := 256#32
  let v615_r0 : BitVec 32 := Scalar.muli v614_r0 c256_i32_374_r0
  v615_r0
def k0_cond9 (k0_t5 : Fin k0_t5_loop.trips) : BitVec 1 :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c2_i32_382_r0 : BitVec 32 := 2#32
  let v627_r0 : BitVec 1 := Scalar.cmpi .sge v626_r0 c2_i32_382_r0
  let c30_i32_383_r0 : BitVec 32 := 30#32
  let v628_r0 : BitVec 1 := Scalar.cmpi .slt v626_r0 c30_i32_383_r0
  let v629_r0 : BitVec 1 := Scalar.andi v627_r0 v628_r0
  let c1_i32_379_r0 : BitVec 32 := 1#32
  let v624_r0 : BitVec 32 := Scalar.addi v588_r0 c1_i32_379_r0
  let c4_i32_380_r0 : BitVec 32 := 4#32
  let v625_r0 : BitVec 1 := Scalar.cmpi .sge v624_r0 c4_i32_380_r0
  let v630_r0 : BitVec 1 := Scalar.andi v629_r0 v625_r0
  let v631_r0 : BitVec 32 := Scalar.extui v630_r0
  let c0_i32_384_r0 : BitVec 32 := 0#32
  let v632_r0 : BitVec 1 := Scalar.cmpi .ne v631_r0 c0_i32_384_r0
  v632_r0

def k0_mult12 (k0_t5 : Fin k0_t5_loop.trips) : BitVec 32 :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c2_i32_479_r0 : BitVec 32 := 2#32
  let v782_r0 : BitVec 32 := Scalar.subi v626_r0 c2_i32_479_r0
  let c256_i32_480_r0 : BitVec 32 := 256#32
  let v783_r0 : BitVec 32 := Scalar.muli v782_r0 c256_i32_480_r0
  v783_r0
def k0_off42 (k0_t5 : Fin k0_t5_loop.trips) : Fin 1 → Nat :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c2_i32_479_r0 : BitVec 32 := 2#32
  let v782_r0 : BitVec 32 := Scalar.subi v626_r0 c2_i32_479_r0
  ![v782_r0.toNat]
def k0_off43 (k0_t5 : Fin k0_t5_loop.trips) : Fin 2 → Nat :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c2_i32_479_r0 : BitVec 32 := 2#32
  let v782_r0 : BitVec 32 := Scalar.subi v626_r0 c2_i32_479_r0
  let c256_i32_480_r0 : BitVec 32 := 256#32
  let v783_r0 : BitVec 32 := Scalar.muli v782_r0 c256_i32_480_r0
  let v784_r0 : BitVec 32 := v783_r0
  let c0_i32_481_r0 : BitVec 32 := 0#32
  ![v784_r0.toNat, 0]
def k0_off44 (v233_r0 : BitVec 32) (k0_t5 : Fin k0_t5_loop.trips) : Fin 3 → Nat :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c2_i32_479_r0 : BitVec 32 := 2#32
  let v782_r0 : BitVec 32 := Scalar.subi v626_r0 c2_i32_479_r0
  let c256_i32_480_r0 : BitVec 32 := 256#32
  let v783_r0 : BitVec 32 := Scalar.muli v782_r0 c256_i32_480_r0
  let v784_r0 : BitVec 32 := v783_r0
  let c0_i32_482_r0 : BitVec 32 := 0#32
  ![v233_r0.toNat, v784_r0.toNat, 0]
def k0_cond10 (k0_t5 : Fin k0_t5_loop.trips) : BitVec 1 :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c30_i32_385_r0 : BitVec 32 := 30#32
  let v633_r0 : BitVec 1 := Scalar.cmpi .sge v626_r0 c30_i32_385_r0
  let c44_i32_386_r0 : BitVec 32 := 44#32
  let v634_r0 : BitVec 1 := Scalar.cmpi .slt v626_r0 c44_i32_386_r0
  let v635_r0 : BitVec 1 := Scalar.andi v633_r0 v634_r0
  let c1_i32_379_r0 : BitVec 32 := 1#32
  let v624_r0 : BitVec 32 := Scalar.addi v588_r0 c1_i32_379_r0
  let c4_i32_380_r0 : BitVec 32 := 4#32
  let v625_r0 : BitVec 1 := Scalar.cmpi .sge v624_r0 c4_i32_380_r0
  let v636_r0 : BitVec 1 := Scalar.andi v635_r0 v625_r0
  let v637_r0 : BitVec 32 := Scalar.extui v636_r0
  let c0_i32_387_r0 : BitVec 32 := 0#32
  let v638_r0 : BitVec 1 := Scalar.cmpi .ne v637_r0 c0_i32_387_r0
  v638_r0

def k0_mult13 (k0_t5 : Fin k0_t5_loop.trips) : BitVec 32 :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c30_i32_479_r0 : BitVec 32 := 30#32
  let v782_r0 : BitVec 32 := Scalar.subi v626_r0 c30_i32_479_r0
  let c512_i32_480_r0 : BitVec 32 := 512#32
  let v783_r0 : BitVec 32 := Scalar.muli v782_r0 c512_i32_480_r0
  v783_r0
def k0_off45 (k0_t5 : Fin k0_t5_loop.trips) : Fin 1 → Nat :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c30_i32_479_r0 : BitVec 32 := 30#32
  let v782_r0 : BitVec 32 := Scalar.subi v626_r0 c30_i32_479_r0
  ![v782_r0.toNat]
def k0_off46 (k0_t5 : Fin k0_t5_loop.trips) : Fin 3 → Nat :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c30_i32_479_r0 : BitVec 32 := 30#32
  let v782_r0 : BitVec 32 := Scalar.subi v626_r0 c30_i32_479_r0
  let c0_i32_481_r0 : BitVec 32 := 0#32
  let c0_i32_482_r0 : BitVec 32 := 0#32
  ![v782_r0.toNat, 0, 0]
def k0_off47 (v233_r0 : BitVec 32) (k0_t5 : Fin k0_t5_loop.trips) : Fin 3 → Nat :=
  let c0_i32_483_r0 : BitVec 32 := 0#32
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c30_i32_479_r0 : BitVec 32 := 30#32
  let v782_r0 : BitVec 32 := Scalar.subi v626_r0 c30_i32_479_r0
  let c512_i32_480_r0 : BitVec 32 := 512#32
  let v783_r0 : BitVec 32 := Scalar.muli v782_r0 c512_i32_480_r0
  let v784_r0 : BitVec 32 := v783_r0
  ![v233_r0.toNat, 0, v784_r0.toNat]
def k0_mult14 (k0_t5 : Fin k0_t5_loop.trips) : BitVec 32 :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c2_i32_388_r0 : BitVec 32 := 2#32
  let v639_r0 : BitVec 32 := Scalar.addi v588_r0 c2_i32_388_r0
  let c256_i32_389_r0 : BitVec 32 := 256#32
  let v640_r0 : BitVec 32 := Scalar.muli v639_r0 c256_i32_389_r0
  v640_r0
def k0_cond11 (k0_t5 : Fin k0_t5_loop.trips) : BitVec 1 :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c2_i32_397_r0 : BitVec 32 := 2#32
  let v652_r0 : BitVec 1 := Scalar.cmpi .sge v651_r0 c2_i32_397_r0
  let c30_i32_398_r0 : BitVec 32 := 30#32
  let v653_r0 : BitVec 1 := Scalar.cmpi .slt v651_r0 c30_i32_398_r0
  let v654_r0 : BitVec 1 := Scalar.andi v652_r0 v653_r0
  let c2_i32_394_r0 : BitVec 32 := 2#32
  let v649_r0 : BitVec 32 := Scalar.addi v588_r0 c2_i32_394_r0
  let c4_i32_395_r0 : BitVec 32 := 4#32
  let v650_r0 : BitVec 1 := Scalar.cmpi .sge v649_r0 c4_i32_395_r0
  let v655_r0 : BitVec 1 := Scalar.andi v654_r0 v650_r0
  let v656_r0 : BitVec 32 := Scalar.extui v655_r0
  let c0_i32_399_r0 : BitVec 32 := 0#32
  let v657_r0 : BitVec 1 := Scalar.cmpi .ne v656_r0 c0_i32_399_r0
  v657_r0

def k0_mult15 (k0_t5 : Fin k0_t5_loop.trips) : BitVec 32 :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c2_i32_479_r0 : BitVec 32 := 2#32
  let v782_r0 : BitVec 32 := Scalar.subi v651_r0 c2_i32_479_r0
  let c256_i32_480_r0 : BitVec 32 := 256#32
  let v783_r0 : BitVec 32 := Scalar.muli v782_r0 c256_i32_480_r0
  v783_r0
def k0_off48 (k0_t5 : Fin k0_t5_loop.trips) : Fin 1 → Nat :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c2_i32_479_r0 : BitVec 32 := 2#32
  let v782_r0 : BitVec 32 := Scalar.subi v651_r0 c2_i32_479_r0
  ![v782_r0.toNat]
def k0_off49 (k0_t5 : Fin k0_t5_loop.trips) : Fin 2 → Nat :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c2_i32_479_r0 : BitVec 32 := 2#32
  let v782_r0 : BitVec 32 := Scalar.subi v651_r0 c2_i32_479_r0
  let c256_i32_480_r0 : BitVec 32 := 256#32
  let v783_r0 : BitVec 32 := Scalar.muli v782_r0 c256_i32_480_r0
  let v784_r0 : BitVec 32 := v783_r0
  let c0_i32_481_r0 : BitVec 32 := 0#32
  ![v784_r0.toNat, 0]
def k0_off50 (v233_r0 : BitVec 32) (k0_t5 : Fin k0_t5_loop.trips) : Fin 3 → Nat :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c2_i32_479_r0 : BitVec 32 := 2#32
  let v782_r0 : BitVec 32 := Scalar.subi v651_r0 c2_i32_479_r0
  let c256_i32_480_r0 : BitVec 32 := 256#32
  let v783_r0 : BitVec 32 := Scalar.muli v782_r0 c256_i32_480_r0
  let v784_r0 : BitVec 32 := v783_r0
  let c0_i32_482_r0 : BitVec 32 := 0#32
  ![v233_r0.toNat, v784_r0.toNat, 0]
def k0_cond12 (k0_t5 : Fin k0_t5_loop.trips) : BitVec 1 :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c30_i32_400_r0 : BitVec 32 := 30#32
  let v658_r0 : BitVec 1 := Scalar.cmpi .sge v651_r0 c30_i32_400_r0
  let c44_i32_401_r0 : BitVec 32 := 44#32
  let v659_r0 : BitVec 1 := Scalar.cmpi .slt v651_r0 c44_i32_401_r0
  let v660_r0 : BitVec 1 := Scalar.andi v658_r0 v659_r0
  let c2_i32_394_r0 : BitVec 32 := 2#32
  let v649_r0 : BitVec 32 := Scalar.addi v588_r0 c2_i32_394_r0
  let c4_i32_395_r0 : BitVec 32 := 4#32
  let v650_r0 : BitVec 1 := Scalar.cmpi .sge v649_r0 c4_i32_395_r0
  let v661_r0 : BitVec 1 := Scalar.andi v660_r0 v650_r0
  let v662_r0 : BitVec 32 := Scalar.extui v661_r0
  let c0_i32_402_r0 : BitVec 32 := 0#32
  let v663_r0 : BitVec 1 := Scalar.cmpi .ne v662_r0 c0_i32_402_r0
  v663_r0

def k0_mult16 (k0_t5 : Fin k0_t5_loop.trips) : BitVec 32 :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c30_i32_479_r0 : BitVec 32 := 30#32
  let v782_r0 : BitVec 32 := Scalar.subi v651_r0 c30_i32_479_r0
  let c512_i32_480_r0 : BitVec 32 := 512#32
  let v783_r0 : BitVec 32 := Scalar.muli v782_r0 c512_i32_480_r0
  v783_r0
def k0_off51 (k0_t5 : Fin k0_t5_loop.trips) : Fin 1 → Nat :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c30_i32_479_r0 : BitVec 32 := 30#32
  let v782_r0 : BitVec 32 := Scalar.subi v651_r0 c30_i32_479_r0
  ![v782_r0.toNat]
def k0_off52 (k0_t5 : Fin k0_t5_loop.trips) : Fin 3 → Nat :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c30_i32_479_r0 : BitVec 32 := 30#32
  let v782_r0 : BitVec 32 := Scalar.subi v651_r0 c30_i32_479_r0
  let c0_i32_481_r0 : BitVec 32 := 0#32
  let c0_i32_482_r0 : BitVec 32 := 0#32
  ![v782_r0.toNat, 0, 0]
def k0_off53 (v233_r0 : BitVec 32) (k0_t5 : Fin k0_t5_loop.trips) : Fin 3 → Nat :=
  let c0_i32_483_r0 : BitVec 32 := 0#32
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c30_i32_479_r0 : BitVec 32 := 30#32
  let v782_r0 : BitVec 32 := Scalar.subi v651_r0 c30_i32_479_r0
  let c512_i32_480_r0 : BitVec 32 := 512#32
  let v783_r0 : BitVec 32 := Scalar.muli v782_r0 c512_i32_480_r0
  let v784_r0 : BitVec 32 := v783_r0
  ![v233_r0.toNat, 0, v784_r0.toNat]
def k0_mult17 (k0_t5 : Fin k0_t5_loop.trips) : BitVec 32 :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c3_i32_403_r0 : BitVec 32 := 3#32
  let v664_r0 : BitVec 32 := Scalar.addi v588_r0 c3_i32_403_r0
  let c256_i32_404_r0 : BitVec 32 := 256#32
  let v665_r0 : BitVec 32 := Scalar.muli v664_r0 c256_i32_404_r0
  v665_r0
def k0_cond13 (k0_t5 : Fin k0_t5_loop.trips) : BitVec 1 :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c2_i32_412_r0 : BitVec 32 := 2#32
  let v677_r0 : BitVec 1 := Scalar.cmpi .sge v676_r0 c2_i32_412_r0
  let c30_i32_413_r0 : BitVec 32 := 30#32
  let v678_r0 : BitVec 1 := Scalar.cmpi .slt v676_r0 c30_i32_413_r0
  let v679_r0 : BitVec 1 := Scalar.andi v677_r0 v678_r0
  let c3_i32_409_r0 : BitVec 32 := 3#32
  let v674_r0 : BitVec 32 := Scalar.addi v588_r0 c3_i32_409_r0
  let c4_i32_410_r0 : BitVec 32 := 4#32
  let v675_r0 : BitVec 1 := Scalar.cmpi .sge v674_r0 c4_i32_410_r0
  let v680_r0 : BitVec 1 := Scalar.andi v679_r0 v675_r0
  let v681_r0 : BitVec 32 := Scalar.extui v680_r0
  let c0_i32_414_r0 : BitVec 32 := 0#32
  let v682_r0 : BitVec 1 := Scalar.cmpi .ne v681_r0 c0_i32_414_r0
  v682_r0

def k0_mult18 (k0_t5 : Fin k0_t5_loop.trips) : BitVec 32 :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c2_i32_479_r0 : BitVec 32 := 2#32
  let v782_r0 : BitVec 32 := Scalar.subi v676_r0 c2_i32_479_r0
  let c256_i32_480_r0 : BitVec 32 := 256#32
  let v783_r0 : BitVec 32 := Scalar.muli v782_r0 c256_i32_480_r0
  v783_r0
def k0_off54 (k0_t5 : Fin k0_t5_loop.trips) : Fin 1 → Nat :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c2_i32_479_r0 : BitVec 32 := 2#32
  let v782_r0 : BitVec 32 := Scalar.subi v676_r0 c2_i32_479_r0
  ![v782_r0.toNat]
def k0_off55 (k0_t5 : Fin k0_t5_loop.trips) : Fin 2 → Nat :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c2_i32_479_r0 : BitVec 32 := 2#32
  let v782_r0 : BitVec 32 := Scalar.subi v676_r0 c2_i32_479_r0
  let c256_i32_480_r0 : BitVec 32 := 256#32
  let v783_r0 : BitVec 32 := Scalar.muli v782_r0 c256_i32_480_r0
  let v784_r0 : BitVec 32 := v783_r0
  let c0_i32_481_r0 : BitVec 32 := 0#32
  ![v784_r0.toNat, 0]
def k0_off56 (v233_r0 : BitVec 32) (k0_t5 : Fin k0_t5_loop.trips) : Fin 3 → Nat :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c2_i32_479_r0 : BitVec 32 := 2#32
  let v782_r0 : BitVec 32 := Scalar.subi v676_r0 c2_i32_479_r0
  let c256_i32_480_r0 : BitVec 32 := 256#32
  let v783_r0 : BitVec 32 := Scalar.muli v782_r0 c256_i32_480_r0
  let v784_r0 : BitVec 32 := v783_r0
  let c0_i32_482_r0 : BitVec 32 := 0#32
  ![v233_r0.toNat, v784_r0.toNat, 0]
def k0_cond14 (k0_t5 : Fin k0_t5_loop.trips) : BitVec 1 :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c30_i32_415_r0 : BitVec 32 := 30#32
  let v683_r0 : BitVec 1 := Scalar.cmpi .sge v676_r0 c30_i32_415_r0
  let c44_i32_416_r0 : BitVec 32 := 44#32
  let v684_r0 : BitVec 1 := Scalar.cmpi .slt v676_r0 c44_i32_416_r0
  let v685_r0 : BitVec 1 := Scalar.andi v683_r0 v684_r0
  let c3_i32_409_r0 : BitVec 32 := 3#32
  let v674_r0 : BitVec 32 := Scalar.addi v588_r0 c3_i32_409_r0
  let c4_i32_410_r0 : BitVec 32 := 4#32
  let v675_r0 : BitVec 1 := Scalar.cmpi .sge v674_r0 c4_i32_410_r0
  let v686_r0 : BitVec 1 := Scalar.andi v685_r0 v675_r0
  let v687_r0 : BitVec 32 := Scalar.extui v686_r0
  let c0_i32_417_r0 : BitVec 32 := 0#32
  let v688_r0 : BitVec 1 := Scalar.cmpi .ne v687_r0 c0_i32_417_r0
  v688_r0

def k0_mult19 (k0_t5 : Fin k0_t5_loop.trips) : BitVec 32 :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c30_i32_479_r0 : BitVec 32 := 30#32
  let v782_r0 : BitVec 32 := Scalar.subi v676_r0 c30_i32_479_r0
  let c512_i32_480_r0 : BitVec 32 := 512#32
  let v783_r0 : BitVec 32 := Scalar.muli v782_r0 c512_i32_480_r0
  v783_r0
def k0_off57 (k0_t5 : Fin k0_t5_loop.trips) : Fin 1 → Nat :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c30_i32_479_r0 : BitVec 32 := 30#32
  let v782_r0 : BitVec 32 := Scalar.subi v676_r0 c30_i32_479_r0
  ![v782_r0.toNat]
def k0_off58 (k0_t5 : Fin k0_t5_loop.trips) : Fin 3 → Nat :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c30_i32_479_r0 : BitVec 32 := 30#32
  let v782_r0 : BitVec 32 := Scalar.subi v676_r0 c30_i32_479_r0
  let c0_i32_481_r0 : BitVec 32 := 0#32
  let c0_i32_482_r0 : BitVec 32 := 0#32
  ![v782_r0.toNat, 0, 0]
def k0_off59 (v233_r0 : BitVec 32) (k0_t5 : Fin k0_t5_loop.trips) : Fin 3 → Nat :=
  let c0_i32_483_r0 : BitVec 32 := 0#32
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c30_i32_479_r0 : BitVec 32 := 30#32
  let v782_r0 : BitVec 32 := Scalar.subi v676_r0 c30_i32_479_r0
  let c512_i32_480_r0 : BitVec 32 := 512#32
  let v783_r0 : BitVec 32 := Scalar.muli v782_r0 c512_i32_480_r0
  let v784_r0 : BitVec 32 := v783_r0
  ![v233_r0.toNat, 0, v784_r0.toNat]
def k0_mult20 (k0_t5 : Fin k0_t5_loop.trips) : BitVec 32 :=
  let c0_i32_356_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let v586_r0 : BitVec 32 := Scalar.addi c0_i32_356_r0 arg36_r0
  let c512_i32_418_r0 : BitVec 32 := 512#32
  let v689_r0 : BitVec 32 := Scalar.muli v586_r0 c512_i32_418_r0
  v689_r0
def k0_off60 (v233_r0 : BitVec 32) (k0_t5 : Fin k0_t5_loop.trips) : Fin 3 → Nat :=
  let v691_r0 : Index := Scalar.indexCast v233_r0
  let c0_419_r0 : Index := 0#32
  let c0_i32_356_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let v586_r0 : BitVec 32 := Scalar.addi c0_i32_356_r0 arg36_r0
  let c512_i32_418_r0 : BitVec 32 := 512#32
  let v689_r0 : BitVec 32 := Scalar.muli v586_r0 c512_i32_418_r0
  let v690_r0 : BitVec 32 := v689_r0
  let v692_r0 : Index := Scalar.indexCast v690_r0
  ![v691_r0.toNat, 0, v692_r0.toNat]
def k0_off61 (k0_t5 : Fin k0_t5_loop.trips) : Fin 2 → Nat :=
  let c0_421_r0 : Index := 0#32
  let c0_i32_356_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let v586_r0 : BitVec 32 := Scalar.addi c0_i32_356_r0 arg36_r0
  let c512_i32_418_r0 : BitVec 32 := 512#32
  let v689_r0 : BitVec 32 := Scalar.muli v586_r0 c512_i32_418_r0
  let v690_r0 : BitVec 32 := v689_r0
  let v696_r0 : Index := Scalar.indexCast v690_r0
  ![0, v696_r0.toNat]
def k0_mult21 (k0_t5 : Fin k0_t5_loop.trips) : BitVec 32 :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  v700_r0
def k0_off62 (k0_t5 : Fin k0_t5_loop.trips) : Fin 2 → Nat :=
  let c0_425_r0 : Index := 0#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v703_r0 : Index := Scalar.indexCast v701_r0
  ![0, v703_r0.toNat]
def k0_off63 (k0_t5 : Fin k0_t5_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v705_r0 : Index := Scalar.indexCast v701_r0
  let c0_426_r0 : Index := 0#32
  ![v705_r0.toNat, 0]
def k0_off64 (k0_t5 : Fin k0_t5_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v715_r0 : Index := Scalar.indexCast v701_r0
  let c512_433_r0 : Index := 512#32
  ![v715_r0.toNat, 512]
def k0_off65 (k0_t5 : Fin k0_t5_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v725_r0 : Index := Scalar.indexCast v701_r0
  let c1024_440_r0 : Index := 1024#32
  ![v725_r0.toNat, 1024]
def k0_off66 (k0_t5 : Fin k0_t5_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v735_r0 : Index := Scalar.indexCast v701_r0
  let c1536_447_r0 : Index := 1536#32
  ![v735_r0.toNat, 1536]
def k0_off67 (k0_t5 : Fin k0_t5_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v745_r0 : Index := Scalar.indexCast v701_r0
  let c2048_454_r0 : Index := 2048#32
  ![v745_r0.toNat, 2048]
def k0_off68 (k0_t5 : Fin k0_t5_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v755_r0 : Index := Scalar.indexCast v701_r0
  let c2560_461_r0 : Index := 2560#32
  ![v755_r0.toNat, 2560]
def k0_off69 (k0_t5 : Fin k0_t5_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v765_r0 : Index := Scalar.indexCast v701_r0
  let c3072_468_r0 : Index := 3072#32
  ![v765_r0.toNat, 3072]
def k0_off70 (k0_t5 : Fin k0_t5_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t5
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v775_r0 : Index := Scalar.indexCast v701_r0
  let c3584_475_r0 : Index := 3584#32
  ![v775_r0.toNat, 3584]
@[reducible] def k0_t6_loop : Scf.Loop 32 :=
  let c0_i32_234_r0 : BitVec 32 := 0#32
  let c2_i32_235_r0 : BitVec 32 := 2#32
  let v353_r0 : BitVec 32 := Scalar.addi c0_i32_234_r0 c2_i32_235_r0
  let c1_i32_236_r0 : BitVec 32 := 1#32
  ⟨c0_i32_234_r0, v353_r0, c1_i32_236_r0⟩
def k0_mult22 (k0_t6 : Fin k0_t6_loop.trips) : BitVec 32 :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c0_i32_358_r0 : BitVec 32 := 0#32
  let v589_r0 : BitVec 32 := Scalar.addi v588_r0 c0_i32_358_r0
  let c256_i32_r0 : BitVec 32 := 256#32
  let v590_r0 : BitVec 32 := Scalar.muli v589_r0 c256_i32_r0
  v590_r0
def k0_off71 (k0_t6 : Fin k0_t6_loop.trips) (c0_i32_358_r0 : BitVec 32) : Fin 1 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v589_r0 : BitVec 32 := Scalar.addi v588_r0 c0_i32_358_r0
  ![v589_r0.toNat]
def k0_off72 (k0_t6 : Fin k0_t6_loop.trips) (c0_i32_358_r0 : BitVec 32) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v589_r0 : BitVec 32 := Scalar.addi v588_r0 c0_i32_358_r0
  let c256_i32_r0 : BitVec 32 := 256#32
  let v590_r0 : BitVec 32 := Scalar.muli v589_r0 c256_i32_r0
  let v591_r0 : BitVec 32 := v590_r0
  let c0_i32_359_r0 : BitVec 32 := 0#32
  ![v591_r0.toNat, 0]
def k0_off73 (v233_r0 : BitVec 32) (k0_t6 : Fin k0_t6_loop.trips) (c0_i32_358_r0 : BitVec 32) : Fin 3 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v589_r0 : BitVec 32 := Scalar.addi v588_r0 c0_i32_358_r0
  let c256_i32_r0 : BitVec 32 := 256#32
  let v590_r0 : BitVec 32 := Scalar.muli v589_r0 c256_i32_r0
  let v591_r0 : BitVec 32 := v590_r0
  let c0_i32_360_r0 : BitVec 32 := 0#32
  ![v233_r0.toNat, v591_r0.toNat, 0]
def k0_cond15 (k0_t6 : Fin k0_t6_loop.trips) : BitVec 1 :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c2_i32_366_r0 : BitVec 32 := 2#32
  let v602_r0 : BitVec 1 := Scalar.cmpi .sge v601_r0 c2_i32_366_r0
  let c30_i32_367_r0 : BitVec 32 := 30#32
  let v603_r0 : BitVec 1 := Scalar.cmpi .slt v601_r0 c30_i32_367_r0
  let v604_r0 : BitVec 1 := Scalar.andi v602_r0 v603_r0
  let c0_i32_363_r0 : BitVec 32 := 0#32
  let v599_r0 : BitVec 32 := Scalar.addi v588_r0 c0_i32_363_r0
  let c4_i32_364_r0 : BitVec 32 := 4#32
  let v600_r0 : BitVec 1 := Scalar.cmpi .sge v599_r0 c4_i32_364_r0
  let v605_r0 : BitVec 1 := Scalar.andi v604_r0 v600_r0
  let v606_r0 : BitVec 32 := Scalar.extui v605_r0
  let c0_i32_368_r0 : BitVec 32 := 0#32
  let v607_r0 : BitVec 1 := Scalar.cmpi .ne v606_r0 c0_i32_368_r0
  v607_r0

def k0_mult23 (k0_t6 : Fin k0_t6_loop.trips) : BitVec 32 :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c2_i32_448_r0 : BitVec 32 := 2#32
  let v732_r0 : BitVec 32 := Scalar.subi v601_r0 c2_i32_448_r0
  let c256_i32_449_r0 : BitVec 32 := 256#32
  let v733_r0 : BitVec 32 := Scalar.muli v732_r0 c256_i32_449_r0
  v733_r0
def k0_off74 (k0_t6 : Fin k0_t6_loop.trips) : Fin 1 → Nat :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c2_i32_448_r0 : BitVec 32 := 2#32
  let v732_r0 : BitVec 32 := Scalar.subi v601_r0 c2_i32_448_r0
  ![v732_r0.toNat]
def k0_off75 (k0_t6 : Fin k0_t6_loop.trips) : Fin 2 → Nat :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c2_i32_448_r0 : BitVec 32 := 2#32
  let v732_r0 : BitVec 32 := Scalar.subi v601_r0 c2_i32_448_r0
  let c256_i32_449_r0 : BitVec 32 := 256#32
  let v733_r0 : BitVec 32 := Scalar.muli v732_r0 c256_i32_449_r0
  let v734_r0 : BitVec 32 := v733_r0
  let c0_i32_450_r0 : BitVec 32 := 0#32
  ![v734_r0.toNat, 0]
def k0_off76 (v233_r0 : BitVec 32) (k0_t6 : Fin k0_t6_loop.trips) : Fin 3 → Nat :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c2_i32_448_r0 : BitVec 32 := 2#32
  let v732_r0 : BitVec 32 := Scalar.subi v601_r0 c2_i32_448_r0
  let c256_i32_449_r0 : BitVec 32 := 256#32
  let v733_r0 : BitVec 32 := Scalar.muli v732_r0 c256_i32_449_r0
  let v734_r0 : BitVec 32 := v733_r0
  let c0_i32_451_r0 : BitVec 32 := 0#32
  ![v233_r0.toNat, v734_r0.toNat, 0]
def k0_cond16 (k0_t6 : Fin k0_t6_loop.trips) : BitVec 1 :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c30_i32_369_r0 : BitVec 32 := 30#32
  let v608_r0 : BitVec 1 := Scalar.cmpi .sge v601_r0 c30_i32_369_r0
  let c44_i32_370_r0 : BitVec 32 := 44#32
  let v609_r0 : BitVec 1 := Scalar.cmpi .slt v601_r0 c44_i32_370_r0
  let v610_r0 : BitVec 1 := Scalar.andi v608_r0 v609_r0
  let c0_i32_363_r0 : BitVec 32 := 0#32
  let v599_r0 : BitVec 32 := Scalar.addi v588_r0 c0_i32_363_r0
  let c4_i32_364_r0 : BitVec 32 := 4#32
  let v600_r0 : BitVec 1 := Scalar.cmpi .sge v599_r0 c4_i32_364_r0
  let v611_r0 : BitVec 1 := Scalar.andi v610_r0 v600_r0
  let v612_r0 : BitVec 32 := Scalar.extui v611_r0
  let c0_i32_371_r0 : BitVec 32 := 0#32
  let v613_r0 : BitVec 1 := Scalar.cmpi .ne v612_r0 c0_i32_371_r0
  v613_r0

def k0_mult24 (k0_t6 : Fin k0_t6_loop.trips) : BitVec 32 :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c30_i32_448_r0 : BitVec 32 := 30#32
  let v732_r0 : BitVec 32 := Scalar.subi v601_r0 c30_i32_448_r0
  let c512_i32_449_r0 : BitVec 32 := 512#32
  let v733_r0 : BitVec 32 := Scalar.muli v732_r0 c512_i32_449_r0
  v733_r0
def k0_off77 (k0_t6 : Fin k0_t6_loop.trips) : Fin 1 → Nat :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c30_i32_448_r0 : BitVec 32 := 30#32
  let v732_r0 : BitVec 32 := Scalar.subi v601_r0 c30_i32_448_r0
  ![v732_r0.toNat]
def k0_off78 (k0_t6 : Fin k0_t6_loop.trips) : Fin 3 → Nat :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c30_i32_448_r0 : BitVec 32 := 30#32
  let v732_r0 : BitVec 32 := Scalar.subi v601_r0 c30_i32_448_r0
  let c0_i32_450_r0 : BitVec 32 := 0#32
  let c0_i32_451_r0 : BitVec 32 := 0#32
  ![v732_r0.toNat, 0, 0]
def k0_off79 (v233_r0 : BitVec 32) (k0_t6 : Fin k0_t6_loop.trips) : Fin 3 → Nat :=
  let c0_i32_452_r0 : BitVec 32 := 0#32
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c30_i32_448_r0 : BitVec 32 := 30#32
  let v732_r0 : BitVec 32 := Scalar.subi v601_r0 c30_i32_448_r0
  let c512_i32_449_r0 : BitVec 32 := 512#32
  let v733_r0 : BitVec 32 := Scalar.muli v732_r0 c512_i32_449_r0
  let v734_r0 : BitVec 32 := v733_r0
  ![v233_r0.toNat, 0, v734_r0.toNat]
def k0_mult25 (k0_t6 : Fin k0_t6_loop.trips) : BitVec 32 :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c1_i32_372_r0 : BitVec 32 := 1#32
  let v614_r0 : BitVec 32 := Scalar.addi v588_r0 c1_i32_372_r0
  let c256_i32_373_r0 : BitVec 32 := 256#32
  let v615_r0 : BitVec 32 := Scalar.muli v614_r0 c256_i32_373_r0
  v615_r0
def k0_cond17 (k0_t6 : Fin k0_t6_loop.trips) : BitVec 1 :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c2_i32_381_r0 : BitVec 32 := 2#32
  let v627_r0 : BitVec 1 := Scalar.cmpi .sge v626_r0 c2_i32_381_r0
  let c30_i32_382_r0 : BitVec 32 := 30#32
  let v628_r0 : BitVec 1 := Scalar.cmpi .slt v626_r0 c30_i32_382_r0
  let v629_r0 : BitVec 1 := Scalar.andi v627_r0 v628_r0
  let c1_i32_378_r0 : BitVec 32 := 1#32
  let v624_r0 : BitVec 32 := Scalar.addi v588_r0 c1_i32_378_r0
  let c4_i32_379_r0 : BitVec 32 := 4#32
  let v625_r0 : BitVec 1 := Scalar.cmpi .sge v624_r0 c4_i32_379_r0
  let v630_r0 : BitVec 1 := Scalar.andi v629_r0 v625_r0
  let v631_r0 : BitVec 32 := Scalar.extui v630_r0
  let c0_i32_383_r0 : BitVec 32 := 0#32
  let v632_r0 : BitVec 1 := Scalar.cmpi .ne v631_r0 c0_i32_383_r0
  v632_r0

def k0_mult26 (k0_t6 : Fin k0_t6_loop.trips) : BitVec 32 :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c2_i32_448_r0 : BitVec 32 := 2#32
  let v732_r0 : BitVec 32 := Scalar.subi v626_r0 c2_i32_448_r0
  let c256_i32_449_r0 : BitVec 32 := 256#32
  let v733_r0 : BitVec 32 := Scalar.muli v732_r0 c256_i32_449_r0
  v733_r0
def k0_off80 (k0_t6 : Fin k0_t6_loop.trips) : Fin 1 → Nat :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c2_i32_448_r0 : BitVec 32 := 2#32
  let v732_r0 : BitVec 32 := Scalar.subi v626_r0 c2_i32_448_r0
  ![v732_r0.toNat]
def k0_off81 (k0_t6 : Fin k0_t6_loop.trips) : Fin 2 → Nat :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c2_i32_448_r0 : BitVec 32 := 2#32
  let v732_r0 : BitVec 32 := Scalar.subi v626_r0 c2_i32_448_r0
  let c256_i32_449_r0 : BitVec 32 := 256#32
  let v733_r0 : BitVec 32 := Scalar.muli v732_r0 c256_i32_449_r0
  let v734_r0 : BitVec 32 := v733_r0
  let c0_i32_450_r0 : BitVec 32 := 0#32
  ![v734_r0.toNat, 0]
def k0_off82 (v233_r0 : BitVec 32) (k0_t6 : Fin k0_t6_loop.trips) : Fin 3 → Nat :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c2_i32_448_r0 : BitVec 32 := 2#32
  let v732_r0 : BitVec 32 := Scalar.subi v626_r0 c2_i32_448_r0
  let c256_i32_449_r0 : BitVec 32 := 256#32
  let v733_r0 : BitVec 32 := Scalar.muli v732_r0 c256_i32_449_r0
  let v734_r0 : BitVec 32 := v733_r0
  let c0_i32_451_r0 : BitVec 32 := 0#32
  ![v233_r0.toNat, v734_r0.toNat, 0]
def k0_cond18 (k0_t6 : Fin k0_t6_loop.trips) : BitVec 1 :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c30_i32_384_r0 : BitVec 32 := 30#32
  let v633_r0 : BitVec 1 := Scalar.cmpi .sge v626_r0 c30_i32_384_r0
  let c44_i32_385_r0 : BitVec 32 := 44#32
  let v634_r0 : BitVec 1 := Scalar.cmpi .slt v626_r0 c44_i32_385_r0
  let v635_r0 : BitVec 1 := Scalar.andi v633_r0 v634_r0
  let c1_i32_378_r0 : BitVec 32 := 1#32
  let v624_r0 : BitVec 32 := Scalar.addi v588_r0 c1_i32_378_r0
  let c4_i32_379_r0 : BitVec 32 := 4#32
  let v625_r0 : BitVec 1 := Scalar.cmpi .sge v624_r0 c4_i32_379_r0
  let v636_r0 : BitVec 1 := Scalar.andi v635_r0 v625_r0
  let v637_r0 : BitVec 32 := Scalar.extui v636_r0
  let c0_i32_386_r0 : BitVec 32 := 0#32
  let v638_r0 : BitVec 1 := Scalar.cmpi .ne v637_r0 c0_i32_386_r0
  v638_r0

def k0_mult27 (k0_t6 : Fin k0_t6_loop.trips) : BitVec 32 :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c30_i32_448_r0 : BitVec 32 := 30#32
  let v732_r0 : BitVec 32 := Scalar.subi v626_r0 c30_i32_448_r0
  let c512_i32_449_r0 : BitVec 32 := 512#32
  let v733_r0 : BitVec 32 := Scalar.muli v732_r0 c512_i32_449_r0
  v733_r0
def k0_off83 (k0_t6 : Fin k0_t6_loop.trips) : Fin 1 → Nat :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c30_i32_448_r0 : BitVec 32 := 30#32
  let v732_r0 : BitVec 32 := Scalar.subi v626_r0 c30_i32_448_r0
  ![v732_r0.toNat]
def k0_off84 (k0_t6 : Fin k0_t6_loop.trips) : Fin 3 → Nat :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c30_i32_448_r0 : BitVec 32 := 30#32
  let v732_r0 : BitVec 32 := Scalar.subi v626_r0 c30_i32_448_r0
  let c0_i32_450_r0 : BitVec 32 := 0#32
  let c0_i32_451_r0 : BitVec 32 := 0#32
  ![v732_r0.toNat, 0, 0]
def k0_off85 (v233_r0 : BitVec 32) (k0_t6 : Fin k0_t6_loop.trips) : Fin 3 → Nat :=
  let c0_i32_452_r0 : BitVec 32 := 0#32
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c30_i32_448_r0 : BitVec 32 := 30#32
  let v732_r0 : BitVec 32 := Scalar.subi v626_r0 c30_i32_448_r0
  let c512_i32_449_r0 : BitVec 32 := 512#32
  let v733_r0 : BitVec 32 := Scalar.muli v732_r0 c512_i32_449_r0
  let v734_r0 : BitVec 32 := v733_r0
  ![v233_r0.toNat, 0, v734_r0.toNat]
def k0_mult28 (k0_t6 : Fin k0_t6_loop.trips) : BitVec 32 :=
  let c6_i32_356_r0 : BitVec 32 := 6#32
  let c0_i32_234_r0 : BitVec 32 := 0#32
  let c1_i32_236_r0 : BitVec 32 := 1#32
  let arg36_r0 : BitVec 32 := Scf.iv c0_i32_234_r0 c1_i32_236_r0 k0_t6
  let v586_r0 : BitVec 32 := Scalar.addi c6_i32_356_r0 arg36_r0
  let c512_i32_387_r0 : BitVec 32 := 512#32
  let v639_r0 : BitVec 32 := Scalar.muli v586_r0 c512_i32_387_r0
  v639_r0
def k0_off86 (v233_r0 : BitVec 32) (k0_t6 : Fin k0_t6_loop.trips) : Fin 3 → Nat :=
  let v641_r0 : Index := Scalar.indexCast v233_r0
  let c0_388_r0 : Index := 0#32
  let c6_i32_356_r0 : BitVec 32 := 6#32
  let c0_i32_234_r0 : BitVec 32 := 0#32
  let c1_i32_236_r0 : BitVec 32 := 1#32
  let arg36_r0 : BitVec 32 := Scf.iv c0_i32_234_r0 c1_i32_236_r0 k0_t6
  let v586_r0 : BitVec 32 := Scalar.addi c6_i32_356_r0 arg36_r0
  let c512_i32_387_r0 : BitVec 32 := 512#32
  let v639_r0 : BitVec 32 := Scalar.muli v586_r0 c512_i32_387_r0
  let v640_r0 : BitVec 32 := v639_r0
  let v642_r0 : Index := Scalar.indexCast v640_r0
  ![v641_r0.toNat, 0, v642_r0.toNat]
def k0_off87 (k0_t6 : Fin k0_t6_loop.trips) : Fin 2 → Nat :=
  let c0_390_r0 : Index := 0#32
  let c6_i32_356_r0 : BitVec 32 := 6#32
  let c0_i32_234_r0 : BitVec 32 := 0#32
  let c1_i32_236_r0 : BitVec 32 := 1#32
  let arg36_r0 : BitVec 32 := Scf.iv c0_i32_234_r0 c1_i32_236_r0 k0_t6
  let v586_r0 : BitVec 32 := Scalar.addi c6_i32_356_r0 arg36_r0
  let c512_i32_387_r0 : BitVec 32 := 512#32
  let v639_r0 : BitVec 32 := Scalar.muli v586_r0 c512_i32_387_r0
  let v640_r0 : BitVec 32 := v639_r0
  let v646_r0 : Index := Scalar.indexCast v640_r0
  ![0, v646_r0.toNat]
def k0_mult29 (k0_t6 : Fin k0_t6_loop.trips) : BitVec 32 :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  v650_r0
def k0_off88 (k0_t6 : Fin k0_t6_loop.trips) : Fin 2 → Nat :=
  let c0_394_r0 : Index := 0#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v653_r0 : Index := Scalar.indexCast v651_r0
  ![0, v653_r0.toNat]
def k0_off89 (k0_t6 : Fin k0_t6_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v655_r0 : Index := Scalar.indexCast v651_r0
  let c0_395_r0 : Index := 0#32
  ![v655_r0.toNat, 0]
def k0_off90 (k0_t6 : Fin k0_t6_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v665_r0 : Index := Scalar.indexCast v651_r0
  let c512_402_r0 : Index := 512#32
  ![v665_r0.toNat, 512]
def k0_off91 (k0_t6 : Fin k0_t6_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v675_r0 : Index := Scalar.indexCast v651_r0
  let c1024_409_r0 : Index := 1024#32
  ![v675_r0.toNat, 1024]
def k0_off92 (k0_t6 : Fin k0_t6_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v685_r0 : Index := Scalar.indexCast v651_r0
  let c1536_416_r0 : Index := 1536#32
  ![v685_r0.toNat, 1536]
def k0_off93 (k0_t6 : Fin k0_t6_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v695_r0 : Index := Scalar.indexCast v651_r0
  let c2048_423_r0 : Index := 2048#32
  ![v695_r0.toNat, 2048]
def k0_off94 (k0_t6 : Fin k0_t6_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v705_r0 : Index := Scalar.indexCast v651_r0
  let c2560_430_r0 : Index := 2560#32
  ![v705_r0.toNat, 2560]
def k0_off95 (k0_t6 : Fin k0_t6_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v715_r0 : Index := Scalar.indexCast v651_r0
  let c3072_437_r0 : Index := 3072#32
  ![v715_r0.toNat, 3072]
def k0_off96 (k0_t6 : Fin k0_t6_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t6
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v725_r0 : Index := Scalar.indexCast v651_r0
  let c3584_444_r0 : Index := 3584#32
  ![v725_r0.toNat, 3584]
def k0_off97 (v233_r0 : BitVec 32) : Fin 2 → Nat :=
  let v359_r0 : Index := Scalar.indexCast v233_r0
  let c0_243_r0 : Index := 0#32
  ![v359_r0.toNat, 0]
def k0_off98 (v233_r0 : BitVec 32) : Fin 2 → Nat :=
  let v371_r0 : Index := Scalar.indexCast v233_r0
  let c2048_248_r0 : Index := 2048#32
  ![v371_r0.toNat, 2048]
def k0_off99 (v233_r0 : BitVec 32) : Fin 2 → Nat :=
  let v389_r0 : Index := Scalar.indexCast v233_r0
  let c512_256_r0 : Index := 512#32
  ![v389_r0.toNat, 512]
def k0_off100 (v233_r0 : BitVec 32) : Fin 2 → Nat :=
  let v401_r0 : Index := Scalar.indexCast v233_r0
  let c2560_261_r0 : Index := 2560#32
  ![v401_r0.toNat, 2560]
def k0_off101 (v233_r0 : BitVec 32) : Fin 2 → Nat :=
  let v419_r0 : Index := Scalar.indexCast v233_r0
  let c1024_269_r0 : Index := 1024#32
  ![v419_r0.toNat, 1024]
def k0_off102 (v233_r0 : BitVec 32) : Fin 2 → Nat :=
  let v431_r0 : Index := Scalar.indexCast v233_r0
  let c3072_274_r0 : Index := 3072#32
  ![v431_r0.toNat, 3072]
def k0_off103 (v233_r0 : BitVec 32) : Fin 2 → Nat :=
  let v449_r0 : Index := Scalar.indexCast v233_r0
  let c1536_282_r0 : Index := 1536#32
  ![v449_r0.toNat, 1536]
def k0_off104 (v233_r0 : BitVec 32) : Fin 2 → Nat :=
  let v461_r0 : Index := Scalar.indexCast v233_r0
  let c3584_287_r0 : Index := 3584#32
  ![v461_r0.toNat, 3584]
@[reducible] def k0_t7_loop : Scf.Loop 32 :=
  let c0_i32_309_r0 : BitVec 32 := 0#32
  let c5_i32_310_r0 : BitVec 32 := 5#32
  let v510_r0 : BitVec 32 := Scalar.addi c0_i32_309_r0 c5_i32_310_r0
  let c1_i32_311_r0 : BitVec 32 := 1#32
  ⟨c0_i32_309_r0, v510_r0, c1_i32_311_r0⟩
def k0_mult30 (k0_t7 : Fin k0_t7_loop.trips) : BitVec 32 :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let c0_i32_359_r0 : BitVec 32 := 0#32
  let v589_r0 : BitVec 32 := Scalar.addi v588_r0 c0_i32_359_r0
  let c512_i32_360_r0 : BitVec 32 := 512#32
  let v590_r0 : BitVec 32 := Scalar.muli v589_r0 c512_i32_360_r0
  v590_r0
def k0_off105 (k0_t7 : Fin k0_t7_loop.trips) : Fin 1 → Nat :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let c0_i32_359_r0 : BitVec 32 := 0#32
  let v589_r0 : BitVec 32 := Scalar.addi v588_r0 c0_i32_359_r0
  ![v589_r0.toNat]
def k0_off106 (k0_t7 : Fin k0_t7_loop.trips) : Fin 3 → Nat :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let c0_i32_359_r0 : BitVec 32 := 0#32
  let v589_r0 : BitVec 32 := Scalar.addi v588_r0 c0_i32_359_r0
  let c0_i32_361_r0 : BitVec 32 := 0#32
  let c0_i32_362_r0 : BitVec 32 := 0#32
  ![v589_r0.toNat, 0, 0]
def k0_off107 (v233_r0 : BitVec 32) (k0_t7 : Fin k0_t7_loop.trips) : Fin 3 → Nat :=
  let c0_i32_363_r0 : BitVec 32 := 0#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let c0_i32_359_r0 : BitVec 32 := 0#32
  let v589_r0 : BitVec 32 := Scalar.addi v588_r0 c0_i32_359_r0
  let c512_i32_360_r0 : BitVec 32 := 512#32
  let v590_r0 : BitVec 32 := Scalar.muli v589_r0 c512_i32_360_r0
  let v591_r0 : BitVec 32 := v590_r0
  ![v233_r0.toNat, 0, v591_r0.toNat]
def k0_off108 (v238_r0 : BitVec 32) : Fin 3 → Nat :=
  let c0_i32_434_r0 : BitVec 32 := 0#32
  let c0_i32_435_r0 : BitVec 32 := 0#32
  ![v238_r0.toNat, 0, 0]
def k0_cond19 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (k0_t7 : Fin k0_t7_loop.trips) : BitVec 1 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c44_i32_367_r0 : BitVec 32 := 44#32
  let v601_r0 : BitVec 1 := Scalar.cmpi .sge v600_r0 c44_i32_367_r0
  let c45_i32_368_r0 : BitVec 32 := 45#32
  let v602_r0 : BitVec 1 := Scalar.cmpi .slt v600_r0 c45_i32_368_r0
  let v603_r0 : BitVec 1 := Scalar.andi v601_r0 v602_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v604_r0 : BitVec 1 := Scalar.andi v603_r0 v240_r0
  let true_369_r0 : BitVec 1 := 1#1
  let v605_r0 : BitVec 1 := Scalar.andi v604_r0 true_369_r0
  let v606_r0 : BitVec 32 := Scalar.extui v605_r0
  let c0_i32_370_r0 : BitVec 32 := 0#32
  let v607_r0 : BitVec 1 := Scalar.cmpi .ne v606_r0 c0_i32_370_r0
  v607_r0

def k0_off109 (v238_r0 : BitVec 32) : Fin 3 → Nat :=
  let c64_i32_434_r0 : BitVec 32 := 64#32
  let c0_i32_435_r0 : BitVec 32 := 0#32
  ![v238_r0.toNat, 64, 0]
def k0_cond20 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (k0_t7 : Fin k0_t7_loop.trips) : BitVec 1 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c45_i32_371_r0 : BitVec 32 := 45#32
  let v608_r0 : BitVec 1 := Scalar.cmpi .sge v600_r0 c45_i32_371_r0
  let c46_i32_372_r0 : BitVec 32 := 46#32
  let v609_r0 : BitVec 1 := Scalar.cmpi .slt v600_r0 c46_i32_372_r0
  let v610_r0 : BitVec 1 := Scalar.andi v608_r0 v609_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v611_r0 : BitVec 1 := Scalar.andi v610_r0 v240_r0
  let true_373_r0 : BitVec 1 := 1#1
  let v612_r0 : BitVec 1 := Scalar.andi v611_r0 true_373_r0
  let v613_r0 : BitVec 32 := Scalar.extui v612_r0
  let c0_i32_374_r0 : BitVec 32 := 0#32
  let v614_r0 : BitVec 1 := Scalar.cmpi .ne v613_r0 c0_i32_374_r0
  v614_r0

def k0_mult31 (k0_t7 : Fin k0_t7_loop.trips) : BitVec 32 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c46_i32_433_r0 : BitVec 32 := 46#32
  let v729_r0 : BitVec 32 := Scalar.subi v600_r0 c46_i32_433_r0
  let c256_i32_r0 : BitVec 32 := 256#32
  let v730_r0 : BitVec 32 := Scalar.muli v729_r0 c256_i32_r0
  v730_r0
def k0_off110 (k0_t7 : Fin k0_t7_loop.trips) : Fin 1 → Nat :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c46_i32_433_r0 : BitVec 32 := 46#32
  let v729_r0 : BitVec 32 := Scalar.subi v600_r0 c46_i32_433_r0
  ![v729_r0.toNat]
def k0_cond21 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (k0_t7 : Fin k0_t7_loop.trips) : BitVec 1 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c46_i32_375_r0 : BitVec 32 := 46#32
  let v615_r0 : BitVec 1 := Scalar.cmpi .sge v600_r0 c46_i32_375_r0
  let c74_i32_376_r0 : BitVec 32 := 74#32
  let v616_r0 : BitVec 1 := Scalar.cmpi .slt v600_r0 c74_i32_376_r0
  let v617_r0 : BitVec 1 := Scalar.andi v615_r0 v616_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v618_r0 : BitVec 1 := Scalar.andi v617_r0 v240_r0
  let true_377_r0 : BitVec 1 := 1#1
  let v619_r0 : BitVec 1 := Scalar.andi v618_r0 true_377_r0
  let v620_r0 : BitVec 32 := Scalar.extui v619_r0
  let c0_i32_378_r0 : BitVec 32 := 0#32
  let v621_r0 : BitVec 1 := Scalar.cmpi .ne v620_r0 c0_i32_378_r0
  v621_r0

def k0_off111 (k0_t7 : Fin k0_t7_loop.trips) : Fin 2 → Nat :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c46_i32_433_r0 : BitVec 32 := 46#32
  let v729_r0 : BitVec 32 := Scalar.subi v600_r0 c46_i32_433_r0
  let c256_i32_r0 : BitVec 32 := 256#32
  let v730_r0 : BitVec 32 := Scalar.muli v729_r0 c256_i32_r0
  let v731_r0 : BitVec 32 := v730_r0
  let c0_i32_434_r0 : BitVec 32 := 0#32
  ![v731_r0.toNat, 0]
def k0_off112 (v238_r0 : BitVec 32) (k0_t7 : Fin k0_t7_loop.trips) : Fin 3 → Nat :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c46_i32_433_r0 : BitVec 32 := 46#32
  let v729_r0 : BitVec 32 := Scalar.subi v600_r0 c46_i32_433_r0
  let c256_i32_r0 : BitVec 32 := 256#32
  let v730_r0 : BitVec 32 := Scalar.muli v729_r0 c256_i32_r0
  let v731_r0 : BitVec 32 := v730_r0
  let c0_i32_435_r0 : BitVec 32 := 0#32
  ![v238_r0.toNat, v731_r0.toNat, 0]
def k0_cond22 (k0_t7 : Fin k0_t7_loop.trips) : BitVec 1 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c30_i32_379_r0 : BitVec 32 := 30#32
  let v622_r0 : BitVec 1 := Scalar.cmpi .sge v600_r0 c30_i32_379_r0
  let c44_i32_380_r0 : BitVec 32 := 44#32
  let v623_r0 : BitVec 1 := Scalar.cmpi .slt v600_r0 c44_i32_380_r0
  let v624_r0 : BitVec 1 := Scalar.andi v622_r0 v623_r0
  let true_381_r0 : BitVec 1 := 1#1
  let v625_r0 : BitVec 1 := Scalar.andi v624_r0 true_381_r0
  let v626_r0 : BitVec 32 := Scalar.extui v625_r0
  let c0_i32_382_r0 : BitVec 32 := 0#32
  let v627_r0 : BitVec 1 := Scalar.cmpi .ne v626_r0 c0_i32_382_r0
  v627_r0

def k0_mult32 (k0_t7 : Fin k0_t7_loop.trips) : BitVec 32 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c30_i32_433_r0 : BitVec 32 := 30#32
  let v729_r0 : BitVec 32 := Scalar.subi v600_r0 c30_i32_433_r0
  let c512_i32_434_r0 : BitVec 32 := 512#32
  let v730_r0 : BitVec 32 := Scalar.muli v729_r0 c512_i32_434_r0
  v730_r0
def k0_off113 (k0_t7 : Fin k0_t7_loop.trips) : Fin 1 → Nat :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c30_i32_433_r0 : BitVec 32 := 30#32
  let v729_r0 : BitVec 32 := Scalar.subi v600_r0 c30_i32_433_r0
  ![v729_r0.toNat]
def k0_off114 (k0_t7 : Fin k0_t7_loop.trips) : Fin 3 → Nat :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c30_i32_433_r0 : BitVec 32 := 30#32
  let v729_r0 : BitVec 32 := Scalar.subi v600_r0 c30_i32_433_r0
  let c0_i32_435_r0 : BitVec 32 := 0#32
  let c0_i32_436_r0 : BitVec 32 := 0#32
  ![v729_r0.toNat, 0, 0]
def k0_off115 (v233_r0 : BitVec 32) (k0_t7 : Fin k0_t7_loop.trips) : Fin 3 → Nat :=
  let c0_i32_437_r0 : BitVec 32 := 0#32
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c30_i32_433_r0 : BitVec 32 := 30#32
  let v729_r0 : BitVec 32 := Scalar.subi v600_r0 c30_i32_433_r0
  let c512_i32_434_r0 : BitVec 32 := 512#32
  let v730_r0 : BitVec 32 := Scalar.muli v729_r0 c512_i32_434_r0
  let v731_r0 : BitVec 32 := v730_r0
  ![v233_r0.toNat, 0, v731_r0.toNat]
def k0_mult33 (k0_t7 : Fin k0_t7_loop.trips) : BitVec 32 :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let c1_i32_383_r0 : BitVec 32 := 1#32
  let v628_r0 : BitVec 32 := Scalar.addi v588_r0 c1_i32_383_r0
  let c512_i32_384_r0 : BitVec 32 := 512#32
  let v629_r0 : BitVec 32 := Scalar.muli v628_r0 c512_i32_384_r0
  v629_r0
def k0_off116 (k0_t7 : Fin k0_t7_loop.trips) : Fin 1 → Nat :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let c1_i32_383_r0 : BitVec 32 := 1#32
  let v628_r0 : BitVec 32 := Scalar.addi v588_r0 c1_i32_383_r0
  ![v628_r0.toNat]
def k0_off117 (k0_t7 : Fin k0_t7_loop.trips) : Fin 3 → Nat :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let c1_i32_383_r0 : BitVec 32 := 1#32
  let v628_r0 : BitVec 32 := Scalar.addi v588_r0 c1_i32_383_r0
  let c0_i32_385_r0 : BitVec 32 := 0#32
  let c0_i32_386_r0 : BitVec 32 := 0#32
  ![v628_r0.toNat, 0, 0]
def k0_off118 (v233_r0 : BitVec 32) (k0_t7 : Fin k0_t7_loop.trips) : Fin 3 → Nat :=
  let c0_i32_387_r0 : BitVec 32 := 0#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let c1_i32_383_r0 : BitVec 32 := 1#32
  let v628_r0 : BitVec 32 := Scalar.addi v588_r0 c1_i32_383_r0
  let c512_i32_384_r0 : BitVec 32 := 512#32
  let v629_r0 : BitVec 32 := Scalar.muli v628_r0 c512_i32_384_r0
  let v630_r0 : BitVec 32 := v629_r0
  ![v233_r0.toNat, 0, v630_r0.toNat]
def k0_off119 (v238_r0 : BitVec 32) : Fin 3 → Nat :=
  let c0_i32_434_r0 : BitVec 32 := 0#32
  let c0_i32_435_r0 : BitVec 32 := 0#32
  ![v238_r0.toNat, 0, 0]
def k0_cond23 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (k0_t7 : Fin k0_t7_loop.trips) : BitVec 1 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c44_i32_391_r0 : BitVec 32 := 44#32
  let v640_r0 : BitVec 1 := Scalar.cmpi .sge v639_r0 c44_i32_391_r0
  let c45_i32_392_r0 : BitVec 32 := 45#32
  let v641_r0 : BitVec 1 := Scalar.cmpi .slt v639_r0 c45_i32_392_r0
  let v642_r0 : BitVec 1 := Scalar.andi v640_r0 v641_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v643_r0 : BitVec 1 := Scalar.andi v642_r0 v240_r0
  let true_393_r0 : BitVec 1 := 1#1
  let v644_r0 : BitVec 1 := Scalar.andi v643_r0 true_393_r0
  let v645_r0 : BitVec 32 := Scalar.extui v644_r0
  let c0_i32_394_r0 : BitVec 32 := 0#32
  let v646_r0 : BitVec 1 := Scalar.cmpi .ne v645_r0 c0_i32_394_r0
  v646_r0

def k0_off120 (v238_r0 : BitVec 32) : Fin 3 → Nat :=
  let c64_i32_434_r0 : BitVec 32 := 64#32
  let c0_i32_435_r0 : BitVec 32 := 0#32
  ![v238_r0.toNat, 64, 0]
def k0_cond24 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (k0_t7 : Fin k0_t7_loop.trips) : BitVec 1 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c45_i32_395_r0 : BitVec 32 := 45#32
  let v647_r0 : BitVec 1 := Scalar.cmpi .sge v639_r0 c45_i32_395_r0
  let c46_i32_396_r0 : BitVec 32 := 46#32
  let v648_r0 : BitVec 1 := Scalar.cmpi .slt v639_r0 c46_i32_396_r0
  let v649_r0 : BitVec 1 := Scalar.andi v647_r0 v648_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v650_r0 : BitVec 1 := Scalar.andi v649_r0 v240_r0
  let true_397_r0 : BitVec 1 := 1#1
  let v651_r0 : BitVec 1 := Scalar.andi v650_r0 true_397_r0
  let v652_r0 : BitVec 32 := Scalar.extui v651_r0
  let c0_i32_398_r0 : BitVec 32 := 0#32
  let v653_r0 : BitVec 1 := Scalar.cmpi .ne v652_r0 c0_i32_398_r0
  v653_r0

def k0_mult34 (k0_t7 : Fin k0_t7_loop.trips) : BitVec 32 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c46_i32_433_r0 : BitVec 32 := 46#32
  let v729_r0 : BitVec 32 := Scalar.subi v639_r0 c46_i32_433_r0
  let c256_i32_r0 : BitVec 32 := 256#32
  let v730_r0 : BitVec 32 := Scalar.muli v729_r0 c256_i32_r0
  v730_r0
def k0_off121 (k0_t7 : Fin k0_t7_loop.trips) : Fin 1 → Nat :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c46_i32_433_r0 : BitVec 32 := 46#32
  let v729_r0 : BitVec 32 := Scalar.subi v639_r0 c46_i32_433_r0
  ![v729_r0.toNat]
def k0_cond25 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (k0_t7 : Fin k0_t7_loop.trips) : BitVec 1 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c46_i32_399_r0 : BitVec 32 := 46#32
  let v654_r0 : BitVec 1 := Scalar.cmpi .sge v639_r0 c46_i32_399_r0
  let c74_i32_400_r0 : BitVec 32 := 74#32
  let v655_r0 : BitVec 1 := Scalar.cmpi .slt v639_r0 c74_i32_400_r0
  let v656_r0 : BitVec 1 := Scalar.andi v654_r0 v655_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v657_r0 : BitVec 1 := Scalar.andi v656_r0 v240_r0
  let true_401_r0 : BitVec 1 := 1#1
  let v658_r0 : BitVec 1 := Scalar.andi v657_r0 true_401_r0
  let v659_r0 : BitVec 32 := Scalar.extui v658_r0
  let c0_i32_402_r0 : BitVec 32 := 0#32
  let v660_r0 : BitVec 1 := Scalar.cmpi .ne v659_r0 c0_i32_402_r0
  v660_r0

def k0_off122 (k0_t7 : Fin k0_t7_loop.trips) : Fin 2 → Nat :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c46_i32_433_r0 : BitVec 32 := 46#32
  let v729_r0 : BitVec 32 := Scalar.subi v639_r0 c46_i32_433_r0
  let c256_i32_r0 : BitVec 32 := 256#32
  let v730_r0 : BitVec 32 := Scalar.muli v729_r0 c256_i32_r0
  let v731_r0 : BitVec 32 := v730_r0
  let c0_i32_434_r0 : BitVec 32 := 0#32
  ![v731_r0.toNat, 0]
def k0_off123 (v238_r0 : BitVec 32) (k0_t7 : Fin k0_t7_loop.trips) : Fin 3 → Nat :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c46_i32_433_r0 : BitVec 32 := 46#32
  let v729_r0 : BitVec 32 := Scalar.subi v639_r0 c46_i32_433_r0
  let c256_i32_r0 : BitVec 32 := 256#32
  let v730_r0 : BitVec 32 := Scalar.muli v729_r0 c256_i32_r0
  let v731_r0 : BitVec 32 := v730_r0
  let c0_i32_435_r0 : BitVec 32 := 0#32
  ![v238_r0.toNat, v731_r0.toNat, 0]
def k0_cond26 (k0_t7 : Fin k0_t7_loop.trips) : BitVec 1 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c30_i32_403_r0 : BitVec 32 := 30#32
  let v661_r0 : BitVec 1 := Scalar.cmpi .sge v639_r0 c30_i32_403_r0
  let c44_i32_404_r0 : BitVec 32 := 44#32
  let v662_r0 : BitVec 1 := Scalar.cmpi .slt v639_r0 c44_i32_404_r0
  let v663_r0 : BitVec 1 := Scalar.andi v661_r0 v662_r0
  let true_405_r0 : BitVec 1 := 1#1
  let v664_r0 : BitVec 1 := Scalar.andi v663_r0 true_405_r0
  let v665_r0 : BitVec 32 := Scalar.extui v664_r0
  let c0_i32_406_r0 : BitVec 32 := 0#32
  let v666_r0 : BitVec 1 := Scalar.cmpi .ne v665_r0 c0_i32_406_r0
  v666_r0

def k0_mult35 (k0_t7 : Fin k0_t7_loop.trips) : BitVec 32 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c30_i32_433_r0 : BitVec 32 := 30#32
  let v729_r0 : BitVec 32 := Scalar.subi v639_r0 c30_i32_433_r0
  let c512_i32_434_r0 : BitVec 32 := 512#32
  let v730_r0 : BitVec 32 := Scalar.muli v729_r0 c512_i32_434_r0
  v730_r0
def k0_off124 (k0_t7 : Fin k0_t7_loop.trips) : Fin 1 → Nat :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c30_i32_433_r0 : BitVec 32 := 30#32
  let v729_r0 : BitVec 32 := Scalar.subi v639_r0 c30_i32_433_r0
  ![v729_r0.toNat]
def k0_off125 (k0_t7 : Fin k0_t7_loop.trips) : Fin 3 → Nat :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c30_i32_433_r0 : BitVec 32 := 30#32
  let v729_r0 : BitVec 32 := Scalar.subi v639_r0 c30_i32_433_r0
  let c0_i32_435_r0 : BitVec 32 := 0#32
  let c0_i32_436_r0 : BitVec 32 := 0#32
  ![v729_r0.toNat, 0, 0]
def k0_off126 (v233_r0 : BitVec 32) (k0_t7 : Fin k0_t7_loop.trips) : Fin 3 → Nat :=
  let c0_i32_437_r0 : BitVec 32 := 0#32
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c30_i32_433_r0 : BitVec 32 := 30#32
  let v729_r0 : BitVec 32 := Scalar.subi v639_r0 c30_i32_433_r0
  let c512_i32_434_r0 : BitVec 32 := 512#32
  let v730_r0 : BitVec 32 := Scalar.muli v729_r0 c512_i32_434_r0
  let v731_r0 : BitVec 32 := v730_r0
  ![v233_r0.toNat, 0, v731_r0.toNat]
def k0_mult36 (k0_t7 : Fin k0_t7_loop.trips) : BitVec 32 :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let c0_i32_409_r0 : BitVec 32 := 0#32
  let v669_r0 : BitVec 32 := Scalar.addi v588_r0 c0_i32_409_r0
  let c512_i32_410_r0 : BitVec 32 := 512#32
  let v670_r0 : BitVec 32 := Scalar.muli v669_r0 c512_i32_410_r0
  v670_r0
def k0_off127 (k0_t7 : Fin k0_t7_loop.trips) (c0_i32_413_r0 : BitVec 32) : Fin 3 → Nat :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v673_r0 : BitVec 32 := Scalar.addi v588_r0 c0_i32_413_r0
  let v674_r0 : Index := Scalar.indexCast v673_r0
  let c0_414_r0 : Index := 0#32
  let c0_415_r0 : Index := 0#32
  ![v674_r0.toNat, 0, 0]
def k0_off128 (v233_r0 : BitVec 32) (k0_t7 : Fin k0_t7_loop.trips) (c0_i32_409_r0 : BitVec 32) : Fin 2 → Nat :=
  let v679_r0 : Index := Scalar.indexCast v233_r0
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v669_r0 : BitVec 32 := Scalar.addi v588_r0 c0_i32_409_r0
  let c512_i32_410_r0 : BitVec 32 := 512#32
  let v670_r0 : BitVec 32 := Scalar.muli v669_r0 c512_i32_410_r0
  let v671_r0 : BitVec 32 := v670_r0
  let v680_r0 : Index := Scalar.indexCast v671_r0
  ![v679_r0.toNat, v680_r0.toNat]
def k0_off129 (k0_t7 : Fin k0_t7_loop.trips) (c0_i32_409_r0 : BitVec 32) : Fin 2 → Nat :=
  let c0_417_r0 : Index := 0#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let v669_r0 : BitVec 32 := Scalar.addi v588_r0 c0_i32_409_r0
  let c512_i32_410_r0 : BitVec 32 := 512#32
  let v670_r0 : BitVec 32 := Scalar.muli v669_r0 c512_i32_410_r0
  let v671_r0 : BitVec 32 := v670_r0
  let v684_r0 : Index := Scalar.indexCast v671_r0
  ![0, v684_r0.toNat]
def k0_mult37 (k0_t7 : Fin k0_t7_loop.trips) : BitVec 32 :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t7
  let c2_i32_357_r0 : BitVec 32 := 2#32
  let v587_r0 : BitVec 32 := Scalar.muli arg36_r0 c2_i32_357_r0
  let v588_r0 : BitVec 32 := Scalar.addi c0_i32_358_r0 v587_r0
  let c1_i32_421_r0 : BitVec 32 := 1#32
  let v699_r0 : BitVec 32 := Scalar.addi v588_r0 c1_i32_421_r0
  let c512_i32_422_r0 : BitVec 32 := 512#32
  let v700_r0 : BitVec 32 := Scalar.muli v699_r0 c512_i32_422_r0
  v700_r0
@[reducible] def k0_t8_loop : Scf.Loop 32 :=
  let c0_i32_314_r0 : BitVec 32 := 0#32
  let c3_i32_315_r0 : BitVec 32 := 3#32
  let v511_r0 : BitVec 32 := Scalar.addi c0_i32_314_r0 c3_i32_315_r0
  let c1_i32_316_r0 : BitVec 32 := 1#32
  ⟨c0_i32_314_r0, v511_r0, c1_i32_316_r0⟩
def k0_mult38 (k0_t8 : Fin k0_t8_loop.trips) : BitVec 32 :=
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let c0_i32_358_r0 : BitVec 32 := 0#32
  let v589_r0 : BitVec 32 := Scalar.addi v588_r0 c0_i32_358_r0
  let c512_i32_359_r0 : BitVec 32 := 512#32
  let v590_r0 : BitVec 32 := Scalar.muli v589_r0 c512_i32_359_r0
  v590_r0
def k0_off130 (k0_t8 : Fin k0_t8_loop.trips) : Fin 1 → Nat :=
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let c0_i32_358_r0 : BitVec 32 := 0#32
  let v589_r0 : BitVec 32 := Scalar.addi v588_r0 c0_i32_358_r0
  ![v589_r0.toNat]
def k0_off131 (k0_t8 : Fin k0_t8_loop.trips) : Fin 3 → Nat :=
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let c0_i32_358_r0 : BitVec 32 := 0#32
  let v589_r0 : BitVec 32 := Scalar.addi v588_r0 c0_i32_358_r0
  let c0_i32_360_r0 : BitVec 32 := 0#32
  let c0_i32_361_r0 : BitVec 32 := 0#32
  ![v589_r0.toNat, 0, 0]
def k0_off132 (v233_r0 : BitVec 32) (k0_t8 : Fin k0_t8_loop.trips) : Fin 3 → Nat :=
  let c0_i32_362_r0 : BitVec 32 := 0#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let c0_i32_358_r0 : BitVec 32 := 0#32
  let v589_r0 : BitVec 32 := Scalar.addi v588_r0 c0_i32_358_r0
  let c512_i32_359_r0 : BitVec 32 := 512#32
  let v590_r0 : BitVec 32 := Scalar.muli v589_r0 c512_i32_359_r0
  let v591_r0 : BitVec 32 := v590_r0
  ![v233_r0.toNat, 0, v591_r0.toNat]
def k0_off133 (v238_r0 : BitVec 32) : Fin 3 → Nat :=
  let c0_i32_397_r0 : BitVec 32 := 0#32
  let c0_i32_398_r0 : BitVec 32 := 0#32
  ![v238_r0.toNat, 0, 0]
def k0_cond27 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (k0_t8 : Fin k0_t8_loop.trips) : BitVec 1 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c44_i32_366_r0 : BitVec 32 := 44#32
  let v601_r0 : BitVec 1 := Scalar.cmpi .sge v600_r0 c44_i32_366_r0
  let c45_i32_367_r0 : BitVec 32 := 45#32
  let v602_r0 : BitVec 1 := Scalar.cmpi .slt v600_r0 c45_i32_367_r0
  let v603_r0 : BitVec 1 := Scalar.andi v601_r0 v602_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v604_r0 : BitVec 1 := Scalar.andi v603_r0 v240_r0
  let true_368_r0 : BitVec 1 := 1#1
  let v605_r0 : BitVec 1 := Scalar.andi v604_r0 true_368_r0
  let v606_r0 : BitVec 32 := Scalar.extui v605_r0
  let c0_i32_369_r0 : BitVec 32 := 0#32
  let v607_r0 : BitVec 1 := Scalar.cmpi .ne v606_r0 c0_i32_369_r0
  v607_r0

def k0_off134 (v238_r0 : BitVec 32) : Fin 3 → Nat :=
  let c64_i32_397_r0 : BitVec 32 := 64#32
  let c0_i32_398_r0 : BitVec 32 := 0#32
  ![v238_r0.toNat, 64, 0]
def k0_cond28 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (k0_t8 : Fin k0_t8_loop.trips) : BitVec 1 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c45_i32_370_r0 : BitVec 32 := 45#32
  let v608_r0 : BitVec 1 := Scalar.cmpi .sge v600_r0 c45_i32_370_r0
  let c46_i32_371_r0 : BitVec 32 := 46#32
  let v609_r0 : BitVec 1 := Scalar.cmpi .slt v600_r0 c46_i32_371_r0
  let v610_r0 : BitVec 1 := Scalar.andi v608_r0 v609_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v611_r0 : BitVec 1 := Scalar.andi v610_r0 v240_r0
  let true_372_r0 : BitVec 1 := 1#1
  let v612_r0 : BitVec 1 := Scalar.andi v611_r0 true_372_r0
  let v613_r0 : BitVec 32 := Scalar.extui v612_r0
  let c0_i32_373_r0 : BitVec 32 := 0#32
  let v614_r0 : BitVec 1 := Scalar.cmpi .ne v613_r0 c0_i32_373_r0
  v614_r0

def k0_mult39 (k0_t8 : Fin k0_t8_loop.trips) : BitVec 32 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c46_i32_396_r0 : BitVec 32 := 46#32
  let v660_r0 : BitVec 32 := Scalar.subi v600_r0 c46_i32_396_r0
  let c256_i32_r0 : BitVec 32 := 256#32
  let v661_r0 : BitVec 32 := Scalar.muli v660_r0 c256_i32_r0
  v661_r0
def k0_off135 (k0_t8 : Fin k0_t8_loop.trips) : Fin 1 → Nat :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c46_i32_396_r0 : BitVec 32 := 46#32
  let v660_r0 : BitVec 32 := Scalar.subi v600_r0 c46_i32_396_r0
  ![v660_r0.toNat]
def k0_off136 (k0_t8 : Fin k0_t8_loop.trips) : Fin 2 → Nat :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c46_i32_396_r0 : BitVec 32 := 46#32
  let v660_r0 : BitVec 32 := Scalar.subi v600_r0 c46_i32_396_r0
  let c256_i32_r0 : BitVec 32 := 256#32
  let v661_r0 : BitVec 32 := Scalar.muli v660_r0 c256_i32_r0
  let v662_r0 : BitVec 32 := v661_r0
  let c0_i32_397_r0 : BitVec 32 := 0#32
  ![v662_r0.toNat, 0]
def k0_off137 (v238_r0 : BitVec 32) (k0_t8 : Fin k0_t8_loop.trips) : Fin 3 → Nat :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c46_i32_396_r0 : BitVec 32 := 46#32
  let v660_r0 : BitVec 32 := Scalar.subi v600_r0 c46_i32_396_r0
  let c256_i32_r0 : BitVec 32 := 256#32
  let v661_r0 : BitVec 32 := Scalar.muli v660_r0 c256_i32_r0
  let v662_r0 : BitVec 32 := v661_r0
  let c0_i32_398_r0 : BitVec 32 := 0#32
  ![v238_r0.toNat, v662_r0.toNat, 0]
def k0_cond29 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (k0_t8 : Fin k0_t8_loop.trips) : BitVec 1 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c46_i32_374_r0 : BitVec 32 := 46#32
  let v615_r0 : BitVec 1 := Scalar.cmpi .sge v600_r0 c46_i32_374_r0
  let c74_i32_375_r0 : BitVec 32 := 74#32
  let v616_r0 : BitVec 1 := Scalar.cmpi .slt v600_r0 c74_i32_375_r0
  let v617_r0 : BitVec 1 := Scalar.andi v615_r0 v616_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v618_r0 : BitVec 1 := Scalar.andi v617_r0 v240_r0
  let true_376_r0 : BitVec 1 := 1#1
  let v619_r0 : BitVec 1 := Scalar.andi v618_r0 true_376_r0
  let v620_r0 : BitVec 32 := Scalar.extui v619_r0
  let c0_i32_377_r0 : BitVec 32 := 0#32
  let v621_r0 : BitVec 1 := Scalar.cmpi .ne v620_r0 c0_i32_377_r0
  v621_r0

def k0_cond30 (k0_t8 : Fin k0_t8_loop.trips) : BitVec 1 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c30_i32_378_r0 : BitVec 32 := 30#32
  let v622_r0 : BitVec 1 := Scalar.cmpi .sge v600_r0 c30_i32_378_r0
  let c44_i32_379_r0 : BitVec 32 := 44#32
  let v623_r0 : BitVec 1 := Scalar.cmpi .slt v600_r0 c44_i32_379_r0
  let v624_r0 : BitVec 1 := Scalar.andi v622_r0 v623_r0
  let true_380_r0 : BitVec 1 := 1#1
  let v625_r0 : BitVec 1 := Scalar.andi v624_r0 true_380_r0
  let v626_r0 : BitVec 32 := Scalar.extui v625_r0
  let c0_i32_381_r0 : BitVec 32 := 0#32
  let v627_r0 : BitVec 1 := Scalar.cmpi .ne v626_r0 c0_i32_381_r0
  v627_r0

def k0_mult40 (k0_t8 : Fin k0_t8_loop.trips) : BitVec 32 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c30_i32_396_r0 : BitVec 32 := 30#32
  let v660_r0 : BitVec 32 := Scalar.subi v600_r0 c30_i32_396_r0
  let c512_i32_397_r0 : BitVec 32 := 512#32
  let v661_r0 : BitVec 32 := Scalar.muli v660_r0 c512_i32_397_r0
  v661_r0
def k0_off138 (k0_t8 : Fin k0_t8_loop.trips) : Fin 1 → Nat :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c30_i32_396_r0 : BitVec 32 := 30#32
  let v660_r0 : BitVec 32 := Scalar.subi v600_r0 c30_i32_396_r0
  ![v660_r0.toNat]
def k0_off139 (k0_t8 : Fin k0_t8_loop.trips) : Fin 3 → Nat :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c30_i32_396_r0 : BitVec 32 := 30#32
  let v660_r0 : BitVec 32 := Scalar.subi v600_r0 c30_i32_396_r0
  let c0_i32_398_r0 : BitVec 32 := 0#32
  let c0_i32_399_r0 : BitVec 32 := 0#32
  ![v660_r0.toNat, 0, 0]
def k0_off140 (v233_r0 : BitVec 32) (k0_t8 : Fin k0_t8_loop.trips) : Fin 3 → Nat :=
  let c0_i32_400_r0 : BitVec 32 := 0#32
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c30_i32_396_r0 : BitVec 32 := 30#32
  let v660_r0 : BitVec 32 := Scalar.subi v600_r0 c30_i32_396_r0
  let c512_i32_397_r0 : BitVec 32 := 512#32
  let v661_r0 : BitVec 32 := Scalar.muli v660_r0 c512_i32_397_r0
  let v662_r0 : BitVec 32 := v661_r0
  ![v233_r0.toNat, 0, v662_r0.toNat]
def k0_mult41 (k0_t8 : Fin k0_t8_loop.trips) : BitVec 32 :=
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let c0_i32_384_r0 : BitVec 32 := 0#32
  let v630_r0 : BitVec 32 := Scalar.addi v588_r0 c0_i32_384_r0
  let c512_i32_385_r0 : BitVec 32 := 512#32
  let v631_r0 : BitVec 32 := Scalar.muli v630_r0 c512_i32_385_r0
  v631_r0
def k0_off141 (k0_t8 : Fin k0_t8_loop.trips) : Fin 3 → Nat :=
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let c0_i32_388_r0 : BitVec 32 := 0#32
  let v634_r0 : BitVec 32 := Scalar.addi v588_r0 c0_i32_388_r0
  let v635_r0 : Index := Scalar.indexCast v634_r0
  let c0_389_r0 : Index := 0#32
  let c0_390_r0 : Index := 0#32
  ![v635_r0.toNat, 0, 0]
def k0_off142 (v233_r0 : BitVec 32) (k0_t8 : Fin k0_t8_loop.trips) : Fin 2 → Nat :=
  let v640_r0 : Index := Scalar.indexCast v233_r0
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let c0_i32_384_r0 : BitVec 32 := 0#32
  let v630_r0 : BitVec 32 := Scalar.addi v588_r0 c0_i32_384_r0
  let c512_i32_385_r0 : BitVec 32 := 512#32
  let v631_r0 : BitVec 32 := Scalar.muli v630_r0 c512_i32_385_r0
  let v632_r0 : BitVec 32 := v631_r0
  let v641_r0 : Index := Scalar.indexCast v632_r0
  ![v640_r0.toNat, v641_r0.toNat]
def k0_off143 (k0_t8 : Fin k0_t8_loop.trips) : Fin 2 → Nat :=
  let c0_392_r0 : Index := 0#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t8
  let c1_i32_357_r0 : BitVec 32 := 1#32
  let v587_r0 : BitVec 32 := Scalar.muli arg36_r0 c1_i32_357_r0
  let v588_r0 : BitVec 32 := Scalar.addi c10_i32_r0 v587_r0
  let c0_i32_384_r0 : BitVec 32 := 0#32
  let v630_r0 : BitVec 32 := Scalar.addi v588_r0 c0_i32_384_r0
  let c512_i32_385_r0 : BitVec 32 := 512#32
  let v631_r0 : BitVec 32 := Scalar.muli v630_r0 c512_i32_385_r0
  let v632_r0 : BitVec 32 := v631_r0
  let v645_r0 : Index := Scalar.indexCast v632_r0
  ![0, v645_r0.toNat]
def k0_mult42 : BitVec 32 :=
  let c13_i32_r0 : BitVec 32 := 13#32
  let c0_i32_318_r0 : BitVec 32 := 0#32
  let v512_r0 : BitVec 32 := Scalar.addi c13_i32_r0 c0_i32_318_r0
  let c512_i32_r0 : BitVec 32 := 512#32
  let v513_r0 : BitVec 32 := Scalar.muli v512_r0 c512_i32_r0
  v513_r0
def k0_off144 : Fin 1 → Nat :=
  let c13_i32_r0 : BitVec 32 := 13#32
  let c0_i32_318_r0 : BitVec 32 := 0#32
  let v512_r0 : BitVec 32 := Scalar.addi c13_i32_r0 c0_i32_318_r0
  ![v512_r0.toNat]
def k0_off145 : Fin 3 → Nat :=
  let c13_i32_r0 : BitVec 32 := 13#32
  let c0_i32_318_r0 : BitVec 32 := 0#32
  let v512_r0 : BitVec 32 := Scalar.addi c13_i32_r0 c0_i32_318_r0
  let c0_i32_319_r0 : BitVec 32 := 0#32
  let c0_i32_320_r0 : BitVec 32 := 0#32
  ![v512_r0.toNat, 0, 0]
def k0_off146 (v233_r0 : BitVec 32) : Fin 3 → Nat :=
  let c0_i32_321_r0 : BitVec 32 := 0#32
  let c13_i32_r0 : BitVec 32 := 13#32
  let c0_i32_318_r0 : BitVec 32 := 0#32
  let v512_r0 : BitVec 32 := Scalar.addi c13_i32_r0 c0_i32_318_r0
  let c512_i32_r0 : BitVec 32 := 512#32
  let v513_r0 : BitVec 32 := Scalar.muli v512_r0 c512_i32_r0
  let v514_r0 : BitVec 32 := v513_r0
  ![v233_r0.toNat, 0, v514_r0.toNat]
def k0_off147 (v238_r0 : BitVec 32) : Fin 3 → Nat :=
  let c0_i32_357_r0 : BitVec 32 := 0#32
  let c0_i32_358_r0 : BitVec 32 := 0#32
  ![v238_r0.toNat, 0, 0]
def k0_cond31 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) : BitVec 1 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c44_i32_r0 : BitVec 32 := 44#32
  let v524_r0 : BitVec 1 := Scalar.cmpi .sge v523_r0 c44_i32_r0
  let c45_i32_r0 : BitVec 32 := 45#32
  let v525_r0 : BitVec 1 := Scalar.cmpi .slt v523_r0 c45_i32_r0
  let v526_r0 : BitVec 1 := Scalar.andi v524_r0 v525_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v527_r0 : BitVec 1 := Scalar.andi v526_r0 v240_r0
  let true_326_r0 : BitVec 1 := 1#1
  let v528_r0 : BitVec 1 := Scalar.andi v527_r0 true_326_r0
  let v529_r0 : BitVec 32 := Scalar.extui v528_r0
  let c0_i32_327_r0 : BitVec 32 := 0#32
  let v530_r0 : BitVec 1 := Scalar.cmpi .ne v529_r0 c0_i32_327_r0
  v530_r0

def k0_off148 (v238_r0 : BitVec 32) : Fin 3 → Nat :=
  let c64_i32_357_r0 : BitVec 32 := 64#32
  let c0_i32_358_r0 : BitVec 32 := 0#32
  ![v238_r0.toNat, 64, 0]
def k0_cond32 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) : BitVec 1 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c45_i32_328_r0 : BitVec 32 := 45#32
  let v531_r0 : BitVec 1 := Scalar.cmpi .sge v523_r0 c45_i32_328_r0
  let c46_i32_r0 : BitVec 32 := 46#32
  let v532_r0 : BitVec 1 := Scalar.cmpi .slt v523_r0 c46_i32_r0
  let v533_r0 : BitVec 1 := Scalar.andi v531_r0 v532_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v534_r0 : BitVec 1 := Scalar.andi v533_r0 v240_r0
  let true_329_r0 : BitVec 1 := 1#1
  let v535_r0 : BitVec 1 := Scalar.andi v534_r0 true_329_r0
  let v536_r0 : BitVec 32 := Scalar.extui v535_r0
  let c0_i32_330_r0 : BitVec 32 := 0#32
  let v537_r0 : BitVec 1 := Scalar.cmpi .ne v536_r0 c0_i32_330_r0
  v537_r0

def k0_mult43 : BitVec 32 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c46_i32_356_r0 : BitVec 32 := 46#32
  let v586_r0 : BitVec 32 := Scalar.subi v523_r0 c46_i32_356_r0
  let c256_i32_r0 : BitVec 32 := 256#32
  let v587_r0 : BitVec 32 := Scalar.muli v586_r0 c256_i32_r0
  v587_r0
def k0_off149 : Fin 1 → Nat :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c46_i32_356_r0 : BitVec 32 := 46#32
  let v586_r0 : BitVec 32 := Scalar.subi v523_r0 c46_i32_356_r0
  ![v586_r0.toNat]
def k0_off150 : Fin 2 → Nat :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c46_i32_356_r0 : BitVec 32 := 46#32
  let v586_r0 : BitVec 32 := Scalar.subi v523_r0 c46_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off151 (v238_r0 : BitVec 32) : Fin 3 → Nat :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c46_i32_356_r0 : BitVec 32 := 46#32
  let v586_r0 : BitVec 32 := Scalar.subi v523_r0 c46_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v238_r0.toNat, v588_r0.toNat, 0]
def k0_cond33 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) : BitVec 1 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c46_i32_331_r0 : BitVec 32 := 46#32
  let v538_r0 : BitVec 1 := Scalar.cmpi .sge v523_r0 c46_i32_331_r0
  let c74_i32_r0 : BitVec 32 := 74#32
  let v539_r0 : BitVec 1 := Scalar.cmpi .slt v523_r0 c74_i32_r0
  let v540_r0 : BitVec 1 := Scalar.andi v538_r0 v539_r0
  let c0_i32_138_r0 : BitVec 32 := 0#32
  let c1_i32_140_r0 : BitVec 32 := 1#32
  let arg35_r0 : BitVec 32 := Scf.iv c0_i32_138_r0 c1_i32_140_r0 k0_t4
  let c1_i32_155_r0 : BitVec 32 := 1#32
  let v239_r0 : BitVec 32 := Scalar.addi arg35_r0 c1_i32_155_r0
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v240_r0 : BitVec 1 := Scalar.cmpi .slt v239_r0 v84_r0
  let v541_r0 : BitVec 1 := Scalar.andi v540_r0 v240_r0
  let true_332_r0 : BitVec 1 := 1#1
  let v542_r0 : BitVec 1 := Scalar.andi v541_r0 true_332_r0
  let v543_r0 : BitVec 32 := Scalar.extui v542_r0
  let c0_i32_333_r0 : BitVec 32 := 0#32
  let v544_r0 : BitVec 1 := Scalar.cmpi .ne v543_r0 c0_i32_333_r0
  v544_r0

def k0_chk7 (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) : Prop :=
  (∀ k0_t7 : Fin k0_t7_loop.trips, ∀ (k0_h19 : k0_cond19 v17_r0 v36_r0 v51_r0 v66_r0 v81_r0 k0_t4 k0_t7 = 1#1), ∀ a, (k0_off108 v238_r0) a + S1x128x7168.size a ≤ S4x128x7168.size a) ∧
  (∀ k0_t7 : Fin k0_t7_loop.trips, ∀ (k0_h19 : k0_cond19 v17_r0 v36_r0 v51_r0 v66_r0 v81_r0 k0_t4 k0_t7 = 1#1), ∀ (hinb : ∀ a, (k0_off108 v238_r0) a + S1x128x7168.size a ≤ S4x128x7168.size a), (Rect.unit (s := S4x128x7168) (k0_off108 v238_r0) S1x128x7168.size hinb).WholeWords (EltTy.packing .bf16)) ∧
  (∀ k0_t7 : Fin k0_t7_loop.trips, ∀ (k0_h20 : k0_cond20 v17_r0 v36_r0 v51_r0 v66_r0 v81_r0 k0_t4 k0_t7 = 1#1), ∀ a, (k0_off109 v238_r0) a + S1x64x4096.size a ≤ S4x128x4096.size a) ∧
  (∀ k0_t7 : Fin k0_t7_loop.trips, ∀ (k0_h20 : k0_cond20 v17_r0 v36_r0 v51_r0 v66_r0 v81_r0 k0_t4 k0_t7 = 1#1), ∀ (hinb : ∀ a, (k0_off109 v238_r0) a + S1x64x4096.size a ≤ S4x128x4096.size a), (Rect.unit (s := S4x128x4096) (k0_off109 v238_r0) S1x64x4096.size hinb).WholeWords (EltTy.packing .bf16)) ∧
  (∀ k0_t7 : Fin k0_t7_loop.trips, ∀ (k0_h21 : k0_cond21 v17_r0 v36_r0 v51_r0 v66_r0 v81_r0 k0_t4 k0_t7 = 1#1), ∀ a, (k0_off112 v238_r0 k0_t7) a + S1x256x4096.size a ≤ S4x7168x4096.size a) ∧
  (∀ k0_t7 : Fin k0_t7_loop.trips, ∀ (k0_h21 : k0_cond21 v17_r0 v36_r0 v51_r0 v66_r0 v81_r0 k0_t4 k0_t7 = 1#1), ∀ (hinb : ∀ a, (k0_off112 v238_r0 k0_t7) a + S1x256x4096.size a ≤ S4x7168x4096.size a), (Rect.unit (s := S4x7168x4096) (k0_off112 v238_r0 k0_t7) S1x256x4096.size hinb).WholeWords (EltTy.packing .fp8e4m3)) ∧
  (∀ k0_t7 : Fin k0_t7_loop.trips, ∀ (k0_h23 : k0_cond23 v17_r0 v36_r0 v51_r0 v66_r0 v81_r0 k0_t4 k0_t7 = 1#1), ∀ a, (k0_off119 v238_r0) a + S1x128x7168.size a ≤ S4x128x7168.size a) ∧
  (∀ k0_t7 : Fin k0_t7_loop.trips, ∀ (k0_h23 : k0_cond23 v17_r0 v36_r0 v51_r0 v66_r0 v81_r0 k0_t4 k0_t7 = 1#1), ∀ (hinb : ∀ a, (k0_off119 v238_r0) a + S1x128x7168.size a ≤ S4x128x7168.size a), (Rect.unit (s := S4x128x7168) (k0_off119 v238_r0) S1x128x7168.size hinb).WholeWords (EltTy.packing .bf16)) ∧
  (∀ k0_t7 : Fin k0_t7_loop.trips, ∀ (k0_h24 : k0_cond24 v17_r0 v36_r0 v51_r0 v66_r0 v81_r0 k0_t4 k0_t7 = 1#1), ∀ a, (k0_off120 v238_r0) a + S1x64x4096.size a ≤ S4x128x4096.size a) ∧
  (∀ k0_t7 : Fin k0_t7_loop.trips, ∀ (k0_h24 : k0_cond24 v17_r0 v36_r0 v51_r0 v66_r0 v81_r0 k0_t4 k0_t7 = 1#1), ∀ (hinb : ∀ a, (k0_off120 v238_r0) a + S1x64x4096.size a ≤ S4x128x4096.size a), (Rect.unit (s := S4x128x4096) (k0_off120 v238_r0) S1x64x4096.size hinb).WholeWords (EltTy.packing .bf16)) ∧
  (∀ k0_t7 : Fin k0_t7_loop.trips, ∀ (k0_h25 : k0_cond25 v17_r0 v36_r0 v51_r0 v66_r0 v81_r0 k0_t4 k0_t7 = 1#1), ∀ a, (k0_off123 v238_r0 k0_t7) a + S1x256x4096.size a ≤ S4x7168x4096.size a) ∧
  (∀ k0_t7 : Fin k0_t7_loop.trips, ∀ (k0_h25 : k0_cond25 v17_r0 v36_r0 v51_r0 v66_r0 v81_r0 k0_t4 k0_t7 = 1#1), ∀ (hinb : ∀ a, (k0_off123 v238_r0 k0_t7) a + S1x256x4096.size a ≤ S4x7168x4096.size a), (Rect.unit (s := S4x7168x4096) (k0_off123 v238_r0 k0_t7) S1x256x4096.size hinb).WholeWords (EltTy.packing .fp8e4m3)) ∧
  (∀ k0_t8 : Fin k0_t8_loop.trips, ∀ (k0_h27 : k0_cond27 v17_r0 v36_r0 v51_r0 v66_r0 v81_r0 k0_t4 k0_t8 = 1#1), ∀ a, (k0_off133 v238_r0) a + S1x128x7168.size a ≤ S4x128x7168.size a) ∧
  (∀ k0_t8 : Fin k0_t8_loop.trips, ∀ (k0_h27 : k0_cond27 v17_r0 v36_r0 v51_r0 v66_r0 v81_r0 k0_t4 k0_t8 = 1#1), ∀ (hinb : ∀ a, (k0_off133 v238_r0) a + S1x128x7168.size a ≤ S4x128x7168.size a), (Rect.unit (s := S4x128x7168) (k0_off133 v238_r0) S1x128x7168.size hinb).WholeWords (EltTy.packing .bf16)) ∧
  (∀ k0_t8 : Fin k0_t8_loop.trips, ∀ (k0_h28 : k0_cond28 v17_r0 v36_r0 v51_r0 v66_r0 v81_r0 k0_t4 k0_t8 = 1#1), ∀ a, (k0_off134 v238_r0) a + S1x64x4096.size a ≤ S4x128x4096.size a) ∧
  (∀ k0_t8 : Fin k0_t8_loop.trips, ∀ (k0_h28 : k0_cond28 v17_r0 v36_r0 v51_r0 v66_r0 v81_r0 k0_t4 k0_t8 = 1#1), ∀ (hinb : ∀ a, (k0_off134 v238_r0) a + S1x64x4096.size a ≤ S4x128x4096.size a), (Rect.unit (s := S4x128x4096) (k0_off134 v238_r0) S1x64x4096.size hinb).WholeWords (EltTy.packing .bf16)) ∧
  (∀ k0_t8 : Fin k0_t8_loop.trips, ∀ (k0_h29 : k0_cond29 v17_r0 v36_r0 v51_r0 v66_r0 v81_r0 k0_t4 k0_t8 = 1#1), ∀ a, (k0_off137 v238_r0 k0_t8) a + S1x256x4096.size a ≤ S4x7168x4096.size a) ∧
  (∀ k0_t8 : Fin k0_t8_loop.trips, ∀ (k0_h29 : k0_cond29 v17_r0 v36_r0 v51_r0 v66_r0 v81_r0 k0_t4 k0_t8 = 1#1), ∀ (hinb : ∀ a, (k0_off137 v238_r0 k0_t8) a + S1x256x4096.size a ≤ S4x7168x4096.size a), (Rect.unit (s := S4x7168x4096) (k0_off137 v238_r0 k0_t8) S1x256x4096.size hinb).WholeWords (EltTy.packing .fp8e4m3)) ∧
  (∀ (k0_h31 : k0_cond31 v17_r0 v36_r0 v51_r0 v66_r0 v81_r0 k0_t4 = 1#1), ∀ a, (k0_off147 v238_r0) a + S1x128x7168.size a ≤ S4x128x7168.size a) ∧
  (∀ (k0_h31 : k0_cond31 v17_r0 v36_r0 v51_r0 v66_r0 v81_r0 k0_t4 = 1#1), ∀ (hinb : ∀ a, (k0_off147 v238_r0) a + S1x128x7168.size a ≤ S4x128x7168.size a), (Rect.unit (s := S4x128x7168) (k0_off147 v238_r0) S1x128x7168.size hinb).WholeWords (EltTy.packing .bf16)) ∧
  (∀ (k0_h32 : k0_cond32 v17_r0 v36_r0 v51_r0 v66_r0 v81_r0 k0_t4 = 1#1), ∀ a, (k0_off148 v238_r0) a + S1x64x4096.size a ≤ S4x128x4096.size a) ∧
  (∀ (k0_h32 : k0_cond32 v17_r0 v36_r0 v51_r0 v66_r0 v81_r0 k0_t4 = 1#1), ∀ (hinb : ∀ a, (k0_off148 v238_r0) a + S1x64x4096.size a ≤ S4x128x4096.size a), (Rect.unit (s := S4x128x4096) (k0_off148 v238_r0) S1x64x4096.size hinb).WholeWords (EltTy.packing .bf16)) ∧
  (∀ (k0_h33 : k0_cond33 v17_r0 v36_r0 v51_r0 v66_r0 v81_r0 k0_t4 = 1#1), ∀ a, (k0_off151 v238_r0) a + S1x256x4096.size a ≤ S4x7168x4096.size a) ∧
  (∀ (k0_h33 : k0_cond33 v17_r0 v36_r0 v51_r0 v66_r0 v81_r0 k0_t4 = 1#1), ∀ (hinb : ∀ a, (k0_off151 v238_r0) a + S1x256x4096.size a ≤ S4x7168x4096.size a), (Rect.unit (s := S4x7168x4096) (k0_off151 v238_r0) S1x256x4096.size hinb).WholeWords (EltTy.packing .fp8e4m3))
theorem k0_off108_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h19 : k0_cond19 v17_r0 v36_r0 v51_r0 v66_r0 v81_r0 k0_t4 k0_t7 = 1#1), ∀ a, (k0_off108 v238_r0) a + S1x128x7168.size a ≤ S4x128x7168.size a := fun v17_r0 v36_r0 v51_r0 v66_r0 v81_r0 k0_t4 v238_r0 k0_hw7 k0_t7 k0_h19 => k0_hw7.1 k0_t7 k0_h19
theorem k0_off108_wordsbf16 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h19 : k0_cond19 v17_r0 v36_r0 v51_r0 v66_r0 v81_r0 k0_t4 k0_t7 = 1#1), (Rect.unit (s := S4x128x7168) (k0_off108 v238_r0) S1x128x7168.size (k0_off108_inb v17_r0 v36_r0 v51_r0 v66_r0 v81_r0 k0_t4 v238_r0 k0_hw7 k0_t7 k0_h19)).WholeWords (EltTy.packing .bf16) := fun v17_r0 v36_r0 v51_r0 v66_r0 v81_r0 k0_t4 v238_r0 k0_hw7 k0_t7 k0_h19 => k0_hw7.2.1 k0_t7 k0_h19 (k0_off108_inb v17_r0 v36_r0 v51_r0 v66_r0 v81_r0 k0_t4 v238_r0 k0_hw7 k0_t7 k0_h19)
theorem k0_off109_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h20 : k0_cond20 v17_r0 v36_r0 v51_r0 v66_r0 v81_r0 k0_t4 k0_t7 = 1#1), ∀ a, (k0_off109 v238_r0) a + S1x64x4096.size a ≤ S4x128x4096.size a := fun v17_r0 v36_r0 v51_r0 v66_r0 v81_r0 k0_t4 v238_r0 k0_hw7 k0_t7 k0_h20 => k0_hw7.2.2.1 k0_t7 k0_h20
theorem k0_off109_wordsbf16 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h20 : k0_cond20 v17_r0 v36_r0 v51_r0 v66_r0 v81_r0 k0_t4 k0_t7 = 1#1), (Rect.unit (s := S4x128x4096) (k0_off109 v238_r0) S1x64x4096.size (k0_off109_inb v17_r0 v36_r0 v51_r0 v66_r0 v81_r0 k0_t4 v238_r0 k0_hw7 k0_t7 k0_h20)).WholeWords (EltTy.packing .bf16) := fun v17_r0 v36_r0 v51_r0 v66_r0 v81_r0 k0_t4 v238_r0 k0_hw7 k0_t7 k0_h20 => k0_hw7.2.2.2.1 k0_t7 k0_h20 (k0_off109_inb v17_r0 v36_r0 v51_r0 v66_r0 v81_r0 k0_t4 v238_r0 k0_hw7 k0_t7 k0_h20)
theorem k0_off112_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h21 : k0_cond21 v17_r0 v36_r0 v51_r0 v66_r0 v81_r0 k0_t4 k0_t7 = 1#1), ∀ a, (k0_off112 v238_r0 k0_t7) a + S1x256x4096.size a ≤ S4x7168x4096.size a := fun v17_r0 v36_r0 v51_r0 v66_r0 v81_r0 k0_t4 v238_r0 k0_hw7 k0_t7 k0_h21 => k0_hw7.2.2.2.2.1 k0_t7 k0_h21
theorem k0_off112_wordsfp8e4m3 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h21 : k0_cond21 v17_r0 v36_r0 v51_r0 v66_r0 v81_r0 k0_t4 k0_t7 = 1#1), (Rect.unit (s := S4x7168x4096) (k0_off112 v238_r0 k0_t7) S1x256x4096.size (k0_off112_inb v17_r0 v36_r0 v51_r0 v66_r0 v81_r0 k0_t4 v238_r0 k0_hw7 k0_t7 k0_h21)).WholeWords (EltTy.packing .fp8e4m3) := fun v17_r0 v36_r0 v51_r0 v66_r0 v81_r0 k0_t4 v238_r0 k0_hw7 k0_t7 k0_h21 => k0_hw7.2.2.2.2.2.1 k0_t7 k0_h21 (k0_off112_inb v17_r0 v36_r0 v51_r0 v66_r0 v81_r0 k0_t4 v238_r0 k0_hw7 k0_t7 k0_h21)
theorem k0_off119_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h23 : k0_cond23 v17_r0 v36_r0 v51_r0 v66_r0 v81_r0 k0_t4 k0_t7 = 1#1), ∀ a, (k0_off119 v238_r0) a + S1x128x7168.size a ≤ S4x128x7168.size a := fun v17_r0 v36_r0 v51_r0 v66_r0 v81_r0 k0_t4 v238_r0 k0_hw7 k0_t7 k0_h23 => k0_hw7.2.2.2.2.2.2.1 k0_t7 k0_h23
theorem k0_off119_wordsbf16 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h23 : k0_cond23 v17_r0 v36_r0 v51_r0 v66_r0 v81_r0 k0_t4 k0_t7 = 1#1), (Rect.unit (s := S4x128x7168) (k0_off119 v238_r0) S1x128x7168.size (k0_off119_inb v17_r0 v36_r0 v51_r0 v66_r0 v81_r0 k0_t4 v238_r0 k0_hw7 k0_t7 k0_h23)).WholeWords (EltTy.packing .bf16) := fun v17_r0 v36_r0 v51_r0 v66_r0 v81_r0 k0_t4 v238_r0 k0_hw7 k0_t7 k0_h23 => k0_hw7.2.2.2.2.2.2.2.1 k0_t7 k0_h23 (k0_off119_inb v17_r0 v36_r0 v51_r0 v66_r0 v81_r0 k0_t4 v238_r0 k0_hw7 k0_t7 k0_h23)
theorem k0_off120_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h24 : k0_cond24 v17_r0 v36_r0 v51_r0 v66_r0 v81_r0 k0_t4 k0_t7 = 1#1), ∀ a, (k0_off120 v238_r0) a + S1x64x4096.size a ≤ S4x128x4096.size a := fun v17_r0 v36_r0 v51_r0 v66_r0 v81_r0 k0_t4 v238_r0 k0_hw7 k0_t7 k0_h24 => k0_hw7.2.2.2.2.2.2.2.2.1 k0_t7 k0_h24
theorem k0_off120_wordsbf16 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h24 : k0_cond24 v17_r0 v36_r0 v51_r0 v66_r0 v81_r0 k0_t4 k0_t7 = 1#1), (Rect.unit (s := S4x128x4096) (k0_off120 v238_r0) S1x64x4096.size (k0_off120_inb v17_r0 v36_r0 v51_r0 v66_r0 v81_r0 k0_t4 v238_r0 k0_hw7 k0_t7 k0_h24)).WholeWords (EltTy.packing .bf16) := fun v17_r0 v36_r0 v51_r0 v66_r0 v81_r0 k0_t4 v238_r0 k0_hw7 k0_t7 k0_h24 => k0_hw7.2.2.2.2.2.2.2.2.2.1 k0_t7 k0_h24 (k0_off120_inb v17_r0 v36_r0 v51_r0 v66_r0 v81_r0 k0_t4 v238_r0 k0_hw7 k0_t7 k0_h24)
theorem k0_off123_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h25 : k0_cond25 v17_r0 v36_r0 v51_r0 v66_r0 v81_r0 k0_t4 k0_t7 = 1#1), ∀ a, (k0_off123 v238_r0 k0_t7) a + S1x256x4096.size a ≤ S4x7168x4096.size a := fun v17_r0 v36_r0 v51_r0 v66_r0 v81_r0 k0_t4 v238_r0 k0_hw7 k0_t7 k0_h25 => k0_hw7.2.2.2.2.2.2.2.2.2.2.1 k0_t7 k0_h25
theorem k0_off123_wordsfp8e4m3 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t7 : Fin k0_t7_loop.trips), ∀ (k0_h25 : k0_cond25 v17_r0 v36_r0 v51_r0 v66_r0 v81_r0 k0_t4 k0_t7 = 1#1), (Rect.unit (s := S4x7168x4096) (k0_off123 v238_r0 k0_t7) S1x256x4096.size (k0_off123_inb v17_r0 v36_r0 v51_r0 v66_r0 v81_r0 k0_t4 v238_r0 k0_hw7 k0_t7 k0_h25)).WholeWords (EltTy.packing .fp8e4m3) := fun v17_r0 v36_r0 v51_r0 v66_r0 v81_r0 k0_t4 v238_r0 k0_hw7 k0_t7 k0_h25 => k0_hw7.2.2.2.2.2.2.2.2.2.2.2.1 k0_t7 k0_h25 (k0_off123_inb v17_r0 v36_r0 v51_r0 v66_r0 v81_r0 k0_t4 v238_r0 k0_hw7 k0_t7 k0_h25)
theorem k0_off133_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t8 : Fin k0_t8_loop.trips), ∀ (k0_h27 : k0_cond27 v17_r0 v36_r0 v51_r0 v66_r0 v81_r0 k0_t4 k0_t8 = 1#1), ∀ a, (k0_off133 v238_r0) a + S1x128x7168.size a ≤ S4x128x7168.size a := fun v17_r0 v36_r0 v51_r0 v66_r0 v81_r0 k0_t4 v238_r0 k0_hw7 k0_t8 k0_h27 => k0_hw7.2.2.2.2.2.2.2.2.2.2.2.2.1 k0_t8 k0_h27
theorem k0_off133_wordsbf16 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t8 : Fin k0_t8_loop.trips), ∀ (k0_h27 : k0_cond27 v17_r0 v36_r0 v51_r0 v66_r0 v81_r0 k0_t4 k0_t8 = 1#1), (Rect.unit (s := S4x128x7168) (k0_off133 v238_r0) S1x128x7168.size (k0_off133_inb v17_r0 v36_r0 v51_r0 v66_r0 v81_r0 k0_t4 v238_r0 k0_hw7 k0_t8 k0_h27)).WholeWords (EltTy.packing .bf16) := fun v17_r0 v36_r0 v51_r0 v66_r0 v81_r0 k0_t4 v238_r0 k0_hw7 k0_t8 k0_h27 => k0_hw7.2.2.2.2.2.2.2.2.2.2.2.2.2.1 k0_t8 k0_h27 (k0_off133_inb v17_r0 v36_r0 v51_r0 v66_r0 v81_r0 k0_t4 v238_r0 k0_hw7 k0_t8 k0_h27)
theorem k0_off134_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t8 : Fin k0_t8_loop.trips), ∀ (k0_h28 : k0_cond28 v17_r0 v36_r0 v51_r0 v66_r0 v81_r0 k0_t4 k0_t8 = 1#1), ∀ a, (k0_off134 v238_r0) a + S1x64x4096.size a ≤ S4x128x4096.size a := fun v17_r0 v36_r0 v51_r0 v66_r0 v81_r0 k0_t4 v238_r0 k0_hw7 k0_t8 k0_h28 => k0_hw7.2.2.2.2.2.2.2.2.2.2.2.2.2.2.1 k0_t8 k0_h28
theorem k0_off134_wordsbf16 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t8 : Fin k0_t8_loop.trips), ∀ (k0_h28 : k0_cond28 v17_r0 v36_r0 v51_r0 v66_r0 v81_r0 k0_t4 k0_t8 = 1#1), (Rect.unit (s := S4x128x4096) (k0_off134 v238_r0) S1x64x4096.size (k0_off134_inb v17_r0 v36_r0 v51_r0 v66_r0 v81_r0 k0_t4 v238_r0 k0_hw7 k0_t8 k0_h28)).WholeWords (EltTy.packing .bf16) := fun v17_r0 v36_r0 v51_r0 v66_r0 v81_r0 k0_t4 v238_r0 k0_hw7 k0_t8 k0_h28 => k0_hw7.2.2.2.2.2.2.2.2.2.2.2.2.2.2.2.1 k0_t8 k0_h28 (k0_off134_inb v17_r0 v36_r0 v51_r0 v66_r0 v81_r0 k0_t4 v238_r0 k0_hw7 k0_t8 k0_h28)
theorem k0_off137_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t8 : Fin k0_t8_loop.trips), ∀ (k0_h29 : k0_cond29 v17_r0 v36_r0 v51_r0 v66_r0 v81_r0 k0_t4 k0_t8 = 1#1), ∀ a, (k0_off137 v238_r0 k0_t8) a + S1x256x4096.size a ≤ S4x7168x4096.size a := fun v17_r0 v36_r0 v51_r0 v66_r0 v81_r0 k0_t4 v238_r0 k0_hw7 k0_t8 k0_h29 => k0_hw7.2.2.2.2.2.2.2.2.2.2.2.2.2.2.2.2.1 k0_t8 k0_h29
theorem k0_off137_wordsfp8e4m3 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0) (k0_t8 : Fin k0_t8_loop.trips), ∀ (k0_h29 : k0_cond29 v17_r0 v36_r0 v51_r0 v66_r0 v81_r0 k0_t4 k0_t8 = 1#1), (Rect.unit (s := S4x7168x4096) (k0_off137 v238_r0 k0_t8) S1x256x4096.size (k0_off137_inb v17_r0 v36_r0 v51_r0 v66_r0 v81_r0 k0_t4 v238_r0 k0_hw7 k0_t8 k0_h29)).WholeWords (EltTy.packing .fp8e4m3) := fun v17_r0 v36_r0 v51_r0 v66_r0 v81_r0 k0_t4 v238_r0 k0_hw7 k0_t8 k0_h29 => k0_hw7.2.2.2.2.2.2.2.2.2.2.2.2.2.2.2.2.2.1 k0_t8 k0_h29 (k0_off137_inb v17_r0 v36_r0 v51_r0 v66_r0 v81_r0 k0_t4 v238_r0 k0_hw7 k0_t8 k0_h29)
theorem k0_off147_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0), ∀ (k0_h31 : k0_cond31 v17_r0 v36_r0 v51_r0 v66_r0 v81_r0 k0_t4 = 1#1), ∀ a, (k0_off147 v238_r0) a + S1x128x7168.size a ≤ S4x128x7168.size a := fun v17_r0 v36_r0 v51_r0 v66_r0 v81_r0 k0_t4 v238_r0 k0_hw7 k0_h31 => k0_hw7.2.2.2.2.2.2.2.2.2.2.2.2.2.2.2.2.2.2.1 k0_h31
theorem k0_off147_wordsbf16 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0), ∀ (k0_h31 : k0_cond31 v17_r0 v36_r0 v51_r0 v66_r0 v81_r0 k0_t4 = 1#1), (Rect.unit (s := S4x128x7168) (k0_off147 v238_r0) S1x128x7168.size (k0_off147_inb v17_r0 v36_r0 v51_r0 v66_r0 v81_r0 k0_t4 v238_r0 k0_hw7 k0_h31)).WholeWords (EltTy.packing .bf16) := fun v17_r0 v36_r0 v51_r0 v66_r0 v81_r0 k0_t4 v238_r0 k0_hw7 k0_h31 => k0_hw7.2.2.2.2.2.2.2.2.2.2.2.2.2.2.2.2.2.2.2.1 k0_h31 (k0_off147_inb v17_r0 v36_r0 v51_r0 v66_r0 v81_r0 k0_t4 v238_r0 k0_hw7 k0_h31)
theorem k0_off148_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0), ∀ (k0_h32 : k0_cond32 v17_r0 v36_r0 v51_r0 v66_r0 v81_r0 k0_t4 = 1#1), ∀ a, (k0_off148 v238_r0) a + S1x64x4096.size a ≤ S4x128x4096.size a := fun v17_r0 v36_r0 v51_r0 v66_r0 v81_r0 k0_t4 v238_r0 k0_hw7 k0_h32 => k0_hw7.2.2.2.2.2.2.2.2.2.2.2.2.2.2.2.2.2.2.2.2.1 k0_h32
theorem k0_off148_wordsbf16 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0), ∀ (k0_h32 : k0_cond32 v17_r0 v36_r0 v51_r0 v66_r0 v81_r0 k0_t4 = 1#1), (Rect.unit (s := S4x128x4096) (k0_off148 v238_r0) S1x64x4096.size (k0_off148_inb v17_r0 v36_r0 v51_r0 v66_r0 v81_r0 k0_t4 v238_r0 k0_hw7 k0_h32)).WholeWords (EltTy.packing .bf16) := fun v17_r0 v36_r0 v51_r0 v66_r0 v81_r0 k0_t4 v238_r0 k0_hw7 k0_h32 => k0_hw7.2.2.2.2.2.2.2.2.2.2.2.2.2.2.2.2.2.2.2.2.2.1 k0_h32 (k0_off148_inb v17_r0 v36_r0 v51_r0 v66_r0 v81_r0 k0_t4 v238_r0 k0_hw7 k0_h32)
theorem k0_off151_inb : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0), ∀ (k0_h33 : k0_cond33 v17_r0 v36_r0 v51_r0 v66_r0 v81_r0 k0_t4 = 1#1), ∀ a, (k0_off151 v238_r0) a + S1x256x4096.size a ≤ S4x7168x4096.size a := fun v17_r0 v36_r0 v51_r0 v66_r0 v81_r0 k0_t4 v238_r0 k0_hw7 k0_h33 => k0_hw7.2.2.2.2.2.2.2.2.2.2.2.2.2.2.2.2.2.2.2.2.2.2.1 k0_h33
theorem k0_off151_wordsfp8e4m3 : ∀ (v17_r0 : BitVec 32) (v36_r0 : BitVec 32) (v51_r0 : BitVec 32) (v66_r0 : BitVec 32) (v81_r0 : BitVec 32) (k0_t4 : Fin (k0_t4_loop v17_r0 v36_r0 v51_r0 v66_r0 v81_r0).trips) (v238_r0 : BitVec 32) (k0_hw7 : k0_chk7 v17_r0 v36_r0 v51_r0 v66_r0 v81_r0 k0_t4 v238_r0), ∀ (k0_h33 : k0_cond33 v17_r0 v36_r0 v51_r0 v66_r0 v81_r0 k0_t4 = 1#1), (Rect.unit (s := S4x7168x4096) (k0_off151 v238_r0) S1x256x4096.size (k0_off151_inb v17_r0 v36_r0 v51_r0 v66_r0 v81_r0 k0_t4 v238_r0 k0_hw7 k0_h33)).WholeWords (EltTy.packing .fp8e4m3) := fun v17_r0 v36_r0 v51_r0 v66_r0 v81_r0 k0_t4 v238_r0 k0_hw7 k0_h33 => k0_hw7.2.2.2.2.2.2.2.2.2.2.2.2.2.2.2.2.2.2.2.2.2.2.2 k0_h33 (k0_off151_inb v17_r0 v36_r0 v51_r0 v66_r0 v81_r0 k0_t4 v238_r0 k0_hw7 k0_h33)

def k0_cond34 : BitVec 1 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c30_i32_334_r0 : BitVec 32 := 30#32
  let v545_r0 : BitVec 1 := Scalar.cmpi .sge v523_r0 c30_i32_334_r0
  let c44_i32_335_r0 : BitVec 32 := 44#32
  let v546_r0 : BitVec 1 := Scalar.cmpi .slt v523_r0 c44_i32_335_r0
  let v547_r0 : BitVec 1 := Scalar.andi v545_r0 v546_r0
  let true_336_r0 : BitVec 1 := 1#1
  let v548_r0 : BitVec 1 := Scalar.andi v547_r0 true_336_r0
  let v549_r0 : BitVec 32 := Scalar.extui v548_r0
  let c0_i32_337_r0 : BitVec 32 := 0#32
  let v550_r0 : BitVec 1 := Scalar.cmpi .ne v549_r0 c0_i32_337_r0
  v550_r0

def k0_mult44 : BitVec 32 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c30_i32_356_r0 : BitVec 32 := 30#32
  let v586_r0 : BitVec 32 := Scalar.subi v523_r0 c30_i32_356_r0
  let c512_i32_357_r0 : BitVec 32 := 512#32
  let v587_r0 : BitVec 32 := Scalar.muli v586_r0 c512_i32_357_r0
  v587_r0
def k0_off152 : Fin 1 → Nat :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c30_i32_356_r0 : BitVec 32 := 30#32
  let v586_r0 : BitVec 32 := Scalar.subi v523_r0 c30_i32_356_r0
  ![v586_r0.toNat]
def k0_off153 : Fin 3 → Nat :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c30_i32_356_r0 : BitVec 32 := 30#32
  let v586_r0 : BitVec 32 := Scalar.subi v523_r0 c30_i32_356_r0
  let c0_i32_358_r0 : BitVec 32 := 0#32
  let c0_i32_359_r0 : BitVec 32 := 0#32
  ![v586_r0.toNat, 0, 0]
def k0_off154 (v233_r0 : BitVec 32) : Fin 3 → Nat :=
  let c0_i32_360_r0 : BitVec 32 := 0#32
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c30_i32_356_r0 : BitVec 32 := 30#32
  let v586_r0 : BitVec 32 := Scalar.subi v523_r0 c30_i32_356_r0
  let c512_i32_357_r0 : BitVec 32 := 512#32
  let v587_r0 : BitVec 32 := Scalar.muli v586_r0 c512_i32_357_r0
  let v588_r0 : BitVec 32 := v587_r0
  ![v233_r0.toNat, 0, v588_r0.toNat]
def k0_mult45 : BitVec 32 :=
  let c13_i32_342_r0 : BitVec 32 := 13#32
  let c0_i32_343_r0 : BitVec 32 := 0#32
  let v556_r0 : BitVec 32 := Scalar.addi c13_i32_342_r0 c0_i32_343_r0
  let c512_i32_344_r0 : BitVec 32 := 512#32
  let v557_r0 : BitVec 32 := Scalar.muli v556_r0 c512_i32_344_r0
  v557_r0
def k0_off155 : Fin 3 → Nat :=
  let c13_i32_347_r0 : BitVec 32 := 13#32
  let c0_i32_348_r0 : BitVec 32 := 0#32
  let v560_r0 : BitVec 32 := Scalar.addi c13_i32_347_r0 c0_i32_348_r0
  let v561_r0 : Index := Scalar.indexCast v560_r0
  let c0_349_r0 : Index := 0#32
  let c0_350_r0 : Index := 0#32
  ![v561_r0.toNat, 0, 0]
def k0_off156 (v233_r0 : BitVec 32) : Fin 2 → Nat :=
  let v566_r0 : Index := Scalar.indexCast v233_r0
  let c13_i32_342_r0 : BitVec 32 := 13#32
  let c0_i32_343_r0 : BitVec 32 := 0#32
  let v556_r0 : BitVec 32 := Scalar.addi c13_i32_342_r0 c0_i32_343_r0
  let c512_i32_344_r0 : BitVec 32 := 512#32
  let v557_r0 : BitVec 32 := Scalar.muli v556_r0 c512_i32_344_r0
  let v558_r0 : BitVec 32 := v557_r0
  let v567_r0 : Index := Scalar.indexCast v558_r0
  ![v566_r0.toNat, v567_r0.toNat]

def k0_chk6_0 (v233_r0 : BitVec 32) : Prop :=
  (∀ a, (k0_off13 v233_r0) a + S1x128x7168.size a ≤ S4x128x7168.size a) ∧
  (∀ (hinb : ∀ a, (k0_off13 v233_r0) a + S1x128x7168.size a ≤ S4x128x7168.size a), (Rect.unit (s := S4x128x7168) (k0_off13 v233_r0) S1x128x7168.size hinb).WholeWords (EltTy.packing .bf16)) ∧
  (∀ a, (k0_off14 v233_r0) a + S1x64x4096.size a ≤ S4x128x4096.size a) ∧
  (∀ (hinb : ∀ a, (k0_off14 v233_r0) a + S1x64x4096.size a ≤ S4x128x4096.size a), (Rect.unit (s := S4x128x4096) (k0_off14 v233_r0) S1x64x4096.size hinb).WholeWords (EltTy.packing .bf16)) ∧
  (∀ (k0_h1 : k0_cond1 = 1#1), ∀ a, (k0_off17 v233_r0) a + S1x256x4096.size a ≤ S4x7168x4096.size a) ∧
  (∀ (k0_h1 : k0_cond1 = 1#1), ∀ (hinb : ∀ a, (k0_off17 v233_r0) a + S1x256x4096.size a ≤ S4x7168x4096.size a), (Rect.unit (s := S4x7168x4096) (k0_off17 v233_r0) S1x256x4096.size hinb).WholeWords (EltTy.packing .fp8e4m3)) ∧
  (∀ (k0_h2 : k0_cond2 = 1#1), ∀ a, (k0_off20 v233_r0) a + S1x256x4096.size a ≤ S4x7168x4096.size a) ∧
  (∀ (k0_h2 : k0_cond2 = 1#1), ∀ (hinb : ∀ a, (k0_off20 v233_r0) a + S1x256x4096.size a ≤ S4x7168x4096.size a), (Rect.unit (s := S4x7168x4096) (k0_off20 v233_r0) S1x256x4096.size hinb).WholeWords (EltTy.packing .fp8e4m3)) ∧
  (∀ (k0_h3 : k0_cond3 = 1#1), ∀ a, (k0_off23 v233_r0) a + S1x256x4096.size a ≤ S4x7168x4096.size a) ∧
  (∀ (k0_h3 : k0_cond3 = 1#1), ∀ (hinb : ∀ a, (k0_off23 v233_r0) a + S1x256x4096.size a ≤ S4x7168x4096.size a), (Rect.unit (s := S4x7168x4096) (k0_off23 v233_r0) S1x256x4096.size hinb).WholeWords (EltTy.packing .fp8e4m3)) ∧
  (∀ (k0_h4 : k0_cond4 = 1#1), ∀ a, (k0_off26 v233_r0) a + S1x256x4096.size a ≤ S4x7168x4096.size a) ∧
  (∀ (k0_h4 : k0_cond4 = 1#1), ∀ (hinb : ∀ a, (k0_off26 v233_r0) a + S1x256x4096.size a ≤ S4x7168x4096.size a), (Rect.unit (s := S4x7168x4096) (k0_off26 v233_r0) S1x256x4096.size hinb).WholeWords (EltTy.packing .fp8e4m3)) ∧
  (∀ (k0_h5 : k0_cond5 = 1#1), ∀ a, (k0_off29 v233_r0) a + S1x256x4096.size a ≤ S4x7168x4096.size a) ∧
  (∀ (k0_h5 : k0_cond5 = 1#1), ∀ (hinb : ∀ a, (k0_off29 v233_r0) a + S1x256x4096.size a ≤ S4x7168x4096.size a), (Rect.unit (s := S4x7168x4096) (k0_off29 v233_r0) S1x256x4096.size hinb).WholeWords (EltTy.packing .fp8e4m3)) ∧
  (∀ (k0_h6 : k0_cond6 = 1#1), ∀ a, (k0_off32 v233_r0) a + S1x256x4096.size a ≤ S4x7168x4096.size a) ∧
  (∀ (k0_h6 : k0_cond6 = 1#1), ∀ (hinb : ∀ a, (k0_off32 v233_r0) a + S1x256x4096.size a ≤ S4x7168x4096.size a), (Rect.unit (s := S4x7168x4096) (k0_off32 v233_r0) S1x256x4096.size hinb).WholeWords (EltTy.packing .fp8e4m3)) ∧
  (∀ k0_t5 : Fin k0_t5_loop.trips, ∀ (r : Fin 4), ∀ a, (k0_off35 v233_r0 k0_t5 (BitVec.ofNat 32 r.val)) a + S1x256x4096.size a ≤ S4x7168x4096.size a) ∧
  (∀ k0_t5 : Fin k0_t5_loop.trips, ∀ (r : Fin 4), ∀ (hinb : ∀ a, (k0_off35 v233_r0 k0_t5 (BitVec.ofNat 32 r.val)) a + S1x256x4096.size a ≤ S4x7168x4096.size a), (Rect.unit (s := S4x7168x4096) (k0_off35 v233_r0 k0_t5 (BitVec.ofNat 32 r.val)) S1x256x4096.size hinb).WholeWords (EltTy.packing .fp8e4m3)) ∧
  (∀ k0_t5 : Fin k0_t5_loop.trips, ∀ (k0_h7 : k0_cond7 k0_t5 = 1#1), ∀ a, (k0_off38 v233_r0 k0_t5) a + S1x256x4096.size a ≤ S4x7168x4096.size a) ∧
  (∀ k0_t5 : Fin k0_t5_loop.trips, ∀ (k0_h7 : k0_cond7 k0_t5 = 1#1), ∀ (hinb : ∀ a, (k0_off38 v233_r0 k0_t5) a + S1x256x4096.size a ≤ S4x7168x4096.size a), (Rect.unit (s := S4x7168x4096) (k0_off38 v233_r0 k0_t5) S1x256x4096.size hinb).WholeWords (EltTy.packing .fp8e4m3)) ∧
  (∀ k0_t5 : Fin k0_t5_loop.trips, ∀ (k0_h8 : k0_cond8 k0_t5 = 1#1), ∀ a, (k0_off41 v233_r0 k0_t5) a + S1x2048x512.size a ≤ S4x2048x7168.size a) ∧
  (∀ k0_t5 : Fin k0_t5_loop.trips, ∀ (k0_h8 : k0_cond8 k0_t5 = 1#1), ∀ (hinb : ∀ a, (k0_off41 v233_r0 k0_t5) a + S1x2048x512.size a ≤ S4x2048x7168.size a), (Rect.unit (s := S4x2048x7168) (k0_off41 v233_r0 k0_t5) S1x2048x512.size hinb).WholeWords (EltTy.packing .fp8e4m3)) ∧
  (∀ k0_t5 : Fin k0_t5_loop.trips, ∀ (k0_h9 : k0_cond9 k0_t5 = 1#1), ∀ a, (k0_off44 v233_r0 k0_t5) a + S1x256x4096.size a ≤ S4x7168x4096.size a) ∧
  (∀ k0_t5 : Fin k0_t5_loop.trips, ∀ (k0_h9 : k0_cond9 k0_t5 = 1#1), ∀ (hinb : ∀ a, (k0_off44 v233_r0 k0_t5) a + S1x256x4096.size a ≤ S4x7168x4096.size a), (Rect.unit (s := S4x7168x4096) (k0_off44 v233_r0 k0_t5) S1x256x4096.size hinb).WholeWords (EltTy.packing .fp8e4m3)) ∧
  (∀ k0_t5 : Fin k0_t5_loop.trips, ∀ (k0_h10 : k0_cond10 k0_t5 = 1#1), ∀ a, (k0_off47 v233_r0 k0_t5) a + S1x2048x512.size a ≤ S4x2048x7168.size a) ∧
  (∀ k0_t5 : Fin k0_t5_loop.trips, ∀ (k0_h10 : k0_cond10 k0_t5 = 1#1), ∀ (hinb : ∀ a, (k0_off47 v233_r0 k0_t5) a + S1x2048x512.size a ≤ S4x2048x7168.size a), (Rect.unit (s := S4x2048x7168) (k0_off47 v233_r0 k0_t5) S1x2048x512.size hinb).WholeWords (EltTy.packing .fp8e4m3)) ∧
  (∀ k0_t5 : Fin k0_t5_loop.trips, ∀ (k0_h11 : k0_cond11 k0_t5 = 1#1), ∀ a, (k0_off50 v233_r0 k0_t5) a + S1x256x4096.size a ≤ S4x7168x4096.size a) ∧
  (∀ k0_t5 : Fin k0_t5_loop.trips, ∀ (k0_h11 : k0_cond11 k0_t5 = 1#1), ∀ (hinb : ∀ a, (k0_off50 v233_r0 k0_t5) a + S1x256x4096.size a ≤ S4x7168x4096.size a), (Rect.unit (s := S4x7168x4096) (k0_off50 v233_r0 k0_t5) S1x256x4096.size hinb).WholeWords (EltTy.packing .fp8e4m3)) ∧
  (∀ k0_t5 : Fin k0_t5_loop.trips, ∀ (k0_h12 : k0_cond12 k0_t5 = 1#1), ∀ a, (k0_off53 v233_r0 k0_t5) a + S1x2048x512.size a ≤ S4x2048x7168.size a) ∧
  (∀ k0_t5 : Fin k0_t5_loop.trips, ∀ (k0_h12 : k0_cond12 k0_t5 = 1#1), ∀ (hinb : ∀ a, (k0_off53 v233_r0 k0_t5) a + S1x2048x512.size a ≤ S4x2048x7168.size a), (Rect.unit (s := S4x2048x7168) (k0_off53 v233_r0 k0_t5) S1x2048x512.size hinb).WholeWords (EltTy.packing .fp8e4m3)) ∧
  (∀ k0_t5 : Fin k0_t5_loop.trips, ∀ (k0_h13 : k0_cond13 k0_t5 = 1#1), ∀ a, (k0_off56 v233_r0 k0_t5) a + S1x256x4096.size a ≤ S4x7168x4096.size a) ∧
  (∀ k0_t5 : Fin k0_t5_loop.trips, ∀ (k0_h13 : k0_cond13 k0_t5 = 1#1), ∀ (hinb : ∀ a, (k0_off56 v233_r0 k0_t5) a + S1x256x4096.size a ≤ S4x7168x4096.size a), (Rect.unit (s := S4x7168x4096) (k0_off56 v233_r0 k0_t5) S1x256x4096.size hinb).WholeWords (EltTy.packing .fp8e4m3))
def k0_chk6_1 (v233_r0 : BitVec 32) : Prop :=
  (∀ k0_t5 : Fin k0_t5_loop.trips, ∀ (k0_h14 : k0_cond14 k0_t5 = 1#1), ∀ a, (k0_off59 v233_r0 k0_t5) a + S1x2048x512.size a ≤ S4x2048x7168.size a) ∧
  (∀ k0_t5 : Fin k0_t5_loop.trips, ∀ (k0_h14 : k0_cond14 k0_t5 = 1#1), ∀ (hinb : ∀ a, (k0_off59 v233_r0 k0_t5) a + S1x2048x512.size a ≤ S4x2048x7168.size a), (Rect.unit (s := S4x2048x7168) (k0_off59 v233_r0 k0_t5) S1x2048x512.size hinb).WholeWords (EltTy.packing .fp8e4m3)) ∧
  (∀ k0_t5 : Fin k0_t5_loop.trips, ∀ a, (k0_off60 v233_r0 k0_t5) a + S1x128x512.size a ≤ S4x128x4096.size a) ∧
  (∀ k0_t6 : Fin k0_t6_loop.trips, ∀ (r : Fin 2), ∀ a, (k0_off73 v233_r0 k0_t6 (BitVec.ofNat 32 r.val)) a + S1x256x4096.size a ≤ S4x7168x4096.size a) ∧
  (∀ k0_t6 : Fin k0_t6_loop.trips, ∀ (r : Fin 2), ∀ (hinb : ∀ a, (k0_off73 v233_r0 k0_t6 (BitVec.ofNat 32 r.val)) a + S1x256x4096.size a ≤ S4x7168x4096.size a), (Rect.unit (s := S4x7168x4096) (k0_off73 v233_r0 k0_t6 (BitVec.ofNat 32 r.val)) S1x256x4096.size hinb).WholeWords (EltTy.packing .fp8e4m3)) ∧
  (∀ k0_t6 : Fin k0_t6_loop.trips, ∀ (k0_h15 : k0_cond15 k0_t6 = 1#1), ∀ a, (k0_off76 v233_r0 k0_t6) a + S1x256x4096.size a ≤ S4x7168x4096.size a) ∧
  (∀ k0_t6 : Fin k0_t6_loop.trips, ∀ (k0_h15 : k0_cond15 k0_t6 = 1#1), ∀ (hinb : ∀ a, (k0_off76 v233_r0 k0_t6) a + S1x256x4096.size a ≤ S4x7168x4096.size a), (Rect.unit (s := S4x7168x4096) (k0_off76 v233_r0 k0_t6) S1x256x4096.size hinb).WholeWords (EltTy.packing .fp8e4m3)) ∧
  (∀ k0_t6 : Fin k0_t6_loop.trips, ∀ (k0_h16 : k0_cond16 k0_t6 = 1#1), ∀ a, (k0_off79 v233_r0 k0_t6) a + S1x2048x512.size a ≤ S4x2048x7168.size a) ∧
  (∀ k0_t6 : Fin k0_t6_loop.trips, ∀ (k0_h16 : k0_cond16 k0_t6 = 1#1), ∀ (hinb : ∀ a, (k0_off79 v233_r0 k0_t6) a + S1x2048x512.size a ≤ S4x2048x7168.size a), (Rect.unit (s := S4x2048x7168) (k0_off79 v233_r0 k0_t6) S1x2048x512.size hinb).WholeWords (EltTy.packing .fp8e4m3)) ∧
  (∀ k0_t6 : Fin k0_t6_loop.trips, ∀ (k0_h17 : k0_cond17 k0_t6 = 1#1), ∀ a, (k0_off82 v233_r0 k0_t6) a + S1x256x4096.size a ≤ S4x7168x4096.size a) ∧
  (∀ k0_t6 : Fin k0_t6_loop.trips, ∀ (k0_h17 : k0_cond17 k0_t6 = 1#1), ∀ (hinb : ∀ a, (k0_off82 v233_r0 k0_t6) a + S1x256x4096.size a ≤ S4x7168x4096.size a), (Rect.unit (s := S4x7168x4096) (k0_off82 v233_r0 k0_t6) S1x256x4096.size hinb).WholeWords (EltTy.packing .fp8e4m3)) ∧
  (∀ k0_t6 : Fin k0_t6_loop.trips, ∀ (k0_h18 : k0_cond18 k0_t6 = 1#1), ∀ a, (k0_off85 v233_r0 k0_t6) a + S1x2048x512.size a ≤ S4x2048x7168.size a) ∧
  (∀ k0_t6 : Fin k0_t6_loop.trips, ∀ (k0_h18 : k0_cond18 k0_t6 = 1#1), ∀ (hinb : ∀ a, (k0_off85 v233_r0 k0_t6) a + S1x2048x512.size a ≤ S4x2048x7168.size a), (Rect.unit (s := S4x2048x7168) (k0_off85 v233_r0 k0_t6) S1x2048x512.size hinb).WholeWords (EltTy.packing .fp8e4m3)) ∧
  (∀ k0_t6 : Fin k0_t6_loop.trips, ∀ a, (k0_off86 v233_r0 k0_t6) a + S1x128x512.size a ≤ S4x128x4096.size a) ∧
  (∀ a, (k0_off97 v233_r0) a + S1x512.size a ≤ S4x4096.size a) ∧
  (∀ a, (k0_off98 v233_r0) a + S1x512.size a ≤ S4x4096.size a) ∧
  (∀ a, (k0_off99 v233_r0) a + S1x512.size a ≤ S4x4096.size a) ∧
  (∀ a, (k0_off100 v233_r0) a + S1x512.size a ≤ S4x4096.size a) ∧
  (∀ a, (k0_off101 v233_r0) a + S1x512.size a ≤ S4x4096.size a) ∧
  (∀ a, (k0_off102 v233_r0) a + S1x512.size a ≤ S4x4096.size a) ∧
  (∀ a, (k0_off103 v233_r0) a + S1x512.size a ≤ S4x4096.size a) ∧
  (∀ a, (k0_off104 v233_r0) a + S1x512.size a ≤ S4x4096.size a) ∧
  (∀ k0_t7 : Fin k0_t7_loop.trips, ∀ a, (k0_off107 v233_r0 k0_t7) a + S1x2048x512.size a ≤ S4x2048x7168.size a) ∧
  (∀ k0_t7 : Fin k0_t7_loop.trips, ∀ (hinb : ∀ a, (k0_off107 v233_r0 k0_t7) a + S1x2048x512.size a ≤ S4x2048x7168.size a), (Rect.unit (s := S4x2048x7168) (k0_off107 v233_r0 k0_t7) S1x2048x512.size hinb).WholeWords (EltTy.packing .fp8e4m3)) ∧
  (∀ k0_t7 : Fin k0_t7_loop.trips, ∀ (k0_h22 : k0_cond22 k0_t7 = 1#1), ∀ a, (k0_off115 v233_r0 k0_t7) a + S1x2048x512.size a ≤ S4x2048x7168.size a) ∧
  (∀ k0_t7 : Fin k0_t7_loop.trips, ∀ (k0_h22 : k0_cond22 k0_t7 = 1#1), ∀ (hinb : ∀ a, (k0_off115 v233_r0 k0_t7) a + S1x2048x512.size a ≤ S4x2048x7168.size a), (Rect.unit (s := S4x2048x7168) (k0_off115 v233_r0 k0_t7) S1x2048x512.size hinb).WholeWords (EltTy.packing .fp8e4m3)) ∧
  (∀ k0_t7 : Fin k0_t7_loop.trips, ∀ a, (k0_off118 v233_r0 k0_t7) a + S1x2048x512.size a ≤ S4x2048x7168.size a) ∧
  (∀ k0_t7 : Fin k0_t7_loop.trips, ∀ (hinb : ∀ a, (k0_off118 v233_r0 k0_t7) a + S1x2048x512.size a ≤ S4x2048x7168.size a), (Rect.unit (s := S4x2048x7168) (k0_off118 v233_r0 k0_t7) S1x2048x512.size hinb).WholeWords (EltTy.packing .fp8e4m3)) ∧
  (∀ k0_t7 : Fin k0_t7_loop.trips, ∀ (k0_h26 : k0_cond26 k0_t7 = 1#1), ∀ a, (k0_off126 v233_r0 k0_t7) a + S1x2048x512.size a ≤ S4x2048x7168.size a) ∧
  (∀ k0_t7 : Fin k0_t7_loop.trips, ∀ (k0_h26 : k0_cond26 k0_t7 = 1#1), ∀ (hinb : ∀ a, (k0_off126 v233_r0 k0_t7) a + S1x2048x512.size a ≤ S4x2048x7168.size a), (Rect.unit (s := S4x2048x7168) (k0_off126 v233_r0 k0_t7) S1x2048x512.size hinb).WholeWords (EltTy.packing .fp8e4m3)) ∧
  (∀ k0_t7 : Fin k0_t7_loop.trips, ∀ (r : Fin 2), ∀ a, (k0_off128 v233_r0 k0_t7 (BitVec.ofNat 32 r.val)) a + S1x512.size a ≤ S4x7168.size a) ∧
  (∀ k0_t8 : Fin k0_t8_loop.trips, ∀ a, (k0_off132 v233_r0 k0_t8) a + S1x2048x512.size a ≤ S4x2048x7168.size a)
def k0_chk6_2 (v233_r0 : BitVec 32) : Prop :=
  (∀ k0_t8 : Fin k0_t8_loop.trips, ∀ (hinb : ∀ a, (k0_off132 v233_r0 k0_t8) a + S1x2048x512.size a ≤ S4x2048x7168.size a), (Rect.unit (s := S4x2048x7168) (k0_off132 v233_r0 k0_t8) S1x2048x512.size hinb).WholeWords (EltTy.packing .fp8e4m3)) ∧
  (∀ k0_t8 : Fin k0_t8_loop.trips, ∀ (k0_h30 : k0_cond30 k0_t8 = 1#1), ∀ a, (k0_off140 v233_r0 k0_t8) a + S1x2048x512.size a ≤ S4x2048x7168.size a) ∧
  (∀ k0_t8 : Fin k0_t8_loop.trips, ∀ (k0_h30 : k0_cond30 k0_t8 = 1#1), ∀ (hinb : ∀ a, (k0_off140 v233_r0 k0_t8) a + S1x2048x512.size a ≤ S4x2048x7168.size a), (Rect.unit (s := S4x2048x7168) (k0_off140 v233_r0 k0_t8) S1x2048x512.size hinb).WholeWords (EltTy.packing .fp8e4m3)) ∧
  (∀ k0_t8 : Fin k0_t8_loop.trips, ∀ a, (k0_off142 v233_r0 k0_t8) a + S1x512.size a ≤ S4x7168.size a) ∧
  (∀ a, (k0_off146 v233_r0) a + S1x2048x512.size a ≤ S4x2048x7168.size a) ∧
  (∀ (hinb : ∀ a, (k0_off146 v233_r0) a + S1x2048x512.size a ≤ S4x2048x7168.size a), (Rect.unit (s := S4x2048x7168) (k0_off146 v233_r0) S1x2048x512.size hinb).WholeWords (EltTy.packing .fp8e4m3)) ∧
  (∀ (k0_h34 : k0_cond34 = 1#1), ∀ a, (k0_off154 v233_r0) a + S1x2048x512.size a ≤ S4x2048x7168.size a) ∧
  (∀ (k0_h34 : k0_cond34 = 1#1), ∀ (hinb : ∀ a, (k0_off154 v233_r0) a + S1x2048x512.size a ≤ S4x2048x7168.size a), (Rect.unit (s := S4x2048x7168) (k0_off154 v233_r0) S1x2048x512.size hinb).WholeWords (EltTy.packing .fp8e4m3)) ∧
  (∀ a, (k0_off156 v233_r0) a + S1x512.size a ≤ S4x7168.size a)
def k0_chk6 (v233_r0 : BitVec 32) : Prop :=
  k0_chk6_0 v233_r0 ∧
  k0_chk6_1 v233_r0 ∧
  k0_chk6_2 v233_r0
theorem k0_off13_inb : ∀ (v233_r0 : BitVec 32) (k0_hw6 : k0_chk6 v233_r0), ∀ a, (k0_off13 v233_r0) a + S1x128x7168.size a ≤ S4x128x7168.size a := fun v233_r0 k0_hw6 => k0_hw6.1.1
theorem k0_off13_wordsbf16 : ∀ (v233_r0 : BitVec 32) (k0_hw6 : k0_chk6 v233_r0), (Rect.unit (s := S4x128x7168) (k0_off13 v233_r0) S1x128x7168.size (k0_off13_inb v233_r0 k0_hw6)).WholeWords (EltTy.packing .bf16) := fun v233_r0 k0_hw6 => k0_hw6.1.2.1 (k0_off13_inb v233_r0 k0_hw6)
theorem k0_off14_inb : ∀ (v233_r0 : BitVec 32) (k0_hw6 : k0_chk6 v233_r0), ∀ a, (k0_off14 v233_r0) a + S1x64x4096.size a ≤ S4x128x4096.size a := fun v233_r0 k0_hw6 => k0_hw6.1.2.2.1
theorem k0_off14_wordsbf16 : ∀ (v233_r0 : BitVec 32) (k0_hw6 : k0_chk6 v233_r0), (Rect.unit (s := S4x128x4096) (k0_off14 v233_r0) S1x64x4096.size (k0_off14_inb v233_r0 k0_hw6)).WholeWords (EltTy.packing .bf16) := fun v233_r0 k0_hw6 => k0_hw6.1.2.2.2.1 (k0_off14_inb v233_r0 k0_hw6)
theorem k0_off17_inb : ∀ (v233_r0 : BitVec 32) (k0_hw6 : k0_chk6 v233_r0), ∀ (k0_h1 : k0_cond1 = 1#1), ∀ a, (k0_off17 v233_r0) a + S1x256x4096.size a ≤ S4x7168x4096.size a := fun v233_r0 k0_hw6 k0_h1 => k0_hw6.1.2.2.2.2.1 k0_h1
theorem k0_off17_wordsfp8e4m3 : ∀ (v233_r0 : BitVec 32) (k0_hw6 : k0_chk6 v233_r0), ∀ (k0_h1 : k0_cond1 = 1#1), (Rect.unit (s := S4x7168x4096) (k0_off17 v233_r0) S1x256x4096.size (k0_off17_inb v233_r0 k0_hw6 k0_h1)).WholeWords (EltTy.packing .fp8e4m3) := fun v233_r0 k0_hw6 k0_h1 => k0_hw6.1.2.2.2.2.2.1 k0_h1 (k0_off17_inb v233_r0 k0_hw6 k0_h1)
theorem k0_off20_inb : ∀ (v233_r0 : BitVec 32) (k0_hw6 : k0_chk6 v233_r0), ∀ (k0_h2 : k0_cond2 = 1#1), ∀ a, (k0_off20 v233_r0) a + S1x256x4096.size a ≤ S4x7168x4096.size a := fun v233_r0 k0_hw6 k0_h2 => k0_hw6.1.2.2.2.2.2.2.1 k0_h2
theorem k0_off20_wordsfp8e4m3 : ∀ (v233_r0 : BitVec 32) (k0_hw6 : k0_chk6 v233_r0), ∀ (k0_h2 : k0_cond2 = 1#1), (Rect.unit (s := S4x7168x4096) (k0_off20 v233_r0) S1x256x4096.size (k0_off20_inb v233_r0 k0_hw6 k0_h2)).WholeWords (EltTy.packing .fp8e4m3) := fun v233_r0 k0_hw6 k0_h2 => k0_hw6.1.2.2.2.2.2.2.2.1 k0_h2 (k0_off20_inb v233_r0 k0_hw6 k0_h2)
theorem k0_off23_inb : ∀ (v233_r0 : BitVec 32) (k0_hw6 : k0_chk6 v233_r0), ∀ (k0_h3 : k0_cond3 = 1#1), ∀ a, (k0_off23 v233_r0) a + S1x256x4096.size a ≤ S4x7168x4096.size a := fun v233_r0 k0_hw6 k0_h3 => k0_hw6.1.2.2.2.2.2.2.2.2.1 k0_h3
theorem k0_off23_wordsfp8e4m3 : ∀ (v233_r0 : BitVec 32) (k0_hw6 : k0_chk6 v233_r0), ∀ (k0_h3 : k0_cond3 = 1#1), (Rect.unit (s := S4x7168x4096) (k0_off23 v233_r0) S1x256x4096.size (k0_off23_inb v233_r0 k0_hw6 k0_h3)).WholeWords (EltTy.packing .fp8e4m3) := fun v233_r0 k0_hw6 k0_h3 => k0_hw6.1.2.2.2.2.2.2.2.2.2.1 k0_h3 (k0_off23_inb v233_r0 k0_hw6 k0_h3)
theorem k0_off26_inb : ∀ (v233_r0 : BitVec 32) (k0_hw6 : k0_chk6 v233_r0), ∀ (k0_h4 : k0_cond4 = 1#1), ∀ a, (k0_off26 v233_r0) a + S1x256x4096.size a ≤ S4x7168x4096.size a := fun v233_r0 k0_hw6 k0_h4 => k0_hw6.1.2.2.2.2.2.2.2.2.2.2.1 k0_h4
theorem k0_off26_wordsfp8e4m3 : ∀ (v233_r0 : BitVec 32) (k0_hw6 : k0_chk6 v233_r0), ∀ (k0_h4 : k0_cond4 = 1#1), (Rect.unit (s := S4x7168x4096) (k0_off26 v233_r0) S1x256x4096.size (k0_off26_inb v233_r0 k0_hw6 k0_h4)).WholeWords (EltTy.packing .fp8e4m3) := fun v233_r0 k0_hw6 k0_h4 => k0_hw6.1.2.2.2.2.2.2.2.2.2.2.2.1 k0_h4 (k0_off26_inb v233_r0 k0_hw6 k0_h4)
theorem k0_off29_inb : ∀ (v233_r0 : BitVec 32) (k0_hw6 : k0_chk6 v233_r0), ∀ (k0_h5 : k0_cond5 = 1#1), ∀ a, (k0_off29 v233_r0) a + S1x256x4096.size a ≤ S4x7168x4096.size a := fun v233_r0 k0_hw6 k0_h5 => k0_hw6.1.2.2.2.2.2.2.2.2.2.2.2.2.1 k0_h5
theorem k0_off29_wordsfp8e4m3 : ∀ (v233_r0 : BitVec 32) (k0_hw6 : k0_chk6 v233_r0), ∀ (k0_h5 : k0_cond5 = 1#1), (Rect.unit (s := S4x7168x4096) (k0_off29 v233_r0) S1x256x4096.size (k0_off29_inb v233_r0 k0_hw6 k0_h5)).WholeWords (EltTy.packing .fp8e4m3) := fun v233_r0 k0_hw6 k0_h5 => k0_hw6.1.2.2.2.2.2.2.2.2.2.2.2.2.2.1 k0_h5 (k0_off29_inb v233_r0 k0_hw6 k0_h5)
theorem k0_off32_inb : ∀ (v233_r0 : BitVec 32) (k0_hw6 : k0_chk6 v233_r0), ∀ (k0_h6 : k0_cond6 = 1#1), ∀ a, (k0_off32 v233_r0) a + S1x256x4096.size a ≤ S4x7168x4096.size a := fun v233_r0 k0_hw6 k0_h6 => k0_hw6.1.2.2.2.2.2.2.2.2.2.2.2.2.2.2.1 k0_h6
theorem k0_off32_wordsfp8e4m3 : ∀ (v233_r0 : BitVec 32) (k0_hw6 : k0_chk6 v233_r0), ∀ (k0_h6 : k0_cond6 = 1#1), (Rect.unit (s := S4x7168x4096) (k0_off32 v233_r0) S1x256x4096.size (k0_off32_inb v233_r0 k0_hw6 k0_h6)).WholeWords (EltTy.packing .fp8e4m3) := fun v233_r0 k0_hw6 k0_h6 => k0_hw6.1.2.2.2.2.2.2.2.2.2.2.2.2.2.2.2.1 k0_h6 (k0_off32_inb v233_r0 k0_hw6 k0_h6)
theorem k0_off35_inb : ∀ (v233_r0 : BitVec 32) (k0_hw6 : k0_chk6 v233_r0) (k0_t5 : Fin k0_t5_loop.trips), ∀ (r : Fin 4), ∀ a, (k0_off35 v233_r0 k0_t5 (BitVec.ofNat 32 r.val)) a + S1x256x4096.size a ≤ S4x7168x4096.size a := fun v233_r0 k0_hw6 k0_t5 r => k0_hw6.1.2.2.2.2.2.2.2.2.2.2.2.2.2.2.2.2.1 k0_t5 r
theorem k0_off35_wordsfp8e4m3 : ∀ (v233_r0 : BitVec 32) (k0_hw6 : k0_chk6 v233_r0) (k0_t5 : Fin k0_t5_loop.trips), ∀ (r : Fin 4), (Rect.unit (s := S4x7168x4096) (k0_off35 v233_r0 k0_t5 (BitVec.ofNat 32 r.val)) S1x256x4096.size (k0_off35_inb v233_r0 k0_hw6 k0_t5 r)).WholeWords (EltTy.packing .fp8e4m3) := fun v233_r0 k0_hw6 k0_t5 r => k0_hw6.1.2.2.2.2.2.2.2.2.2.2.2.2.2.2.2.2.2.1 k0_t5 r (k0_off35_inb v233_r0 k0_hw6 k0_t5 r)
theorem k0_off38_inb : ∀ (v233_r0 : BitVec 32) (k0_hw6 : k0_chk6 v233_r0) (k0_t5 : Fin k0_t5_loop.trips), ∀ (k0_h7 : k0_cond7 k0_t5 = 1#1), ∀ a, (k0_off38 v233_r0 k0_t5) a + S1x256x4096.size a ≤ S4x7168x4096.size a := fun v233_r0 k0_hw6 k0_t5 k0_h7 => k0_hw6.1.2.2.2.2.2.2.2.2.2.2.2.2.2.2.2.2.2.2.1 k0_t5 k0_h7
theorem k0_off38_wordsfp8e4m3 : ∀ (v233_r0 : BitVec 32) (k0_hw6 : k0_chk6 v233_r0) (k0_t5 : Fin k0_t5_loop.trips), ∀ (k0_h7 : k0_cond7 k0_t5 = 1#1), (Rect.unit (s := S4x7168x4096) (k0_off38 v233_r0 k0_t5) S1x256x4096.size (k0_off38_inb v233_r0 k0_hw6 k0_t5 k0_h7)).WholeWords (EltTy.packing .fp8e4m3) := fun v233_r0 k0_hw6 k0_t5 k0_h7 => k0_hw6.1.2.2.2.2.2.2.2.2.2.2.2.2.2.2.2.2.2.2.2.1 k0_t5 k0_h7 (k0_off38_inb v233_r0 k0_hw6 k0_t5 k0_h7)
theorem k0_off41_inb : ∀ (v233_r0 : BitVec 32) (k0_hw6 : k0_chk6 v233_r0) (k0_t5 : Fin k0_t5_loop.trips), ∀ (k0_h8 : k0_cond8 k0_t5 = 1#1), ∀ a, (k0_off41 v233_r0 k0_t5) a + S1x2048x512.size a ≤ S4x2048x7168.size a := fun v233_r0 k0_hw6 k0_t5 k0_h8 => k0_hw6.1.2.2.2.2.2.2.2.2.2.2.2.2.2.2.2.2.2.2.2.2.1 k0_t5 k0_h8
theorem k0_off41_wordsfp8e4m3 : ∀ (v233_r0 : BitVec 32) (k0_hw6 : k0_chk6 v233_r0) (k0_t5 : Fin k0_t5_loop.trips), ∀ (k0_h8 : k0_cond8 k0_t5 = 1#1), (Rect.unit (s := S4x2048x7168) (k0_off41 v233_r0 k0_t5) S1x2048x512.size (k0_off41_inb v233_r0 k0_hw6 k0_t5 k0_h8)).WholeWords (EltTy.packing .fp8e4m3) := fun v233_r0 k0_hw6 k0_t5 k0_h8 => k0_hw6.1.2.2.2.2.2.2.2.2.2.2.2.2.2.2.2.2.2.2.2.2.2.1 k0_t5 k0_h8 (k0_off41_inb v233_r0 k0_hw6 k0_t5 k0_h8)
theorem k0_off44_inb : ∀ (v233_r0 : BitVec 32) (k0_hw6 : k0_chk6 v233_r0) (k0_t5 : Fin k0_t5_loop.trips), ∀ (k0_h9 : k0_cond9 k0_t5 = 1#1), ∀ a, (k0_off44 v233_r0 k0_t5) a + S1x256x4096.size a ≤ S4x7168x4096.size a := fun v233_r0 k0_hw6 k0_t5 k0_h9 => k0_hw6.1.2.2.2.2.2.2.2.2.2.2.2.2.2.2.2.2.2.2.2.2.2.2.1 k0_t5 k0_h9
theorem k0_off44_wordsfp8e4m3 : ∀ (v233_r0 : BitVec 32) (k0_hw6 : k0_chk6 v233_r0) (k0_t5 : Fin k0_t5_loop.trips), ∀ (k0_h9 : k0_cond9 k0_t5 = 1#1), (Rect.unit (s := S4x7168x4096) (k0_off44 v233_r0 k0_t5) S1x256x4096.size (k0_off44_inb v233_r0 k0_hw6 k0_t5 k0_h9)).WholeWords (EltTy.packing .fp8e4m3) := fun v233_r0 k0_hw6 k0_t5 k0_h9 => k0_hw6.1.2.2.2.2.2.2.2.2.2.2.2.2.2.2.2.2.2.2.2.2.2.2.2.1 k0_t5 k0_h9 (k0_off44_inb v233_r0 k0_hw6 k0_t5 k0_h9)
theorem k0_off47_inb : ∀ (v233_r0 : BitVec 32) (k0_hw6 : k0_chk6 v233_r0) (k0_t5 : Fin k0_t5_loop.trips), ∀ (k0_h10 : k0_cond10 k0_t5 = 1#1), ∀ a, (k0_off47 v233_r0 k0_t5) a + S1x2048x512.size a ≤ S4x2048x7168.size a := fun v233_r0 k0_hw6 k0_t5 k0_h10 => k0_hw6.1.2.2.2.2.2.2.2.2.2.2.2.2.2.2.2.2.2.2.2.2.2.2.2.2.1 k0_t5 k0_h10
theorem k0_off47_wordsfp8e4m3 : ∀ (v233_r0 : BitVec 32) (k0_hw6 : k0_chk6 v233_r0) (k0_t5 : Fin k0_t5_loop.trips), ∀ (k0_h10 : k0_cond10 k0_t5 = 1#1), (Rect.unit (s := S4x2048x7168) (k0_off47 v233_r0 k0_t5) S1x2048x512.size (k0_off47_inb v233_r0 k0_hw6 k0_t5 k0_h10)).WholeWords (EltTy.packing .fp8e4m3) := fun v233_r0 k0_hw6 k0_t5 k0_h10 => k0_hw6.1.2.2.2.2.2.2.2.2.2.2.2.2.2.2.2.2.2.2.2.2.2.2.2.2.2.1 k0_t5 k0_h10 (k0_off47_inb v233_r0 k0_hw6 k0_t5 k0_h10)
theorem k0_off50_inb : ∀ (v233_r0 : BitVec 32) (k0_hw6 : k0_chk6 v233_r0) (k0_t5 : Fin k0_t5_loop.trips), ∀ (k0_h11 : k0_cond11 k0_t5 = 1#1), ∀ a, (k0_off50 v233_r0 k0_t5) a + S1x256x4096.size a ≤ S4x7168x4096.size a := fun v233_r0 k0_hw6 k0_t5 k0_h11 => k0_hw6.1.2.2.2.2.2.2.2.2.2.2.2.2.2.2.2.2.2.2.2.2.2.2.2.2.2.2.1 k0_t5 k0_h11
theorem k0_off50_wordsfp8e4m3 : ∀ (v233_r0 : BitVec 32) (k0_hw6 : k0_chk6 v233_r0) (k0_t5 : Fin k0_t5_loop.trips), ∀ (k0_h11 : k0_cond11 k0_t5 = 1#1), (Rect.unit (s := S4x7168x4096) (k0_off50 v233_r0 k0_t5) S1x256x4096.size (k0_off50_inb v233_r0 k0_hw6 k0_t5 k0_h11)).WholeWords (EltTy.packing .fp8e4m3) := fun v233_r0 k0_hw6 k0_t5 k0_h11 => k0_hw6.1.2.2.2.2.2.2.2.2.2.2.2.2.2.2.2.2.2.2.2.2.2.2.2.2.2.2.2.1 k0_t5 k0_h11 (k0_off50_inb v233_r0 k0_hw6 k0_t5 k0_h11)
theorem k0_off53_inb : ∀ (v233_r0 : BitVec 32) (k0_hw6 : k0_chk6 v233_r0) (k0_t5 : Fin k0_t5_loop.trips), ∀ (k0_h12 : k0_cond12 k0_t5 = 1#1), ∀ a, (k0_off53 v233_r0 k0_t5) a + S1x2048x512.size a ≤ S4x2048x7168.size a := fun v233_r0 k0_hw6 k0_t5 k0_h12 => k0_hw6.1.2.2.2.2.2.2.2.2.2.2.2.2.2.2.2.2.2.2.2.2.2.2.2.2.2.2.2.2.1 k0_t5 k0_h12
theorem k0_off53_wordsfp8e4m3 : ∀ (v233_r0 : BitVec 32) (k0_hw6 : k0_chk6 v233_r0) (k0_t5 : Fin k0_t5_loop.trips), ∀ (k0_h12 : k0_cond12 k0_t5 = 1#1), (Rect.unit (s := S4x2048x7168) (k0_off53 v233_r0 k0_t5) S1x2048x512.size (k0_off53_inb v233_r0 k0_hw6 k0_t5 k0_h12)).WholeWords (EltTy.packing .fp8e4m3) := fun v233_r0 k0_hw6 k0_t5 k0_h12 => k0_hw6.1.2.2.2.2.2.2.2.2.2.2.2.2.2.2.2.2.2.2.2.2.2.2.2.2.2.2.2.2.2.1 k0_t5 k0_h12 (k0_off53_inb v233_r0 k0_hw6 k0_t5 k0_h12)
theorem k0_off56_inb : ∀ (v233_r0 : BitVec 32) (k0_hw6 : k0_chk6 v233_r0) (k0_t5 : Fin k0_t5_loop.trips), ∀ (k0_h13 : k0_cond13 k0_t5 = 1#1), ∀ a, (k0_off56 v233_r0 k0_t5) a + S1x256x4096.size a ≤ S4x7168x4096.size a := fun v233_r0 k0_hw6 k0_t5 k0_h13 => k0_hw6.1.2.2.2.2.2.2.2.2.2.2.2.2.2.2.2.2.2.2.2.2.2.2.2.2.2.2.2.2.2.2.1 k0_t5 k0_h13
theorem k0_off56_wordsfp8e4m3 : ∀ (v233_r0 : BitVec 32) (k0_hw6 : k0_chk6 v233_r0) (k0_t5 : Fin k0_t5_loop.trips), ∀ (k0_h13 : k0_cond13 k0_t5 = 1#1), (Rect.unit (s := S4x7168x4096) (k0_off56 v233_r0 k0_t5) S1x256x4096.size (k0_off56_inb v233_r0 k0_hw6 k0_t5 k0_h13)).WholeWords (EltTy.packing .fp8e4m3) := fun v233_r0 k0_hw6 k0_t5 k0_h13 => k0_hw6.1.2.2.2.2.2.2.2.2.2.2.2.2.2.2.2.2.2.2.2.2.2.2.2.2.2.2.2.2.2.2.2 k0_t5 k0_h13 (k0_off56_inb v233_r0 k0_hw6 k0_t5 k0_h13)
theorem k0_off59_inb : ∀ (v233_r0 : BitVec 32) (k0_hw6 : k0_chk6 v233_r0) (k0_t5 : Fin k0_t5_loop.trips), ∀ (k0_h14 : k0_cond14 k0_t5 = 1#1), ∀ a, (k0_off59 v233_r0 k0_t5) a + S1x2048x512.size a ≤ S4x2048x7168.size a := fun v233_r0 k0_hw6 k0_t5 k0_h14 => k0_hw6.2.1.1 k0_t5 k0_h14
theorem k0_off59_wordsfp8e4m3 : ∀ (v233_r0 : BitVec 32) (k0_hw6 : k0_chk6 v233_r0) (k0_t5 : Fin k0_t5_loop.trips), ∀ (k0_h14 : k0_cond14 k0_t5 = 1#1), (Rect.unit (s := S4x2048x7168) (k0_off59 v233_r0 k0_t5) S1x2048x512.size (k0_off59_inb v233_r0 k0_hw6 k0_t5 k0_h14)).WholeWords (EltTy.packing .fp8e4m3) := fun v233_r0 k0_hw6 k0_t5 k0_h14 => k0_hw6.2.1.2.1 k0_t5 k0_h14 (k0_off59_inb v233_r0 k0_hw6 k0_t5 k0_h14)
theorem k0_off60_inb : ∀ (v233_r0 : BitVec 32) (k0_hw6 : k0_chk6 v233_r0) (k0_t5 : Fin k0_t5_loop.trips), ∀ a, (k0_off60 v233_r0 k0_t5) a + S1x128x512.size a ≤ S4x128x4096.size a := fun v233_r0 k0_hw6 k0_t5 => k0_hw6.2.1.2.2.1 k0_t5
theorem k0_off73_inb : ∀ (v233_r0 : BitVec 32) (k0_hw6 : k0_chk6 v233_r0) (k0_t6 : Fin k0_t6_loop.trips), ∀ (r : Fin 2), ∀ a, (k0_off73 v233_r0 k0_t6 (BitVec.ofNat 32 r.val)) a + S1x256x4096.size a ≤ S4x7168x4096.size a := fun v233_r0 k0_hw6 k0_t6 r => k0_hw6.2.1.2.2.2.1 k0_t6 r
theorem k0_off73_wordsfp8e4m3 : ∀ (v233_r0 : BitVec 32) (k0_hw6 : k0_chk6 v233_r0) (k0_t6 : Fin k0_t6_loop.trips), ∀ (r : Fin 2), (Rect.unit (s := S4x7168x4096) (k0_off73 v233_r0 k0_t6 (BitVec.ofNat 32 r.val)) S1x256x4096.size (k0_off73_inb v233_r0 k0_hw6 k0_t6 r)).WholeWords (EltTy.packing .fp8e4m3) := fun v233_r0 k0_hw6 k0_t6 r => k0_hw6.2.1.2.2.2.2.1 k0_t6 r (k0_off73_inb v233_r0 k0_hw6 k0_t6 r)
theorem k0_off76_inb : ∀ (v233_r0 : BitVec 32) (k0_hw6 : k0_chk6 v233_r0) (k0_t6 : Fin k0_t6_loop.trips), ∀ (k0_h15 : k0_cond15 k0_t6 = 1#1), ∀ a, (k0_off76 v233_r0 k0_t6) a + S1x256x4096.size a ≤ S4x7168x4096.size a := fun v233_r0 k0_hw6 k0_t6 k0_h15 => k0_hw6.2.1.2.2.2.2.2.1 k0_t6 k0_h15
theorem k0_off76_wordsfp8e4m3 : ∀ (v233_r0 : BitVec 32) (k0_hw6 : k0_chk6 v233_r0) (k0_t6 : Fin k0_t6_loop.trips), ∀ (k0_h15 : k0_cond15 k0_t6 = 1#1), (Rect.unit (s := S4x7168x4096) (k0_off76 v233_r0 k0_t6) S1x256x4096.size (k0_off76_inb v233_r0 k0_hw6 k0_t6 k0_h15)).WholeWords (EltTy.packing .fp8e4m3) := fun v233_r0 k0_hw6 k0_t6 k0_h15 => k0_hw6.2.1.2.2.2.2.2.2.1 k0_t6 k0_h15 (k0_off76_inb v233_r0 k0_hw6 k0_t6 k0_h15)
theorem k0_off79_inb : ∀ (v233_r0 : BitVec 32) (k0_hw6 : k0_chk6 v233_r0) (k0_t6 : Fin k0_t6_loop.trips), ∀ (k0_h16 : k0_cond16 k0_t6 = 1#1), ∀ a, (k0_off79 v233_r0 k0_t6) a + S1x2048x512.size a ≤ S4x2048x7168.size a := fun v233_r0 k0_hw6 k0_t6 k0_h16 => k0_hw6.2.1.2.2.2.2.2.2.2.1 k0_t6 k0_h16
theorem k0_off79_wordsfp8e4m3 : ∀ (v233_r0 : BitVec 32) (k0_hw6 : k0_chk6 v233_r0) (k0_t6 : Fin k0_t6_loop.trips), ∀ (k0_h16 : k0_cond16 k0_t6 = 1#1), (Rect.unit (s := S4x2048x7168) (k0_off79 v233_r0 k0_t6) S1x2048x512.size (k0_off79_inb v233_r0 k0_hw6 k0_t6 k0_h16)).WholeWords (EltTy.packing .fp8e4m3) := fun v233_r0 k0_hw6 k0_t6 k0_h16 => k0_hw6.2.1.2.2.2.2.2.2.2.2.1 k0_t6 k0_h16 (k0_off79_inb v233_r0 k0_hw6 k0_t6 k0_h16)
theorem k0_off82_inb : ∀ (v233_r0 : BitVec 32) (k0_hw6 : k0_chk6 v233_r0) (k0_t6 : Fin k0_t6_loop.trips), ∀ (k0_h17 : k0_cond17 k0_t6 = 1#1), ∀ a, (k0_off82 v233_r0 k0_t6) a + S1x256x4096.size a ≤ S4x7168x4096.size a := fun v233_r0 k0_hw6 k0_t6 k0_h17 => k0_hw6.2.1.2.2.2.2.2.2.2.2.2.1 k0_t6 k0_h17
theorem k0_off82_wordsfp8e4m3 : ∀ (v233_r0 : BitVec 32) (k0_hw6 : k0_chk6 v233_r0) (k0_t6 : Fin k0_t6_loop.trips), ∀ (k0_h17 : k0_cond17 k0_t6 = 1#1), (Rect.unit (s := S4x7168x4096) (k0_off82 v233_r0 k0_t6) S1x256x4096.size (k0_off82_inb v233_r0 k0_hw6 k0_t6 k0_h17)).WholeWords (EltTy.packing .fp8e4m3) := fun v233_r0 k0_hw6 k0_t6 k0_h17 => k0_hw6.2.1.2.2.2.2.2.2.2.2.2.2.1 k0_t6 k0_h17 (k0_off82_inb v233_r0 k0_hw6 k0_t6 k0_h17)
theorem k0_off85_inb : ∀ (v233_r0 : BitVec 32) (k0_hw6 : k0_chk6 v233_r0) (k0_t6 : Fin k0_t6_loop.trips), ∀ (k0_h18 : k0_cond18 k0_t6 = 1#1), ∀ a, (k0_off85 v233_r0 k0_t6) a + S1x2048x512.size a ≤ S4x2048x7168.size a := fun v233_r0 k0_hw6 k0_t6 k0_h18 => k0_hw6.2.1.2.2.2.2.2.2.2.2.2.2.2.1 k0_t6 k0_h18
theorem k0_off85_wordsfp8e4m3 : ∀ (v233_r0 : BitVec 32) (k0_hw6 : k0_chk6 v233_r0) (k0_t6 : Fin k0_t6_loop.trips), ∀ (k0_h18 : k0_cond18 k0_t6 = 1#1), (Rect.unit (s := S4x2048x7168) (k0_off85 v233_r0 k0_t6) S1x2048x512.size (k0_off85_inb v233_r0 k0_hw6 k0_t6 k0_h18)).WholeWords (EltTy.packing .fp8e4m3) := fun v233_r0 k0_hw6 k0_t6 k0_h18 => k0_hw6.2.1.2.2.2.2.2.2.2.2.2.2.2.2.1 k0_t6 k0_h18 (k0_off85_inb v233_r0 k0_hw6 k0_t6 k0_h18)
theorem k0_off86_inb : ∀ (v233_r0 : BitVec 32) (k0_hw6 : k0_chk6 v233_r0) (k0_t6 : Fin k0_t6_loop.trips), ∀ a, (k0_off86 v233_r0 k0_t6) a + S1x128x512.size a ≤ S4x128x4096.size a := fun v233_r0 k0_hw6 k0_t6 => k0_hw6.2.1.2.2.2.2.2.2.2.2.2.2.2.2.2.1 k0_t6
theorem k0_off97_inb : ∀ (v233_r0 : BitVec 32) (k0_hw6 : k0_chk6 v233_r0), ∀ a, (k0_off97 v233_r0) a + S1x512.size a ≤ S4x4096.size a := fun v233_r0 k0_hw6 => k0_hw6.2.1.2.2.2.2.2.2.2.2.2.2.2.2.2.2.1
theorem k0_off98_inb : ∀ (v233_r0 : BitVec 32) (k0_hw6 : k0_chk6 v233_r0), ∀ a, (k0_off98 v233_r0) a + S1x512.size a ≤ S4x4096.size a := fun v233_r0 k0_hw6 => k0_hw6.2.1.2.2.2.2.2.2.2.2.2.2.2.2.2.2.2.1
theorem k0_off99_inb : ∀ (v233_r0 : BitVec 32) (k0_hw6 : k0_chk6 v233_r0), ∀ a, (k0_off99 v233_r0) a + S1x512.size a ≤ S4x4096.size a := fun v233_r0 k0_hw6 => k0_hw6.2.1.2.2.2.2.2.2.2.2.2.2.2.2.2.2.2.2.1
theorem k0_off100_inb : ∀ (v233_r0 : BitVec 32) (k0_hw6 : k0_chk6 v233_r0), ∀ a, (k0_off100 v233_r0) a + S1x512.size a ≤ S4x4096.size a := fun v233_r0 k0_hw6 => k0_hw6.2.1.2.2.2.2.2.2.2.2.2.2.2.2.2.2.2.2.2.1
theorem k0_off101_inb : ∀ (v233_r0 : BitVec 32) (k0_hw6 : k0_chk6 v233_r0), ∀ a, (k0_off101 v233_r0) a + S1x512.size a ≤ S4x4096.size a := fun v233_r0 k0_hw6 => k0_hw6.2.1.2.2.2.2.2.2.2.2.2.2.2.2.2.2.2.2.2.2.1
theorem k0_off102_inb : ∀ (v233_r0 : BitVec 32) (k0_hw6 : k0_chk6 v233_r0), ∀ a, (k0_off102 v233_r0) a + S1x512.size a ≤ S4x4096.size a := fun v233_r0 k0_hw6 => k0_hw6.2.1.2.2.2.2.2.2.2.2.2.2.2.2.2.2.2.2.2.2.2.1
theorem k0_off103_inb : ∀ (v233_r0 : BitVec 32) (k0_hw6 : k0_chk6 v233_r0), ∀ a, (k0_off103 v233_r0) a + S1x512.size a ≤ S4x4096.size a := fun v233_r0 k0_hw6 => k0_hw6.2.1.2.2.2.2.2.2.2.2.2.2.2.2.2.2.2.2.2.2.2.2.1
theorem k0_off104_inb : ∀ (v233_r0 : BitVec 32) (k0_hw6 : k0_chk6 v233_r0), ∀ a, (k0_off104 v233_r0) a + S1x512.size a ≤ S4x4096.size a := fun v233_r0 k0_hw6 => k0_hw6.2.1.2.2.2.2.2.2.2.2.2.2.2.2.2.2.2.2.2.2.2.2.2.1
theorem k0_off107_inb : ∀ (v233_r0 : BitVec 32) (k0_hw6 : k0_chk6 v233_r0) (k0_t7 : Fin k0_t7_loop.trips), ∀ a, (k0_off107 v233_r0 k0_t7) a + S1x2048x512.size a ≤ S4x2048x7168.size a := fun v233_r0 k0_hw6 k0_t7 => k0_hw6.2.1.2.2.2.2.2.2.2.2.2.2.2.2.2.2.2.2.2.2.2.2.2.2.1 k0_t7
theorem k0_off107_wordsfp8e4m3 : ∀ (v233_r0 : BitVec 32) (k0_hw6 : k0_chk6 v233_r0) (k0_t7 : Fin k0_t7_loop.trips), (Rect.unit (s := S4x2048x7168) (k0_off107 v233_r0 k0_t7) S1x2048x512.size (k0_off107_inb v233_r0 k0_hw6 k0_t7)).WholeWords (EltTy.packing .fp8e4m3) := fun v233_r0 k0_hw6 k0_t7 => k0_hw6.2.1.2.2.2.2.2.2.2.2.2.2.2.2.2.2.2.2.2.2.2.2.2.2.2.1 k0_t7 (k0_off107_inb v233_r0 k0_hw6 k0_t7)
theorem k0_off115_inb : ∀ (v233_r0 : BitVec 32) (k0_hw6 : k0_chk6 v233_r0) (k0_t7 : Fin k0_t7_loop.trips), ∀ (k0_h22 : k0_cond22 k0_t7 = 1#1), ∀ a, (k0_off115 v233_r0 k0_t7) a + S1x2048x512.size a ≤ S4x2048x7168.size a := fun v233_r0 k0_hw6 k0_t7 k0_h22 => k0_hw6.2.1.2.2.2.2.2.2.2.2.2.2.2.2.2.2.2.2.2.2.2.2.2.2.2.2.1 k0_t7 k0_h22
theorem k0_off115_wordsfp8e4m3 : ∀ (v233_r0 : BitVec 32) (k0_hw6 : k0_chk6 v233_r0) (k0_t7 : Fin k0_t7_loop.trips), ∀ (k0_h22 : k0_cond22 k0_t7 = 1#1), (Rect.unit (s := S4x2048x7168) (k0_off115 v233_r0 k0_t7) S1x2048x512.size (k0_off115_inb v233_r0 k0_hw6 k0_t7 k0_h22)).WholeWords (EltTy.packing .fp8e4m3) := fun v233_r0 k0_hw6 k0_t7 k0_h22 => k0_hw6.2.1.2.2.2.2.2.2.2.2.2.2.2.2.2.2.2.2.2.2.2.2.2.2.2.2.2.1 k0_t7 k0_h22 (k0_off115_inb v233_r0 k0_hw6 k0_t7 k0_h22)
theorem k0_off118_inb : ∀ (v233_r0 : BitVec 32) (k0_hw6 : k0_chk6 v233_r0) (k0_t7 : Fin k0_t7_loop.trips), ∀ a, (k0_off118 v233_r0 k0_t7) a + S1x2048x512.size a ≤ S4x2048x7168.size a := fun v233_r0 k0_hw6 k0_t7 => k0_hw6.2.1.2.2.2.2.2.2.2.2.2.2.2.2.2.2.2.2.2.2.2.2.2.2.2.2.2.2.1 k0_t7
theorem k0_off118_wordsfp8e4m3 : ∀ (v233_r0 : BitVec 32) (k0_hw6 : k0_chk6 v233_r0) (k0_t7 : Fin k0_t7_loop.trips), (Rect.unit (s := S4x2048x7168) (k0_off118 v233_r0 k0_t7) S1x2048x512.size (k0_off118_inb v233_r0 k0_hw6 k0_t7)).WholeWords (EltTy.packing .fp8e4m3) := fun v233_r0 k0_hw6 k0_t7 => k0_hw6.2.1.2.2.2.2.2.2.2.2.2.2.2.2.2.2.2.2.2.2.2.2.2.2.2.2.2.2.2.1 k0_t7 (k0_off118_inb v233_r0 k0_hw6 k0_t7)
theorem k0_off126_inb : ∀ (v233_r0 : BitVec 32) (k0_hw6 : k0_chk6 v233_r0) (k0_t7 : Fin k0_t7_loop.trips), ∀ (k0_h26 : k0_cond26 k0_t7 = 1#1), ∀ a, (k0_off126 v233_r0 k0_t7) a + S1x2048x512.size a ≤ S4x2048x7168.size a := fun v233_r0 k0_hw6 k0_t7 k0_h26 => k0_hw6.2.1.2.2.2.2.2.2.2.2.2.2.2.2.2.2.2.2.2.2.2.2.2.2.2.2.2.2.2.2.1 k0_t7 k0_h26
theorem k0_off126_wordsfp8e4m3 : ∀ (v233_r0 : BitVec 32) (k0_hw6 : k0_chk6 v233_r0) (k0_t7 : Fin k0_t7_loop.trips), ∀ (k0_h26 : k0_cond26 k0_t7 = 1#1), (Rect.unit (s := S4x2048x7168) (k0_off126 v233_r0 k0_t7) S1x2048x512.size (k0_off126_inb v233_r0 k0_hw6 k0_t7 k0_h26)).WholeWords (EltTy.packing .fp8e4m3) := fun v233_r0 k0_hw6 k0_t7 k0_h26 => k0_hw6.2.1.2.2.2.2.2.2.2.2.2.2.2.2.2.2.2.2.2.2.2.2.2.2.2.2.2.2.2.2.2.1 k0_t7 k0_h26 (k0_off126_inb v233_r0 k0_hw6 k0_t7 k0_h26)
theorem k0_off128_inb : ∀ (v233_r0 : BitVec 32) (k0_hw6 : k0_chk6 v233_r0) (k0_t7 : Fin k0_t7_loop.trips), ∀ (r : Fin 2), ∀ a, (k0_off128 v233_r0 k0_t7 (BitVec.ofNat 32 r.val)) a + S1x512.size a ≤ S4x7168.size a := fun v233_r0 k0_hw6 k0_t7 r => k0_hw6.2.1.2.2.2.2.2.2.2.2.2.2.2.2.2.2.2.2.2.2.2.2.2.2.2.2.2.2.2.2.2.2.1 k0_t7 r
theorem k0_off132_inb : ∀ (v233_r0 : BitVec 32) (k0_hw6 : k0_chk6 v233_r0) (k0_t8 : Fin k0_t8_loop.trips), ∀ a, (k0_off132 v233_r0 k0_t8) a + S1x2048x512.size a ≤ S4x2048x7168.size a := fun v233_r0 k0_hw6 k0_t8 => k0_hw6.2.1.2.2.2.2.2.2.2.2.2.2.2.2.2.2.2.2.2.2.2.2.2.2.2.2.2.2.2.2.2.2.2 k0_t8
theorem k0_off132_wordsfp8e4m3 : ∀ (v233_r0 : BitVec 32) (k0_hw6 : k0_chk6 v233_r0) (k0_t8 : Fin k0_t8_loop.trips), (Rect.unit (s := S4x2048x7168) (k0_off132 v233_r0 k0_t8) S1x2048x512.size (k0_off132_inb v233_r0 k0_hw6 k0_t8)).WholeWords (EltTy.packing .fp8e4m3) := fun v233_r0 k0_hw6 k0_t8 => k0_hw6.2.2.1 k0_t8 (k0_off132_inb v233_r0 k0_hw6 k0_t8)
theorem k0_off140_inb : ∀ (v233_r0 : BitVec 32) (k0_hw6 : k0_chk6 v233_r0) (k0_t8 : Fin k0_t8_loop.trips), ∀ (k0_h30 : k0_cond30 k0_t8 = 1#1), ∀ a, (k0_off140 v233_r0 k0_t8) a + S1x2048x512.size a ≤ S4x2048x7168.size a := fun v233_r0 k0_hw6 k0_t8 k0_h30 => k0_hw6.2.2.2.1 k0_t8 k0_h30
theorem k0_off140_wordsfp8e4m3 : ∀ (v233_r0 : BitVec 32) (k0_hw6 : k0_chk6 v233_r0) (k0_t8 : Fin k0_t8_loop.trips), ∀ (k0_h30 : k0_cond30 k0_t8 = 1#1), (Rect.unit (s := S4x2048x7168) (k0_off140 v233_r0 k0_t8) S1x2048x512.size (k0_off140_inb v233_r0 k0_hw6 k0_t8 k0_h30)).WholeWords (EltTy.packing .fp8e4m3) := fun v233_r0 k0_hw6 k0_t8 k0_h30 => k0_hw6.2.2.2.2.1 k0_t8 k0_h30 (k0_off140_inb v233_r0 k0_hw6 k0_t8 k0_h30)
theorem k0_off142_inb : ∀ (v233_r0 : BitVec 32) (k0_hw6 : k0_chk6 v233_r0) (k0_t8 : Fin k0_t8_loop.trips), ∀ a, (k0_off142 v233_r0 k0_t8) a + S1x512.size a ≤ S4x7168.size a := fun v233_r0 k0_hw6 k0_t8 => k0_hw6.2.2.2.2.2.1 k0_t8
theorem k0_off146_inb : ∀ (v233_r0 : BitVec 32) (k0_hw6 : k0_chk6 v233_r0), ∀ a, (k0_off146 v233_r0) a + S1x2048x512.size a ≤ S4x2048x7168.size a := fun v233_r0 k0_hw6 => k0_hw6.2.2.2.2.2.2.1
theorem k0_off146_wordsfp8e4m3 : ∀ (v233_r0 : BitVec 32) (k0_hw6 : k0_chk6 v233_r0), (Rect.unit (s := S4x2048x7168) (k0_off146 v233_r0) S1x2048x512.size (k0_off146_inb v233_r0 k0_hw6)).WholeWords (EltTy.packing .fp8e4m3) := fun v233_r0 k0_hw6 => k0_hw6.2.2.2.2.2.2.2.1 (k0_off146_inb v233_r0 k0_hw6)
theorem k0_off154_inb : ∀ (v233_r0 : BitVec 32) (k0_hw6 : k0_chk6 v233_r0), ∀ (k0_h34 : k0_cond34 = 1#1), ∀ a, (k0_off154 v233_r0) a + S1x2048x512.size a ≤ S4x2048x7168.size a := fun v233_r0 k0_hw6 k0_h34 => k0_hw6.2.2.2.2.2.2.2.2.1 k0_h34
theorem k0_off154_wordsfp8e4m3 : ∀ (v233_r0 : BitVec 32) (k0_hw6 : k0_chk6 v233_r0), ∀ (k0_h34 : k0_cond34 = 1#1), (Rect.unit (s := S4x2048x7168) (k0_off154 v233_r0) S1x2048x512.size (k0_off154_inb v233_r0 k0_hw6 k0_h34)).WholeWords (EltTy.packing .fp8e4m3) := fun v233_r0 k0_hw6 k0_h34 => k0_hw6.2.2.2.2.2.2.2.2.2.1 k0_h34 (k0_off154_inb v233_r0 k0_hw6 k0_h34)
theorem k0_off156_inb : ∀ (v233_r0 : BitVec 32) (k0_hw6 : k0_chk6 v233_r0), ∀ a, (k0_off156 v233_r0) a + S1x512.size a ≤ S4x7168.size a := fun v233_r0 k0_hw6 => k0_hw6.2.2.2.2.2.2.2.2.2.2

def k0_off157 : Fin 2 → Nat :=
  let c0_352_r0 : Index := 0#32
  let c13_i32_342_r0 : BitVec 32 := 13#32
  let c0_i32_343_r0 : BitVec 32 := 0#32
  let v556_r0 : BitVec 32 := Scalar.addi c13_i32_342_r0 c0_i32_343_r0
  let c512_i32_344_r0 : BitVec 32 := 512#32
  let v557_r0 : BitVec 32 := Scalar.muli v556_r0 c512_i32_344_r0
  let v558_r0 : BitVec 32 := v557_r0
  let v571_r0 : Index := Scalar.indexCast v558_r0
  ![0, v571_r0.toNat]
@[reducible] def k0_t9_loop (v17_r0 : BitVec 32) (v36_r0 : BitVec 32) (v51_r0 : BitVec 32) (v66_r0 : BitVec 32) (v81_r0 : BitVec 32) : Scf.Loop 32 :=
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let v222_r0 : BitVec 32 := Scalar.addi c0_i32_138_r0 v221_r0
  let c1_i32_141_r0 : BitVec 32 := 1#32
  ⟨v225_r0, v222_r0, c1_i32_141_r0⟩
def k0_off158 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) : Fin 1 → Nat :=
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let v232_r0 : Index := Scalar.indexCast arg35_r0
  ![v232_r0.toNat]
def k0_off159 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) : Fin 1 → Nat :=
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_153_r0 : BitVec 32 := 1#32
  let v234_r0 : BitVec 32 := Scalar.addi arg35_r0 c1_i32_153_r0
  let c1_i32_154_r0 : BitVec 32 := 1#32
  let v235_r0 : BitVec 32 := Scalar.subi v84_r0 c1_i32_154_r0
  let v236_r0 : BitVec 32 := Scalar.minsi v234_r0 v235_r0
  let v237_r0 : Index := Scalar.indexCast v236_r0
  ![v237_r0.toNat]
def k0_off160 (v233_r0 : BitVec 32) : Fin 3 → Nat :=
  let c0_i32_171_r0 : BitVec 32 := 0#32
  let c0_i32_172_r0 : BitVec 32 := 0#32
  ![v233_r0.toNat, 0, 0]

def k0_off161 (v233_r0 : BitVec 32) : Fin 3 → Nat :=
  let c64_i32_173_r0 : BitVec 32 := 64#32
  let c0_i32_174_r0 : BitVec 32 := 0#32
  ![v233_r0.toNat, 64, 0]
def k0_cond36 : BitVec 1 :=
  let c0_i32_177_r0 : BitVec 32 := 0#32
  let c7_i32_r0 : BitVec 32 := 7#32
  let v271_r0 : BitVec 32 := Scalar.addi c0_i32_177_r0 c7_i32_r0
  let c2_i32_178_r0 : BitVec 32 := 2#32
  let v272_r0 : BitVec 1 := Scalar.cmpi .sge v271_r0 c2_i32_178_r0
  let c30_i32_r0 : BitVec 32 := 30#32
  let v273_r0 : BitVec 1 := Scalar.cmpi .slt v271_r0 c30_i32_r0
  let v274_r0 : BitVec 1 := Scalar.andi v272_r0 v273_r0
  let v_true_r0 : BitVec 1 := 1#1
  let v275_r0 : BitVec 1 := Scalar.andi v274_r0 v_true_r0
  let v276_r0 : BitVec 32 := Scalar.extui v275_r0
  let c0_i32_179_r0 : BitVec 32 := 0#32
  let v277_r0 : BitVec 1 := Scalar.cmpi .ne v276_r0 c0_i32_179_r0
  v277_r0

def k0_mult46 : BitVec 32 :=
  let c0_i32_177_r0 : BitVec 32 := 0#32
  let c7_i32_r0 : BitVec 32 := 7#32
  let v271_r0 : BitVec 32 := Scalar.addi c0_i32_177_r0 c7_i32_r0
  let c2_i32_356_r0 : BitVec 32 := 2#32
  let v586_r0 : BitVec 32 := Scalar.subi v271_r0 c2_i32_356_r0
  let c256_i32_r0 : BitVec 32 := 256#32
  let v587_r0 : BitVec 32 := Scalar.muli v586_r0 c256_i32_r0
  v587_r0
def k0_off162 : Fin 1 → Nat :=
  let c0_i32_177_r0 : BitVec 32 := 0#32
  let c7_i32_r0 : BitVec 32 := 7#32
  let v271_r0 : BitVec 32 := Scalar.addi c0_i32_177_r0 c7_i32_r0
  let c2_i32_356_r0 : BitVec 32 := 2#32
  let v586_r0 : BitVec 32 := Scalar.subi v271_r0 c2_i32_356_r0
  ![v586_r0.toNat]
def k0_off163 : Fin 2 → Nat :=
  let c0_i32_177_r0 : BitVec 32 := 0#32
  let c7_i32_r0 : BitVec 32 := 7#32
  let v271_r0 : BitVec 32 := Scalar.addi c0_i32_177_r0 c7_i32_r0
  let c2_i32_356_r0 : BitVec 32 := 2#32
  let v586_r0 : BitVec 32 := Scalar.subi v271_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off164 (v233_r0 : BitVec 32) : Fin 3 → Nat :=
  let c0_i32_177_r0 : BitVec 32 := 0#32
  let c7_i32_r0 : BitVec 32 := 7#32
  let v271_r0 : BitVec 32 := Scalar.addi c0_i32_177_r0 c7_i32_r0
  let c2_i32_356_r0 : BitVec 32 := 2#32
  let v586_r0 : BitVec 32 := Scalar.subi v271_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
def k0_cond37 : BitVec 1 :=
  let c1_i32_180_r0 : BitVec 32 := 1#32
  let c7_i32_181_r0 : BitVec 32 := 7#32
  let v278_r0 : BitVec 32 := Scalar.addi c1_i32_180_r0 c7_i32_181_r0
  let c2_i32_182_r0 : BitVec 32 := 2#32
  let v279_r0 : BitVec 1 := Scalar.cmpi .sge v278_r0 c2_i32_182_r0
  let c30_i32_183_r0 : BitVec 32 := 30#32
  let v280_r0 : BitVec 1 := Scalar.cmpi .slt v278_r0 c30_i32_183_r0
  let v281_r0 : BitVec 1 := Scalar.andi v279_r0 v280_r0
  let true_184_r0 : BitVec 1 := 1#1
  let v282_r0 : BitVec 1 := Scalar.andi v281_r0 true_184_r0
  let v283_r0 : BitVec 32 := Scalar.extui v282_r0
  let c0_i32_185_r0 : BitVec 32 := 0#32
  let v284_r0 : BitVec 1 := Scalar.cmpi .ne v283_r0 c0_i32_185_r0
  v284_r0

def k0_mult47 : BitVec 32 :=
  let c1_i32_180_r0 : BitVec 32 := 1#32
  let c7_i32_181_r0 : BitVec 32 := 7#32
  let v278_r0 : BitVec 32 := Scalar.addi c1_i32_180_r0 c7_i32_181_r0
  let c2_i32_356_r0 : BitVec 32 := 2#32
  let v586_r0 : BitVec 32 := Scalar.subi v278_r0 c2_i32_356_r0
  let c256_i32_r0 : BitVec 32 := 256#32
  let v587_r0 : BitVec 32 := Scalar.muli v586_r0 c256_i32_r0
  v587_r0
def k0_off165 : Fin 1 → Nat :=
  let c1_i32_180_r0 : BitVec 32 := 1#32
  let c7_i32_181_r0 : BitVec 32 := 7#32
  let v278_r0 : BitVec 32 := Scalar.addi c1_i32_180_r0 c7_i32_181_r0
  let c2_i32_356_r0 : BitVec 32 := 2#32
  let v586_r0 : BitVec 32 := Scalar.subi v278_r0 c2_i32_356_r0
  ![v586_r0.toNat]
def k0_off166 : Fin 2 → Nat :=
  let c1_i32_180_r0 : BitVec 32 := 1#32
  let c7_i32_181_r0 : BitVec 32 := 7#32
  let v278_r0 : BitVec 32 := Scalar.addi c1_i32_180_r0 c7_i32_181_r0
  let c2_i32_356_r0 : BitVec 32 := 2#32
  let v586_r0 : BitVec 32 := Scalar.subi v278_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off167 (v233_r0 : BitVec 32) : Fin 3 → Nat :=
  let c1_i32_180_r0 : BitVec 32 := 1#32
  let c7_i32_181_r0 : BitVec 32 := 7#32
  let v278_r0 : BitVec 32 := Scalar.addi c1_i32_180_r0 c7_i32_181_r0
  let c2_i32_356_r0 : BitVec 32 := 2#32
  let v586_r0 : BitVec 32 := Scalar.subi v278_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
def k0_cond38 : BitVec 1 :=
  let c2_i32_186_r0 : BitVec 32 := 2#32
  let c7_i32_187_r0 : BitVec 32 := 7#32
  let v285_r0 : BitVec 32 := Scalar.addi c2_i32_186_r0 c7_i32_187_r0
  let c2_i32_188_r0 : BitVec 32 := 2#32
  let v286_r0 : BitVec 1 := Scalar.cmpi .sge v285_r0 c2_i32_188_r0
  let c30_i32_189_r0 : BitVec 32 := 30#32
  let v287_r0 : BitVec 1 := Scalar.cmpi .slt v285_r0 c30_i32_189_r0
  let v288_r0 : BitVec 1 := Scalar.andi v286_r0 v287_r0
  let true_190_r0 : BitVec 1 := 1#1
  let v289_r0 : BitVec 1 := Scalar.andi v288_r0 true_190_r0
  let v290_r0 : BitVec 32 := Scalar.extui v289_r0
  let c0_i32_191_r0 : BitVec 32 := 0#32
  let v291_r0 : BitVec 1 := Scalar.cmpi .ne v290_r0 c0_i32_191_r0
  v291_r0

def k0_mult48 : BitVec 32 :=
  let c2_i32_186_r0 : BitVec 32 := 2#32
  let c7_i32_187_r0 : BitVec 32 := 7#32
  let v285_r0 : BitVec 32 := Scalar.addi c2_i32_186_r0 c7_i32_187_r0
  let c2_i32_356_r0 : BitVec 32 := 2#32
  let v586_r0 : BitVec 32 := Scalar.subi v285_r0 c2_i32_356_r0
  let c256_i32_r0 : BitVec 32 := 256#32
  let v587_r0 : BitVec 32 := Scalar.muli v586_r0 c256_i32_r0
  v587_r0
def k0_off168 : Fin 1 → Nat :=
  let c2_i32_186_r0 : BitVec 32 := 2#32
  let c7_i32_187_r0 : BitVec 32 := 7#32
  let v285_r0 : BitVec 32 := Scalar.addi c2_i32_186_r0 c7_i32_187_r0
  let c2_i32_356_r0 : BitVec 32 := 2#32
  let v586_r0 : BitVec 32 := Scalar.subi v285_r0 c2_i32_356_r0
  ![v586_r0.toNat]
def k0_off169 : Fin 2 → Nat :=
  let c2_i32_186_r0 : BitVec 32 := 2#32
  let c7_i32_187_r0 : BitVec 32 := 7#32
  let v285_r0 : BitVec 32 := Scalar.addi c2_i32_186_r0 c7_i32_187_r0
  let c2_i32_356_r0 : BitVec 32 := 2#32
  let v586_r0 : BitVec 32 := Scalar.subi v285_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off170 (v233_r0 : BitVec 32) : Fin 3 → Nat :=
  let c2_i32_186_r0 : BitVec 32 := 2#32
  let c7_i32_187_r0 : BitVec 32 := 7#32
  let v285_r0 : BitVec 32 := Scalar.addi c2_i32_186_r0 c7_i32_187_r0
  let c2_i32_356_r0 : BitVec 32 := 2#32
  let v586_r0 : BitVec 32 := Scalar.subi v285_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
def k0_cond39 : BitVec 1 :=
  let c3_i32_192_r0 : BitVec 32 := 3#32
  let c7_i32_193_r0 : BitVec 32 := 7#32
  let v292_r0 : BitVec 32 := Scalar.addi c3_i32_192_r0 c7_i32_193_r0
  let c2_i32_194_r0 : BitVec 32 := 2#32
  let v293_r0 : BitVec 1 := Scalar.cmpi .sge v292_r0 c2_i32_194_r0
  let c30_i32_195_r0 : BitVec 32 := 30#32
  let v294_r0 : BitVec 1 := Scalar.cmpi .slt v292_r0 c30_i32_195_r0
  let v295_r0 : BitVec 1 := Scalar.andi v293_r0 v294_r0
  let true_196_r0 : BitVec 1 := 1#1
  let v296_r0 : BitVec 1 := Scalar.andi v295_r0 true_196_r0
  let v297_r0 : BitVec 32 := Scalar.extui v296_r0
  let c0_i32_197_r0 : BitVec 32 := 0#32
  let v298_r0 : BitVec 1 := Scalar.cmpi .ne v297_r0 c0_i32_197_r0
  v298_r0

def k0_mult49 : BitVec 32 :=
  let c3_i32_192_r0 : BitVec 32 := 3#32
  let c7_i32_193_r0 : BitVec 32 := 7#32
  let v292_r0 : BitVec 32 := Scalar.addi c3_i32_192_r0 c7_i32_193_r0
  let c2_i32_356_r0 : BitVec 32 := 2#32
  let v586_r0 : BitVec 32 := Scalar.subi v292_r0 c2_i32_356_r0
  let c256_i32_r0 : BitVec 32 := 256#32
  let v587_r0 : BitVec 32 := Scalar.muli v586_r0 c256_i32_r0
  v587_r0
def k0_off171 : Fin 1 → Nat :=
  let c3_i32_192_r0 : BitVec 32 := 3#32
  let c7_i32_193_r0 : BitVec 32 := 7#32
  let v292_r0 : BitVec 32 := Scalar.addi c3_i32_192_r0 c7_i32_193_r0
  let c2_i32_356_r0 : BitVec 32 := 2#32
  let v586_r0 : BitVec 32 := Scalar.subi v292_r0 c2_i32_356_r0
  ![v586_r0.toNat]
def k0_off172 : Fin 2 → Nat :=
  let c3_i32_192_r0 : BitVec 32 := 3#32
  let c7_i32_193_r0 : BitVec 32 := 7#32
  let v292_r0 : BitVec 32 := Scalar.addi c3_i32_192_r0 c7_i32_193_r0
  let c2_i32_356_r0 : BitVec 32 := 2#32
  let v586_r0 : BitVec 32 := Scalar.subi v292_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off173 (v233_r0 : BitVec 32) : Fin 3 → Nat :=
  let c3_i32_192_r0 : BitVec 32 := 3#32
  let c7_i32_193_r0 : BitVec 32 := 7#32
  let v292_r0 : BitVec 32 := Scalar.addi c3_i32_192_r0 c7_i32_193_r0
  let c2_i32_356_r0 : BitVec 32 := 2#32
  let v586_r0 : BitVec 32 := Scalar.subi v292_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
def k0_cond40 : BitVec 1 :=
  let c4_i32_198_r0 : BitVec 32 := 4#32
  let c7_i32_199_r0 : BitVec 32 := 7#32
  let v299_r0 : BitVec 32 := Scalar.addi c4_i32_198_r0 c7_i32_199_r0
  let c2_i32_200_r0 : BitVec 32 := 2#32
  let v300_r0 : BitVec 1 := Scalar.cmpi .sge v299_r0 c2_i32_200_r0
  let c30_i32_201_r0 : BitVec 32 := 30#32
  let v301_r0 : BitVec 1 := Scalar.cmpi .slt v299_r0 c30_i32_201_r0
  let v302_r0 : BitVec 1 := Scalar.andi v300_r0 v301_r0
  let true_202_r0 : BitVec 1 := 1#1
  let v303_r0 : BitVec 1 := Scalar.andi v302_r0 true_202_r0
  let v304_r0 : BitVec 32 := Scalar.extui v303_r0
  let c0_i32_203_r0 : BitVec 32 := 0#32
  let v305_r0 : BitVec 1 := Scalar.cmpi .ne v304_r0 c0_i32_203_r0
  v305_r0

def k0_mult50 : BitVec 32 :=
  let c4_i32_198_r0 : BitVec 32 := 4#32
  let c7_i32_199_r0 : BitVec 32 := 7#32
  let v299_r0 : BitVec 32 := Scalar.addi c4_i32_198_r0 c7_i32_199_r0
  let c2_i32_356_r0 : BitVec 32 := 2#32
  let v586_r0 : BitVec 32 := Scalar.subi v299_r0 c2_i32_356_r0
  let c256_i32_r0 : BitVec 32 := 256#32
  let v587_r0 : BitVec 32 := Scalar.muli v586_r0 c256_i32_r0
  v587_r0
def k0_off174 : Fin 1 → Nat :=
  let c4_i32_198_r0 : BitVec 32 := 4#32
  let c7_i32_199_r0 : BitVec 32 := 7#32
  let v299_r0 : BitVec 32 := Scalar.addi c4_i32_198_r0 c7_i32_199_r0
  let c2_i32_356_r0 : BitVec 32 := 2#32
  let v586_r0 : BitVec 32 := Scalar.subi v299_r0 c2_i32_356_r0
  ![v586_r0.toNat]
def k0_off175 : Fin 2 → Nat :=
  let c4_i32_198_r0 : BitVec 32 := 4#32
  let c7_i32_199_r0 : BitVec 32 := 7#32
  let v299_r0 : BitVec 32 := Scalar.addi c4_i32_198_r0 c7_i32_199_r0
  let c2_i32_356_r0 : BitVec 32 := 2#32
  let v586_r0 : BitVec 32 := Scalar.subi v299_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off176 (v233_r0 : BitVec 32) : Fin 3 → Nat :=
  let c4_i32_198_r0 : BitVec 32 := 4#32
  let c7_i32_199_r0 : BitVec 32 := 7#32
  let v299_r0 : BitVec 32 := Scalar.addi c4_i32_198_r0 c7_i32_199_r0
  let c2_i32_356_r0 : BitVec 32 := 2#32
  let v586_r0 : BitVec 32 := Scalar.subi v299_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
def k0_cond41 : BitVec 1 :=
  let c5_i32_204_r0 : BitVec 32 := 5#32
  let c7_i32_205_r0 : BitVec 32 := 7#32
  let v306_r0 : BitVec 32 := Scalar.addi c5_i32_204_r0 c7_i32_205_r0
  let c2_i32_206_r0 : BitVec 32 := 2#32
  let v307_r0 : BitVec 1 := Scalar.cmpi .sge v306_r0 c2_i32_206_r0
  let c30_i32_207_r0 : BitVec 32 := 30#32
  let v308_r0 : BitVec 1 := Scalar.cmpi .slt v306_r0 c30_i32_207_r0
  let v309_r0 : BitVec 1 := Scalar.andi v307_r0 v308_r0
  let true_208_r0 : BitVec 1 := 1#1
  let v310_r0 : BitVec 1 := Scalar.andi v309_r0 true_208_r0
  let v311_r0 : BitVec 32 := Scalar.extui v310_r0
  let c0_i32_209_r0 : BitVec 32 := 0#32
  let v312_r0 : BitVec 1 := Scalar.cmpi .ne v311_r0 c0_i32_209_r0
  v312_r0

def k0_mult51 : BitVec 32 :=
  let c5_i32_204_r0 : BitVec 32 := 5#32
  let c7_i32_205_r0 : BitVec 32 := 7#32
  let v306_r0 : BitVec 32 := Scalar.addi c5_i32_204_r0 c7_i32_205_r0
  let c2_i32_356_r0 : BitVec 32 := 2#32
  let v586_r0 : BitVec 32 := Scalar.subi v306_r0 c2_i32_356_r0
  let c256_i32_r0 : BitVec 32 := 256#32
  let v587_r0 : BitVec 32 := Scalar.muli v586_r0 c256_i32_r0
  v587_r0
def k0_off177 : Fin 1 → Nat :=
  let c5_i32_204_r0 : BitVec 32 := 5#32
  let c7_i32_205_r0 : BitVec 32 := 7#32
  let v306_r0 : BitVec 32 := Scalar.addi c5_i32_204_r0 c7_i32_205_r0
  let c2_i32_356_r0 : BitVec 32 := 2#32
  let v586_r0 : BitVec 32 := Scalar.subi v306_r0 c2_i32_356_r0
  ![v586_r0.toNat]
def k0_off178 : Fin 2 → Nat :=
  let c5_i32_204_r0 : BitVec 32 := 5#32
  let c7_i32_205_r0 : BitVec 32 := 7#32
  let v306_r0 : BitVec 32 := Scalar.addi c5_i32_204_r0 c7_i32_205_r0
  let c2_i32_356_r0 : BitVec 32 := 2#32
  let v586_r0 : BitVec 32 := Scalar.subi v306_r0 c2_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off179 (v233_r0 : BitVec 32) : Fin 3 → Nat :=
  let c5_i32_204_r0 : BitVec 32 := 5#32
  let c7_i32_205_r0 : BitVec 32 := 7#32
  let v306_r0 : BitVec 32 := Scalar.addi c5_i32_204_r0 c7_i32_205_r0
  let c2_i32_356_r0 : BitVec 32 := 2#32
  let v586_r0 : BitVec 32 := Scalar.subi v306_r0 c2_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v233_r0.toNat, v588_r0.toNat, 0]
@[reducible] def k0_t10_loop : Scf.Loop 32 :=
  let c0_i32_230_r0 : BitVec 32 := 0#32
  let c6_i32_r0 : BitVec 32 := 6#32
  let v352_r0 : BitVec 32 := Scalar.addi c0_i32_230_r0 c6_i32_r0
  let c1_i32_231_r0 : BitVec 32 := 1#32
  ⟨c0_i32_230_r0, v352_r0, c1_i32_231_r0⟩
def k0_mult52 (k0_t10 : Fin k0_t10_loop.trips) : BitVec 32 :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c0_i32_359_r0 : BitVec 32 := 0#32
  let v589_r0 : BitVec 32 := Scalar.addi v588_r0 c0_i32_359_r0
  let c256_i32_r0 : BitVec 32 := 256#32
  let v590_r0 : BitVec 32 := Scalar.muli v589_r0 c256_i32_r0
  v590_r0
def k0_off180 (k0_t10 : Fin k0_t10_loop.trips) (c0_i32_359_r0 : BitVec 32) : Fin 1 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v589_r0 : BitVec 32 := Scalar.addi v588_r0 c0_i32_359_r0
  ![v589_r0.toNat]
def k0_off181 (k0_t10 : Fin k0_t10_loop.trips) (c0_i32_359_r0 : BitVec 32) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v589_r0 : BitVec 32 := Scalar.addi v588_r0 c0_i32_359_r0
  let c256_i32_r0 : BitVec 32 := 256#32
  let v590_r0 : BitVec 32 := Scalar.muli v589_r0 c256_i32_r0
  let v591_r0 : BitVec 32 := v590_r0
  let c0_i32_360_r0 : BitVec 32 := 0#32
  ![v591_r0.toNat, 0]
def k0_off182 (v233_r0 : BitVec 32) (k0_t10 : Fin k0_t10_loop.trips) (c0_i32_359_r0 : BitVec 32) : Fin 3 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v589_r0 : BitVec 32 := Scalar.addi v588_r0 c0_i32_359_r0
  let c256_i32_r0 : BitVec 32 := 256#32
  let v590_r0 : BitVec 32 := Scalar.muli v589_r0 c256_i32_r0
  let v591_r0 : BitVec 32 := v590_r0
  let c0_i32_361_r0 : BitVec 32 := 0#32
  ![v233_r0.toNat, v591_r0.toNat, 0]
def k0_cond42 (k0_t10 : Fin k0_t10_loop.trips) : BitVec 1 :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c2_i32_367_r0 : BitVec 32 := 2#32
  let v602_r0 : BitVec 1 := Scalar.cmpi .sge v601_r0 c2_i32_367_r0
  let c30_i32_368_r0 : BitVec 32 := 30#32
  let v603_r0 : BitVec 1 := Scalar.cmpi .slt v601_r0 c30_i32_368_r0
  let v604_r0 : BitVec 1 := Scalar.andi v602_r0 v603_r0
  let c0_i32_364_r0 : BitVec 32 := 0#32
  let v599_r0 : BitVec 32 := Scalar.addi v588_r0 c0_i32_364_r0
  let c4_i32_365_r0 : BitVec 32 := 4#32
  let v600_r0 : BitVec 1 := Scalar.cmpi .sge v599_r0 c4_i32_365_r0
  let v605_r0 : BitVec 1 := Scalar.andi v604_r0 v600_r0
  let v606_r0 : BitVec 32 := Scalar.extui v605_r0
  let c0_i32_369_r0 : BitVec 32 := 0#32
  let v607_r0 : BitVec 1 := Scalar.cmpi .ne v606_r0 c0_i32_369_r0
  v607_r0

def k0_mult53 (k0_t10 : Fin k0_t10_loop.trips) : BitVec 32 :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c2_i32_479_r0 : BitVec 32 := 2#32
  let v782_r0 : BitVec 32 := Scalar.subi v601_r0 c2_i32_479_r0
  let c256_i32_480_r0 : BitVec 32 := 256#32
  let v783_r0 : BitVec 32 := Scalar.muli v782_r0 c256_i32_480_r0
  v783_r0
def k0_off183 (k0_t10 : Fin k0_t10_loop.trips) : Fin 1 → Nat :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c2_i32_479_r0 : BitVec 32 := 2#32
  let v782_r0 : BitVec 32 := Scalar.subi v601_r0 c2_i32_479_r0
  ![v782_r0.toNat]
def k0_off184 (k0_t10 : Fin k0_t10_loop.trips) : Fin 2 → Nat :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c2_i32_479_r0 : BitVec 32 := 2#32
  let v782_r0 : BitVec 32 := Scalar.subi v601_r0 c2_i32_479_r0
  let c256_i32_480_r0 : BitVec 32 := 256#32
  let v783_r0 : BitVec 32 := Scalar.muli v782_r0 c256_i32_480_r0
  let v784_r0 : BitVec 32 := v783_r0
  let c0_i32_481_r0 : BitVec 32 := 0#32
  ![v784_r0.toNat, 0]
def k0_off185 (v233_r0 : BitVec 32) (k0_t10 : Fin k0_t10_loop.trips) : Fin 3 → Nat :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c2_i32_479_r0 : BitVec 32 := 2#32
  let v782_r0 : BitVec 32 := Scalar.subi v601_r0 c2_i32_479_r0
  let c256_i32_480_r0 : BitVec 32 := 256#32
  let v783_r0 : BitVec 32 := Scalar.muli v782_r0 c256_i32_480_r0
  let v784_r0 : BitVec 32 := v783_r0
  let c0_i32_482_r0 : BitVec 32 := 0#32
  ![v233_r0.toNat, v784_r0.toNat, 0]
def k0_cond43 (k0_t10 : Fin k0_t10_loop.trips) : BitVec 1 :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c30_i32_370_r0 : BitVec 32 := 30#32
  let v608_r0 : BitVec 1 := Scalar.cmpi .sge v601_r0 c30_i32_370_r0
  let c44_i32_371_r0 : BitVec 32 := 44#32
  let v609_r0 : BitVec 1 := Scalar.cmpi .slt v601_r0 c44_i32_371_r0
  let v610_r0 : BitVec 1 := Scalar.andi v608_r0 v609_r0
  let c0_i32_364_r0 : BitVec 32 := 0#32
  let v599_r0 : BitVec 32 := Scalar.addi v588_r0 c0_i32_364_r0
  let c4_i32_365_r0 : BitVec 32 := 4#32
  let v600_r0 : BitVec 1 := Scalar.cmpi .sge v599_r0 c4_i32_365_r0
  let v611_r0 : BitVec 1 := Scalar.andi v610_r0 v600_r0
  let v612_r0 : BitVec 32 := Scalar.extui v611_r0
  let c0_i32_372_r0 : BitVec 32 := 0#32
  let v613_r0 : BitVec 1 := Scalar.cmpi .ne v612_r0 c0_i32_372_r0
  v613_r0

def k0_mult54 (k0_t10 : Fin k0_t10_loop.trips) : BitVec 32 :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c30_i32_479_r0 : BitVec 32 := 30#32
  let v782_r0 : BitVec 32 := Scalar.subi v601_r0 c30_i32_479_r0
  let c512_i32_480_r0 : BitVec 32 := 512#32
  let v783_r0 : BitVec 32 := Scalar.muli v782_r0 c512_i32_480_r0
  v783_r0
def k0_off186 (k0_t10 : Fin k0_t10_loop.trips) : Fin 1 → Nat :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c30_i32_479_r0 : BitVec 32 := 30#32
  let v782_r0 : BitVec 32 := Scalar.subi v601_r0 c30_i32_479_r0
  ![v782_r0.toNat]
def k0_off187 (k0_t10 : Fin k0_t10_loop.trips) : Fin 3 → Nat :=
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c30_i32_479_r0 : BitVec 32 := 30#32
  let v782_r0 : BitVec 32 := Scalar.subi v601_r0 c30_i32_479_r0
  let c0_i32_481_r0 : BitVec 32 := 0#32
  let c0_i32_482_r0 : BitVec 32 := 0#32
  ![v782_r0.toNat, 0, 0]
def k0_off188 (v233_r0 : BitVec 32) (k0_t10 : Fin k0_t10_loop.trips) : Fin 3 → Nat :=
  let c0_i32_483_r0 : BitVec 32 := 0#32
  let c2_i32_362_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v597_r0 : BitVec 32 := Scalar.addi c2_i32_362_r0 v588_r0
  let c0_i32_363_r0 : BitVec 32 := 0#32
  let v598_r0 : BitVec 32 := Scalar.addi v597_r0 c0_i32_363_r0
  let c7_i32_366_r0 : BitVec 32 := 7#32
  let v601_r0 : BitVec 32 := Scalar.addi v598_r0 c7_i32_366_r0
  let c30_i32_479_r0 : BitVec 32 := 30#32
  let v782_r0 : BitVec 32 := Scalar.subi v601_r0 c30_i32_479_r0
  let c512_i32_480_r0 : BitVec 32 := 512#32
  let v783_r0 : BitVec 32 := Scalar.muli v782_r0 c512_i32_480_r0
  let v784_r0 : BitVec 32 := v783_r0
  ![v233_r0.toNat, 0, v784_r0.toNat]
def k0_mult55 (k0_t10 : Fin k0_t10_loop.trips) : BitVec 32 :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c1_i32_373_r0 : BitVec 32 := 1#32
  let v614_r0 : BitVec 32 := Scalar.addi v588_r0 c1_i32_373_r0
  let c256_i32_374_r0 : BitVec 32 := 256#32
  let v615_r0 : BitVec 32 := Scalar.muli v614_r0 c256_i32_374_r0
  v615_r0
def k0_cond44 (k0_t10 : Fin k0_t10_loop.trips) : BitVec 1 :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c2_i32_382_r0 : BitVec 32 := 2#32
  let v627_r0 : BitVec 1 := Scalar.cmpi .sge v626_r0 c2_i32_382_r0
  let c30_i32_383_r0 : BitVec 32 := 30#32
  let v628_r0 : BitVec 1 := Scalar.cmpi .slt v626_r0 c30_i32_383_r0
  let v629_r0 : BitVec 1 := Scalar.andi v627_r0 v628_r0
  let c1_i32_379_r0 : BitVec 32 := 1#32
  let v624_r0 : BitVec 32 := Scalar.addi v588_r0 c1_i32_379_r0
  let c4_i32_380_r0 : BitVec 32 := 4#32
  let v625_r0 : BitVec 1 := Scalar.cmpi .sge v624_r0 c4_i32_380_r0
  let v630_r0 : BitVec 1 := Scalar.andi v629_r0 v625_r0
  let v631_r0 : BitVec 32 := Scalar.extui v630_r0
  let c0_i32_384_r0 : BitVec 32 := 0#32
  let v632_r0 : BitVec 1 := Scalar.cmpi .ne v631_r0 c0_i32_384_r0
  v632_r0

def k0_mult56 (k0_t10 : Fin k0_t10_loop.trips) : BitVec 32 :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c2_i32_479_r0 : BitVec 32 := 2#32
  let v782_r0 : BitVec 32 := Scalar.subi v626_r0 c2_i32_479_r0
  let c256_i32_480_r0 : BitVec 32 := 256#32
  let v783_r0 : BitVec 32 := Scalar.muli v782_r0 c256_i32_480_r0
  v783_r0
def k0_off189 (k0_t10 : Fin k0_t10_loop.trips) : Fin 1 → Nat :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c2_i32_479_r0 : BitVec 32 := 2#32
  let v782_r0 : BitVec 32 := Scalar.subi v626_r0 c2_i32_479_r0
  ![v782_r0.toNat]
def k0_off190 (k0_t10 : Fin k0_t10_loop.trips) : Fin 2 → Nat :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c2_i32_479_r0 : BitVec 32 := 2#32
  let v782_r0 : BitVec 32 := Scalar.subi v626_r0 c2_i32_479_r0
  let c256_i32_480_r0 : BitVec 32 := 256#32
  let v783_r0 : BitVec 32 := Scalar.muli v782_r0 c256_i32_480_r0
  let v784_r0 : BitVec 32 := v783_r0
  let c0_i32_481_r0 : BitVec 32 := 0#32
  ![v784_r0.toNat, 0]
def k0_off191 (v233_r0 : BitVec 32) (k0_t10 : Fin k0_t10_loop.trips) : Fin 3 → Nat :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c2_i32_479_r0 : BitVec 32 := 2#32
  let v782_r0 : BitVec 32 := Scalar.subi v626_r0 c2_i32_479_r0
  let c256_i32_480_r0 : BitVec 32 := 256#32
  let v783_r0 : BitVec 32 := Scalar.muli v782_r0 c256_i32_480_r0
  let v784_r0 : BitVec 32 := v783_r0
  let c0_i32_482_r0 : BitVec 32 := 0#32
  ![v233_r0.toNat, v784_r0.toNat, 0]
def k0_cond45 (k0_t10 : Fin k0_t10_loop.trips) : BitVec 1 :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c30_i32_385_r0 : BitVec 32 := 30#32
  let v633_r0 : BitVec 1 := Scalar.cmpi .sge v626_r0 c30_i32_385_r0
  let c44_i32_386_r0 : BitVec 32 := 44#32
  let v634_r0 : BitVec 1 := Scalar.cmpi .slt v626_r0 c44_i32_386_r0
  let v635_r0 : BitVec 1 := Scalar.andi v633_r0 v634_r0
  let c1_i32_379_r0 : BitVec 32 := 1#32
  let v624_r0 : BitVec 32 := Scalar.addi v588_r0 c1_i32_379_r0
  let c4_i32_380_r0 : BitVec 32 := 4#32
  let v625_r0 : BitVec 1 := Scalar.cmpi .sge v624_r0 c4_i32_380_r0
  let v636_r0 : BitVec 1 := Scalar.andi v635_r0 v625_r0
  let v637_r0 : BitVec 32 := Scalar.extui v636_r0
  let c0_i32_387_r0 : BitVec 32 := 0#32
  let v638_r0 : BitVec 1 := Scalar.cmpi .ne v637_r0 c0_i32_387_r0
  v638_r0

def k0_mult57 (k0_t10 : Fin k0_t10_loop.trips) : BitVec 32 :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c30_i32_479_r0 : BitVec 32 := 30#32
  let v782_r0 : BitVec 32 := Scalar.subi v626_r0 c30_i32_479_r0
  let c512_i32_480_r0 : BitVec 32 := 512#32
  let v783_r0 : BitVec 32 := Scalar.muli v782_r0 c512_i32_480_r0
  v783_r0
def k0_off192 (k0_t10 : Fin k0_t10_loop.trips) : Fin 1 → Nat :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c30_i32_479_r0 : BitVec 32 := 30#32
  let v782_r0 : BitVec 32 := Scalar.subi v626_r0 c30_i32_479_r0
  ![v782_r0.toNat]
def k0_off193 (k0_t10 : Fin k0_t10_loop.trips) : Fin 3 → Nat :=
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c30_i32_479_r0 : BitVec 32 := 30#32
  let v782_r0 : BitVec 32 := Scalar.subi v626_r0 c30_i32_479_r0
  let c0_i32_481_r0 : BitVec 32 := 0#32
  let c0_i32_482_r0 : BitVec 32 := 0#32
  ![v782_r0.toNat, 0, 0]
def k0_off194 (v233_r0 : BitVec 32) (k0_t10 : Fin k0_t10_loop.trips) : Fin 3 → Nat :=
  let c0_i32_483_r0 : BitVec 32 := 0#32
  let c2_i32_377_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v622_r0 : BitVec 32 := Scalar.addi c2_i32_377_r0 v588_r0
  let c1_i32_378_r0 : BitVec 32 := 1#32
  let v623_r0 : BitVec 32 := Scalar.addi v622_r0 c1_i32_378_r0
  let c7_i32_381_r0 : BitVec 32 := 7#32
  let v626_r0 : BitVec 32 := Scalar.addi v623_r0 c7_i32_381_r0
  let c30_i32_479_r0 : BitVec 32 := 30#32
  let v782_r0 : BitVec 32 := Scalar.subi v626_r0 c30_i32_479_r0
  let c512_i32_480_r0 : BitVec 32 := 512#32
  let v783_r0 : BitVec 32 := Scalar.muli v782_r0 c512_i32_480_r0
  let v784_r0 : BitVec 32 := v783_r0
  ![v233_r0.toNat, 0, v784_r0.toNat]
def k0_mult58 (k0_t10 : Fin k0_t10_loop.trips) : BitVec 32 :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c2_i32_388_r0 : BitVec 32 := 2#32
  let v639_r0 : BitVec 32 := Scalar.addi v588_r0 c2_i32_388_r0
  let c256_i32_389_r0 : BitVec 32 := 256#32
  let v640_r0 : BitVec 32 := Scalar.muli v639_r0 c256_i32_389_r0
  v640_r0
def k0_cond46 (k0_t10 : Fin k0_t10_loop.trips) : BitVec 1 :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c2_i32_397_r0 : BitVec 32 := 2#32
  let v652_r0 : BitVec 1 := Scalar.cmpi .sge v651_r0 c2_i32_397_r0
  let c30_i32_398_r0 : BitVec 32 := 30#32
  let v653_r0 : BitVec 1 := Scalar.cmpi .slt v651_r0 c30_i32_398_r0
  let v654_r0 : BitVec 1 := Scalar.andi v652_r0 v653_r0
  let c2_i32_394_r0 : BitVec 32 := 2#32
  let v649_r0 : BitVec 32 := Scalar.addi v588_r0 c2_i32_394_r0
  let c4_i32_395_r0 : BitVec 32 := 4#32
  let v650_r0 : BitVec 1 := Scalar.cmpi .sge v649_r0 c4_i32_395_r0
  let v655_r0 : BitVec 1 := Scalar.andi v654_r0 v650_r0
  let v656_r0 : BitVec 32 := Scalar.extui v655_r0
  let c0_i32_399_r0 : BitVec 32 := 0#32
  let v657_r0 : BitVec 1 := Scalar.cmpi .ne v656_r0 c0_i32_399_r0
  v657_r0

def k0_mult59 (k0_t10 : Fin k0_t10_loop.trips) : BitVec 32 :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c2_i32_479_r0 : BitVec 32 := 2#32
  let v782_r0 : BitVec 32 := Scalar.subi v651_r0 c2_i32_479_r0
  let c256_i32_480_r0 : BitVec 32 := 256#32
  let v783_r0 : BitVec 32 := Scalar.muli v782_r0 c256_i32_480_r0
  v783_r0
def k0_off195 (k0_t10 : Fin k0_t10_loop.trips) : Fin 1 → Nat :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c2_i32_479_r0 : BitVec 32 := 2#32
  let v782_r0 : BitVec 32 := Scalar.subi v651_r0 c2_i32_479_r0
  ![v782_r0.toNat]
def k0_off196 (k0_t10 : Fin k0_t10_loop.trips) : Fin 2 → Nat :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c2_i32_479_r0 : BitVec 32 := 2#32
  let v782_r0 : BitVec 32 := Scalar.subi v651_r0 c2_i32_479_r0
  let c256_i32_480_r0 : BitVec 32 := 256#32
  let v783_r0 : BitVec 32 := Scalar.muli v782_r0 c256_i32_480_r0
  let v784_r0 : BitVec 32 := v783_r0
  let c0_i32_481_r0 : BitVec 32 := 0#32
  ![v784_r0.toNat, 0]
def k0_off197 (v233_r0 : BitVec 32) (k0_t10 : Fin k0_t10_loop.trips) : Fin 3 → Nat :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c2_i32_479_r0 : BitVec 32 := 2#32
  let v782_r0 : BitVec 32 := Scalar.subi v651_r0 c2_i32_479_r0
  let c256_i32_480_r0 : BitVec 32 := 256#32
  let v783_r0 : BitVec 32 := Scalar.muli v782_r0 c256_i32_480_r0
  let v784_r0 : BitVec 32 := v783_r0
  let c0_i32_482_r0 : BitVec 32 := 0#32
  ![v233_r0.toNat, v784_r0.toNat, 0]
def k0_cond47 (k0_t10 : Fin k0_t10_loop.trips) : BitVec 1 :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c30_i32_400_r0 : BitVec 32 := 30#32
  let v658_r0 : BitVec 1 := Scalar.cmpi .sge v651_r0 c30_i32_400_r0
  let c44_i32_401_r0 : BitVec 32 := 44#32
  let v659_r0 : BitVec 1 := Scalar.cmpi .slt v651_r0 c44_i32_401_r0
  let v660_r0 : BitVec 1 := Scalar.andi v658_r0 v659_r0
  let c2_i32_394_r0 : BitVec 32 := 2#32
  let v649_r0 : BitVec 32 := Scalar.addi v588_r0 c2_i32_394_r0
  let c4_i32_395_r0 : BitVec 32 := 4#32
  let v650_r0 : BitVec 1 := Scalar.cmpi .sge v649_r0 c4_i32_395_r0
  let v661_r0 : BitVec 1 := Scalar.andi v660_r0 v650_r0
  let v662_r0 : BitVec 32 := Scalar.extui v661_r0
  let c0_i32_402_r0 : BitVec 32 := 0#32
  let v663_r0 : BitVec 1 := Scalar.cmpi .ne v662_r0 c0_i32_402_r0
  v663_r0

def k0_mult60 (k0_t10 : Fin k0_t10_loop.trips) : BitVec 32 :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c30_i32_479_r0 : BitVec 32 := 30#32
  let v782_r0 : BitVec 32 := Scalar.subi v651_r0 c30_i32_479_r0
  let c512_i32_480_r0 : BitVec 32 := 512#32
  let v783_r0 : BitVec 32 := Scalar.muli v782_r0 c512_i32_480_r0
  v783_r0
def k0_off198 (k0_t10 : Fin k0_t10_loop.trips) : Fin 1 → Nat :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c30_i32_479_r0 : BitVec 32 := 30#32
  let v782_r0 : BitVec 32 := Scalar.subi v651_r0 c30_i32_479_r0
  ![v782_r0.toNat]
def k0_off199 (k0_t10 : Fin k0_t10_loop.trips) : Fin 3 → Nat :=
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c30_i32_479_r0 : BitVec 32 := 30#32
  let v782_r0 : BitVec 32 := Scalar.subi v651_r0 c30_i32_479_r0
  let c0_i32_481_r0 : BitVec 32 := 0#32
  let c0_i32_482_r0 : BitVec 32 := 0#32
  ![v782_r0.toNat, 0, 0]
def k0_off200 (v233_r0 : BitVec 32) (k0_t10 : Fin k0_t10_loop.trips) : Fin 3 → Nat :=
  let c0_i32_483_r0 : BitVec 32 := 0#32
  let c2_i32_392_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v647_r0 : BitVec 32 := Scalar.addi c2_i32_392_r0 v588_r0
  let c2_i32_393_r0 : BitVec 32 := 2#32
  let v648_r0 : BitVec 32 := Scalar.addi v647_r0 c2_i32_393_r0
  let c7_i32_396_r0 : BitVec 32 := 7#32
  let v651_r0 : BitVec 32 := Scalar.addi v648_r0 c7_i32_396_r0
  let c30_i32_479_r0 : BitVec 32 := 30#32
  let v782_r0 : BitVec 32 := Scalar.subi v651_r0 c30_i32_479_r0
  let c512_i32_480_r0 : BitVec 32 := 512#32
  let v783_r0 : BitVec 32 := Scalar.muli v782_r0 c512_i32_480_r0
  let v784_r0 : BitVec 32 := v783_r0
  ![v233_r0.toNat, 0, v784_r0.toNat]
def k0_mult61 (k0_t10 : Fin k0_t10_loop.trips) : BitVec 32 :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c3_i32_403_r0 : BitVec 32 := 3#32
  let v664_r0 : BitVec 32 := Scalar.addi v588_r0 c3_i32_403_r0
  let c256_i32_404_r0 : BitVec 32 := 256#32
  let v665_r0 : BitVec 32 := Scalar.muli v664_r0 c256_i32_404_r0
  v665_r0
def k0_cond48 (k0_t10 : Fin k0_t10_loop.trips) : BitVec 1 :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c2_i32_412_r0 : BitVec 32 := 2#32
  let v677_r0 : BitVec 1 := Scalar.cmpi .sge v676_r0 c2_i32_412_r0
  let c30_i32_413_r0 : BitVec 32 := 30#32
  let v678_r0 : BitVec 1 := Scalar.cmpi .slt v676_r0 c30_i32_413_r0
  let v679_r0 : BitVec 1 := Scalar.andi v677_r0 v678_r0
  let c3_i32_409_r0 : BitVec 32 := 3#32
  let v674_r0 : BitVec 32 := Scalar.addi v588_r0 c3_i32_409_r0
  let c4_i32_410_r0 : BitVec 32 := 4#32
  let v675_r0 : BitVec 1 := Scalar.cmpi .sge v674_r0 c4_i32_410_r0
  let v680_r0 : BitVec 1 := Scalar.andi v679_r0 v675_r0
  let v681_r0 : BitVec 32 := Scalar.extui v680_r0
  let c0_i32_414_r0 : BitVec 32 := 0#32
  let v682_r0 : BitVec 1 := Scalar.cmpi .ne v681_r0 c0_i32_414_r0
  v682_r0

def k0_mult62 (k0_t10 : Fin k0_t10_loop.trips) : BitVec 32 :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c2_i32_479_r0 : BitVec 32 := 2#32
  let v782_r0 : BitVec 32 := Scalar.subi v676_r0 c2_i32_479_r0
  let c256_i32_480_r0 : BitVec 32 := 256#32
  let v783_r0 : BitVec 32 := Scalar.muli v782_r0 c256_i32_480_r0
  v783_r0
def k0_off201 (k0_t10 : Fin k0_t10_loop.trips) : Fin 1 → Nat :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c2_i32_479_r0 : BitVec 32 := 2#32
  let v782_r0 : BitVec 32 := Scalar.subi v676_r0 c2_i32_479_r0
  ![v782_r0.toNat]
def k0_off202 (k0_t10 : Fin k0_t10_loop.trips) : Fin 2 → Nat :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c2_i32_479_r0 : BitVec 32 := 2#32
  let v782_r0 : BitVec 32 := Scalar.subi v676_r0 c2_i32_479_r0
  let c256_i32_480_r0 : BitVec 32 := 256#32
  let v783_r0 : BitVec 32 := Scalar.muli v782_r0 c256_i32_480_r0
  let v784_r0 : BitVec 32 := v783_r0
  let c0_i32_481_r0 : BitVec 32 := 0#32
  ![v784_r0.toNat, 0]
def k0_off203 (v233_r0 : BitVec 32) (k0_t10 : Fin k0_t10_loop.trips) : Fin 3 → Nat :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c2_i32_479_r0 : BitVec 32 := 2#32
  let v782_r0 : BitVec 32 := Scalar.subi v676_r0 c2_i32_479_r0
  let c256_i32_480_r0 : BitVec 32 := 256#32
  let v783_r0 : BitVec 32 := Scalar.muli v782_r0 c256_i32_480_r0
  let v784_r0 : BitVec 32 := v783_r0
  let c0_i32_482_r0 : BitVec 32 := 0#32
  ![v233_r0.toNat, v784_r0.toNat, 0]
def k0_cond49 (k0_t10 : Fin k0_t10_loop.trips) : BitVec 1 :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c30_i32_415_r0 : BitVec 32 := 30#32
  let v683_r0 : BitVec 1 := Scalar.cmpi .sge v676_r0 c30_i32_415_r0
  let c44_i32_416_r0 : BitVec 32 := 44#32
  let v684_r0 : BitVec 1 := Scalar.cmpi .slt v676_r0 c44_i32_416_r0
  let v685_r0 : BitVec 1 := Scalar.andi v683_r0 v684_r0
  let c3_i32_409_r0 : BitVec 32 := 3#32
  let v674_r0 : BitVec 32 := Scalar.addi v588_r0 c3_i32_409_r0
  let c4_i32_410_r0 : BitVec 32 := 4#32
  let v675_r0 : BitVec 1 := Scalar.cmpi .sge v674_r0 c4_i32_410_r0
  let v686_r0 : BitVec 1 := Scalar.andi v685_r0 v675_r0
  let v687_r0 : BitVec 32 := Scalar.extui v686_r0
  let c0_i32_417_r0 : BitVec 32 := 0#32
  let v688_r0 : BitVec 1 := Scalar.cmpi .ne v687_r0 c0_i32_417_r0
  v688_r0

def k0_mult63 (k0_t10 : Fin k0_t10_loop.trips) : BitVec 32 :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c30_i32_479_r0 : BitVec 32 := 30#32
  let v782_r0 : BitVec 32 := Scalar.subi v676_r0 c30_i32_479_r0
  let c512_i32_480_r0 : BitVec 32 := 512#32
  let v783_r0 : BitVec 32 := Scalar.muli v782_r0 c512_i32_480_r0
  v783_r0
def k0_off204 (k0_t10 : Fin k0_t10_loop.trips) : Fin 1 → Nat :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c30_i32_479_r0 : BitVec 32 := 30#32
  let v782_r0 : BitVec 32 := Scalar.subi v676_r0 c30_i32_479_r0
  ![v782_r0.toNat]
def k0_off205 (k0_t10 : Fin k0_t10_loop.trips) : Fin 3 → Nat :=
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c30_i32_479_r0 : BitVec 32 := 30#32
  let v782_r0 : BitVec 32 := Scalar.subi v676_r0 c30_i32_479_r0
  let c0_i32_481_r0 : BitVec 32 := 0#32
  let c0_i32_482_r0 : BitVec 32 := 0#32
  ![v782_r0.toNat, 0, 0]
def k0_off206 (v233_r0 : BitVec 32) (k0_t10 : Fin k0_t10_loop.trips) : Fin 3 → Nat :=
  let c0_i32_483_r0 : BitVec 32 := 0#32
  let c2_i32_407_r0 : BitVec 32 := 2#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let v672_r0 : BitVec 32 := Scalar.addi c2_i32_407_r0 v588_r0
  let c3_i32_408_r0 : BitVec 32 := 3#32
  let v673_r0 : BitVec 32 := Scalar.addi v672_r0 c3_i32_408_r0
  let c7_i32_411_r0 : BitVec 32 := 7#32
  let v676_r0 : BitVec 32 := Scalar.addi v673_r0 c7_i32_411_r0
  let c30_i32_479_r0 : BitVec 32 := 30#32
  let v782_r0 : BitVec 32 := Scalar.subi v676_r0 c30_i32_479_r0
  let c512_i32_480_r0 : BitVec 32 := 512#32
  let v783_r0 : BitVec 32 := Scalar.muli v782_r0 c512_i32_480_r0
  let v784_r0 : BitVec 32 := v783_r0
  ![v233_r0.toNat, 0, v784_r0.toNat]
def k0_mult64 (k0_t10 : Fin k0_t10_loop.trips) : BitVec 32 :=
  let c0_i32_356_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let v586_r0 : BitVec 32 := Scalar.addi c0_i32_356_r0 arg36_r0
  let c512_i32_418_r0 : BitVec 32 := 512#32
  let v689_r0 : BitVec 32 := Scalar.muli v586_r0 c512_i32_418_r0
  v689_r0
def k0_off207 (v233_r0 : BitVec 32) (k0_t10 : Fin k0_t10_loop.trips) : Fin 3 → Nat :=
  let v691_r0 : Index := Scalar.indexCast v233_r0
  let c0_419_r0 : Index := 0#32
  let c0_i32_356_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let v586_r0 : BitVec 32 := Scalar.addi c0_i32_356_r0 arg36_r0
  let c512_i32_418_r0 : BitVec 32 := 512#32
  let v689_r0 : BitVec 32 := Scalar.muli v586_r0 c512_i32_418_r0
  let v690_r0 : BitVec 32 := v689_r0
  let v692_r0 : Index := Scalar.indexCast v690_r0
  ![v691_r0.toNat, 0, v692_r0.toNat]
def k0_off208 (k0_t10 : Fin k0_t10_loop.trips) : Fin 2 → Nat :=
  let c0_421_r0 : Index := 0#32
  let c0_i32_356_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let v586_r0 : BitVec 32 := Scalar.addi c0_i32_356_r0 arg36_r0
  let c512_i32_418_r0 : BitVec 32 := 512#32
  let v689_r0 : BitVec 32 := Scalar.muli v586_r0 c512_i32_418_r0
  let v690_r0 : BitVec 32 := v689_r0
  let v696_r0 : Index := Scalar.indexCast v690_r0
  ![0, v696_r0.toNat]
def k0_mult65 (k0_t10 : Fin k0_t10_loop.trips) : BitVec 32 :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  v700_r0
def k0_off209 (k0_t10 : Fin k0_t10_loop.trips) : Fin 2 → Nat :=
  let c0_425_r0 : Index := 0#32
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v703_r0 : Index := Scalar.indexCast v701_r0
  ![0, v703_r0.toNat]
def k0_off210 (k0_t10 : Fin k0_t10_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v705_r0 : Index := Scalar.indexCast v701_r0
  let c0_426_r0 : Index := 0#32
  ![v705_r0.toNat, 0]
def k0_off211 (k0_t10 : Fin k0_t10_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v715_r0 : Index := Scalar.indexCast v701_r0
  let c512_433_r0 : Index := 512#32
  ![v715_r0.toNat, 512]
def k0_off212 (k0_t10 : Fin k0_t10_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v725_r0 : Index := Scalar.indexCast v701_r0
  let c1024_440_r0 : Index := 1024#32
  ![v725_r0.toNat, 1024]
def k0_off213 (k0_t10 : Fin k0_t10_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v735_r0 : Index := Scalar.indexCast v701_r0
  let c1536_447_r0 : Index := 1536#32
  ![v735_r0.toNat, 1536]
def k0_off214 (k0_t10 : Fin k0_t10_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v745_r0 : Index := Scalar.indexCast v701_r0
  let c2048_454_r0 : Index := 2048#32
  ![v745_r0.toNat, 2048]
def k0_off215 (k0_t10 : Fin k0_t10_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v755_r0 : Index := Scalar.indexCast v701_r0
  let c2560_461_r0 : Index := 2560#32
  ![v755_r0.toNat, 2560]
def k0_off216 (k0_t10 : Fin k0_t10_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v765_r0 : Index := Scalar.indexCast v701_r0
  let c3072_468_r0 : Index := 3072#32
  ![v765_r0.toNat, 3072]
def k0_off217 (k0_t10 : Fin k0_t10_loop.trips) : Fin 2 → Nat :=
  let c0_i32_358_r0 : BitVec 32 := 0#32
  let c0_i32_230_r0 : BitVec 32 := 0#32
  let c1_i32_231_r0 : BitVec 32 := 1#32
  let arg36_r0 : BitVec 32 := Scf.iv c0_i32_230_r0 c1_i32_231_r0 k0_t10
  let c4_i32_357_r0 : BitVec 32 := 4#32
  let v587_r0 : BitVec 32 := Scalar.muli arg36_r0 c4_i32_357_r0
  let v588_r0 : BitVec 32 := Scalar.addi c0_i32_358_r0 v587_r0
  let c256_i32_422_r0 : BitVec 32 := 256#32
  let v700_r0 : BitVec 32 := Scalar.muli v588_r0 c256_i32_422_r0
  let v701_r0 : BitVec 32 := v700_r0
  let v775_r0 : Index := Scalar.indexCast v701_r0
  let c3584_475_r0 : Index := 3584#32
  ![v775_r0.toNat, 3584]
@[reducible] def k0_t11_loop : Scf.Loop 32 :=
  let c0_i32_234_r0 : BitVec 32 := 0#32
  let c2_i32_235_r0 : BitVec 32 := 2#32
  let v353_r0 : BitVec 32 := Scalar.addi c0_i32_234_r0 c2_i32_235_r0
  let c1_i32_236_r0 : BitVec 32 := 1#32
  ⟨c0_i32_234_r0, v353_r0, c1_i32_236_r0⟩
def k0_mult66 (k0_t11 : Fin k0_t11_loop.trips) : BitVec 32 :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c0_i32_358_r0 : BitVec 32 := 0#32
  let v589_r0 : BitVec 32 := Scalar.addi v588_r0 c0_i32_358_r0
  let c256_i32_r0 : BitVec 32 := 256#32
  let v590_r0 : BitVec 32 := Scalar.muli v589_r0 c256_i32_r0
  v590_r0
def k0_off218 (k0_t11 : Fin k0_t11_loop.trips) (c0_i32_358_r0 : BitVec 32) : Fin 1 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v589_r0 : BitVec 32 := Scalar.addi v588_r0 c0_i32_358_r0
  ![v589_r0.toNat]
def k0_off219 (k0_t11 : Fin k0_t11_loop.trips) (c0_i32_358_r0 : BitVec 32) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v589_r0 : BitVec 32 := Scalar.addi v588_r0 c0_i32_358_r0
  let c256_i32_r0 : BitVec 32 := 256#32
  let v590_r0 : BitVec 32 := Scalar.muli v589_r0 c256_i32_r0
  let v591_r0 : BitVec 32 := v590_r0
  let c0_i32_359_r0 : BitVec 32 := 0#32
  ![v591_r0.toNat, 0]
def k0_off220 (v233_r0 : BitVec 32) (k0_t11 : Fin k0_t11_loop.trips) (c0_i32_358_r0 : BitVec 32) : Fin 3 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v589_r0 : BitVec 32 := Scalar.addi v588_r0 c0_i32_358_r0
  let c256_i32_r0 : BitVec 32 := 256#32
  let v590_r0 : BitVec 32 := Scalar.muli v589_r0 c256_i32_r0
  let v591_r0 : BitVec 32 := v590_r0
  let c0_i32_360_r0 : BitVec 32 := 0#32
  ![v233_r0.toNat, v591_r0.toNat, 0]
def k0_cond50 (k0_t11 : Fin k0_t11_loop.trips) : BitVec 1 :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c2_i32_366_r0 : BitVec 32 := 2#32
  let v602_r0 : BitVec 1 := Scalar.cmpi .sge v601_r0 c2_i32_366_r0
  let c30_i32_367_r0 : BitVec 32 := 30#32
  let v603_r0 : BitVec 1 := Scalar.cmpi .slt v601_r0 c30_i32_367_r0
  let v604_r0 : BitVec 1 := Scalar.andi v602_r0 v603_r0
  let c0_i32_363_r0 : BitVec 32 := 0#32
  let v599_r0 : BitVec 32 := Scalar.addi v588_r0 c0_i32_363_r0
  let c4_i32_364_r0 : BitVec 32 := 4#32
  let v600_r0 : BitVec 1 := Scalar.cmpi .sge v599_r0 c4_i32_364_r0
  let v605_r0 : BitVec 1 := Scalar.andi v604_r0 v600_r0
  let v606_r0 : BitVec 32 := Scalar.extui v605_r0
  let c0_i32_368_r0 : BitVec 32 := 0#32
  let v607_r0 : BitVec 1 := Scalar.cmpi .ne v606_r0 c0_i32_368_r0
  v607_r0

def k0_mult67 (k0_t11 : Fin k0_t11_loop.trips) : BitVec 32 :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c2_i32_448_r0 : BitVec 32 := 2#32
  let v732_r0 : BitVec 32 := Scalar.subi v601_r0 c2_i32_448_r0
  let c256_i32_449_r0 : BitVec 32 := 256#32
  let v733_r0 : BitVec 32 := Scalar.muli v732_r0 c256_i32_449_r0
  v733_r0
def k0_off221 (k0_t11 : Fin k0_t11_loop.trips) : Fin 1 → Nat :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c2_i32_448_r0 : BitVec 32 := 2#32
  let v732_r0 : BitVec 32 := Scalar.subi v601_r0 c2_i32_448_r0
  ![v732_r0.toNat]
def k0_off222 (k0_t11 : Fin k0_t11_loop.trips) : Fin 2 → Nat :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c2_i32_448_r0 : BitVec 32 := 2#32
  let v732_r0 : BitVec 32 := Scalar.subi v601_r0 c2_i32_448_r0
  let c256_i32_449_r0 : BitVec 32 := 256#32
  let v733_r0 : BitVec 32 := Scalar.muli v732_r0 c256_i32_449_r0
  let v734_r0 : BitVec 32 := v733_r0
  let c0_i32_450_r0 : BitVec 32 := 0#32
  ![v734_r0.toNat, 0]
def k0_off223 (v233_r0 : BitVec 32) (k0_t11 : Fin k0_t11_loop.trips) : Fin 3 → Nat :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c2_i32_448_r0 : BitVec 32 := 2#32
  let v732_r0 : BitVec 32 := Scalar.subi v601_r0 c2_i32_448_r0
  let c256_i32_449_r0 : BitVec 32 := 256#32
  let v733_r0 : BitVec 32 := Scalar.muli v732_r0 c256_i32_449_r0
  let v734_r0 : BitVec 32 := v733_r0
  let c0_i32_451_r0 : BitVec 32 := 0#32
  ![v233_r0.toNat, v734_r0.toNat, 0]
def k0_cond51 (k0_t11 : Fin k0_t11_loop.trips) : BitVec 1 :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c30_i32_369_r0 : BitVec 32 := 30#32
  let v608_r0 : BitVec 1 := Scalar.cmpi .sge v601_r0 c30_i32_369_r0
  let c44_i32_370_r0 : BitVec 32 := 44#32
  let v609_r0 : BitVec 1 := Scalar.cmpi .slt v601_r0 c44_i32_370_r0
  let v610_r0 : BitVec 1 := Scalar.andi v608_r0 v609_r0
  let c0_i32_363_r0 : BitVec 32 := 0#32
  let v599_r0 : BitVec 32 := Scalar.addi v588_r0 c0_i32_363_r0
  let c4_i32_364_r0 : BitVec 32 := 4#32
  let v600_r0 : BitVec 1 := Scalar.cmpi .sge v599_r0 c4_i32_364_r0
  let v611_r0 : BitVec 1 := Scalar.andi v610_r0 v600_r0
  let v612_r0 : BitVec 32 := Scalar.extui v611_r0
  let c0_i32_371_r0 : BitVec 32 := 0#32
  let v613_r0 : BitVec 1 := Scalar.cmpi .ne v612_r0 c0_i32_371_r0
  v613_r0

def k0_mult68 (k0_t11 : Fin k0_t11_loop.trips) : BitVec 32 :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c30_i32_448_r0 : BitVec 32 := 30#32
  let v732_r0 : BitVec 32 := Scalar.subi v601_r0 c30_i32_448_r0
  let c512_i32_449_r0 : BitVec 32 := 512#32
  let v733_r0 : BitVec 32 := Scalar.muli v732_r0 c512_i32_449_r0
  v733_r0
def k0_off224 (k0_t11 : Fin k0_t11_loop.trips) : Fin 1 → Nat :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c30_i32_448_r0 : BitVec 32 := 30#32
  let v732_r0 : BitVec 32 := Scalar.subi v601_r0 c30_i32_448_r0
  ![v732_r0.toNat]
def k0_off225 (k0_t11 : Fin k0_t11_loop.trips) : Fin 3 → Nat :=
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c30_i32_448_r0 : BitVec 32 := 30#32
  let v732_r0 : BitVec 32 := Scalar.subi v601_r0 c30_i32_448_r0
  let c0_i32_450_r0 : BitVec 32 := 0#32
  let c0_i32_451_r0 : BitVec 32 := 0#32
  ![v732_r0.toNat, 0, 0]
def k0_off226 (v233_r0 : BitVec 32) (k0_t11 : Fin k0_t11_loop.trips) : Fin 3 → Nat :=
  let c0_i32_452_r0 : BitVec 32 := 0#32
  let c2_i32_361_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v597_r0 : BitVec 32 := Scalar.addi c2_i32_361_r0 v588_r0
  let c0_i32_362_r0 : BitVec 32 := 0#32
  let v598_r0 : BitVec 32 := Scalar.addi v597_r0 c0_i32_362_r0
  let c7_i32_365_r0 : BitVec 32 := 7#32
  let v601_r0 : BitVec 32 := Scalar.addi v598_r0 c7_i32_365_r0
  let c30_i32_448_r0 : BitVec 32 := 30#32
  let v732_r0 : BitVec 32 := Scalar.subi v601_r0 c30_i32_448_r0
  let c512_i32_449_r0 : BitVec 32 := 512#32
  let v733_r0 : BitVec 32 := Scalar.muli v732_r0 c512_i32_449_r0
  let v734_r0 : BitVec 32 := v733_r0
  ![v233_r0.toNat, 0, v734_r0.toNat]
def k0_mult69 (k0_t11 : Fin k0_t11_loop.trips) : BitVec 32 :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c1_i32_372_r0 : BitVec 32 := 1#32
  let v614_r0 : BitVec 32 := Scalar.addi v588_r0 c1_i32_372_r0
  let c256_i32_373_r0 : BitVec 32 := 256#32
  let v615_r0 : BitVec 32 := Scalar.muli v614_r0 c256_i32_373_r0
  v615_r0
def k0_cond52 (k0_t11 : Fin k0_t11_loop.trips) : BitVec 1 :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c2_i32_381_r0 : BitVec 32 := 2#32
  let v627_r0 : BitVec 1 := Scalar.cmpi .sge v626_r0 c2_i32_381_r0
  let c30_i32_382_r0 : BitVec 32 := 30#32
  let v628_r0 : BitVec 1 := Scalar.cmpi .slt v626_r0 c30_i32_382_r0
  let v629_r0 : BitVec 1 := Scalar.andi v627_r0 v628_r0
  let c1_i32_378_r0 : BitVec 32 := 1#32
  let v624_r0 : BitVec 32 := Scalar.addi v588_r0 c1_i32_378_r0
  let c4_i32_379_r0 : BitVec 32 := 4#32
  let v625_r0 : BitVec 1 := Scalar.cmpi .sge v624_r0 c4_i32_379_r0
  let v630_r0 : BitVec 1 := Scalar.andi v629_r0 v625_r0
  let v631_r0 : BitVec 32 := Scalar.extui v630_r0
  let c0_i32_383_r0 : BitVec 32 := 0#32
  let v632_r0 : BitVec 1 := Scalar.cmpi .ne v631_r0 c0_i32_383_r0
  v632_r0

def k0_mult70 (k0_t11 : Fin k0_t11_loop.trips) : BitVec 32 :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c2_i32_448_r0 : BitVec 32 := 2#32
  let v732_r0 : BitVec 32 := Scalar.subi v626_r0 c2_i32_448_r0
  let c256_i32_449_r0 : BitVec 32 := 256#32
  let v733_r0 : BitVec 32 := Scalar.muli v732_r0 c256_i32_449_r0
  v733_r0
def k0_off227 (k0_t11 : Fin k0_t11_loop.trips) : Fin 1 → Nat :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c2_i32_448_r0 : BitVec 32 := 2#32
  let v732_r0 : BitVec 32 := Scalar.subi v626_r0 c2_i32_448_r0
  ![v732_r0.toNat]
def k0_off228 (k0_t11 : Fin k0_t11_loop.trips) : Fin 2 → Nat :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c2_i32_448_r0 : BitVec 32 := 2#32
  let v732_r0 : BitVec 32 := Scalar.subi v626_r0 c2_i32_448_r0
  let c256_i32_449_r0 : BitVec 32 := 256#32
  let v733_r0 : BitVec 32 := Scalar.muli v732_r0 c256_i32_449_r0
  let v734_r0 : BitVec 32 := v733_r0
  let c0_i32_450_r0 : BitVec 32 := 0#32
  ![v734_r0.toNat, 0]
def k0_off229 (v233_r0 : BitVec 32) (k0_t11 : Fin k0_t11_loop.trips) : Fin 3 → Nat :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c2_i32_448_r0 : BitVec 32 := 2#32
  let v732_r0 : BitVec 32 := Scalar.subi v626_r0 c2_i32_448_r0
  let c256_i32_449_r0 : BitVec 32 := 256#32
  let v733_r0 : BitVec 32 := Scalar.muli v732_r0 c256_i32_449_r0
  let v734_r0 : BitVec 32 := v733_r0
  let c0_i32_451_r0 : BitVec 32 := 0#32
  ![v233_r0.toNat, v734_r0.toNat, 0]
def k0_cond53 (k0_t11 : Fin k0_t11_loop.trips) : BitVec 1 :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c30_i32_384_r0 : BitVec 32 := 30#32
  let v633_r0 : BitVec 1 := Scalar.cmpi .sge v626_r0 c30_i32_384_r0
  let c44_i32_385_r0 : BitVec 32 := 44#32
  let v634_r0 : BitVec 1 := Scalar.cmpi .slt v626_r0 c44_i32_385_r0
  let v635_r0 : BitVec 1 := Scalar.andi v633_r0 v634_r0
  let c1_i32_378_r0 : BitVec 32 := 1#32
  let v624_r0 : BitVec 32 := Scalar.addi v588_r0 c1_i32_378_r0
  let c4_i32_379_r0 : BitVec 32 := 4#32
  let v625_r0 : BitVec 1 := Scalar.cmpi .sge v624_r0 c4_i32_379_r0
  let v636_r0 : BitVec 1 := Scalar.andi v635_r0 v625_r0
  let v637_r0 : BitVec 32 := Scalar.extui v636_r0
  let c0_i32_386_r0 : BitVec 32 := 0#32
  let v638_r0 : BitVec 1 := Scalar.cmpi .ne v637_r0 c0_i32_386_r0
  v638_r0

def k0_mult71 (k0_t11 : Fin k0_t11_loop.trips) : BitVec 32 :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c30_i32_448_r0 : BitVec 32 := 30#32
  let v732_r0 : BitVec 32 := Scalar.subi v626_r0 c30_i32_448_r0
  let c512_i32_449_r0 : BitVec 32 := 512#32
  let v733_r0 : BitVec 32 := Scalar.muli v732_r0 c512_i32_449_r0
  v733_r0
def k0_off230 (k0_t11 : Fin k0_t11_loop.trips) : Fin 1 → Nat :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c30_i32_448_r0 : BitVec 32 := 30#32
  let v732_r0 : BitVec 32 := Scalar.subi v626_r0 c30_i32_448_r0
  ![v732_r0.toNat]
def k0_off231 (k0_t11 : Fin k0_t11_loop.trips) : Fin 3 → Nat :=
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c30_i32_448_r0 : BitVec 32 := 30#32
  let v732_r0 : BitVec 32 := Scalar.subi v626_r0 c30_i32_448_r0
  let c0_i32_450_r0 : BitVec 32 := 0#32
  let c0_i32_451_r0 : BitVec 32 := 0#32
  ![v732_r0.toNat, 0, 0]
def k0_off232 (v233_r0 : BitVec 32) (k0_t11 : Fin k0_t11_loop.trips) : Fin 3 → Nat :=
  let c0_i32_452_r0 : BitVec 32 := 0#32
  let c2_i32_376_r0 : BitVec 32 := 2#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let v622_r0 : BitVec 32 := Scalar.addi c2_i32_376_r0 v588_r0
  let c1_i32_377_r0 : BitVec 32 := 1#32
  let v623_r0 : BitVec 32 := Scalar.addi v622_r0 c1_i32_377_r0
  let c7_i32_380_r0 : BitVec 32 := 7#32
  let v626_r0 : BitVec 32 := Scalar.addi v623_r0 c7_i32_380_r0
  let c30_i32_448_r0 : BitVec 32 := 30#32
  let v732_r0 : BitVec 32 := Scalar.subi v626_r0 c30_i32_448_r0
  let c512_i32_449_r0 : BitVec 32 := 512#32
  let v733_r0 : BitVec 32 := Scalar.muli v732_r0 c512_i32_449_r0
  let v734_r0 : BitVec 32 := v733_r0
  ![v233_r0.toNat, 0, v734_r0.toNat]
def k0_mult72 (k0_t11 : Fin k0_t11_loop.trips) : BitVec 32 :=
  let c6_i32_356_r0 : BitVec 32 := 6#32
  let c0_i32_234_r0 : BitVec 32 := 0#32
  let c1_i32_236_r0 : BitVec 32 := 1#32
  let arg36_r0 : BitVec 32 := Scf.iv c0_i32_234_r0 c1_i32_236_r0 k0_t11
  let v586_r0 : BitVec 32 := Scalar.addi c6_i32_356_r0 arg36_r0
  let c512_i32_387_r0 : BitVec 32 := 512#32
  let v639_r0 : BitVec 32 := Scalar.muli v586_r0 c512_i32_387_r0
  v639_r0
def k0_off233 (v233_r0 : BitVec 32) (k0_t11 : Fin k0_t11_loop.trips) : Fin 3 → Nat :=
  let v641_r0 : Index := Scalar.indexCast v233_r0
  let c0_388_r0 : Index := 0#32
  let c6_i32_356_r0 : BitVec 32 := 6#32
  let c0_i32_234_r0 : BitVec 32 := 0#32
  let c1_i32_236_r0 : BitVec 32 := 1#32
  let arg36_r0 : BitVec 32 := Scf.iv c0_i32_234_r0 c1_i32_236_r0 k0_t11
  let v586_r0 : BitVec 32 := Scalar.addi c6_i32_356_r0 arg36_r0
  let c512_i32_387_r0 : BitVec 32 := 512#32
  let v639_r0 : BitVec 32 := Scalar.muli v586_r0 c512_i32_387_r0
  let v640_r0 : BitVec 32 := v639_r0
  let v642_r0 : Index := Scalar.indexCast v640_r0
  ![v641_r0.toNat, 0, v642_r0.toNat]
def k0_off234 (k0_t11 : Fin k0_t11_loop.trips) : Fin 2 → Nat :=
  let c0_390_r0 : Index := 0#32
  let c6_i32_356_r0 : BitVec 32 := 6#32
  let c0_i32_234_r0 : BitVec 32 := 0#32
  let c1_i32_236_r0 : BitVec 32 := 1#32
  let arg36_r0 : BitVec 32 := Scf.iv c0_i32_234_r0 c1_i32_236_r0 k0_t11
  let v586_r0 : BitVec 32 := Scalar.addi c6_i32_356_r0 arg36_r0
  let c512_i32_387_r0 : BitVec 32 := 512#32
  let v639_r0 : BitVec 32 := Scalar.muli v586_r0 c512_i32_387_r0
  let v640_r0 : BitVec 32 := v639_r0
  let v646_r0 : Index := Scalar.indexCast v640_r0
  ![0, v646_r0.toNat]
def k0_mult73 (k0_t11 : Fin k0_t11_loop.trips) : BitVec 32 :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  v650_r0
def k0_off235 (k0_t11 : Fin k0_t11_loop.trips) : Fin 2 → Nat :=
  let c0_394_r0 : Index := 0#32
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v653_r0 : Index := Scalar.indexCast v651_r0
  ![0, v653_r0.toNat]
def k0_off236 (k0_t11 : Fin k0_t11_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v655_r0 : Index := Scalar.indexCast v651_r0
  let c0_395_r0 : Index := 0#32
  ![v655_r0.toNat, 0]
def k0_off237 (k0_t11 : Fin k0_t11_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v665_r0 : Index := Scalar.indexCast v651_r0
  let c512_402_r0 : Index := 512#32
  ![v665_r0.toNat, 512]
def k0_off238 (k0_t11 : Fin k0_t11_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v675_r0 : Index := Scalar.indexCast v651_r0
  let c1024_409_r0 : Index := 1024#32
  ![v675_r0.toNat, 1024]
def k0_off239 (k0_t11 : Fin k0_t11_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v685_r0 : Index := Scalar.indexCast v651_r0
  let c1536_416_r0 : Index := 1536#32
  ![v685_r0.toNat, 1536]
def k0_off240 (k0_t11 : Fin k0_t11_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v695_r0 : Index := Scalar.indexCast v651_r0
  let c2048_423_r0 : Index := 2048#32
  ![v695_r0.toNat, 2048]
def k0_off241 (k0_t11 : Fin k0_t11_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v705_r0 : Index := Scalar.indexCast v651_r0
  let c2560_430_r0 : Index := 2560#32
  ![v705_r0.toNat, 2560]
def k0_off242 (k0_t11 : Fin k0_t11_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v715_r0 : Index := Scalar.indexCast v651_r0
  let c3072_437_r0 : Index := 3072#32
  ![v715_r0.toNat, 3072]
def k0_off243 (k0_t11 : Fin k0_t11_loop.trips) : Fin 2 → Nat :=
  let c24_i32_r0 : BitVec 32 := 24#32
  let c0_i32_234_r0 : BitVec 32 := 0#32
  let c1_i32_236_r0 : BitVec 32 := 1#32
  let arg36_r0 : BitVec 32 := Scf.iv c0_i32_234_r0 c1_i32_236_r0 k0_t11
  let c2_i32_357_r0 : BitVec 32 := 2#32
  let v587_r0 : BitVec 32 := Scalar.muli arg36_r0 c2_i32_357_r0
  let v588_r0 : BitVec 32 := Scalar.addi c24_i32_r0 v587_r0
  let c256_i32_391_r0 : BitVec 32 := 256#32
  let v650_r0 : BitVec 32 := Scalar.muli v588_r0 c256_i32_391_r0
  let v651_r0 : BitVec 32 := v650_r0
  let v725_r0 : Index := Scalar.indexCast v651_r0
  let c3584_444_r0 : Index := 3584#32
  ![v725_r0.toNat, 3584]
def k0_off244 (v233_r0 : BitVec 32) : Fin 2 → Nat :=
  let v359_r0 : Index := Scalar.indexCast v233_r0
  let c0_243_r0 : Index := 0#32
  ![v359_r0.toNat, 0]
def k0_off245 (v233_r0 : BitVec 32) : Fin 2 → Nat :=
  let v371_r0 : Index := Scalar.indexCast v233_r0
  let c2048_248_r0 : Index := 2048#32
  ![v371_r0.toNat, 2048]
def k0_off246 (v233_r0 : BitVec 32) : Fin 2 → Nat :=
  let v389_r0 : Index := Scalar.indexCast v233_r0
  let c512_256_r0 : Index := 512#32
  ![v389_r0.toNat, 512]
def k0_off247 (v233_r0 : BitVec 32) : Fin 2 → Nat :=
  let v401_r0 : Index := Scalar.indexCast v233_r0
  let c2560_261_r0 : Index := 2560#32
  ![v401_r0.toNat, 2560]
def k0_off248 (v233_r0 : BitVec 32) : Fin 2 → Nat :=
  let v419_r0 : Index := Scalar.indexCast v233_r0
  let c1024_269_r0 : Index := 1024#32
  ![v419_r0.toNat, 1024]
def k0_off249 (v233_r0 : BitVec 32) : Fin 2 → Nat :=
  let v431_r0 : Index := Scalar.indexCast v233_r0
  let c3072_274_r0 : Index := 3072#32
  ![v431_r0.toNat, 3072]
def k0_off250 (v233_r0 : BitVec 32) : Fin 2 → Nat :=
  let v449_r0 : Index := Scalar.indexCast v233_r0
  let c1536_282_r0 : Index := 1536#32
  ![v449_r0.toNat, 1536]
def k0_off251 (v233_r0 : BitVec 32) : Fin 2 → Nat :=
  let v461_r0 : Index := Scalar.indexCast v233_r0
  let c3584_287_r0 : Index := 3584#32
  ![v461_r0.toNat, 3584]
@[reducible] def k0_t12_loop : Scf.Loop 32 :=
  let c0_i32_309_r0 : BitVec 32 := 0#32
  let c5_i32_310_r0 : BitVec 32 := 5#32
  let v510_r0 : BitVec 32 := Scalar.addi c0_i32_309_r0 c5_i32_310_r0
  let c1_i32_311_r0 : BitVec 32 := 1#32
  ⟨c0_i32_309_r0, v510_r0, c1_i32_311_r0⟩
def k0_mult74 (k0_t12 : Fin k0_t12_loop.trips) : BitVec 32 :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let c0_i32_359_r0 : BitVec 32 := 0#32
  let v589_r0 : BitVec 32 := Scalar.addi v588_r0 c0_i32_359_r0
  let c512_i32_360_r0 : BitVec 32 := 512#32
  let v590_r0 : BitVec 32 := Scalar.muli v589_r0 c512_i32_360_r0
  v590_r0
def k0_off252 (k0_t12 : Fin k0_t12_loop.trips) : Fin 1 → Nat :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let c0_i32_359_r0 : BitVec 32 := 0#32
  let v589_r0 : BitVec 32 := Scalar.addi v588_r0 c0_i32_359_r0
  ![v589_r0.toNat]
def k0_off253 (k0_t12 : Fin k0_t12_loop.trips) : Fin 3 → Nat :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let c0_i32_359_r0 : BitVec 32 := 0#32
  let v589_r0 : BitVec 32 := Scalar.addi v588_r0 c0_i32_359_r0
  let c0_i32_361_r0 : BitVec 32 := 0#32
  let c0_i32_362_r0 : BitVec 32 := 0#32
  ![v589_r0.toNat, 0, 0]
def k0_off254 (v233_r0 : BitVec 32) (k0_t12 : Fin k0_t12_loop.trips) : Fin 3 → Nat :=
  let c0_i32_363_r0 : BitVec 32 := 0#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let c0_i32_359_r0 : BitVec 32 := 0#32
  let v589_r0 : BitVec 32 := Scalar.addi v588_r0 c0_i32_359_r0
  let c512_i32_360_r0 : BitVec 32 := 512#32
  let v590_r0 : BitVec 32 := Scalar.muli v589_r0 c512_i32_360_r0
  let v591_r0 : BitVec 32 := v590_r0
  ![v233_r0.toNat, 0, v591_r0.toNat]
def k0_off255 (v238_r0 : BitVec 32) : Fin 3 → Nat :=
  let c0_i32_434_r0 : BitVec 32 := 0#32
  let c0_i32_435_r0 : BitVec 32 := 0#32
  ![v238_r0.toNat, 0, 0]
def k0_cond54 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (k0_t12 : Fin k0_t12_loop.trips) : BitVec 1 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c44_i32_367_r0 : BitVec 32 := 44#32
  let v601_r0 : BitVec 1 := Scalar.cmpi .sge v600_r0 c44_i32_367_r0
  let c45_i32_368_r0 : BitVec 32 := 45#32
  let v602_r0 : BitVec 1 := Scalar.cmpi .slt v600_r0 c45_i32_368_r0
  let v603_r0 : BitVec 1 := Scalar.andi v601_r0 v602_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v604_r0 : BitVec 1 := Scalar.andi v603_r0 v240_r0
  let true_369_r0 : BitVec 1 := 1#1
  let v605_r0 : BitVec 1 := Scalar.andi v604_r0 true_369_r0
  let v606_r0 : BitVec 32 := Scalar.extui v605_r0
  let c0_i32_370_r0 : BitVec 32 := 0#32
  let v607_r0 : BitVec 1 := Scalar.cmpi .ne v606_r0 c0_i32_370_r0
  v607_r0

def k0_off256 (v238_r0 : BitVec 32) : Fin 3 → Nat :=
  let c64_i32_434_r0 : BitVec 32 := 64#32
  let c0_i32_435_r0 : BitVec 32 := 0#32
  ![v238_r0.toNat, 64, 0]
def k0_cond55 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (k0_t12 : Fin k0_t12_loop.trips) : BitVec 1 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c45_i32_371_r0 : BitVec 32 := 45#32
  let v608_r0 : BitVec 1 := Scalar.cmpi .sge v600_r0 c45_i32_371_r0
  let c46_i32_372_r0 : BitVec 32 := 46#32
  let v609_r0 : BitVec 1 := Scalar.cmpi .slt v600_r0 c46_i32_372_r0
  let v610_r0 : BitVec 1 := Scalar.andi v608_r0 v609_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v611_r0 : BitVec 1 := Scalar.andi v610_r0 v240_r0
  let true_373_r0 : BitVec 1 := 1#1
  let v612_r0 : BitVec 1 := Scalar.andi v611_r0 true_373_r0
  let v613_r0 : BitVec 32 := Scalar.extui v612_r0
  let c0_i32_374_r0 : BitVec 32 := 0#32
  let v614_r0 : BitVec 1 := Scalar.cmpi .ne v613_r0 c0_i32_374_r0
  v614_r0

def k0_mult75 (k0_t12 : Fin k0_t12_loop.trips) : BitVec 32 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c46_i32_433_r0 : BitVec 32 := 46#32
  let v729_r0 : BitVec 32 := Scalar.subi v600_r0 c46_i32_433_r0
  let c256_i32_r0 : BitVec 32 := 256#32
  let v730_r0 : BitVec 32 := Scalar.muli v729_r0 c256_i32_r0
  v730_r0
def k0_off257 (k0_t12 : Fin k0_t12_loop.trips) : Fin 1 → Nat :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c46_i32_433_r0 : BitVec 32 := 46#32
  let v729_r0 : BitVec 32 := Scalar.subi v600_r0 c46_i32_433_r0
  ![v729_r0.toNat]
def k0_cond56 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (k0_t12 : Fin k0_t12_loop.trips) : BitVec 1 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c46_i32_375_r0 : BitVec 32 := 46#32
  let v615_r0 : BitVec 1 := Scalar.cmpi .sge v600_r0 c46_i32_375_r0
  let c74_i32_376_r0 : BitVec 32 := 74#32
  let v616_r0 : BitVec 1 := Scalar.cmpi .slt v600_r0 c74_i32_376_r0
  let v617_r0 : BitVec 1 := Scalar.andi v615_r0 v616_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v618_r0 : BitVec 1 := Scalar.andi v617_r0 v240_r0
  let true_377_r0 : BitVec 1 := 1#1
  let v619_r0 : BitVec 1 := Scalar.andi v618_r0 true_377_r0
  let v620_r0 : BitVec 32 := Scalar.extui v619_r0
  let c0_i32_378_r0 : BitVec 32 := 0#32
  let v621_r0 : BitVec 1 := Scalar.cmpi .ne v620_r0 c0_i32_378_r0
  v621_r0

def k0_off258 (k0_t12 : Fin k0_t12_loop.trips) : Fin 2 → Nat :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c46_i32_433_r0 : BitVec 32 := 46#32
  let v729_r0 : BitVec 32 := Scalar.subi v600_r0 c46_i32_433_r0
  let c256_i32_r0 : BitVec 32 := 256#32
  let v730_r0 : BitVec 32 := Scalar.muli v729_r0 c256_i32_r0
  let v731_r0 : BitVec 32 := v730_r0
  let c0_i32_434_r0 : BitVec 32 := 0#32
  ![v731_r0.toNat, 0]
def k0_off259 (v238_r0 : BitVec 32) (k0_t12 : Fin k0_t12_loop.trips) : Fin 3 → Nat :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c46_i32_433_r0 : BitVec 32 := 46#32
  let v729_r0 : BitVec 32 := Scalar.subi v600_r0 c46_i32_433_r0
  let c256_i32_r0 : BitVec 32 := 256#32
  let v730_r0 : BitVec 32 := Scalar.muli v729_r0 c256_i32_r0
  let v731_r0 : BitVec 32 := v730_r0
  let c0_i32_435_r0 : BitVec 32 := 0#32
  ![v238_r0.toNat, v731_r0.toNat, 0]
def k0_cond57 (k0_t12 : Fin k0_t12_loop.trips) : BitVec 1 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c30_i32_379_r0 : BitVec 32 := 30#32
  let v622_r0 : BitVec 1 := Scalar.cmpi .sge v600_r0 c30_i32_379_r0
  let c44_i32_380_r0 : BitVec 32 := 44#32
  let v623_r0 : BitVec 1 := Scalar.cmpi .slt v600_r0 c44_i32_380_r0
  let v624_r0 : BitVec 1 := Scalar.andi v622_r0 v623_r0
  let true_381_r0 : BitVec 1 := 1#1
  let v625_r0 : BitVec 1 := Scalar.andi v624_r0 true_381_r0
  let v626_r0 : BitVec 32 := Scalar.extui v625_r0
  let c0_i32_382_r0 : BitVec 32 := 0#32
  let v627_r0 : BitVec 1 := Scalar.cmpi .ne v626_r0 c0_i32_382_r0
  v627_r0

def k0_mult76 (k0_t12 : Fin k0_t12_loop.trips) : BitVec 32 :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c30_i32_433_r0 : BitVec 32 := 30#32
  let v729_r0 : BitVec 32 := Scalar.subi v600_r0 c30_i32_433_r0
  let c512_i32_434_r0 : BitVec 32 := 512#32
  let v730_r0 : BitVec 32 := Scalar.muli v729_r0 c512_i32_434_r0
  v730_r0
def k0_off260 (k0_t12 : Fin k0_t12_loop.trips) : Fin 1 → Nat :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c30_i32_433_r0 : BitVec 32 := 30#32
  let v729_r0 : BitVec 32 := Scalar.subi v600_r0 c30_i32_433_r0
  ![v729_r0.toNat]
def k0_off261 (k0_t12 : Fin k0_t12_loop.trips) : Fin 3 → Nat :=
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c30_i32_433_r0 : BitVec 32 := 30#32
  let v729_r0 : BitVec 32 := Scalar.subi v600_r0 c30_i32_433_r0
  let c0_i32_435_r0 : BitVec 32 := 0#32
  let c0_i32_436_r0 : BitVec 32 := 0#32
  ![v729_r0.toNat, 0, 0]
def k0_off262 (v233_r0 : BitVec 32) (k0_t12 : Fin k0_t12_loop.trips) : Fin 3 → Nat :=
  let c0_i32_437_r0 : BitVec 32 := 0#32
  let c30_i32_364_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v598_r0 : BitVec 32 := Scalar.addi c30_i32_364_r0 v588_r0
  let c0_i32_365_r0 : BitVec 32 := 0#32
  let v599_r0 : BitVec 32 := Scalar.addi v598_r0 c0_i32_365_r0
  let c7_i32_366_r0 : BitVec 32 := 7#32
  let v600_r0 : BitVec 32 := Scalar.addi v599_r0 c7_i32_366_r0
  let c30_i32_433_r0 : BitVec 32 := 30#32
  let v729_r0 : BitVec 32 := Scalar.subi v600_r0 c30_i32_433_r0
  let c512_i32_434_r0 : BitVec 32 := 512#32
  let v730_r0 : BitVec 32 := Scalar.muli v729_r0 c512_i32_434_r0
  let v731_r0 : BitVec 32 := v730_r0
  ![v233_r0.toNat, 0, v731_r0.toNat]
def k0_mult77 (k0_t12 : Fin k0_t12_loop.trips) : BitVec 32 :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let c1_i32_383_r0 : BitVec 32 := 1#32
  let v628_r0 : BitVec 32 := Scalar.addi v588_r0 c1_i32_383_r0
  let c512_i32_384_r0 : BitVec 32 := 512#32
  let v629_r0 : BitVec 32 := Scalar.muli v628_r0 c512_i32_384_r0
  v629_r0
def k0_off263 (k0_t12 : Fin k0_t12_loop.trips) : Fin 1 → Nat :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let c1_i32_383_r0 : BitVec 32 := 1#32
  let v628_r0 : BitVec 32 := Scalar.addi v588_r0 c1_i32_383_r0
  ![v628_r0.toNat]
def k0_off264 (k0_t12 : Fin k0_t12_loop.trips) : Fin 3 → Nat :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let c1_i32_383_r0 : BitVec 32 := 1#32
  let v628_r0 : BitVec 32 := Scalar.addi v588_r0 c1_i32_383_r0
  let c0_i32_385_r0 : BitVec 32 := 0#32
  let c0_i32_386_r0 : BitVec 32 := 0#32
  ![v628_r0.toNat, 0, 0]
def k0_off265 (v233_r0 : BitVec 32) (k0_t12 : Fin k0_t12_loop.trips) : Fin 3 → Nat :=
  let c0_i32_387_r0 : BitVec 32 := 0#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let c1_i32_383_r0 : BitVec 32 := 1#32
  let v628_r0 : BitVec 32 := Scalar.addi v588_r0 c1_i32_383_r0
  let c512_i32_384_r0 : BitVec 32 := 512#32
  let v629_r0 : BitVec 32 := Scalar.muli v628_r0 c512_i32_384_r0
  let v630_r0 : BitVec 32 := v629_r0
  ![v233_r0.toNat, 0, v630_r0.toNat]
def k0_off266 (v238_r0 : BitVec 32) : Fin 3 → Nat :=
  let c0_i32_434_r0 : BitVec 32 := 0#32
  let c0_i32_435_r0 : BitVec 32 := 0#32
  ![v238_r0.toNat, 0, 0]
def k0_cond58 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (k0_t12 : Fin k0_t12_loop.trips) : BitVec 1 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c44_i32_391_r0 : BitVec 32 := 44#32
  let v640_r0 : BitVec 1 := Scalar.cmpi .sge v639_r0 c44_i32_391_r0
  let c45_i32_392_r0 : BitVec 32 := 45#32
  let v641_r0 : BitVec 1 := Scalar.cmpi .slt v639_r0 c45_i32_392_r0
  let v642_r0 : BitVec 1 := Scalar.andi v640_r0 v641_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v643_r0 : BitVec 1 := Scalar.andi v642_r0 v240_r0
  let true_393_r0 : BitVec 1 := 1#1
  let v644_r0 : BitVec 1 := Scalar.andi v643_r0 true_393_r0
  let v645_r0 : BitVec 32 := Scalar.extui v644_r0
  let c0_i32_394_r0 : BitVec 32 := 0#32
  let v646_r0 : BitVec 1 := Scalar.cmpi .ne v645_r0 c0_i32_394_r0
  v646_r0

def k0_off267 (v238_r0 : BitVec 32) : Fin 3 → Nat :=
  let c64_i32_434_r0 : BitVec 32 := 64#32
  let c0_i32_435_r0 : BitVec 32 := 0#32
  ![v238_r0.toNat, 64, 0]
def k0_cond59 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (k0_t12 : Fin k0_t12_loop.trips) : BitVec 1 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c45_i32_395_r0 : BitVec 32 := 45#32
  let v647_r0 : BitVec 1 := Scalar.cmpi .sge v639_r0 c45_i32_395_r0
  let c46_i32_396_r0 : BitVec 32 := 46#32
  let v648_r0 : BitVec 1 := Scalar.cmpi .slt v639_r0 c46_i32_396_r0
  let v649_r0 : BitVec 1 := Scalar.andi v647_r0 v648_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v650_r0 : BitVec 1 := Scalar.andi v649_r0 v240_r0
  let true_397_r0 : BitVec 1 := 1#1
  let v651_r0 : BitVec 1 := Scalar.andi v650_r0 true_397_r0
  let v652_r0 : BitVec 32 := Scalar.extui v651_r0
  let c0_i32_398_r0 : BitVec 32 := 0#32
  let v653_r0 : BitVec 1 := Scalar.cmpi .ne v652_r0 c0_i32_398_r0
  v653_r0

def k0_mult78 (k0_t12 : Fin k0_t12_loop.trips) : BitVec 32 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c46_i32_433_r0 : BitVec 32 := 46#32
  let v729_r0 : BitVec 32 := Scalar.subi v639_r0 c46_i32_433_r0
  let c256_i32_r0 : BitVec 32 := 256#32
  let v730_r0 : BitVec 32 := Scalar.muli v729_r0 c256_i32_r0
  v730_r0
def k0_off268 (k0_t12 : Fin k0_t12_loop.trips) : Fin 1 → Nat :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c46_i32_433_r0 : BitVec 32 := 46#32
  let v729_r0 : BitVec 32 := Scalar.subi v639_r0 c46_i32_433_r0
  ![v729_r0.toNat]
def k0_cond60 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (k0_t12 : Fin k0_t12_loop.trips) : BitVec 1 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c46_i32_399_r0 : BitVec 32 := 46#32
  let v654_r0 : BitVec 1 := Scalar.cmpi .sge v639_r0 c46_i32_399_r0
  let c74_i32_400_r0 : BitVec 32 := 74#32
  let v655_r0 : BitVec 1 := Scalar.cmpi .slt v639_r0 c74_i32_400_r0
  let v656_r0 : BitVec 1 := Scalar.andi v654_r0 v655_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v657_r0 : BitVec 1 := Scalar.andi v656_r0 v240_r0
  let true_401_r0 : BitVec 1 := 1#1
  let v658_r0 : BitVec 1 := Scalar.andi v657_r0 true_401_r0
  let v659_r0 : BitVec 32 := Scalar.extui v658_r0
  let c0_i32_402_r0 : BitVec 32 := 0#32
  let v660_r0 : BitVec 1 := Scalar.cmpi .ne v659_r0 c0_i32_402_r0
  v660_r0

def k0_off269 (k0_t12 : Fin k0_t12_loop.trips) : Fin 2 → Nat :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c46_i32_433_r0 : BitVec 32 := 46#32
  let v729_r0 : BitVec 32 := Scalar.subi v639_r0 c46_i32_433_r0
  let c256_i32_r0 : BitVec 32 := 256#32
  let v730_r0 : BitVec 32 := Scalar.muli v729_r0 c256_i32_r0
  let v731_r0 : BitVec 32 := v730_r0
  let c0_i32_434_r0 : BitVec 32 := 0#32
  ![v731_r0.toNat, 0]
def k0_off270 (v238_r0 : BitVec 32) (k0_t12 : Fin k0_t12_loop.trips) : Fin 3 → Nat :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c46_i32_433_r0 : BitVec 32 := 46#32
  let v729_r0 : BitVec 32 := Scalar.subi v639_r0 c46_i32_433_r0
  let c256_i32_r0 : BitVec 32 := 256#32
  let v730_r0 : BitVec 32 := Scalar.muli v729_r0 c256_i32_r0
  let v731_r0 : BitVec 32 := v730_r0
  let c0_i32_435_r0 : BitVec 32 := 0#32
  ![v238_r0.toNat, v731_r0.toNat, 0]

def k0_chk5 (v17_r0 : BitVec 32) (v36_r0 : BitVec 32) (v51_r0 : BitVec 32) (v66_r0 : BitVec 32) (v81_r0 : BitVec 32) : Prop :=
  ((k0_t4_loop v17_r0 v36_r0 v51_r0 v66_r0 v81_r0).OK) ∧
  (∀ k0_t4 : Fin (k0_t4_loop v17_r0 v36_r0 v51_r0 v66_r0 v81_r0).trips, ∀ a, (k0_off11 v17_r0 v36_r0 v51_r0 v66_r0 v81_r0 k0_t4) a + S1.size a ≤ S5.size a) ∧
  (∀ k0_t4 : Fin (k0_t4_loop v17_r0 v36_r0 v51_r0 v66_r0 v81_r0).trips, ∀ a, (k0_off12 v17_r0 v36_r0 v51_r0 v66_r0 v81_r0 k0_t4) a + S1.size a ≤ S5.size a) ∧
  (∀ (k0_t4 : Fin (k0_t4_loop v17_r0 v36_r0 v51_r0 v66_r0 v81_r0).trips) (k0_t7 : Fin k0_t7_loop.trips), ∀ (k0_h21 : k0_cond21 v17_r0 v36_r0 v51_r0 v66_r0 v81_r0 k0_t4 k0_t7 = 1#1), ∀ a, (k0_off110 k0_t7) a + S1.size a ≤ S28.size a) ∧
  (∀ (k0_t4 : Fin (k0_t4_loop v17_r0 v36_r0 v51_r0 v66_r0 v81_r0).trips) (k0_t7 : Fin k0_t7_loop.trips), ∀ (k0_h21 : k0_cond21 v17_r0 v36_r0 v51_r0 v66_r0 v81_r0 k0_t4 k0_t7 = 1#1), ∀ a, (k0_off111 k0_t7) a + S256x4096.size a ≤ S7168x4096.size a) ∧
  (∀ (k0_t4 : Fin (k0_t4_loop v17_r0 v36_r0 v51_r0 v66_r0 v81_r0).trips) (k0_t7 : Fin k0_t7_loop.trips), ∀ (k0_h21 : k0_cond21 v17_r0 v36_r0 v51_r0 v66_r0 v81_r0 k0_t4 k0_t7 = 1#1), ∀ (hinb : ∀ a, (k0_off111 k0_t7) a + S256x4096.size a ≤ S7168x4096.size a), (Rect.unit (s := S7168x4096) (k0_off111 k0_t7) S256x4096.size hinb).WholeWords (EltTy.packing .fp8e4m3)) ∧
  (∀ (k0_t4 : Fin (k0_t4_loop v17_r0 v36_r0 v51_r0 v66_r0 v81_r0).trips) (k0_t7 : Fin k0_t7_loop.trips), ∀ (k0_h25 : k0_cond25 v17_r0 v36_r0 v51_r0 v66_r0 v81_r0 k0_t4 k0_t7 = 1#1), ∀ a, (k0_off121 k0_t7) a + S1.size a ≤ S28.size a) ∧
  (∀ (k0_t4 : Fin (k0_t4_loop v17_r0 v36_r0 v51_r0 v66_r0 v81_r0).trips) (k0_t7 : Fin k0_t7_loop.trips), ∀ (k0_h25 : k0_cond25 v17_r0 v36_r0 v51_r0 v66_r0 v81_r0 k0_t4 k0_t7 = 1#1), ∀ a, (k0_off122 k0_t7) a + S256x4096.size a ≤ S7168x4096.size a) ∧
  (∀ (k0_t4 : Fin (k0_t4_loop v17_r0 v36_r0 v51_r0 v66_r0 v81_r0).trips) (k0_t7 : Fin k0_t7_loop.trips), ∀ (k0_h25 : k0_cond25 v17_r0 v36_r0 v51_r0 v66_r0 v81_r0 k0_t4 k0_t7 = 1#1), ∀ (hinb : ∀ a, (k0_off122 k0_t7) a + S256x4096.size a ≤ S7168x4096.size a), (Rect.unit (s := S7168x4096) (k0_off122 k0_t7) S256x4096.size hinb).WholeWords (EltTy.packing .fp8e4m3)) ∧
  ((k0_t9_loop v17_r0 v36_r0 v51_r0 v66_r0 v81_r0).OK) ∧
  (∀ k0_t9 : Fin (k0_t9_loop v17_r0 v36_r0 v51_r0 v66_r0 v81_r0).trips, ∀ a, (k0_off158 v17_r0 v36_r0 v51_r0 v66_r0 v81_r0 k0_t9) a + S1.size a ≤ S5.size a) ∧
  (∀ k0_t9 : Fin (k0_t9_loop v17_r0 v36_r0 v51_r0 v66_r0 v81_r0).trips, ∀ a, (k0_off159 v17_r0 v36_r0 v51_r0 v66_r0 v81_r0 k0_t9) a + S1.size a ≤ S5.size a) ∧
  (∀ (k0_t9 : Fin (k0_t9_loop v17_r0 v36_r0 v51_r0 v66_r0 v81_r0).trips) (k0_t12 : Fin k0_t12_loop.trips), ∀ (k0_h56 : k0_cond56 v17_r0 v36_r0 v51_r0 v66_r0 v81_r0 k0_t9 k0_t12 = 1#1), ∀ a, (k0_off257 k0_t12) a + S1.size a ≤ S28.size a) ∧
  (∀ (k0_t9 : Fin (k0_t9_loop v17_r0 v36_r0 v51_r0 v66_r0 v81_r0).trips) (k0_t12 : Fin k0_t12_loop.trips), ∀ (k0_h56 : k0_cond56 v17_r0 v36_r0 v51_r0 v66_r0 v81_r0 k0_t9 k0_t12 = 1#1), ∀ a, (k0_off258 k0_t12) a + S256x4096.size a ≤ S7168x4096.size a) ∧
  (∀ (k0_t9 : Fin (k0_t9_loop v17_r0 v36_r0 v51_r0 v66_r0 v81_r0).trips) (k0_t12 : Fin k0_t12_loop.trips), ∀ (k0_h56 : k0_cond56 v17_r0 v36_r0 v51_r0 v66_r0 v81_r0 k0_t9 k0_t12 = 1#1), ∀ (hinb : ∀ a, (k0_off258 k0_t12) a + S256x4096.size a ≤ S7168x4096.size a), (Rect.unit (s := S7168x4096) (k0_off258 k0_t12) S256x4096.size hinb).WholeWords (EltTy.packing .fp8e4m3)) ∧
  (∀ (k0_t9 : Fin (k0_t9_loop v17_r0 v36_r0 v51_r0 v66_r0 v81_r0).trips) (k0_t12 : Fin k0_t12_loop.trips), ∀ (k0_h60 : k0_cond60 v17_r0 v36_r0 v51_r0 v66_r0 v81_r0 k0_t9 k0_t12 = 1#1), ∀ a, (k0_off268 k0_t12) a + S1.size a ≤ S28.size a) ∧
  (∀ (k0_t9 : Fin (k0_t9_loop v17_r0 v36_r0 v51_r0 v66_r0 v81_r0).trips) (k0_t12 : Fin k0_t12_loop.trips), ∀ (k0_h60 : k0_cond60 v17_r0 v36_r0 v51_r0 v66_r0 v81_r0 k0_t9 k0_t12 = 1#1), ∀ a, (k0_off269 k0_t12) a + S256x4096.size a ≤ S7168x4096.size a) ∧
  (∀ (k0_t9 : Fin (k0_t9_loop v17_r0 v36_r0 v51_r0 v66_r0 v81_r0).trips) (k0_t12 : Fin k0_t12_loop.trips), ∀ (k0_h60 : k0_cond60 v17_r0 v36_r0 v51_r0 v66_r0 v81_r0 k0_t9 k0_t12 = 1#1), ∀ (hinb : ∀ a, (k0_off269 k0_t12) a + S256x4096.size a ≤ S7168x4096.size a), (Rect.unit (s := S7168x4096) (k0_off269 k0_t12) S256x4096.size hinb).WholeWords (EltTy.packing .fp8e4m3))
theorem k0_t4_ok : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0), (k0_t4_loop v17_r0 v36_r0 v51_r0 v66_r0 v81_r0).OK := fun v17_r0 v36_r0 v51_r0 v66_r0 v81_r0 k0_hw5 => k0_hw5.1
theorem k0_off11_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t4 : Fin (k0_t4_loop v17_r0 v36_r0 v51_r0 v66_r0 v81_r0).trips), ∀ a, (k0_off11 v17_r0 v36_r0 v51_r0 v66_r0 v81_r0 k0_t4) a + S1.size a ≤ S5.size a := fun v17_r0 v36_r0 v51_r0 v66_r0 v81_r0 k0_hw5 k0_t4 => k0_hw5.2.1 k0_t4
theorem k0_off12_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t4 : Fin (k0_t4_loop v17_r0 v36_r0 v51_r0 v66_r0 v81_r0).trips), ∀ a, (k0_off12 v17_r0 v36_r0 v51_r0 v66_r0 v81_r0 k0_t4) a + S1.size a ≤ S5.size a := fun v17_r0 v36_r0 v51_r0 v66_r0 v81_r0 k0_hw5 k0_t4 => k0_hw5.2.2.1 k0_t4
theorem k0_off110_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t4 : Fin (k0_t4_loop v17_r0 v36_r0 v51_r0 v66_r0 v81_r0).trips) (k0_t7 : Fin k0_t7_loop.trips), ∀ (k0_h21 : k0_cond21 v17_r0 v36_r0 v51_r0 v66_r0 v81_r0 k0_t4 k0_t7 = 1#1), ∀ a, (k0_off110 k0_t7) a + S1.size a ≤ S28.size a := fun v17_r0 v36_r0 v51_r0 v66_r0 v81_r0 k0_hw5 k0_t4 k0_t7 k0_h21 => k0_hw5.2.2.2.1 k0_t4 k0_t7 k0_h21
theorem k0_off111_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t4 : Fin (k0_t4_loop v17_r0 v36_r0 v51_r0 v66_r0 v81_r0).trips) (k0_t7 : Fin k0_t7_loop.trips), ∀ (k0_h21 : k0_cond21 v17_r0 v36_r0 v51_r0 v66_r0 v81_r0 k0_t4 k0_t7 = 1#1), ∀ a, (k0_off111 k0_t7) a + S256x4096.size a ≤ S7168x4096.size a := fun v17_r0 v36_r0 v51_r0 v66_r0 v81_r0 k0_hw5 k0_t4 k0_t7 k0_h21 => k0_hw5.2.2.2.2.1 k0_t4 k0_t7 k0_h21
theorem k0_off111_wordsfp8e4m3 : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t4 : Fin (k0_t4_loop v17_r0 v36_r0 v51_r0 v66_r0 v81_r0).trips) (k0_t7 : Fin k0_t7_loop.trips), ∀ (k0_h21 : k0_cond21 v17_r0 v36_r0 v51_r0 v66_r0 v81_r0 k0_t4 k0_t7 = 1#1), (Rect.unit (s := S7168x4096) (k0_off111 k0_t7) S256x4096.size (k0_off111_inb v17_r0 v36_r0 v51_r0 v66_r0 v81_r0 k0_hw5 k0_t4 k0_t7 k0_h21)).WholeWords (EltTy.packing .fp8e4m3) := fun v17_r0 v36_r0 v51_r0 v66_r0 v81_r0 k0_hw5 k0_t4 k0_t7 k0_h21 => k0_hw5.2.2.2.2.2.1 k0_t4 k0_t7 k0_h21 (k0_off111_inb v17_r0 v36_r0 v51_r0 v66_r0 v81_r0 k0_hw5 k0_t4 k0_t7 k0_h21)
theorem k0_off121_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t4 : Fin (k0_t4_loop v17_r0 v36_r0 v51_r0 v66_r0 v81_r0).trips) (k0_t7 : Fin k0_t7_loop.trips), ∀ (k0_h25 : k0_cond25 v17_r0 v36_r0 v51_r0 v66_r0 v81_r0 k0_t4 k0_t7 = 1#1), ∀ a, (k0_off121 k0_t7) a + S1.size a ≤ S28.size a := fun v17_r0 v36_r0 v51_r0 v66_r0 v81_r0 k0_hw5 k0_t4 k0_t7 k0_h25 => k0_hw5.2.2.2.2.2.2.1 k0_t4 k0_t7 k0_h25
theorem k0_off122_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t4 : Fin (k0_t4_loop v17_r0 v36_r0 v51_r0 v66_r0 v81_r0).trips) (k0_t7 : Fin k0_t7_loop.trips), ∀ (k0_h25 : k0_cond25 v17_r0 v36_r0 v51_r0 v66_r0 v81_r0 k0_t4 k0_t7 = 1#1), ∀ a, (k0_off122 k0_t7) a + S256x4096.size a ≤ S7168x4096.size a := fun v17_r0 v36_r0 v51_r0 v66_r0 v81_r0 k0_hw5 k0_t4 k0_t7 k0_h25 => k0_hw5.2.2.2.2.2.2.2.1 k0_t4 k0_t7 k0_h25
theorem k0_off122_wordsfp8e4m3 : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t4 : Fin (k0_t4_loop v17_r0 v36_r0 v51_r0 v66_r0 v81_r0).trips) (k0_t7 : Fin k0_t7_loop.trips), ∀ (k0_h25 : k0_cond25 v17_r0 v36_r0 v51_r0 v66_r0 v81_r0 k0_t4 k0_t7 = 1#1), (Rect.unit (s := S7168x4096) (k0_off122 k0_t7) S256x4096.size (k0_off122_inb v17_r0 v36_r0 v51_r0 v66_r0 v81_r0 k0_hw5 k0_t4 k0_t7 k0_h25)).WholeWords (EltTy.packing .fp8e4m3) := fun v17_r0 v36_r0 v51_r0 v66_r0 v81_r0 k0_hw5 k0_t4 k0_t7 k0_h25 => k0_hw5.2.2.2.2.2.2.2.2.1 k0_t4 k0_t7 k0_h25 (k0_off122_inb v17_r0 v36_r0 v51_r0 v66_r0 v81_r0 k0_hw5 k0_t4 k0_t7 k0_h25)
theorem k0_t9_ok : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0), (k0_t9_loop v17_r0 v36_r0 v51_r0 v66_r0 v81_r0).OK := fun v17_r0 v36_r0 v51_r0 v66_r0 v81_r0 k0_hw5 => k0_hw5.2.2.2.2.2.2.2.2.2.1
theorem k0_off158_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t9 : Fin (k0_t9_loop v17_r0 v36_r0 v51_r0 v66_r0 v81_r0).trips), ∀ a, (k0_off158 v17_r0 v36_r0 v51_r0 v66_r0 v81_r0 k0_t9) a + S1.size a ≤ S5.size a := fun v17_r0 v36_r0 v51_r0 v66_r0 v81_r0 k0_hw5 k0_t9 => k0_hw5.2.2.2.2.2.2.2.2.2.2.1 k0_t9
theorem k0_off159_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t9 : Fin (k0_t9_loop v17_r0 v36_r0 v51_r0 v66_r0 v81_r0).trips), ∀ a, (k0_off159 v17_r0 v36_r0 v51_r0 v66_r0 v81_r0 k0_t9) a + S1.size a ≤ S5.size a := fun v17_r0 v36_r0 v51_r0 v66_r0 v81_r0 k0_hw5 k0_t9 => k0_hw5.2.2.2.2.2.2.2.2.2.2.2.1 k0_t9
theorem k0_off257_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t9 : Fin (k0_t9_loop v17_r0 v36_r0 v51_r0 v66_r0 v81_r0).trips) (k0_t12 : Fin k0_t12_loop.trips), ∀ (k0_h56 : k0_cond56 v17_r0 v36_r0 v51_r0 v66_r0 v81_r0 k0_t9 k0_t12 = 1#1), ∀ a, (k0_off257 k0_t12) a + S1.size a ≤ S28.size a := fun v17_r0 v36_r0 v51_r0 v66_r0 v81_r0 k0_hw5 k0_t9 k0_t12 k0_h56 => k0_hw5.2.2.2.2.2.2.2.2.2.2.2.2.1 k0_t9 k0_t12 k0_h56
theorem k0_off258_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t9 : Fin (k0_t9_loop v17_r0 v36_r0 v51_r0 v66_r0 v81_r0).trips) (k0_t12 : Fin k0_t12_loop.trips), ∀ (k0_h56 : k0_cond56 v17_r0 v36_r0 v51_r0 v66_r0 v81_r0 k0_t9 k0_t12 = 1#1), ∀ a, (k0_off258 k0_t12) a + S256x4096.size a ≤ S7168x4096.size a := fun v17_r0 v36_r0 v51_r0 v66_r0 v81_r0 k0_hw5 k0_t9 k0_t12 k0_h56 => k0_hw5.2.2.2.2.2.2.2.2.2.2.2.2.2.1 k0_t9 k0_t12 k0_h56
theorem k0_off258_wordsfp8e4m3 : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t9 : Fin (k0_t9_loop v17_r0 v36_r0 v51_r0 v66_r0 v81_r0).trips) (k0_t12 : Fin k0_t12_loop.trips), ∀ (k0_h56 : k0_cond56 v17_r0 v36_r0 v51_r0 v66_r0 v81_r0 k0_t9 k0_t12 = 1#1), (Rect.unit (s := S7168x4096) (k0_off258 k0_t12) S256x4096.size (k0_off258_inb v17_r0 v36_r0 v51_r0 v66_r0 v81_r0 k0_hw5 k0_t9 k0_t12 k0_h56)).WholeWords (EltTy.packing .fp8e4m3) := fun v17_r0 v36_r0 v51_r0 v66_r0 v81_r0 k0_hw5 k0_t9 k0_t12 k0_h56 => k0_hw5.2.2.2.2.2.2.2.2.2.2.2.2.2.2.1 k0_t9 k0_t12 k0_h56 (k0_off258_inb v17_r0 v36_r0 v51_r0 v66_r0 v81_r0 k0_hw5 k0_t9 k0_t12 k0_h56)
theorem k0_off268_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t9 : Fin (k0_t9_loop v17_r0 v36_r0 v51_r0 v66_r0 v81_r0).trips) (k0_t12 : Fin k0_t12_loop.trips), ∀ (k0_h60 : k0_cond60 v17_r0 v36_r0 v51_r0 v66_r0 v81_r0 k0_t9 k0_t12 = 1#1), ∀ a, (k0_off268 k0_t12) a + S1.size a ≤ S28.size a := fun v17_r0 v36_r0 v51_r0 v66_r0 v81_r0 k0_hw5 k0_t9 k0_t12 k0_h60 => k0_hw5.2.2.2.2.2.2.2.2.2.2.2.2.2.2.2.1 k0_t9 k0_t12 k0_h60
theorem k0_off269_inb : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t9 : Fin (k0_t9_loop v17_r0 v36_r0 v51_r0 v66_r0 v81_r0).trips) (k0_t12 : Fin k0_t12_loop.trips), ∀ (k0_h60 : k0_cond60 v17_r0 v36_r0 v51_r0 v66_r0 v81_r0 k0_t9 k0_t12 = 1#1), ∀ a, (k0_off269 k0_t12) a + S256x4096.size a ≤ S7168x4096.size a := fun v17_r0 v36_r0 v51_r0 v66_r0 v81_r0 k0_hw5 k0_t9 k0_t12 k0_h60 => k0_hw5.2.2.2.2.2.2.2.2.2.2.2.2.2.2.2.2.1 k0_t9 k0_t12 k0_h60
theorem k0_off269_wordsfp8e4m3 : ∀ (v17_r0 : BitVec 32) (v36_r0 : BitVec 32) (v51_r0 : BitVec 32) (v66_r0 : BitVec 32) (v81_r0 : BitVec 32) (k0_hw5 : k0_chk5 v17_r0 v36_r0 v51_r0 v66_r0 v81_r0) (k0_t9 : Fin (k0_t9_loop v17_r0 v36_r0 v51_r0 v66_r0 v81_r0).trips) (k0_t12 : Fin k0_t12_loop.trips), ∀ (k0_h60 : k0_cond60 v17_r0 v36_r0 v51_r0 v66_r0 v81_r0 k0_t9 k0_t12 = 1#1), (Rect.unit (s := S7168x4096) (k0_off269 k0_t12) S256x4096.size (k0_off269_inb v17_r0 v36_r0 v51_r0 v66_r0 v81_r0 k0_hw5 k0_t9 k0_t12 k0_h60)).WholeWords (EltTy.packing .fp8e4m3) := fun v17_r0 v36_r0 v51_r0 v66_r0 v81_r0 k0_hw5 k0_t9 k0_t12 k0_h60 => k0_hw5.2.2.2.2.2.2.2.2.2.2.2.2.2.2.2.2.2 k0_t9 k0_t12 k0_h60 (k0_off269_inb v17_r0 v36_r0 v51_r0 v66_r0 v81_r0 k0_hw5 k0_t9 k0_t12 k0_h60)

def k0_cond61 (k0_t12 : Fin k0_t12_loop.trips) : BitVec 1 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c30_i32_403_r0 : BitVec 32 := 30#32
  let v661_r0 : BitVec 1 := Scalar.cmpi .sge v639_r0 c30_i32_403_r0
  let c44_i32_404_r0 : BitVec 32 := 44#32
  let v662_r0 : BitVec 1 := Scalar.cmpi .slt v639_r0 c44_i32_404_r0
  let v663_r0 : BitVec 1 := Scalar.andi v661_r0 v662_r0
  let true_405_r0 : BitVec 1 := 1#1
  let v664_r0 : BitVec 1 := Scalar.andi v663_r0 true_405_r0
  let v665_r0 : BitVec 32 := Scalar.extui v664_r0
  let c0_i32_406_r0 : BitVec 32 := 0#32
  let v666_r0 : BitVec 1 := Scalar.cmpi .ne v665_r0 c0_i32_406_r0
  v666_r0

def k0_mult79 (k0_t12 : Fin k0_t12_loop.trips) : BitVec 32 :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c30_i32_433_r0 : BitVec 32 := 30#32
  let v729_r0 : BitVec 32 := Scalar.subi v639_r0 c30_i32_433_r0
  let c512_i32_434_r0 : BitVec 32 := 512#32
  let v730_r0 : BitVec 32 := Scalar.muli v729_r0 c512_i32_434_r0
  v730_r0
def k0_off271 (k0_t12 : Fin k0_t12_loop.trips) : Fin 1 → Nat :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c30_i32_433_r0 : BitVec 32 := 30#32
  let v729_r0 : BitVec 32 := Scalar.subi v639_r0 c30_i32_433_r0
  ![v729_r0.toNat]
def k0_off272 (k0_t12 : Fin k0_t12_loop.trips) : Fin 3 → Nat :=
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c30_i32_433_r0 : BitVec 32 := 30#32
  let v729_r0 : BitVec 32 := Scalar.subi v639_r0 c30_i32_433_r0
  let c0_i32_435_r0 : BitVec 32 := 0#32
  let c0_i32_436_r0 : BitVec 32 := 0#32
  ![v729_r0.toNat, 0, 0]
def k0_off273 (v233_r0 : BitVec 32) (k0_t12 : Fin k0_t12_loop.trips) : Fin 3 → Nat :=
  let c0_i32_437_r0 : BitVec 32 := 0#32
  let c30_i32_388_r0 : BitVec 32 := 30#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v637_r0 : BitVec 32 := Scalar.addi c30_i32_388_r0 v588_r0
  let c1_i32_389_r0 : BitVec 32 := 1#32
  let v638_r0 : BitVec 32 := Scalar.addi v637_r0 c1_i32_389_r0
  let c7_i32_390_r0 : BitVec 32 := 7#32
  let v639_r0 : BitVec 32 := Scalar.addi v638_r0 c7_i32_390_r0
  let c30_i32_433_r0 : BitVec 32 := 30#32
  let v729_r0 : BitVec 32 := Scalar.subi v639_r0 c30_i32_433_r0
  let c512_i32_434_r0 : BitVec 32 := 512#32
  let v730_r0 : BitVec 32 := Scalar.muli v729_r0 c512_i32_434_r0
  let v731_r0 : BitVec 32 := v730_r0
  ![v233_r0.toNat, 0, v731_r0.toNat]
def k0_mult80 (k0_t12 : Fin k0_t12_loop.trips) : BitVec 32 :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let c0_i32_409_r0 : BitVec 32 := 0#32
  let v669_r0 : BitVec 32 := Scalar.addi v588_r0 c0_i32_409_r0
  let c512_i32_410_r0 : BitVec 32 := 512#32
  let v670_r0 : BitVec 32 := Scalar.muli v669_r0 c512_i32_410_r0
  v670_r0
def k0_off274 (k0_t12 : Fin k0_t12_loop.trips) (c0_i32_413_r0 : BitVec 32) : Fin 3 → Nat :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v673_r0 : BitVec 32 := Scalar.addi v588_r0 c0_i32_413_r0
  let v674_r0 : Index := Scalar.indexCast v673_r0
  let c0_414_r0 : Index := 0#32
  let c0_415_r0 : Index := 0#32
  ![v674_r0.toNat, 0, 0]
def k0_off275 (v233_r0 : BitVec 32) (k0_t12 : Fin k0_t12_loop.trips) (c0_i32_409_r0 : BitVec 32) : Fin 2 → Nat :=
  let v679_r0 : Index := Scalar.indexCast v233_r0
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v669_r0 : BitVec 32 := Scalar.addi v588_r0 c0_i32_409_r0
  let c512_i32_410_r0 : BitVec 32 := 512#32
  let v670_r0 : BitVec 32 := Scalar.muli v669_r0 c512_i32_410_r0
  let v671_r0 : BitVec 32 := v670_r0
  let v680_r0 : Index := Scalar.indexCast v671_r0
  ![v679_r0.toNat, v680_r0.toNat]
def k0_off276 (k0_t12 : Fin k0_t12_loop.trips) (c0_i32_409_r0 : BitVec 32) : Fin 2 → Nat :=
  let c0_417_r0 : Index := 0#32
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let v669_r0 : BitVec 32 := Scalar.addi v588_r0 c0_i32_409_r0
  let c512_i32_410_r0 : BitVec 32 := 512#32
  let v670_r0 : BitVec 32 := Scalar.muli v669_r0 c512_i32_410_r0
  let v671_r0 : BitVec 32 := v670_r0
  let v684_r0 : Index := Scalar.indexCast v671_r0
  ![0, v684_r0.toNat]
def k0_mult81 (k0_t12 : Fin k0_t12_loop.trips) : BitVec 32 :=
  let c0_i32_358_r0 : BitVec 32 := 0#32
  let c0_i32_309_r0 : BitVec 32 := 0#32
  let c1_i32_311_r0 : BitVec 32 := 1#32
  let arg36_r0 : BitVec 32 := Scf.iv c0_i32_309_r0 c1_i32_311_r0 k0_t12
  let c2_i32_357_r0 : BitVec 32 := 2#32
  let v587_r0 : BitVec 32 := Scalar.muli arg36_r0 c2_i32_357_r0
  let v588_r0 : BitVec 32 := Scalar.addi c0_i32_358_r0 v587_r0
  let c1_i32_421_r0 : BitVec 32 := 1#32
  let v699_r0 : BitVec 32 := Scalar.addi v588_r0 c1_i32_421_r0
  let c512_i32_422_r0 : BitVec 32 := 512#32
  let v700_r0 : BitVec 32 := Scalar.muli v699_r0 c512_i32_422_r0
  v700_r0
@[reducible] def k0_t13_loop : Scf.Loop 32 :=
  let c0_i32_314_r0 : BitVec 32 := 0#32
  let c3_i32_315_r0 : BitVec 32 := 3#32
  let v511_r0 : BitVec 32 := Scalar.addi c0_i32_314_r0 c3_i32_315_r0
  let c1_i32_316_r0 : BitVec 32 := 1#32
  ⟨c0_i32_314_r0, v511_r0, c1_i32_316_r0⟩
def k0_mult82 (k0_t13 : Fin k0_t13_loop.trips) : BitVec 32 :=
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let c0_i32_358_r0 : BitVec 32 := 0#32
  let v589_r0 : BitVec 32 := Scalar.addi v588_r0 c0_i32_358_r0
  let c512_i32_359_r0 : BitVec 32 := 512#32
  let v590_r0 : BitVec 32 := Scalar.muli v589_r0 c512_i32_359_r0
  v590_r0
def k0_off277 (k0_t13 : Fin k0_t13_loop.trips) : Fin 1 → Nat :=
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let c0_i32_358_r0 : BitVec 32 := 0#32
  let v589_r0 : BitVec 32 := Scalar.addi v588_r0 c0_i32_358_r0
  ![v589_r0.toNat]
def k0_off278 (k0_t13 : Fin k0_t13_loop.trips) : Fin 3 → Nat :=
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let c0_i32_358_r0 : BitVec 32 := 0#32
  let v589_r0 : BitVec 32 := Scalar.addi v588_r0 c0_i32_358_r0
  let c0_i32_360_r0 : BitVec 32 := 0#32
  let c0_i32_361_r0 : BitVec 32 := 0#32
  ![v589_r0.toNat, 0, 0]
def k0_off279 (v233_r0 : BitVec 32) (k0_t13 : Fin k0_t13_loop.trips) : Fin 3 → Nat :=
  let c0_i32_362_r0 : BitVec 32 := 0#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let c0_i32_358_r0 : BitVec 32 := 0#32
  let v589_r0 : BitVec 32 := Scalar.addi v588_r0 c0_i32_358_r0
  let c512_i32_359_r0 : BitVec 32 := 512#32
  let v590_r0 : BitVec 32 := Scalar.muli v589_r0 c512_i32_359_r0
  let v591_r0 : BitVec 32 := v590_r0
  ![v233_r0.toNat, 0, v591_r0.toNat]
def k0_off280 (v238_r0 : BitVec 32) : Fin 3 → Nat :=
  let c0_i32_397_r0 : BitVec 32 := 0#32
  let c0_i32_398_r0 : BitVec 32 := 0#32
  ![v238_r0.toNat, 0, 0]
def k0_cond62 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (k0_t13 : Fin k0_t13_loop.trips) : BitVec 1 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c44_i32_366_r0 : BitVec 32 := 44#32
  let v601_r0 : BitVec 1 := Scalar.cmpi .sge v600_r0 c44_i32_366_r0
  let c45_i32_367_r0 : BitVec 32 := 45#32
  let v602_r0 : BitVec 1 := Scalar.cmpi .slt v600_r0 c45_i32_367_r0
  let v603_r0 : BitVec 1 := Scalar.andi v601_r0 v602_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v604_r0 : BitVec 1 := Scalar.andi v603_r0 v240_r0
  let true_368_r0 : BitVec 1 := 1#1
  let v605_r0 : BitVec 1 := Scalar.andi v604_r0 true_368_r0
  let v606_r0 : BitVec 32 := Scalar.extui v605_r0
  let c0_i32_369_r0 : BitVec 32 := 0#32
  let v607_r0 : BitVec 1 := Scalar.cmpi .ne v606_r0 c0_i32_369_r0
  v607_r0

def k0_off281 (v238_r0 : BitVec 32) : Fin 3 → Nat :=
  let c64_i32_397_r0 : BitVec 32 := 64#32
  let c0_i32_398_r0 : BitVec 32 := 0#32
  ![v238_r0.toNat, 64, 0]
def k0_cond63 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (k0_t13 : Fin k0_t13_loop.trips) : BitVec 1 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c45_i32_370_r0 : BitVec 32 := 45#32
  let v608_r0 : BitVec 1 := Scalar.cmpi .sge v600_r0 c45_i32_370_r0
  let c46_i32_371_r0 : BitVec 32 := 46#32
  let v609_r0 : BitVec 1 := Scalar.cmpi .slt v600_r0 c46_i32_371_r0
  let v610_r0 : BitVec 1 := Scalar.andi v608_r0 v609_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v611_r0 : BitVec 1 := Scalar.andi v610_r0 v240_r0
  let true_372_r0 : BitVec 1 := 1#1
  let v612_r0 : BitVec 1 := Scalar.andi v611_r0 true_372_r0
  let v613_r0 : BitVec 32 := Scalar.extui v612_r0
  let c0_i32_373_r0 : BitVec 32 := 0#32
  let v614_r0 : BitVec 1 := Scalar.cmpi .ne v613_r0 c0_i32_373_r0
  v614_r0

def k0_mult83 (k0_t13 : Fin k0_t13_loop.trips) : BitVec 32 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c46_i32_396_r0 : BitVec 32 := 46#32
  let v660_r0 : BitVec 32 := Scalar.subi v600_r0 c46_i32_396_r0
  let c256_i32_r0 : BitVec 32 := 256#32
  let v661_r0 : BitVec 32 := Scalar.muli v660_r0 c256_i32_r0
  v661_r0
def k0_off282 (k0_t13 : Fin k0_t13_loop.trips) : Fin 1 → Nat :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c46_i32_396_r0 : BitVec 32 := 46#32
  let v660_r0 : BitVec 32 := Scalar.subi v600_r0 c46_i32_396_r0
  ![v660_r0.toNat]
def k0_off283 (k0_t13 : Fin k0_t13_loop.trips) : Fin 2 → Nat :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c46_i32_396_r0 : BitVec 32 := 46#32
  let v660_r0 : BitVec 32 := Scalar.subi v600_r0 c46_i32_396_r0
  let c256_i32_r0 : BitVec 32 := 256#32
  let v661_r0 : BitVec 32 := Scalar.muli v660_r0 c256_i32_r0
  let v662_r0 : BitVec 32 := v661_r0
  let c0_i32_397_r0 : BitVec 32 := 0#32
  ![v662_r0.toNat, 0]
def k0_off284 (v238_r0 : BitVec 32) (k0_t13 : Fin k0_t13_loop.trips) : Fin 3 → Nat :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c46_i32_396_r0 : BitVec 32 := 46#32
  let v660_r0 : BitVec 32 := Scalar.subi v600_r0 c46_i32_396_r0
  let c256_i32_r0 : BitVec 32 := 256#32
  let v661_r0 : BitVec 32 := Scalar.muli v660_r0 c256_i32_r0
  let v662_r0 : BitVec 32 := v661_r0
  let c0_i32_398_r0 : BitVec 32 := 0#32
  ![v238_r0.toNat, v662_r0.toNat, 0]
def k0_cond64 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (k0_t13 : Fin k0_t13_loop.trips) : BitVec 1 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c46_i32_374_r0 : BitVec 32 := 46#32
  let v615_r0 : BitVec 1 := Scalar.cmpi .sge v600_r0 c46_i32_374_r0
  let c74_i32_375_r0 : BitVec 32 := 74#32
  let v616_r0 : BitVec 1 := Scalar.cmpi .slt v600_r0 c74_i32_375_r0
  let v617_r0 : BitVec 1 := Scalar.andi v615_r0 v616_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v618_r0 : BitVec 1 := Scalar.andi v617_r0 v240_r0
  let true_376_r0 : BitVec 1 := 1#1
  let v619_r0 : BitVec 1 := Scalar.andi v618_r0 true_376_r0
  let v620_r0 : BitVec 32 := Scalar.extui v619_r0
  let c0_i32_377_r0 : BitVec 32 := 0#32
  let v621_r0 : BitVec 1 := Scalar.cmpi .ne v620_r0 c0_i32_377_r0
  v621_r0

def k0_cond65 (k0_t13 : Fin k0_t13_loop.trips) : BitVec 1 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c30_i32_378_r0 : BitVec 32 := 30#32
  let v622_r0 : BitVec 1 := Scalar.cmpi .sge v600_r0 c30_i32_378_r0
  let c44_i32_379_r0 : BitVec 32 := 44#32
  let v623_r0 : BitVec 1 := Scalar.cmpi .slt v600_r0 c44_i32_379_r0
  let v624_r0 : BitVec 1 := Scalar.andi v622_r0 v623_r0
  let true_380_r0 : BitVec 1 := 1#1
  let v625_r0 : BitVec 1 := Scalar.andi v624_r0 true_380_r0
  let v626_r0 : BitVec 32 := Scalar.extui v625_r0
  let c0_i32_381_r0 : BitVec 32 := 0#32
  let v627_r0 : BitVec 1 := Scalar.cmpi .ne v626_r0 c0_i32_381_r0
  v627_r0

def k0_mult84 (k0_t13 : Fin k0_t13_loop.trips) : BitVec 32 :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c30_i32_396_r0 : BitVec 32 := 30#32
  let v660_r0 : BitVec 32 := Scalar.subi v600_r0 c30_i32_396_r0
  let c512_i32_397_r0 : BitVec 32 := 512#32
  let v661_r0 : BitVec 32 := Scalar.muli v660_r0 c512_i32_397_r0
  v661_r0
def k0_off285 (k0_t13 : Fin k0_t13_loop.trips) : Fin 1 → Nat :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c30_i32_396_r0 : BitVec 32 := 30#32
  let v660_r0 : BitVec 32 := Scalar.subi v600_r0 c30_i32_396_r0
  ![v660_r0.toNat]
def k0_off286 (k0_t13 : Fin k0_t13_loop.trips) : Fin 3 → Nat :=
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c30_i32_396_r0 : BitVec 32 := 30#32
  let v660_r0 : BitVec 32 := Scalar.subi v600_r0 c30_i32_396_r0
  let c0_i32_398_r0 : BitVec 32 := 0#32
  let c0_i32_399_r0 : BitVec 32 := 0#32
  ![v660_r0.toNat, 0, 0]
def k0_off287 (v233_r0 : BitVec 32) (k0_t13 : Fin k0_t13_loop.trips) : Fin 3 → Nat :=
  let c0_i32_400_r0 : BitVec 32 := 0#32
  let c30_i32_363_r0 : BitVec 32 := 30#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let v598_r0 : BitVec 32 := Scalar.addi c30_i32_363_r0 v588_r0
  let c0_i32_364_r0 : BitVec 32 := 0#32
  let v599_r0 : BitVec 32 := Scalar.addi v598_r0 c0_i32_364_r0
  let c7_i32_365_r0 : BitVec 32 := 7#32
  let v600_r0 : BitVec 32 := Scalar.addi v599_r0 c7_i32_365_r0
  let c30_i32_396_r0 : BitVec 32 := 30#32
  let v660_r0 : BitVec 32 := Scalar.subi v600_r0 c30_i32_396_r0
  let c512_i32_397_r0 : BitVec 32 := 512#32
  let v661_r0 : BitVec 32 := Scalar.muli v660_r0 c512_i32_397_r0
  let v662_r0 : BitVec 32 := v661_r0
  ![v233_r0.toNat, 0, v662_r0.toNat]
def k0_mult85 (k0_t13 : Fin k0_t13_loop.trips) : BitVec 32 :=
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let c0_i32_384_r0 : BitVec 32 := 0#32
  let v630_r0 : BitVec 32 := Scalar.addi v588_r0 c0_i32_384_r0
  let c512_i32_385_r0 : BitVec 32 := 512#32
  let v631_r0 : BitVec 32 := Scalar.muli v630_r0 c512_i32_385_r0
  v631_r0
def k0_off288 (k0_t13 : Fin k0_t13_loop.trips) : Fin 3 → Nat :=
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let c0_i32_388_r0 : BitVec 32 := 0#32
  let v634_r0 : BitVec 32 := Scalar.addi v588_r0 c0_i32_388_r0
  let v635_r0 : Index := Scalar.indexCast v634_r0
  let c0_389_r0 : Index := 0#32
  let c0_390_r0 : Index := 0#32
  ![v635_r0.toNat, 0, 0]
def k0_off289 (v233_r0 : BitVec 32) (k0_t13 : Fin k0_t13_loop.trips) : Fin 2 → Nat :=
  let v640_r0 : Index := Scalar.indexCast v233_r0
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let c0_i32_384_r0 : BitVec 32 := 0#32
  let v630_r0 : BitVec 32 := Scalar.addi v588_r0 c0_i32_384_r0
  let c512_i32_385_r0 : BitVec 32 := 512#32
  let v631_r0 : BitVec 32 := Scalar.muli v630_r0 c512_i32_385_r0
  let v632_r0 : BitVec 32 := v631_r0
  let v641_r0 : Index := Scalar.indexCast v632_r0
  ![v640_r0.toNat, v641_r0.toNat]
def k0_off290 (k0_t13 : Fin k0_t13_loop.trips) : Fin 2 → Nat :=
  let c0_392_r0 : Index := 0#32
  let c10_i32_r0 : BitVec 32 := 10#32
  let c0_i32_314_r0 : BitVec 32 := 0#32
  let c1_i32_316_r0 : BitVec 32 := 1#32
  let arg36_r0 : BitVec 32 := Scf.iv c0_i32_314_r0 c1_i32_316_r0 k0_t13
  let c1_i32_357_r0 : BitVec 32 := 1#32
  let v587_r0 : BitVec 32 := Scalar.muli arg36_r0 c1_i32_357_r0
  let v588_r0 : BitVec 32 := Scalar.addi c10_i32_r0 v587_r0
  let c0_i32_384_r0 : BitVec 32 := 0#32
  let v630_r0 : BitVec 32 := Scalar.addi v588_r0 c0_i32_384_r0
  let c512_i32_385_r0 : BitVec 32 := 512#32
  let v631_r0 : BitVec 32 := Scalar.muli v630_r0 c512_i32_385_r0
  let v632_r0 : BitVec 32 := v631_r0
  let v645_r0 : Index := Scalar.indexCast v632_r0
  ![0, v645_r0.toNat]
def k0_mult86 : BitVec 32 :=
  let c13_i32_r0 : BitVec 32 := 13#32
  let c0_i32_318_r0 : BitVec 32 := 0#32
  let v512_r0 : BitVec 32 := Scalar.addi c13_i32_r0 c0_i32_318_r0
  let c512_i32_r0 : BitVec 32 := 512#32
  let v513_r0 : BitVec 32 := Scalar.muli v512_r0 c512_i32_r0
  v513_r0
def k0_off291 : Fin 1 → Nat :=
  let c13_i32_r0 : BitVec 32 := 13#32
  let c0_i32_318_r0 : BitVec 32 := 0#32
  let v512_r0 : BitVec 32 := Scalar.addi c13_i32_r0 c0_i32_318_r0
  ![v512_r0.toNat]
def k0_off292 : Fin 3 → Nat :=
  let c13_i32_r0 : BitVec 32 := 13#32
  let c0_i32_318_r0 : BitVec 32 := 0#32
  let v512_r0 : BitVec 32 := Scalar.addi c13_i32_r0 c0_i32_318_r0
  let c0_i32_319_r0 : BitVec 32 := 0#32
  let c0_i32_320_r0 : BitVec 32 := 0#32
  ![v512_r0.toNat, 0, 0]
def k0_off293 (v233_r0 : BitVec 32) : Fin 3 → Nat :=
  let c0_i32_321_r0 : BitVec 32 := 0#32
  let c13_i32_r0 : BitVec 32 := 13#32
  let c0_i32_318_r0 : BitVec 32 := 0#32
  let v512_r0 : BitVec 32 := Scalar.addi c13_i32_r0 c0_i32_318_r0
  let c512_i32_r0 : BitVec 32 := 512#32
  let v513_r0 : BitVec 32 := Scalar.muli v512_r0 c512_i32_r0
  let v514_r0 : BitVec 32 := v513_r0
  ![v233_r0.toNat, 0, v514_r0.toNat]
def k0_off294 (v238_r0 : BitVec 32) : Fin 3 → Nat :=
  let c0_i32_357_r0 : BitVec 32 := 0#32
  let c0_i32_358_r0 : BitVec 32 := 0#32
  ![v238_r0.toNat, 0, 0]
def k0_cond66 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) : BitVec 1 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c44_i32_r0 : BitVec 32 := 44#32
  let v524_r0 : BitVec 1 := Scalar.cmpi .sge v523_r0 c44_i32_r0
  let c45_i32_r0 : BitVec 32 := 45#32
  let v525_r0 : BitVec 1 := Scalar.cmpi .slt v523_r0 c45_i32_r0
  let v526_r0 : BitVec 1 := Scalar.andi v524_r0 v525_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v527_r0 : BitVec 1 := Scalar.andi v526_r0 v240_r0
  let true_326_r0 : BitVec 1 := 1#1
  let v528_r0 : BitVec 1 := Scalar.andi v527_r0 true_326_r0
  let v529_r0 : BitVec 32 := Scalar.extui v528_r0
  let c0_i32_327_r0 : BitVec 32 := 0#32
  let v530_r0 : BitVec 1 := Scalar.cmpi .ne v529_r0 c0_i32_327_r0
  v530_r0

def k0_off295 (v238_r0 : BitVec 32) : Fin 3 → Nat :=
  let c64_i32_357_r0 : BitVec 32 := 64#32
  let c0_i32_358_r0 : BitVec 32 := 0#32
  ![v238_r0.toNat, 64, 0]
def k0_cond67 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) : BitVec 1 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c45_i32_328_r0 : BitVec 32 := 45#32
  let v531_r0 : BitVec 1 := Scalar.cmpi .sge v523_r0 c45_i32_328_r0
  let c46_i32_r0 : BitVec 32 := 46#32
  let v532_r0 : BitVec 1 := Scalar.cmpi .slt v523_r0 c46_i32_r0
  let v533_r0 : BitVec 1 := Scalar.andi v531_r0 v532_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v534_r0 : BitVec 1 := Scalar.andi v533_r0 v240_r0
  let true_329_r0 : BitVec 1 := 1#1
  let v535_r0 : BitVec 1 := Scalar.andi v534_r0 true_329_r0
  let v536_r0 : BitVec 32 := Scalar.extui v535_r0
  let c0_i32_330_r0 : BitVec 32 := 0#32
  let v537_r0 : BitVec 1 := Scalar.cmpi .ne v536_r0 c0_i32_330_r0
  v537_r0

def k0_mult87 : BitVec 32 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c46_i32_356_r0 : BitVec 32 := 46#32
  let v586_r0 : BitVec 32 := Scalar.subi v523_r0 c46_i32_356_r0
  let c256_i32_r0 : BitVec 32 := 256#32
  let v587_r0 : BitVec 32 := Scalar.muli v586_r0 c256_i32_r0
  v587_r0
def k0_off296 : Fin 1 → Nat :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c46_i32_356_r0 : BitVec 32 := 46#32
  let v586_r0 : BitVec 32 := Scalar.subi v523_r0 c46_i32_356_r0
  ![v586_r0.toNat]
def k0_off297 : Fin 2 → Nat :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c46_i32_356_r0 : BitVec 32 := 46#32
  let v586_r0 : BitVec 32 := Scalar.subi v523_r0 c46_i32_356_r0
  let c256_i32_r0 : BitVec 32 := 256#32
  let v587_r0 : BitVec 32 := Scalar.muli v586_r0 c256_i32_r0
  let v588_r0 : BitVec 32 := v587_r0
  let c0_i32_357_r0 : BitVec 32 := 0#32
  ![v588_r0.toNat, 0]
def k0_off298 (v238_r0 : BitVec 32) : Fin 3 → Nat :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c46_i32_356_r0 : BitVec 32 := 46#32
  let v586_r0 : BitVec 32 := Scalar.subi v523_r0 c46_i32_356_r0
  let c256_i32_r0 : BitVec 32 := 256#32
  let v587_r0 : BitVec 32 := Scalar.muli v586_r0 c256_i32_r0
  let v588_r0 : BitVec 32 := v587_r0
  let c0_i32_358_r0 : BitVec 32 := 0#32
  ![v238_r0.toNat, v588_r0.toNat, 0]
def k0_cond68 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) : BitVec 1 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c46_i32_331_r0 : BitVec 32 := 46#32
  let v538_r0 : BitVec 1 := Scalar.cmpi .sge v523_r0 c46_i32_331_r0
  let c74_i32_r0 : BitVec 32 := 74#32
  let v539_r0 : BitVec 1 := Scalar.cmpi .slt v523_r0 c74_i32_r0
  let v540_r0 : BitVec 1 := Scalar.andi v538_r0 v539_r0
  let c0_i32_138_r0 : BitVec 32 := 0#32
  let c1_i32_25_r0 : BitVec 32 := 1#32
  let c0_i32_23_r0 : BitVec 32 := 0#32
  let v37_r0 : BitVec 1 := Scalar.cmpi .eq v17_r0 c0_i32_23_r0
  let c0_i32_24_r0 : BitVec 32 := 0#32
  let v38_r0 : BitVec 32 := Scalar.select v37_r0 c0_i32_24_r0 v36_r0
  let v39_r0 : BitVec 32 := Scalar.addi c1_i32_25_r0 v38_r0
  let c1_i32_33_r0 : BitVec 32 := 1#32
  let v52_r0 : BitVec 1 := Scalar.cmpi .eq v17_r0 c1_i32_33_r0
  let c0_i32_34_r0 : BitVec 32 := 0#32
  let v53_r0 : BitVec 32 := Scalar.select v52_r0 c0_i32_34_r0 v51_r0
  let v54_r0 : BitVec 32 := Scalar.addi v39_r0 v53_r0
  let c2_i32_42_r0 : BitVec 32 := 2#32
  let v67_r0 : BitVec 1 := Scalar.cmpi .eq v17_r0 c2_i32_42_r0
  let c0_i32_43_r0 : BitVec 32 := 0#32
  let v68_r0 : BitVec 32 := Scalar.select v67_r0 c0_i32_43_r0 v66_r0
  let v69_r0 : BitVec 32 := Scalar.addi v54_r0 v68_r0
  let c3_i32_50_r0 : BitVec 32 := 3#32
  let v82_r0 : BitVec 1 := Scalar.cmpi .eq v17_r0 c3_i32_50_r0
  let c0_i32_51_r0 : BitVec 32 := 0#32
  let v83_r0 : BitVec 32 := Scalar.select v82_r0 c0_i32_51_r0 v81_r0
  let v84_r0 : BitVec 32 := Scalar.addi v69_r0 v83_r0
  let v221_r0 : BitVec 32 := Scalar.subi v84_r0 c0_i32_138_r0
  let c1_i32_139_r0 : BitVec 32 := 1#32
  let v223_r0 : BitVec 32 := Scalar.divsi v221_r0 c1_i32_139_r0
  let v224_r0 : BitVec 32 := Scalar.muli v223_r0 c1_i32_139_r0
  let v225_r0 : BitVec 32 := Scalar.addi c0_i32_138_r0 v224_r0
  let c1_i32_141_r0 : BitVec 32 := 1#32
  let arg35_r0 : BitVec 32 := Scf.iv v225_r0 c1_i32_141_r0 k0_t9
  let c1_i32_155_r0 : BitVec 32 := 1#32
  let v239_r0 : BitVec 32 := Scalar.addi arg35_r0 c1_i32_155_r0
  let v240_r0 : BitVec 1 := Scalar.cmpi .slt v239_r0 v84_r0
  let v541_r0 : BitVec 1 := Scalar.andi v540_r0 v240_r0
  let true_332_r0 : BitVec 1 := 1#1
  let v542_r0 : BitVec 1 := Scalar.andi v541_r0 true_332_r0
  let v543_r0 : BitVec 32 := Scalar.extui v542_r0
  let c0_i32_333_r0 : BitVec 32 := 0#32
  let v544_r0 : BitVec 1 := Scalar.cmpi .ne v543_r0 c0_i32_333_r0
  v544_r0

def k0_chk9 (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) : Prop :=
  (∀ k0_t12 : Fin k0_t12_loop.trips, ∀ (k0_h54 : k0_cond54 v17_r0 v36_r0 v51_r0 v66_r0 v81_r0 k0_t9 k0_t12 = 1#1), ∀ a, (k0_off255 v238_r0) a + S1x128x7168.size a ≤ S4x128x7168.size a) ∧
  (∀ k0_t12 : Fin k0_t12_loop.trips, ∀ (k0_h54 : k0_cond54 v17_r0 v36_r0 v51_r0 v66_r0 v81_r0 k0_t9 k0_t12 = 1#1), ∀ (hinb : ∀ a, (k0_off255 v238_r0) a + S1x128x7168.size a ≤ S4x128x7168.size a), (Rect.unit (s := S4x128x7168) (k0_off255 v238_r0) S1x128x7168.size hinb).WholeWords (EltTy.packing .bf16)) ∧
  (∀ k0_t12 : Fin k0_t12_loop.trips, ∀ (k0_h55 : k0_cond55 v17_r0 v36_r0 v51_r0 v66_r0 v81_r0 k0_t9 k0_t12 = 1#1), ∀ a, (k0_off256 v238_r0) a + S1x64x4096.size a ≤ S4x128x4096.size a) ∧
  (∀ k0_t12 : Fin k0_t12_loop.trips, ∀ (k0_h55 : k0_cond55 v17_r0 v36_r0 v51_r0 v66_r0 v81_r0 k0_t9 k0_t12 = 1#1), ∀ (hinb : ∀ a, (k0_off256 v238_r0) a + S1x64x4096.size a ≤ S4x128x4096.size a), (Rect.unit (s := S4x128x4096) (k0_off256 v238_r0) S1x64x4096.size hinb).WholeWords (EltTy.packing .bf16)) ∧
  (∀ k0_t12 : Fin k0_t12_loop.trips, ∀ (k0_h56 : k0_cond56 v17_r0 v36_r0 v51_r0 v66_r0 v81_r0 k0_t9 k0_t12 = 1#1), ∀ a, (k0_off259 v238_r0 k0_t12) a + S1x256x4096.size a ≤ S4x7168x4096.size a) ∧
  (∀ k0_t12 : Fin k0_t12_loop.trips, ∀ (k0_h56 : k0_cond56 v17_r0 v36_r0 v51_r0 v66_r0 v81_r0 k0_t9 k0_t12 = 1#1), ∀ (hinb : ∀ a, (k0_off259 v238_r0 k0_t12) a + S1x256x4096.size a ≤ S4x7168x4096.size a), (Rect.unit (s := S4x7168x4096) (k0_off259 v238_r0 k0_t12) S1x256x4096.size hinb).WholeWords (EltTy.packing .fp8e4m3)) ∧
  (∀ k0_t12 : Fin k0_t12_loop.trips, ∀ (k0_h58 : k0_cond58 v17_r0 v36_r0 v51_r0 v66_r0 v81_r0 k0_t9 k0_t12 = 1#1), ∀ a, (k0_off266 v238_r0) a + S1x128x7168.size a ≤ S4x128x7168.size a) ∧
  (∀ k0_t12 : Fin k0_t12_loop.trips, ∀ (k0_h58 : k0_cond58 v17_r0 v36_r0 v51_r0 v66_r0 v81_r0 k0_t9 k0_t12 = 1#1), ∀ (hinb : ∀ a, (k0_off266 v238_r0) a + S1x128x7168.size a ≤ S4x128x7168.size a), (Rect.unit (s := S4x128x7168) (k0_off266 v238_r0) S1x128x7168.size hinb).WholeWords (EltTy.packing .bf16)) ∧
  (∀ k0_t12 : Fin k0_t12_loop.trips, ∀ (k0_h59 : k0_cond59 v17_r0 v36_r0 v51_r0 v66_r0 v81_r0 k0_t9 k0_t12 = 1#1), ∀ a, (k0_off267 v238_r0) a + S1x64x4096.size a ≤ S4x128x4096.size a) ∧
  (∀ k0_t12 : Fin k0_t12_loop.trips, ∀ (k0_h59 : k0_cond59 v17_r0 v36_r0 v51_r0 v66_r0 v81_r0 k0_t9 k0_t12 = 1#1), ∀ (hinb : ∀ a, (k0_off267 v238_r0) a + S1x64x4096.size a ≤ S4x128x4096.size a), (Rect.unit (s := S4x128x4096) (k0_off267 v238_r0) S1x64x4096.size hinb).WholeWords (EltTy.packing .bf16)) ∧
  (∀ k0_t12 : Fin k0_t12_loop.trips, ∀ (k0_h60 : k0_cond60 v17_r0 v36_r0 v51_r0 v66_r0 v81_r0 k0_t9 k0_t12 = 1#1), ∀ a, (k0_off270 v238_r0 k0_t12) a + S1x256x4096.size a ≤ S4x7168x4096.size a) ∧
  (∀ k0_t12 : Fin k0_t12_loop.trips, ∀ (k0_h60 : k0_cond60 v17_r0 v36_r0 v51_r0 v66_r0 v81_r0 k0_t9 k0_t12 = 1#1), ∀ (hinb : ∀ a, (k0_off270 v238_r0 k0_t12) a + S1x256x4096.size a ≤ S4x7168x4096.size a), (Rect.unit (s := S4x7168x4096) (k0_off270 v238_r0 k0_t12) S1x256x4096.size hinb).WholeWords (EltTy.packing .fp8e4m3)) ∧
  (∀ k0_t13 : Fin k0_t13_loop.trips, ∀ (k0_h62 : k0_cond62 v17_r0 v36_r0 v51_r0 v66_r0 v81_r0 k0_t9 k0_t13 = 1#1), ∀ a, (k0_off280 v238_r0) a + S1x128x7168.size a ≤ S4x128x7168.size a) ∧
  (∀ k0_t13 : Fin k0_t13_loop.trips, ∀ (k0_h62 : k0_cond62 v17_r0 v36_r0 v51_r0 v66_r0 v81_r0 k0_t9 k0_t13 = 1#1), ∀ (hinb : ∀ a, (k0_off280 v238_r0) a + S1x128x7168.size a ≤ S4x128x7168.size a), (Rect.unit (s := S4x128x7168) (k0_off280 v238_r0) S1x128x7168.size hinb).WholeWords (EltTy.packing .bf16)) ∧
  (∀ k0_t13 : Fin k0_t13_loop.trips, ∀ (k0_h63 : k0_cond63 v17_r0 v36_r0 v51_r0 v66_r0 v81_r0 k0_t9 k0_t13 = 1#1), ∀ a, (k0_off281 v238_r0) a + S1x64x4096.size a ≤ S4x128x4096.size a) ∧
  (∀ k0_t13 : Fin k0_t13_loop.trips, ∀ (k0_h63 : k0_cond63 v17_r0 v36_r0 v51_r0 v66_r0 v81_r0 k0_t9 k0_t13 = 1#1), ∀ (hinb : ∀ a, (k0_off281 v238_r0) a + S1x64x4096.size a ≤ S4x128x4096.size a), (Rect.unit (s := S4x128x4096) (k0_off281 v238_r0) S1x64x4096.size hinb).WholeWords (EltTy.packing .bf16)) ∧
  (∀ k0_t13 : Fin k0_t13_loop.trips, ∀ (k0_h64 : k0_cond64 v17_r0 v36_r0 v51_r0 v66_r0 v81_r0 k0_t9 k0_t13 = 1#1), ∀ a, (k0_off284 v238_r0 k0_t13) a + S1x256x4096.size a ≤ S4x7168x4096.size a) ∧
  (∀ k0_t13 : Fin k0_t13_loop.trips, ∀ (k0_h64 : k0_cond64 v17_r0 v36_r0 v51_r0 v66_r0 v81_r0 k0_t9 k0_t13 = 1#1), ∀ (hinb : ∀ a, (k0_off284 v238_r0 k0_t13) a + S1x256x4096.size a ≤ S4x7168x4096.size a), (Rect.unit (s := S4x7168x4096) (k0_off284 v238_r0 k0_t13) S1x256x4096.size hinb).WholeWords (EltTy.packing .fp8e4m3)) ∧
  (∀ (k0_h66 : k0_cond66 v17_r0 v36_r0 v51_r0 v66_r0 v81_r0 k0_t9 = 1#1), ∀ a, (k0_off294 v238_r0) a + S1x128x7168.size a ≤ S4x128x7168.size a) ∧
  (∀ (k0_h66 : k0_cond66 v17_r0 v36_r0 v51_r0 v66_r0 v81_r0 k0_t9 = 1#1), ∀ (hinb : ∀ a, (k0_off294 v238_r0) a + S1x128x7168.size a ≤ S4x128x7168.size a), (Rect.unit (s := S4x128x7168) (k0_off294 v238_r0) S1x128x7168.size hinb).WholeWords (EltTy.packing .bf16)) ∧
  (∀ (k0_h67 : k0_cond67 v17_r0 v36_r0 v51_r0 v66_r0 v81_r0 k0_t9 = 1#1), ∀ a, (k0_off295 v238_r0) a + S1x64x4096.size a ≤ S4x128x4096.size a) ∧
  (∀ (k0_h67 : k0_cond67 v17_r0 v36_r0 v51_r0 v66_r0 v81_r0 k0_t9 = 1#1), ∀ (hinb : ∀ a, (k0_off295 v238_r0) a + S1x64x4096.size a ≤ S4x128x4096.size a), (Rect.unit (s := S4x128x4096) (k0_off295 v238_r0) S1x64x4096.size hinb).WholeWords (EltTy.packing .bf16)) ∧
  (∀ (k0_h68 : k0_cond68 v17_r0 v36_r0 v51_r0 v66_r0 v81_r0 k0_t9 = 1#1), ∀ a, (k0_off298 v238_r0) a + S1x256x4096.size a ≤ S4x7168x4096.size a) ∧
  (∀ (k0_h68 : k0_cond68 v17_r0 v36_r0 v51_r0 v66_r0 v81_r0 k0_t9 = 1#1), ∀ (hinb : ∀ a, (k0_off298 v238_r0) a + S1x256x4096.size a ≤ S4x7168x4096.size a), (Rect.unit (s := S4x7168x4096) (k0_off298 v238_r0) S1x256x4096.size hinb).WholeWords (EltTy.packing .fp8e4m3))
theorem k0_off255_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h54 : k0_cond54 v17_r0 v36_r0 v51_r0 v66_r0 v81_r0 k0_t9 k0_t12 = 1#1), ∀ a, (k0_off255 v238_r0) a + S1x128x7168.size a ≤ S4x128x7168.size a := fun v17_r0 v36_r0 v51_r0 v66_r0 v81_r0 k0_t9 v238_r0 k0_hw9 k0_t12 k0_h54 => k0_hw9.1 k0_t12 k0_h54
theorem k0_off255_wordsbf16 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h54 : k0_cond54 v17_r0 v36_r0 v51_r0 v66_r0 v81_r0 k0_t9 k0_t12 = 1#1), (Rect.unit (s := S4x128x7168) (k0_off255 v238_r0) S1x128x7168.size (k0_off255_inb v17_r0 v36_r0 v51_r0 v66_r0 v81_r0 k0_t9 v238_r0 k0_hw9 k0_t12 k0_h54)).WholeWords (EltTy.packing .bf16) := fun v17_r0 v36_r0 v51_r0 v66_r0 v81_r0 k0_t9 v238_r0 k0_hw9 k0_t12 k0_h54 => k0_hw9.2.1 k0_t12 k0_h54 (k0_off255_inb v17_r0 v36_r0 v51_r0 v66_r0 v81_r0 k0_t9 v238_r0 k0_hw9 k0_t12 k0_h54)
theorem k0_off256_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h55 : k0_cond55 v17_r0 v36_r0 v51_r0 v66_r0 v81_r0 k0_t9 k0_t12 = 1#1), ∀ a, (k0_off256 v238_r0) a + S1x64x4096.size a ≤ S4x128x4096.size a := fun v17_r0 v36_r0 v51_r0 v66_r0 v81_r0 k0_t9 v238_r0 k0_hw9 k0_t12 k0_h55 => k0_hw9.2.2.1 k0_t12 k0_h55
theorem k0_off256_wordsbf16 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h55 : k0_cond55 v17_r0 v36_r0 v51_r0 v66_r0 v81_r0 k0_t9 k0_t12 = 1#1), (Rect.unit (s := S4x128x4096) (k0_off256 v238_r0) S1x64x4096.size (k0_off256_inb v17_r0 v36_r0 v51_r0 v66_r0 v81_r0 k0_t9 v238_r0 k0_hw9 k0_t12 k0_h55)).WholeWords (EltTy.packing .bf16) := fun v17_r0 v36_r0 v51_r0 v66_r0 v81_r0 k0_t9 v238_r0 k0_hw9 k0_t12 k0_h55 => k0_hw9.2.2.2.1 k0_t12 k0_h55 (k0_off256_inb v17_r0 v36_r0 v51_r0 v66_r0 v81_r0 k0_t9 v238_r0 k0_hw9 k0_t12 k0_h55)
theorem k0_off259_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h56 : k0_cond56 v17_r0 v36_r0 v51_r0 v66_r0 v81_r0 k0_t9 k0_t12 = 1#1), ∀ a, (k0_off259 v238_r0 k0_t12) a + S1x256x4096.size a ≤ S4x7168x4096.size a := fun v17_r0 v36_r0 v51_r0 v66_r0 v81_r0 k0_t9 v238_r0 k0_hw9 k0_t12 k0_h56 => k0_hw9.2.2.2.2.1 k0_t12 k0_h56
theorem k0_off259_wordsfp8e4m3 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h56 : k0_cond56 v17_r0 v36_r0 v51_r0 v66_r0 v81_r0 k0_t9 k0_t12 = 1#1), (Rect.unit (s := S4x7168x4096) (k0_off259 v238_r0 k0_t12) S1x256x4096.size (k0_off259_inb v17_r0 v36_r0 v51_r0 v66_r0 v81_r0 k0_t9 v238_r0 k0_hw9 k0_t12 k0_h56)).WholeWords (EltTy.packing .fp8e4m3) := fun v17_r0 v36_r0 v51_r0 v66_r0 v81_r0 k0_t9 v238_r0 k0_hw9 k0_t12 k0_h56 => k0_hw9.2.2.2.2.2.1 k0_t12 k0_h56 (k0_off259_inb v17_r0 v36_r0 v51_r0 v66_r0 v81_r0 k0_t9 v238_r0 k0_hw9 k0_t12 k0_h56)
theorem k0_off266_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h58 : k0_cond58 v17_r0 v36_r0 v51_r0 v66_r0 v81_r0 k0_t9 k0_t12 = 1#1), ∀ a, (k0_off266 v238_r0) a + S1x128x7168.size a ≤ S4x128x7168.size a := fun v17_r0 v36_r0 v51_r0 v66_r0 v81_r0 k0_t9 v238_r0 k0_hw9 k0_t12 k0_h58 => k0_hw9.2.2.2.2.2.2.1 k0_t12 k0_h58
theorem k0_off266_wordsbf16 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h58 : k0_cond58 v17_r0 v36_r0 v51_r0 v66_r0 v81_r0 k0_t9 k0_t12 = 1#1), (Rect.unit (s := S4x128x7168) (k0_off266 v238_r0) S1x128x7168.size (k0_off266_inb v17_r0 v36_r0 v51_r0 v66_r0 v81_r0 k0_t9 v238_r0 k0_hw9 k0_t12 k0_h58)).WholeWords (EltTy.packing .bf16) := fun v17_r0 v36_r0 v51_r0 v66_r0 v81_r0 k0_t9 v238_r0 k0_hw9 k0_t12 k0_h58 => k0_hw9.2.2.2.2.2.2.2.1 k0_t12 k0_h58 (k0_off266_inb v17_r0 v36_r0 v51_r0 v66_r0 v81_r0 k0_t9 v238_r0 k0_hw9 k0_t12 k0_h58)
theorem k0_off267_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h59 : k0_cond59 v17_r0 v36_r0 v51_r0 v66_r0 v81_r0 k0_t9 k0_t12 = 1#1), ∀ a, (k0_off267 v238_r0) a + S1x64x4096.size a ≤ S4x128x4096.size a := fun v17_r0 v36_r0 v51_r0 v66_r0 v81_r0 k0_t9 v238_r0 k0_hw9 k0_t12 k0_h59 => k0_hw9.2.2.2.2.2.2.2.2.1 k0_t12 k0_h59
theorem k0_off267_wordsbf16 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h59 : k0_cond59 v17_r0 v36_r0 v51_r0 v66_r0 v81_r0 k0_t9 k0_t12 = 1#1), (Rect.unit (s := S4x128x4096) (k0_off267 v238_r0) S1x64x4096.size (k0_off267_inb v17_r0 v36_r0 v51_r0 v66_r0 v81_r0 k0_t9 v238_r0 k0_hw9 k0_t12 k0_h59)).WholeWords (EltTy.packing .bf16) := fun v17_r0 v36_r0 v51_r0 v66_r0 v81_r0 k0_t9 v238_r0 k0_hw9 k0_t12 k0_h59 => k0_hw9.2.2.2.2.2.2.2.2.2.1 k0_t12 k0_h59 (k0_off267_inb v17_r0 v36_r0 v51_r0 v66_r0 v81_r0 k0_t9 v238_r0 k0_hw9 k0_t12 k0_h59)
theorem k0_off270_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h60 : k0_cond60 v17_r0 v36_r0 v51_r0 v66_r0 v81_r0 k0_t9 k0_t12 = 1#1), ∀ a, (k0_off270 v238_r0 k0_t12) a + S1x256x4096.size a ≤ S4x7168x4096.size a := fun v17_r0 v36_r0 v51_r0 v66_r0 v81_r0 k0_t9 v238_r0 k0_hw9 k0_t12 k0_h60 => k0_hw9.2.2.2.2.2.2.2.2.2.2.1 k0_t12 k0_h60
theorem k0_off270_wordsfp8e4m3 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t12 : Fin k0_t12_loop.trips), ∀ (k0_h60 : k0_cond60 v17_r0 v36_r0 v51_r0 v66_r0 v81_r0 k0_t9 k0_t12 = 1#1), (Rect.unit (s := S4x7168x4096) (k0_off270 v238_r0 k0_t12) S1x256x4096.size (k0_off270_inb v17_r0 v36_r0 v51_r0 v66_r0 v81_r0 k0_t9 v238_r0 k0_hw9 k0_t12 k0_h60)).WholeWords (EltTy.packing .fp8e4m3) := fun v17_r0 v36_r0 v51_r0 v66_r0 v81_r0 k0_t9 v238_r0 k0_hw9 k0_t12 k0_h60 => k0_hw9.2.2.2.2.2.2.2.2.2.2.2.1 k0_t12 k0_h60 (k0_off270_inb v17_r0 v36_r0 v51_r0 v66_r0 v81_r0 k0_t9 v238_r0 k0_hw9 k0_t12 k0_h60)
theorem k0_off280_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t13 : Fin k0_t13_loop.trips), ∀ (k0_h62 : k0_cond62 v17_r0 v36_r0 v51_r0 v66_r0 v81_r0 k0_t9 k0_t13 = 1#1), ∀ a, (k0_off280 v238_r0) a + S1x128x7168.size a ≤ S4x128x7168.size a := fun v17_r0 v36_r0 v51_r0 v66_r0 v81_r0 k0_t9 v238_r0 k0_hw9 k0_t13 k0_h62 => k0_hw9.2.2.2.2.2.2.2.2.2.2.2.2.1 k0_t13 k0_h62
theorem k0_off280_wordsbf16 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t13 : Fin k0_t13_loop.trips), ∀ (k0_h62 : k0_cond62 v17_r0 v36_r0 v51_r0 v66_r0 v81_r0 k0_t9 k0_t13 = 1#1), (Rect.unit (s := S4x128x7168) (k0_off280 v238_r0) S1x128x7168.size (k0_off280_inb v17_r0 v36_r0 v51_r0 v66_r0 v81_r0 k0_t9 v238_r0 k0_hw9 k0_t13 k0_h62)).WholeWords (EltTy.packing .bf16) := fun v17_r0 v36_r0 v51_r0 v66_r0 v81_r0 k0_t9 v238_r0 k0_hw9 k0_t13 k0_h62 => k0_hw9.2.2.2.2.2.2.2.2.2.2.2.2.2.1 k0_t13 k0_h62 (k0_off280_inb v17_r0 v36_r0 v51_r0 v66_r0 v81_r0 k0_t9 v238_r0 k0_hw9 k0_t13 k0_h62)
theorem k0_off281_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t13 : Fin k0_t13_loop.trips), ∀ (k0_h63 : k0_cond63 v17_r0 v36_r0 v51_r0 v66_r0 v81_r0 k0_t9 k0_t13 = 1#1), ∀ a, (k0_off281 v238_r0) a + S1x64x4096.size a ≤ S4x128x4096.size a := fun v17_r0 v36_r0 v51_r0 v66_r0 v81_r0 k0_t9 v238_r0 k0_hw9 k0_t13 k0_h63 => k0_hw9.2.2.2.2.2.2.2.2.2.2.2.2.2.2.1 k0_t13 k0_h63
theorem k0_off281_wordsbf16 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t13 : Fin k0_t13_loop.trips), ∀ (k0_h63 : k0_cond63 v17_r0 v36_r0 v51_r0 v66_r0 v81_r0 k0_t9 k0_t13 = 1#1), (Rect.unit (s := S4x128x4096) (k0_off281 v238_r0) S1x64x4096.size (k0_off281_inb v17_r0 v36_r0 v51_r0 v66_r0 v81_r0 k0_t9 v238_r0 k0_hw9 k0_t13 k0_h63)).WholeWords (EltTy.packing .bf16) := fun v17_r0 v36_r0 v51_r0 v66_r0 v81_r0 k0_t9 v238_r0 k0_hw9 k0_t13 k0_h63 => k0_hw9.2.2.2.2.2.2.2.2.2.2.2.2.2.2.2.1 k0_t13 k0_h63 (k0_off281_inb v17_r0 v36_r0 v51_r0 v66_r0 v81_r0 k0_t9 v238_r0 k0_hw9 k0_t13 k0_h63)
theorem k0_off284_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t13 : Fin k0_t13_loop.trips), ∀ (k0_h64 : k0_cond64 v17_r0 v36_r0 v51_r0 v66_r0 v81_r0 k0_t9 k0_t13 = 1#1), ∀ a, (k0_off284 v238_r0 k0_t13) a + S1x256x4096.size a ≤ S4x7168x4096.size a := fun v17_r0 v36_r0 v51_r0 v66_r0 v81_r0 k0_t9 v238_r0 k0_hw9 k0_t13 k0_h64 => k0_hw9.2.2.2.2.2.2.2.2.2.2.2.2.2.2.2.2.1 k0_t13 k0_h64
theorem k0_off284_wordsfp8e4m3 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0) (k0_t13 : Fin k0_t13_loop.trips), ∀ (k0_h64 : k0_cond64 v17_r0 v36_r0 v51_r0 v66_r0 v81_r0 k0_t9 k0_t13 = 1#1), (Rect.unit (s := S4x7168x4096) (k0_off284 v238_r0 k0_t13) S1x256x4096.size (k0_off284_inb v17_r0 v36_r0 v51_r0 v66_r0 v81_r0 k0_t9 v238_r0 k0_hw9 k0_t13 k0_h64)).WholeWords (EltTy.packing .fp8e4m3) := fun v17_r0 v36_r0 v51_r0 v66_r0 v81_r0 k0_t9 v238_r0 k0_hw9 k0_t13 k0_h64 => k0_hw9.2.2.2.2.2.2.2.2.2.2.2.2.2.2.2.2.2.1 k0_t13 k0_h64 (k0_off284_inb v17_r0 v36_r0 v51_r0 v66_r0 v81_r0 k0_t9 v238_r0 k0_hw9 k0_t13 k0_h64)
theorem k0_off294_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0), ∀ (k0_h66 : k0_cond66 v17_r0 v36_r0 v51_r0 v66_r0 v81_r0 k0_t9 = 1#1), ∀ a, (k0_off294 v238_r0) a + S1x128x7168.size a ≤ S4x128x7168.size a := fun v17_r0 v36_r0 v51_r0 v66_r0 v81_r0 k0_t9 v238_r0 k0_hw9 k0_h66 => k0_hw9.2.2.2.2.2.2.2.2.2.2.2.2.2.2.2.2.2.2.1 k0_h66
theorem k0_off294_wordsbf16 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0), ∀ (k0_h66 : k0_cond66 v17_r0 v36_r0 v51_r0 v66_r0 v81_r0 k0_t9 = 1#1), (Rect.unit (s := S4x128x7168) (k0_off294 v238_r0) S1x128x7168.size (k0_off294_inb v17_r0 v36_r0 v51_r0 v66_r0 v81_r0 k0_t9 v238_r0 k0_hw9 k0_h66)).WholeWords (EltTy.packing .bf16) := fun v17_r0 v36_r0 v51_r0 v66_r0 v81_r0 k0_t9 v238_r0 k0_hw9 k0_h66 => k0_hw9.2.2.2.2.2.2.2.2.2.2.2.2.2.2.2.2.2.2.2.1 k0_h66 (k0_off294_inb v17_r0 v36_r0 v51_r0 v66_r0 v81_r0 k0_t9 v238_r0 k0_hw9 k0_h66)
theorem k0_off295_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0), ∀ (k0_h67 : k0_cond67 v17_r0 v36_r0 v51_r0 v66_r0 v81_r0 k0_t9 = 1#1), ∀ a, (k0_off295 v238_r0) a + S1x64x4096.size a ≤ S4x128x4096.size a := fun v17_r0 v36_r0 v51_r0 v66_r0 v81_r0 k0_t9 v238_r0 k0_hw9 k0_h67 => k0_hw9.2.2.2.2.2.2.2.2.2.2.2.2.2.2.2.2.2.2.2.2.1 k0_h67
theorem k0_off295_wordsbf16 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0), ∀ (k0_h67 : k0_cond67 v17_r0 v36_r0 v51_r0 v66_r0 v81_r0 k0_t9 = 1#1), (Rect.unit (s := S4x128x4096) (k0_off295 v238_r0) S1x64x4096.size (k0_off295_inb v17_r0 v36_r0 v51_r0 v66_r0 v81_r0 k0_t9 v238_r0 k0_hw9 k0_h67)).WholeWords (EltTy.packing .bf16) := fun v17_r0 v36_r0 v51_r0 v66_r0 v81_r0 k0_t9 v238_r0 k0_hw9 k0_h67 => k0_hw9.2.2.2.2.2.2.2.2.2.2.2.2.2.2.2.2.2.2.2.2.2.1 k0_h67 (k0_off295_inb v17_r0 v36_r0 v51_r0 v66_r0 v81_r0 k0_t9 v238_r0 k0_hw9 k0_h67)
theorem k0_off298_inb : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0), ∀ (k0_h68 : k0_cond68 v17_r0 v36_r0 v51_r0 v66_r0 v81_r0 k0_t9 = 1#1), ∀ a, (k0_off298 v238_r0) a + S1x256x4096.size a ≤ S4x7168x4096.size a := fun v17_r0 v36_r0 v51_r0 v66_r0 v81_r0 k0_t9 v238_r0 k0_hw9 k0_h68 => k0_hw9.2.2.2.2.2.2.2.2.2.2.2.2.2.2.2.2.2.2.2.2.2.2.1 k0_h68
theorem k0_off298_wordsfp8e4m3 : ∀ (v17_r0 : BitVec 32) (v36_r0 : BitVec 32) (v51_r0 : BitVec 32) (v66_r0 : BitVec 32) (v81_r0 : BitVec 32) (k0_t9 : Fin (k0_t9_loop v17_r0 v36_r0 v51_r0 v66_r0 v81_r0).trips) (v238_r0 : BitVec 32) (k0_hw9 : k0_chk9 v17_r0 v36_r0 v51_r0 v66_r0 v81_r0 k0_t9 v238_r0), ∀ (k0_h68 : k0_cond68 v17_r0 v36_r0 v51_r0 v66_r0 v81_r0 k0_t9 = 1#1), (Rect.unit (s := S4x7168x4096) (k0_off298 v238_r0) S1x256x4096.size (k0_off298_inb v17_r0 v36_r0 v51_r0 v66_r0 v81_r0 k0_t9 v238_r0 k0_hw9 k0_h68)).WholeWords (EltTy.packing .fp8e4m3) := fun v17_r0 v36_r0 v51_r0 v66_r0 v81_r0 k0_t9 v238_r0 k0_hw9 k0_h68 => k0_hw9.2.2.2.2.2.2.2.2.2.2.2.2.2.2.2.2.2.2.2.2.2.2.2 k0_h68 (k0_off298_inb v17_r0 v36_r0 v51_r0 v66_r0 v81_r0 k0_t9 v238_r0 k0_hw9 k0_h68)

def k0_cond69 : BitVec 1 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c30_i32_334_r0 : BitVec 32 := 30#32
  let v545_r0 : BitVec 1 := Scalar.cmpi .sge v523_r0 c30_i32_334_r0
  let c44_i32_335_r0 : BitVec 32 := 44#32
  let v546_r0 : BitVec 1 := Scalar.cmpi .slt v523_r0 c44_i32_335_r0
  let v547_r0 : BitVec 1 := Scalar.andi v545_r0 v546_r0
  let true_336_r0 : BitVec 1 := 1#1
  let v548_r0 : BitVec 1 := Scalar.andi v547_r0 true_336_r0
  let v549_r0 : BitVec 32 := Scalar.extui v548_r0
  let c0_i32_337_r0 : BitVec 32 := 0#32
  let v550_r0 : BitVec 1 := Scalar.cmpi .ne v549_r0 c0_i32_337_r0
  v550_r0

def k0_mult88 : BitVec 32 :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c30_i32_356_r0 : BitVec 32 := 30#32
  let v586_r0 : BitVec 32 := Scalar.subi v523_r0 c30_i32_356_r0
  let c512_i32_357_r0 : BitVec 32 := 512#32
  let v587_r0 : BitVec 32 := Scalar.muli v586_r0 c512_i32_357_r0
  v587_r0
def k0_off299 : Fin 1 → Nat :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c30_i32_356_r0 : BitVec 32 := 30#32
  let v586_r0 : BitVec 32 := Scalar.subi v523_r0 c30_i32_356_r0
  ![v586_r0.toNat]
def k0_off300 : Fin 3 → Nat :=
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c30_i32_356_r0 : BitVec 32 := 30#32
  let v586_r0 : BitVec 32 := Scalar.subi v523_r0 c30_i32_356_r0
  let c0_i32_358_r0 : BitVec 32 := 0#32
  let c0_i32_359_r0 : BitVec 32 := 0#32
  ![v586_r0.toNat, 0, 0]
def k0_off301 (v233_r0 : BitVec 32) : Fin 3 → Nat :=
  let c0_i32_360_r0 : BitVec 32 := 0#32
  let c30_i32_322_r0 : BitVec 32 := 30#32
  let c13_i32_323_r0 : BitVec 32 := 13#32
  let v521_r0 : BitVec 32 := Scalar.addi c30_i32_322_r0 c13_i32_323_r0
  let c0_i32_324_r0 : BitVec 32 := 0#32
  let v522_r0 : BitVec 32 := Scalar.addi v521_r0 c0_i32_324_r0
  let c7_i32_325_r0 : BitVec 32 := 7#32
  let v523_r0 : BitVec 32 := Scalar.addi v522_r0 c7_i32_325_r0
  let c30_i32_356_r0 : BitVec 32 := 30#32
  let v586_r0 : BitVec 32 := Scalar.subi v523_r0 c30_i32_356_r0
  let c512_i32_357_r0 : BitVec 32 := 512#32
  let v587_r0 : BitVec 32 := Scalar.muli v586_r0 c512_i32_357_r0
  let v588_r0 : BitVec 32 := v587_r0
  ![v233_r0.toNat, 0, v588_r0.toNat]
def k0_mult89 : BitVec 32 :=
  let c13_i32_342_r0 : BitVec 32 := 13#32
  let c0_i32_343_r0 : BitVec 32 := 0#32
  let v556_r0 : BitVec 32 := Scalar.addi c13_i32_342_r0 c0_i32_343_r0
  let c512_i32_344_r0 : BitVec 32 := 512#32
  let v557_r0 : BitVec 32 := Scalar.muli v556_r0 c512_i32_344_r0
  v557_r0
def k0_off302 : Fin 3 → Nat :=
  let c13_i32_347_r0 : BitVec 32 := 13#32
  let c0_i32_348_r0 : BitVec 32 := 0#32
  let v560_r0 : BitVec 32 := Scalar.addi c13_i32_347_r0 c0_i32_348_r0
  let v561_r0 : Index := Scalar.indexCast v560_r0
  let c0_349_r0 : Index := 0#32
  let c0_350_r0 : Index := 0#32
  ![v561_r0.toNat, 0, 0]
def k0_off303 (v233_r0 : BitVec 32) : Fin 2 → Nat :=
  let v566_r0 : Index := Scalar.indexCast v233_r0
  let c13_i32_342_r0 : BitVec 32 := 13#32
  let c0_i32_343_r0 : BitVec 32 := 0#32
  let v556_r0 : BitVec 32 := Scalar.addi c13_i32_342_r0 c0_i32_343_r0
  let c512_i32_344_r0 : BitVec 32 := 512#32
  let v557_r0 : BitVec 32 := Scalar.muli v556_r0 c512_i32_344_r0
  let v558_r0 : BitVec 32 := v557_r0
  let v567_r0 : Index := Scalar.indexCast v558_r0
  ![v566_r0.toNat, v567_r0.toNat]

def k0_chk8_0 (v233_r0 : BitVec 32) : Prop :=
  (∀ a, (k0_off160 v233_r0) a + S1x128x7168.size a ≤ S4x128x7168.size a) ∧
  (∀ (hinb : ∀ a, (k0_off160 v233_r0) a + S1x128x7168.size a ≤ S4x128x7168.size a), (Rect.unit (s := S4x128x7168) (k0_off160 v233_r0) S1x128x7168.size hinb).WholeWords (EltTy.packing .bf16)) ∧
  (∀ a, (k0_off161 v233_r0) a + S1x64x4096.size a ≤ S4x128x4096.size a) ∧
  (∀ (hinb : ∀ a, (k0_off161 v233_r0) a + S1x64x4096.size a ≤ S4x128x4096.size a), (Rect.unit (s := S4x128x4096) (k0_off161 v233_r0) S1x64x4096.size hinb).WholeWords (EltTy.packing .bf16)) ∧
  (∀ (k0_h36 : k0_cond36 = 1#1), ∀ a, (k0_off164 v233_r0) a + S1x256x4096.size a ≤ S4x7168x4096.size a) ∧
  (∀ (k0_h36 : k0_cond36 = 1#1), ∀ (hinb : ∀ a, (k0_off164 v233_r0) a + S1x256x4096.size a ≤ S4x7168x4096.size a), (Rect.unit (s := S4x7168x4096) (k0_off164 v233_r0) S1x256x4096.size hinb).WholeWords (EltTy.packing .fp8e4m3)) ∧
  (∀ (k0_h37 : k0_cond37 = 1#1), ∀ a, (k0_off167 v233_r0) a + S1x256x4096.size a ≤ S4x7168x4096.size a) ∧
  (∀ (k0_h37 : k0_cond37 = 1#1), ∀ (hinb : ∀ a, (k0_off167 v233_r0) a + S1x256x4096.size a ≤ S4x7168x4096.size a), (Rect.unit (s := S4x7168x4096) (k0_off167 v233_r0) S1x256x4096.size hinb).WholeWords (EltTy.packing .fp8e4m3)) ∧
  (∀ (k0_h38 : k0_cond38 = 1#1), ∀ a, (k0_off170 v233_r0) a + S1x256x4096.size a ≤ S4x7168x4096.size a) ∧
  (∀ (k0_h38 : k0_cond38 = 1#1), ∀ (hinb : ∀ a, (k0_off170 v233_r0) a + S1x256x4096.size a ≤ S4x7168x4096.size a), (Rect.unit (s := S4x7168x4096) (k0_off170 v233_r0) S1x256x4096.size hinb).WholeWords (EltTy.packing .fp8e4m3)) ∧
  (∀ (k0_h39 : k0_cond39 = 1#1), ∀ a, (k0_off173 v233_r0) a + S1x256x4096.size a ≤ S4x7168x4096.size a) ∧
  (∀ (k0_h39 : k0_cond39 = 1#1), ∀ (hinb : ∀ a, (k0_off173 v233_r0) a + S1x256x4096.size a ≤ S4x7168x4096.size a), (Rect.unit (s := S4x7168x4096) (k0_off173 v233_r0) S1x256x4096.size hinb).WholeWords (EltTy.packing .fp8e4m3)) ∧
  (∀ (k0_h40 : k0_cond40 = 1#1), ∀ a, (k0_off176 v233_r0) a + S1x256x4096.size a ≤ S4x7168x4096.size a) ∧
  (∀ (k0_h40 : k0_cond40 = 1#1), ∀ (hinb : ∀ a, (k0_off176 v233_r0) a + S1x256x4096.size a ≤ S4x7168x4096.size a), (Rect.unit (s := S4x7168x4096) (k0_off176 v233_r0) S1x256x4096.size hinb).WholeWords (EltTy.packing .fp8e4m3)) ∧
  (∀ (k0_h41 : k0_cond41 = 1#1), ∀ a, (k0_off179 v233_r0) a + S1x256x4096.size a ≤ S4x7168x4096.size a) ∧
  (∀ (k0_h41 : k0_cond41 = 1#1), ∀ (hinb : ∀ a, (k0_off179 v233_r0) a + S1x256x4096.size a ≤ S4x7168x4096.size a), (Rect.unit (s := S4x7168x4096) (k0_off179 v233_r0) S1x256x4096.size hinb).WholeWords (EltTy.packing .fp8e4m3)) ∧
  (∀ k0_t10 : Fin k0_t10_loop.trips, ∀ (r : Fin 4), ∀ a, (k0_off182 v233_r0 k0_t10 (BitVec.ofNat 32 r.val)) a + S1x256x4096.size a ≤ S4x7168x4096.size a) ∧
  (∀ k0_t10 : Fin k0_t10_loop.trips, ∀ (r : Fin 4), ∀ (hinb : ∀ a, (k0_off182 v233_r0 k0_t10 (BitVec.ofNat 32 r.val)) a + S1x256x4096.size a ≤ S4x7168x4096.size a), (Rect.unit (s := S4x7168x4096) (k0_off182 v233_r0 k0_t10 (BitVec.ofNat 32 r.val)) S1x256x4096.size hinb).WholeWords (EltTy.packing .fp8e4m3)) ∧
  (∀ k0_t10 : Fin k0_t10_loop.trips, ∀ (k0_h42 : k0_cond42 k0_t10 = 1#1), ∀ a, (k0_off185 v233_r0 k0_t10) a + S1x256x4096.size a ≤ S4x7168x4096.size a) ∧
  (∀ k0_t10 : Fin k0_t10_loop.trips, ∀ (k0_h42 : k0_cond42 k0_t10 = 1#1), ∀ (hinb : ∀ a, (k0_off185 v233_r0 k0_t10) a + S1x256x4096.size a ≤ S4x7168x4096.size a), (Rect.unit (s := S4x7168x4096) (k0_off185 v233_r0 k0_t10) S1x256x4096.size hinb).WholeWords (EltTy.packing .fp8e4m3)) ∧
  (∀ k0_t10 : Fin k0_t10_loop.trips, ∀ (k0_h43 : k0_cond43 k0_t10 = 1#1), ∀ a, (k0_off188 v233_r0 k0_t10) a + S1x2048x512.size a ≤ S4x2048x7168.size a) ∧
  (∀ k0_t10 : Fin k0_t10_loop.trips, ∀ (k0_h43 : k0_cond43 k0_t10 = 1#1), ∀ (hinb : ∀ a, (k0_off188 v233_r0 k0_t10) a + S1x2048x512.size a ≤ S4x2048x7168.size a), (Rect.unit (s := S4x2048x7168) (k0_off188 v233_r0 k0_t10) S1x2048x512.size hinb).WholeWords (EltTy.packing .fp8e4m3)) ∧
  (∀ k0_t10 : Fin k0_t10_loop.trips, ∀ (k0_h44 : k0_cond44 k0_t10 = 1#1), ∀ a, (k0_off191 v233_r0 k0_t10) a + S1x256x4096.size a ≤ S4x7168x4096.size a) ∧
  (∀ k0_t10 : Fin k0_t10_loop.trips, ∀ (k0_h44 : k0_cond44 k0_t10 = 1#1), ∀ (hinb : ∀ a, (k0_off191 v233_r0 k0_t10) a + S1x256x4096.size a ≤ S4x7168x4096.size a), (Rect.unit (s := S4x7168x4096) (k0_off191 v233_r0 k0_t10) S1x256x4096.size hinb).WholeWords (EltTy.packing .fp8e4m3)) ∧
  (∀ k0_t10 : Fin k0_t10_loop.trips, ∀ (k0_h45 : k0_cond45 k0_t10 = 1#1), ∀ a, (k0_off194 v233_r0 k0_t10) a + S1x2048x512.size a ≤ S4x2048x7168.size a) ∧
  (∀ k0_t10 : Fin k0_t10_loop.trips, ∀ (k0_h45 : k0_cond45 k0_t10 = 1#1), ∀ (hinb : ∀ a, (k0_off194 v233_r0 k0_t10) a + S1x2048x512.size a ≤ S4x2048x7168.size a), (Rect.unit (s := S4x2048x7168) (k0_off194 v233_r0 k0_t10) S1x2048x512.size hinb).WholeWords (EltTy.packing .fp8e4m3)) ∧
  (∀ k0_t10 : Fin k0_t10_loop.trips, ∀ (k0_h46 : k0_cond46 k0_t10 = 1#1), ∀ a, (k0_off197 v233_r0 k0_t10) a + S1x256x4096.size a ≤ S4x7168x4096.size a) ∧
  (∀ k0_t10 : Fin k0_t10_loop.trips, ∀ (k0_h46 : k0_cond46 k0_t10 = 1#1), ∀ (hinb : ∀ a, (k0_off197 v233_r0 k0_t10) a + S1x256x4096.size a ≤ S4x7168x4096.size a), (Rect.unit (s := S4x7168x4096) (k0_off197 v233_r0 k0_t10) S1x256x4096.size hinb).WholeWords (EltTy.packing .fp8e4m3)) ∧
  (∀ k0_t10 : Fin k0_t10_loop.trips, ∀ (k0_h47 : k0_cond47 k0_t10 = 1#1), ∀ a, (k0_off200 v233_r0 k0_t10) a + S1x2048x512.size a ≤ S4x2048x7168.size a) ∧
  (∀ k0_t10 : Fin k0_t10_loop.trips, ∀ (k0_h47 : k0_cond47 k0_t10 = 1#1), ∀ (hinb : ∀ a, (k0_off200 v233_r0 k0_t10) a + S1x2048x512.size a ≤ S4x2048x7168.size a), (Rect.unit (s := S4x2048x7168) (k0_off200 v233_r0 k0_t10) S1x2048x512.size hinb).WholeWords (EltTy.packing .fp8e4m3)) ∧
  (∀ k0_t10 : Fin k0_t10_loop.trips, ∀ (k0_h48 : k0_cond48 k0_t10 = 1#1), ∀ a, (k0_off203 v233_r0 k0_t10) a + S1x256x4096.size a ≤ S4x7168x4096.size a) ∧
  (∀ k0_t10 : Fin k0_t10_loop.trips, ∀ (k0_h48 : k0_cond48 k0_t10 = 1#1), ∀ (hinb : ∀ a, (k0_off203 v233_r0 k0_t10) a + S1x256x4096.size a ≤ S4x7168x4096.size a), (Rect.unit (s := S4x7168x4096) (k0_off203 v233_r0 k0_t10) S1x256x4096.size hinb).WholeWords (EltTy.packing .fp8e4m3))
def k0_chk8_1 (v233_r0 : BitVec 32) : Prop :=
  (∀ k0_t10 : Fin k0_t10_loop.trips, ∀ (k0_h49 : k0_cond49 k0_t10 = 1#1), ∀ a, (k0_off206 v233_r0 k0_t10) a + S1x2048x512.size a ≤ S4x2048x7168.size a) ∧
  (∀ k0_t10 : Fin k0_t10_loop.trips, ∀ (k0_h49 : k0_cond49 k0_t10 = 1#1), ∀ (hinb : ∀ a, (k0_off206 v233_r0 k0_t10) a + S1x2048x512.size a ≤ S4x2048x7168.size a), (Rect.unit (s := S4x2048x7168) (k0_off206 v233_r0 k0_t10) S1x2048x512.size hinb).WholeWords (EltTy.packing .fp8e4m3)) ∧
  (∀ k0_t10 : Fin k0_t10_loop.trips, ∀ a, (k0_off207 v233_r0 k0_t10) a + S1x128x512.size a ≤ S4x128x4096.size a) ∧
  (∀ k0_t11 : Fin k0_t11_loop.trips, ∀ (r : Fin 2), ∀ a, (k0_off220 v233_r0 k0_t11 (BitVec.ofNat 32 r.val)) a + S1x256x4096.size a ≤ S4x7168x4096.size a) ∧
  (∀ k0_t11 : Fin k0_t11_loop.trips, ∀ (r : Fin 2), ∀ (hinb : ∀ a, (k0_off220 v233_r0 k0_t11 (BitVec.ofNat 32 r.val)) a + S1x256x4096.size a ≤ S4x7168x4096.size a), (Rect.unit (s := S4x7168x4096) (k0_off220 v233_r0 k0_t11 (BitVec.ofNat 32 r.val)) S1x256x4096.size hinb).WholeWords (EltTy.packing .fp8e4m3)) ∧
  (∀ k0_t11 : Fin k0_t11_loop.trips, ∀ (k0_h50 : k0_cond50 k0_t11 = 1#1), ∀ a, (k0_off223 v233_r0 k0_t11) a + S1x256x4096.size a ≤ S4x7168x4096.size a) ∧
  (∀ k0_t11 : Fin k0_t11_loop.trips, ∀ (k0_h50 : k0_cond50 k0_t11 = 1#1), ∀ (hinb : ∀ a, (k0_off223 v233_r0 k0_t11) a + S1x256x4096.size a ≤ S4x7168x4096.size a), (Rect.unit (s := S4x7168x4096) (k0_off223 v233_r0 k0_t11) S1x256x4096.size hinb).WholeWords (EltTy.packing .fp8e4m3)) ∧
  (∀ k0_t11 : Fin k0_t11_loop.trips, ∀ (k0_h51 : k0_cond51 k0_t11 = 1#1), ∀ a, (k0_off226 v233_r0 k0_t11) a + S1x2048x512.size a ≤ S4x2048x7168.size a) ∧
  (∀ k0_t11 : Fin k0_t11_loop.trips, ∀ (k0_h51 : k0_cond51 k0_t11 = 1#1), ∀ (hinb : ∀ a, (k0_off226 v233_r0 k0_t11) a + S1x2048x512.size a ≤ S4x2048x7168.size a), (Rect.unit (s := S4x2048x7168) (k0_off226 v233_r0 k0_t11) S1x2048x512.size hinb).WholeWords (EltTy.packing .fp8e4m3)) ∧
  (∀ k0_t11 : Fin k0_t11_loop.trips, ∀ (k0_h52 : k0_cond52 k0_t11 = 1#1), ∀ a, (k0_off229 v233_r0 k0_t11) a + S1x256x4096.size a ≤ S4x7168x4096.size a) ∧
  (∀ k0_t11 : Fin k0_t11_loop.trips, ∀ (k0_h52 : k0_cond52 k0_t11 = 1#1), ∀ (hinb : ∀ a, (k0_off229 v233_r0 k0_t11) a + S1x256x4096.size a ≤ S4x7168x4096.size a), (Rect.unit (s := S4x7168x4096) (k0_off229 v233_r0 k0_t11) S1x256x4096.size hinb).WholeWords (EltTy.packing .fp8e4m3)) ∧
  (∀ k0_t11 : Fin k0_t11_loop.trips, ∀ (k0_h53 : k0_cond53 k0_t11 = 1#1), ∀ a, (k0_off232 v233_r0 k0_t11) a + S1x2048x512.size a ≤ S4x2048x7168.size a) ∧
  (∀ k0_t11 : Fin k0_t11_loop.trips, ∀ (k0_h53 : k0_cond53 k0_t11 = 1#1), ∀ (hinb : ∀ a, (k0_off232 v233_r0 k0_t11) a + S1x2048x512.size a ≤ S4x2048x7168.size a), (Rect.unit (s := S4x2048x7168) (k0_off232 v233_r0 k0_t11) S1x2048x512.size hinb).WholeWords (EltTy.packing .fp8e4m3)) ∧
  (∀ k0_t11 : Fin k0_t11_loop.trips, ∀ a, (k0_off233 v233_r0 k0_t11) a + S1x128x512.size a ≤ S4x128x4096.size a) ∧
  (∀ a, (k0_off244 v233_r0) a + S1x512.size a ≤ S4x4096.size a) ∧
  (∀ a, (k0_off245 v233_r0) a + S1x512.size a ≤ S4x4096.size a) ∧
  (∀ a, (k0_off246 v233_r0) a + S1x512.size a ≤ S4x4096.size a) ∧
  (∀ a, (k0_off247 v233_r0) a + S1x512.size a ≤ S4x4096.size a) ∧
  (∀ a, (k0_off248 v233_r0) a + S1x512.size a ≤ S4x4096.size a) ∧
  (∀ a, (k0_off249 v233_r0) a + S1x512.size a ≤ S4x4096.size a) ∧
  (∀ a, (k0_off250 v233_r0) a + S1x512.size a ≤ S4x4096.size a) ∧
  (∀ a, (k0_off251 v233_r0) a + S1x512.size a ≤ S4x4096.size a) ∧
  (∀ k0_t12 : Fin k0_t12_loop.trips, ∀ a, (k0_off254 v233_r0 k0_t12) a + S1x2048x512.size a ≤ S4x2048x7168.size a) ∧
  (∀ k0_t12 : Fin k0_t12_loop.trips, ∀ (hinb : ∀ a, (k0_off254 v233_r0 k0_t12) a + S1x2048x512.size a ≤ S4x2048x7168.size a), (Rect.unit (s := S4x2048x7168) (k0_off254 v233_r0 k0_t12) S1x2048x512.size hinb).WholeWords (EltTy.packing .fp8e4m3)) ∧
  (∀ k0_t12 : Fin k0_t12_loop.trips, ∀ (k0_h57 : k0_cond57 k0_t12 = 1#1), ∀ a, (k0_off262 v233_r0 k0_t12) a + S1x2048x512.size a ≤ S4x2048x7168.size a) ∧
  (∀ k0_t12 : Fin k0_t12_loop.trips, ∀ (k0_h57 : k0_cond57 k0_t12 = 1#1), ∀ (hinb : ∀ a, (k0_off262 v233_r0 k0_t12) a + S1x2048x512.size a ≤ S4x2048x7168.size a), (Rect.unit (s := S4x2048x7168) (k0_off262 v233_r0 k0_t12) S1x2048x512.size hinb).WholeWords (EltTy.packing .fp8e4m3)) ∧
  (∀ k0_t12 : Fin k0_t12_loop.trips, ∀ a, (k0_off265 v233_r0 k0_t12) a + S1x2048x512.size a ≤ S4x2048x7168.size a) ∧
  (∀ k0_t12 : Fin k0_t12_loop.trips, ∀ (hinb : ∀ a, (k0_off265 v233_r0 k0_t12) a + S1x2048x512.size a ≤ S4x2048x7168.size a), (Rect.unit (s := S4x2048x7168) (k0_off265 v233_r0 k0_t12) S1x2048x512.size hinb).WholeWords (EltTy.packing .fp8e4m3)) ∧
  (∀ k0_t12 : Fin k0_t12_loop.trips, ∀ (k0_h61 : k0_cond61 k0_t12 = 1#1), ∀ a, (k0_off273 v233_r0 k0_t12) a + S1x2048x512.size a ≤ S4x2048x7168.size a) ∧
  (∀ k0_t12 : Fin k0_t12_loop.trips, ∀ (k0_h61 : k0_cond61 k0_t12 = 1#1), ∀ (hinb : ∀ a, (k0_off273 v233_r0 k0_t12) a + S1x2048x512.size a ≤ S4x2048x7168.size a), (Rect.unit (s := S4x2048x7168) (k0_off273 v233_r0 k0_t12) S1x2048x512.size hinb).WholeWords (EltTy.packing .fp8e4m3)) ∧
  (∀ k0_t12 : Fin k0_t12_loop.trips, ∀ (r : Fin 2), ∀ a, (k0_off275 v233_r0 k0_t12 (BitVec.ofNat 32 r.val)) a + S1x512.size a ≤ S4x7168.size a) ∧
  (∀ k0_t13 : Fin k0_t13_loop.trips, ∀ a, (k0_off279 v233_r0 k0_t13) a + S1x2048x512.size a ≤ S4x2048x7168.size a)
def k0_chk8_2 (v233_r0 : BitVec 32) : Prop :=
  (∀ k0_t13 : Fin k0_t13_loop.trips, ∀ (hinb : ∀ a, (k0_off279 v233_r0 k0_t13) a + S1x2048x512.size a ≤ S4x2048x7168.size a), (Rect.unit (s := S4x2048x7168) (k0_off279 v233_r0 k0_t13) S1x2048x512.size hinb).WholeWords (EltTy.packing .fp8e4m3)) ∧
  (∀ k0_t13 : Fin k0_t13_loop.trips, ∀ (k0_h65 : k0_cond65 k0_t13 = 1#1), ∀ a, (k0_off287 v233_r0 k0_t13) a + S1x2048x512.size a ≤ S4x2048x7168.size a) ∧
  (∀ k0_t13 : Fin k0_t13_loop.trips, ∀ (k0_h65 : k0_cond65 k0_t13 = 1#1), ∀ (hinb : ∀ a, (k0_off287 v233_r0 k0_t13) a + S1x2048x512.size a ≤ S4x2048x7168.size a), (Rect.unit (s := S4x2048x7168) (k0_off287 v233_r0 k0_t13) S1x2048x512.size hinb).WholeWords (EltTy.packing .fp8e4m3)) ∧
  (∀ k0_t13 : Fin k0_t13_loop.trips, ∀ a, (k0_off289 v233_r0 k0_t13) a + S1x512.size a ≤ S4x7168.size a) ∧
  (∀ a, (k0_off293 v233_r0) a + S1x2048x512.size a ≤ S4x2048x7168.size a) ∧
  (∀ (hinb : ∀ a, (k0_off293 v233_r0) a + S1x2048x512.size a ≤ S4x2048x7168.size a), (Rect.unit (s := S4x2048x7168) (k0_off293 v233_r0) S1x2048x512.size hinb).WholeWords (EltTy.packing .fp8e4m3)) ∧
  (∀ (k0_h69 : k0_cond69 = 1#1), ∀ a, (k0_off301 v233_r0) a + S1x2048x512.size a ≤ S4x2048x7168.size a) ∧
  (∀ (k0_h69 : k0_cond69 = 1#1), ∀ (hinb : ∀ a, (k0_off301 v233_r0) a + S1x2048x512.size a ≤ S4x2048x7168.size a), (Rect.unit (s := S4x2048x7168) (k0_off301 v233_r0) S1x2048x512.size hinb).WholeWords (EltTy.packing .fp8e4m3)) ∧
  (∀ a, (k0_off303 v233_r0) a + S1x512.size a ≤ S4x7168.size a)
def k0_chk8 (v233_r0 : BitVec 32) : Prop :=
  k0_chk8_0 v233_r0 ∧
  k0_chk8_1 v233_r0 ∧
  k0_chk8_2 v233_r0
theorem k0_off160_inb : ∀ (v233_r0 : BitVec 32) (k0_hw8 : k0_chk8 v233_r0), ∀ a, (k0_off160 v233_r0) a + S1x128x7168.size a ≤ S4x128x7168.size a := fun v233_r0 k0_hw8 => k0_hw8.1.1
theorem k0_off160_wordsbf16 : ∀ (v233_r0 : BitVec 32) (k0_hw8 : k0_chk8 v233_r0), (Rect.unit (s := S4x128x7168) (k0_off160 v233_r0) S1x128x7168.size (k0_off160_inb v233_r0 k0_hw8)).WholeWords (EltTy.packing .bf16) := fun v233_r0 k0_hw8 => k0_hw8.1.2.1 (k0_off160_inb v233_r0 k0_hw8)
theorem k0_off161_inb : ∀ (v233_r0 : BitVec 32) (k0_hw8 : k0_chk8 v233_r0), ∀ a, (k0_off161 v233_r0) a + S1x64x4096.size a ≤ S4x128x4096.size a := fun v233_r0 k0_hw8 => k0_hw8.1.2.2.1
theorem k0_off161_wordsbf16 : ∀ (v233_r0 : BitVec 32) (k0_hw8 : k0_chk8 v233_r0), (Rect.unit (s := S4x128x4096) (k0_off161 v233_r0) S1x64x4096.size (k0_off161_inb v233_r0 k0_hw8)).WholeWords (EltTy.packing .bf16) := fun v233_r0 k0_hw8 => k0_hw8.1.2.2.2.1 (k0_off161_inb v233_r0 k0_hw8)
theorem k0_off164_inb : ∀ (v233_r0 : BitVec 32) (k0_hw8 : k0_chk8 v233_r0), ∀ (k0_h36 : k0_cond36 = 1#1), ∀ a, (k0_off164 v233_r0) a + S1x256x4096.size a ≤ S4x7168x4096.size a := fun v233_r0 k0_hw8 k0_h36 => k0_hw8.1.2.2.2.2.1 k0_h36
theorem k0_off164_wordsfp8e4m3 : ∀ (v233_r0 : BitVec 32) (k0_hw8 : k0_chk8 v233_r0), ∀ (k0_h36 : k0_cond36 = 1#1), (Rect.unit (s := S4x7168x4096) (k0_off164 v233_r0) S1x256x4096.size (k0_off164_inb v233_r0 k0_hw8 k0_h36)).WholeWords (EltTy.packing .fp8e4m3) := fun v233_r0 k0_hw8 k0_h36 => k0_hw8.1.2.2.2.2.2.1 k0_h36 (k0_off164_inb v233_r0 k0_hw8 k0_h36)
theorem k0_off167_inb : ∀ (v233_r0 : BitVec 32) (k0_hw8 : k0_chk8 v233_r0), ∀ (k0_h37 : k0_cond37 = 1#1), ∀ a, (k0_off167 v233_r0) a + S1x256x4096.size a ≤ S4x7168x4096.size a := fun v233_r0 k0_hw8 k0_h37 => k0_hw8.1.2.2.2.2.2.2.1 k0_h37
theorem k0_off167_wordsfp8e4m3 : ∀ (v233_r0 : BitVec 32) (k0_hw8 : k0_chk8 v233_r0), ∀ (k0_h37 : k0_cond37 = 1#1), (Rect.unit (s := S4x7168x4096) (k0_off167 v233_r0) S1x256x4096.size (k0_off167_inb v233_r0 k0_hw8 k0_h37)).WholeWords (EltTy.packing .fp8e4m3) := fun v233_r0 k0_hw8 k0_h37 => k0_hw8.1.2.2.2.2.2.2.2.1 k0_h37 (k0_off167_inb v233_r0 k0_hw8 k0_h37)
theorem k0_off170_inb : ∀ (v233_r0 : BitVec 32) (k0_hw8 : k0_chk8 v233_r0), ∀ (k0_h38 : k0_cond38 = 1#1), ∀ a, (k0_off170 v233_r0) a + S1x256x4096.size a ≤ S4x7168x4096.size a := fun v233_r0 k0_hw8 k0_h38 => k0_hw8.1.2.2.2.2.2.2.2.2.1 k0_h38
theorem k0_off170_wordsfp8e4m3 : ∀ (v233_r0 : BitVec 32) (k0_hw8 : k0_chk8 v233_r0), ∀ (k0_h38 : k0_cond38 = 1#1), (Rect.unit (s := S4x7168x4096) (k0_off170 v233_r0) S1x256x4096.size (k0_off170_inb v233_r0 k0_hw8 k0_h38)).WholeWords (EltTy.packing .fp8e4m3) := fun v233_r0 k0_hw8 k0_h38 => k0_hw8.1.2.2.2.2.2.2.2.2.2.1 k0_h38 (k0_off170_inb v233_r0 k0_hw8 k0_h38)
theorem k0_off173_inb : ∀ (v233_r0 : BitVec 32) (k0_hw8 : k0_chk8 v233_r0), ∀ (k0_h39 : k0_cond39 = 1#1), ∀ a, (k0_off173 v233_r0) a + S1x256x4096.size a ≤ S4x7168x4096.size a := fun v233_r0 k0_hw8 k0_h39 => k0_hw8.1.2.2.2.2.2.2.2.2.2.2.1 k0_h39
theorem k0_off173_wordsfp8e4m3 : ∀ (v233_r0 : BitVec 32) (k0_hw8 : k0_chk8 v233_r0), ∀ (k0_h39 : k0_cond39 = 1#1), (Rect.unit (s := S4x7168x4096) (k0_off173 v233_r0) S1x256x4096.size (k0_off173_inb v233_r0 k0_hw8 k0_h39)).WholeWords (EltTy.packing .fp8e4m3) := fun v233_r0 k0_hw8 k0_h39 => k0_hw8.1.2.2.2.2.2.2.2.2.2.2.2.1 k0_h39 (k0_off173_inb v233_r0 k0_hw8 k0_h39)
theorem k0_off176_inb : ∀ (v233_r0 : BitVec 32) (k0_hw8 : k0_chk8 v233_r0), ∀ (k0_h40 : k0_cond40 = 1#1), ∀ a, (k0_off176 v233_r0) a + S1x256x4096.size a ≤ S4x7168x4096.size a := fun v233_r0 k0_hw8 k0_h40 => k0_hw8.1.2.2.2.2.2.2.2.2.2.2.2.2.1 k0_h40
theorem k0_off176_wordsfp8e4m3 : ∀ (v233_r0 : BitVec 32) (k0_hw8 : k0_chk8 v233_r0), ∀ (k0_h40 : k0_cond40 = 1#1), (Rect.unit (s := S4x7168x4096) (k0_off176 v233_r0) S1x256x4096.size (k0_off176_inb v233_r0 k0_hw8 k0_h40)).WholeWords (EltTy.packing .fp8e4m3) := fun v233_r0 k0_hw8 k0_h40 => k0_hw8.1.2.2.2.2.2.2.2.2.2.2.2.2.2.1 k0_h40 (k0_off176_inb v233_r0 k0_hw8 k0_h40)
theorem k0_off179_inb : ∀ (v233_r0 : BitVec 32) (k0_hw8 : k0_chk8 v233_r0), ∀ (k0_h41 : k0_cond41 = 1#1), ∀ a, (k0_off179 v233_r0) a + S1x256x4096.size a ≤ S4x7168x4096.size a := fun v233_r0 k0_hw8 k0_h41 => k0_hw8.1.2.2.2.2.2.2.2.2.2.2.2.2.2.2.1 k0_h41
theorem k0_off179_wordsfp8e4m3 : ∀ (v233_r0 : BitVec 32) (k0_hw8 : k0_chk8 v233_r0), ∀ (k0_h41 : k0_cond41 = 1#1), (Rect.unit (s := S4x7168x4096) (k0_off179 v233_r0) S1x256x4096.size (k0_off179_inb v233_r0 k0_hw8 k0_h41)).WholeWords (EltTy.packing .fp8e4m3) := fun v233_r0 k0_hw8 k0_h41 => k0_hw8.1.2.2.2.2.2.2.2.2.2.2.2.2.2.2.2.1 k0_h41 (k0_off179_inb v233_r0 k0_hw8 k0_h41)
theorem k0_off182_inb : ∀ (v233_r0 : BitVec 32) (k0_hw8 : k0_chk8 v233_r0) (k0_t10 : Fin k0_t10_loop.trips), ∀ (r : Fin 4), ∀ a, (k0_off182 v233_r0 k0_t10 (BitVec.ofNat 32 r.val)) a + S1x256x4096.size a ≤ S4x7168x4096.size a := fun v233_r0 k0_hw8 k0_t10 r => k0_hw8.1.2.2.2.2.2.2.2.2.2.2.2.2.2.2.2.2.1 k0_t10 r
theorem k0_off182_wordsfp8e4m3 : ∀ (v233_r0 : BitVec 32) (k0_hw8 : k0_chk8 v233_r0) (k0_t10 : Fin k0_t10_loop.trips), ∀ (r : Fin 4), (Rect.unit (s := S4x7168x4096) (k0_off182 v233_r0 k0_t10 (BitVec.ofNat 32 r.val)) S1x256x4096.size (k0_off182_inb v233_r0 k0_hw8 k0_t10 r)).WholeWords (EltTy.packing .fp8e4m3) := fun v233_r0 k0_hw8 k0_t10 r => k0_hw8.1.2.2.2.2.2.2.2.2.2.2.2.2.2.2.2.2.2.1 k0_t10 r (k0_off182_inb v233_r0 k0_hw8 k0_t10 r)
theorem k0_off185_inb : ∀ (v233_r0 : BitVec 32) (k0_hw8 : k0_chk8 v233_r0) (k0_t10 : Fin k0_t10_loop.trips), ∀ (k0_h42 : k0_cond42 k0_t10 = 1#1), ∀ a, (k0_off185 v233_r0 k0_t10) a + S1x256x4096.size a ≤ S4x7168x4096.size a := fun v233_r0 k0_hw8 k0_t10 k0_h42 => k0_hw8.1.2.2.2.2.2.2.2.2.2.2.2.2.2.2.2.2.2.2.1 k0_t10 k0_h42
theorem k0_off185_wordsfp8e4m3 : ∀ (v233_r0 : BitVec 32) (k0_hw8 : k0_chk8 v233_r0) (k0_t10 : Fin k0_t10_loop.trips), ∀ (k0_h42 : k0_cond42 k0_t10 = 1#1), (Rect.unit (s := S4x7168x4096) (k0_off185 v233_r0 k0_t10) S1x256x4096.size (k0_off185_inb v233_r0 k0_hw8 k0_t10 k0_h42)).WholeWords (EltTy.packing .fp8e4m3) := fun v233_r0 k0_hw8 k0_t10 k0_h42 => k0_hw8.1.2.2.2.2.2.2.2.2.2.2.2.2.2.2.2.2.2.2.2.1 k0_t10 k0_h42 (k0_off185_inb v233_r0 k0_hw8 k0_t10 k0_h42)
theorem k0_off188_inb : ∀ (v233_r0 : BitVec 32) (k0_hw8 : k0_chk8 v233_r0) (k0_t10 : Fin k0_t10_loop.trips), ∀ (k0_h43 : k0_cond43 k0_t10 = 1#1), ∀ a, (k0_off188 v233_r0 k0_t10) a + S1x2048x512.size a ≤ S4x2048x7168.size a := fun v233_r0 k0_hw8 k0_t10 k0_h43 => k0_hw8.1.2.2.2.2.2.2.2.2.2.2.2.2.2.2.2.2.2.2.2.2.1 k0_t10 k0_h43
theorem k0_off188_wordsfp8e4m3 : ∀ (v233_r0 : BitVec 32) (k0_hw8 : k0_chk8 v233_r0) (k0_t10 : Fin k0_t10_loop.trips), ∀ (k0_h43 : k0_cond43 k0_t10 = 1#1), (Rect.unit (s := S4x2048x7168) (k0_off188 v233_r0 k0_t10) S1x2048x512.size (k0_off188_inb v233_r0 k0_hw8 k0_t10 k0_h43)).WholeWords (EltTy.packing .fp8e4m3) := fun v233_r0 k0_hw8 k0_t10 k0_h43 => k0_hw8.1.2.2.2.2.2.2.2.2.2.2.2.2.2.2.2.2.2.2.2.2.2.1 k0_t10 k0_h43 (k0_off188_inb v233_r0 k0_hw8 k0_t10 k0_h43)
theorem k0_off191_inb : ∀ (v233_r0 : BitVec 32) (k0_hw8 : k0_chk8 v233_r0) (k0_t10 : Fin k0_t10_loop.trips), ∀ (k0_h44 : k0_cond44 k0_t10 = 1#1), ∀ a, (k0_off191 v233_r0 k0_t10) a + S1x256x4096.size a ≤ S4x7168x4096.size a := fun v233_r0 k0_hw8 k0_t10 k0_h44 => k0_hw8.1.2.2.2.2.2.2.2.2.2.2.2.2.2.2.2.2.2.2.2.2.2.2.1 k0_t10 k0_h44
theorem k0_off191_wordsfp8e4m3 : ∀ (v233_r0 : BitVec 32) (k0_hw8 : k0_chk8 v233_r0) (k0_t10 : Fin k0_t10_loop.trips), ∀ (k0_h44 : k0_cond44 k0_t10 = 1#1), (Rect.unit (s := S4x7168x4096) (k0_off191 v233_r0 k0_t10) S1x256x4096.size (k0_off191_inb v233_r0 k0_hw8 k0_t10 k0_h44)).WholeWords (EltTy.packing .fp8e4m3) := fun v233_r0 k0_hw8 k0_t10 k0_h44 => k0_hw8.1.2.2.2.2.2.2.2.2.2.2.2.2.2.2.2.2.2.2.2.2.2.2.2.1 k0_t10 k0_h44 (k0_off191_inb v233_r0 k0_hw8 k0_t10 k0_h44)
theorem k0_off194_inb : ∀ (v233_r0 : BitVec 32) (k0_hw8 : k0_chk8 v233_r0) (k0_t10 : Fin k0_t10_loop.trips), ∀ (k0_h45 : k0_cond45 k0_t10 = 1#1), ∀ a, (k0_off194 v233_r0 k0_t10) a + S1x2048x512.size a ≤ S4x2048x7168.size a := fun v233_r0 k0_hw8 k0_t10 k0_h45 => k0_hw8.1.2.2.2.2.2.2.2.2.2.2.2.2.2.2.2.2.2.2.2.2.2.2.2.2.1 k0_t10 k0_h45
theorem k0_off194_wordsfp8e4m3 : ∀ (v233_r0 : BitVec 32) (k0_hw8 : k0_chk8 v233_r0) (k0_t10 : Fin k0_t10_loop.trips), ∀ (k0_h45 : k0_cond45 k0_t10 = 1#1), (Rect.unit (s := S4x2048x7168) (k0_off194 v233_r0 k0_t10) S1x2048x512.size (k0_off194_inb v233_r0 k0_hw8 k0_t10 k0_h45)).WholeWords (EltTy.packing .fp8e4m3) := fun v233_r0 k0_hw8 k0_t10 k0_h45 => k0_hw8.1.2.2.2.2.2.2.2.2.2.2.2.2.2.2.2.2.2.2.2.2.2.2.2.2.2.1 k0_t10 k0_h45 (k0_off194_inb v233_r0 k0_hw8 k0_t10 k0_h45)
theorem k0_off197_inb : ∀ (v233_r0 : BitVec 32) (k0_hw8 : k0_chk8 v233_r0) (k0_t10 : Fin k0_t10_loop.trips), ∀ (k0_h46 : k0_cond46 k0_t10 = 1#1), ∀ a, (k0_off197 v233_r0 k0_t10) a + S1x256x4096.size a ≤ S4x7168x4096.size a := fun v233_r0 k0_hw8 k0_t10 k0_h46 => k0_hw8.1.2.2.2.2.2.2.2.2.2.2.2.2.2.2.2.2.2.2.2.2.2.2.2.2.2.2.1 k0_t10 k0_h46
theorem k0_off197_wordsfp8e4m3 : ∀ (v233_r0 : BitVec 32) (k0_hw8 : k0_chk8 v233_r0) (k0_t10 : Fin k0_t10_loop.trips), ∀ (k0_h46 : k0_cond46 k0_t10 = 1#1), (Rect.unit (s := S4x7168x4096) (k0_off197 v233_r0 k0_t10) S1x256x4096.size (k0_off197_inb v233_r0 k0_hw8 k0_t10 k0_h46)).WholeWords (EltTy.packing .fp8e4m3) := fun v233_r0 k0_hw8 k0_t10 k0_h46 => k0_hw8.1.2.2.2.2.2.2.2.2.2.2.2.2.2.2.2.2.2.2.2.2.2.2.2.2.2.2.2.1 k0_t10 k0_h46 (k0_off197_inb v233_r0 k0_hw8 k0_t10 k0_h46)
theorem k0_off200_inb : ∀ (v233_r0 : BitVec 32) (k0_hw8 : k0_chk8 v233_r0) (k0_t10 : Fin k0_t10_loop.trips), ∀ (k0_h47 : k0_cond47 k0_t10 = 1#1), ∀ a, (k0_off200 v233_r0 k0_t10) a + S1x2048x512.size a ≤ S4x2048x7168.size a := fun v233_r0 k0_hw8 k0_t10 k0_h47 => k0_hw8.1.2.2.2.2.2.2.2.2.2.2.2.2.2.2.2.2.2.2.2.2.2.2.2.2.2.2.2.2.1 k0_t10 k0_h47
theorem k0_off200_wordsfp8e4m3 : ∀ (v233_r0 : BitVec 32) (k0_hw8 : k0_chk8 v233_r0) (k0_t10 : Fin k0_t10_loop.trips), ∀ (k0_h47 : k0_cond47 k0_t10 = 1#1), (Rect.unit (s := S4x2048x7168) (k0_off200 v233_r0 k0_t10) S1x2048x512.size (k0_off200_inb v233_r0 k0_hw8 k0_t10 k0_h47)).WholeWords (EltTy.packing .fp8e4m3) := fun v233_r0 k0_hw8 k0_t10 k0_h47 => k0_hw8.1.2.2.2.2.2.2.2.2.2.2.2.2.2.2.2.2.2.2.2.2.2.2.2.2.2.2.2.2.2.1 k0_t10 k0_h47 (k0_off200_inb v233_r0 k0_hw8 k0_t10 k0_h47)
theorem k0_off203_inb : ∀ (v233_r0 : BitVec 32) (k0_hw8 : k0_chk8 v233_r0) (k0_t10 : Fin k0_t10_loop.trips), ∀ (k0_h48 : k0_cond48 k0_t10 = 1#1), ∀ a, (k0_off203 v233_r0 k0_t10) a + S1x256x4096.size a ≤ S4x7168x4096.size a := fun v233_r0 k0_hw8 k0_t10 k0_h48 => k0_hw8.1.2.2.2.2.2.2.2.2.2.2.2.2.2.2.2.2.2.2.2.2.2.2.2.2.2.2.2.2.2.2.1 k0_t10 k0_h48
theorem k0_off203_wordsfp8e4m3 : ∀ (v233_r0 : BitVec 32) (k0_hw8 : k0_chk8 v233_r0) (k0_t10 : Fin k0_t10_loop.trips), ∀ (k0_h48 : k0_cond48 k0_t10 = 1#1), (Rect.unit (s := S4x7168x4096) (k0_off203 v233_r0 k0_t10) S1x256x4096.size (k0_off203_inb v233_r0 k0_hw8 k0_t10 k0_h48)).WholeWords (EltTy.packing .fp8e4m3) := fun v233_r0 k0_hw8 k0_t10 k0_h48 => k0_hw8.1.2.2.2.2.2.2.2.2.2.2.2.2.2.2.2.2.2.2.2.2.2.2.2.2.2.2.2.2.2.2.2 k0_t10 k0_h48 (k0_off203_inb v233_r0 k0_hw8 k0_t10 k0_h48)
theorem k0_off206_inb : ∀ (v233_r0 : BitVec 32) (k0_hw8 : k0_chk8 v233_r0) (k0_t10 : Fin k0_t10_loop.trips), ∀ (k0_h49 : k0_cond49 k0_t10 = 1#1), ∀ a, (k0_off206 v233_r0 k0_t10) a + S1x2048x512.size a ≤ S4x2048x7168.size a := fun v233_r0 k0_hw8 k0_t10 k0_h49 => k0_hw8.2.1.1 k0_t10 k0_h49
theorem k0_off206_wordsfp8e4m3 : ∀ (v233_r0 : BitVec 32) (k0_hw8 : k0_chk8 v233_r0) (k0_t10 : Fin k0_t10_loop.trips), ∀ (k0_h49 : k0_cond49 k0_t10 = 1#1), (Rect.unit (s := S4x2048x7168) (k0_off206 v233_r0 k0_t10) S1x2048x512.size (k0_off206_inb v233_r0 k0_hw8 k0_t10 k0_h49)).WholeWords (EltTy.packing .fp8e4m3) := fun v233_r0 k0_hw8 k0_t10 k0_h49 => k0_hw8.2.1.2.1 k0_t10 k0_h49 (k0_off206_inb v233_r0 k0_hw8 k0_t10 k0_h49)
theorem k0_off207_inb : ∀ (v233_r0 : BitVec 32) (k0_hw8 : k0_chk8 v233_r0) (k0_t10 : Fin k0_t10_loop.trips), ∀ a, (k0_off207 v233_r0 k0_t10) a + S1x128x512.size a ≤ S4x128x4096.size a := fun v233_r0 k0_hw8 k0_t10 => k0_hw8.2.1.2.2.1 k0_t10
theorem k0_off220_inb : ∀ (v233_r0 : BitVec 32) (k0_hw8 : k0_chk8 v233_r0) (k0_t11 : Fin k0_t11_loop.trips), ∀ (r : Fin 2), ∀ a, (k0_off220 v233_r0 k0_t11 (BitVec.ofNat 32 r.val)) a + S1x256x4096.size a ≤ S4x7168x4096.size a := fun v233_r0 k0_hw8 k0_t11 r => k0_hw8.2.1.2.2.2.1 k0_t11 r
theorem k0_off220_wordsfp8e4m3 : ∀ (v233_r0 : BitVec 32) (k0_hw8 : k0_chk8 v233_r0) (k0_t11 : Fin k0_t11_loop.trips), ∀ (r : Fin 2), (Rect.unit (s := S4x7168x4096) (k0_off220 v233_r0 k0_t11 (BitVec.ofNat 32 r.val)) S1x256x4096.size (k0_off220_inb v233_r0 k0_hw8 k0_t11 r)).WholeWords (EltTy.packing .fp8e4m3) := fun v233_r0 k0_hw8 k0_t11 r => k0_hw8.2.1.2.2.2.2.1 k0_t11 r (k0_off220_inb v233_r0 k0_hw8 k0_t11 r)
theorem k0_off223_inb : ∀ (v233_r0 : BitVec 32) (k0_hw8 : k0_chk8 v233_r0) (k0_t11 : Fin k0_t11_loop.trips), ∀ (k0_h50 : k0_cond50 k0_t11 = 1#1), ∀ a, (k0_off223 v233_r0 k0_t11) a + S1x256x4096.size a ≤ S4x7168x4096.size a := fun v233_r0 k0_hw8 k0_t11 k0_h50 => k0_hw8.2.1.2.2.2.2.2.1 k0_t11 k0_h50
theorem k0_off223_wordsfp8e4m3 : ∀ (v233_r0 : BitVec 32) (k0_hw8 : k0_chk8 v233_r0) (k0_t11 : Fin k0_t11_loop.trips), ∀ (k0_h50 : k0_cond50 k0_t11 = 1#1), (Rect.unit (s := S4x7168x4096) (k0_off223 v233_r0 k0_t11) S1x256x4096.size (k0_off223_inb v233_r0 k0_hw8 k0_t11 k0_h50)).WholeWords (EltTy.packing .fp8e4m3) := fun v233_r0 k0_hw8 k0_t11 k0_h50 => k0_hw8.2.1.2.2.2.2.2.2.1 k0_t11 k0_h50 (k0_off223_inb v233_r0 k0_hw8 k0_t11 k0_h50)
theorem k0_off226_inb : ∀ (v233_r0 : BitVec 32) (k0_hw8 : k0_chk8 v233_r0) (k0_t11 : Fin k0_t11_loop.trips), ∀ (k0_h51 : k0_cond51 k0_t11 = 1#1), ∀ a, (k0_off226 v233_r0 k0_t11) a + S1x2048x512.size a ≤ S4x2048x7168.size a := fun v233_r0 k0_hw8 k0_t11 k0_h51 => k0_hw8.2.1.2.2.2.2.2.2.2.1 k0_t11 k0_h51
theorem k0_off226_wordsfp8e4m3 : ∀ (v233_r0 : BitVec 32) (k0_hw8 : k0_chk8 v233_r0) (k0_t11 : Fin k0_t11_loop.trips), ∀ (k0_h51 : k0_cond51 k0_t11 = 1#1), (Rect.unit (s := S4x2048x7168) (k0_off226 v233_r0 k0_t11) S1x2048x512.size (k0_off226_inb v233_r0 k0_hw8 k0_t11 k0_h51)).WholeWords (EltTy.packing .fp8e4m3) := fun v233_r0 k0_hw8 k0_t11 k0_h51 => k0_hw8.2.1.2.2.2.2.2.2.2.2.1 k0_t11 k0_h51 (k0_off226_inb v233_r0 k0_hw8 k0_t11 k0_h51)
theorem k0_off229_inb : ∀ (v233_r0 : BitVec 32) (k0_hw8 : k0_chk8 v233_r0) (k0_t11 : Fin k0_t11_loop.trips), ∀ (k0_h52 : k0_cond52 k0_t11 = 1#1), ∀ a, (k0_off229 v233_r0 k0_t11) a + S1x256x4096.size a ≤ S4x7168x4096.size a := fun v233_r0 k0_hw8 k0_t11 k0_h52 => k0_hw8.2.1.2.2.2.2.2.2.2.2.2.1 k0_t11 k0_h52
theorem k0_off229_wordsfp8e4m3 : ∀ (v233_r0 : BitVec 32) (k0_hw8 : k0_chk8 v233_r0) (k0_t11 : Fin k0_t11_loop.trips), ∀ (k0_h52 : k0_cond52 k0_t11 = 1#1), (Rect.unit (s := S4x7168x4096) (k0_off229 v233_r0 k0_t11) S1x256x4096.size (k0_off229_inb v233_r0 k0_hw8 k0_t11 k0_h52)).WholeWords (EltTy.packing .fp8e4m3) := fun v233_r0 k0_hw8 k0_t11 k0_h52 => k0_hw8.2.1.2.2.2.2.2.2.2.2.2.2.1 k0_t11 k0_h52 (k0_off229_inb v233_r0 k0_hw8 k0_t11 k0_h52)
theorem k0_off232_inb : ∀ (v233_r0 : BitVec 32) (k0_hw8 : k0_chk8 v233_r0) (k0_t11 : Fin k0_t11_loop.trips), ∀ (k0_h53 : k0_cond53 k0_t11 = 1#1), ∀ a, (k0_off232 v233_r0 k0_t11) a + S1x2048x512.size a ≤ S4x2048x7168.size a := fun v233_r0 k0_hw8 k0_t11 k0_h53 => k0_hw8.2.1.2.2.2.2.2.2.2.2.2.2.2.1 k0_t11 k0_h53
theorem k0_off232_wordsfp8e4m3 : ∀ (v233_r0 : BitVec 32) (k0_hw8 : k0_chk8 v233_r0) (k0_t11 : Fin k0_t11_loop.trips), ∀ (k0_h53 : k0_cond53 k0_t11 = 1#1), (Rect.unit (s := S4x2048x7168) (k0_off232 v233_r0 k0_t11) S1x2048x512.size (k0_off232_inb v233_r0 k0_hw8 k0_t11 k0_h53)).WholeWords (EltTy.packing .fp8e4m3) := fun v233_r0 k0_hw8 k0_t11 k0_h53 => k0_hw8.2.1.2.2.2.2.2.2.2.2.2.2.2.2.1 k0_t11 k0_h53 (k0_off232_inb v233_r0 k0_hw8 k0_t11 k0_h53)
theorem k0_off233_inb : ∀ (v233_r0 : BitVec 32) (k0_hw8 : k0_chk8 v233_r0) (k0_t11 : Fin k0_t11_loop.trips), ∀ a, (k0_off233 v233_r0 k0_t11) a + S1x128x512.size a ≤ S4x128x4096.size a := fun v233_r0 k0_hw8 k0_t11 => k0_hw8.2.1.2.2.2.2.2.2.2.2.2.2.2.2.2.1 k0_t11
theorem k0_off244_inb : ∀ (v233_r0 : BitVec 32) (k0_hw8 : k0_chk8 v233_r0), ∀ a, (k0_off244 v233_r0) a + S1x512.size a ≤ S4x4096.size a := fun v233_r0 k0_hw8 => k0_hw8.2.1.2.2.2.2.2.2.2.2.2.2.2.2.2.2.1
theorem k0_off245_inb : ∀ (v233_r0 : BitVec 32) (k0_hw8 : k0_chk8 v233_r0), ∀ a, (k0_off245 v233_r0) a + S1x512.size a ≤ S4x4096.size a := fun v233_r0 k0_hw8 => k0_hw8.2.1.2.2.2.2.2.2.2.2.2.2.2.2.2.2.2.1
theorem k0_off246_inb : ∀ (v233_r0 : BitVec 32) (k0_hw8 : k0_chk8 v233_r0), ∀ a, (k0_off246 v233_r0) a + S1x512.size a ≤ S4x4096.size a := fun v233_r0 k0_hw8 => k0_hw8.2.1.2.2.2.2.2.2.2.2.2.2.2.2.2.2.2.2.1
theorem k0_off247_inb : ∀ (v233_r0 : BitVec 32) (k0_hw8 : k0_chk8 v233_r0), ∀ a, (k0_off247 v233_r0) a + S1x512.size a ≤ S4x4096.size a := fun v233_r0 k0_hw8 => k0_hw8.2.1.2.2.2.2.2.2.2.2.2.2.2.2.2.2.2.2.2.1
theorem k0_off248_inb : ∀ (v233_r0 : BitVec 32) (k0_hw8 : k0_chk8 v233_r0), ∀ a, (k0_off248 v233_r0) a + S1x512.size a ≤ S4x4096.size a := fun v233_r0 k0_hw8 => k0_hw8.2.1.2.2.2.2.2.2.2.2.2.2.2.2.2.2.2.2.2.2.1
theorem k0_off249_inb : ∀ (v233_r0 : BitVec 32) (k0_hw8 : k0_chk8 v233_r0), ∀ a, (k0_off249 v233_r0) a + S1x512.size a ≤ S4x4096.size a := fun v233_r0 k0_hw8 => k0_hw8.2.1.2.2.2.2.2.2.2.2.2.2.2.2.2.2.2.2.2.2.2.1
theorem k0_off250_inb : ∀ (v233_r0 : BitVec 32) (k0_hw8 : k0_chk8 v233_r0), ∀ a, (k0_off250 v233_r0) a + S1x512.size a ≤ S4x4096.size a := fun v233_r0 k0_hw8 => k0_hw8.2.1.2.2.2.2.2.2.2.2.2.2.2.2.2.2.2.2.2.2.2.2.1
theorem k0_off251_inb : ∀ (v233_r0 : BitVec 32) (k0_hw8 : k0_chk8 v233_r0), ∀ a, (k0_off251 v233_r0) a + S1x512.size a ≤ S4x4096.size a := fun v233_r0 k0_hw8 => k0_hw8.2.1.2.2.2.2.2.2.2.2.2.2.2.2.2.2.2.2.2.2.2.2.2.1
theorem k0_off254_inb : ∀ (v233_r0 : BitVec 32) (k0_hw8 : k0_chk8 v233_r0) (k0_t12 : Fin k0_t12_loop.trips), ∀ a, (k0_off254 v233_r0 k0_t12) a + S1x2048x512.size a ≤ S4x2048x7168.size a := fun v233_r0 k0_hw8 k0_t12 => k0_hw8.2.1.2.2.2.2.2.2.2.2.2.2.2.2.2.2.2.2.2.2.2.2.2.2.1 k0_t12
theorem k0_off254_wordsfp8e4m3 : ∀ (v233_r0 : BitVec 32) (k0_hw8 : k0_chk8 v233_r0) (k0_t12 : Fin k0_t12_loop.trips), (Rect.unit (s := S4x2048x7168) (k0_off254 v233_r0 k0_t12) S1x2048x512.size (k0_off254_inb v233_r0 k0_hw8 k0_t12)).WholeWords (EltTy.packing .fp8e4m3) := fun v233_r0 k0_hw8 k0_t12 => k0_hw8.2.1.2.2.2.2.2.2.2.2.2.2.2.2.2.2.2.2.2.2.2.2.2.2.2.1 k0_t12 (k0_off254_inb v233_r0 k0_hw8 k0_t12)
theorem k0_off262_inb : ∀ (v233_r0 : BitVec 32) (k0_hw8 : k0_chk8 v233_r0) (k0_t12 : Fin k0_t12_loop.trips), ∀ (k0_h57 : k0_cond57 k0_t12 = 1#1), ∀ a, (k0_off262 v233_r0 k0_t12) a + S1x2048x512.size a ≤ S4x2048x7168.size a := fun v233_r0 k0_hw8 k0_t12 k0_h57 => k0_hw8.2.1.2.2.2.2.2.2.2.2.2.2.2.2.2.2.2.2.2.2.2.2.2.2.2.2.1 k0_t12 k0_h57
theorem k0_off262_wordsfp8e4m3 : ∀ (v233_r0 : BitVec 32) (k0_hw8 : k0_chk8 v233_r0) (k0_t12 : Fin k0_t12_loop.trips), ∀ (k0_h57 : k0_cond57 k0_t12 = 1#1), (Rect.unit (s := S4x2048x7168) (k0_off262 v233_r0 k0_t12) S1x2048x512.size (k0_off262_inb v233_r0 k0_hw8 k0_t12 k0_h57)).WholeWords (EltTy.packing .fp8e4m3) := fun v233_r0 k0_hw8 k0_t12 k0_h57 => k0_hw8.2.1.2.2.2.2.2.2.2.2.2.2.2.2.2.2.2.2.2.2.2.2.2.2.2.2.2.1 k0_t12 k0_h57 (k0_off262_inb v233_r0 k0_hw8 k0_t12 k0_h57)
theorem k0_off265_inb : ∀ (v233_r0 : BitVec 32) (k0_hw8 : k0_chk8 v233_r0) (k0_t12 : Fin k0_t12_loop.trips), ∀ a, (k0_off265 v233_r0 k0_t12) a + S1x2048x512.size a ≤ S4x2048x7168.size a := fun v233_r0 k0_hw8 k0_t12 => k0_hw8.2.1.2.2.2.2.2.2.2.2.2.2.2.2.2.2.2.2.2.2.2.2.2.2.2.2.2.2.1 k0_t12
theorem k0_off265_wordsfp8e4m3 : ∀ (v233_r0 : BitVec 32) (k0_hw8 : k0_chk8 v233_r0) (k0_t12 : Fin k0_t12_loop.trips), (Rect.unit (s := S4x2048x7168) (k0_off265 v233_r0 k0_t12) S1x2048x512.size (k0_off265_inb v233_r0 k0_hw8 k0_t12)).WholeWords (EltTy.packing .fp8e4m3) := fun v233_r0 k0_hw8 k0_t12 => k0_hw8.2.1.2.2.2.2.2.2.2.2.2.2.2.2.2.2.2.2.2.2.2.2.2.2.2.2.2.2.2.1 k0_t12 (k0_off265_inb v233_r0 k0_hw8 k0_t12)
theorem k0_off273_inb : ∀ (v233_r0 : BitVec 32) (k0_hw8 : k0_chk8 v233_r0) (k0_t12 : Fin k0_t12_loop.trips), ∀ (k0_h61 : k0_cond61 k0_t12 = 1#1), ∀ a, (k0_off273 v233_r0 k0_t12) a + S1x2048x512.size a ≤ S4x2048x7168.size a := fun v233_r0 k0_hw8 k0_t12 k0_h61 => k0_hw8.2.1.2.2.2.2.2.2.2.2.2.2.2.2.2.2.2.2.2.2.2.2.2.2.2.2.2.2.2.2.1 k0_t12 k0_h61
theorem k0_off273_wordsfp8e4m3 : ∀ (v233_r0 : BitVec 32) (k0_hw8 : k0_chk8 v233_r0) (k0_t12 : Fin k0_t12_loop.trips), ∀ (k0_h61 : k0_cond61 k0_t12 = 1#1), (Rect.unit (s := S4x2048x7168) (k0_off273 v233_r0 k0_t12) S1x2048x512.size (k0_off273_inb v233_r0 k0_hw8 k0_t12 k0_h61)).WholeWords (EltTy.packing .fp8e4m3) := fun v233_r0 k0_hw8 k0_t12 k0_h61 => k0_hw8.2.1.2.2.2.2.2.2.2.2.2.2.2.2.2.2.2.2.2.2.2.2.2.2.2.2.2.2.2.2.2.1 k0_t12 k0_h61 (k0_off273_inb v233_r0 k0_hw8 k0_t12 k0_h61)
theorem k0_off275_inb : ∀ (v233_r0 : BitVec 32) (k0_hw8 : k0_chk8 v233_r0) (k0_t12 : Fin k0_t12_loop.trips), ∀ (r : Fin 2), ∀ a, (k0_off275 v233_r0 k0_t12 (BitVec.ofNat 32 r.val)) a + S1x512.size a ≤ S4x7168.size a := fun v233_r0 k0_hw8 k0_t12 r => k0_hw8.2.1.2.2.2.2.2.2.2.2.2.2.2.2.2.2.2.2.2.2.2.2.2.2.2.2.2.2.2.2.2.2.1 k0_t12 r
theorem k0_off279_inb : ∀ (v233_r0 : BitVec 32) (k0_hw8 : k0_chk8 v233_r0) (k0_t13 : Fin k0_t13_loop.trips), ∀ a, (k0_off279 v233_r0 k0_t13) a + S1x2048x512.size a ≤ S4x2048x7168.size a := fun v233_r0 k0_hw8 k0_t13 => k0_hw8.2.1.2.2.2.2.2.2.2.2.2.2.2.2.2.2.2.2.2.2.2.2.2.2.2.2.2.2.2.2.2.2.2 k0_t13
theorem k0_off279_wordsfp8e4m3 : ∀ (v233_r0 : BitVec 32) (k0_hw8 : k0_chk8 v233_r0) (k0_t13 : Fin k0_t13_loop.trips), (Rect.unit (s := S4x2048x7168) (k0_off279 v233_r0 k0_t13) S1x2048x512.size (k0_off279_inb v233_r0 k0_hw8 k0_t13)).WholeWords (EltTy.packing .fp8e4m3) := fun v233_r0 k0_hw8 k0_t13 => k0_hw8.2.2.1 k0_t13 (k0_off279_inb v233_r0 k0_hw8 k0_t13)
theorem k0_off287_inb : ∀ (v233_r0 : BitVec 32) (k0_hw8 : k0_chk8 v233_r0) (k0_t13 : Fin k0_t13_loop.trips), ∀ (k0_h65 : k0_cond65 k0_t13 = 1#1), ∀ a, (k0_off287 v233_r0 k0_t13) a + S1x2048x512.size a ≤ S4x2048x7168.size a := fun v233_r0 k0_hw8 k0_t13 k0_h65 => k0_hw8.2.2.2.1 k0_t13 k0_h65
theorem k0_off287_wordsfp8e4m3 : ∀ (v233_r0 : BitVec 32) (k0_hw8 : k0_chk8 v233_r0) (k0_t13 : Fin k0_t13_loop.trips), ∀ (k0_h65 : k0_cond65 k0_t13 = 1#1), (Rect.unit (s := S4x2048x7168) (k0_off287 v233_r0 k0_t13) S1x2048x512.size (k0_off287_inb v233_r0 k0_hw8 k0_t13 k0_h65)).WholeWords (EltTy.packing .fp8e4m3) := fun v233_r0 k0_hw8 k0_t13 k0_h65 => k0_hw8.2.2.2.2.1 k0_t13 k0_h65 (k0_off287_inb v233_r0 k0_hw8 k0_t13 k0_h65)
theorem k0_off289_inb : ∀ (v233_r0 : BitVec 32) (k0_hw8 : k0_chk8 v233_r0) (k0_t13 : Fin k0_t13_loop.trips), ∀ a, (k0_off289 v233_r0 k0_t13) a + S1x512.size a ≤ S4x7168.size a := fun v233_r0 k0_hw8 k0_t13 => k0_hw8.2.2.2.2.2.1 k0_t13
theorem k0_off293_inb : ∀ (v233_r0 : BitVec 32) (k0_hw8 : k0_chk8 v233_r0), ∀ a, (k0_off293 v233_r0) a + S1x2048x512.size a ≤ S4x2048x7168.size a := fun v233_r0 k0_hw8 => k0_hw8.2.2.2.2.2.2.1
theorem k0_off293_wordsfp8e4m3 : ∀ (v233_r0 : BitVec 32) (k0_hw8 : k0_chk8 v233_r0), (Rect.unit (s := S4x2048x7168) (k0_off293 v233_r0) S1x2048x512.size (k0_off293_inb v233_r0 k0_hw8)).WholeWords (EltTy.packing .fp8e4m3) := fun v233_r0 k0_hw8 => k0_hw8.2.2.2.2.2.2.2.1 (k0_off293_inb v233_r0 k0_hw8)
theorem k0_off301_inb : ∀ (v233_r0 : BitVec 32) (k0_hw8 : k0_chk8 v233_r0), ∀ (k0_h69 : k0_cond69 = 1#1), ∀ a, (k0_off301 v233_r0) a + S1x2048x512.size a ≤ S4x2048x7168.size a := fun v233_r0 k0_hw8 k0_h69 => k0_hw8.2.2.2.2.2.2.2.2.1 k0_h69
theorem k0_off301_wordsfp8e4m3 : ∀ (v233_r0 : BitVec 32) (k0_hw8 : k0_chk8 v233_r0), ∀ (k0_h69 : k0_cond69 = 1#1), (Rect.unit (s := S4x2048x7168) (k0_off301 v233_r0) S1x2048x512.size (k0_off301_inb v233_r0 k0_hw8 k0_h69)).WholeWords (EltTy.packing .fp8e4m3) := fun v233_r0 k0_hw8 k0_h69 => k0_hw8.2.2.2.2.2.2.2.2.2.1 k0_h69 (k0_off301_inb v233_r0 k0_hw8 k0_h69)
theorem k0_off303_inb : ∀ (v233_r0 : BitVec 32) (k0_hw8 : k0_chk8 v233_r0), ∀ a, (k0_off303 v233_r0) a + S1x512.size a ≤ S4x7168.size a := fun v233_r0 k0_hw8 => k0_hw8.2.2.2.2.2.2.2.2.2.2

def k0_off304 : Fin 2 → Nat :=
  let c0_352_r0 : Index := 0#32
  let c13_i32_342_r0 : BitVec 32 := 13#32
  let c0_i32_343_r0 : BitVec 32 := 0#32
  let v556_r0 : BitVec 32 := Scalar.addi c13_i32_342_r0 c0_i32_343_r0
  let c512_i32_344_r0 : BitVec 32 := 512#32
  let v557_r0 : BitVec 32 := Scalar.muli v556_r0 c512_i32_344_r0
  let v558_r0 : BitVec 32 := v557_r0
  let v571_r0 : Index := Scalar.indexCast v558_r0
  ![0, v571_r0.toNat]
-- ==== ReferenceIdeal.lean ====
abbrev S32x1x7168 : Shape := ⟨3, ![32, 1, 7168]⟩
abbrev S32x1x2 : Shape := ⟨3, ![32, 1, 2]⟩
abbrev S32 : Shape := ⟨1, ![32]⟩
abbrev S4x7168x4096 : Shape := ⟨3, ![4, 7168, 4096]⟩
abbrev S4x4096 : Shape := ⟨2, ![4, 4096]⟩
abbrev S4x2048x7168 : Shape := ⟨3, ![4, 2048, 7168]⟩
abbrev S4x7168 : Shape := ⟨2, ![4, 7168]⟩
abbrev S4x8x7168x16 : Shape := ⟨4, ![4, 8, 7168, 16]⟩
abbrev S4x8x16x4096 : Shape := ⟨4, ![4, 8, 16, 4096]⟩
abbrev S32x2 : Shape := ⟨2, ![32, 2]⟩
abbrev S32x1 : Shape := ⟨2, ![32, 1]⟩
abbrev S32x7168 : Shape := ⟨2, ![32, 7168]⟩
abbrev S1x7168x4096 : Shape := ⟨3, ![1, 7168, 4096]⟩
abbrev S7168x4096 : Shape := ⟨2, ![7168, 4096]⟩
abbrev S32x4096 : Shape := ⟨2, ![32, 4096]⟩
abbrev S1x4096 : Shape := ⟨2, ![1, 4096]⟩
abbrev S1x1x7168x16 : Shape := ⟨4, ![1, 1, 7168, 16]⟩
abbrev S7168x16 : Shape := ⟨2, ![7168, 16]⟩
abbrev S32x16 : Shape := ⟨2, ![32, 16]⟩
abbrev S1x1x16x4096 : Shape := ⟨4, ![1, 1, 16, 4096]⟩
abbrev S16x4096 : Shape := ⟨2, ![16, 4096]⟩
abbrev S32x2048 : Shape := ⟨2, ![32, 2048]⟩
abbrev S1x2048x7168 : Shape := ⟨3, ![1, 2048, 7168]⟩
abbrev S2048x7168 : Shape := ⟨2, ![2048, 7168]⟩
abbrev S1x7168 : Shape := ⟨2, ![1, 7168]⟩
abbrev S32x1x1 : Shape := ⟨3, ![32, 1, 1]⟩

abbrev nBuf : Space → Nat
  | .hbm => 20
  | .vmem => 13
  | .smem => 0
  | _ => 0

abbrev bufTy : (tb : Table) → Fin (tcTables nBuf tb) → BufTy
  | .hbm, ⟨0, _⟩ => ⟨S32x1x7168, .bf16⟩
  | .hbm, ⟨1, _⟩ => ⟨S32x1x2, .i32⟩
  | .hbm, ⟨2, _⟩ => ⟨S32x1x2, .f32⟩
  | .hbm, ⟨3, _⟩ => ⟨S32, .i32⟩
  | .hbm, ⟨4, _⟩ => ⟨S4x7168x4096, .fp8e4m3⟩
  | .hbm, ⟨5, _⟩ => ⟨S4x4096, .f32⟩
  | .hbm, ⟨6, _⟩ => ⟨S4x2048x7168, .fp8e4m3⟩
  | .hbm, ⟨7, _⟩ => ⟨S4x7168, .f32⟩
  | .hbm, ⟨8, _⟩ => ⟨S4x8x7168x16, .bf16⟩
  | .hbm, ⟨9, _⟩ => ⟨S4x8x16x4096, .bf16⟩
  | .hbm, ⟨10, _⟩ => ⟨S32x2, .i32⟩
  | .hbm, ⟨11, _⟩ => ⟨S32x2, .f32⟩
  | .hbm, ⟨12, _⟩ => ⟨S32x1, .i32⟩
  | .hbm, ⟨13, _⟩ => ⟨S32x7168, .bf16⟩
  | .hbm, ⟨14, _⟩ => ⟨S32x7168, .bf16⟩
  | .hbm, ⟨15, _⟩ => ⟨S32x7168, .fp8e4m3⟩
  | .hbm, ⟨16, _⟩ => ⟨S32x1, .f32⟩
  | .hbm, ⟨17, _⟩ => ⟨S32x1x7168, .bf16⟩
  | .hbm, ⟨18, _⟩ => ⟨S32x1x7168, .fp8e4m3⟩
  | .hbm, ⟨19, _⟩ => ⟨S32x1x1, .f32⟩
  | .local _ .vmem, ⟨0, _⟩ => ⟨S32x2, .i32⟩
  | .local _ .vmem, ⟨1, _⟩ => ⟨S32x2, .f32⟩
  | .local _ .vmem, ⟨2, _⟩ => ⟨S32x1, .i32⟩
  | .local _ .vmem, ⟨3, _⟩ => ⟨S32x7168, .bf16⟩
  | .local _ .vmem, ⟨4, _⟩ => ⟨S4x7168x4096, .fp8e4m3⟩
  | .local _ .vmem, ⟨5, _⟩ => ⟨S4x4096, .f32⟩
  | .local _ .vmem, ⟨6, _⟩ => ⟨S4x2048x7168, .fp8e4m3⟩
  | .local _ .vmem, ⟨7, _⟩ => ⟨S4x7168, .f32⟩
  | .local _ .vmem, ⟨8, _⟩ => ⟨S4x8x7168x16, .bf16⟩
  | .local _ .vmem, ⟨9, _⟩ => ⟨S4x8x16x4096, .bf16⟩
  | .local _ .vmem, ⟨10, _⟩ => ⟨S32x7168, .bf16⟩
  | .local _ .vmem, ⟨11, _⟩ => ⟨S32x7168, .fp8e4m3⟩
  | .local _ .vmem, ⟨12, _⟩ => ⟨S32x1, .f32⟩
  | _, _ => ⟨S32x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S32x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x7168x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2048x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x8x7168x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x8x16x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x7168 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x7168 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Slots.lean ====
/-
  Hand-written, untrusted. The four streams of copies the kernel keeps in flight while it computes — the rows of the up
  projection, the columns of the down projection and the two LoRA factors of one expert — as SLOTS: a slot is a piece of a
  scratch buffer, the semaphore cell its copies complete on and a read share of the array they read. A slot is idle, in
  flight for an expert, or landed with that expert's values; starting a copy and waiting for one move it on.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.ValueIdxCore
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-- The counters every transfer's protocol uses. -/
abbrev EC : UEmb Counters 𝕄 := countersEmb (U := Pipeline.UD sig nD τ)

/-- The weakest precondition of a program on device `c`, under the kernel's definitions. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- What the core has waited for so far; nothing is owed. -/
def Ow (c : Dev nD) : sProp 𝕄 := iprop(∃ W, owes (c : Thread nD τ) 0 W)

/-! ## A slot -/

/-- What a slot is doing. -/
inductive Ph where
  | idle
  | fly (e : Fin 4)
  | landed (e : Fin 4)

/-- A slot: the elements `Sd` of the buffer `ℓd`, a share `q` of the array `ℓs` with contents `fs`, and the cell `sm`;
    landed for `e`, the buffer's contents satisfy `P e`. -/
def slotAt (c : Dev nD) (ℓd ℓs : Loc nD τ sig) (Sd : Finset (Idx ℓd)) (q : PosShare TreeShare) (fs : Buf (Elt F) ℓs)
    (sm : SemLoc sig) (N : ℕ) (P : Fin 4 → Buf (Elt F) ℓd → Prop) : Ph → sProp 𝕄
  | .idle => iprop(∃ f, (ℓd ↦[Sd]{fullShare} f) ∗ (ℓs ↦{q} fs) ∗ semVal ((c : Thread nD τ), sm) 0)
  | .landed e => iprop(∃ f, ⌜P e f⌝ ∗ (ℓd ↦[Sd]{fullShare} f) ∗ (ℓs ↦{q} fs) ∗ semVal ((c : Thread nD τ), sm) 0)
  | .fly e => iprop(∃ f X, ⌜P e f⌝ ∗ Flight EC (c : Thread nD τ) sm () N iprop((ℓd ↦[Sd]{fullShare} f) ∗ (ℓs ↦[X]{q} fs))
      ∗ (ℓs ↦[Finset.univ \ X]{q} fs))

theorem slotAt_landed_idle (c : Dev nD) (ℓd ℓs : Loc nD τ sig) (Sd : Finset (Idx ℓd)) (q : PosShare TreeShare) (fs : Buf (Elt F) ℓs)
    (sm : SemLoc sig) (N : ℕ) (P : Fin 4 → Buf (Elt F) ℓd → Prop) (e : Fin 4) :
    slotAt c ℓd ℓs Sd q fs sm N P (.landed e) ⊢ slotAt c ℓd ℓs Sd q fs sm N P .idle := by
  unfold slotAt
  iintro ⟨%f, -, Hd, Hs, Hv⟩
  iexists f
  isplitl [Hd]; · iexact Hd
  isplitl [Hs]; · iexact Hs
  iexact Hv

/-- Starting a copy into an idle slot. -/
theorem slotAt_start (c : Dev nD) {sp sp' : Space} {s₀ s : Shape} {e₀ e' : EltTy} {α : Type}
    {src : Memref sig .tc sp s₀ e₀} {via : ReadAs (Elt F) s₀ e₀ s e'} {dst : Memref sig .tc sp' s e'} {sm : SemLoc sig}
    {hsrc : src.view.WordExact} {hdst : dst.view.WordExact} {hsem : DmaTarget.Typed (nD := nD) sp sm (.here (p := (Proc.tc : Proc τ)) dst)}
    {k : PUnit → Prog (TpuEff nD τ sig (Elt F) Λ₀ .tc) α} {Q : α → sProp 𝕄}
    (Sd : Finset (Idx (dst.view.loc (c : Thread nD τ)))) (q : PosShare TreeShare) (fs : Buf (Elt F) (src.view.loc (c : Thread nD τ)))
    (N : ℕ) (P : Fin 4 → Buf (Elt F) (dst.view.loc (c : Thread nD τ)) → Prop) (e : Fin 4)
    (hN : dst.view.amount sm = N) (hN0 : 0 < N) (hSd : dst.view.set ⊆ Sd)
    (hP : ∀ fd, P e (dst.view.write (Elt F) fd (via.apply (src.view.read (Elt F) fs)) Finset.univ)) :
    slotAt c (dst.view.loc (c : Thread nD τ)) (src.view.loc (c : Thread nD τ)) Sd q fs sm N P .idle
      ⊢ iprop((slotAt c (dst.view.loc (c : Thread nD τ)) (src.view.loc (c : Thread nD τ)) Sd q fs sm N P (.fly e) -∗ WP c (k ⟨⟩) Q)
        -∗ WP c (.op (.enqueueDmaAs src (.here dst) via sm hsrc hdst hsem) k) Q) := by
  unfold slotAt
  iintro ⟨%fd, Hd, Hs, Hv⟩ Hk
  ihave Hs' := (pointsTo_split_subset (Finset.subset_univ src.view.set)).1 $$ Hs
  icases Hs' with ⟨Hs1, Hs2⟩
  iapply (wp_dmaLocal EC Variants.none (c : Thread nD τ) none () N hN hN0 hSd) $$ [Hs1 Hd Hv]
  · isplitl [Hs1]; · iexact Hs1
    isplitl [Hd]; · iexact Hd
    iexact Hv
  iintro HF
  iapply Hk
  iexists _, _
  isplitr; · ipureintro; exact hP fd
  isplitl [HF]; · iexact HF
  iexact Hs2

/-- Waiting for the copy a slot has in flight. -/
theorem slotAt_wait (c : Dev nD) {sp sp' : Space} {s s' : Shape} {e₀ e' : EltTy} {α : Type} {sem : DmaSem sig}
    {srcw : Memref sig .tc sp' s' e₀} {dstw : Memref sig .tc sp s e'} {hsrc : srcw.view.WordExact} {hdst : dstw.view.WordExact}
    {k : PUnit → Prog (TpuEff nD τ sig (Elt F) Λ₀ .tc) α} {Q : α → sProp 𝕄}
    (ℓd ℓs : Loc nD τ sig) (Sd : Finset (Idx ℓd)) (q : PosShare TreeShare) (fs : Buf (Elt F) ℓs)
    (N : ℕ) (P : Fin 4 → Buf (Elt F) ℓd → Prop) (e : Fin 4) (hN : dstw.view.dmaCredit = N) :
    iprop(slotAt c ℓd ℓs Sd q fs (.dma sem) N P (.fly e) ∗ Ow c)
      ⊢ iprop((iprop(slotAt c ℓd ℓs Sd q fs (.dma sem) N P (.landed e) ∗ Ow c) -∗ WP c (k ⟨⟩) Q)
        -∗ WP c (.op (.waitDma2 sem srcw dstw hsrc hdst) k) Q) := by
  unfold slotAt Ow
  iintro ⟨⟨%f, %X, %hf, HF, Hs2⟩, %W, HW⟩ Hk
  iapply (wp_waitLocal EC Variants.none (c : Thread nD τ) none () hN) $$ [HF HW]
  · isplitl [HF]; · iexact HF
    iexact HW
  iintro ⟨⟨Hd, Hs1⟩, Hv, HW⟩
  iapply Hk
  isplitr [HW]
  · iexists f
    isplitr; · ipureintro; exact hf
    isplitl [Hd]; · iexact Hd
    isplitl [Hs1 Hs2]
    · iapply (pointsTo_split_subset (Finset.subset_univ X)).2
      isplitl [Hs1]; · iexact Hs1
      iexact Hs2
    iexact Hv
  · iexists _; iexact HW

/-! ## The program's buffers and cells -/

abbrev A0 : Memref sig .tc .hbm S2x32 .i32 := Memref.whole main_v1
abbrev A1 : Memref sig .tc .hbm S2x32 .f32 := Memref.whole main_v3
abbrev A2 : Memref sig .tc .hbm S1x32 .i32 := Memref.whole main_v5
abbrev A3 : Memref sig .tc .hbm S4x4096 .f32 := Memref.whole main_arg5
abbrev A4 : Memref sig .tc .hbm S4x7168 .f32 := Memref.whole main_arg7
abbrev A5 : Memref sig .tc .hbm S32x7168 .bf16 := Memref.whole main_v6
abbrev A6 : Memref sig .tc .hbm S4x7168x4096 .fp8e4m3 := Memref.whole main_arg4
abbrev A7 : Memref sig .tc .hbm S4x2048x7168 .fp8e4m3 := Memref.whole main_arg6
abbrev A8 : Memref sig .tc .hbm S4x128x7168 .bf16 := Memref.whole main_v8
abbrev A9 : Memref sig .tc .hbm S4x128x4096 .bf16 := Memref.whole main_v9
abbrev A10 : Memref sig .tc .hbm S32x7168 .bf16 := Memref.whole main_v10_0
abbrev A11 : Memref sig .tc .hbm S32x7168 .fp8e4m3 := Memref.whole main_v10_1
abbrev A12 : Memref sig .tc .hbm S1x32 .f32 := Memref.whole main_v10_2
abbrev A13 : Memref sig .tc .vmem S7168x4096 .fp8e4m3 := Memref.whole cc0_scratch0
abbrev A14 : Memref sig .tc .vmem S14x2048x512 .fp8e4m3 := Memref.whole cc0_scratch1
abbrev A15 : Memref sig .tc .vmem S128x7168 .bf16 := Memref.whole cc0_scratch2
abbrev A16 : Memref sig .tc .vmem S4x128x4096 .bf16 := Memref.whole cc0_scratch3
abbrev A17 : Memref sig .tc .vmem S2x32 .i32 := Memref.whole cc0_scratch4
abbrev A18 : Memref sig .tc .vmem S2x32 .f32 := Memref.whole cc0_scratch5
abbrev A19 : Memref sig .tc .vmem S1x32 .i32 := Memref.whole cc0_scratch6
abbrev A20 : Memref sig .tc .vmem S4x4096 .f32 := Memref.whole cc0_scratch7
abbrev A21 : Memref sig .tc .vmem S4x7168 .f32 := Memref.whole cc0_scratch8
abbrev A22 : Memref sig .tc .vmem S32x7168 .bf16 := Memref.whole cc0_scratch9
abbrev A23 : Memref sig .tc .vmem S32x7168 .fp8e4m3 := Memref.whole cc0_scratch10
abbrev A24 : Memref sig .tc .vmem S5x32x128 .f32 := Memref.whole cc0_scratch11
abbrev A25 : Memref sig .tc .vmem S32x128 .f32 := Memref.whole cc0_scratch12
abbrev A26 : Memref sig .tc .vmem S1x32 .f32 := Memref.whole cc0_scratch13
abbrev A27 : Memref sig .tc .vmem S32x4096 .f32 := Memref.whole cc0_scratch14
abbrev A28 : Memref sig .tc .vmem S32x4096 .f32 := Memref.whole cc0_scratch15
abbrev A29 : Memref sig .tc .vmem S32x2048 .f32 := Memref.whole cc0_scratch16
abbrev A30 : Memref sig .tc .vmem S32x2048 .fp8e4m3 := Memref.whole cc0_scratch17
abbrev A31 : Memref sig .tc .vmem S32x128 .f32 := Memref.whole cc0_scratch18
abbrev A32 : Memref sig .tc .vmem S32x7168 .f32 := Memref.whole cc0_scratch19
abbrev A33 : Memref sig .tc .vmem S32x7168 .bf16 := Memref.whole cc0_scratch20
abbrev A34 : Memref sig .tc .smem S5 .i32 := Memref.whole cc0_scratch21

/-- The buffer or array a reference names, on device `c`. -/
abbrev L (c : Dev nD) (b : Ref sig .tc) : Loc nD τ sig := (c : Thread nD τ).loc b

/-! ## The up projection's slots: 28 of them, 256 rows each -/

/-- The rows a copy of the up projection fills. -/
def upRows (k : ℕ) : Finset S7168x4096.Idx := Finset.univ.filter fun i => (i 0).val / 256 = k

/-- The up projection of expert `e`, as the scratch buffer holds it. -/
def upVal (wu : FVec F S4x7168x4096 .fp8e4m3) (e : Fin 4) : FVec F S7168x4096 .fp8e4m3 := fun i => wu (ix3 e (i 0) (i 1))

/-- Slot `k`'s cell. -/
def upSem (k : Fin 28) : DmaSem sig := cc0_scoped0.ix (ix1 k)

def upLand (wu : FVec F S4x7168x4096 .fp8e4m3) (k : ℕ) (e : Fin 4) (f : FVec F S7168x4096 .fp8e4m3) : Prop :=
  ∀ i ∈ upRows k, f i = upVal wu e i

theorem up_set {off : Fin 2 → ℕ} {h : ∀ a, off a + S256x4096.size a ≤ S7168x4096.size a} {hs} (k : ℕ) (hk : off = ![256 * k, 0]) :
    (A13.slice (Rect.unit (s := S7168x4096) off S256x4096.size h) hs).view.set = upRows k := by
  subst hk
  refine (View.set_slice_whole _ _).trans ?_
  ext i
  rw [Rect.mem_set_unit]
  simp only [upRows, Finset.mem_filter, Finset.mem_univ, true_and]
  refine Fin.forall_fin_two.trans ?_
  have h0 : (i 0).val < 7168 := (i 0).isLt
  have h1 : (i 1).val < 4096 := (i 1).isLt
  show (256 * k ≤ (i 0).val ∧ (i 0).val < 256 * k + 256) ∧ (0 ≤ (i 1).val ∧ (i 1).val < 0 + 4096) ↔ _
  omega

theorem up_land (wu : FVec F S4x7168x4096 .fp8e4m3) {off : Fin 2 → ℕ} {h : ∀ a, off a + S256x4096.size a ≤ S7168x4096.size a} {hs}
    {off' : Fin 3 → ℕ} {h' : ∀ a, off' a + S1x256x4096.size a ≤ S4x7168x4096.size a} {hs'} (k : ℕ) (e : Fin 4) (hk : off = ![256 * k, 0])
    (hk' : off' = ![e.val, 256 * k, 0]) (fd : FVec F S7168x4096 .fp8e4m3) :
    upLand wu k e ((A13.slice (Rect.unit (s := S7168x4096) off S256x4096.size h) hs).view.write (Elt F) fd
      (ReadAs.same.apply (((A6.slice (Rect.unit (s := S4x7168x4096) off' S1x256x4096.size h') hs').squeeze S256x4096
        squeezes_S1x256x4096_S256x4096).view.read (Elt F) wu)) Finset.univ) := by
  intro i hi
  rw [← up_set (h := h) (hs := hs) k hk] at hi
  obtain ⟨x, -, rfl⟩ := Finset.mem_map.mp hi
  rw [View.write_emb_of_mem _ _ (Finset.mem_univ x)]
  subst hk hk'
  refine congrArg wu (a₁ := (Rect.unit (s := S4x7168x4096) _ S1x256x4096.size h').emb (Shape.reshapeEquiv _ x)) ?_
  obtain ⟨x0, x1, rfl⟩ : ∃ (x0 : Fin 256) (x1 : Fin 4096), x = ix2 x0 x1 := ⟨x 0, x 1, eq_ix2 x⟩
  rw [reshapeEquiv_ix2_1ab]
  funext a
  match a with
  | ⟨0, _⟩ => exact Fin.ext (by rw [Rect.emb_apply]; simp [ix3])
  | ⟨1, _⟩ => exact Fin.ext (by rw [Rect.emb_apply]; rfl)
  | ⟨2, _⟩ => exact Fin.ext (by rw [Rect.emb_apply]; rfl)

theorem up_sem {off : Fin 1 → ℕ} {h : ∀ a, off a + S1.size a ≤ S28.size a} (k : Fin 28) (hk : off = ![k.val]) :
    ((cc0_scoped0.slice (Rect.unit (s := S28) off S1.size h)).squeeze S_ squeezes_S1_S_).sem = upSem k := by
  subst hk
  refine congrArg cc0_scoped0.ix ?_
  funext a
  match a with
  | ⟨0, _⟩ => exact Fin.ext (by rw [Rect.emb_apply]; simp [ix1]; exact Nat.lt_one_iff.mp (Fin.isLt _))

/-! ## The down projection's slots: 14 of them, 512 columns each -/

/-- The block a copy of the down projection fills. -/
def dnRows (k : ℕ) : Finset S14x2048x512.Idx := Finset.univ.filter fun i => (i 0).val = k

/-- The down projection of expert `e`, cut into blocks of 512 columns, as the scratch buffer holds it. -/
def dnVal (wd : FVec F S4x2048x7168 .fp8e4m3) (e : Fin 4) : FVec F S14x2048x512 .fp8e4m3 :=
  fun i => wd (ix3 e (i 1) ⟨512 * (i 0).val + (i 2).val, by
    have h0 : (i 0).val < 14 := (i 0).isLt
    have h2 : (i 2).val < 512 := (i 2).isLt
    show _ < 7168
    omega⟩)

def dnSem (k : Fin 14) : DmaSem sig := cc0_scoped1.ix (ix1 k)

def dnLand (wd : FVec F S4x2048x7168 .fp8e4m3) (k : ℕ) (e : Fin 4) (f : FVec F S14x2048x512 .fp8e4m3) : Prop :=
  ∀ i ∈ dnRows k, f i = dnVal wd e i

theorem dn_set {off : Fin 3 → ℕ} {h : ∀ a, off a + S1x2048x512.size a ≤ S14x2048x512.size a} {hs} (k : ℕ) (hk : off = ![k, 0, 0]) :
    ((A14.slice (Rect.unit (s := S14x2048x512) off S1x2048x512.size h) hs).squeeze S2048x512 squeezes_S1x2048x512_S2048x512).view.set
      = dnRows k := by
  subst hk
  refine (View.set_reshape _ _).trans ((View.set_slice_whole _ _).trans ?_)
  ext i
  rw [Rect.mem_set_unit]
  simp only [dnRows, Finset.mem_filter, Finset.mem_univ, true_and]
  have h1 : (i 1).val < 2048 := (i 1).isLt
  have h2 : (i 2).val < 512 := (i 2).isLt
  constructor
  · intro hh
    have := hh 0
    change k ≤ (i 0).val ∧ (i 0).val < k + 1 at this
    omega
  · intro hk a
    match a with
    | ⟨0, _⟩ => show k ≤ (i 0).val ∧ (i 0).val < k + 1; omega
    | ⟨1, _⟩ => show 0 ≤ (i 1).val ∧ (i 1).val < 0 + 2048; omega
    | ⟨2, _⟩ => show 0 ≤ (i 2).val ∧ (i 2).val < 0 + 512; omega

theorem dn_land (wd : FVec F S4x2048x7168 .fp8e4m3) {off : Fin 3 → ℕ} {h : ∀ a, off a + S1x2048x512.size a ≤ S14x2048x512.size a} {hs}
    {off' : Fin 3 → ℕ} {h' : ∀ a, off' a + S1x2048x512.size a ≤ S4x2048x7168.size a} {hs'} (k : ℕ) (e : Fin 4) (hk : off = ![k, 0, 0])
    (hk' : off' = ![e.val, 0, 512 * k]) (fd : FVec F S14x2048x512 .fp8e4m3) :
    dnLand wd k e (((A14.slice (Rect.unit (s := S14x2048x512) off S1x2048x512.size h) hs).squeeze S2048x512
        squeezes_S1x2048x512_S2048x512).view.write (Elt F) fd
      (ReadAs.same.apply (((A7.slice (Rect.unit (s := S4x2048x7168) off' S1x2048x512.size h') hs').squeeze S2048x512
        squeezes_S1x2048x512_S2048x512).view.read (Elt F) wd)) Finset.univ) := by
  intro i hi
  rw [← dn_set (h := h) (hs := hs) k hk] at hi
  obtain ⟨x, -, rfl⟩ := Finset.mem_map.mp hi
  rw [View.write_emb_of_mem _ _ (Finset.mem_univ x)]
  subst hk hk'
  refine congrArg wd (a₁ := (Rect.unit (s := S4x2048x7168) _ S1x2048x512.size h').emb (Shape.reshapeEquiv _ x)) ?_
  obtain ⟨x0, x1, rfl⟩ : ∃ (x0 : Fin 2048) (x1 : Fin 512), x = ix2 x0 x1 := ⟨x 0, x 1, eq_ix2 x⟩
  have key : ((A14.slice (Rect.unit (s := S14x2048x512) ![k, 0, 0] S1x2048x512.size h) hs).squeeze S2048x512
      squeezes_S1x2048x512_S2048x512).view.emb (ix2 x0 x1)
      = (Rect.unit (s := S14x2048x512) ![k, 0, 0] S1x2048x512.size h).emb (ix3 (⟨0, Nat.one_pos⟩ : Fin 1) x0 x1) :=
    congrArg (Rect.unit (s := S14x2048x512) ![k, 0, 0] S1x2048x512.size h).emb (reshapeEquiv_ix2_1ab _ x0 x1)
  rw [key, reshapeEquiv_ix2_1ab]
  funext a
  match a with
  | ⟨0, _⟩ => exact Fin.ext (by rw [Rect.emb_apply]; simp [ix3])
  | ⟨1, _⟩ => exact Fin.ext (by rw [Rect.emb_apply]; simp [ix3])
  | ⟨2, _⟩ => exact Fin.ext (by rw [Rect.emb_apply]; simp [ix3])

theorem dn_sem {off : Fin 1 → ℕ} {h : ∀ a, off a + S1.size a ≤ S14.size a} (k : Fin 14) (hk : off = ![k.val]) :
    ((cc0_scoped1.slice (Rect.unit (s := S14) off S1.size h)).squeeze S_ squeezes_S1_S_).sem = dnSem k := by
  subst hk
  refine congrArg cc0_scoped1.ix ?_
  funext a
  match a with
  | ⟨0, _⟩ => exact Fin.ext (by rw [Rect.emb_apply]; simp [ix1]; exact Nat.lt_one_iff.mp (Fin.isLt _))

/-! ## The first LoRA factor's slot: one, the whole buffer -/

def laVal (la : FVec F S4x128x7168 .bf16) (e : Fin 4) : FVec F S128x7168 .bf16 := fun i => la (ix3 e (i 0) (i 1))

def laLand (la : FVec F S4x128x7168 .bf16) (e : Fin 4) (f : FVec F S128x7168 .bf16) : Prop := f = laVal la e

theorem la_land (la : FVec F S4x128x7168 .bf16) {off' : Fin 3 → ℕ} {h' : ∀ a, off' a + S1x128x7168.size a ≤ S4x128x7168.size a} {hs'}
    (e : Fin 4) (hk' : off' = ![e.val, 0, 0]) (fd : FVec F S128x7168 .bf16) :
    laLand la e (A15.view.write (Elt F) fd
      (ReadAs.same.apply (((A8.slice (Rect.unit (s := S4x128x7168) off' S1x128x7168.size h') hs').squeeze S128x7168
        squeezes_S1x128x7168_S128x7168).view.read (Elt F) la)) Finset.univ) := by
  funext x
  subst hk'
  refine (View.write_emb_of_mem (v := A15.view) (Val := Elt F) fd _ (Finset.mem_univ x)).trans ?_
  refine congrArg la (a₁ := (Rect.unit (s := S4x128x7168) _ S1x128x7168.size h').emb (Shape.reshapeEquiv _ x)) ?_
  obtain ⟨x0, x1, rfl⟩ : ∃ (x0 : Fin 128) (x1 : Fin 7168), x = ix2 x0 x1 := ⟨x 0, x 1, eq_ix2 x⟩
  rw [reshapeEquiv_ix2_1ab]
  funext a
  match a with
  | ⟨0, _⟩ => exact Fin.ext (by rw [Rect.emb_apply]; simp [ix3])
  | ⟨1, _⟩ => exact Fin.ext (by rw [Rect.emb_apply]; simp [ix3])
  | ⟨2, _⟩ => exact Fin.ext (by rw [Rect.emb_apply]; simp [ix3])

/-! ## The second LoRA factor's slot: the last 64 rows of every expert -/

/-- The last 64 rows of every expert; the others are copied once, before the experts. -/
def lbLate : Finset S4x128x4096.Idx := Finset.univ.filter fun i => 64 ≤ (i 1).val

def lbLand (lb : FVec F S4x128x4096 .bf16) (e : Fin 4) (f : FVec F S4x128x4096 .bf16) : Prop :=
  ∀ i ∈ lbLate, (i 0).val = e.val → f i = lb i

theorem lb_set_mem {off : Fin 3 → ℕ} {h : ∀ a, off a + S1x64x4096.size a ≤ S4x128x4096.size a} {hs} (e : Fin 4) (r : ℕ) (hk : off = ![e.val, r, 0])
    (i : S4x128x4096.Idx) :
    i ∈ ((A16.slice (Rect.unit (s := S4x128x4096) off S1x64x4096.size h) hs).squeeze S64x4096 squeezes_S1x64x4096_S64x4096).view.set
      ↔ (i 0).val = e.val ∧ r ≤ (i 1).val ∧ (i 1).val < r + 64 := by
  subst hk
  rw [show ((A16.slice (Rect.unit (s := S4x128x4096) ![e.val, r, 0] S1x64x4096.size h) hs).squeeze S64x4096 squeezes_S1x64x4096_S64x4096).view.set
    = (Rect.unit (s := S4x128x4096) ![e.val, r, 0] S1x64x4096.size h).set from (View.set_reshape _ _).trans (View.set_slice_whole _ _),
    Rect.mem_set_unit]
  have h1 : (i 2).val < 4096 := (i 2).isLt
  constructor
  · intro hh
    have h0 := hh 0
    have h1 := hh 1
    change e.val ≤ (i 0).val ∧ (i 0).val < e.val + 1 at h0
    change r ≤ (i 1).val ∧ (i 1).val < r + 64 at h1
    omega
  · intro hk a
    match a with
    | ⟨0, _⟩ => show e.val ≤ (i 0).val ∧ (i 0).val < e.val + 1; omega
    | ⟨1, _⟩ => show r ≤ (i 1).val ∧ (i 1).val < r + 64; omega
    | ⟨2, _⟩ => show 0 ≤ (i 2).val ∧ (i 2).val < 0 + 4096; omega

/-- Copying a rectangle of the second factor to the same rectangle of its buffer puts the factor's values there. -/
theorem lb_copy (lb : FVec F S4x128x4096 .bf16) {off : Fin 3 → ℕ} {h : ∀ a, off a + S1x64x4096.size a ≤ S4x128x4096.size a} {hs}
    {h' : ∀ a, off a + S1x64x4096.size a ≤ S4x128x4096.size a} {hs'} (fd : FVec F S4x128x4096 .bf16) (i : S4x128x4096.Idx)
    (hi : i ∈ ((A16.slice (Rect.unit (s := S4x128x4096) off S1x64x4096.size h) hs).squeeze S64x4096 squeezes_S1x64x4096_S64x4096).view.set) :
    ((A16.slice (Rect.unit (s := S4x128x4096) off S1x64x4096.size h) hs).squeeze S64x4096
        squeezes_S1x64x4096_S64x4096).view.write (Elt F) fd
      (ReadAs.same.apply (((A9.slice (Rect.unit (s := S4x128x4096) off S1x64x4096.size h') hs').squeeze S64x4096
        squeezes_S1x64x4096_S64x4096).view.read (Elt F) lb)) Finset.univ i = lb i := by
  obtain ⟨x, -, rfl⟩ := Finset.mem_map.mp hi
  exact View.write_emb_of_mem _ _ (Finset.mem_univ x)

theorem lb_land (lb : FVec F S4x128x4096 .bf16) {off : Fin 3 → ℕ} {h : ∀ a, off a + S1x64x4096.size a ≤ S4x128x4096.size a} {hs}
    {h' : ∀ a, off a + S1x64x4096.size a ≤ S4x128x4096.size a} {hs'} (e : Fin 4) (hk : off = ![e.val, 64, 0]) (fd : FVec F S4x128x4096 .bf16) :
    lbLand lb e (((A16.slice (Rect.unit (s := S4x128x4096) off S1x64x4096.size h) hs).squeeze S64x4096
        squeezes_S1x64x4096_S64x4096).view.write (Elt F) fd
      (ReadAs.same.apply (((A9.slice (Rect.unit (s := S4x128x4096) off S1x64x4096.size h') hs').squeeze S64x4096
        squeezes_S1x64x4096_S64x4096).view.read (Elt F) lb)) Finset.univ) := by
  intro i hi he
  refine lb_copy lb fd i ((lb_set_mem e 64 hk i).2 ⟨he, ?_⟩)
  have h1 : (i 1).val < 128 := (i 1).isLt
  have h2 := (Finset.mem_filter.mp hi).2
  omega

end Cert.KernelIdeal.Hand
end
-- ==== Proof.Streams.lean ====
/-
  Hand-written, untrusted. The 44 slots of one expert as one family, in the order in which the kernel starts and waits for
  them: the first LoRA factor, the second, the 28 blocks of the up projection, the 14 blocks of the down projection. Two
  counters say where the stream stands: `a` copies started, `w` waited for; from 44 on the copies are those of the next expert.
-/
module

public import proofs.«01_k».proof.Proof.Slots

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-- The arrays the kernel reads. -/
structure Arr (F : FTy → Type) where
  ids : IVec S2x32 32
  gates : FVec F S2x32 .f32
  adapters : IVec S1x32 32
  us : FVec F S4x4096 .f32
  ds : FVec F S4x7168 .f32
  x : FVec F S32x7168 .bf16
  wu : FVec F S4x7168x4096 .fp8e4m3
  wd : FVec F S4x2048x7168 .fp8e4m3
  la : FVec F S4x128x7168 .bf16
  lb : FVec F S4x128x4096 .bf16

/-- What makes a slot: destination, source, the elements filled, the share read, the array's contents, the cell, the units
    a copy credits and what the destination holds once landed. -/
structure SlotD (F : FTy → Type) (c : Dev nD) where
  ℓd : Loc nD τ sig
  ℓs : Loc nD τ sig
  Sd : Finset (Idx ℓd)
  q : PosShare TreeShare
  fs : Buf (Elt F) ℓs
  sem : DmaSem sig
  N : ℕ
  P : Fin 4 → Buf (Elt F) ℓd → Prop

abbrev SlotD.at {c : Dev nD} (d : SlotD F c) : Ph → sProp 𝕄 := slotAt c d.ℓd d.ℓs d.Sd d.q d.fs (.dma d.sem) d.N d.P

/-- The units a copy of each kind credits. -/
def upN : ℕ := (A13.slice (Rect.unit (s := S7168x4096) ![0, 0] S256x4096.size (by decide)) (fun _ => rfl)).view.dmaCredit
def dnN : ℕ := ((A14.slice (Rect.unit (s := S14x2048x512) ![0, 0, 0] S1x2048x512.size (by decide)) (fun _ => rfl)).squeeze S2048x512
  squeezes_S1x2048x512_S2048x512).view.dmaCredit
def laN : ℕ := A15.view.dmaCredit
def lbN : ℕ := ((A16.slice (Rect.unit (s := S4x128x4096) ![0, 0, 0] S1x64x4096.size (by decide)) (fun _ => rfl)).squeeze S64x4096
  squeezes_S1x64x4096_S64x4096).view.dmaCredit

def laD (c : Dev nD) (I : Arr F) : SlotD F c := ⟨L c cc0_scratch2, L c main_v8, Finset.univ, fullShare, I.la, cc0_scoped2.sem, laN, laLand I.la⟩
def lbD (c : Dev nD) (I : Arr F) : SlotD F c := ⟨L c cc0_scratch3, L c main_v9, lbLate, shareTokN fullShare 0, I.lb, cc0_scoped3.sem, lbN, lbLand I.lb⟩
def upD (c : Dev nD) (I : Arr F) (k : Fin 28) : SlotD F c :=
  ⟨L c cc0_scratch0, L c main_arg4, upRows k.val, shareTokN fullShare k.val, I.wu, upSem k, upN, upLand I.wu k.val⟩
def dnD (c : Dev nD) (I : Arr F) (k : Fin 14) : SlotD F c :=
  ⟨L c cc0_scratch1, L c main_arg6, dnRows k.val, shareTokN fullShare k.val, I.wd, dnSem k, dnN, dnLand I.wd k.val⟩

/-- The slot at position `q` of the stream. -/
def slotD (c : Dev nD) (I : Arr F) (q : ℕ) : SlotD F c :=
  if q = 0 then laD c I else if q = 1 then lbD c I else if q < 30 then upD c I (Fin.ofNat 28 (q - 2)) else dnD c I (Fin.ofNat 14 (q - 30))

theorem slotD_up (c : Dev nD) (I : Arr F) (k : Fin 28) : slotD c I (k.val + 2) = upD c I k := by
  have h := k.isLt
  unfold slotD
  rw [if_neg (by omega), if_neg (by omega), if_pos (by omega)]
  congr 1
  exact Fin.ext (Nat.mod_eq_of_lt (by omega))

theorem slotD_dn (c : Dev nD) (I : Arr F) (k : Fin 14) : slotD c I (k.val + 30) = dnD c I k := by
  have h := k.isLt
  unfold slotD
  rw [if_neg (by omega), if_neg (by omega), if_neg (by omega)]
  congr 1
  exact Fin.ext (Nat.mod_eq_of_lt (by omega))

/-- The 44 slots, each in its phase. -/
def Fam (c : Dev nD) (I : Arr F) (ph : ℕ → Ph) : sProp 𝕄 := bigSep (Finset.range 44) fun q => (slotD c I q).at (ph q)

theorem Fam_congr (c : Dev nD) (I : Arr F) {ph ph' : ℕ → Ph} (h : ∀ q < 44, ph q = ph' q) : Fam c I ph = Fam c I ph' :=
  bigSep_congr fun q hq => by rw [h q (Finset.mem_range.mp hq)]

theorem bigSep_out {A : Type} [DecidableEq A] {s : Finset A} {a : A} (h : a ∈ s) (Φ : A → sProp 𝕄) :
    bigSep s Φ = iprop(Φ a ∗ bigSep (s.erase a) Φ) := by
  rw [bigSep_erase h]; rfl

/-- One slot out of the family, to be put back in another phase. -/
theorem Fam_upd (c : Dev nD) (I : Arr F) {ph ph' : ℕ → Ph} (q : ℕ) (hq : q < 44) (h : ∀ q' < 44, q' ≠ q → ph' q' = ph q') :
    Fam c I ph ⊢ iprop((slotD c I q).at (ph q) ∗ ((slotD c I q).at (ph' q) -∗ Fam c I ph')) := by
  unfold Fam
  rw [bigSep_out (Finset.mem_range.mpr hq), bigSep_out (Finset.mem_range.mpr hq) (fun q => (slotD c I q).at (ph' q)),
    bigSep_congr (s := (Finset.range 44).erase q) (Φ := fun q => (slotD c I q).at (ph' q)) (Ψ := fun q => (slotD c I q).at (ph q))
      fun q' hq' => by rw [h q' (Finset.mem_range.mp (Finset.mem_of_mem_erase hq')) (Finset.ne_of_mem_erase hq')]]
  iintro ⟨H1, H2⟩
  isplitl [H1]; · iexact H1
  iintro H
  isplitl [H]; · iexact H
  iexact H2

/-- A phase in which a slot may be filled again. -/
def Ph.free : Ph → Prop
  | .idle => True
  | .landed _ => True
  | .fly _ => False

theorem SlotD.free_idle {c : Dev nD} (d : SlotD F c) {p : Ph} (h : p.free) : (d.at p : sProp 𝕄) ⊢ d.at .idle := by
  cases p with
  | idle => exact (.rfl : (d.at .idle : sProp 𝕄) ⊢ d.at .idle)
  | landed e => exact slotAt_landed_idle c d.ℓd d.ℓs d.Sd d.q d.fs (.dma d.sem) d.N d.P e
  | fly e => exact h.elim

/-- Waiting for the copy at position `q`. -/
theorem Fam_wait (c : Dev nD) (I : Arr F) {ph ph' : ℕ → Ph} (q : ℕ) (hq : q < 44) (e : Fin 4) (h : ∀ q' < 44, q' ≠ q → ph' q' = ph q')
    (h1 : ph q = .fly e) (h2 : ph' q = .landed e)
    {sp sp' : Space} {s s' : Shape} {e₀ e' : EltTy} {α : Type} {sem : DmaSem sig}
    {srcw : Memref sig .tc sp' s' e₀} {dstw : Memref sig .tc sp s e'} {hsrc : srcw.view.WordExact} {hdst : dstw.view.WordExact}
    {k : PUnit → Prog (TpuEff nD τ sig (Elt F) Λ₀ .tc) α} {Q : α → sProp 𝕄}
    (hs : sem = (slotD c I q).sem) (hN : dstw.view.dmaCredit = (slotD c I q).N) :
    iprop(Fam c I ph ∗ Ow c) ⊢ iprop((iprop(Fam c I ph' ∗ Ow c) -∗ WP c (k ⟨⟩) Q)
        -∗ WP c (Prog.lift (.waitDma2 sem srcw dstw hsrc hdst) >>= k) Q) := by
  subst hs
  rw [Prog.bind_lift]
  iintro ⟨HF, HW⟩ Hk
  ihave HF := (Fam_upd c I q hq h) $$ HF
  icases HF with ⟨H1, H2⟩
  rw [h1]
  iapply (slotAt_wait c (slotD c I q).ℓd (slotD c I q).ℓs (slotD c I q).Sd (slotD c I q).q (slotD c I q).fs (slotD c I q).N (slotD c I q).P e hN) $$ [H1 HW]
  · isplitl [H1]; · iexact H1
    iexact HW
  iintro ⟨H1, HW⟩
  iapply Hk
  isplitr [HW]
  · iapply H2
    rw [h2]
    iexact H1
  · iexact HW

/-- Starting the copy of one block of the up projection. -/
theorem Fam_up (c : Dev nD) (I : Arr F) {ph ph' : ℕ → Ph} (k : Fin 28) (e : Fin 4) (h : ∀ q' < 44, q' ≠ k.val + 2 → ph' q' = ph q')
    (h1 : (ph (k.val + 2)).free) (h2 : ph' (k.val + 2) = .fly e) {off : Fin 2 → ℕ} {h : ∀ a, off a + S256x4096.size a ≤ S7168x4096.size a} {hs}
    {off' : Fin 3 → ℕ} {h' : ∀ a, off' a + S1x256x4096.size a ≤ S4x7168x4096.size a} {hs'} {offs : Fin 1 → ℕ}
    {hh : ∀ a, offs a + S1.size a ≤ S28.size a} (ho : off = ![256 * k.val, 0]) (ho' : off' = ![e.val, 256 * k.val, 0]) (hos : offs = ![k.val])
    {α : Type} {kk : PUnit → Prog (TpuEff nD τ sig (Elt F) Λ₀ .tc) α} {Q : α → sProp 𝕄} {p1 p2 p3} :
    Fam c I ph ⊢ iprop((Fam c I ph' -∗ WP c (kk ⟨⟩) Q) -∗ WP c (Prog.lift (.enqueueDma
      ((A6.slice (Rect.unit (s := S4x7168x4096) off' S1x256x4096.size h') hs').squeeze S256x4096 squeezes_S1x256x4096_S256x4096)
      (.here (A13.slice (Rect.unit (s := S7168x4096) off S256x4096.size h) hs))
      (.dma ((cc0_scoped0.slice (Rect.unit (s := S28) offs S1.size hh)).squeeze S_ squeezes_S1_S_).sem) p1 p2 p3) >>= kk) Q) := by
  rw [Prog.bind_lift]
  iintro HF Hk
  ihave HF := (Fam_upd c I (k.val + 2) (by omega) ‹_›) $$ HF
  icases HF with ⟨H1, H2⟩
  ihave H1 := (SlotD.free_idle _ h1) $$ H1
  rw [slotD_up]
  iapply (slotAt_start c (dst := A13.slice (Rect.unit (s := S7168x4096) off S256x4096.size h) hs)
    (src := (A6.slice (Rect.unit (s := S4x7168x4096) off' S1x256x4096.size h') hs').squeeze S256x4096 squeezes_S1x256x4096_S256x4096) (via := ReadAs.same)
    (upRows k.val) (shareTokN fullShare k.val) I.wu upN (upLand I.wu k.val) e (hP := up_land I.wu k.val e ho ho')
    (hN := rfl) (hN0 := by decide) (hSd := (up_set k.val ho).subset)) $$ [H1]
  · rw [up_sem k hos]; iexact H1
  iintro H1
  iapply Hk
  iapply H2
  rw [h2, up_sem k hos]
  iexact H1

/-- Starting the copy of one block of the down projection. -/
theorem Fam_dn (c : Dev nD) (I : Arr F) {ph ph' : ℕ → Ph} (k : Fin 14) (e : Fin 4) (hph : ∀ q' < 44, q' ≠ k.val + 30 → ph' q' = ph q')
    (h1 : (ph (k.val + 30)).free) (h2 : ph' (k.val + 30) = .fly e)
    {off : Fin 3 → ℕ} {h : ∀ a, off a + S1x2048x512.size a ≤ S14x2048x512.size a} {hs}
    {off' : Fin 3 → ℕ} {h' : ∀ a, off' a + S1x2048x512.size a ≤ S4x2048x7168.size a} {hs'} {offs : Fin 1 → ℕ}
    {hh : ∀ a, offs a + S1.size a ≤ S14.size a} (ho : off = ![k.val, 0, 0]) (ho' : off' = ![e.val, 0, 512 * k.val]) (hos : offs = ![k.val])
    {α : Type} {kk : PUnit → Prog (TpuEff nD τ sig (Elt F) Λ₀ .tc) α} {Q : α → sProp 𝕄} {p1 p2 p3} :
    Fam c I ph ⊢ iprop((Fam c I ph' -∗ WP c (kk ⟨⟩) Q) -∗ WP c (Prog.lift (.enqueueDma
      ((A7.slice (Rect.unit (s := S4x2048x7168) off' S1x2048x512.size h') hs').squeeze S2048x512 squeezes_S1x2048x512_S2048x512)
      (.here ((A14.slice (Rect.unit (s := S14x2048x512) off S1x2048x512.size h) hs).squeeze S2048x512 squeezes_S1x2048x512_S2048x512))
      (.dma ((cc0_scoped1.slice (Rect.unit (s := S14) offs S1.size hh)).squeeze S_ squeezes_S1_S_).sem) p1 p2 p3) >>= kk) Q) := by
  rw [Prog.bind_lift]
  iintro HF Hk
  ihave HF := (Fam_upd c I (k.val + 30) (by omega) hph) $$ HF
  icases HF with ⟨H1, H2⟩
  ihave H1 := (SlotD.free_idle _ h1) $$ H1
  rw [slotD_dn]
  iapply (slotAt_start c (dst := (A14.slice (Rect.unit (s := S14x2048x512) off S1x2048x512.size h) hs).squeeze S2048x512 squeezes_S1x2048x512_S2048x512)
    (src := (A7.slice (Rect.unit (s := S4x2048x7168) off' S1x2048x512.size h') hs').squeeze S2048x512 squeezes_S1x2048x512_S2048x512)
    (via := ReadAs.same)
    (dnRows k.val) (shareTokN fullShare k.val) I.wd dnN (dnLand I.wd k.val) e (hP := dn_land I.wd k.val e ho ho')
    (hN := rfl) (hN0 := by decide) (hSd := (dn_set k.val ho).subset)) $$ [H1]
  · rw [dn_sem k hos]; iexact H1
  iintro H1
  iapply Hk
  iapply H2
  rw [h2, dn_sem k hos]
  iexact H1

/-- Starting the copy of the first LoRA factor. -/
theorem Fam_la (c : Dev nD) (I : Arr F) {ph ph' : ℕ → Ph} (e : Fin 4) (hph : ∀ q' < 44, q' ≠ 0 → ph' q' = ph q')
    (h1 : (ph 0).free) (h2 : ph' 0 = .fly e)
    {off' : Fin 3 → ℕ} {h' : ∀ a, off' a + S1x128x7168.size a ≤ S4x128x7168.size a} {hs'} (ho' : off' = ![e.val, 0, 0])
    {α : Type} {kk : PUnit → Prog (TpuEff nD τ sig (Elt F) Λ₀ .tc) α} {Q : α → sProp 𝕄} {p1 p2 p3} :
    Fam c I ph ⊢ iprop((Fam c I ph' -∗ WP c (kk ⟨⟩) Q) -∗ WP c (Prog.lift (.enqueueDma
      ((A8.slice (Rect.unit (s := S4x128x7168) off' S1x128x7168.size h') hs').squeeze S128x7168 squeezes_S1x128x7168_S128x7168)
      (.here A15) (.dma cc0_scoped2.sem) p1 p2 p3) >>= kk) Q) := by
  rw [Prog.bind_lift]
  iintro HF Hk
  ihave HF := (Fam_upd c I 0 (by omega) hph) $$ HF
  icases HF with ⟨H1, H2⟩
  ihave H1 := (SlotD.free_idle _ h1) $$ H1
  rw [show slotD c I 0 = laD c I from rfl]
  iapply (slotAt_start c (dst := A15)
    (src := (A8.slice (Rect.unit (s := S4x128x7168) off' S1x128x7168.size h') hs').squeeze S128x7168 squeezes_S1x128x7168_S128x7168)
    (via := ReadAs.same)
    Finset.univ fullShare I.la laN (laLand I.la) e (hP := la_land I.la e ho')
    (hN := rfl) (hN0 := by decide) (hSd := Finset.subset_univ _)) $$ [H1]
  · iexact H1
  iintro H1
  iapply Hk
  iapply H2
  rw [h2]
  iexact H1

/-- Starting the copy of the second LoRA factor's last rows. -/
theorem Fam_lb (c : Dev nD) (I : Arr F) {ph ph' : ℕ → Ph} (e : Fin 4) (hph : ∀ q' < 44, q' ≠ 1 → ph' q' = ph q')
    (h1 : (ph 1).free) (h2 : ph' 1 = .fly e)
    {off : Fin 3 → ℕ} {h : ∀ a, off a + S1x64x4096.size a ≤ S4x128x4096.size a} {hs}
    {h' : ∀ a, off a + S1x64x4096.size a ≤ S4x128x4096.size a} {hs'} (ho : off = ![e.val, 64, 0])
    {α : Type} {kk : PUnit → Prog (TpuEff nD τ sig (Elt F) Λ₀ .tc) α} {Q : α → sProp 𝕄} {p1 p2 p3} :
    Fam c I ph ⊢ iprop((Fam c I ph' -∗ WP c (kk ⟨⟩) Q) -∗ WP c (Prog.lift (.enqueueDma
      ((A9.slice (Rect.unit (s := S4x128x4096) off S1x64x4096.size h') hs').squeeze S64x4096 squeezes_S1x64x4096_S64x4096)
      (.here ((A16.slice (Rect.unit (s := S4x128x4096) off S1x64x4096.size h) hs).squeeze S64x4096 squeezes_S1x64x4096_S64x4096))
      (.dma cc0_scoped3.sem) p1 p2 p3) >>= kk) Q) := by
  rw [Prog.bind_lift]
  iintro HF Hk
  ihave HF := (Fam_upd c I 1 (by omega) hph) $$ HF
  icases HF with ⟨H1, H2⟩
  ihave H1 := (SlotD.free_idle _ h1) $$ H1
  rw [show slotD c I 1 = lbD c I from rfl]
  iapply (slotAt_start c (dst := (A16.slice (Rect.unit (s := S4x128x4096) off S1x64x4096.size h) hs).squeeze S64x4096 squeezes_S1x64x4096_S64x4096)
    (src := (A9.slice (Rect.unit (s := S4x128x4096) off S1x64x4096.size h') hs').squeeze S64x4096 squeezes_S1x64x4096_S64x4096)
    (via := ReadAs.same)
    lbLate (shareTokN fullShare 0) I.lb lbN (lbLand I.lb) e (hP := lb_land I.lb e ho)
    (hN := rfl) (hN0 := by decide) (hSd := fun i hi => Finset.mem_filter.mpr ⟨Finset.mem_univ _, ((lb_set_mem e 64 ho i).1 hi).2.1⟩)) $$ [H1]
  · iexact H1
  iintro H1
  iapply Hk
  iapply H2
  rw [h2]
  iexact H1

/-! ## Where the stream stands -/

/-- The phase of the slot at `q`: `a` copies started and `w` waited for, those from 44 on for the next expert `en`. -/
def stat (e en : Fin 4) (w a : ℕ) (q : ℕ) : Ph :=
  if q + 44 < a then .fly en else if q < w then .landed e else if q < a then .fly e else .idle

theorem stat_start_other (e en : Fin 4) (w a q' q : ℕ) (hq' : q' < 44) (hne : q' ≠ q) (hq : a = q ∨ a = q + 44) (hq4 : q < 44) :
    stat e en w (a + 1) q' = stat e en w a q' := by
  unfold stat
  simp only [show (q' + 44 < a + 1) ↔ (q' + 44 < a) by omega, show (q' < a + 1) ↔ (q' < a) by omega]

theorem stat_free (e en : Fin 4) (w a q : ℕ) (hq : a = q ∧ w ≤ a ∨ a = q + 44 ∧ q < w) : (stat e en w a q).free := by
  unfold stat
  rcases hq with ⟨rfl, h⟩ | ⟨rfl, h⟩
  · rw [if_neg (by omega), if_neg (by omega), if_neg (by omega)]; trivial
  · rw [if_neg (by omega), if_pos h]; trivial

theorem stat_fly (e en : Fin 4) (w a q : ℕ) (hw : w ≤ a) (hq : a = q) : stat e en w (a + 1) q = .fly e := by
  unfold stat
  rw [if_neg (by omega), if_neg (by omega), if_pos (by omega)]

theorem stat_fly_next (e en : Fin 4) (w a q : ℕ) (hq : a = q + 44) : stat e en w (a + 1) q = .fly en := by
  unfold stat
  rw [if_pos (by omega)]

theorem stat_wait_other (e en : Fin 4) (w a q' : ℕ) (hne : q' ≠ w) : stat e en (w + 1) a q' = stat e en w a q' := by
  unfold stat
  simp only [show (q' < w + 1) ↔ (q' < w) by omega]

theorem stat_wait_at (e en : Fin 4) (w a : ℕ) (ha : a ≤ w + 44) : stat e en (w + 1) a w = .landed e := by
  unfold stat
  rw [if_neg (by omega), if_pos (by omega)]

theorem stat_wait_fly (e en : Fin 4) (w a : ℕ) (ha : a ≤ w + 44) (hw : w < a) : stat e en w a w = .fly e := by
  unfold stat
  rw [if_neg (by omega), if_neg (by omega), if_pos (by omega)]

theorem stat_landed (e en : Fin 4) (w a q : ℕ) (ha : a ≤ q + 44) (hw : q < w) : stat e en w a q = .landed e := by
  unfold stat
  rw [if_neg (by omega), if_pos (by omega)]

end Cert.KernelIdeal.Hand
end
-- ==== Proof.State.lean ====
/-
  Hand-written, untrusted. What the core holds between two steps of the expert loop — the stream of copies and every
  scratch buffer with its contents — as ONE assertion over a record of contents, and the steps of a program as rules
  about it: a load reads the record, a store changes one field of it.
-/
module

public import proofs.«01_k».proof.Proof.Streams

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-- What the kernel computes once, before the experts: the tokens' codes and scales, the columns of expert ids, gates and
    adapters, and the list of experts to visit. -/
structure Once (F : FTy → Type) where
  codes : FVec F S32x7168 .fp8e4m3
  cols : FVec F S5x32x128 .f32
  xs : FVec F S32x128 .f32
  live : IVec S5 32

/-- What changes while the experts are visited. -/
structure State (F : FTy → Type) where
  delta : FVec F S32x4096 .f32
  h : FVec F S32x4096 .f32
  act : FVec F S32x2048 .f32
  acodes : FVec F S32x2048 .fp8e4m3
  coef : FVec F S32x128 .f32
  yacc : FVec F S32x7168 .f32
  yout : FVec F S32x7168 .bf16
  /-- the expert at work, and the next one -/
  e : Fin 4
  en : Fin 4

/-- The first 13 column blocks of the result, and the last one. -/
def yLo : Finset S32x7168.Idx := Finset.univ.filter fun i => (i 1).val < 6656
def yHi : Finset S32x7168.Idx := Finset.univ.filter fun i => 6656 ≤ (i 1).val

/-- The first 64 rows of the second LoRA factor, which are copied once. -/
def lbEarly : Finset S4x128x4096.Idx := Finset.univ.filter fun i => (i 1).val < 64

/-- Everything the core holds while it visits the experts; `o` says whether the copies out have begun, `R` is what is held
    besides, `w` copies of the stream have been waited for and `a` started. -/
def St (c : Dev nD) (I : Arr F) (K : Once F) (o : Bool) (R : sProp 𝕄) (σ : State F) (w a : ℕ) : sProp 𝕄 :=
  iprop(Fam c I (stat σ.e σ.en w a) ∗ Ow c
    ∗ (L c cc0_scratch7 ↦[Finset.univ]{fullShare} I.us) ∗ (L c cc0_scratch8 ↦[Finset.univ]{fullShare} I.ds)
    ∗ (L c cc0_scratch9 ↦[Finset.univ]{fullShare} I.x) ∗ (L c cc0_scratch11 ↦[Finset.univ]{fullShare} K.cols)
    ∗ (L c cc0_scratch12 ↦[Finset.univ]{fullShare} K.xs) ∗ (L c cc0_scratch21 ↦[Finset.univ]{fullShare} K.live)
    ∗ (L c cc0_scratch14 ↦[Finset.univ]{fullShare} σ.delta) ∗ (L c cc0_scratch15 ↦[Finset.univ]{fullShare} σ.h)
    ∗ (L c cc0_scratch16 ↦[Finset.univ]{fullShare} σ.act) ∗ (L c cc0_scratch17 ↦[Finset.univ]{fullShare} σ.acodes)
    ∗ (L c cc0_scratch18 ↦[Finset.univ]{fullShare} σ.coef) ∗ (L c cc0_scratch19 ↦[Finset.univ]{fullShare} σ.yacc)
    ∗ (L c cc0_scratch20 ↦[if o then yHi else Finset.univ]{fullShare} σ.yout)
    ∗ (L c cc0_scratch10 ↦[if o then ∅ else Finset.univ]{fullShare} K.codes)
    ∗ (L c cc0_scratch3 ↦[lbEarly]{fullShare} I.lb) ∗ R)

/-! ## Reaching one buffer -/

/-- `P` holds the elements `S` of the buffer `ℓ` with contents `f`; with other contents `v` put back it is `P' v`. -/
def Lens (P : sProp 𝕄) (ℓ : Loc nD τ sig) (S : Finset (Idx ℓ)) (f : Buf (Elt F) ℓ) (P' : Buf (Elt F) ℓ → sProp 𝕄) : Prop :=
  P ⊢ iprop((ℓ ↦[S]{fullShare} f) ∗ ∀ v, (ℓ ↦[S]{fullShare} v) -∗ P' v)

theorem Lens.here {ℓ : Loc nD τ sig} {S : Finset (Idx ℓ)} {f : Buf (Elt F) ℓ} {R : sProp 𝕄} :
    Lens iprop((ℓ ↦[S]{fullShare} f) ∗ R) ℓ S f (fun v => iprop((ℓ ↦[S]{fullShare} v) ∗ R)) := by
  unfold Lens
  iintro ⟨H1, H2⟩
  isplitl [H1]; · iexact H1
  iintro %v H
  isplitl [H]; · iexact H
  iexact H2

theorem Lens.next {ℓ : Loc nD τ sig} {S : Finset (Idx ℓ)} {f : Buf (Elt F) ℓ} {X R : sProp 𝕄} {R' : Buf (Elt F) ℓ → sProp 𝕄}
    (h : Lens R ℓ S f R') : Lens iprop(X ∗ R) ℓ S f (fun v => iprop(X ∗ R' v)) := by
  unfold Lens at h ⊢
  iintro ⟨H1, H2⟩
  ihave H2 := h $$ H2
  icases H2 with ⟨H2, H3⟩
  isplitl [H2]; · iexact H2
  iintro %v H
  isplitl [H1]; · iexact H1
  iapply H3
  iexact H

/-- `P` holds a share of the elements `S` of the buffer `ℓ` with contents `f`. -/
def Look (P : sProp 𝕄) (ℓ : Loc nD τ sig) (S : Finset (Idx ℓ)) (q : PosShare TreeShare) (f : Buf (Elt F) ℓ) : Prop :=
  P ⊢ iprop((ℓ ↦[S]{q} f) ∗ ((ℓ ↦[S]{q} f) -∗ P))

theorem Look.here {ℓ : Loc nD τ sig} {S : Finset (Idx ℓ)} {q : PosShare TreeShare} {f : Buf (Elt F) ℓ} {R : sProp 𝕄} :
    Look iprop((ℓ ↦[S]{q} f) ∗ R) ℓ S q f := by
  unfold Look
  iintro ⟨H1, H2⟩
  isplitl [H1]; · iexact H1
  iintro H
  isplitl [H]; · iexact H
  iexact H2

theorem Look.next {ℓ : Loc nD τ sig} {S : Finset (Idx ℓ)} {q : PosShare TreeShare} {f : Buf (Elt F) ℓ} {X R : sProp 𝕄}
    (h : Look R ℓ S q f) : Look iprop(X ∗ R) ℓ S q f := by
  unfold Look at h ⊢
  iintro ⟨H1, H2⟩
  ihave H2 := h $$ H2
  icases H2 with ⟨H2, H3⟩
  isplitl [H2]; · iexact H2
  iintro H
  isplitl [H1]; · iexact H1
  iapply H3
  iexact H

theorem Lens.look {P : sProp 𝕄} {ℓ : Loc nD τ sig} {S : Finset (Idx ℓ)} {f : Buf (Elt F) ℓ} {P' : Buf (Elt F) ℓ → sProp 𝕄}
    (h : Lens P ℓ S f P') (hP : P' f = P) : Look P ℓ S fullShare f := by
  unfold Lens at h
  unfold Look
  refine h.trans ?_
  iintro ⟨H1, H2⟩
  isplitl [H1]; · iexact H1
  iintro H
  ispecialize H2 $$ %f
  rw [hP]
  iapply H2
  iexact H

section Lenses
variable (c : Dev nD) (I : Arr F) (K : Once F) (o : Bool) (σ : State F) (w a : ℕ)

theorem lk_us (R : sProp 𝕄) : Look (St c I K o R σ w a) (L c cc0_scratch7) Finset.univ fullShare I.us := .next <| .next .here
theorem lk_ds (R : sProp 𝕄) : Look (St c I K o R σ w a) (L c cc0_scratch8) Finset.univ fullShare I.ds := .next <| .next <| .next .here
theorem lk_x (R : sProp 𝕄) : Look (St c I K o R σ w a) (L c cc0_scratch9) Finset.univ fullShare I.x := .next <| .next <| .next <| .next .here
theorem lk_cols (R : sProp 𝕄) : Look (St c I K o R σ w a) (L c cc0_scratch11) Finset.univ fullShare K.cols :=
  .next <| .next <| .next <| .next <| .next .here
theorem lk_xs (R : sProp 𝕄) : Look (St c I K o R σ w a) (L c cc0_scratch12) Finset.univ fullShare K.xs :=
  .next <| .next <| .next <| .next <| .next <| .next .here
theorem lk_live (R : sProp 𝕄) : Look (St c I K o R σ w a) (L c cc0_scratch21) Finset.univ fullShare K.live :=
  .next <| .next <| .next <| .next <| .next <| .next <| .next .here
theorem ln_delta (R : sProp 𝕄) : Lens (St c I K o R σ w a) (L c cc0_scratch14) Finset.univ σ.delta (fun v => St c I K o R { σ with delta := v } w a) :=
  .next <| .next <| .next <| .next <| .next <| .next <| .next <| .next .here
theorem ln_h (R : sProp 𝕄) : Lens (St c I K o R σ w a) (L c cc0_scratch15) Finset.univ σ.h (fun v => St c I K o R { σ with h := v } w a) :=
  .next <| .next <| .next <| .next <| .next <| .next <| .next <| .next <| .next .here
theorem ln_act (R : sProp 𝕄) : Lens (St c I K o R σ w a) (L c cc0_scratch16) Finset.univ σ.act (fun v => St c I K o R { σ with act := v } w a) :=
  .next <| .next <| .next <| .next <| .next <| .next <| .next <| .next <| .next <| .next .here
theorem ln_acodes (R : sProp 𝕄) : Lens (St c I K o R σ w a) (L c cc0_scratch17) Finset.univ σ.acodes (fun v => St c I K o R { σ with acodes := v } w a) :=
  .next <| .next <| .next <| .next <| .next <| .next <| .next <| .next <| .next <| .next <| .next .here
theorem ln_coef (R : sProp 𝕄) : Lens (St c I K o R σ w a) (L c cc0_scratch18) Finset.univ σ.coef (fun v => St c I K o R { σ with coef := v } w a) :=
  .next <| .next <| .next <| .next <| .next <| .next <| .next <| .next <| .next <| .next <| .next <| .next .here
theorem ln_yacc (R : sProp 𝕄) : Lens (St c I K o R σ w a) (L c cc0_scratch19) Finset.univ σ.yacc (fun v => St c I K o R { σ with yacc := v } w a) :=
  .next <| .next <| .next <| .next <| .next <| .next <| .next <| .next <| .next <| .next <| .next <| .next <| .next .here
theorem ln_yout (R : sProp 𝕄) : Lens (St c I K o R σ w a) (L c cc0_scratch20) (if o then yHi else Finset.univ) σ.yout
    (fun v => St c I K o R { σ with yout := v } w a) :=
  .next <| .next <| .next <| .next <| .next <| .next <| .next <| .next <| .next <| .next <| .next <| .next <| .next <| .next .here
theorem lk_codes (R : sProp 𝕄) : Look (St c I K false R σ w a) (L c cc0_scratch10) Finset.univ fullShare K.codes :=
  .next <| .next <| .next <| .next <| .next <| .next <| .next <| .next <| .next <| .next <| .next <| .next <| .next <| .next <| .next .here
theorem lk_delta (R : sProp 𝕄) : Look (St c I K o R σ w a) (L c cc0_scratch14) Finset.univ fullShare σ.delta := (ln_delta c I K o σ w a R).look rfl
theorem lk_h (R : sProp 𝕄) : Look (St c I K o R σ w a) (L c cc0_scratch15) Finset.univ fullShare σ.h := (ln_h c I K o σ w a R).look rfl
theorem lk_act (R : sProp 𝕄) : Look (St c I K o R σ w a) (L c cc0_scratch16) Finset.univ fullShare σ.act := (ln_act c I K o σ w a R).look rfl
theorem lk_acodes (R : sProp 𝕄) : Look (St c I K o R σ w a) (L c cc0_scratch17) Finset.univ fullShare σ.acodes := (ln_acodes c I K o σ w a R).look rfl
theorem lk_coef (R : sProp 𝕄) : Look (St c I K o R σ w a) (L c cc0_scratch18) Finset.univ fullShare σ.coef := (ln_coef c I K o σ w a R).look rfl
theorem lk_yacc (R : sProp 𝕄) : Look (St c I K o R σ w a) (L c cc0_scratch19) Finset.univ fullShare σ.yacc := (ln_yacc c I K o σ w a R).look rfl
theorem lk_yout (R : sProp 𝕄) : Look (St c I K false R σ w a) (L c cc0_scratch20) Finset.univ fullShare σ.yout := (ln_yout c I K false σ w a R).look rfl

end Lenses

/-! ## Steps of a program -/

section Steps
variable {c : Dev nD} {α : Type}

theorem st_load {sp : CoreSpace} {s : Shape} {e : EltTy} {m : Memref sig .tc sp s e} {r : LoadRect s} {hl : m.view.LoadsAt r}
    {k : (r.shape.Idx → Elt F e) → Prog (TpuEff nD τ sig (Elt F) Λ₀ .tc) α} {Q : α → sProp 𝕄} {P : sProp 𝕄}
    {S : Finset (Idx (m.view.loc (c : Thread nD τ)))} {q : PosShare TreeShare} {f : Buf (Elt F) (m.view.loc (c : Thread nD τ))}
    (h : Look P (m.view.loc (c : Thread nD τ)) S q f) (hS : m.view.setOn r.set ⊆ S) (hk : P ⊢ WP c (k (m.view.readAt (Elt F) r f)) Q) :
    P ⊢ WP c (Prog.lift (.load m r hl) >>= k) Q := by
  rw [Prog.bind_lift]
  unfold Look at h
  refine h.trans ?_
  iintro ⟨H1, H2⟩
  iapply (wp_load Variants.none (c : Thread nD τ) none Set.univ hS) $$ H1
  iintro H1
  iapply hk
  iapply H2
  iexact H1

theorem st_store {sp : CoreSpace} {s : Shape} {e : EltTy} {m : Memref sig .tc sp s e} {r : Rect s} {w : r.shape.Idx → Elt F e}
    {Mk : Finset r.shape.Idx} {hx : (m.access r).Stores Mk} {hm : Mk = Finset.univ ∨ ∀ a, r.stride a = 1}
    {k : PUnit → Prog (TpuEff nD τ sig (Elt F) Λ₀ .tc) α} {Q : α → sProp 𝕄} {P : sProp 𝕄}
    {S : Finset (Idx ((m.access r).loc (c : Thread nD τ)))} {f : Buf (Elt F) ((m.access r).loc (c : Thread nD τ))}
    {P' : Buf (Elt F) ((m.access r).loc (c : Thread nD τ)) → sProp 𝕄}
    (h : Lens P ((m.access r).loc (c : Thread nD τ)) S f P') (hS : (m.access r).setOn Mk ⊆ S)
    (hk : P' ((m.access r).write (Elt F) f w Mk) ⊢ WP c (k ⟨⟩) Q) :
    P ⊢ WP c (Prog.lift (.store m r w Mk hx hm) >>= k) Q := by
  rw [Prog.bind_lift]
  unfold Lens at h
  refine h.trans ?_
  iintro ⟨H1, H2⟩
  iapply (wp_store Variants.none (c : Thread nD τ) none Set.univ hS) $$ H1
  iintro H1
  iapply hk
  iapply H2
  iexact H1

theorem st_pure {P : sProp 𝕄} {Q : α → sProp 𝕄} {v : α} (h : P ⊢ Q v) :
    P ⊢ WP c (pure v : Prog (TpuEff nD τ sig (Elt F) Λ₀ .tc) α) Q := by
  refine h.trans ?_
  show _ ⊢ wp frame _ _ (Prog.ret v) Q
  rw [wp_ret]
  iintro H
  imodintro
  iexact H

theorem st_bind {β : Type} {P : sProp 𝕄} {p : Prog (TpuEff nD τ sig (Elt F) Λ₀ .tc) β} {k : β → Prog (TpuEff nD τ sig (Elt F) Λ₀ .tc) α}
    {Q : α → sProp 𝕄} (h : P ⊢ WP c p fun v => WP c (k v) Q) : P ⊢ WP c (p >>= k) Q := by
  show _ ⊢ wp frame _ _ (p >>= k) Q
  rw [wp_bind]
  exact h

theorem st_if {β : Type} {P : sProp 𝕄} {b : Prop} {d : Decidable b} {t : b → Prog (TpuEff nD τ sig (Elt F) Λ₀ .tc) β}
    {e : ¬b → Prog (TpuEff nD τ sig (Elt F) Λ₀ .tc) β} {Q : β → sProp 𝕄} (h1 : ∀ h : b, P ⊢ WP c (t h) Q) (h2 : ∀ h : ¬b, P ⊢ WP c (e h) Q) :
    P ⊢ WP c (if h : b then t h else e h) Q := by
  by_cases h : b
  · rw [dif_pos h]; exact h1 h
  · rw [dif_neg h]; exact h2 h

theorem head_step {A A' B W W' : sProp 𝕄} (h : A ⊢ iprop((A' -∗ W) -∗ W')) (hk : iprop(A' ∗ B) ⊢ W) : iprop(A ∗ B) ⊢ W' := by
  iintro ⟨HA, HB⟩
  iapply h $$ HA
  iintro HA
  iapply hk
  isplitl [HA]; · iexact HA
  iexact HB

theorem head_step2 {A A' O B W W' : sProp 𝕄} (h : iprop(A ∗ O) ⊢ iprop((iprop(A' ∗ O) -∗ W) -∗ W')) (hk : iprop(A' ∗ O ∗ B) ⊢ W) :
    iprop(A ∗ O ∗ B) ⊢ W' := by
  iintro ⟨HA, HO, HB⟩
  iapply h $$ [HA HO]
  · isplitl [HA]; · iexact HA
    iexact HO
  iintro ⟨HA, HO⟩
  iapply hk
  isplitl [HA]; · iexact HA
  isplitl [HO]; · iexact HO
  iexact HB

variable {I : Arr F} {K : Once F} {o : Bool} {σ : State F} {w a : ℕ}

/-- What it takes to start the copy at position `q` for expert `e`. -/
def Starts (σ : State F) (w a q : ℕ) (e : Fin 4) : Prop :=
  q < 44 ∧ (a = q ∧ w ≤ q ∧ e = σ.e ∨ a = q + 44 ∧ q < w ∧ w ≤ a ∧ e = σ.en)

theorem Starts.other {q : ℕ} {e : Fin 4} (h : Starts σ w a q e) (q' : ℕ) (h1 : q' < 44) (h2 : q' ≠ q) :
    stat σ.e σ.en w (a + 1) q' = stat σ.e σ.en w a q' :=
  stat_start_other _ _ _ _ _ q h1 h2 (h.2.imp (fun h => h.1) fun h => h.1) h.1

theorem Starts.free {q : ℕ} {e : Fin 4} (h : Starts σ w a q e) : (stat σ.e σ.en w a q).free := by
  rcases h.2 with ⟨h1, h2, -⟩ | ⟨h1, h2, -⟩
  · exact stat_free _ _ _ _ _ (.inl ⟨h1, by omega⟩)
  · exact stat_free _ _ _ _ _ (.inr ⟨h1, h2⟩)

theorem Starts.fly {q : ℕ} {e : Fin 4} (h : Starts σ w a q e) : stat σ.e σ.en w (a + 1) q = .fly e := by
  rcases h.2 with ⟨h1, h2, rfl⟩ | ⟨h1, h2, h3, rfl⟩
  · exact stat_fly _ _ _ _ _ (h1 ▸ h2) h1
  · exact stat_fly_next _ _ _ _ _ h1

/-- Starting the copy of one block of the up projection. -/
theorem st_up {R : sProp 𝕄} (k : Fin 28) (e : Fin 4) (hq : Starts σ w a (k.val + 2) e)
    {off : Fin 2 → ℕ} {h : ∀ a, off a + S256x4096.size a ≤ S7168x4096.size a} {hs}
    {off' : Fin 3 → ℕ} {h' : ∀ a, off' a + S1x256x4096.size a ≤ S4x7168x4096.size a} {hs'} {offs : Fin 1 → ℕ}
    {hh : ∀ a, offs a + S1.size a ≤ S28.size a} (ho : off = ![256 * k.val, 0]) (ho' : off' = ![e.val, 256 * k.val, 0]) (hos : offs = ![k.val])
    {kk : PUnit → Prog (TpuEff nD τ sig (Elt F) Λ₀ .tc) α} {Q : α → sProp 𝕄} {p1 p2 p3}
    (hk : St c I K o R σ w (a + 1) ⊢ WP c (kk ⟨⟩) Q) :
    St c I K o R σ w a ⊢ WP c (Prog.lift (.enqueueDma
      ((A6.slice (Rect.unit (s := S4x7168x4096) off' S1x256x4096.size h') hs').squeeze S256x4096 squeezes_S1x256x4096_S256x4096)
      (.here (A13.slice (Rect.unit (s := S7168x4096) off S256x4096.size h) hs))
      (.dma ((cc0_scoped0.slice (Rect.unit (s := S28) offs S1.size hh)).squeeze S_ squeezes_S1_S_).sem) p1 p2 p3) >>= kk) Q :=
  head_step (Fam_up c I k e hq.other hq.free hq.fly ho ho' hos) hk

/-- Starting the copy of one block of the down projection. -/
theorem st_dn {R : sProp 𝕄} (k : Fin 14) (e : Fin 4) (hq : Starts σ w a (k.val + 30) e)
    {off : Fin 3 → ℕ} {h : ∀ a, off a + S1x2048x512.size a ≤ S14x2048x512.size a} {hs}
    {off' : Fin 3 → ℕ} {h' : ∀ a, off' a + S1x2048x512.size a ≤ S4x2048x7168.size a} {hs'} {offs : Fin 1 → ℕ}
    {hh : ∀ a, offs a + S1.size a ≤ S14.size a} (ho : off = ![k.val, 0, 0]) (ho' : off' = ![e.val, 0, 512 * k.val]) (hos : offs = ![k.val])
    {kk : PUnit → Prog (TpuEff nD τ sig (Elt F) Λ₀ .tc) α} {Q : α → sProp 𝕄} {p1 p2 p3}
    (hk : St c I K o R σ w (a + 1) ⊢ WP c (kk ⟨⟩) Q) :
    St c I K o R σ w a ⊢ WP c (Prog.lift (.enqueueDma
      ((A7.slice (Rect.unit (s := S4x2048x7168) off' S1x2048x512.size h') hs').squeeze S2048x512 squeezes_S1x2048x512_S2048x512)
      (.here ((A14.slice (Rect.unit (s := S14x2048x512) off S1x2048x512.size h) hs).squeeze S2048x512 squeezes_S1x2048x512_S2048x512))
      (.dma ((cc0_scoped1.slice (Rect.unit (s := S14) offs S1.size hh)).squeeze S_ squeezes_S1_S_).sem) p1 p2 p3) >>= kk) Q :=
  head_step (Fam_dn c I k e hq.other hq.free hq.fly ho ho' hos) hk

/-- Starting the copy of the first LoRA factor. -/
theorem st_la {R : sProp 𝕄} (e : Fin 4) (hq : Starts σ w a 0 e)
    {off' : Fin 3 → ℕ} {h' : ∀ a, off' a + S1x128x7168.size a ≤ S4x128x7168.size a} {hs'} (ho' : off' = ![e.val, 0, 0])
    {kk : PUnit → Prog (TpuEff nD τ sig (Elt F) Λ₀ .tc) α} {Q : α → sProp 𝕄} {p1 p2 p3}
    (hk : St c I K o R σ w (a + 1) ⊢ WP c (kk ⟨⟩) Q) :
    St c I K o R σ w a ⊢ WP c (Prog.lift (.enqueueDma
      ((A8.slice (Rect.unit (s := S4x128x7168) off' S1x128x7168.size h') hs').squeeze S128x7168 squeezes_S1x128x7168_S128x7168)
      (.here A15) (.dma cc0_scoped2.sem) p1 p2 p3) >>= kk) Q :=
  head_step (Fam_la c I e hq.other hq.free hq.fly ho') hk

/-- Starting the copy of the second LoRA factor's last rows. -/
theorem st_lb {R : sProp 𝕄} (e : Fin 4) (hq : Starts σ w a 1 e)
    {off : Fin 3 → ℕ} {h : ∀ a, off a + S1x64x4096.size a ≤ S4x128x4096.size a} {hs}
    {h' : ∀ a, off a + S1x64x4096.size a ≤ S4x128x4096.size a} {hs'} (ho : off = ![e.val, 64, 0])
    {kk : PUnit → Prog (TpuEff nD τ sig (Elt F) Λ₀ .tc) α} {Q : α → sProp 𝕄} {p1 p2 p3}
    (hk : St c I K o R σ w (a + 1) ⊢ WP c (kk ⟨⟩) Q) :
    St c I K o R σ w a ⊢ WP c (Prog.lift (.enqueueDma
      ((A9.slice (Rect.unit (s := S4x128x4096) off S1x64x4096.size h') hs').squeeze S64x4096 squeezes_S1x64x4096_S64x4096)
      (.here ((A16.slice (Rect.unit (s := S4x128x4096) off S1x64x4096.size h) hs).squeeze S64x4096 squeezes_S1x64x4096_S64x4096))
      (.dma cc0_scoped3.sem) p1 p2 p3) >>= kk) Q :=
  head_step (Fam_lb c I e hq.other hq.free hq.fly ho) hk

/-- Waiting for the copy at position `w`. -/
theorem st_wait {R : sProp 𝕄} (q : ℕ) (hq : q < 44) (hw : w = q) (ha : w < a) (ha' : a ≤ w + 44)
    {sp sp' : Space} {s s' : Shape} {e₀ e' : EltTy} {sem : DmaSem sig}
    {srcw : Memref sig .tc sp' s' e₀} {dstw : Memref sig .tc sp s e'} {hsrc : srcw.view.WordExact} {hdst : dstw.view.WordExact}
    {k : PUnit → Prog (TpuEff nD τ sig (Elt F) Λ₀ .tc) α} {Q : α → sProp 𝕄}
    (hs : sem = (slotD c I q).sem) (hN : dstw.view.dmaCredit = (slotD c I q).N)
    (hk : St c I K o R σ (w + 1) a ⊢ WP c (k ⟨⟩) Q) :
    St c I K o R σ w a ⊢ WP c (Prog.lift (.waitDma2 sem srcw dstw hsrc hdst) >>= k) Q := by
  subst hw
  exact head_step2 (Fam_wait c I (ph' := stat σ.e σ.en (w + 1) a) w hq σ.e (fun q' _ hne => stat_wait_other _ _ _ _ _ hne) (stat_wait_fly _ _ _ _ ha' ha) (stat_wait_at _ _ _ _ ha') hs hN) hk

/-- Waiting for one block of the up projection. -/
theorem st_wait_up {R : sProp 𝕄} (k : Fin 28) (hw : w = k.val + 2) (ha : w < a) (ha' : a ≤ w + 44)
    {off : Fin 2 → ℕ} {h : ∀ a, off a + S256x4096.size a ≤ S7168x4096.size a} {hs}
    {offs : Fin 1 → ℕ} {hh : ∀ a, offs a + S1.size a ≤ S28.size a} (hos : offs = ![k.val])
    {sp' : Space} {s' : Shape} {e₀ : EltTy} {srcw : Memref sig .tc sp' s' e₀} {hsrc : srcw.view.WordExact} {hdst}
    {kk : PUnit → Prog (TpuEff nD τ sig (Elt F) Λ₀ .tc) α} {Q : α → sProp 𝕄}
    (hk : St c I K o R σ (w + 1) a ⊢ WP c (kk ⟨⟩) Q) :
    St c I K o R σ w a ⊢ WP c (Prog.lift (.waitDma2 ((cc0_scoped0.slice (Rect.unit (s := S28) offs S1.size hh)).squeeze S_ squeezes_S1_S_).sem
      srcw (A13.slice (Rect.unit (s := S7168x4096) off S256x4096.size h) hs) hsrc hdst) >>= kk) Q :=
  st_wait (k.val + 2) (by omega) hw ha ha' (by rw [slotD_up, up_sem k hos]; rfl) (by rw [slotD_up]; rfl) hk

/-- Waiting for one block of the down projection. -/
theorem st_wait_dn {R : sProp 𝕄} (k : Fin 14) (hw : w = k.val + 30) (ha : w < a) (ha' : a ≤ w + 44)
    {off : Fin 3 → ℕ} {h : ∀ a, off a + S1x2048x512.size a ≤ S14x2048x512.size a} {hs}
    {offs : Fin 1 → ℕ} {hh : ∀ a, offs a + S1.size a ≤ S14.size a} (hos : offs = ![k.val])
    {sp' : Space} {s' : Shape} {e₀ : EltTy} {srcw : Memref sig .tc sp' s' e₀} {hsrc : srcw.view.WordExact} {hdst}
    {kk : PUnit → Prog (TpuEff nD τ sig (Elt F) Λ₀ .tc) α} {Q : α → sProp 𝕄}
    (hk : St c I K o R σ (w + 1) a ⊢ WP c (kk ⟨⟩) Q) :
    St c I K o R σ w a ⊢ WP c (Prog.lift (.waitDma2 ((cc0_scoped1.slice (Rect.unit (s := S14) offs S1.size hh)).squeeze S_ squeezes_S1_S_).sem
      srcw ((A14.slice (Rect.unit (s := S14x2048x512) off S1x2048x512.size h) hs).squeeze S2048x512 squeezes_S1x2048x512_S2048x512) hsrc hdst)
      >>= kk) Q :=
  st_wait (k.val + 30) (by omega) hw ha ha' (by rw [slotD_dn, dn_sem k hos]; rfl) (by rw [slotD_dn]; rfl) hk

/-- A conditional start of a copy. -/
theorem st_if2 {R : sProp 𝕄} {b : Prop} {d : Decidable b} {t : b → Prog (TpuEff nD τ sig (Elt F) Λ₀ .tc) α}
    {J : Prog (TpuEff nD τ sig (Elt F) Λ₀ .tc) α} {Q : α → sProp 𝕄} (a' : ℕ) (h0 : ¬b → a' = a) (h1 : b → a' = a + 1)
    (ht : ∀ hb : b, (St c I K o R σ w (a + 1) ⊢ WP c J Q) → St c I K o R σ w a ⊢ WP c (t hb) Q)
    (hk : St c I K o R σ w a' ⊢ WP c J Q) : St c I K o R σ w a ⊢ WP c (dite b t fun _ => J) Q := by
  refine st_if (fun hb => ?_) fun hb => ?_
  · rw [h1 hb] at hk
    exact ht hb hk
  · rw [h0 hb] at hk
    exact hk

/-- A conditional that does not happen. -/
theorem st_if_not {R : sProp 𝕄} {b : Prop} {d : Decidable b} {t : b → Prog (TpuEff nD τ sig (Elt F) Λ₀ .tc) α}
    {J : Prog (TpuEff nD τ sig (Elt F) Λ₀ .tc) α} {Q : α → sProp 𝕄} (h0 : ¬b)
    (hk : St c I K o R σ w a ⊢ WP c J Q) : St c I K o R σ w a ⊢ WP c (dite b t fun _ => J) Q :=
  st_if (fun hb => absurd hb h0) fun _ => hk

end Steps

/-- A piece of the kernel at the program's buffers and cells. -/
abbrev onK {T : Sort*} (f : (arg0 : Memref sig .tc .hbm S2x32 .i32) → (harg0 : arg0.IsWhole) → (arg1 : Memref sig .tc .hbm S2x32 .f32) → (harg1 : arg1.IsWhole) → (arg2 : Memref sig .tc .hbm S1x32 .i32) → (harg2 : arg2.IsWhole) → (arg3 : Memref sig .tc .hbm S4x4096 .f32) → (harg3 : arg3.IsWhole) → (arg4 : Memref sig .tc .hbm S4x7168 .f32) → (harg4 : arg4.IsWhole) → (arg5 : Memref sig .tc .hbm S32x7168 .bf16) → (harg5 : arg5.IsWhole) → (arg6 : Memref sig .tc .hbm S4x7168x4096 .fp8e4m3) → (harg6 : arg6.IsWhole) → (arg7 : Memref sig .tc .hbm S4x2048x7168 .fp8e4m3) → (harg7 : arg7.IsWhole) → (arg8 : Memref sig .tc .hbm S4x128x7168 .bf16) → (harg8 : arg8.IsWhole) → (arg9 : Memref sig .tc .hbm S4x128x4096 .bf16) → (harg9 : arg9.IsWhole) → (arg10 : Memref sig .tc .hbm S32x7168 .bf16) → (harg10 : arg10.IsWhole) → (arg11 : Memref sig .tc .hbm S32x7168 .fp8e4m3) → (harg11 : arg11.IsWhole) → (arg12 : Memref sig .tc .hbm S1x32 .f32) → (harg12 : arg12.IsWhole) → (arg13 : Memref sig .tc .vmem S7168x4096 .fp8e4m3) → (harg13 : arg13.IsWhole) → (arg14 : Memref sig .tc .vmem S14x2048x512 .fp8e4m3) → (harg14 : arg14.IsWhole) → (arg15 : Memref sig .tc .vmem S128x7168 .bf16) → (harg15 : arg15.IsWhole) → (arg16 : Memref sig .tc .vmem S4x128x4096 .bf16) → (harg16 : arg16.IsWhole) → (arg17 : Memref sig .tc .vmem S2x32 .i32) → (harg17 : arg17.IsWhole) → (arg18 : Memref sig .tc .vmem S2x32 .f32) → (harg18 : arg18.IsWhole) → (arg19 : Memref sig .tc .vmem S1x32 .i32) → (harg19 : arg19.IsWhole) → (arg20 : Memref sig .tc .vmem S4x4096 .f32) → (harg20 : arg20.IsWhole) → (arg21 : Memref sig .tc .vmem S4x7168 .f32) → (harg21 : arg21.IsWhole) → (arg22 : Memref sig .tc .vmem S32x7168 .bf16) → (harg22 : arg22.IsWhole) → (arg23 : Memref sig .tc .vmem S32x7168 .fp8e4m3) → (harg23 : arg23.IsWhole) → (arg24 : Memref sig .tc .vmem S5x32x128 .f32) → (harg24 : arg24.IsWhole) → (arg25 : Memref sig .tc .vmem S32x128 .f32) → (harg25 : arg25.IsWhole) → (arg26 : Memref sig .tc .vmem S1x32 .f32) → (harg26 : arg26.IsWhole) → (arg27 : Memref sig .tc .vmem S32x4096 .f32) → (harg27 : arg27.IsWhole) → (arg28 : Memref sig .tc .vmem S32x4096 .f32) → (harg28 : arg28.IsWhole) → (arg29 : Memref sig .tc .vmem S32x2048 .f32) → (harg29 : arg29.IsWhole) → (arg30 : Memref sig .tc .vmem S32x2048 .fp8e4m3) → (harg30 : arg30.IsWhole) → (arg31 : Memref sig .tc .vmem S32x128 .f32) → (harg31 : arg31.IsWhole) → (arg32 : Memref sig .tc .vmem S32x7168 .f32) → (harg32 : arg32.IsWhole) → (arg33 : Memref sig .tc .vmem S32x7168 .bf16) → (harg33 : arg33.IsWhole) → (arg34 : Memref sig .tc .smem S5 .i32) → (harg34 : arg34.IsWhole) → (v0 : DmaSems sig S28) → (v1 : DmaSems sig S14) → (v2 : DmaSems sig S_) → (v3 : DmaSems sig S_) → (v4 : DmaSems sig S_) → (v5 : DmaSems sig S_) → (v6 : DmaSems sig S_) → (v7 : DmaSems sig S_) → (v8 : DmaSems sig S_) → (v9 : DmaSems sig S_) → (v10 : DmaSems sig S_) → (v11 : DmaSems sig S_) → (v12 : DmaSems sig S_) → (v13 : DmaSems sig S_) → T) : T :=
  f A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) A18 (Memref.isWhole_whole _) A19 (Memref.isWhole_whole _) A20 (Memref.isWhole_whole _) A21 (Memref.isWhole_whole _) A22 (Memref.isWhole_whole _) A23 (Memref.isWhole_whole _) A24 (Memref.isWhole_whole _) A25 (Memref.isWhole_whole _) A26 (Memref.isWhole_whole _) A27 (Memref.isWhole_whole _) A28 (Memref.isWhole_whole _) A29 (Memref.isWhole_whole _) A30 (Memref.isWhole_whole _) A31 (Memref.isWhole_whole _) A32 (Memref.isWhole_whole _) A33 (Memref.isWhole_whole _) A34 (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13

/-- An expert's number as the kernel's word. -/
abbrev ev (e : Fin 4) : BitVec 32 := BitVec.ofNat 32 e.val

end Cert.KernelIdeal.Hand
end
-- ==== Proof.Access.lean ====
/-
  Hand-written, untrusted. Loads and stores of a rectangle of a buffer, and of what the stream has brought in.
-/
module

public import proofs.«01_k».proof.Proof.State

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-! ## Rectangles -/

/-- The rectangle at `o` of the sizes `z`, read. -/
def rdA {s : Shape} {α : Type} (o z : Fin s.rank → ℕ) (h : ∀ a, o a + z a ≤ s.size a) (f : s.Idx → α) : (Rect.unit (s := s) o z h).shape.Idx → α :=
  fun i => f ((Rect.unit o z h).emb i)

/-- The rectangle at `o` of the sizes `z`, written. -/
def wrA {s : Shape} {α : Type} (o z : Fin s.rank → ℕ) (h : ∀ a, o a + z a ≤ s.size a) (f : s.Idx → α)
    (w : (Rect.unit (s := s) o z h).shape.Idx → α) : s.Idx → α :=
  fun i => if hi : ∀ a, o a ≤ (i a).val ∧ (i a).val < o a + z a then w (fun a => ⟨(i a).val - o a, by have := hi a; show _ < z a; omega⟩) else f i

theorem rdA_eq {b : Ref sig .tc} {off o z : Fin b.ty.shape.rank → ℕ} {h : ∀ a, off a + z a ≤ b.ty.shape.size a} (ho : off = o)
    (h' : ∀ a, o a + z a ≤ b.ty.shape.size a) (f : b.ty.Contents (Elt F)) :
    (Memref.whole b).view.readAt (Elt F) (Rect.unit off z h).toLoadRect f = rdA o z h' f := by
  subst ho
  rfl

theorem wrA_eq {b : Ref sig .tc} {off o z : Fin b.ty.shape.rank → ℕ} {h : ∀ a, off a + z a ≤ b.ty.shape.size a} (ho : off = o)
    (h' : ∀ a, o a + z a ≤ b.ty.shape.size a) (f : b.ty.Contents (Elt F)) (w : (Rect.unit off z h).shape.Idx → Elt F b.ty.elt) :
    ((Memref.whole b).access (Rect.unit off z h)).write (Elt F) f w Finset.univ = wrA o z h' f w := by
  subst ho
  funext i
  unfold wrA
  split
  · rename_i hi
    have e : i = ((Memref.whole b).access (Rect.unit off z h)).emb (fun a => ⟨(i a).val - off a, by have := hi a; show _ < z a; omega⟩) := by
      refine funext fun a => Fin.ext ?_
      refine Eq.trans ?_ (Rect.emb_apply (Rect.unit off z h) _ a).symm
      have := hi a
      show _ = off a + 1 * ((i a).val - off a)
      omega
    conv_lhs => rw [e]
    rw [View.write_emb_of_mem _ _ (Finset.mem_univ _)]
    rfl
  · rename_i hi
    refine View.write_of_not_mem _ _ _ fun hc => hi ?_
    have hc : i ∈ (View.slice (View.whole b) (Rect.unit off z h)).set := hc
    rw [View.set_slice_whole] at hc
    exact Rect.mem_set_unit.mp hc

/-! ## What the stream has brought in -/

theorem bigSep_part {A : Type} [DecidableEq A] {s t : Finset A} (h : t ⊆ s) (Φ : A → sProp 𝕄) :
    bigSep s Φ = iprop(bigSep t Φ ∗ bigSep (s \ t) Φ) := bigSep_sdiff_split h

/-- Slots of the family that have landed, read as one buffer. -/
theorem slots_look (c : Dev nD) (I : Arr F) (ph : ℕ → Ph) (T : Finset ℕ) (hT : T ⊆ Finset.range 44) (ℓ : Loc nD τ sig) (S : ℕ → Finset (Idx ℓ))
    (g : Buf (Elt F) ℓ) (X : ℕ → sProp 𝕄) (hS : ∀ t ∈ T, ∀ t' ∈ T, t ≠ t' → Disjoint (S t) (S t'))
    (h : ∀ q ∈ T, ((slotD c I q).at (ph q) : sProp 𝕄) ⊣⊢ iprop((ℓ ↦[S q]{fullShare} g) ∗ X q)) :
    Look (Fam c I ph) ℓ (T.biUnion S) fullShare g := by
  have e1 : (Fam c I ph : sProp 𝕄) ⊢ iprop(bigSep T (fun q => iprop((ℓ ↦[S q]{fullShare} g) ∗ X q)) ∗ bigSep (Finset.range 44 \ T) (fun q => (slotD c I q).at (ph q))) := by
    unfold Fam
    rw [bigSep_part hT]
    iintro ⟨H1, H2⟩
    isplitl [H1]
    · have m : (bigSep T (fun q => (slotD c I q).at (ph q)) : sProp 𝕄) ⊢ bigSep T (fun q => iprop((ℓ ↦[S q]{fullShare} g) ∗ X q)) :=
        bigSep_mono fun q hq => (h q hq).1
      iapply m; iexact H1
    · iexact H2
  have e2 : iprop(bigSep T (fun q => iprop((ℓ ↦[S q]{fullShare} g) ∗ X q)) ∗ bigSep (Finset.range 44 \ T) (fun q => (slotD c I q).at (ph q))) ⊢ (Fam c I ph : sProp 𝕄) := by
    unfold Fam
    rw [bigSep_part hT]
    iintro ⟨H1, H2⟩
    isplitl [H1]
    · have m : (bigSep T (fun q => iprop((ℓ ↦[S q]{fullShare} g) ∗ X q)) : sProp 𝕄) ⊢ bigSep T (fun q => (slotD c I q).at (ph q)) :=
        bigSep_mono fun q hq => (h q hq).2
      iapply m; iexact H1
    · iexact H2
  unfold Look
  refine e1.trans ?_
  rw [bigSep_sep', ← pointsTo_biUnion T S hS]
  iintro ⟨⟨H1, H2⟩, H3⟩
  isplitl [H1]; · iexact H1
  iintro H1
  iapply e2
  rw [bigSep_sep', ← pointsTo_biUnion T S hS]
  isplitr [H3]
  · isplitl [H1]; · iexact H1
    iexact H2
  · iexact H3

/-- What a slot holds besides the elements it fills. -/
abbrev SlotD.rest {c : Dev nD} (d : SlotD F c) : sProp 𝕄 := iprop((d.ℓs ↦{d.q} d.fs) ∗ semVal ((c : Thread nD τ), .dma d.sem) 0)

/-- A slot whose landed contents are determined on its elements. -/
theorem SlotD.landed {c : Dev nD} (d : SlotD F c) (e : Fin 4) (g : Buf (Elt F) d.ℓd) (hg : d.P e g) (hu : ∀ f, d.P e f → ∀ i ∈ d.Sd, f i = g i) :
    (d.at (.landed e) : sProp 𝕄) ⊣⊢ iprop((d.ℓd ↦[d.Sd]{fullShare} g) ∗ d.rest) := by
  have h1 : (d.at (.landed e) : sProp 𝕄) ⊢ iprop((d.ℓd ↦[d.Sd]{fullShare} g) ∗ d.rest) := by
    unfold SlotD.at slotAt
    iintro ⟨%f, %hf, Hd, Hs⟩
    have e1 : (d.ℓd ↦[d.Sd]{fullShare} f : sProp 𝕄) ⊢ (d.ℓd ↦[d.Sd]{fullShare} g) := by rw [pointsTo_congr (hu f hf)]
    ihave Hd := e1 $$ Hd
    isplitl [Hd]; · iexact Hd
    iexact Hs
  have h2 : iprop((d.ℓd ↦[d.Sd]{fullShare} g) ∗ d.rest) ⊢ (d.at (.landed e) : sProp 𝕄) := by
    unfold SlotD.at slotAt
    iintro ⟨Hd, Hs⟩
    iexists g
    isplitr; · ipureintro; exact hg
    isplitl [Hd]; · iexact Hd
    iexact Hs
  exact ⟨h1, h2⟩

theorem slot_up_landed (c : Dev nD) (I : Arr F) (k : ℕ) (hk : k < 28) (e : Fin 4) :
    ((slotD c I (k + 2)).at (.landed e) : sProp 𝕄) ⊣⊢ iprop((L c cc0_scratch0 ↦[upRows (k + 2 - 2)]{fullShare} upVal I.wu e) ∗ (slotD c I (k + 2)).rest) := by
  have h := slotD_up c I ⟨k, hk⟩
  change slotD c I (k + 2) = _ at h
  rw [h, Nat.add_sub_cancel]
  exact (upD c I ⟨k, hk⟩).landed e (upVal I.wu e) (fun i _ => rfl) fun f hf i hi => hf i hi

theorem slot_dn_landed (c : Dev nD) (I : Arr F) (k : ℕ) (hk : k < 14) (e : Fin 4) :
    ((slotD c I (k + 30)).at (.landed e) : sProp 𝕄) ⊣⊢ iprop((L c cc0_scratch1 ↦[dnRows (k + 30 - 30)]{fullShare} dnVal I.wd e) ∗ (slotD c I (k + 30)).rest) := by
  have h := slotD_dn c I ⟨k, hk⟩
  change slotD c I (k + 30) = _ at h
  rw [h, Nat.add_sub_cancel]
  exact (dnD c I ⟨k, hk⟩).landed e (dnVal I.wd e) (fun i _ => rfl) fun f hf i hi => hf i hi

section Landed
variable {c : Dev nD} {I : Arr F} {K : Once F} {o : Bool} {σ : State F} {w a : ℕ}

theorem Look.first {P R : sProp 𝕄} {ℓ : Loc nD τ sig} {S : Finset (Idx ℓ)} {q : PosShare TreeShare} {f : Buf (Elt F) ℓ}
    (h : Look P ℓ S q f) : Look iprop(P ∗ R) ℓ S q f := by
  unfold Look at h ⊢
  iintro ⟨H1, H2⟩
  ihave H1 := h $$ H1
  icases H1 with ⟨H1, H3⟩
  isplitl [H1]; · iexact H1
  iintro H
  isplitr [H2]
  · iapply H3; iexact H
  · iexact H2

/-- The rows of the up projection that have been waited for. -/
def upSeen (w : ℕ) : Finset S7168x4096.Idx := Finset.univ.filter fun i => (i 0).val / 256 + 2 < w
/-- The blocks of the down projection that have been waited for. -/
def dnSeen (w : ℕ) : Finset S14x2048x512.Idx := Finset.univ.filter fun i => (i 0).val + 30 < w

theorem lk_up {R : sProp 𝕄} (ha : a ≤ 46) : Look (St c I K o R σ w a) (L c cc0_scratch0) (upSeen w) fullShare (upVal I.wu σ.e) := by
  refine Look.first ?_
  have hS : upSeen w = ((Finset.range 28).image (· + 2) |>.filter (· < w)).biUnion (fun q => upRows (q - 2)) := by
    ext i
    have h0 : (i 0).val < 7168 := (i 0).isLt
    simp only [upSeen, upRows, Finset.mem_biUnion, Finset.mem_filter, Finset.mem_image, Finset.mem_range, Finset.mem_univ, true_and]
    constructor
    · intro h
      exact ⟨(i 0).val / 256 + 2, ⟨⟨(i 0).val / 256, by omega, rfl⟩, h⟩, by omega⟩
    · rintro ⟨q, ⟨⟨k, hk, rfl⟩, hq⟩, h⟩
      omega
  rw [hS]
  refine slots_look c I _ _ ?_ _ _ _ (fun q => (slotD c I q).rest) ?_ ?_
  · intro q hq
    simp only [Finset.mem_filter, Finset.mem_image, Finset.mem_range] at hq ⊢
    omega
  · intro q hq q' hq' hne
    simp only [Finset.mem_filter, Finset.mem_image, Finset.mem_range] at hq hq'
    refine Finset.disjoint_left.mpr fun i hi hi' => hne ?_
    simp only [upRows, Finset.mem_filter] at hi hi'
    omega
  · intro q hq
    simp only [Finset.mem_filter, Finset.mem_image, Finset.mem_range] at hq
    obtain ⟨⟨k, hk, rfl⟩, hq⟩ := hq
    rw [stat_landed _ _ _ _ _ (by omega) hq]
    exact slot_up_landed c I k hk σ.e

theorem lk_dn {R : sProp 𝕄} (ha : a ≤ 74) : Look (St c I K o R σ w a) (L c cc0_scratch1) (dnSeen w) fullShare (dnVal I.wd σ.e) := by
  refine Look.first ?_
  have hS : dnSeen w = ((Finset.range 14).image (· + 30) |>.filter (· < w)).biUnion (fun q => dnRows (q - 30)) := by
    ext i
    have h0 : (i 0).val < 14 := (i 0).isLt
    simp only [dnSeen, dnRows, Finset.mem_biUnion, Finset.mem_filter, Finset.mem_image, Finset.mem_range, Finset.mem_univ, true_and]
    constructor
    · intro h
      exact ⟨(i 0).val + 30, ⟨⟨(i 0).val, by omega, rfl⟩, h⟩, by omega⟩
    · rintro ⟨q, ⟨⟨k, hk, rfl⟩, hq⟩, h⟩
      omega
  rw [hS]
  refine slots_look c I _ _ ?_ _ _ _ (fun q => (slotD c I q).rest) ?_ ?_
  · intro q hq
    simp only [Finset.mem_filter, Finset.mem_image, Finset.mem_range] at hq ⊢
    omega
  · intro q hq q' hq' hne
    simp only [Finset.mem_filter, Finset.mem_image, Finset.mem_range] at hq hq'
    refine Finset.disjoint_left.mpr fun i hi hi' => hne ?_
    simp only [dnRows, Finset.mem_filter] at hi hi'
    omega
  · intro q hq
    simp only [Finset.mem_filter, Finset.mem_image, Finset.mem_range] at hq
    obtain ⟨⟨k, hk, rfl⟩, hq⟩ := hq
    rw [stat_landed _ _ _ _ _ (by omega) hq]
    exact slot_dn_landed c I k hk σ.e

theorem lk_la {R : sProp 𝕄} (hw : 0 < w) (ha : a ≤ 44) : Look (St c I K o R σ w a) (L c cc0_scratch2) Finset.univ fullShare (laVal I.la σ.e) := by
  refine Look.first ?_
  have h := slots_look c I (stat σ.e σ.en w a) {0} (by simp) (L c cc0_scratch2) (fun _ => Finset.univ) (laVal I.la σ.e)
    (fun q => (slotD c I 0).rest) (by simp) (by
      intro q hq
      rw [Finset.mem_singleton.mp hq, stat_landed _ _ _ _ _ (by omega) hw]
      exact (laD c I).landed σ.e (laVal I.la σ.e) rfl fun f hf i hi => congrFun hf i)
  rwa [Finset.singleton_biUnion] at h

/-- The late rows of expert `e` in the second LoRA factor. -/
def lbLateOf (e : Fin 4) : Finset S4x128x4096.Idx := Finset.univ.filter fun i => 64 ≤ (i 1).val ∧ (i 0).val = e.val

theorem lb_look (c : Dev nD) (I : Arr F) (e : Fin 4) (f : FVec F S4x128x4096 .bf16) (hf : lbLand I.lb e f) :
    (iprop((L c cc0_scratch3 ↦[lbLate]{fullShare} f) ∗ (L c cc0_scratch3 ↦[lbEarly]{fullShare} I.lb)) : sProp 𝕄)
      ⊢ iprop((L c cc0_scratch3 ↦[lbEarly ∪ lbLateOf e]{fullShare} I.lb) ∗ ((L c cc0_scratch3 ↦[lbEarly ∪ lbLateOf e]{fullShare} I.lb)
        -∗ ((L c cc0_scratch3 ↦[lbLate]{fullShare} f) ∗ (L c cc0_scratch3 ↦[lbEarly]{fullShare} I.lb)))) := by
  have hsub : lbLateOf e ⊆ lbLate := fun i hi => by
    simp only [lbLate, lbLateOf, Finset.mem_filter, Finset.mem_univ, true_and] at hi ⊢
    exact hi.1
  have hd : Disjoint lbEarly (lbLateOf e) := Finset.disjoint_left.mpr fun i hi hi' => by
    simp only [lbEarly, lbLateOf, Finset.mem_filter, Finset.mem_univ, true_and] at hi hi'
    omega
  have hc : (L c cc0_scratch3 ↦[lbLateOf e]{fullShare} f : sProp 𝕄) = (L c cc0_scratch3 ↦[lbLateOf e]{fullShare} I.lb) := pointsTo_congr fun i hi => by
    simp only [lbLateOf, Finset.mem_filter, Finset.mem_univ, true_and] at hi
    refine hf i ?_ hi.2
    simp only [lbLate, Finset.mem_filter, Finset.mem_univ, true_and]
    exact hi.1
  have e1 : (L c cc0_scratch3 ↦[lbLate]{fullShare} f : sProp 𝕄) ⊣⊢ iprop((L c cc0_scratch3 ↦[lbLateOf e]{fullShare} I.lb)
      ∗ (L c cc0_scratch3 ↦[lbLate \ lbLateOf e]{fullShare} f)) := by
    rw [← hc]
    exact pointsTo_split_subset hsub
  have e2 : (L c cc0_scratch3 ↦[lbEarly ∪ lbLateOf e]{fullShare} I.lb : sProp 𝕄) ⊣⊢ iprop((L c cc0_scratch3 ↦[lbEarly]{fullShare} I.lb)
      ∗ (L c cc0_scratch3 ↦[lbLateOf e]{fullShare} I.lb)) :=
    pointsTo_union hd
  have e1a := e1.1
  have e1b := e1.2
  have e2a := e2.1
  have e2b := e2.2
  iintro ⟨H1, H2⟩
  ihave H1 := e1a $$ H1
  icases H1 with ⟨H1, H3⟩
  isplitl [H1 H2]
  · iapply e2b
    isplitl [H2]; · iexact H2
    iexact H1
  iintro H
  ihave H := e2a $$ H
  icases H with ⟨H2, H1⟩
  isplitr [H2]
  · iapply e1b
    isplitl [H1]; · iexact H1
    iexact H3
  · iexact H2

theorem lk_lb {R : sProp 𝕄} (hw : 1 < w) (ha : a ≤ 45) : Look (St c I K o R σ w a) (L c cc0_scratch3) (lbEarly ∪ lbLateOf σ.e) fullShare I.lb := by
  have hE : (Fam c I (stat σ.e σ.en w a) : sProp 𝕄) ⊢ iprop(∃ f, ⌜lbLand I.lb σ.e f⌝ ∗ (L c cc0_scratch3 ↦[lbLate]{fullShare} f)
      ∗ ((L c cc0_scratch3 ↦[lbLate]{fullShare} f) -∗ Fam c I (stat σ.e σ.en w a))) := by
    refine (Fam_upd c I (ph' := stat σ.e σ.en w a) 1 (by omega) fun _ _ _ => rfl).trans ?_
    rw [stat_landed _ _ _ _ _ ha hw, show slotD c I 1 = lbD c I from rfl]
    unfold SlotD.at slotAt
    iintro ⟨⟨%f, %hf, H1, H2⟩, H3⟩
    iexists f
    isplitr; · ipureintro; exact hf
    isplitl [H1]; · iexact H1
    iintro H1
    iapply H3
    iexists f
    isplitr; · ipureintro; exact hf
    isplitl [H1]; · iexact H1
    iexact H2
  unfold Look St
  iintro ⟨HF, G1, G2, G3, G4, G5, G6, G7, G8, G9, G10, G11, G12, G13, G14, G15, HE, HR⟩
  ihave HF := hE $$ HF
  icases HF with ⟨%f, %hf, H1, H2⟩
  ihave H := (lb_look c I σ.e f hf) $$ [H1 HE]
  · isplitl [H1]; · iexact H1
    iexact HE
  icases H with ⟨H, HB⟩
  isplitl [H]; · iexact H
  iintro H
  ihave H := HB $$ H
  icases H with ⟨H1, HE⟩
  ihave HF := H2 $$ H1
  iframe

end Landed

/-! ## Loads and stores of a rectangle -/

section Rects
variable {c : Dev nD} {α : Type} {I : Arr F} {K : Once F} {o : Bool} {σ : State F} {w a : ℕ}

theorem rect_sub {b : Ref sig .tc} {off z : Fin b.ty.shape.rank → ℕ} {h : ∀ a, off a + z a ≤ b.ty.shape.size a} {S : Finset b.ty.shape.Idx}
    (hS : ∀ i : b.ty.shape.Idx, (∀ a, off a ≤ (i a).val ∧ (i a).val < off a + z a) → i ∈ S) :
    (Memref.whole b).view.setOn (Rect.unit off z h).toLoadRect.set ⊆ S := by
  intro i hi
  obtain ⟨j, hj, rfl⟩ := Finset.mem_map.mp hi
  exact hS _ (Rect.mem_set_unit.mp hj)

theorem rd_eq {b : Ref sig .tc} {off o z : Fin b.ty.shape.rank → ℕ} {h : ∀ a, off a + z a ≤ b.ty.shape.size a} (ho : off = o) (f : b.ty.Contents (Elt F)) :
    (Memref.whole b).view.readAt (Elt F) (Rect.unit off z h).toLoadRect f = rdA o z (ho ▸ h) f := rdA_eq ho _ f

theorem wr_eq {b : Ref sig .tc} {off o z : Fin b.ty.shape.rank → ℕ} {h : ∀ a, off a + z a ≤ b.ty.shape.size a} (ho : off = o)
    (f : b.ty.Contents (Elt F)) (w : (Rect.unit off z h).shape.Idx → Elt F b.ty.elt) :
    ((Memref.whole b).access (Rect.unit off z h)).write (Elt F) f w Finset.univ = wrA o z (ho ▸ h) f w := wrA_eq ho _ f w

theorem st_ld {sp : CoreSpace} {s : Shape} {e : EltTy} {m : Memref sig .tc sp s e} {r : LoadRect s} {hl : m.view.LoadsAt r}
    {k : (r.shape.Idx → Elt F e) → Prog (TpuEff nD τ sig (Elt F) Λ₀ .tc) α} {Q : α → sProp 𝕄} {P : sProp 𝕄}
    {S : Finset (Idx (m.view.loc (c : Thread nD τ)))} {q : PosShare TreeShare} {f : Buf (Elt F) (m.view.loc (c : Thread nD τ))}
    {v : r.shape.Idx → Elt F e}
    (h : Look P (m.view.loc (c : Thread nD τ)) S q f) (hS : m.view.setOn r.set ⊆ S) (hv : m.view.readAt (Elt F) r f = v) (hk : P ⊢ WP c (k v) Q) :
    P ⊢ WP c (Prog.lift (.load m r hl) >>= k) Q := by
  subst hv
  exact st_load h hS hk

theorem st_st {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {Q : α → sProp 𝕄} {P : sProp 𝕄}
    {f g : Buf (Elt F) ((m.access r).loc (c : Thread nD τ))}
    {P' : Buf (Elt F) ((m.access r).loc (c : Thread nD τ)) → sProp 𝕄}
    (h : Lens P ((m.access r).loc (c : Thread nD τ)) Finset.univ f P') (hv : (m.access r).write (Elt F) f w Finset.univ = g)
    (hk : P' g ⊢ WP c (k ⟨⟩) Q) :
    P ⊢ WP c (Prog.lift (.store m r w Finset.univ hx hm) >>= k) Q := by
  subst hv
  exact st_store h (Finset.subset_univ _) hk

/-- A counted loop at the head of a program. -/
theorem st_for {σ₀ : Type} {n : ℕ} {l : Scf.Loop n} {hok : l.OK} {init : σ₀} {body : Fin l.trips → σ₀ → Prog (TpuEff nD τ sig (Elt F) Λ₀ .tc) σ₀}
    {kk : σ₀ → Prog (TpuEff nD τ sig (Elt F) Λ₀ .tc) α} {P : sProp 𝕄} {Q : α → sProp 𝕄} (J : ℕ → σ₀ → sProp 𝕄) (h0 : P ⊢ J 0 init)
    (hbody : ∀ (k : Fin l.trips) (acc : σ₀), J k acc ⊢ WP c (body k acc) (J (k.val + 1))) (hk : ∀ acc, J l.trips acc ⊢ WP c (kk acc) Q) :
    P ⊢ WP c (Scf.Loop.for l hok init body >>= kk) Q := by
  refine (h0.trans (Scf.wp_for_bind _ _ _ l.lb l.ub l.st hok init body J hbody (kk := kk) (Q := Q))).trans ?_
  iintro H
  iapply H
  iintro %acc HJ
  iapply (hk acc)
  iexact HJ

end Rects

end Cert.KernelIdeal.Hand
end
-- ==== Proof.Inner.lean ====
/-
  Hand-written, untrusted. The two loops of the first matrix product, chunk by chunk.
-/
module

public import proofs.«01_k».proof.Proof.Access

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

variable {c : Dev nD} {I : Arr F} {K : Once F} {σ : State F} {w a : ℕ}

theorem st_rd {α : Type} {sp : CoreSpace} {s : Shape} {e : EltTy} {m : Memref sig .tc sp s e} {off o z : Fin s.rank → ℕ} {h : ∀ a, off a + z a ≤ s.size a} (ho : off = o)
    {hl : m.view.LoadsAt (Rect.unit off z h).toLoadRect} {k : ((Rect.unit off z h).shape.Idx → Elt F e) → Prog (TpuEff nD τ sig (Elt F) Λ₀ .tc) α}
    {Q : α → sProp 𝕄} {P : sProp 𝕄} {S : Finset (Idx (m.view.loc (c : Thread nD τ)))} {q : PosShare TreeShare} {f : Buf (Elt F) (m.view.loc (c : Thread nD τ))}
    {v : (Rect.unit o z (ho ▸ h)).shape.Idx → Elt F e}
    (hL : Look P (m.view.loc (c : Thread nD τ)) S q f) (hS : m.view.setOn (Rect.unit o z (ho ▸ h)).toLoadRect.set ⊆ S)
    (hv : m.view.readAt (Elt F) (Rect.unit o z (ho ▸ h)).toLoadRect f = v) (hk : P ⊢ WP c (k v) Q) :
    P ⊢ WP c (Prog.lift (.load m (Rect.unit off z h).toLoadRect hl) >>= k) Q := by
  subst ho
  exact st_ld hL hS hv hk

/-! ## What the first matrix product leaves -/

theorem b2 {m n o p q r : ℕ} (h0 : o + q ≤ m) (h1 : p + r ≤ n) : ∀ a : Fin 2, ![o, p] a + ![q, r] a ≤ ![m, n] a :=
  Fin.forall_fin_two.mpr ⟨h0, h1⟩

/-- The product's column block at `p` after rows `o … o + 1023` of the weights. -/
def hCol (X : FVec F S32x7168 .fp8e4m3) (W : FVec F S7168x4096 .fp8e4m3) (o : ℕ) (ho : o + 1024 ≤ 7168) (p : ℕ) (hp : p + 512 ≤ 4096)
    (h : FVec F S32x4096 .f32) : FVec F S32x4096 .f32 :=
  wrA (s := S32x4096) ![0, p] S32x512.size (b2 le_rfl hp) h (k0_pay2 (rdA (s := S32x4096) ![0, p] S32x512.size (b2 le_rfl hp) h)
    (rdA (s := S32x7168) ![0, o] S32x1024.size (b2 le_rfl ho) X) (rdA (s := S7168x4096) ![o, p] S1024x512.size (b2 ho hp) W))

/-- The same for rows `o … o + 511`. -/
def hCol' (X : FVec F S32x7168 .fp8e4m3) (W : FVec F S7168x4096 .fp8e4m3) (o : ℕ) (ho : o + 512 ≤ 7168) (p : ℕ) (hp : p + 512 ≤ 4096)
    (h : FVec F S32x4096 .f32) : FVec F S32x4096 .f32 :=
  wrA (s := S32x4096) ![0, p] S32x512.size (b2 le_rfl hp) h (k0_pay9 (rdA (s := S32x4096) ![0, p] S32x512.size (b2 le_rfl hp) h)
    (rdA (s := S32x7168) ![0, o] S32x512.size (b2 le_rfl ho) X) (rdA (s := S7168x4096) ![o, p] S512x512.size (b2 ho hp) W))

/-- All eight column blocks, one after another. -/
def cols8 (f : (p : ℕ) → p + 512 ≤ 4096 → FVec F S32x4096 .f32 → FVec F S32x4096 .f32) (h : FVec F S32x4096 .f32) : FVec F S32x4096 .f32 :=
  f 3584 (by decide) (f 3072 (by decide) (f 2560 (by decide) (f 2048 (by decide) (f 1536 (by decide) (f 1024 (by decide) (f 512 (by decide)
    (f 0 (by decide) h)))))))

/-- The product after `n` blocks of 1024 rows. -/
def hUp (X : FVec F S32x7168 .fp8e4m3) (W : FVec F S7168x4096 .fp8e4m3) (h : FVec F S32x4096 .f32) : ℕ → FVec F S32x4096 .f32
  | 0 => h
  | n + 1 => if hn : n < 6 then cols8 (hCol X W (1024 * n) (by omega)) (hUp X W h n) else hUp X W h n

/-- … and after `n` more blocks of 512 rows. -/
def hUp' (X : FVec F S32x7168 .fp8e4m3) (W : FVec F S7168x4096 .fp8e4m3) (h : FVec F S32x4096 .f32) : ℕ → FVec F S32x4096 .f32
  | 0 => h
  | n + 1 => if hn : n < 2 then cols8 (hCol' X W (6144 + 512 * n) (by omega)) (hUp' X W h n) else hUp' X W h n

theorem b3 {x m n o p q r y z : ℕ} (h : x + y ≤ z) (h0 : o + q ≤ m) (h1 : p + r ≤ n) : ∀ a : Fin 3, ![x, o, p] a + ![y, q, r] a ≤ ![z, m, n] a := by
  intro a
  match a with
  | ⟨0, _⟩ => exact h
  | ⟨1, _⟩ => exact h0
  | ⟨2, _⟩ => exact h1

/-- The LoRA correction's column block at `p`. -/
def dCol (M : FVec F S32x128 .bf16) (lb : FVec F S4x128x4096 .bf16) (e : Fin 4) (p : ℕ) (hp : p + 512 ≤ 4096) (d : FVec F S32x4096 .f32) :
    FVec F S32x4096 .f32 :=
  wrA (s := S32x4096) ![0, p] S32x512.size (b2 le_rfl hp) d (k0_pay1 M (rdA (s := S4x128x4096) ![e.val, 0, p] S1x128x512.size (b3 e.isLt le_rfl hp) lb))

/-- The LoRA correction after `n` column blocks. -/
def dUp (M : FVec F S32x128 .bf16) (lb : FVec F S4x128x4096 .bf16) (e : Fin 4) (d : FVec F S32x4096 .f32) : ℕ → FVec F S32x4096 .f32
  | 0 => d
  | n + 1 => if hn : n < 8 then dCol M lb e (512 * n) (by omega) (dUp M lb e d n) else dUp M lb e d n

/-! ## One column block of a trip -/

section Chunk
variable {α : Type}

theorem st_col {R : sProp 𝕄} {zx : Fin 2 → ℕ} {offx ox : Fin 2 → ℕ} {hx : ∀ a, offx a + zx a ≤ S32x7168.size a} {zw : Fin 2 → ℕ} {offw ow : Fin 2 → ℕ}
    {hw : ∀ a, offw a + zw a ≤ S7168x4096.size a} {oh : Fin 2 → ℕ} {hh : ∀ a, oh a + S32x512.size a ≤ S32x4096.size a}
    {pay : FVec F S32x512 .f32 → ((Rect.unit (s := S32x7168) offx zx hx).shape.Idx → F .fp8e4m3) →
      ((Rect.unit (s := S7168x4096) offw zw hw).shape.Idx → F .fp8e4m3) → FVec F S32x512 .f32}
    (hox : offx = ox) (how : offw = ow) (ha : a ≤ 46)
    (hS : ∀ i : S7168x4096.Idx, (∀ a, ow a ≤ (i a).val ∧ (i a).val < ow a + zw a) → i ∈ upSeen w)
    {hl1 hl2 hl3 hl4 hs1 hs2} {kk : Prog (TpuEff nD τ sig (Elt F) Λ₀ .tc) α} {Q : α → sProp 𝕄}
    (g : FVec F S32x4096 .f32) (hg : wrA (s := S32x4096) oh S32x512.size hh σ.h (pay (rdA (s := S32x4096) oh S32x512.size hh σ.h)
      (rdA (s := S32x7168) ox zx (hox ▸ hx) K.codes) (rdA (s := S7168x4096) ow zw (how ▸ hw) (upVal I.wu σ.e))) = g)
    (hk : St c I K false R { σ with h := g } w a ⊢ WP c kk Q) :
    St c I K false R σ w a ⊢ WP c (Prog.lift (.load (e := .f32) A28 (Rect.unit (s := S32x4096) oh S32x512.size hh).toLoadRect hl1) >>= fun (v : FVec F S32x512 .f32) =>
      Prog.lift (.load (e := .fp8e4m3) A23 (Rect.unit (s := S32x7168) offx zx hx).toLoadRect hl2) >>= fun (x : (Rect.unit (s := S32x7168) offx zx hx).shape.Idx → F .fp8e4m3) =>
      Prog.lift (.load (e := .fp8e4m3) A13 (Rect.unit (s := S7168x4096) offw zw hw).toLoadRect hl3) >>= fun (u : (Rect.unit (s := S7168x4096) offw zw hw).shape.Idx → F .fp8e4m3) =>
      Prog.lift (.load (e := .f32) A28 (Rect.unit (s := S32x4096) oh S32x512.size hh).toLoadRect hl4) >>= fun (_ : FVec F S32x512 .f32) =>
      Prog.lift (.store (e := .f32) A28 (Rect.unit (s := S32x4096) oh S32x512.size hh) (pay v x u) Finset.univ hs1 hs2) >>= fun _ => kk) Q := by
  subst hox how hg
  refine st_ld (lk_h c I K false σ w a R) (Finset.subset_univ _) (rd_eq rfl _) ?_
  refine st_ld (lk_codes c I K σ w a R) (Finset.subset_univ _) (rd_eq rfl _) ?_
  refine st_ld (lk_up ha) (rect_sub hS) (rd_eq rfl _) ?_
  refine st_ld (lk_h c I K false σ w a R) (Finset.subset_univ _) (rd_eq rfl _) ?_
  exact st_st (ln_h c I K false σ w a R) (wr_eq rfl _ _) hk

end Chunk

/-! ## A trip of the first loop -/

theorem off33_eq : ∀ (t : Fin k0_t5_loop.trips) (j : Fin 4), k0_off33 t (BitVec.ofNat 32 j.val) = ![4 * t.val + j.val] := by decide
theorem off36_eq : ∀ t : Fin k0_t5_loop.trips, k0_off36 t = ![4 * t.val + 7] := by decide
theorem off37_eq : ∀ t : Fin k0_t5_loop.trips, k0_off37 t = ![256 * (4 * t.val + 7), 0] := by decide
theorem off38_eq : ∀ (e : Fin 4) (t : Fin k0_t5_loop.trips), k0_off38 (ev e) t = ![e.val, 256 * (4 * t.val + 7), 0] := by decide
theorem cond7_iff : ∀ t : Fin k0_t5_loop.trips, k0_cond7 t = 1#1 ↔ 1 ≤ t.val := by decide
theorem cond8_not : ∀ t : Fin k0_t5_loop.trips, ¬k0_cond8 t = 1#1 := by decide
theorem off42_eq : ∀ t : Fin k0_t5_loop.trips, k0_off42 t = ![4 * t.val + 8] := by decide
theorem off43_eq : ∀ t : Fin k0_t5_loop.trips, k0_off43 t = ![256 * (4 * t.val + 8), 0] := by decide
theorem off44_eq : ∀ (e : Fin 4) (t : Fin k0_t5_loop.trips), k0_off44 (ev e) t = ![e.val, 256 * (4 * t.val + 8), 0] := by decide
theorem cond9_iff : ∀ t : Fin k0_t5_loop.trips, k0_cond9 t = 1#1 ↔ 1 ≤ t.val ∧ t.val ≤ 4 := by decide
theorem off48_eq : ∀ t : Fin k0_t5_loop.trips, k0_off48 t = ![4 * t.val + 9] := by decide
theorem off49_eq : ∀ t : Fin k0_t5_loop.trips, k0_off49 t = ![256 * (4 * t.val + 9), 0] := by decide
theorem off50_eq : ∀ (e : Fin 4) (t : Fin k0_t5_loop.trips), k0_off50 (ev e) t = ![e.val, 256 * (4 * t.val + 9), 0] := by decide
theorem cond11_iff : ∀ t : Fin k0_t5_loop.trips, k0_cond11 t = 1#1 ↔ 1 ≤ t.val ∧ t.val ≤ 4 := by decide
theorem off54_eq : ∀ t : Fin k0_t5_loop.trips, k0_off54 t = ![4 * t.val + 10] := by decide
theorem off55_eq : ∀ t : Fin k0_t5_loop.trips, k0_off55 t = ![256 * (4 * t.val + 10), 0] := by decide
theorem off56_eq : ∀ (e : Fin 4) (t : Fin k0_t5_loop.trips), k0_off56 (ev e) t = ![e.val, 256 * (4 * t.val + 10), 0] := by decide
theorem cond13_iff : ∀ t : Fin k0_t5_loop.trips, k0_cond13 t = 1#1 ↔ 1 ≤ t.val ∧ t.val ≤ 4 := by decide
theorem cond10_iff : ∀ t : Fin k0_t5_loop.trips, k0_cond10 t = 1#1 ↔ t.val = 5 := by decide
theorem cond12_iff : ∀ t : Fin k0_t5_loop.trips, k0_cond12 t = 1#1 ↔ t.val = 5 := by decide
theorem cond14_iff : ∀ t : Fin k0_t5_loop.trips, k0_cond14 t = 1#1 ↔ t.val = 5 := by decide
theorem off45_eq : ∀ t : Fin k0_t5_loop.trips, t.val = 5 → k0_off45 t = ![0] := by decide
theorem off46_eq : ∀ t : Fin k0_t5_loop.trips, t.val = 5 → k0_off46 t = ![0, 0, 0] := by decide
theorem off47_eq : ∀ (e : Fin 4) (t : Fin k0_t5_loop.trips), t.val = 5 → k0_off47 (ev e) t = ![e.val, 0, 512 * 0] := by decide
theorem off51_eq : ∀ t : Fin k0_t5_loop.trips, t.val = 5 → k0_off51 t = ![1] := by decide
theorem off52_eq : ∀ t : Fin k0_t5_loop.trips, t.val = 5 → k0_off52 t = ![1, 0, 0] := by decide
theorem off53_eq : ∀ (e : Fin 4) (t : Fin k0_t5_loop.trips), t.val = 5 → k0_off53 (ev e) t = ![e.val, 0, 512 * 1] := by decide
theorem off57_eq : ∀ t : Fin k0_t5_loop.trips, t.val = 5 → k0_off57 t = ![2] := by decide
theorem off58_eq : ∀ t : Fin k0_t5_loop.trips, t.val = 5 → k0_off58 t = ![2, 0, 0] := by decide
theorem off59_eq : ∀ (e : Fin 4) (t : Fin k0_t5_loop.trips), t.val = 5 → k0_off59 (ev e) t = ![e.val, 0, 512 * 2] := by decide
theorem off60_eq : ∀ (e : Fin 4) (t : Fin k0_t5_loop.trips), k0_off60 (ev e) t = ![e.val, 0, 512 * t.val] := by decide
theorem off61_eq : ∀ t : Fin k0_t5_loop.trips, k0_off61 t = ![0, 512 * t.val] := by decide
theorem off62_eq : ∀ t : Fin k0_t5_loop.trips, k0_off62 t = ![0, 1024 * t.val] := by decide
theorem off63_eq : ∀ t : Fin k0_t5_loop.trips, k0_off63 t = ![1024 * t.val, 0] := by decide
theorem off64_eq : ∀ t : Fin k0_t5_loop.trips, k0_off64 t = ![1024 * t.val, 512] := by decide
theorem off65_eq : ∀ t : Fin k0_t5_loop.trips, k0_off65 t = ![1024 * t.val, 1024] := by decide
theorem off66_eq : ∀ t : Fin k0_t5_loop.trips, k0_off66 t = ![1024 * t.val, 1536] := by decide
theorem off67_eq : ∀ t : Fin k0_t5_loop.trips, k0_off67 t = ![1024 * t.val, 2048] := by decide
theorem off68_eq : ∀ t : Fin k0_t5_loop.trips, k0_off68 t = ![1024 * t.val, 2560] := by decide
theorem off69_eq : ∀ t : Fin k0_t5_loop.trips, k0_off69 t = ![1024 * t.val, 3072] := by decide
theorem off70_eq : ∀ t : Fin k0_t5_loop.trips, k0_off70 t = ![1024 * t.val, 3584] := by decide

/-- The rows of trip `t` have been waited for. -/
theorem seen5 {p : ℕ} {z : Fin 2 → ℕ} (t w : ℕ) (hw : w = 4 * t + 6) (hz : z 0 = 1024) (i : S7168x4096.Idx)
    (hi : ∀ a, (![1024 * t, p] : Fin 2 → ℕ) a ≤ (i a).val ∧ (i a).val < (![1024 * t, p] : Fin 2 → ℕ) a + z a) : i ∈ upSeen w := by
  have h := hi 0
  rw [hz] at h
  change 1024 * t ≤ (i 0).val ∧ (i 0).val < 1024 * t + 1024 at h
  simp only [upSeen, Finset.mem_filter, Finset.mem_univ, true_and]
  omega

/-- The rectangle of expert `e` in the second LoRA factor is there. -/
theorem seenLb {p : ℕ} {z : Fin 3 → ℕ} (e : Fin 4) (hz : z 0 = 1) (i : S4x128x4096.Idx)
    (hi : ∀ a, (![e.val, 0, p] : Fin 3 → ℕ) a ≤ (i a).val ∧ (i a).val < (![e.val, 0, p] : Fin 3 → ℕ) a + z a) : i ∈ lbEarly ∪ lbLateOf e := by
  have h := hi 0
  rw [hz] at h
  change e.val ≤ (i 0).val ∧ (i 0).val < e.val + 1 at h
  simp only [lbEarly, lbLateOf, Finset.mem_union, Finset.mem_filter, Finset.mem_univ, true_and]
  omega

/-- What a conditional start needs of its condition. -/
theorem start_no {b : Prop} {p : Prop} (h : b ↔ p) (hb : ¬b) : ¬p := fun hp => hb (h.mpr hp)

theorem t5_part1 {R : sProp 𝕄} (hw6 : k0_chk6 (ev σ.e)) (a0 a1 : BitVec 32) (t : Fin k0_t5_loop.trips) {Q}
    (hw : w = 4 * t.val + 2) (ha : a = max 13 (w + 7)) (hk : ∀ v, St c I K false R σ (w + 1) (max 13 (w + 8)) ⊢ Q v) :
    St c I K false R σ w a ⊢ WP c (onK (k0_part1_skel (F := F)) (ev σ.e) hw6 a0 a1 t) Q := by
  have ht : t.val < 6 := t.isLt
  unfold onK k0_part1_skel
  refine st_wait_up ⟨4 * t.val, by omega⟩ hw (by omega) (by omega) (off33_eq t 0) ?_
  refine st_if2 (max 13 (w + 8)) (fun h => by have := start_no (cond7_iff t) h; omega) (fun h => by have := (cond7_iff t).mp h; omega)
    (fun h hJ => st_up ⟨4 * t.val + 7, by have := (cond7_iff t).mp h; omega⟩ σ.e
      (by have := (cond7_iff t).mp h; exact ⟨by show 4 * t.val + 7 + 2 < 44; omega, .inl ⟨by show a = 4 * t.val + 7 + 2; omega, by show w + 1 ≤ 4 * t.val + 7 + 2; omega, rfl⟩⟩)
      (off37_eq t) (off38_eq σ.e t) (off36_eq t) hJ) ?_
  refine st_if_not (cond8_not t) ?_
  exact st_pure (hk _)

theorem t5_part2 {R : sProp 𝕄} (hw6 : k0_chk6 (ev σ.e)) (v588 : BitVec 32) (t : Fin k0_t5_loop.trips) {Q}
    (hw : w = 4 * t.val + 3) (ha : a = max 13 (w + 7)) (hk : ∀ v, St c I K false R σ (w + 2) (max 13 (w + 8)) ⊢ Q v) :
    St c I K false R σ w a ⊢ WP c (onK (k0_part2_skel (F := F)) (ev σ.e) hw6 t v588) Q := by
  have ht : t.val < 6 := t.isLt
  unfold onK k0_part2_skel
  refine st_wait_up ⟨4 * t.val + 1, by omega⟩ hw (by omega) (by omega) (off33_eq t 1) ?_
  refine st_if2 (if t.val ≤ 4 then max 13 (w + 8) else a) (fun h => by have := start_no (cond9_iff t) h; split <;> omega)
    (fun h => by have := (cond9_iff t).mp h; rw [if_pos (by omega)]; omega)
    (fun h hJ => st_up ⟨4 * t.val + 8, by have := (cond9_iff t).mp h; omega⟩ σ.e
      (by have := (cond9_iff t).mp h; exact ⟨by show 4 * t.val + 8 + 2 < 44; omega, .inl ⟨by show a = 4 * t.val + 8 + 2; omega, by show w + 1 ≤ 4 * t.val + 8 + 2; omega, rfl⟩⟩)
      (off43_eq t) (off44_eq σ.e t) (off42_eq t) hJ) ?_
  refine st_if2 (max 13 (w + 8)) (fun h => by have := start_no (cond10_iff t) h; rw [if_pos (by omega)])
    (fun h => by have := (cond10_iff t).mp h; rw [if_neg (by omega)]; omega)
    (fun h hJ => by
      have h5 := (cond10_iff t).mp h
      have e : (if t.val ≤ 4 then max 13 (w + 8) else a) = 30 := by rw [if_neg (by omega)]; omega
      rw [e] at hJ ⊢
      exact st_dn ⟨0, by omega⟩ σ.e ⟨by omega, .inl ⟨rfl, by show w + 1 ≤ 30; omega, rfl⟩⟩ (off46_eq t h5) (off47_eq σ.e t h5) (off45_eq t h5) hJ) ?_
  refine st_wait_up ⟨4 * t.val + 2, by omega⟩ (by show w + 1 = 4 * t.val + 2 + 2; omega) (by omega) (by omega) (off33_eq t 2) ?_
  exact st_pure (hk _)

theorem t5_part3 {R : sProp 𝕄} (hw6 : k0_chk6 (ev σ.e)) (v588 v651 : BitVec 32) (v650 v652 v653 : BitVec 1) (t : Fin k0_t5_loop.trips) {Q}
    (hw : w = 4 * t.val + 5) (ha : a = max 13 (w + 6)) (hk : ∀ v, St c I K false R σ (w + 1) (max 13 (w + 8)) ⊢ Q v) :
    St c I K false R σ w a ⊢ WP c (onK (k0_part3_skel (F := F)) (ev σ.e) hw6 t v588 v650 v651 v652 v653) Q := by
  have ht : t.val < 6 := t.isLt
  unfold onK k0_part3_skel
  refine st_if2 (if t.val ≤ 4 then max 13 (w + 7) else a) (fun h => by have := start_no (cond11_iff t) h; split <;> omega)
    (fun h => by have := (cond11_iff t).mp h; rw [if_pos (by omega)]; omega)
    (fun h hJ => st_up ⟨4 * t.val + 9, by have := (cond11_iff t).mp h; omega⟩ σ.e
      (by have := (cond11_iff t).mp h; exact ⟨by show 4 * t.val + 9 + 2 < 44; omega, .inl ⟨by show a = 4 * t.val + 9 + 2; omega, by show w ≤ 4 * t.val + 9 + 2; omega, rfl⟩⟩)
      (off49_eq t) (off50_eq σ.e t) (off48_eq t) hJ) ?_
  refine st_if2 (max 13 (w + 7)) (fun h => by have := start_no (cond12_iff t) h; rw [if_pos (by omega)])
    (fun h => by have := (cond12_iff t).mp h; rw [if_neg (by omega)]; omega)
    (fun h hJ => by
      have h5 := (cond12_iff t).mp h
      have e : (if t.val ≤ 4 then max 13 (w + 7) else a) = 31 := by rw [if_neg (by omega)]; omega
      rw [e] at hJ ⊢
      exact st_dn ⟨1, by omega⟩ σ.e ⟨by omega, .inl ⟨rfl, by show w ≤ 31; omega, rfl⟩⟩ (off52_eq t h5) (off53_eq σ.e t h5) (off51_eq t h5) hJ) ?_
  refine st_wait_up ⟨4 * t.val + 3, by omega⟩ (by show w = 4 * t.val + 3 + 2; omega) (by omega) (by omega) (off33_eq t 3) ?_
  refine st_if2 (if t.val ≤ 4 then max 13 (w + 8) else max 13 (w + 7)) (fun h => by have := start_no (cond13_iff t) h; split <;> omega)
    (fun h => by have := (cond13_iff t).mp h; rw [if_pos (by omega)]; omega)
    (fun h hJ => st_up ⟨4 * t.val + 10, by have := (cond13_iff t).mp h; omega⟩ σ.e
      (by have := (cond13_iff t).mp h; exact ⟨by show 4 * t.val + 10 + 2 < 44; omega, .inl ⟨by show max 13 (w + 7) = 4 * t.val + 10 + 2; omega, by show w + 1 ≤ 4 * t.val + 10 + 2; omega, rfl⟩⟩)
      (off55_eq t) (off56_eq σ.e t) (off54_eq t) hJ) ?_
  refine st_if2 (max 13 (w + 8)) (fun h => by have := start_no (cond14_iff t) h; rw [if_pos (by omega)])
    (fun h => by have := (cond14_iff t).mp h; rw [if_neg (by omega)]; omega)
    (fun h hJ => by
      have h5 := (cond14_iff t).mp h
      have e : (if t.val ≤ 4 then max 13 (w + 8) else max 13 (w + 7)) = 32 := by rw [if_neg (by omega)]; omega
      rw [e] at hJ ⊢
      exact st_dn ⟨2, by omega⟩ σ.e ⟨by omega, .inl ⟨rfl, by show w + 1 ≤ 32; omega, rfl⟩⟩ (off58_eq t h5) (off59_eq σ.e t h5) (off57_eq t h5) hJ) ?_
  exact st_pure (hk _)

/-- The mask of one expert's adapters, from what is read. -/
abbrev lora (v315 : FVec F S32x128 .f32) (v316 : IVec S32x128 32) (c16 : BitVec 32) (v318 v325 : IVec S32x128 32) (v327 v329 : BitVec 32)
    (v342 : Vec F S1x32x128 .f32) : FVec F S32x128 .bf16 := k0_pay29 v315 v316 c16 v318 v325 v327 v329 v342

theorem t5_trip {R : sProp 𝕄} (hw6 : k0_chk6 (ev σ.e)) (v315 : FVec F S32x128 .f32) (v316 : IVec S32x128 32) (c16 : BitVec 32)
    (v318 v325 : IVec S32x128 32) (v327 v329 : BitVec 32) (v342 : Vec F S1x32x128 .f32) (t : Fin k0_t5_loop.trips) (ht : t.val < 6)
    {Q} (hw : w = 4 * t.val + 2) (ha : a = max 13 (w + 7))
    (hk : St c I K false R { σ with
      delta := dCol (lora v315 v316 c16 v318 v325 v327 v329 v342) I.lb σ.e (512 * t.val) (by omega) σ.delta
      h := cols8 (hCol K.codes (upVal I.wu σ.e) (1024 * t.val) (by omega)) σ.h } (w + 4) (max 13 (w + 11)) ⊢ Q ()) :
    St c I K false R σ w a ⊢ WP c (onK (k0_t5_body (F := F)) (ev σ.e) hw6 v315 v316 c16 v318 v325 v327 v329 v342 t ()) Q := by
  unfold onK k0_t5_body
  rw [k0_part1_eq_skeleton, k0_part2_eq_skeleton, k0_part3_eq_skeleton, k0_part4_eq_skeleton, k0_part5_eq_skeleton]
  refine st_bind (t5_part1 hw6 _ _ t hw ha fun v1 => ?_)
  refine st_bind (t5_part2 hw6 _ t (by omega) (by omega) fun v2 => ?_)
  refine st_bind (t5_part3 hw6 _ _ _ _ _ t (by omega) (by omega) fun v3 => ?_)
  refine st_bind ?_
  unfold k0_part4_skel
  refine st_rd (off60_eq σ.e t) (lk_lb (by omega) (by omega)) (rect_sub (fun i hi => seenLb σ.e rfl i hi)) (rd_eq rfl _) ?_
  refine st_ld (lk_delta c I K false σ _ _ R) (Finset.subset_univ _) rfl ?_
  refine st_st (ln_delta c I K false σ _ _ R) (g := dCol (lora v315 v316 c16 v318 v325 v327 v329 v342) I.lb σ.e (512 * t.val) (by omega) σ.delta) (wr_eq (off61_eq t) _ _) ?_
  refine st_col (off62_eq t) (off63_eq t) (by omega) (fun i hi => seen5 t.val _ (by omega) rfl i hi) (hCol K.codes (upVal I.wu σ.e) (1024 * t.val) (by omega) 0 (by decide) _) rfl ?_
  refine st_col (off62_eq t) (off64_eq t) (by omega) (fun i hi => seen5 t.val _ (by omega) rfl i hi) (hCol K.codes (upVal I.wu σ.e) (1024 * t.val) (by omega) 512 (by decide) _) rfl ?_
  refine st_rd rfl (lk_h c I K false _ _ _ R) (Finset.subset_univ _) (rd_eq rfl _) ?_
  refine st_rd (off62_eq t) (lk_codes c I K _ _ _ R) (Finset.subset_univ _) (rd_eq rfl _) ?_
  refine st_pure ?_
  refine st_bind ?_
  unfold k0_part5_skel
  refine st_rd (off65_eq t) (lk_up (by omega)) (rect_sub (fun i hi => seen5 t.val _ (by omega) rfl i hi)) (rd_eq rfl _) ?_
  refine st_ld (lk_h c I K false _ _ _ R) (Finset.subset_univ _) rfl ?_
  refine st_st (ln_h c I K false _ _ _ R) (g := hCol K.codes (upVal I.wu σ.e) (1024 * t.val) (by omega) 1024 (by decide) _) (wr_eq rfl _ _) ?_
  refine st_col (off62_eq t) (off66_eq t) (by omega) (fun i hi => seen5 t.val _ (by omega) rfl i hi) (hCol K.codes (upVal I.wu σ.e) (1024 * t.val) (by omega) 1536 (by decide) _) rfl ?_
  refine st_col (off62_eq t) (off67_eq t) (by omega) (fun i hi => seen5 t.val _ (by omega) rfl i hi) (hCol K.codes (upVal I.wu σ.e) (1024 * t.val) (by omega) 2048 (by decide) _) rfl ?_
  refine st_rd rfl (lk_h c I K false _ _ _ R) (Finset.subset_univ _) (rd_eq rfl _) ?_
  refine st_rd (off62_eq t) (lk_codes c I K _ _ _ R) (Finset.subset_univ _) (rd_eq rfl _) ?_
  refine st_rd (off68_eq t) (lk_up (by omega)) (rect_sub (fun i hi => seen5 t.val _ (by omega) rfl i hi)) (rd_eq rfl _) ?_
  refine st_pure ?_
  refine st_ld (lk_h c I K false _ _ _ R) (Finset.subset_univ _) rfl ?_
  refine st_st (ln_h c I K false _ _ _ R) (g := hCol K.codes (upVal I.wu σ.e) (1024 * t.val) (by omega) 2560 (by decide) _) (wr_eq rfl _ _) ?_
  refine st_col (off62_eq t) (off69_eq t) (by omega) (fun i hi => seen5 t.val _ (by omega) rfl i hi) (hCol K.codes (upVal I.wu σ.e) (1024 * t.val) (by omega) 3072 (by decide) _) rfl ?_
  refine st_col (off62_eq t) (off70_eq t) (by omega) (fun i hi => seen5 t.val _ (by omega) rfl i hi) (hCol K.codes (upVal I.wu σ.e) (1024 * t.val) (by omega) 3584 (by decide) _) rfl ?_
  refine st_pure ?_
  rw [show max 13 (w + 11) = max 13 (w + 1 + 2 + 8) by omega] at hk
  exact hk
end Cert.KernelIdeal.Hand
end
-- ==== Proof.Inner2.lean ====
/-
  Hand-written, untrusted. The second loop of the first matrix product, and the product as a whole.
-/
module

public import proofs.«01_k».proof.Proof.Inner

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

variable {c : Dev nD} {I : Arr F} {K : Once F} {σ : State F} {w a : ℕ}

theorem off71_eq : ∀ (t : Fin k0_t6_loop.trips) (j : Fin 2), k0_off71 t (BitVec.ofNat 32 j.val) = ![24 + 2 * t.val + j.val] := by decide
theorem cond15_not : ∀ t : Fin k0_t6_loop.trips, ¬k0_cond15 t = 1#1 := by decide
theorem cond17_not : ∀ t : Fin k0_t6_loop.trips, ¬k0_cond17 t = 1#1 := by decide
theorem cond16_yes : ∀ t : Fin k0_t6_loop.trips, k0_cond16 t = 1#1 := by decide
theorem cond18_yes : ∀ t : Fin k0_t6_loop.trips, k0_cond18 t = 1#1 := by decide
theorem off77_eq : ∀ t : Fin k0_t6_loop.trips, k0_off77 t = ![3 + 2 * t.val] := by decide
theorem off78_eq : ∀ t : Fin k0_t6_loop.trips, k0_off78 t = ![3 + 2 * t.val, 0, 0] := by decide
theorem off79_eq : ∀ (e : Fin 4) (t : Fin k0_t6_loop.trips), k0_off79 (ev e) t = ![e.val, 0, 512 * (3 + 2 * t.val)] := by decide
theorem off83_eq : ∀ t : Fin k0_t6_loop.trips, k0_off83 t = ![4 + 2 * t.val] := by decide
theorem off84_eq : ∀ t : Fin k0_t6_loop.trips, k0_off84 t = ![4 + 2 * t.val, 0, 0] := by decide
theorem off85_eq : ∀ (e : Fin 4) (t : Fin k0_t6_loop.trips), k0_off85 (ev e) t = ![e.val, 0, 512 * (4 + 2 * t.val)] := by decide
theorem off86_eq : ∀ (e : Fin 4) (t : Fin k0_t6_loop.trips), k0_off86 (ev e) t = ![e.val, 0, 3072 + 512 * t.val] := by decide
theorem off87_eq : ∀ t : Fin k0_t6_loop.trips, k0_off87 t = ![0, 3072 + 512 * t.val] := by decide
theorem off88_eq : ∀ t : Fin k0_t6_loop.trips, k0_off88 t = ![0, 6144 + 512 * t.val] := by decide
theorem off89_eq : ∀ t : Fin k0_t6_loop.trips, k0_off89 t = ![6144 + 512 * t.val, 0] := by decide
theorem off90_eq : ∀ t : Fin k0_t6_loop.trips, k0_off90 t = ![6144 + 512 * t.val, 512] := by decide
theorem off91_eq : ∀ t : Fin k0_t6_loop.trips, k0_off91 t = ![6144 + 512 * t.val, 1024] := by decide
theorem off92_eq : ∀ t : Fin k0_t6_loop.trips, k0_off92 t = ![6144 + 512 * t.val, 1536] := by decide
theorem off93_eq : ∀ t : Fin k0_t6_loop.trips, k0_off93 t = ![6144 + 512 * t.val, 2048] := by decide
theorem off94_eq : ∀ t : Fin k0_t6_loop.trips, k0_off94 t = ![6144 + 512 * t.val, 2560] := by decide
theorem off95_eq : ∀ t : Fin k0_t6_loop.trips, k0_off95 t = ![6144 + 512 * t.val, 3072] := by decide
theorem off96_eq : ∀ t : Fin k0_t6_loop.trips, k0_off96 t = ![6144 + 512 * t.val, 3584] := by decide

/-- The rows of trip `t` have been waited for. -/
theorem seen6 {p : ℕ} {z : Fin 2 → ℕ} (t w : ℕ) (hw : w = 2 * t + 28) (hz : z 0 = 512) (i : S7168x4096.Idx)
    (hi : ∀ a, (![6144 + 512 * t, p] : Fin 2 → ℕ) a ≤ (i a).val ∧ (i a).val < (![6144 + 512 * t, p] : Fin 2 → ℕ) a + z a) : i ∈ upSeen w := by
  have h := hi 0
  rw [hz] at h
  change 6144 + 512 * t ≤ (i 0).val ∧ (i 0).val < 6144 + 512 * t + 512 at h
  simp only [upSeen, Finset.mem_filter, Finset.mem_univ, true_and]
  omega

theorem t6_trip {R : sProp 𝕄} (hw6 : k0_chk6 (ev σ.e)) (v315 : FVec F S32x128 .f32) (v316 : IVec S32x128 32) (c16 : BitVec 32)
    (v318 v325 : IVec S32x128 32) (v327 v329 : BitVec 32) (v342 : Vec F S1x32x128 .f32) (t : Fin k0_t6_loop.trips) (ht : t.val < 2)
    {Q} (hw : w = 2 * t.val + 26) (ha : a = 2 * t.val + 33)
    (hk : St c I K false R { σ with
      delta := dCol (lora v315 v316 c16 v318 v325 v327 v329 v342) I.lb σ.e (3072 + 512 * t.val) (by omega) σ.delta
      h := cols8 (hCol' K.codes (upVal I.wu σ.e) (6144 + 512 * t.val) (by omega)) σ.h } (w + 2) (a + 2) ⊢ Q ()) :
    St c I K false R σ w a ⊢ WP c (onK (k0_t6_body (F := F)) (ev σ.e) hw6 v315 v316 c16 v318 v325 v327 v329 v342 t ()) Q := by
  unfold onK k0_t6_body
  rw [k0_part6_eq_skeleton, k0_part7_eq_skeleton, k0_part8_eq_skeleton, k0_part9_eq_skeleton]
  refine st_bind ?_
  unfold k0_part6_skel
  refine st_wait_up ⟨24 + 2 * t.val, by omega⟩ (by show w = 24 + 2 * t.val + 2; omega) (by omega) (by omega) (off71_eq t 0) ?_
  refine st_if_not (cond15_not t) ?_
  refine st_if2 (a + 1) (fun h => absurd (cond16_yes t) h) (fun _ => rfl)
    (fun h hJ => st_dn ⟨3 + 2 * t.val, by omega⟩ σ.e
      ⟨by show 3 + 2 * t.val + 30 < 44; omega, .inl ⟨by show a = 3 + 2 * t.val + 30; omega, by show w + 1 ≤ 3 + 2 * t.val + 30; omega, rfl⟩⟩
      (off78_eq t) (off79_eq σ.e t) (off77_eq t) hJ) ?_
  refine st_pure ?_
  refine st_bind ?_
  unfold k0_part7_skel
  refine st_wait_up ⟨24 + 2 * t.val + 1, by omega⟩ (by show w + 1 = 24 + 2 * t.val + 1 + 2; omega) (by omega) (by omega) (off71_eq t 1) ?_
  refine st_if_not (cond17_not t) ?_
  refine st_if2 (a + 2) (fun h => absurd (cond18_yes t) h) (fun _ => rfl)
    (fun h hJ => st_dn ⟨4 + 2 * t.val, by omega⟩ σ.e
      ⟨by show 4 + 2 * t.val + 30 < 44; omega, .inl ⟨by show a + 1 = 4 + 2 * t.val + 30; omega, by show w + 1 + 1 ≤ 4 + 2 * t.val + 30; omega, rfl⟩⟩
      (off84_eq t) (off85_eq σ.e t) (off83_eq t) hJ) ?_
  refine st_rd (off86_eq σ.e t) (lk_lb (by omega) (by omega)) (rect_sub (fun i hi => seenLb σ.e rfl i hi)) (rd_eq rfl _) ?_
  refine st_ld (lk_delta c I K false σ _ _ R) (Finset.subset_univ _) rfl ?_
  refine st_st (ln_delta c I K false σ _ _ R) (g := dCol (lora v315 v316 c16 v318 v325 v327 v329 v342) I.lb σ.e (3072 + 512 * t.val) (by omega) σ.delta) (wr_eq (off87_eq t) _ _) ?_
  refine st_rd rfl (lk_h c I K false _ _ _ R) (Finset.subset_univ _) (rd_eq rfl _) ?_
  refine st_rd (off88_eq t) (lk_codes c I K _ _ _ R) (Finset.subset_univ _) (rd_eq rfl _) ?_
  refine st_pure ?_
  refine st_bind ?_
  unfold k0_part8_skel
  refine st_rd (off89_eq t) (lk_up (by omega)) (rect_sub (fun i hi => seen6 t.val _ (by omega) rfl i hi)) (rd_eq rfl _) ?_
  refine st_ld (lk_h c I K false _ _ _ R) (Finset.subset_univ _) rfl ?_
  refine st_st (ln_h c I K false _ _ _ R) (g := hCol' K.codes (upVal I.wu σ.e) (6144 + 512 * t.val) (by omega) 0 (by decide) _) (wr_eq rfl _ _) ?_
  refine st_col (off88_eq t) (off90_eq t) (by omega) (fun i hi => seen6 t.val _ (by omega) rfl i hi) (hCol' K.codes (upVal I.wu σ.e) (6144 + 512 * t.val) (by omega) 512 (by decide) _) rfl ?_
  refine st_col (off88_eq t) (off91_eq t) (by omega) (fun i hi => seen6 t.val _ (by omega) rfl i hi) (hCol' K.codes (upVal I.wu σ.e) (6144 + 512 * t.val) (by omega) 1024 (by decide) _) rfl ?_
  refine st_rd rfl (lk_h c I K false _ _ _ R) (Finset.subset_univ _) (rd_eq rfl _) ?_
  refine st_rd (off88_eq t) (lk_codes c I K _ _ _ R) (Finset.subset_univ _) (rd_eq rfl _) ?_
  refine st_rd (off92_eq t) (lk_up (by omega)) (rect_sub (fun i hi => seen6 t.val _ (by omega) rfl i hi)) (rd_eq rfl _) ?_
  refine st_pure ?_
  refine st_bind ?_
  unfold k0_part9_skel
  refine st_ld (lk_h c I K false _ _ _ R) (Finset.subset_univ _) rfl ?_
  refine st_st (ln_h c I K false _ _ _ R) (g := hCol' K.codes (upVal I.wu σ.e) (6144 + 512 * t.val) (by omega) 1536 (by decide) _) (wr_eq rfl _ _) ?_
  refine st_col (off88_eq t) (off93_eq t) (by omega) (fun i hi => seen6 t.val _ (by omega) rfl i hi) (hCol' K.codes (upVal I.wu σ.e) (6144 + 512 * t.val) (by omega) 2048 (by decide) _) rfl ?_
  refine st_col (off88_eq t) (off94_eq t) (by omega) (fun i hi => seen6 t.val _ (by omega) rfl i hi) (hCol' K.codes (upVal I.wu σ.e) (6144 + 512 * t.val) (by omega) 2560 (by decide) _) rfl ?_
  refine st_col (off88_eq t) (off95_eq t) (by omega) (fun i hi => seen6 t.val _ (by omega) rfl i hi) (hCol' K.codes (upVal I.wu σ.e) (6144 + 512 * t.val) (by omega) 3072 (by decide) _) rfl ?_
  refine st_pure ?_
  refine st_col (off88_eq t) (off96_eq t) (by omega) (fun i hi => seen6 t.val _ (by omega) rfl i hi) (hCol' K.codes (upVal I.wu σ.e) (6144 + 512 * t.val) (by omega) 3584 (by decide) _) rfl ?_
  refine st_pure ?_
  exact hk

/-! ## The first matrix product as a whole -/

theorem hUp_succ {X : FVec F S32x7168 .fp8e4m3} {W : FVec F S7168x4096 .fp8e4m3} {h : FVec F S32x4096 .f32} {n : ℕ} (hn : n < 6) :
    hUp X W h (n + 1) = cols8 (hCol X W (1024 * n) (by omega)) (hUp X W h n) := dif_pos hn
theorem hUp'_succ {X : FVec F S32x7168 .fp8e4m3} {W : FVec F S7168x4096 .fp8e4m3} {h : FVec F S32x4096 .f32} {n : ℕ} (hn : n < 2) :
    hUp' X W h (n + 1) = cols8 (hCol' X W (6144 + 512 * n) (by omega)) (hUp' X W h n) := dif_pos hn
theorem dUp_succ {M : FVec F S32x128 .bf16} {lb : FVec F S4x128x4096 .bf16} {e : Fin 4} {d : FVec F S32x4096 .f32} {n : ℕ} (hn : n < 8) :
    dUp M lb e d (n + 1) = dCol M lb e (512 * n) (by omega) (dUp M lb e d n) := dif_pos hn
theorem dUp_succ' {M : FVec F S32x128 .bf16} {lb : FVec F S4x128x4096 .bf16} {e : Fin 4} {d : FVec F S32x4096 .f32} {n : ℕ} (hn : n < 2) :
    dUp M lb e d (6 + n + 1) = dCol M lb e (3072 + 512 * n) (by omega) (dUp M lb e d (6 + n)) := by
  rw [dUp_succ (by omega)]
  congr 1
  omega

/-- A buffer filled with zeros. -/
def hZero (h : FVec F S32x4096 .f32) : FVec F S32x4096 .f32 := wrA (s := S32x4096) ![0, 0] S32x4096.size (b2 (by decide) (by decide)) h k0_pay30

/-- The product of the codes with one expert's first weights, as the two loops leave it. -/
def hAll (X : FVec F S32x7168 .fp8e4m3) (W : FVec F S7168x4096 .fp8e4m3) (h : FVec F S32x4096 .f32) : FVec F S32x4096 .f32 := hUp' X W (hUp X W (hZero h) 6) 2

theorem mm1 {α : Type} {R : sProp 𝕄} (hw6 : k0_chk6 (ev σ.e)) (v315 : FVec F S32x128 .f32) (v316 : IVec S32x128 32) (c16 : BitVec 32)
    (v318 v325 : IVec S32x128 32) (v327 v329 : BitVec 32) (v342 : Vec F S1x32x128 .f32) {Q : α → sProp 𝕄} {kk : Unit → Prog (TpuEff nD τ sig (Elt F) Λ₀ .tc) α}
    (hw : w = 2) (ha : a = 13)
    (hk : St c I K false R { σ with
      delta := dUp (lora v315 v316 c16 v318 v325 v327 v329 v342) I.lb σ.e σ.delta 8
      h := hUp' K.codes (upVal I.wu σ.e) (hUp K.codes (upVal I.wu σ.e) σ.h 6) 2 } 30 37 ⊢ WP c (kk ()) Q) :
    St c I K false R σ w a ⊢ WP c (Scf.Loop.for k0_t5_loop k0_t5_ok () (onK (k0_t5_body (F := F)) (ev σ.e) hw6 v315 v316 c16 v318 v325 v327 v329 v342) >>= fun _ =>
      Scf.Loop.for k0_t6_loop k0_t6_ok () (onK (k0_t6_body (F := F)) (ev σ.e) hw6 v315 v316 c16 v318 v325 v327 v329 v342) >>= kk) Q := by
  subst hw ha
  refine st_for (fun n _ => St c I K false R { σ with
      delta := dUp (lora v315 v316 c16 v318 v325 v327 v329 v342) I.lb σ.e σ.delta n
      h := hUp K.codes (upVal I.wu σ.e) σ.h n } (4 * n + 2) (max 13 (4 * n + 9))) .rfl (fun t _ => ?_) fun _ => ?_
  · have ht : t.val < 6 := t.isLt
    refine t5_trip (σ := { σ with
      delta := dUp (lora v315 v316 c16 v318 v325 v327 v329 v342) I.lb σ.e σ.delta t.val
      h := hUp K.codes (upVal I.wu σ.e) σ.h t.val }) hw6 v315 v316 c16 v318 v325 v327 v329 v342 t ht rfl rfl ?_
    rw [dUp_succ (by omega), hUp_succ ht]
    exact .rfl
  refine st_for (fun n _ => St c I K false R { σ with
      delta := dUp (lora v315 v316 c16 v318 v325 v327 v329 v342) I.lb σ.e σ.delta (6 + n)
      h := hUp' K.codes (upVal I.wu σ.e) (hUp K.codes (upVal I.wu σ.e) σ.h 6) n } (2 * n + 26) (2 * n + 33)) .rfl (fun t _ => ?_) fun _ => hk
  have ht : t.val < 2 := t.isLt
  refine t6_trip (σ := { σ with
      delta := dUp (lora v315 v316 c16 v318 v325 v327 v329 v342) I.lb σ.e σ.delta (6 + t.val)
      h := hUp' K.codes (upVal I.wu σ.e) (hUp K.codes (upVal I.wu σ.e) σ.h 6) t.val }) hw6 v315 v316 c16 v318 v325 v327 v329 v342 t ht rfl rfl ?_
  rw [← Nat.add_assoc, dUp_succ' ht, hUp'_succ ht]
  exact .rfl

end Cert.KernelIdeal.Hand
end
-- ==== Proof.Act.lean ====
/-
  Hand-written, untrusted. One expert: what is read before its products, and the gated activation between them.
-/
module

public import proofs.«01_k».proof.Proof.Inner2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

section Steps2
variable {c : Dev nD} {α : Type}

/-- A scalar read. -/
theorem st_smem {P : sProp 𝕄} {s : Shape} {e : EltTy} {m : Memref sig .tc .smem s e} {r : Rect s} {h1 : r.shape.numel = 1} {hp : e.packing = 1}
    {k : Elt F e → Prog (TpuEff nD τ sig (Elt F) Λ₀ .tc) α} {Q : α → sProp 𝕄} {v : Elt F e}
    {S : Finset (Idx ((m.access r).loc (c : Thread nD τ)))} {q : PosShare TreeShare} {f : Buf (Elt F) ((m.access r).loc (c : Thread nD τ))}
    (h : Look P ((m.access r).loc (c : Thread nD τ)) S q f) (hS : (m.access r).set ⊆ S)
    (hv : (m.access r).read (Elt F) f (Shape.Idx.first (h1.symm ▸ Nat.one_pos)) = v) (hk : P ⊢ WP c (k v) Q) :
    P ⊢ WP c (smemLoad m r h1 hp >>= k) Q := by
  subst hv
  unfold Look at h
  refine st_bind (h.trans ?_)
  unfold smemLoad
  iintro ⟨H1, H2⟩
  iapply (wp_smemLoadElt Variants.none (c : Thread nD τ) none Set.univ hS) $$ H1
  iintro H1
  rw [wp_ret]
  imodintro
  iapply hk
  iapply H2
  iexact H1

/-- A fact the program relies on. -/
theorem st_assume {P : sProp 𝕄} {p : Prop} {d : Decidable p} {k : PLift p → Prog (TpuEff nD τ sig (Elt F) Λ₀ .tc) α} {Q : α → sProp 𝕄} (h : p)
    (hk : P ⊢ WP c (k ⟨h⟩) Q) : P ⊢ WP c (Prog.lift (.assume p d) >>= k) Q := by
  rw [Prog.bind_lift]
  exact hk.trans (wp_assume Variants.none (c : Thread nD τ) none Set.univ h)

end Steps2

variable {c : Dev nD} {I : Arr F} {K : Once F} {σ : State F} {w a : ℕ}

/-- One of the five routing tables. -/
abbrev colAt (K : Once F) (i : ℕ) (hi : i + 1 ≤ 5) : (Rect.unit (s := S5x32x128) ![i, 0, 0] S1x32x128.size (b3 hi le_rfl le_rfl)).shape.Idx → F .f32 :=
  rdA (s := S5x32x128) ![i, 0, 0] S1x32x128.size (b3 hi le_rfl le_rfl) K.cols

/-- Which tokens one expert serves. -/
def routedV (K : Once F) (e : Fin 4) : IVec S32x128 1 := k0_pay24 (F := F) (ev e) (colAt K 0 (by decide)) (colAt K 1 (by decide))

/-- With which weight. -/
def weightV (K : Once F) (e : Fin 4) : FVec F S32x128 .f32 :=
  k0_pay25 (ev e) (colAt K 0 (by decide)) (colAt K 2 (by decide)) (colAt K 1 (by decide)) (colAt K 3 (by decide))

theorem chk6_ok : ∀ e : Fin 4, k0_chk6 (ev e) := by decide

theorem part15_st {R : sProp 𝕄} (v17 v36 v51 v66 v81 : BitVec 32) (hw5 : k0_chk5 v17 v36 v51 v66 v81) (v84 : BitVec 32) (t4 : Fin (k0_t4_loop v17 v36 v51 v66 v81).trips) {Q}
    (hl1 : (A34.access (Rect.unit (s := S5) (k0_off11 v17 v36 v51 v66 v81 t4) S1.size (k0_off11_inb v17 v36 v51 v66 v81 hw5 t4))).read (Elt F) K.live
      (Shape.Idx.first (numel1_S1.symm ▸ Nat.one_pos)) = ev σ.e)
    (hl2 : (A34.access (Rect.unit (s := S5) (k0_off12 v17 v36 v51 v66 v81 t4) S1.size (k0_off12_inb v17 v36 v51 v66 v81 hw5 t4))).read (Elt F) K.live
      (Shape.Idx.first (numel1_S1.symm ▸ Nat.one_pos)) = ev σ.en)
    (h7 : k0_chk7 v17 v36 v51 v66 v81 t4 (ev σ.en))
    (hk : St c I K false R σ 1 7 ⊢ Q ⟨ev σ.e, chk6_ok σ.e, ev σ.en, h7, Scalar.cmpi .slt (Scalar.addi (Scf.iv 0#32 1#32 t4) 1#32) v84,
      routedV K σ.e, weightV K σ.e⟩) :
    St c I K false R σ 0 7 ⊢ WP c (onK (k0_part15_skel (F := F)) v17 v36 v51 v66 v81 hw5 v84 0#32 1#32 t4) Q := by
  unfold onK k0_part15_skel
  refine st_smem (lk_live c I K false σ _ _ R) (Finset.subset_univ _) hl1 ?_
  refine st_assume (chk6_ok σ.e) ?_
  refine st_smem (lk_live c I K false σ _ _ R) (Finset.subset_univ _) hl2 ?_
  refine st_assume h7 ?_
  refine st_rd rfl (lk_cols c I K false σ _ _ R) (Finset.subset_univ _) (rd_eq rfl _) ?_
  refine st_rd rfl (lk_cols c I K false σ _ _ R) (Finset.subset_univ _) (rd_eq rfl _) ?_
  refine st_rd rfl (lk_cols c I K false σ _ _ R) (Finset.subset_univ _) (rd_eq rfl _) ?_
  refine st_rd rfl (lk_cols c I K false σ _ _ R) (Finset.subset_univ _) (rd_eq rfl _) ?_
  refine st_wait 0 (by omega) rfl (by omega) (by omega) rfl rfl ?_
  exact st_pure hk

theorem cond1_yes : k0_cond1 = 1#1 := by decide
theorem cond2_yes : k0_cond2 = 1#1 := by decide
theorem cond3_yes : k0_cond3 = 1#1 := by decide
theorem cond4_yes : k0_cond4 = 1#1 := by decide
theorem cond5_yes : k0_cond5 = 1#1 := by decide
theorem cond6_yes : k0_cond6 = 1#1 := by decide
theorem off17_eq : ∀ e : Fin 4, k0_off17 (ev e) = ![e.val, 256 * 5, 0] := by decide
theorem off20_eq : ∀ e : Fin 4, k0_off20 (ev e) = ![e.val, 256 * 6, 0] := by decide
theorem off23_eq : ∀ e : Fin 4, k0_off23 (ev e) = ![e.val, 256 * 7, 0] := by decide
theorem off26_eq : ∀ e : Fin 4, k0_off26 (ev e) = ![e.val, 256 * 8, 0] := by decide
theorem off29_eq : ∀ e : Fin 4, k0_off29 (ev e) = ![e.val, 256 * 9, 0] := by decide
theorem off32_eq : ∀ e : Fin 4, k0_off32 (ev e) = ![e.val, 256 * 10, 0] := by decide

theorem part16_st {R : sProp 𝕄} (hw6 : k0_chk6 (ev σ.e)) {Q} (hk : St c I K false R σ 2 10 ⊢ Q ⟨10#32, 1#1, 1#1⟩) :
    St c I K false R σ 1 7 ⊢ WP c (onK (k0_part16_skel (F := F)) (ev σ.e) hw6) Q := by
  unfold onK k0_part16_skel
  refine st_wait 1 (by omega) rfl (by omega) (by omega) rfl rfl ?_
  refine st_if2 8 (fun h => absurd cond1_yes h) (fun _ => rfl)
    (fun h hJ => st_up ⟨5, by omega⟩ σ.e ⟨by show 5 + 2 < 44; omega, .inl ⟨rfl, by show 1 + 1 ≤ 5 + 2; omega, rfl⟩⟩ (by decide) (off17_eq σ.e) (by decide) hJ) ?_
  refine st_if2 9 (fun h => absurd cond2_yes h) (fun _ => rfl)
    (fun h hJ => st_up ⟨6, by omega⟩ σ.e ⟨by show 6 + 2 < 44; omega, .inl ⟨rfl, by show 1 + 1 ≤ 6 + 2; omega, rfl⟩⟩ (by decide) (off20_eq σ.e) (by decide) hJ) ?_
  refine st_if2 10 (fun h => absurd cond3_yes h) (fun _ => rfl)
    (fun h hJ => st_up ⟨7, by omega⟩ σ.e ⟨by show 7 + 2 < 44; omega, .inl ⟨rfl, by show 1 + 1 ≤ 7 + 2; omega, rfl⟩⟩ (by decide) (off23_eq σ.e) (by decide) hJ) ?_
  exact st_pure hk

/-- The tokens through the first LoRA factors. -/
def shrinkV (I : Arr F) (K : Once F) (e : Fin 4) : FVec F S32x128 .f32 :=
  k0_pay26 (rdA (s := S32x7168) ![0, 0] S32x7168.size (b2 le_rfl le_rfl) I.x) (rdA (s := S128x7168) ![0, 0] S128x7168.size (b2 le_rfl le_rfl) (laVal I.la e))

theorem part17_st {R : sProp 𝕄} (hw6 : k0_chk6 (ev σ.e)) (v292 : BitVec 32) (v295 v196 : BitVec 1) {Q}
    (hk : St c I K false R σ 2 13 ⊢ Q ⟨shrinkV I K σ.e, iota .tc S32x128 32 [1] iota_S32x128_d1_w32, 16#32, k0_pay27, k0_pay28,
      Scalar.extui (Scalar.cmpi .sgt 16#32 0#32), Scalar.extui (Scalar.cmpi .slt 16#32 0#32)⟩) :
    St c I K false R σ 2 10 ⊢ WP c (onK (k0_part17_skel (F := F)) (ev σ.e) hw6 v292 v295 v196) Q := by
  unfold onK k0_part17_skel
  refine st_if2 11 (fun h => absurd cond4_yes h) (fun _ => rfl)
    (fun h hJ => st_up ⟨8, by omega⟩ σ.e ⟨by show 8 + 2 < 44; omega, .inl ⟨rfl, by show 2 ≤ 8 + 2; omega, rfl⟩⟩ (by decide) (off26_eq σ.e) (by decide) hJ) ?_
  refine st_if2 12 (fun h => absurd cond5_yes h) (fun _ => rfl)
    (fun h hJ => st_up ⟨9, by omega⟩ σ.e ⟨by show 9 + 2 < 44; omega, .inl ⟨rfl, by show 2 ≤ 9 + 2; omega, rfl⟩⟩ (by decide) (off29_eq σ.e) (by decide) hJ) ?_
  refine st_if2 13 (fun h => absurd cond6_yes h) (fun _ => rfl)
    (fun h hJ => st_up ⟨10, by omega⟩ σ.e ⟨by show 10 + 2 < 44; omega, .inl ⟨rfl, by show 2 ≤ 10 + 2; omega, rfl⟩⟩ (by decide) (off32_eq σ.e) (by decide) hJ) ?_
  refine st_rd rfl (lk_x c I K false σ _ _ R) (Finset.subset_univ _) (rd_eq rfl _) ?_
  refine st_rd rfl (lk_la (by omega) (by omega)) (Finset.subset_univ _) (rd_eq rfl _) ?_
  exact st_pure hk

/-! ## The activation -/

theorem off97_eq : ∀ e : Fin 4, k0_off97 (ev e) = ![e.val, 0] := by decide
theorem off98_eq : ∀ e : Fin 4, k0_off98 (ev e) = ![e.val, 2048] := by decide
theorem off99_eq : ∀ e : Fin 4, k0_off99 (ev e) = ![e.val, 512] := by decide
theorem off100_eq : ∀ e : Fin 4, k0_off100 (ev e) = ![e.val, 2560] := by decide
theorem off101_eq : ∀ e : Fin 4, k0_off101 (ev e) = ![e.val, 1024] := by decide
theorem off102_eq : ∀ e : Fin 4, k0_off102 (ev e) = ![e.val, 3072] := by decide
theorem off103_eq : ∀ e : Fin 4, k0_off103 (ev e) = ![e.val, 1536] := by decide
theorem off104_eq : ∀ e : Fin 4, k0_off104 (ev e) = ![e.val, 3584] := by decide

/-- 512 columns of a row buffer. -/
abbrev hB (p : ℕ) (hp : p + 512 ≤ 4096) (h : FVec F S32x4096 .f32) : FVec F S32x512 .f32 := rdA (s := S32x4096) ![0, p] S32x512.size (b2 le_rfl hp) h

/-- 512 of one expert's scales. -/
abbrev uB (e : Fin 4) (p : ℕ) (hp : p + 512 ≤ 4096) (us : FVec F S4x4096 .f32) : FVec F S1x512 .f32 :=
  rdA (s := S4x4096) ![e.val, p] S1x512.size (b2 e.isLt hp) us

/-- 512 columns of the activation, written. -/
abbrev aW (p : ℕ) (hp : p + 512 ≤ 2048) (f : FVec F S32x2048 .f32) (v : FVec F S32x512 .f32) : FVec F S32x2048 .f32 :=
  wrA (s := S32x2048) ![0, p] S32x512.size (b2 le_rfl hp) f v

theorem part19_st {R : sProp 𝕄} (hw6 : k0_chk6 (ev σ.e)) (v355 : FVec F S32x512 .f32) (v356 : FVec F S32x1 .f32) (v358 v361 : FVec F S32x512 .f32) {Q}
    (hk : St c I K false R { σ with act := aW 0 (by decide) σ.act (k0_pay41 v355 v358 v361 (hB 0 (by decide) σ.delta) (hB 2048 (by decide) σ.h) (uB σ.e 2048 (by decide) I.us) (hB 2048 (by decide) σ.delta)) } w a ⊢
      Q ⟨k0_pay40 v355 v356 v358 v361 (hB 0 (by decide) σ.delta) (hB 2048 (by decide) σ.h) (uB σ.e 2048 (by decide) I.us) (hB 2048 (by decide) σ.delta),
        k0_pay42 v355 (hB 512 (by decide) σ.h) (uB σ.e 512 (by decide) I.us) (hB 512 (by decide) σ.delta), k0_pay43 v355 (hB 2560 (by decide) σ.h)⟩) :
    St c I K false R σ w a ⊢ WP c (onK (k0_part19_skel (F := F)) (ev σ.e) hw6 v355 v356 v358 v361) Q := by
  unfold onK k0_part19_skel
  refine st_rd rfl (lk_delta c I K false σ _ _ R) (Finset.subset_univ _) (rd_eq rfl _) ?_
  refine st_rd rfl (lk_h c I K false σ _ _ R) (Finset.subset_univ _) (rd_eq rfl _) ?_
  refine st_rd (off98_eq σ.e) (lk_us c I K false σ _ _ R) (Finset.subset_univ _) (rd_eq rfl _) ?_
  refine st_rd rfl (lk_delta c I K false σ _ _ R) (Finset.subset_univ _) (rd_eq rfl _) ?_
  refine st_ld (lk_act c I K false σ _ _ R) (Finset.subset_univ _) rfl ?_
  refine st_st (ln_act c I K false σ _ _ R) (g := aW 0 (by decide) σ.act (k0_pay41 v355 v358 v361 (hB 0 (by decide) σ.delta) (hB 2048 (by decide) σ.h) (uB σ.e 2048 (by decide) I.us) (hB 2048 (by decide) σ.delta))) (wr_eq rfl _ _) ?_
  refine st_rd rfl (lk_h c I K false _ _ _ R) (Finset.subset_univ _) (rd_eq rfl _) ?_
  refine st_rd (off99_eq σ.e) (lk_us c I K false _ _ _ R) (Finset.subset_univ _) (rd_eq rfl _) ?_
  refine st_rd rfl (lk_delta c I K false _ _ _ R) (Finset.subset_univ _) (rd_eq rfl _) ?_
  refine st_rd rfl (lk_h c I K false _ _ _ R) (Finset.subset_univ _) (rd_eq rfl _) ?_
  exact st_pure hk

theorem part20_st {R : sProp 𝕄} (hw6 : k0_chk6 (ev σ.e)) (v355 : FVec F S32x512 .f32) (v383 : FVec F S32x1 .f32) (v398 v400 : FVec F S32x512 .f32) {Q}
    (hk : St c I K false R { σ with act := aW 512 (by decide) σ.act (k0_pay46 v398 v400 (uB σ.e 2560 (by decide) I.us) (hB 2560 (by decide) σ.delta)) } w a ⊢
      Q ⟨k0_pay45 v383 v398 v400 (uB σ.e 2560 (by decide) I.us) (hB 2560 (by decide) σ.delta),
        k0_pay47 v355 (hB 1024 (by decide) σ.h) (uB σ.e 1024 (by decide) I.us) (hB 1024 (by decide) σ.delta) (hB 3072 (by decide) σ.h) (uB σ.e 3072 (by decide) I.us) (hB 3072 (by decide) σ.delta),
        k0_pay48 v355 (hB 1024 (by decide) σ.h) (uB σ.e 1024 (by decide) I.us) (hB 1024 (by decide) σ.delta) (hB 3072 (by decide) σ.h) (uB σ.e 3072 (by decide) I.us) (hB 3072 (by decide) σ.delta)⟩) :
    St c I K false R σ w a ⊢ WP c (onK (k0_part20_skel (F := F)) (ev σ.e) hw6 v355 v383 v398 v400) Q := by
  unfold onK k0_part20_skel
  refine st_rd (off100_eq σ.e) (lk_us c I K false σ _ _ R) (Finset.subset_univ _) (rd_eq rfl _) ?_
  refine st_rd rfl (lk_delta c I K false σ _ _ R) (Finset.subset_univ _) (rd_eq rfl _) ?_
  refine st_ld (lk_act c I K false σ _ _ R) (Finset.subset_univ _) rfl ?_
  refine st_st (ln_act c I K false σ _ _ R) (g := aW 512 (by decide) σ.act (k0_pay46 v398 v400 (uB σ.e 2560 (by decide) I.us) (hB 2560 (by decide) σ.delta))) (wr_eq rfl _ _) ?_
  refine st_rd rfl (lk_h c I K false _ _ _ R) (Finset.subset_univ _) (rd_eq rfl _) ?_
  refine st_rd (off101_eq σ.e) (lk_us c I K false _ _ _ R) (Finset.subset_univ _) (rd_eq rfl _) ?_
  refine st_rd rfl (lk_delta c I K false _ _ _ R) (Finset.subset_univ _) (rd_eq rfl _) ?_
  refine st_rd rfl (lk_h c I K false _ _ _ R) (Finset.subset_univ _) (rd_eq rfl _) ?_
  refine st_rd (off102_eq σ.e) (lk_us c I K false _ _ _ R) (Finset.subset_univ _) (rd_eq rfl _) ?_
  refine st_rd rfl (lk_delta c I K false _ _ _ R) (Finset.subset_univ _) (rd_eq rfl _) ?_
  exact st_pure hk

theorem part21_st {R : sProp 𝕄} (hw6 : k0_chk6 (ev σ.e)) (v355 : FVec F S32x512 .f32) (v413 : FVec F S32x1 .f32) (v439 v440 : FVec F S32x512 .f32) {Q}
    (hk : St c I K false R { σ with act := aW 1536 (by decide) (aW 1024 (by decide) σ.act (k0_pay49 v439)) (k0_pay51 v355 (hB 1536 (by decide) σ.h) (uB σ.e 1536 (by decide) I.us) (hB 1536 (by decide) σ.delta) (hB 3584 (by decide) σ.h) (uB σ.e 3584 (by decide) I.us) (hB 3584 (by decide) σ.delta)) } w a ⊢
      Q ⟨k0_pay52 v355 v413 v440 (hB 1536 (by decide) σ.h) (uB σ.e 1536 (by decide) I.us) (hB 1536 (by decide) σ.delta) (hB 3584 (by decide) σ.h) (uB σ.e 3584 (by decide) I.us) (hB 3584 (by decide) σ.delta),
        Scalar.ofBits .f32 0x00000000#32⟩) :
    St c I K false R σ w a ⊢ WP c (onK (k0_part21_skel (F := F)) (ev σ.e) hw6 v355 v413 v439 v440) Q := by
  unfold onK k0_part21_skel
  refine st_ld (lk_act c I K false σ _ _ R) (Finset.subset_univ _) rfl ?_
  refine st_st (ln_act c I K false σ _ _ R) (g := aW 1024 (by decide) σ.act (k0_pay49 v439)) (wr_eq rfl _ _) ?_
  refine st_rd rfl (lk_h c I K false _ _ _ R) (Finset.subset_univ _) (rd_eq rfl _) ?_
  refine st_rd (off103_eq σ.e) (lk_us c I K false _ _ _ R) (Finset.subset_univ _) (rd_eq rfl _) ?_
  refine st_rd rfl (lk_delta c I K false _ _ _ R) (Finset.subset_univ _) (rd_eq rfl _) ?_
  refine st_rd rfl (lk_h c I K false _ _ _ R) (Finset.subset_univ _) (rd_eq rfl _) ?_
  refine st_rd (off104_eq σ.e) (lk_us c I K false _ _ _ R) (Finset.subset_univ _) (rd_eq rfl _) ?_
  refine st_rd rfl (lk_delta c I K false _ _ _ R) (Finset.subset_univ _) (rd_eq rfl _) ?_
  refine st_ld (lk_act c I K false _ _ _ R) (Finset.subset_univ _) rfl ?_
  refine st_st (ln_act c I K false _ _ _ R) (g := aW 1536 (by decide) _
        (k0_pay51 v355 (hB 1536 (by decide) σ.h) (uB σ.e 1536 (by decide) I.us) (hB 1536 (by decide) σ.delta) (hB 3584 (by decide) σ.h) (uB σ.e 3584 (by decide) I.us) (hB 3584 (by decide) σ.delta))) (wr_eq rfl _ _) ?_
  exact st_pure hk

/-- The LoRA table the products read. -/
abbrev mixV (I : Arr F) (K : Once F) (e : Fin 4) : FVec F S32x128 .bf16 :=
  lora (shrinkV I K e) (iota .tc S32x128 32 [1] iota_S32x128_d1_w32) 16#32 k0_pay27 k0_pay28
    (Scalar.extui (Scalar.cmpi .sgt 16#32 0#32)) (Scalar.extui (Scalar.cmpi .slt 16#32 0#32)) (colAt K 4 (by decide))

/-- The first product and its correction, in place. -/
def afterUp (I : Arr F) (K : Once F) (σ : State F) : State F :=
  { σ with delta := dUp (mixV I K σ.e) I.lb σ.e σ.delta 8, h := hAll K.codes (upVal I.wu σ.e) σ.h }

abbrev xsV (K : Once F) : FVec F S32x128 .f32 := rdA (s := S32x128) ![0, 0] S32x128.size (b2 le_rfl le_rfl) K.xs

theorem part18_st {R : sProp 𝕄} (hw6 : k0_chk6 (ev σ.e)) {Q}
    (hk : St c I K false R (afterUp I K σ) 30 37 ⊢ Q ⟨k0_pay35 (xsV K), k0_pay36, k0_pay37 (xsV K) (hB 0 (by decide) (afterUp I K σ).h), k0_pay38 (uB σ.e 0 (by decide) I.us)⟩) :
    St c I K false R σ 2 13 ⊢ WP c (onK (k0_part18_skel (F := F)) (ev σ.e) hw6 (shrinkV I K σ.e) (iota .tc S32x128 32 [1] iota_S32x128_d1_w32) 16#32 k0_pay27 k0_pay28
      (Scalar.extui (Scalar.cmpi .sgt 16#32 0#32)) (Scalar.extui (Scalar.cmpi .slt 16#32 0#32))) Q := by
  unfold onK k0_part18_skel
  refine st_rd rfl (lk_cols c I K false σ _ _ R) (Finset.subset_univ _) (rd_eq rfl _) ?_
  refine st_ld (lk_h c I K false σ _ _ R) (Finset.subset_univ _) rfl ?_
  refine st_st (ln_h c I K false σ _ _ R) (g := hZero σ.h) (wr_eq rfl _ _) ?_
  refine mm1 (σ := { σ with h := hZero σ.h }) hw6 _ _ _ _ _ _ _ _ rfl rfl ?_
  change St c I K false R (afterUp I K σ) 30 37 ⊢ _
  refine st_rd rfl (lk_xs c I K false _ _ _ R) (Finset.subset_univ _) (rd_eq rfl _) ?_
  refine st_rd rfl (lk_h c I K false _ _ _ R) (Finset.subset_univ _) (rd_eq rfl _) ?_
  refine st_rd (off97_eq σ.e) (lk_us c I K false _ _ _ R) (Finset.subset_univ _) (rd_eq rfl _) ?_
  exact st_pure hk

end Cert.KernelIdeal.Hand
end
-- ==== Proof.Down.lean ====
/-
  Hand-written, untrusted. The second matrix product of one expert, under which the next expert's first copies start.
-/
module

public import proofs.«01_k».proof.Proof.Act

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

variable {c : Dev nD} {I : Arr F} {K : Once F} {σ : State F} {w a : ℕ}

/-! ## When the next expert's copies start -/

/-- How many experts are visited. -/
abbrev nl (v17 v36 v51 v66 v81 : BitVec 32) : BitVec 32 :=
  Scalar.addi (Scalar.addi (Scalar.addi (Scalar.addi 1#32 (Scalar.select (Scalar.cmpi .eq v17 0#32) 0#32 v36))
    (Scalar.select (Scalar.cmpi .eq v17 1#32) 0#32 v51)) (Scalar.select (Scalar.cmpi .eq v17 2#32) 0#32 v66))
    (Scalar.select (Scalar.cmpi .eq v17 3#32) 0#32 v81)

/-- Whether another expert follows. -/
abbrev moreB (v17 v36 v51 v66 v81 : BitVec 32) (t4 : Fin (k0_t4_loop v17 v36 v51 v66 v81).trips) : BitVec 1 :=
  Scalar.cmpi .slt (Scalar.addi (Scf.iv 0#32 1#32 t4) 1#32) (nl v17 v36 v51 v66 v81)

/-- A stream's condition: the position lies in the stream, and another expert follows. -/
def inStream (lo hi pos : BitVec 32) (b : BitVec 1) : BitVec 1 :=
  Scalar.cmpi .ne (Scalar.extui (Scalar.andi (Scalar.andi (Scalar.andi (Scalar.cmpi .sge pos lo) (Scalar.cmpi .slt pos hi)) b) 1#1) : BitVec 32) 0#32

def pos7 (j : BitVec 32) (t : Fin k0_t7_loop.trips) : BitVec 32 :=
  Scalar.addi (Scalar.addi (Scalar.addi 30#32 (Scalar.addi 0#32 (Scalar.muli (Scf.iv 0#32 1#32 t) 2#32))) j) 7#32

def pos8 (t : Fin k0_t8_loop.trips) : BitVec 32 :=
  Scalar.addi (Scalar.addi (Scalar.addi 30#32 (Scalar.addi 10#32 (Scalar.muli (Scf.iv 0#32 1#32 t) 1#32))) 0#32) 7#32

def posZ : BitVec 32 := Scalar.addi (Scalar.addi (Scalar.addi 30#32 13#32) 0#32) 7#32

section Conds
variable (v17 v36 v51 v66 v81 : BitVec 32) (t4 : Fin (k0_t4_loop v17 v36 v51 v66 v81).trips)

theorem in7 : ∀ (b : BitVec 1) (t : Fin k0_t7_loop.trips),
    (¬inStream 44#32 45#32 (pos7 0#32 t) b = 1#1) ∧ (inStream 45#32 46#32 (pos7 0#32 t) b = 1#1 ↔ t.val = 4 ∧ b.toNat = 1)
    ∧ (¬inStream 46#32 74#32 (pos7 0#32 t) b = 1#1) ∧ (inStream 44#32 45#32 (pos7 1#32 t) b = 1#1 ↔ t.val = 3 ∧ b.toNat = 1)
    ∧ (¬inStream 45#32 46#32 (pos7 1#32 t) b = 1#1) ∧ (inStream 46#32 74#32 (pos7 1#32 t) b = 1#1 ↔ t.val = 4 ∧ b.toNat = 1) := by decide

theorem in8 : ∀ (b : BitVec 1) (t : Fin k0_t8_loop.trips),
    (¬inStream 44#32 45#32 (pos8 t) b = 1#1) ∧ (¬inStream 45#32 46#32 (pos8 t) b = 1#1)
    ∧ (inStream 46#32 74#32 (pos8 t) b = 1#1 ↔ b.toNat = 1) := by decide

theorem inZ : ∀ b : BitVec 1, (¬inStream 44#32 45#32 posZ b = 1#1) ∧ (¬inStream 45#32 46#32 posZ b = 1#1)
    ∧ (inStream 46#32 74#32 posZ b = 1#1 ↔ b.toNat = 1) := by decide

theorem cond19_not (t : Fin k0_t7_loop.trips) : ¬k0_cond19 v17 v36 v51 v66 v81 t4 t = 1#1 := (in7 (moreB v17 v36 v51 v66 v81 t4) t).1
theorem cond20_iff (t : Fin k0_t7_loop.trips) : k0_cond20 v17 v36 v51 v66 v81 t4 t = 1#1 ↔ t.val = 4 ∧ (moreB v17 v36 v51 v66 v81 t4).toNat = 1 :=
  (in7 (moreB v17 v36 v51 v66 v81 t4) t).2.1
theorem cond21_not (t : Fin k0_t7_loop.trips) : ¬k0_cond21 v17 v36 v51 v66 v81 t4 t = 1#1 := (in7 (moreB v17 v36 v51 v66 v81 t4) t).2.2.1
theorem cond23_iff (t : Fin k0_t7_loop.trips) : k0_cond23 v17 v36 v51 v66 v81 t4 t = 1#1 ↔ t.val = 3 ∧ (moreB v17 v36 v51 v66 v81 t4).toNat = 1 :=
  (in7 (moreB v17 v36 v51 v66 v81 t4) t).2.2.2.1
theorem cond24_not (t : Fin k0_t7_loop.trips) : ¬k0_cond24 v17 v36 v51 v66 v81 t4 t = 1#1 := (in7 (moreB v17 v36 v51 v66 v81 t4) t).2.2.2.2.1
theorem cond25_iff (t : Fin k0_t7_loop.trips) : k0_cond25 v17 v36 v51 v66 v81 t4 t = 1#1 ↔ t.val = 4 ∧ (moreB v17 v36 v51 v66 v81 t4).toNat = 1 :=
  (in7 (moreB v17 v36 v51 v66 v81 t4) t).2.2.2.2.2
theorem cond27_not (t : Fin k0_t8_loop.trips) : ¬k0_cond27 v17 v36 v51 v66 v81 t4 t = 1#1 := (in8 (moreB v17 v36 v51 v66 v81 t4) t).1
theorem cond28_not (t : Fin k0_t8_loop.trips) : ¬k0_cond28 v17 v36 v51 v66 v81 t4 t = 1#1 := (in8 (moreB v17 v36 v51 v66 v81 t4) t).2.1
theorem cond29_iff (t : Fin k0_t8_loop.trips) : k0_cond29 v17 v36 v51 v66 v81 t4 t = 1#1 ↔ (moreB v17 v36 v51 v66 v81 t4).toNat = 1 :=
  (in8 (moreB v17 v36 v51 v66 v81 t4) t).2.2
theorem cond31_not : ¬k0_cond31 v17 v36 v51 v66 v81 t4 = 1#1 := (inZ (moreB v17 v36 v51 v66 v81 t4)).1
theorem cond32_not : ¬k0_cond32 v17 v36 v51 v66 v81 t4 = 1#1 := (inZ (moreB v17 v36 v51 v66 v81 t4)).2.1
theorem cond33_iff : k0_cond33 v17 v36 v51 v66 v81 t4 = 1#1 ↔ (moreB v17 v36 v51 v66 v81 t4).toNat = 1 := (inZ (moreB v17 v36 v51 v66 v81 t4)).2.2

end Conds

theorem cond22_iff : ∀ t : Fin k0_t7_loop.trips, k0_cond22 t = 1#1 ↔ t.val ≤ 3 := by decide
theorem cond26_iff : ∀ t : Fin k0_t7_loop.trips, k0_cond26 t = 1#1 ↔ t.val ≤ 2 := by decide
theorem cond30_not : ∀ t : Fin k0_t8_loop.trips, ¬k0_cond30 t = 1#1 := by decide
theorem cond34_not : ¬k0_cond34 = 1#1 := by decide

/-! ## Where the accesses lie -/

theorem off105_eq : ∀ t : Fin k0_t7_loop.trips, k0_off105 t = ![2 * t.val] := by decide
theorem off109_eq : ∀ e : Fin 4, k0_off109 (ev e) = ![e.val, 64, 0] := by decide
theorem off113_eq : ∀ t : Fin k0_t7_loop.trips, t.val ≤ 3 → k0_off113 t = ![7 + 2 * t.val] := by decide
theorem off114_eq : ∀ t : Fin k0_t7_loop.trips, t.val ≤ 3 → k0_off114 t = ![7 + 2 * t.val, 0, 0] := by decide
theorem off115_eq : ∀ (e : Fin 4) (t : Fin k0_t7_loop.trips), t.val ≤ 3 → k0_off115 (ev e) t = ![e.val, 0, 512 * (7 + 2 * t.val)] := by decide
theorem off116_eq : ∀ t : Fin k0_t7_loop.trips, k0_off116 t = ![2 * t.val + 1] := by decide
theorem off119_eq : ∀ e : Fin 4, k0_off119 (ev e) = ![e.val, 0, 0] := by decide
theorem off121_eq : ∀ t : Fin k0_t7_loop.trips, t.val = 4 → k0_off121 t = ![0] := by decide
theorem off122_eq : ∀ t : Fin k0_t7_loop.trips, t.val = 4 → k0_off122 t = ![256 * 0, 0] := by decide
theorem off123_eq : ∀ (e : Fin 4) (t : Fin k0_t7_loop.trips), t.val = 4 → k0_off123 (ev e) t = ![e.val, 256 * 0, 0] := by decide
theorem off124_eq : ∀ t : Fin k0_t7_loop.trips, t.val ≤ 2 → k0_off124 t = ![8 + 2 * t.val] := by decide
theorem off125_eq : ∀ t : Fin k0_t7_loop.trips, t.val ≤ 2 → k0_off125 t = ![8 + 2 * t.val, 0, 0] := by decide
theorem off126_eq : ∀ (e : Fin 4) (t : Fin k0_t7_loop.trips), t.val ≤ 2 → k0_off126 (ev e) t = ![e.val, 0, 512 * (8 + 2 * t.val)] := by decide
theorem off127_eq : ∀ (t : Fin k0_t7_loop.trips) (j : Fin 2), k0_off127 t (BitVec.ofNat 32 j.val) = ![2 * t.val + j.val, 0, 0] := by decide
theorem off128_eq : ∀ (e : Fin 4) (t : Fin k0_t7_loop.trips) (j : Fin 2), k0_off128 (ev e) t (BitVec.ofNat 32 j.val) = ![e.val, 512 * (2 * t.val + j.val)] := by decide
theorem off129_eq : ∀ (t : Fin k0_t7_loop.trips) (j : Fin 2), k0_off129 t (BitVec.ofNat 32 j.val) = ![0, 512 * (2 * t.val + j.val)] := by decide
theorem off130_eq : ∀ t : Fin k0_t8_loop.trips, k0_off130 t = ![10 + t.val] := by decide
theorem off135_eq : ∀ t : Fin k0_t8_loop.trips, k0_off135 t = ![1 + t.val] := by decide
theorem off136_eq : ∀ t : Fin k0_t8_loop.trips, k0_off136 t = ![256 * (1 + t.val), 0] := by decide
theorem off137_eq : ∀ (e : Fin 4) (t : Fin k0_t8_loop.trips), k0_off137 (ev e) t = ![e.val, 256 * (1 + t.val), 0] := by decide
theorem off141_eq : ∀ t : Fin k0_t8_loop.trips, k0_off141 t = ![10 + t.val, 0, 0] := by decide
theorem off142_eq : ∀ (e : Fin 4) (t : Fin k0_t8_loop.trips), k0_off142 (ev e) t = ![e.val, 512 * (10 + t.val)] := by decide
theorem off143_eq : ∀ t : Fin k0_t8_loop.trips, k0_off143 t = ![0, 512 * (10 + t.val)] := by decide
theorem off144_eq : k0_off144 = ![13] := by decide
theorem off149_eq : k0_off149 = ![4] := by decide
theorem off150_eq : k0_off150 = ![256 * 4, 0] := by decide
theorem off151_eq : ∀ e : Fin 4, k0_off151 (ev e) = ![e.val, 256 * 4, 0] := by decide
theorem off156_eq : ∀ e : Fin 4, k0_off156 (ev e) = ![e.val, 512 * 13] := by decide

/-! ## One column block of the result -/

/-- The result's column block `j` with this expert's part added. -/
def yNew (ro : IVec S32x128 1) (coef : FVec F S32x128 .f32) (ac : FVec F S32x2048 .fp8e4m3) (I : Arr F) (e : Fin 4) (j : ℕ) (hj : j + 1 ≤ 14)
    (f : FVec F S32x7168 .f32) : FVec F S32x512 .f32 :=
  k0_pay18 ro (rdA (s := S32x128) ![0, 0] S32x128.size (b2 le_rfl le_rfl) coef) (rdA (s := S32x2048) ![0, 0] S32x2048.size (b2 le_rfl le_rfl) ac)
    (rdA (s := S14x2048x512) ![j, 0, 0] S1x2048x512.size (b3 hj le_rfl le_rfl) (dnVal I.wd e))
    (rdA (s := S4x7168) ![e.val, 512 * j] S1x512.size (b2 e.isLt (by omega)) I.ds)
    (rdA (s := S32x7168) ![0, 512 * j] S32x512.size (b2 le_rfl (by omega)) f)

/-- One column block written. -/
abbrev yW {α : Type} (j : ℕ) (hj : j + 1 ≤ 14) (f : S32x7168.Idx → α) (v : S32x512.Idx → α) : S32x7168.Idx → α :=
  wrA (s := S32x7168) ![0, 512 * j] S32x512.size (b2 le_rfl (by omega)) f v

/-- The state after column block `j`. -/
def yStep (ro : IVec S32x128 1) (I : Arr F) (j : ℕ) (hj : j + 1 ≤ 14) (σ : State F) : State F :=
  { σ with yacc := yW j hj σ.yacc (k0_pay56 (yNew ro σ.coef σ.acodes I σ.e j hj σ.yacc)), yout := yW j hj σ.yout (k0_pay57 (yNew ro σ.coef σ.acodes I σ.e j hj σ.yacc)) }

/-- The state after `n` column blocks. -/
def yUp (ro : IVec S32x128 1) (I : Arr F) (σ : State F) : ℕ → State F
  | 0 => σ
  | n + 1 => if hn : n + 1 ≤ 14 then yStep ro I n hn (yUp ro I σ n) else yUp ro I σ n

theorem yUp_succ {ro : IVec S32x128 1} {I : Arr F} {σ : State F} {n : ℕ} (hn : n + 1 ≤ 14) : yUp ro I σ (n + 1) = yStep ro I n hn (yUp ro I σ n) := by
  rw [yUp, dif_pos hn]

theorem yUp_e {ro : IVec S32x128 1} {I : Arr F} {σ : State F} (n : ℕ) : (yUp ro I σ n).e = σ.e ∧ (yUp ro I σ n).en = σ.en := by
  induction n with
  | zero => exact ⟨rfl, rfl⟩
  | succ n ih =>
    unfold yUp
    split
    · exact ih
    · exact ih

theorem seenDn (j w : ℕ) (hw : j + 30 < w) {z : Fin 3 → ℕ} (hz : z 0 = 1) (i : S14x2048x512.Idx)
    (hi : ∀ a, (![j, 0, 0] : Fin 3 → ℕ) a ≤ (i a).val ∧ (i a).val < (![j, 0, 0] : Fin 3 → ℕ) a + z a) : i ∈ dnSeen w := by
  have h := hi 0
  rw [hz] at h
  change j ≤ (i 0).val ∧ (i 0).val < j + 1 at h
  simp only [dnSeen, Finset.mem_filter, Finset.mem_univ, true_and]
  omega

section Trips
variable (v17 v36 v51 v66 v81 : BitVec 32) (hw5 : k0_chk5 v17 v36 v51 v66 v81) (t4 : Fin (k0_t4_loop v17 v36 v51 v66 v81).trips)

theorem t7_trip {R : sProp 𝕄} (hw6 : k0_chk6 (ev σ.e)) (hw7 : k0_chk7 v17 v36 v51 v66 v81 t4 (ev σ.en)) (ro : IVec S32x128 1) (v264 : FVec F S32x128 .f32)
    (v478 : FVec F S32x1 .f32) (cst : F .f32) (t : Fin k0_t7_loop.trips) (ht : t.val < 5) (n : ℕ) (hn : (moreB v17 v36 v51 v66 v81 t4).toNat = n)
    {Q} (hw : w = 2 * t.val + 30) (ha : a = min (44 + 7 * n) (w + 7))
    (hk : St c I K false R (yStep ro I (2 * t.val + 1) (by omega) (yStep ro I (2 * t.val) (by omega) σ)) (w + 2) (min (44 + 7 * n) (w + 9)) ⊢ Q ()) :
    St c I K false R σ w a ⊢ WP c (onK (k0_t7_body (F := F)) v17 v36 v51 v66 v81 hw5 t4 (ev σ.e) hw6 (ev σ.en) hw7 (moreB v17 v36 v51 v66 v81 t4) ro v264 v478 cst t ()) Q := by
  have hn1 : n ≤ 1 := by have := (moreB v17 v36 v51 v66 v81 t4).isLt; omega
  unfold onK k0_t7_body
  rw [k0_part10_eq_skeleton, k0_part11_eq_skeleton, k0_part12_eq_skeleton]
  refine st_bind ?_
  unfold k0_part10_skel
  refine st_wait_dn ⟨2 * t.val, by omega⟩ (by show w = 2 * t.val + 30; omega) (by omega) (by omega) (off105_eq t) ?_
  refine st_if_not (cond19_not v17 v36 v51 v66 v81 t4 t) ?_
  refine st_if2 (if t.val = 4 then min (44 + 7 * n) (w + 8) else a)
    (fun h => by rw [cond20_iff, hn] at h; split <;> omega) (fun h => by rw [cond20_iff, hn] at h; rw [if_pos h.1]; omega)
    (fun h hJ => by
      rw [cond20_iff, hn] at h
      exact st_lb σ.en ⟨by omega, .inr ⟨by omega, by omega, by omega, rfl⟩⟩ (off109_eq σ.en) hJ) ?_
  refine st_pure ?_
  refine st_bind ?_
  unfold k0_part11_skel
  refine st_if_not (cond21_not v17 v36 v51 v66 v81 t4 t) ?_
  refine st_if2 (min (44 + 7 * n) (w + 8))
    (fun h => by rw [cond22_iff] at h; rw [if_pos (by omega)]) (fun h => by rw [cond22_iff] at h; rw [if_neg (by omega)]; omega)
    (fun h hJ => by
      rw [cond22_iff] at h
      exact st_dn ⟨7 + 2 * t.val, by omega⟩ σ.e ⟨by show 7 + 2 * t.val + 30 < 44; omega,
        .inl ⟨by rw [if_neg (by omega)]; show a = 7 + 2 * t.val + 30; omega, by show w + 1 ≤ 7 + 2 * t.val + 30; omega, rfl⟩⟩
        (off114_eq t h) (off115_eq σ.e t h) (off113_eq t h) hJ) ?_
  refine st_wait_dn ⟨2 * t.val + 1, by omega⟩ (by show w + 1 = 2 * t.val + 1 + 30; omega) (by omega) (by omega) (off116_eq t) ?_
  refine st_if2 (if t.val = 3 then min (44 + 7 * n) (w + 9) else min (44 + 7 * n) (w + 8))
    (fun h => by rw [cond23_iff, hn] at h; split <;> omega) (fun h => by rw [cond23_iff, hn] at h; rw [if_pos h.1]; omega)
    (fun h hJ => by
      rw [cond23_iff, hn] at h
      exact st_la σ.en ⟨by omega, .inr ⟨by omega, by omega, by omega, rfl⟩⟩ (off119_eq σ.en) hJ) ?_
  refine st_if_not (cond24_not v17 v36 v51 v66 v81 t4 t) ?_
  refine st_pure ?_
  refine st_bind ?_
  unfold k0_part12_skel
  refine st_if2 (if 3 ≤ t.val then min (44 + 7 * n) (w + 9) else min (44 + 7 * n) (w + 8))
    (fun h => by rw [cond25_iff, hn] at h; split <;> split <;> omega)
    (fun h => by rw [cond25_iff, hn] at h; rw [if_pos (by omega), if_neg (by omega)]; omega)
    (fun h hJ => by
      rw [cond25_iff, hn] at h
      exact st_up ⟨0, by omega⟩ σ.en ⟨by show 0 + 2 < 44; omega,
        .inr ⟨by rw [if_neg (by omega)]; show _ = 0 + 2 + 44; omega, by show 0 + 2 < _; omega, by rw [if_neg (by omega)]; omega, rfl⟩⟩
        (off122_eq t h.1) (off123_eq σ.en t h.1) (off121_eq t h.1) hJ) ?_
  refine st_if2 (min (44 + 7 * n) (w + 9))
    (fun h => by rw [cond26_iff] at h; rw [if_pos (by omega)]) (fun h => by rw [cond26_iff] at h; rw [if_neg (by omega)]; omega)
    (fun h hJ => by
      rw [cond26_iff] at h
      exact st_dn ⟨8 + 2 * t.val, by omega⟩ σ.e ⟨by show 8 + 2 * t.val + 30 < 44; omega,
        .inl ⟨by rw [if_neg (by omega)]; show _ = 8 + 2 * t.val + 30; omega, by show w + 1 + 1 ≤ 8 + 2 * t.val + 30; omega, rfl⟩⟩
        (off125_eq t h) (off126_eq σ.e t h) (off124_eq t h) hJ) ?_
  refine st_rd rfl (lk_coef c I K false σ _ _ R) (Finset.subset_univ _) (rd_eq rfl _) ?_
  refine st_rd rfl (lk_acodes c I K false σ _ _ R) (Finset.subset_univ _) (rd_eq rfl _) ?_
  refine st_rd (off127_eq t 0) (lk_dn (by omega)) (rect_sub (fun i hi => seenDn (2 * t.val) _ (by omega) rfl i hi)) (rd_eq rfl _) ?_
  refine st_rd (off128_eq σ.e t 0) (lk_ds c I K false σ _ _ R) (Finset.subset_univ _) (rd_eq rfl _) ?_
  refine st_rd (off129_eq t 0) (lk_yacc c I K false σ _ _ R) (Finset.subset_univ _) (rd_eq rfl _) ?_
  refine st_pure ?_
  refine st_ld (lk_yacc c I K false σ _ _ R) (Finset.subset_univ _) rfl ?_
  refine st_st (ln_yacc c I K false σ _ _ R) (g := (yStep ro I (2 * t.val) (by omega) σ).yacc) (wr_eq (off129_eq t 0) _ _) ?_
  refine st_ld (lk_yout c I K _ _ _ R) (Finset.subset_univ _) rfl ?_
  refine st_st (ln_yout c I K false _ _ _ R) (g := (yStep ro I (2 * t.val) (by omega) σ).yout) (wr_eq (off129_eq t 0) _ _) ?_
  change St c I K false R (yStep ro I (2 * t.val) (by omega) σ) _ _ ⊢ _
  refine st_rd rfl (lk_acodes c I K false _ _ _ R) (Finset.subset_univ _) (rd_eq rfl _) ?_
  refine st_rd (off127_eq t 1) (lk_dn (by omega)) (rect_sub (fun i hi => seenDn (2 * t.val + 1) _ (by omega) rfl i hi)) (rd_eq rfl _) ?_
  refine st_rd (off128_eq σ.e t 1) (lk_ds c I K false _ _ _ R) (Finset.subset_univ _) (rd_eq rfl _) ?_
  refine st_rd (off129_eq t 1) (lk_yacc c I K false _ _ _ R) (Finset.subset_univ _) (rd_eq rfl _) ?_
  refine st_ld (lk_yacc c I K false _ _ _ R) (Finset.subset_univ _) rfl ?_
  refine st_st (ln_yacc c I K false _ _ _ R) (g := (yStep ro I (2 * t.val + 1) (by omega) (yStep ro I (2 * t.val) (by omega) σ)).yacc) (wr_eq (off129_eq t 1) _ _) ?_
  refine st_ld (lk_yout c I K _ _ _ R) (Finset.subset_univ _) rfl ?_
  refine st_st (ln_yout c I K false _ _ _ R) (g := (yStep ro I (2 * t.val + 1) (by omega) (yStep ro I (2 * t.val) (by omega) σ)).yout) (wr_eq (off129_eq t 1) _ _) ?_
  refine st_pure ?_
  exact hk

theorem t8_trip {R : sProp 𝕄} (hw6 : k0_chk6 (ev σ.e)) (hw7 : k0_chk7 v17 v36 v51 v66 v81 t4 (ev σ.en)) (ro : IVec S32x128 1) (v264 : FVec F S32x128 .f32)
    (v478 : FVec F S32x1 .f32) (cst : F .f32) (t : Fin k0_t8_loop.trips) (ht : t.val < 3) (n : ℕ) (hn : (moreB v17 v36 v51 v66 v81 t4).toNat = n)
    {Q} (hw : w = t.val + 40) (ha : a = min (44 + 7 * n) (w + 7))
    (hk : St c I K false R (yStep ro I (10 + t.val) (by omega) σ) (w + 1) (min (44 + 7 * n) (w + 8)) ⊢ Q ()) :
    St c I K false R σ w a ⊢ WP c (onK (k0_t8_body (F := F)) v17 v36 v51 v66 v81 hw5 t4 (ev σ.e) hw6 (ev σ.en) hw7 (moreB v17 v36 v51 v66 v81 t4) ro v264 v478 cst t ()) Q := by
  have hn1 : n ≤ 1 := by have := (moreB v17 v36 v51 v66 v81 t4).isLt; omega
  unfold onK k0_t8_body
  rw [k0_part13_eq_skeleton, k0_part14_eq_skeleton]
  refine st_bind ?_
  unfold k0_part13_skel
  refine st_wait_dn ⟨10 + t.val, by omega⟩ (by show w = 10 + t.val + 30; omega) (by omega) (by omega) (off130_eq t) ?_
  refine st_if_not (cond27_not v17 v36 v51 v66 v81 t4 t) ?_
  refine st_if_not (cond28_not v17 v36 v51 v66 v81 t4 t) ?_
  refine st_pure ?_
  refine st_bind ?_
  unfold k0_part14_skel
  refine st_if2 (min (44 + 7 * n) (w + 8))
    (fun h => by rw [cond29_iff, hn] at h; omega) (fun h => by rw [cond29_iff, hn] at h; omega)
    (fun h hJ => by
      rw [cond29_iff, hn] at h
      exact st_up ⟨1 + t.val, by omega⟩ σ.en ⟨by show 1 + t.val + 2 < 44; omega,
        .inr ⟨by show a = 1 + t.val + 2 + 44; omega, by show 1 + t.val + 2 < _; omega, by omega, rfl⟩⟩
        (off136_eq t) (off137_eq σ.en t) (off135_eq t) hJ) ?_
  refine st_if_not (cond30_not t) ?_
  refine st_rd rfl (lk_coef c I K false σ _ _ R) (Finset.subset_univ _) (rd_eq rfl _) ?_
  refine st_rd rfl (lk_acodes c I K false σ _ _ R) (Finset.subset_univ _) (rd_eq rfl _) ?_
  refine st_rd (off141_eq t) (lk_dn (by omega)) (rect_sub (fun i hi => seenDn (10 + t.val) _ (by omega) rfl i hi)) (rd_eq rfl _) ?_
  refine st_rd (off142_eq σ.e t) (lk_ds c I K false σ _ _ R) (Finset.subset_univ _) (rd_eq rfl _) ?_
  refine st_rd (off143_eq t) (lk_yacc c I K false σ _ _ R) (Finset.subset_univ _) (rd_eq rfl _) ?_
  refine st_ld (lk_yacc c I K false σ _ _ R) (Finset.subset_univ _) rfl ?_
  refine st_st (ln_yacc c I K false σ _ _ R) (g := (yStep ro I (10 + t.val) (by omega) σ).yacc) (wr_eq (off143_eq t) _ _) ?_
  refine st_ld (lk_yout c I K _ _ _ R) (Finset.subset_univ _) rfl ?_
  refine st_pure ?_
  refine st_st (ln_yout c I K false _ _ _ R) (g := (yStep ro I (10 + t.val) (by omega) σ).yout) (wr_eq (off143_eq t) _ _) ?_
  refine st_pure ?_
  exact hk

/-- The activation quantised, and the factor each token's product is scaled by. -/
def quantA (wt : FVec F S32x128 .f32) (am : FVec F S32x1 .f32) (z : F .f32) (σ : State F) : State F :=
  { σ with acodes := wrA (s := S32x2048) ![0, 0] S32x2048.size (b2 le_rfl le_rfl) σ.acodes (k0_pay54 am z (rdA (s := S32x2048) ![0, 0] S32x2048.size (b2 le_rfl le_rfl) σ.act)), coef := wrA (s := S32x128) ![0, 0] S32x128.size (b2 le_rfl le_rfl) σ.coef (k0_pay55 wt am z) }

theorem part22_st {R : sProp 𝕄} (hw6 : k0_chk6 (ev σ.e)) (hw7 : k0_chk7 v17 v36 v51 v66 v81 t4 (ev σ.en)) (ro : IVec S32x128 1) (v264 : FVec F S32x128 .f32)
    (v478 : FVec F S32x1 .f32) (cst : F .f32) (n : ℕ) (hn : (moreB v17 v36 v51 v66 v81 t4).toNat = n) {Q}
    (hk : St c I K false R (yUp ro I (quantA v264 v478 cst σ) 13) 43 (min (44 + 7 * n) 50) ⊢ Q 13#32) :
    St c I K false R σ 30 37 ⊢ WP c (onK (k0_part22_skel (F := F)) v17 v36 v51 v66 v81 hw5 t4 (ev σ.e) hw6 (ev σ.en) hw7 (moreB v17 v36 v51 v66 v81 t4) ro v264 v478 cst) Q := by
  unfold onK k0_part22_skel
  refine st_rd rfl (lk_act c I K false σ _ _ R) (Finset.subset_univ _) (rd_eq rfl _) ?_
  refine st_ld (lk_acodes c I K false σ _ _ R) (Finset.subset_univ _) rfl ?_
  refine st_st (ln_acodes c I K false σ _ _ R) (g := (quantA v264 v478 cst σ).acodes) (wr_eq rfl _ _) ?_
  refine st_ld (lk_coef c I K false _ _ _ R) (Finset.subset_univ _) rfl ?_
  refine st_st (ln_coef c I K false _ _ _ R) (g := (quantA v264 v478 cst σ).coef) (wr_eq rfl _ _) ?_
  change St c I K false R (quantA v264 v478 cst σ) _ _ ⊢ _
  have e0 : (quantA v264 v478 cst σ).e = σ.e := rfl
  have e1 : (quantA v264 v478 cst σ).en = σ.en := rfl
  generalize quantA v264 v478 cst σ = σ' at *
  obtain ⟨d', h', a', q', k', y', o', e', en'⟩ := σ'
  dsimp only at e0 e1
  subst e0 e1
  refine st_for (fun m _ => St c I K false R (yUp ro I ⟨d', h', a', q', k', y', o', σ.e, σ.en⟩ (2 * m)) (2 * m + 30) (min (44 + 7 * n) (2 * m + 37))) ?_ (fun t _ => ?_) fun _ => ?_
  · rw [show min (44 + 7 * n) (2 * 0 + 37) = 37 by omega]; exact .rfl
  · have ht : t.val < 5 := t.isLt
    rw [show 2 * (t.val + 1) = 2 * t.val + 1 + 1 by omega, yUp_succ (show 2 * t.val + 1 + 1 ≤ 14 by omega), yUp_succ (show 2 * t.val + 1 ≤ 14 by omega)]
    obtain ⟨h1, h2⟩ := yUp_e (ro := ro) (I := I) (σ := ⟨d', h', a', q', k', y', o', σ.e, σ.en⟩) (2 * t.val)
    generalize yUp ro I ⟨d', h', a', q', k', y', o', σ.e, σ.en⟩ (2 * t.val) = σ'' at *
    obtain ⟨d'', h'', a'', q'', k'', y'', o'', e'', en''⟩ := σ''
    dsimp only at h1 h2
    subst h1 h2
    refine t7_trip (σ := ⟨d'', h'', a'', q'', k'', y'', o'', σ.e, σ.en⟩) v17 v36 v51 v66 v81 hw5 t4 hw6 hw7 ro v264 v478 cst t ht n hn rfl rfl ?_
    exact .rfl
  refine st_for (fun m _ => St c I K false R (yUp ro I ⟨d', h', a', q', k', y', o', σ.e, σ.en⟩ (10 + m)) (m + 40) (min (44 + 7 * n) (m + 47))) .rfl (fun t _ => ?_) fun _ => ?_
  · have ht : t.val < 3 := t.isLt
    rw [← Nat.add_assoc, yUp_succ (show 10 + t.val + 1 ≤ 14 by omega)]
    obtain ⟨h1, h2⟩ := yUp_e (ro := ro) (I := I) (σ := ⟨d', h', a', q', k', y', o', σ.e, σ.en⟩) (10 + t.val)
    generalize yUp ro I ⟨d', h', a', q', k', y', o', σ.e, σ.en⟩ (10 + t.val) = σ'' at *
    obtain ⟨d'', h'', a'', q'', k'', y'', o'', e'', en''⟩ := σ''
    dsimp only at h1 h2
    subst h1 h2
    refine t8_trip (σ := ⟨d'', h'', a'', q'', k'', y'', o'', σ.e, σ.en⟩) v17 v36 v51 v66 v81 hw5 t4 hw6 hw7 ro v264 v478 cst t ht n hn rfl rfl ?_
    rw [show t.val + 40 + 1 = t.val + 1 + 40 by omega, show t.val + 40 + 8 = t.val + 1 + 47 by omega]
  refine st_pure ?_
  exact hk

theorem part23_st {R : sProp 𝕄} (hw6 : k0_chk6 (ev σ.e)) (hw7 : k0_chk7 v17 v36 v51 v66 v81 t4 (ev σ.en)) (n : ℕ) (hn : (moreB v17 v36 v51 v66 v81 t4).toNat = n)
    {Q} (hk : St c I K false R σ 44 (44 + 7 * n) ⊢ Q ⟨Scalar.addi (Scalar.addi (Scalar.addi 30#32 13#32) 0#32) 7#32, Scalar.cmpi .sge (Scalar.addi (Scalar.addi (Scalar.addi 30#32 13#32) 0#32) 7#32) 30#32⟩) :
    St c I K false R σ 43 (min (44 + 7 * n) 50) ⊢ WP c (onK (k0_part23_skel (F := F)) v17 v36 v51 v66 v81 t4 (ev σ.e) hw6 (ev σ.en) hw7 (moreB v17 v36 v51 v66 v81 t4) 13#32) Q := by
  have hn1 : n ≤ 1 := by have := (moreB v17 v36 v51 v66 v81 t4).isLt; omega
  unfold onK k0_part23_skel
  refine st_wait_dn ⟨13, by omega⟩ rfl (by omega) (by omega) off144_eq ?_
  refine st_if_not (cond31_not v17 v36 v51 v66 v81 t4) ?_
  refine st_if_not (cond32_not v17 v36 v51 v66 v81 t4) ?_
  refine st_if2 (44 + 7 * n)
    (fun h => by rw [cond33_iff, hn] at h; omega) (fun h => by rw [cond33_iff, hn] at h; omega)
    (fun h hJ => by
      rw [cond33_iff, hn] at h
      exact st_up ⟨4, by omega⟩ σ.en ⟨by show 4 + 2 < 44; omega, .inr ⟨by show _ = 4 + 2 + 44; omega, by show 4 + 2 < _; omega, by omega, rfl⟩⟩
        off150_eq (off151_eq σ.en) off149_eq hJ) ?_
  exact st_pure hk

end Trips

end Cert.KernelIdeal.Hand
end
-- ==== Proof.Out.lean ====
/-
  Hand-written, untrusted. The copies that bring the results out.
-/
module

public import proofs.«01_k».proof.Proof.Down
public import Idealize.ShloMosaic.Lib.MixedBatch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-! ## A copy of a whole buffer -/

section Whole
variable {c : Dev nD} {α : Type}

/-- Starting the copy of one whole buffer to another. -/
theorem fly_whole {sp sp' : Space} {s : Shape} {et : EltTy} {src : Memref sig .tc sp s et} {dst : Memref sig .tc sp' s et} {sem : DmaSem sig}
    {q : PosShare TreeShare} {fs : Buf (Elt F) (src.view.loc (c, Proc.tc))} {fd : Buf (Elt F) (dst.view.loc (c, Proc.tc))}
    {g : Buf (Elt F) (dst.view.loc (c, Proc.tc))} (N : ℕ)
    (hs : src.view.set = Finset.univ) (hd : dst.view.set = Finset.univ) (hN : dst.view.amount (.dma sem) = N) (hN0 : 0 < N)
    (hg : dst.view.write (Elt F) fd (ReadAs.same.apply (src.view.read (Elt F) fs)) Finset.univ = g)
    {hp1 : src.view.WordExact} {hp2 : dst.view.WordExact} {hp3 : DmaTarget.Typed (nD := nD) sp (.dma sem) (.here (p := (Proc.tc : Proc τ)) dst)}
    {kk : PUnit → Prog (TpuEff nD τ sig (Elt F) Λ₀ .tc) α} {Q : α → sProp 𝕄} :
    iprop((src.view.loc (c, Proc.tc) ↦[Finset.univ]{q} fs) ∗ (dst.view.loc (c, Proc.tc) ↦[Finset.univ]{fullShare} fd) ∗ semVal ((c, Proc.tc), SemLoc.dma sem) 0) ⊢
      iprop((Flight EC (c, Proc.tc) (.dma sem) () N iprop((dst.view.loc (c, Proc.tc) ↦[Finset.univ]{fullShare} g) ∗ (src.view.loc (c, Proc.tc) ↦[Finset.univ]{q} fs)) -∗ WP c (kk ⟨⟩) Q)
        -∗ WP c (Prog.lift (.enqueueDma src (.here (p := (Proc.tc : Proc τ)) dst) (.dma sem) hp1 hp2 hp3) >>= kk) Q) := by
  rw [Prog.bind_lift]
  subst hg
  have h := wp_dmaLocal EC Variants.none (c, Proc.tc) none (defs := defs₀) (src := src) (dst := dst) (via := ReadAs.same) (sm := .dma sem) (hsrc := hp1) (hdst := hp2) (hsem := hp3)
    (k := kk) (Q := Q) (q := q) (fs := fs) (Sd := Finset.univ) (fd := fd) () N hN hN0 (Finset.subset_univ _)
  rw [hs] at h
  exact h

/-- Waiting for such a copy. -/
theorem wait_whole {sp sp' : Space} {s s' : Shape} {e₀ e' : EltTy} {sem : DmaSem sig} {N : ℕ} {D : sProp 𝕄}
    {srcw : Memref sig .tc sp' s' e₀} {dstw : Memref sig .tc sp s e'} {hsrc : srcw.view.WordExact} {hdst : dstw.view.WordExact}
    (hN : dstw.view.dmaCredit = N)
    {kk : PUnit → Prog (TpuEff nD τ sig (Elt F) Λ₀ .tc) α} {Q : α → sProp 𝕄} :
    iprop(Flight EC (c, Proc.tc) (.dma sem) () N D ∗ Ow c) ⊢
      iprop((iprop((D ∗ semVal ((c, Proc.tc), SemLoc.dma sem) 0) ∗ Ow c) -∗ WP c (kk ⟨⟩) Q)
        -∗ WP c (Prog.lift (.waitDma2 sem srcw dstw hsrc hdst) >>= kk) Q) := by
  rw [Prog.bind_lift]
  unfold Ow
  iintro ⟨H, ⟨%W, HW⟩⟩ Hk
  iapply (wp_waitLocal EC Variants.none (c, Proc.tc) none (defs := defs₀) () hN) $$ [H HW]
  · isplitl [H]; · iexact H
    iexact HW
  iintro ⟨HD, Hv, HW⟩
  iapply Hk
  isplitl [HD Hv]
  · isplitl [HD]; · iexact HD
    iexact Hv
  iexists _
  iexact HW

end Whole

/-! ## The copies out -/

section OutCopies
variable {c : Dev nD} {α : Type} {I : Arr F} {K : Once F} {σ : State F} {w a : ℕ}

/-- The two pieces in which the result goes out, and what each copy delivers. -/
def yN0 : ℕ := (A10.slice (Rect.unit (s := S32x7168) ![0, 0] S32x6656.size (by decide)) (fun _ => rfl)).view.dmaCredit
def yN1 : ℕ := (A10.slice (Rect.unit (s := S32x7168) ![0, 6656] S32x512.size (by decide)) (fun _ => rfl)).view.dmaCredit

def yAmt (t : Fin 2) : ℕ := if t.val = 0 then yN0 else yN1

theorem yAmt_zero : yAmt 0 = yN0 := if_pos rfl
theorem yAmt_one : yAmt 1 = yN1 := if_neg (by decide)

def yPiece : Fin 2 → Finset S32x7168.Idx := ![yLo, yHi]

def yDel (c : Dev nD) (y : FVec F S32x7168 .bf16) (t : Fin 2) : sProp 𝕄 :=
  iprop((L c main_v10_0 ↦[yPiece t]{fullShare} y) ∗ (L c cc0_scratch20 ↦[yPiece t]{fullShare} y))

instance (c : Dev nD) (y : FVec F S32x7168 .bf16) (t : Fin 2) : Storable (upEmb : UEmb _ 𝕄) (yDel c y t) := by
  unfold yDel; infer_instance

theorem yLo_set {h : ∀ a, ![0, 0] a + S32x6656.size a ≤ S32x7168.size a} : (Rect.unit (s := S32x7168) ![0, 0] S32x6656.size h).set = yLo := by
  ext i
  rw [Rect.mem_set_unit]
  have h0 : (i 0).val < 32 := (i 0).isLt
  simp only [yLo, Finset.mem_filter, Finset.mem_univ, true_and]
  constructor
  · intro hh
    have := hh 1
    change 0 ≤ (i 1).val ∧ (i 1).val < 0 + 6656 at this
    omega
  · intro hk a
    match a with
    | ⟨0, _⟩ => show 0 ≤ (i 0).val ∧ (i 0).val < 0 + 32; omega
    | ⟨1, _⟩ => show 0 ≤ (i 1).val ∧ (i 1).val < 0 + 6656; omega

theorem yHi_set {h : ∀ a, ![0, 6656] a + S32x512.size a ≤ S32x7168.size a} : (Rect.unit (s := S32x7168) ![0, 6656] S32x512.size h).set = yHi := by
  ext i
  rw [Rect.mem_set_unit]
  have h0 : (i 0).val < 32 := (i 0).isLt
  have h1 : (i 1).val < 7168 := (i 1).isLt
  simp only [yHi, Finset.mem_filter, Finset.mem_univ, true_and]
  constructor
  · intro hh
    have := hh 1
    change 6656 ≤ (i 1).val ∧ (i 1).val < 6656 + 512 at this
    omega
  · intro hk a
    match a with
    | ⟨0, _⟩ => show 0 ≤ (i 0).val ∧ (i 0).val < 0 + 32; omega
    | ⟨1, _⟩ => show 6656 ≤ (i 1).val ∧ (i 1).val < 6656 + 512; omega

theorem y_split : yLo ∪ yHi = Finset.univ := by
  ext i
  simp only [yLo, yHi, Finset.mem_union, Finset.mem_filter, Finset.mem_univ, true_and, iff_true]
  omega

theorem yLo_compl : (Finset.univ \ yLo : Finset S32x7168.Idx) = yHi := by
  ext i
  simp only [yLo, yHi, Finset.mem_sdiff, Finset.mem_filter, Finset.mem_univ, true_and]
  omega

theorem y_disj : Disjoint yLo yHi := by
  rw [Finset.disjoint_left]
  intro i h1 h2
  have h1 := (Finset.mem_filter.mp h1).2
  have h2 := (Finset.mem_filter.mp h2).2
  omega

/-- Before the last block the results are still to go out. -/
def outHead (c : Dev nD) (sc : FVec F S1x32 .f32) : sProp 𝕄 :=
  iprop((∃ f, L c main_v10_1 ↦[Finset.univ]{fullShare} f) ∗ semVal ((c, Proc.tc), SemLoc.dma cc0_scoped11.sem) 0
    ∗ (L c cc0_scratch13 ↦[Finset.univ]{fullShare} sc) ∗ (∃ f, L c main_v10_2 ↦[Finset.univ]{fullShare} f) ∗ semVal ((c, Proc.tc), SemLoc.dma cc0_scoped12.sem) 0
    ∗ (∃ f, L c main_v10_0 ↦[Finset.univ]{fullShare} f) ∗ semVal ((c, Proc.tc), SemLoc.dma cc0_scoped13.sem) 0)

def codesN : ℕ := A11.view.dmaCredit
def scaleN : ℕ := A12.view.dmaCredit

/-- From then on they are under way, the result's last block still held. -/
def outTail (c : Dev nD) (co : FVec F S32x7168 .fp8e4m3) (sc : FVec F S1x32 .f32) (y : FVec F S32x7168 .bf16) : sProp 𝕄 :=
  iprop(Flight EC (c, Proc.tc) (.dma cc0_scoped11.sem) () codesN iprop((L c main_v10_1 ↦[Finset.univ]{fullShare} co) ∗ (L c cc0_scratch10 ↦[Finset.univ]{fullShare} co))
    ∗ Flight EC (c, Proc.tc) (.dma cc0_scoped12.sem) () scaleN iprop((L c main_v10_2 ↦[Finset.univ]{fullShare} sc) ∗ (L c cc0_scratch13 ↦[Finset.univ]{fullShare} sc))
    ∗ MixedBatch EC (c, Proc.tc) (.dma cc0_scoped13.sem) () yAmt (yDel c y) 1 0
    ∗ (∃ f, L c main_v10_0 ↦[yHi]{fullShare} f))

/-- Copying a rectangle of the result's buffer to the same rectangle of the result. -/
theorem y_copy (y fd : FVec F S32x7168 .bf16) (r : Rect S32x7168) {h1} {h2} (i : S32x7168.Idx) (hi : i ∈ r.set) :
    (A10.slice r h1).view.write (Elt F) fd (ReadAs.same.apply ((A33.slice r h2).view.read (Elt F) y)) Finset.univ i = y i := by
  rw [show r.set = (A10.slice r h1).view.set from (View.set_slice_whole _ _).symm] at hi
  obtain ⟨x, -, rfl⟩ := Finset.mem_map.mp hi
  exact View.write_emb_of_mem (v := (A10.slice r h1).view) (Val := Elt F) fd _ (Finset.mem_univ x)

/-- Starting the copy of one piece of the result. -/
theorem fly_y (t : Fin 2) (r : Rect S32x7168) {h1} {h2} (hr : r.set = yPiece t) (hA : (A10.slice r h1).view.dmaCredit = yAmt t)
    (y y2 : FVec F S32x7168 .bf16) (hy : ∀ i ∈ yPiece t, y i = y2 i) (fd : FVec F S32x7168 .bf16)
    {hp1 : (A33.slice r h2).view.WordExact} {hp2 : (A10.slice r h1).view.WordExact} {hp3}
    {kk : PUnit → Prog (TpuEff nD τ sig (Elt F) Λ₀ .tc) α} {Q : α → sProp 𝕄} :
    iprop((L c cc0_scratch20 ↦[yPiece t]{fullShare} y) ∗ (L c main_v10_0 ↦[yPiece t]{fullShare} fd)
        ∗ MixedBatch EC (c, Proc.tc) (.dma cc0_scoped13.sem) () yAmt (yDel c y2) t.val 0) ⊢
      iprop((MixedBatch EC (c, Proc.tc) (.dma cc0_scoped13.sem) () yAmt (yDel c y2) (t.val + 1) 0 -∗ WP c (kk ⟨⟩) Q)
        -∗ WP c (Prog.lift (.enqueueDma (A33.slice r h2) (.here (p := (Proc.tc : Proc τ)) (A10.slice r h1)) (.dma cc0_scoped13.sem) hp1 hp2 hp3) >>= kk) Q) := by
  rw [Prog.bind_lift]
  have e1 : (A33.slice r h2).view.set = yPiece t := (View.set_slice_whole _ _).trans hr
  have e2 : (A10.slice r h1).view.set = yPiece t := (View.set_slice_whole _ _).trans hr
  have h := wp_dmaMixedBatch EC Variants.none (c, Proc.tc) none (defs := defs₀) (src := A33.slice r h2) (dst := A10.slice r h1) (via := ReadAs.same) (sm := .dma cc0_scoped13.sem)
    (hsrc := hp1) (hdst := hp2) (hsem := hp3) (k := kk) (Q := Q) (q := fullShare) (fs := y) (Sd := yPiece t) (fd := fd) (D := yDel c y2) (j := t.val) (u := 0) () yAmt
    (by rw [e2]) t.isLt hA (Nat.zero_le _) (by
      unfold yDel
      rw [e1]
      refine BIClass.sep_mono (Entails.of_eq (pointsTo_congr fun i hi => ?_)) (Entails.of_eq (pointsTo_congr fun i hi => hy i hi))
      exact (y_copy y fd r i (hr ▸ hi)).trans (hy i hi))
  rw [e1] at h
  exact h

/-- Waiting for the first piece, both being under way. -/
theorem wait_y0 (y2 : FVec F S32x7168 .bf16) {sp sp' : Space} {s s' : Shape} {e₀ e' : EltTy}
    {srcw : Memref sig .tc sp' s' e₀} {dstw : Memref sig .tc sp s e'} {hsrc : srcw.view.WordExact} {hdst : dstw.view.WordExact}
    (hN : dstw.view.dmaCredit = yAmt 0)
    {kk : PUnit → Prog (TpuEff nD τ sig (Elt F) Λ₀ .tc) α} {Q : α → sProp 𝕄} :
    iprop(MixedBatch EC (c, Proc.tc) (.dma cc0_scoped13.sem) () yAmt (yDel c y2) 2 0 ∗ Ow c) ⊢
      iprop((iprop(MixedBatch EC (c, Proc.tc) (.dma cc0_scoped13.sem) () yAmt (yDel c y2) 2 (yAmt 0) ∗ Ow c) -∗ WP c (kk ⟨⟩) Q)
        -∗ WP c (Prog.lift (.waitDma2 cc0_scoped13.sem srcw dstw hsrc hdst) >>= kk) Q) := by
  rw [Prog.bind_lift]
  unfold Ow
  iintro ⟨H, ⟨%W, HW⟩⟩ Hk
  iapply (wp_waitMixedBatch EC Variants.none (c, Proc.tc) none (defs := defs₀) (A := yAmt) (j := 2) (u := 0) () hN (by decide)) $$ [H HW]
  · isplitl [H]; · iexact H
    iexact HW
  iintro ⟨HD, HW⟩
  iapply Hk
  isplitl [HD]
  · rw [Nat.zero_add]; iexact HD
  iexists _
  iexact HW

/-- Waiting for the second piece. -/
theorem wait_y1 (y2 : FVec F S32x7168 .bf16) {sp sp' : Space} {s s' : Shape} {e₀ e' : EltTy}
    {srcw : Memref sig .tc sp' s' e₀} {dstw : Memref sig .tc sp s e'} {hsrc : srcw.view.WordExact} {hdst : dstw.view.WordExact}
    (hN : dstw.view.dmaCredit = yAmt 1)
    {kk : PUnit → Prog (TpuEff nD τ sig (Elt F) Λ₀ .tc) α} {Q : α → sProp 𝕄} :
    iprop(MixedBatch EC (c, Proc.tc) (.dma cc0_scoped13.sem) () yAmt (yDel c y2) 2 (yAmt 0) ∗ Ow c) ⊢
      iprop((iprop(((yDel c y2 0 ∗ yDel c y2 1) ∗ semVal ((c, Proc.tc), SemLoc.dma cc0_scoped13.sem) 0) ∗ Ow c) -∗ WP c (kk ⟨⟩) Q)
        -∗ WP c (Prog.lift (.waitDma2 cc0_scoped13.sem srcw dstw hsrc hdst) >>= kk) Q) := by
  rw [Prog.bind_lift]
  unfold Ow
  iintro ⟨H, ⟨%W, HW⟩⟩ Hk
  iapply (wp_waitMixedBatchAll EC Variants.none (c, Proc.tc) none (defs := defs₀) (A := yAmt) (u := yAmt 0) () hN (by decide) (by decide)) $$ [H HW]
  · isplitl [H]; · iexact H
    iexact HW
  iintro ⟨HD, Hv, HW⟩
  iapply Hk
  isplitl [HD Hv]
  · isplitl [HD]
    · have e : bigSep Finset.univ (yDel c y2) ⊢ iprop(yDel c y2 0 ∗ yDel c y2 1) := by
        rw [show (Finset.univ : Finset (Fin 2)) = insert 0 {1} from rfl, bigSep_insert (by decide), bigSep_singleton]
        exact .rfl
      ihave HD := e $$ HD
      iexact HD
    iexact Hv
  iexists _
  iexact HW

theorem codesN_eq : A11.view.amount (.dma cc0_scoped11.sem) = codesN := rfl
theorem scaleN_eq : A12.view.amount (.dma cc0_scoped12.sem) = scaleN := rfl
theorem codesN_pos : 0 < codesN := by decide
theorem scaleN_pos : 0 < scaleN := by decide
theorem yAmt0_eq {h2 : ∀ a, ![0, 0] a + S32x6656.size a ≤ S32x7168.size a} {g2} :
    (A10.slice (Rect.unit (s := S32x7168) ![0, 0] S32x6656.size h2) g2).view.dmaCredit = yAmt 0 := by
  rw [yAmt_zero]
  rfl
theorem yAmt1_eq {h2 : ∀ a, ![0, 6656] a + S32x512.size a ≤ S32x7168.size a} {g2} :
    (A10.slice (Rect.unit (s := S32x7168) ![0, 6656] S32x512.size h2) g2).view.dmaCredit = yAmt 1 := by
  rw [yAmt_one]
  rfl
theorem codes_copy (f1 f : FVec F S32x7168 .fp8e4m3) : A11.view.write (Elt F) f1 (ReadAs.same.apply (A23.view.read (Elt F) f)) Finset.univ = f := by
  funext x; exact View.write_emb_of_mem (v := A11.view) (Val := Elt F) f1 _ (Finset.mem_univ x)
theorem scale_copy (f1 f : FVec F S1x32 .f32) : A12.view.write (Elt F) f1 (ReadAs.same.apply (A26.view.read (Elt F) f)) Finset.univ = f := by
  funext x; exact View.write_emb_of_mem (v := A12.view) (Val := Elt F) f1 _ (Finset.mem_univ x)

/-- The three copies started, the last block of the result still held. -/
theorem st_out {R : sProp 𝕄} (sc : FVec F S1x32 .f32) (y2 : FVec F S32x7168 .bf16) (hy : ∀ i ∈ yLo, σ.yout i = y2 i)
    {h1 h2 : ∀ a, ![0, 0] a + S32x6656.size a ≤ S32x7168.size a} {g1 g2 p1 p2 p3 p4 p5 p6 p7 p8 p9}
    {kk : PUnit → Prog (TpuEff nD τ sig (Elt F) Λ₀ .tc) α} {Q : α → sProp 𝕄}
    (hk : St c I K true iprop(outTail c K.codes sc y2 ∗ R) σ w a ⊢ WP c (kk ⟨⟩) Q) :
    St c I K false iprop(outHead c sc ∗ R) σ w a ⊢ WP c (Prog.lift (.enqueueDma A23 (.here (p := (Proc.tc : Proc τ)) A11) (.dma cc0_scoped11.sem) p1 p2 p3) >>= fun _ =>
      Prog.lift (.enqueueDma A26 (.here (p := (Proc.tc : Proc τ)) A12) (.dma cc0_scoped12.sem) p4 p5 p6) >>= fun _ =>
      Prog.lift (.enqueueDma (A33.slice (Rect.unit (s := S32x7168) ![0, 0] S32x6656.size h1) g1)
        (.here (p := (Proc.tc : Proc τ)) (A10.slice (Rect.unit (s := S32x7168) ![0, 0] S32x6656.size h2) g2)) (.dma cc0_scoped13.sem) p7 p8 p9) >>= kk) Q := by
  unfold St outHead
  simp only [if_true, if_false, Bool.false_eq_true]
  iintro ⟨H1, H2, H3, H4, H5, H6, H7, H8, H9, H10, H11, H12, H13, H14, HY, HC, HL, ⟨⟨⟨%f1, HD1⟩, HS1, HSc, ⟨%f2, HD2⟩, HS2, ⟨%f0, HD0⟩, HS0⟩, HR⟩⟩
  iapply (fly_whole (c := c) (src := A23) (dst := A11) (sem := cc0_scoped11.sem) (q := fullShare) (fs := K.codes) (fd := f1) (g := K.codes) codesN (View.set_whole _) (View.set_whole _) codesN_eq codesN_pos
    (codes_copy f1 K.codes)) $$ [HC HD1 HS1]
  · isplitl [HC]; · iexact HC
    isplitl [HD1]; · iexact HD1
    iexact HS1
  iintro HF1
  iapply (fly_whole (c := c) (src := A26) (dst := A12) (sem := cc0_scoped12.sem) (q := fullShare) (fs := sc) (fd := f2) (g := sc) scaleN (View.set_whole _) (View.set_whole _) scaleN_eq scaleN_pos
    (scale_copy f2 sc)) $$ [HSc HD2 HS2]
  · isplitl [HSc]; · iexact HSc
    isplitl [HD2]; · iexact HD2
    iexact HS2
  iintro HF2
  imod (mixedBatch_alloc' EC (c, Proc.tc) (sm := SemLoc.dma cc0_scoped13.sem) () yAmt (yDel c y2) (E := Set.univ)) $$ HS0 with HB
  ihave HY := (pointsTo_split_subset (Finset.subset_univ yLo)).1 $$ HY
  icases HY with ⟨HY0, HY1⟩
  ihave HD := (pointsTo_split_subset (Finset.subset_univ yLo)).1 $$ HD0
  icases HD with ⟨HDl, HDh⟩
  rw [show (Finset.univ \ yLo : Finset S32x7168.Idx) = yHi from yLo_compl]
  iapply (fly_y (c := c) 0 (Rect.unit (s := S32x7168) ![0, 0] S32x6656.size h1) yLo_set yAmt0_eq σ.yout y2 hy f0) $$ [HY0 HDl HB]
  · isplitl [HY0]; · iexact HY0
    isplitl [HDl]; · iexact HDl
    iexact HB
  iintro HB
  iapply hk
  unfold St outTail
  simp only [if_true]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HY1]; · iexact HY1
  isplitr; · rw [pointsTo_empty]; iempintro
  isplitl [HL]; · iexact HL
  isplitl [HF1 HF2 HB HDh]
  · isplitl [HF1]; · iexact HF1
    isplitl [HF2]; · iexact HF2
    isplitl [HB]; · iexact HB
    iexists _; iexact HDh
  iexact HR

end OutCopies

end Cert.KernelIdeal.Hand
end
-- ==== Proof.Trip.lean ====
/-
  Hand-written, untrusted. One expert from end to end.
-/
module

public import proofs.«01_k».proof.Proof.Out

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

section Trip
variable {c : Dev nD} {I : Arr F} {K : Once F} {σ : State F} {w a : ℕ}
variable (v17 v36 v51 v66 v81 : BitVec 32) (hw5 : k0_chk5 v17 v36 v51 v66 v81) (t4 : Fin (k0_t4_loop v17 v36 v51 v66 v81).trips)

theorem off155_eq : k0_off155 = ![13, 0, 0] := by decide
theorem off157_eq : k0_off157 = ![0, 512 * 13] := by decide

/-- A branch taken, as a condition without a proof. -/
theorem st_ite_yes {α : Type} {P : sProp 𝕄} {b : Prop} {d : Decidable b} {t e : Prog (TpuEff nD τ sig (Elt F) Λ₀ .tc) α} {Q : α → sProp 𝕄} (h : b)
    (hk : P ⊢ WP c t Q) : P ⊢ WP c (if b then t else e) Q := by
  rw [if_pos h]; exact hk

theorem st_ite_no {α : Type} {P : sProp 𝕄} {b : Prop} {d : Decidable b} {t e : Prog (TpuEff nD τ sig (Elt F) Λ₀ .tc) α} {Q : α → sProp 𝕄} (h : ¬b)
    (hk : P ⊢ WP c e Q) : P ⊢ WP c (if b then t else e) Q := by
  rw [if_neg h]; exact hk

theorem last_cond : ∀ b : BitVec 1, (Scalar.cmpi .ne (Scalar.extui (Scalar.xori b 1#1) : BitVec 32) 0#32 = 1#1 ↔ b = 0#1) := by decide

/-- The last column block, when another expert follows. -/
theorem part24_more {R : sProp 𝕄} (hw6 : k0_chk6 (ev σ.e)) (b : BitVec 1) (hb : b = 1#1) (ro : IVec S32x128 1) (v523 : BitVec 32) (v545 : BitVec 1) {Q}
    (hk : St c I K false R { σ with yacc := (yStep ro I 13 (by decide) σ).yacc } 44 a ⊢ Q ⟨Scalar.muli (Scalar.addi 13#32 0#32) 512#32,
      k0_pay64 ro (rdA (s := S32x128) ![0, 0] S32x128.size (b2 le_rfl le_rfl) σ.coef) (rdA (s := S32x2048) ![0, 0] S32x2048.size (b2 le_rfl le_rfl) σ.acodes)
        (rdA (s := S14x2048x512) ![13, 0, 0] S1x2048x512.size (b3 (by decide) le_rfl le_rfl) (dnVal I.wd σ.e))
        (rdA (s := S4x7168) ![σ.e.val, 512 * 13] S1x512.size (b2 σ.e.isLt (by decide)) I.ds)
        (rdA (s := S32x7168) ![0, 512 * 13] S32x512.size (b2 le_rfl (by decide)) σ.yacc)⟩) (ha : a ≤ 74) :
    St c I K false R σ 44 a ⊢ WP c (onK (k0_part24_skel (F := F)) (ev σ.e) hw6 b ro v523 v545) Q := by
  subst hb
  unfold onK k0_part24_skel
  refine st_if_not cond34_not ?_
  refine st_ite_no (by decide) ?_
  refine st_rd rfl (lk_coef c I K false σ _ _ R) (Finset.subset_univ _) (rd_eq rfl _) ?_
  refine st_rd rfl (lk_acodes c I K false σ _ _ R) (Finset.subset_univ _) (rd_eq rfl _) ?_
  refine st_rd off155_eq (lk_dn ha) (rect_sub (fun i hi => seenDn 13 _ (by omega) rfl i hi)) (rd_eq rfl _) ?_
  refine st_rd (off156_eq σ.e) (lk_ds c I K false σ _ _ R) (Finset.subset_univ _) (rd_eq rfl _) ?_
  refine st_rd off157_eq (lk_yacc c I K false σ _ _ R) (Finset.subset_univ _) (rd_eq rfl _) ?_
  refine st_ld (lk_yacc c I K false σ _ _ R) (Finset.subset_univ _) rfl ?_
  refine st_st (ln_yacc c I K false σ _ _ R) (g := (yStep ro I 13 (by decide) σ).yacc) (wr_eq off157_eq _ _) ?_
  exact st_pure hk

/-- The last column block of the last expert: the results' copies start before it is computed. -/
theorem part24_last {R : sProp 𝕄} (sc : FVec F S1x32 .f32) (y2 : FVec F S32x7168 .bf16) (hy : ∀ i ∈ yLo, σ.yout i = y2 i)
    (hw6 : k0_chk6 (ev σ.e)) (b : BitVec 1) (hb : b = 0#1) (ro : IVec S32x128 1) (v523 : BitVec 32) (v545 : BitVec 1) {Q}
    (hk : St c I K true iprop(outTail c K.codes sc y2 ∗ R) { σ with yacc := (yStep ro I 13 (by decide) σ).yacc } 44 a ⊢ Q ⟨Scalar.muli (Scalar.addi 13#32 0#32) 512#32,
      k0_pay64 ro (rdA (s := S32x128) ![0, 0] S32x128.size (b2 le_rfl le_rfl) σ.coef) (rdA (s := S32x2048) ![0, 0] S32x2048.size (b2 le_rfl le_rfl) σ.acodes)
        (rdA (s := S14x2048x512) ![13, 0, 0] S1x2048x512.size (b3 (by decide) le_rfl le_rfl) (dnVal I.wd σ.e))
        (rdA (s := S4x7168) ![σ.e.val, 512 * 13] S1x512.size (b2 σ.e.isLt (by decide)) I.ds)
        (rdA (s := S32x7168) ![0, 512 * 13] S32x512.size (b2 le_rfl (by decide)) σ.yacc)⟩) (ha : a ≤ 74) :
    St c I K false iprop(outHead c sc ∗ R) σ 44 a ⊢ WP c (onK (k0_part24_skel (F := F)) (ev σ.e) hw6 b ro v523 v545) Q := by
  subst hb
  unfold onK k0_part24_skel
  refine st_if_not cond34_not ?_
  refine st_ite_yes (by decide) ?_
  simp only []
  refine st_out sc y2 hy ?_
  refine st_rd rfl (lk_coef c I K true σ _ _ _) (Finset.subset_univ _) (rd_eq rfl _) ?_
  refine st_rd rfl (lk_acodes c I K true σ _ _ _) (Finset.subset_univ _) (rd_eq rfl _) ?_
  refine st_rd off155_eq (lk_dn ha) (rect_sub (fun i hi => seenDn 13 _ (by omega) rfl i hi)) (rd_eq rfl _) ?_
  refine st_rd (off156_eq σ.e) (lk_ds c I K true σ _ _ _) (Finset.subset_univ _) (rd_eq rfl _) ?_
  refine st_rd off157_eq (lk_yacc c I K true σ _ _ _) (Finset.subset_univ _) (rd_eq rfl _) ?_
  refine st_ld (lk_yacc c I K true σ _ _ _) (Finset.subset_univ _) rfl ?_
  refine st_st (ln_yacc c I K true σ _ _ _) (g := (yStep ro I 13 (by decide) σ).yacc) (wr_eq off157_eq _ _) ?_
  exact st_pure hk

/-! ## The expert's values -/

/-- The activation's four column blocks and the largest magnitude in each row, from the first product and the LoRA delta. -/
def v398V (I : Arr F) (K : Once F) (σ : State F) : FVec F S32x512 .f32 :=
  k0_pay42 (k0_pay35 (xsV K)) (hB 512 (by decide) σ.h) (uB σ.e 512 (by decide) I.us) (hB 512 (by decide) σ.delta)

def v400V (K : Once F) (σ : State F) : FVec F S32x512 .f32 := k0_pay43 (k0_pay35 (xsV K)) (hB 2560 (by decide) σ.h)

def v383V (I : Arr F) (K : Once F) (σ : State F) : FVec F S32x1 .f32 :=
  k0_pay40 (k0_pay35 (xsV K)) k0_pay36 (k0_pay37 (xsV K) (hB 0 (by decide) σ.h)) (k0_pay38 (uB σ.e 0 (by decide) I.us)) (hB 0 (by decide) σ.delta)
    (hB 2048 (by decide) σ.h) (uB σ.e 2048 (by decide) I.us) (hB 2048 (by decide) σ.delta)

def v413V (I : Arr F) (K : Once F) (σ : State F) : FVec F S32x1 .f32 :=
  k0_pay45 (v383V I K σ) (v398V I K σ) (v400V K σ) (uB σ.e 2560 (by decide) I.us) (hB 2560 (by decide) σ.delta)

def v439V (I : Arr F) (K : Once F) (σ : State F) : FVec F S32x512 .f32 :=
  k0_pay47 (k0_pay35 (xsV K)) (hB 1024 (by decide) σ.h) (uB σ.e 1024 (by decide) I.us) (hB 1024 (by decide) σ.delta) (hB 3072 (by decide) σ.h) (uB σ.e 3072 (by decide) I.us) (hB 3072 (by decide) σ.delta)

def v440V (I : Arr F) (K : Once F) (σ : State F) : FVec F S32x512 .f32 :=
  k0_pay48 (k0_pay35 (xsV K)) (hB 1024 (by decide) σ.h) (uB σ.e 1024 (by decide) I.us) (hB 1024 (by decide) σ.delta) (hB 3072 (by decide) σ.h) (uB σ.e 3072 (by decide) I.us) (hB 3072 (by decide) σ.delta)

def amaxV (I : Arr F) (K : Once F) (σ : State F) : FVec F S32x1 .f32 :=
  k0_pay52 (k0_pay35 (xsV K)) (v413V I K σ) (v440V I K σ) (hB 1536 (by decide) σ.h) (uB σ.e 1536 (by decide) I.us) (hB 1536 (by decide) σ.delta)
    (hB 3584 (by decide) σ.h) (uB σ.e 3584 (by decide) I.us) (hB 3584 (by decide) σ.delta)

def act0 (I : Arr F) (K : Once F) (σ : State F) : FVec F S32x2048 .f32 :=
  aW 0 (by decide) σ.act (k0_pay41 (k0_pay35 (xsV K)) (k0_pay37 (xsV K) (hB 0 (by decide) σ.h)) (k0_pay38 (uB σ.e 0 (by decide) I.us)) (hB 0 (by decide) σ.delta)
    (hB 2048 (by decide) σ.h) (uB σ.e 2048 (by decide) I.us) (hB 2048 (by decide) σ.delta))

def act1 (I : Arr F) (K : Once F) (σ : State F) : FVec F S32x2048 .f32 :=
  aW 512 (by decide) (act0 I K σ) (k0_pay46 (v398V I K σ) (v400V K σ) (uB σ.e 2560 (by decide) I.us) (hB 2560 (by decide) σ.delta))

def act3 (I : Arr F) (K : Once F) (σ : State F) : FVec F S32x2048 .f32 :=
  aW 1536 (by decide) (aW 1024 (by decide) (act1 I K σ) (k0_pay49 (v439V I K σ))) (k0_pay51 (k0_pay35 (xsV K)) (hB 1536 (by decide) σ.h) (uB σ.e 1536 (by decide) I.us) (hB 1536 (by decide) σ.delta)
    (hB 3584 (by decide) σ.h) (uB σ.e 3584 (by decide) I.us) (hB 3584 (by decide) σ.delta))

/-- After the activation. -/
def actUp (I : Arr F) (K : Once F) (σ : State F) : State F := { σ with act := act3 I K σ }

/-- The state in which the second product starts. -/
def preDown (I : Arr F) (K : Once F) (σ : State F) : State F :=
  quantA (weightV K σ.e) (amaxV I K (afterUp I K σ)) (Scalar.ofBits .f32 0x00000000#32) (actUp I K (afterUp I K σ))

/-- The state after one expert. -/
def exUp (I : Arr F) (K : Once F) (σ : State F) : State F := yUp (routedV K σ.e) I (preDown I K σ) 14

/-- The state before the last column block. -/
abbrev ex13 (I : Arr F) (K : Once F) (σ : State F) : State F := yUp (routedV K σ.e) I (preDown I K σ) 13

/-- The last column block stored. -/
def t4Tail (v581 : FVec F S32x512 .bf16) : Prog (TpuEff nD τ sig (Elt F) Λ₀ .tc) Unit := do
  let v583 : Vec F S32x512 .bf16 ← Prog.lift (.load A33 (Rect.unit (s := S32x7168) k0_off157 S32x512.size k0_off157_inb).toLoadRect (View.loadsAt_vmem h_S32x512))
  Prog.lift (.store A33 (Rect.unit (s := S32x7168) k0_off157 S32x512.size k0_off157_inb) (k0_pay151 v581) Finset.univ (View.stores_vmem h_S32x512 ((Memref.isWhole_whole _).storeExact_slice rfl _ k0_off157_packedbf16) (fun _ => rfl)) (.inl rfl))
  pure ⟨⟩

theorem t4_pre {R : sProp 𝕄}
    (hl1 : (A34.access (Rect.unit (s := S5) (k0_off11 v17 v36 v51 v66 v81 t4) S1.size (k0_off11_inb v17 v36 v51 v66 v81 hw5 t4))).read (Elt F) K.live
      (Shape.Idx.first (numel1_S1.symm ▸ Nat.one_pos)) = ev σ.e)
    (hl2 : (A34.access (Rect.unit (s := S5) (k0_off12 v17 v36 v51 v66 v81 t4) S1.size (k0_off12_inb v17 v36 v51 v66 v81 hw5 t4))).read (Elt F) K.live
      (Shape.Idx.first (numel1_S1.symm ▸ Nat.one_pos)) = ev σ.en)
    (h7 : k0_chk7 v17 v36 v51 v66 v81 t4 (ev σ.en)) (n : ℕ) (hn : (moreB v17 v36 v51 v66 v81 t4).toNat = n) {Q}
    (hk : ∀ v523 v545, St c I K false R (ex13 I K σ) 44 (44 + 7 * n) ⊢ WP c (onK (k0_part24_skel (F := F)) (ev σ.e) (chk6_ok σ.e) (moreB v17 v36 v51 v66 v81 t4) (routedV K σ.e) v523 v545)
      fun v => WP c (t4Tail v.2) Q) :
    St c I K false R σ 0 7 ⊢ WP c (onK (k0_t4_body (F := F)) v17 v36 v51 v66 v81 hw5 (nl v17 v36 v51 v66 v81) t4 ()) Q := by
  unfold onK k0_t4_body
  rw [k0_part15_eq_skeleton]
  refine st_bind ?_
  refine part15_st v17 v36 v51 v66 v81 hw5 _ t4 hl1 hl2 h7 ?_
  dsimp only
  rw [k0_part16_eq_skeleton]
  refine st_bind (part16_st (chk6_ok σ.e) ?_)
  dsimp only
  rw [k0_part17_eq_skeleton]
  refine st_bind (part17_st (chk6_ok σ.e) _ _ _ ?_)
  dsimp only
  rw [k0_part18_eq_skeleton]
  refine st_bind (part18_st (chk6_ok σ.e) ?_)
  dsimp only
  rw [k0_part19_eq_skeleton]
  refine st_bind (part19_st (σ := afterUp I K σ) (chk6_ok σ.e) _ _ _ _ ?_)
  dsimp only
  rw [k0_part20_eq_skeleton]
  refine st_bind (part20_st (σ := { afterUp I K σ with act := act0 I K (afterUp I K σ) }) (chk6_ok σ.e) _ _ _ _ ?_)
  dsimp only
  rw [k0_part21_eq_skeleton]
  refine st_bind (part21_st (σ := { afterUp I K σ with act := act1 I K (afterUp I K σ) }) (chk6_ok σ.e) _ _ _ _ ?_)
  dsimp only
  rw [k0_part22_eq_skeleton]
  refine st_bind (part22_st (σ := actUp I K (afterUp I K σ)) v17 v36 v51 v66 v81 hw5 t4 (chk6_ok σ.e) h7 _ _ _ _ n hn ?_)
  rw [k0_part23_eq_skeleton]
  obtain ⟨h1, h2⟩ := yUp_e (ro := routedV K σ.e) (I := I) (σ := preDown I K σ) 13
  have hk' := hk
  change ∀ v523 v545, St c I K false R (yUp (routedV K σ.e) I (preDown I K σ) 13) 44 (44 + 7 * n) ⊢ _ at hk'
  show St c I K false R (yUp (routedV K σ.e) I (preDown I K σ) 13) 43 (min (44 + 7 * n) 50) ⊢ _
  generalize yUp (routedV K σ.e) I (preDown I K σ) 13 = σ' at h1 h2 hk' ⊢
  obtain ⟨d', x1, x2, x3, x4, x5, x6, e', en'⟩ := σ'
  change e' = σ.e at h1
  change en' = σ.en at h2
  subst h1 h2
  refine st_bind (part23_st (σ := ⟨d', x1, x2, x3, x4, x5, x6, σ.e, σ.en⟩) v17 v36 v51 v66 v81 t4 (chk6_ok σ.e) h7 n hn ?_)
  dsimp only
  rw [k0_part24_eq_skeleton]
  exact st_bind (hk' _ _)

/-- An expert after which another follows. -/
theorem t4_more {R : sProp 𝕄}
    (hl1 : (A34.access (Rect.unit (s := S5) (k0_off11 v17 v36 v51 v66 v81 t4) S1.size (k0_off11_inb v17 v36 v51 v66 v81 hw5 t4))).read (Elt F) K.live
      (Shape.Idx.first (numel1_S1.symm ▸ Nat.one_pos)) = ev σ.e)
    (hl2 : (A34.access (Rect.unit (s := S5) (k0_off12 v17 v36 v51 v66 v81 t4) S1.size (k0_off12_inb v17 v36 v51 v66 v81 hw5 t4))).read (Elt F) K.live
      (Shape.Idx.first (numel1_S1.symm ▸ Nat.one_pos)) = ev σ.en)
    (h7 : k0_chk7 v17 v36 v51 v66 v81 t4 (ev σ.en)) (hn : moreB v17 v36 v51 v66 v81 t4 = 1#1) {Q}
    (hk : St c I K false R (exUp I K σ) 44 51 ⊢ Q ()) :
    St c I K false R σ 0 7 ⊢ WP c (onK (k0_t4_body (F := F)) v17 v36 v51 v66 v81 hw5 (nl v17 v36 v51 v66 v81) t4 ()) Q := by
  refine t4_pre v17 v36 v51 v66 v81 hw5 t4 hl1 hl2 h7 1 (by rw [hn]; rfl) fun _ _ => ?_
  unfold exUp at hk
  rw [yUp_succ (by decide)] at hk
  obtain ⟨h1, h2⟩ := yUp_e (ro := routedV K σ.e) (I := I) (σ := preDown I K σ) 13
  unfold ex13
  generalize yUp (routedV K σ.e) I (preDown I K σ) 13 = σ' at h1 h2 hk ⊢
  obtain ⟨d', x1, x2, x3, x4, x5, x6, e', en'⟩ := σ'
  change e' = σ.e at h1
  change en' = σ.en at h2
  subst h1 h2
  refine part24_more (σ := ⟨d', x1, x2, x3, x4, x5, x6, σ.e, σ.en⟩) (chk6_ok σ.e) _ hn _ _ _ ?_ (by decide)
  unfold t4Tail
  refine st_ld (lk_yout c I K _ _ _ R) (Finset.subset_univ _) rfl ?_
  refine st_st (ln_yout c I K false _ _ _ R) (g := (yStep (routedV K σ.e) I 13 (by decide) ⟨d', x1, x2, x3, x4, x5, x6, σ.e, σ.en⟩).yout) (wr_eq off157_eq _ _) ?_
  exact st_pure hk

theorem hiMem (i : S32x7168.Idx) (hi : ∀ a, k0_off157 a ≤ (i a).val ∧ (i a).val < k0_off157 a + S32x512.size a) : i ∈ yHi := by
  have h := (hi 1).1
  rw [off157_eq] at h
  change 512 * 13 ≤ (i 1).val at h
  exact Finset.mem_filter.mpr ⟨Finset.mem_univ _, by omega⟩

/-- The last expert. -/
theorem t4_last {R : sProp 𝕄} (sc : FVec F S1x32 .f32)
    (hl1 : (A34.access (Rect.unit (s := S5) (k0_off11 v17 v36 v51 v66 v81 t4) S1.size (k0_off11_inb v17 v36 v51 v66 v81 hw5 t4))).read (Elt F) K.live
      (Shape.Idx.first (numel1_S1.symm ▸ Nat.one_pos)) = ev σ.e)
    (hl2 : (A34.access (Rect.unit (s := S5) (k0_off12 v17 v36 v51 v66 v81 t4) S1.size (k0_off12_inb v17 v36 v51 v66 v81 hw5 t4))).read (Elt F) K.live
      (Shape.Idx.first (numel1_S1.symm ▸ Nat.one_pos)) = ev σ.en)
    (h7 : k0_chk7 v17 v36 v51 v66 v81 t4 (ev σ.en)) (hn : moreB v17 v36 v51 v66 v81 t4 = 0#1) {Q}
    (hk : St c I K true iprop(outTail c K.codes sc (exUp I K σ).yout ∗ R) (exUp I K σ) 44 44 ⊢ Q ()) :
    St c I K false iprop(outHead c sc ∗ R) σ 0 7 ⊢ WP c (onK (k0_t4_body (F := F)) v17 v36 v51 v66 v81 hw5 (nl v17 v36 v51 v66 v81) t4 ()) Q := by
  refine t4_pre v17 v36 v51 v66 v81 hw5 t4 hl1 hl2 h7 0 (by rw [hn]; rfl) fun _ _ => ?_
  unfold exUp at hk
  rw [yUp_succ (by decide)] at hk
  obtain ⟨h1, h2⟩ := yUp_e (ro := routedV K σ.e) (I := I) (σ := preDown I K σ) 13
  unfold ex13
  generalize yUp (routedV K σ.e) I (preDown I K σ) 13 = σ' at h1 h2 hk ⊢
  obtain ⟨d', x1, x2, x3, x4, x5, x6, e', en'⟩ := σ'
  change e' = σ.e at h1
  change en' = σ.en at h2
  subst h1 h2
  refine part24_last (σ := ⟨d', x1, x2, x3, x4, x5, x6, σ.e, σ.en⟩) sc (yStep (routedV K σ.e) I 13 (by decide) ⟨d', x1, x2, x3, x4, x5, x6, σ.e, σ.en⟩).yout
    (fun i hi => ?_) (chk6_ok σ.e) _ hn _ _ _ ?_ (by decide)
  · have h := (Finset.mem_filter.mp hi).2
    show x6 i = yW 13 (by decide) x6 _ i
    unfold yW wrA
    rw [dif_neg]
    intro hh
    have := (hh 1).1
    change 512 * 13 ≤ (i 1).val at this
    omega
  unfold t4Tail
  refine st_load ((ln_yout c I K true _ _ _ _).look rfl) (rect_sub fun i hi => hiMem i hi) ?_
  refine st_store (ln_yout c I K true _ _ _ _) (fun i hi => ?_) ?_
  · rw [View.setOn_univ] at hi
    have hi' : i ∈ (Rect.unit (s := S32x7168) k0_off157 S32x512.size k0_off157_inb).set := (View.set_slice_whole cc0_scratch20 _) ▸ hi
    exact hiMem i (Rect.mem_set_unit.mp hi')
  rw [wr_eq off157_eq]
  exact st_pure hk

end Trip

end Cert.KernelIdeal.Hand
end
-- ==== Proof.Live.lean ====
/-
  Hand-written, untrusted. The list of experts the kernel visits.
-/
module

public import proofs.«01_k».proof.Proof.Trip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-! ## The count of experts, and the list -/

/-- A flag as the kernel's word. -/
abbrev fv (f : Fin 2) : BitVec 32 := BitVec.ofNat 32 f.val

def one (e : Fin 4) (k : Fin 4) (f : Fin 2) : ℕ := if e = k then 0 else f.val

/-- The experts counted before expert 1, 2, 3, and all of them; the first token's first choice comes first. -/
def cnt1 (e : Fin 4) (f0 : Fin 2) : ℕ := 1 + one e 0 f0
def cnt2 (e : Fin 4) (f0 f1 : Fin 2) : ℕ := cnt1 e f0 + one e 1 f1
def cnt3 (e : Fin 4) (f0 f1 f2 : Fin 2) : ℕ := cnt2 e f0 f1 + one e 2 f2
def cnt4 (e : Fin 4) (f0 f1 f2 f3 : Fin 2) : ℕ := cnt3 e f0 f1 f2 + one e 3 f3

theorem cnt4_pos (e : Fin 4) (f0 f1 f2 f3 : Fin 2) : 0 < cnt4 e f0 f1 f2 f3 := by
  unfold cnt4 cnt3 cnt2 cnt1; omega

/-- What is known of the list: `none` where nothing is. -/
abbrev Known := ℕ → Option (Fin 4)

def Known.put (m : Known) (p : ℕ) (x : Fin 4) : Known := fun q => if q = p then some x else m q

def listK (e : Fin 4) (f0 f1 f2 : Fin 2) : Known :=
  ((((Known.put (fun _ => none) 0 e).put 1 0).put (cnt1 e f0) 1).put (cnt2 e f0 f1) 2).put (cnt3 e f0 f1 f2) 3

/-- The `n`-th expert visited. -/
def nth (e : Fin 4) (f0 f1 f2 : Fin 2) (n : ℕ) : Fin 4 := (listK e f0 f1 f2 n).getD 0

def Agrees (m : Known) (l : IVec S5 32) : Prop := ∀ (i : S5.Idx) (x : Fin 4), m (i 0).val = some x → l i = ev x

theorem Agrees.put {m : Known} {l : IVec S5 32} (h : Agrees m l) (p : ℕ) (x : Fin 4) (hp : p < 5) :
    Agrees (m.put p x) (wrA (s := S5) ![p] S1.size (fun a => by match a with | ⟨0, _⟩ => exact hp) l (fun _ => ev x)) := by
  intro i y hy
  unfold Known.put at hy
  unfold wrA
  by_cases hi : (i 0).val = p
  · rw [if_pos hi] at hy
    rw [dif_pos]
    · exact congrArg ev (Option.some.inj hy)
    · intro a
      match a with
      | ⟨0, _⟩ => show p ≤ (i 0).val ∧ (i 0).val < p + 1; omega
  · rw [if_neg hi] at hy
    rw [dif_neg]
    · exact h i y hy
    · intro hh
      have := hh 0
      change p ≤ (i 0).val ∧ (i 0).val < p + 1 at this
      omega

/-! ## The kernel's words for these -/

theorem off8_eq : ∀ (e : Fin 4) (f0 : Fin 2), k0_off8 (ev e) (fv f0) = ![cnt1 e f0] := by decide
theorem off9_eq : ∀ (e : Fin 4) (f0 f1 : Fin 2), k0_off9 (ev e) (fv f0) (fv f1) = ![cnt2 e f0 f1] := by decide
theorem off10_eq : ∀ (e : Fin 4) (f0 f1 f2 : Fin 2), k0_off10 (ev e) (fv f0) (fv f1) (fv f2) = ![cnt3 e f0 f1 f2] := by decide
theorem chk1_ok : ∀ e : Fin 4, k0_chk1 (ev e) := by decide
theorem chk2_ok : ∀ (e : Fin 4) (f0 : Fin 2), k0_chk2 (ev e) (fv f0) := by decide
theorem chk3_ok : ∀ (e : Fin 4) (f0 f1 : Fin 2), k0_chk3 (ev e) (fv f0) (fv f1) := by decide
theorem chk4_ok : ∀ (e : Fin 4) (f0 f1 f2 : Fin 2), k0_chk4 (ev e) (fv f0) (fv f1) (fv f2) := by decide

theorem nl_eq : ∀ (e : Fin 4) (f0 f1 f2 f3 : Fin 2), nl (ev e) (fv f0) (fv f1) (fv f2) (fv f3) = BitVec.ofNat 32 (cnt4 e f0 f1 f2 f3) := by decide

theorem t4_trips : ∀ (e : Fin 4) (f0 f1 f2 f3 : Fin 2), (k0_t4_loop (ev e) (fv f0) (fv f1) (fv f2) (fv f3)).trips = cnt4 e f0 f1 f2 f3 := by decide
theorem t9_trips : ∀ (e : Fin 4) (f0 f1 f2 f3 : Fin 2), (k0_t9_loop (ev e) (fv f0) (fv f1) (fv f2) (fv f3)).trips = 0 := by decide
theorem loops_ok : ∀ (e : Fin 4) (f0 f1 f2 f3 : Fin 2), (k0_t4_loop (ev e) (fv f0) (fv f1) (fv f2) (fv f3)).OK ∧ (k0_t9_loop (ev e) (fv f0) (fv f1) (fv f2) (fv f3)).OK := by decide

theorem off11_eq : ∀ (e : Fin 4) (f0 f1 f2 f3 : Fin 2) (t : Fin (k0_t4_loop (ev e) (fv f0) (fv f1) (fv f2) (fv f3)).trips),
    k0_off11 (ev e) (fv f0) (fv f1) (fv f2) (fv f3) t = ![t.val] := by decide
theorem off12_eq : ∀ (e : Fin 4) (f0 f1 f2 f3 : Fin 2) (t : Fin (k0_t4_loop (ev e) (fv f0) (fv f1) (fv f2) (fv f3)).trips),
    k0_off12 (ev e) (fv f0) (fv f1) (fv f2) (fv f3) t = ![min (t.val + 1) (cnt4 e f0 f1 f2 f3 - 1)] := by decide
theorem more_eq : ∀ (e : Fin 4) (f0 f1 f2 f3 : Fin 2) (t : Fin (k0_t4_loop (ev e) (fv f0) (fv f1) (fv f2) (fv f3)).trips),
    moreB (ev e) (fv f0) (fv f1) (fv f2) (fv f3) t = if t.val + 1 < cnt4 e f0 f1 f2 f3 then 1#1 else 0#1 := by decide
theorem known : ∀ (e : Fin 4) (f0 f1 f2 f3 : Fin 2) (t : Fin 5), t.val < cnt4 e f0 f1 f2 f3 → listK e f0 f1 f2 t.val = some (nth e f0 f1 f2 t.val) := by decide
theorem cnt_lt : ∀ (e : Fin 4) (f0 f1 f2 : Fin 2), cnt1 e f0 < 5 ∧ cnt2 e f0 f1 < 5 ∧ cnt3 e f0 f1 f2 < 5 := by decide
theorem cnt4_lt : ∀ (e : Fin 4) (f0 f1 f2 f3 : Fin 2), cnt4 e f0 f1 f2 f3 ≤ 4 := by decide

/-! ## The checks -/

theorem c5a : ∀ t : Fin k0_t7_loop.trips, t.val = 4 → (∀ a, (k0_off121 t) a + S1.size a ≤ S28.size a) ∧ (∀ a, (k0_off122 t) a + S256x4096.size a ≤ S7168x4096.size a)
    ∧ (∀ (hinb : ∀ a, (k0_off122 t) a + S256x4096.size a ≤ S7168x4096.size a), (Rect.unit (s := S7168x4096) (k0_off122 t) S256x4096.size hinb).WholeWords (EltTy.packing .fp8e4m3)) := by decide

theorem chk5_ok (e : Fin 4) (f0 f1 f2 f3 : Fin 2) : k0_chk5 (ev e) (fv f0) (fv f1) (fv f2) (fv f3) := by
  have h9 := t9_trips e f0 f1 f2 f3
  have h4 := t4_trips e f0 f1 f2 f3
  have hc := cnt4_lt e f0 f1 f2 f3
  refine ⟨(loops_ok e f0 f1 f2 f3).1, fun t a => ?_, fun t a => ?_, fun t t7 h => absurd h (cond21_not _ _ _ _ _ t t7), fun t t7 h => absurd h (cond21_not _ _ _ _ _ t t7), fun t t7 h => absurd h (cond21_not _ _ _ _ _ t t7),
    fun t t7 h => (c5a t7 ((cond25_iff _ _ _ _ _ t t7).1 h).1).1, fun t t7 h => (c5a t7 ((cond25_iff _ _ _ _ _ t t7).1 h).1).2.1, fun t t7 h => (c5a t7 ((cond25_iff _ _ _ _ _ t t7).1 h).1).2.2,
    (loops_ok e f0 f1 f2 f3).2, fun t => absurd t.isLt (by omega), fun t => absurd t.isLt (by omega), fun t => absurd t.isLt (by omega), fun t => absurd t.isLt (by omega),
    fun t => absurd t.isLt (by omega), fun t => absurd t.isLt (by omega), fun t => absurd t.isLt (by omega), fun t => absurd t.isLt (by omega)⟩
  · rw [off11_eq]
    have := t.isLt
    match a with
    | ⟨0, _⟩ => show t.val + 1 ≤ 5; omega
  · rw [off12_eq]
    have := t.isLt
    match a with
    | ⟨0, _⟩ => show min (t.val + 1) (cnt4 e f0 f1 f2 f3 - 1) + 1 ≤ 5; omega

theorem c7a : ∀ en : Fin 4, (∀ a, (k0_off109 (ev en)) a + S1x64x4096.size a ≤ S4x128x4096.size a) ∧
    (∀ (hinb : ∀ a, (k0_off109 (ev en)) a + S1x64x4096.size a ≤ S4x128x4096.size a), (Rect.unit (s := S4x128x4096) (k0_off109 (ev en)) S1x64x4096.size hinb).WholeWords (EltTy.packing .bf16)) := by decide
theorem c7b : ∀ en : Fin 4, (∀ a, (k0_off119 (ev en)) a + S1x128x7168.size a ≤ S4x128x7168.size a) ∧
    (∀ (hinb : ∀ a, (k0_off119 (ev en)) a + S1x128x7168.size a ≤ S4x128x7168.size a), (Rect.unit (s := S4x128x7168) (k0_off119 (ev en)) S1x128x7168.size hinb).WholeWords (EltTy.packing .bf16)) := by decide
theorem c7c : ∀ (en : Fin 4) (t : Fin k0_t7_loop.trips), t.val = 4 → (∀ a, (k0_off123 (ev en) t) a + S1x256x4096.size a ≤ S4x7168x4096.size a) ∧
    (∀ (hinb : ∀ a, (k0_off123 (ev en) t) a + S1x256x4096.size a ≤ S4x7168x4096.size a), (Rect.unit (s := S4x7168x4096) (k0_off123 (ev en) t) S1x256x4096.size hinb).WholeWords (EltTy.packing .fp8e4m3)) := by decide
theorem c7d : ∀ (en : Fin 4) (t : Fin k0_t8_loop.trips), (∀ a, (k0_off137 (ev en) t) a + S1x256x4096.size a ≤ S4x7168x4096.size a) ∧
    (∀ (hinb : ∀ a, (k0_off137 (ev en) t) a + S1x256x4096.size a ≤ S4x7168x4096.size a), (Rect.unit (s := S4x7168x4096) (k0_off137 (ev en) t) S1x256x4096.size hinb).WholeWords (EltTy.packing .fp8e4m3)) := by decide
theorem c7e : ∀ en : Fin 4, (∀ a, (k0_off151 (ev en)) a + S1x256x4096.size a ≤ S4x7168x4096.size a) ∧
    (∀ (hinb : ∀ a, (k0_off151 (ev en)) a + S1x256x4096.size a ≤ S4x7168x4096.size a), (Rect.unit (s := S4x7168x4096) (k0_off151 (ev en)) S1x256x4096.size hinb).WholeWords (EltTy.packing .fp8e4m3)) := by decide

theorem chk7_ok (v17 v36 v51 v66 v81 : BitVec 32) (t4 : Fin (k0_t4_loop v17 v36 v51 v66 v81).trips) (en : Fin 4) : k0_chk7 v17 v36 v51 v66 v81 t4 (ev en) :=
  ⟨fun t h => absurd h (cond19_not _ _ _ _ _ t4 t), fun t h => absurd h (cond19_not _ _ _ _ _ t4 t), fun _ _ => (c7a en).1, fun _ _ => (c7a en).2,
    fun t h => absurd h (cond21_not _ _ _ _ _ t4 t), fun t h => absurd h (cond21_not _ _ _ _ _ t4 t), fun _ _ => (c7b en).1, fun _ _ => (c7b en).2,
    fun t h => absurd h (cond24_not _ _ _ _ _ t4 t), fun t h => absurd h (cond24_not _ _ _ _ _ t4 t),
    fun t h => (c7c en t ((cond25_iff _ _ _ _ _ t4 t).1 h).1).1, fun t h => (c7c en t ((cond25_iff _ _ _ _ _ t4 t).1 h).1).2,
    fun t h => absurd h (cond27_not _ _ _ _ _ t4 t), fun t h => absurd h (cond27_not _ _ _ _ _ t4 t), fun t h => absurd h (cond28_not _ _ _ _ _ t4 t), fun t h => absurd h (cond28_not _ _ _ _ _ t4 t),
    fun t _ => (c7d en t).1, fun t _ => (c7d en t).2,
    fun h => absurd h (cond31_not _ _ _ _ _ t4), fun h => absurd h (cond31_not _ _ _ _ _ t4), fun h => absurd h (cond32_not _ _ _ _ _ t4), fun h => absurd h (cond32_not _ _ _ _ _ t4),
    fun _ => (c7e en).1, fun _ => (c7e en).2⟩

end Cert.KernelIdeal.Hand
end
-- ==== Proof.Loop.lean ====
/-
  Hand-written, untrusted. The loop over the experts.
-/
module

public import proofs.«01_k».proof.Proof.Live

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

variable {c : Dev nD} {I : Arr F} {K : Once F}

/-- From one expert to the next: what was started ahead for the next expert is now its own, everything else is free. -/
theorem Fam_next (e en en' : Fin 4) : (Fam c I (stat e en 44 51) : sProp 𝕄) ⊢ Fam c I (stat en en' 0 7) := by
  unfold Fam
  refine bigSep_mono fun q hq => ?_
  have hq := Finset.mem_range.mp hq
  unfold stat
  by_cases h : q < 7
  · rw [if_pos (show q + 44 < 51 by omega), if_neg (show ¬ q + 44 < 7 by omega), if_neg (show ¬ q < 0 by omega), if_pos h]
    exact (.rfl : ((slotD c I q).at (.fly en) : sProp 𝕄) ⊢ (slotD c I q).at (.fly en))
  · rw [if_neg (show ¬ q + 44 < 51 by omega), if_pos hq, if_neg (show ¬ q + 44 < 7 by omega), if_neg (show ¬ q < 0 by omega), if_neg h]
    exact SlotD.free_idle _ trivial

theorem St_next {o : Bool} {R : sProp 𝕄} (σ : State F) (en' : Fin 4) : St c I K o R σ 44 51 ⊢ St c I K o R { σ with e := σ.en, en := en' } 0 7 := by
  unfold St
  exact BIClass.sep_mono (Fam_next σ.e σ.en en') .rfl

theorem exUp_e (σ : State F) : (exUp I K σ).e = σ.e ∧ (exUp I K σ).en = σ.en := by
  obtain ⟨h1, h2⟩ := yUp_e (ro := routedV K σ.e) (I := I) (σ := preDown I K σ) 14
  exact ⟨h1, h2⟩

section Loop
variable (e : Fin 4) (f0 f1 f2 f3 : Fin 2)

/-- The `n`-th expert visited, the last one from there on. -/
def nthL (n : ℕ) : Fin 4 := nth e f0 f1 f2 (min n (cnt4 e f0 f1 f2 f3 - 1))

/-- The state before trip `n`. -/
def seqS (I : Arr F) (K : Once F) (σ : State F) : ℕ → State F
  | 0 => { σ with e := nthL e f0 f1 f2 f3 0, en := nthL e f0 f1 f2 f3 1 }
  | n + 1 => { exUp I K (seqS I K σ n) with e := nthL e f0 f1 f2 f3 (n + 1), en := nthL e f0 f1 f2 f3 (n + 2) }

theorem seqS_e (σ : State F) (n : ℕ) : (seqS e f0 f1 f2 f3 I K σ n).e = nthL e f0 f1 f2 f3 n ∧ (seqS e f0 f1 f2 f3 I K σ n).en = nthL e f0 f1 f2 f3 (n + 1) := by
  cases n <;> exact ⟨rfl, rfl⟩

/-- The state after the last trip. -/
def endS (I : Arr F) (K : Once F) (σ : State F) : State F := exUp I K (seqS e f0 f1 f2 f3 I K σ (cnt4 e f0 f1 f2 f3 - 1))

theorem smem_at {o : Fin 1 → ℕ} {n : ℕ} (hn : n < 5) (ho : o = ![n]) {h : ∀ a, o a + S1.size a ≤ S5.size a} (l : IVec S5 32) :
    (A34.access (Rect.unit (s := S5) o S1.size h)).read (Elt F) l (Shape.Idx.first (numel1_S1.symm ▸ Nat.one_pos)) = l (ix1 ⟨n, hn⟩) := by
  subst ho
  show l _ = _
  congr 1
  funext a
  match a with
  | ⟨0, _⟩ => rfl

theorem loop_st (hw5 : k0_chk5 (ev e) (fv f0) (fv f1) (fv f2) (fv f3)) {R : sProp 𝕄} (sc : FVec F S1x32 .f32) (σ : State F)
    (hl : Agrees (listK e f0 f1 f2) K.live) {α : Type} {kk : Unit → Prog (TpuEff nD τ sig (Elt F) Λ₀ .tc) α} {Q : α → sProp 𝕄} {hok}
    (hk : St c I K true iprop(outTail c K.codes sc (endS e f0 f1 f2 f3 I K σ).yout ∗ R) (endS e f0 f1 f2 f3 I K σ) 44 44 ⊢ WP c (kk ()) Q) :
    St c I K false iprop(outHead c sc ∗ R) (seqS e f0 f1 f2 f3 I K σ 0) 0 7 ⊢
      WP c (Scf.Loop.for (k0_t4_loop (ev e) (fv f0) (fv f1) (fv f2) (fv f3)) hok ⟨⟩
        (onK (k0_t4_body (F := F)) (ev e) (fv f0) (fv f1) (fv f2) (fv f3) hw5 (nl (ev e) (fv f0) (fv f1) (fv f2) (fv f3))) >>= kk) Q := by
  have hN := cnt4_pos e f0 f1 f2 f3
  refine st_for (fun n _ => if n < cnt4 e f0 f1 f2 f3 then St c I K false iprop(outHead c sc ∗ R) (seqS e f0 f1 f2 f3 I K σ n) 0 7
    else St c I K true iprop(outTail c K.codes sc (endS e f0 f1 f2 f3 I K σ).yout ∗ R) (endS e f0 f1 f2 f3 I K σ) 44 44) ?_ ?_ ?_
  · rw [if_pos hN]
  · intro t acc
    have ht : t.val < cnt4 e f0 f1 f2 f3 := lt_of_lt_of_eq t.isLt (t4_trips e f0 f1 f2 f3)
    have hc := cnt4_lt e f0 f1 f2 f3
    have hk1 := known e f0 f1 f2 f3 ⟨t.val, by omega⟩ ht
    have hk2 := known e f0 f1 f2 f3 ⟨min (t.val + 1) (cnt4 e f0 f1 f2 f3 - 1), by omega⟩ (show min (t.val + 1) (cnt4 e f0 f1 f2 f3 - 1) < _ by omega)
    have hm := more_eq e f0 f1 f2 f3 t
    obtain ⟨he, hen⟩ := seqS_e (I := I) (K := K) e f0 f1 f2 f3 σ t.val
    have hl1 := (smem_at (F := F) (by omega) (off11_eq e f0 f1 f2 f3 t) (h := k0_off11_inb _ _ _ _ _ hw5 t) K.live).trans (hl (ix1 ⟨t.val, by omega⟩) _ hk1)
    have hl2 := (smem_at (F := F) (by omega) (off12_eq e f0 f1 f2 f3 t) (h := k0_off12_inb _ _ _ _ _ hw5 t) K.live).trans (hl (ix1 ⟨min (t.val + 1) (cnt4 e f0 f1 f2 f3 - 1), by omega⟩) _ hk2)
    rw [show nth e f0 f1 f2 t.val = (seqS e f0 f1 f2 f3 I K σ t.val).e by rw [he]; unfold nthL; rw [min_eq_left (by omega)]] at hl1
    rw [show nth e f0 f1 f2 (min (t.val + 1) (cnt4 e f0 f1 f2 f3 - 1)) = (seqS e f0 f1 f2 f3 I K σ t.val).en by rw [hen]; rfl] at hl2
    simp only [if_pos ht]
    by_cases hlast : t.val + 1 < cnt4 e f0 f1 f2 f3
    · rw [if_pos hlast] at hm
      simp only [if_pos hlast]
      refine t4_more _ _ _ _ _ hw5 t hl1 hl2 (chk7_ok _ _ _ _ _ t _) hm ?_
      refine (St_next _ (nthL e f0 f1 f2 f3 (t.val + 2))).trans ?_
      rw [(exUp_e _).2, hen]
      exact .rfl
    · rw [if_neg hlast] at hm
      simp only [if_neg hlast]
      refine t4_last _ _ _ _ _ hw5 t sc hl1 hl2 (chk7_ok _ _ _ _ _ t _) hm ?_
      unfold endS
      rw [show cnt4 e f0 f1 f2 f3 - 1 = t.val by omega]
  · intro acc
    simp only [t4_trips, lt_irrefl, if_false]
    exact hk

end Loop

end Cert.KernelIdeal.Hand
end
-- ==== Proof.Begin.lean ====
/-
  Hand-written, untrusted. The copies the kernel begins with.
-/
module

public import proofs.«01_k».proof.Proof.Loop
public import Idealize.ShloMosaic.Lib.Batch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

theorem cur {A B C : sProp 𝕄} (h : iprop(A ∗ B) ⊢ C) : A ⊢ iprop(B -∗ C) := by
  iintro HA HB
  iapply h
  isplitl [HA]; · iexact HA
  iexact HB

/-! ## A buffer in pieces -/

section Pieces
variable {ℓ : Loc nD τ sig} {q : PosShare TreeShare} {f : Buf (Elt F) ℓ}

/-- The elements of `S` with key `n`, and those with key `n` or more. -/
def pc {A : Type} (S : Finset A) (key : A → ℕ) (n : ℕ) : Finset A := S.filter fun i => key i = n
def fr {A : Type} (S : Finset A) (key : A → ℕ) (n : ℕ) : Finset A := S.filter fun i => n ≤ key i

theorem fr_zero {A : Type} (S : Finset A) (key : A → ℕ) : fr S key 0 = S := by
  unfold fr; exact Finset.filter_true_of_mem fun _ _ => Nat.zero_le _

theorem fr_split (S : Finset (Idx ℓ)) (key : Idx ℓ → ℕ) (n : ℕ) :
    (ℓ ↦[fr S key n]{q} f : sProp 𝕄) ⊢ iprop((ℓ ↦[pc S key n]{q} f) ∗ ℓ ↦[fr S key (n + 1)]{q} f) := by
  have e : fr S key n = pc S key n ∪ fr S key (n + 1) := by
    ext i
    simp only [fr, pc, Finset.mem_union, Finset.mem_filter]
    constructor
    · rintro ⟨h1, h2⟩
      by_cases h : key i = n
      · exact .inl ⟨h1, h⟩
      · exact .inr ⟨h1, by omega⟩
    · rintro (⟨h1, h2⟩ | ⟨h1, h2⟩)
      · exact ⟨h1, by omega⟩
      · exact ⟨h1, by omega⟩
  rw [e]
  refine (pointsTo_union ?_).1
  rw [Finset.disjoint_left]
  intro i h1 h2
  have h1 := (Finset.mem_filter.mp h1).2
  have h2 := (Finset.mem_filter.mp h2).2
  omega

theorem pc_join (N : ℕ) (S : Finset (Idx ℓ)) (key : Idx ℓ → ℕ) (hS : ∀ i ∈ S, key i < N) :
    (bigSep Finset.univ fun t : Fin N => (ℓ ↦[pc S key t.val]{q} f : sProp 𝕄)) ⊢ ℓ ↦[S]{q} f := by
  rw [← pointsTo_biUnion Finset.univ (fun t : Fin N => pc S key t.val) (by
    intro t _ t' _ h
    rw [Finset.disjoint_left]
    intro i h1 h2
    have h1 := (Finset.mem_filter.mp h1).2
    have h2 := (Finset.mem_filter.mp h2).2
    exact h (Fin.ext (h1.symm.trans h2)))]
  rw [show (Finset.univ.biUnion fun t : Fin N => pc S key t.val) = S by
    ext i
    simp only [Finset.mem_biUnion, Finset.mem_univ, true_and, pc, Finset.mem_filter]
    constructor
    · rintro ⟨t, h, -⟩; exact h
    · intro h; exact ⟨⟨key i, hS i h⟩, h, rfl⟩]

end Pieces

section Waits
variable {c : Dev nD} {α : Type}

/-- One wait of several for copies of one size. -/
theorem wait_b {n : ℕ} {sp sp' : Space} {s s' : Shape} {e₀ e' : EltTy} {sem : DmaSem sig} {N : ℕ} {D : Fin n → sProp 𝕄} {u : ℕ}
    {srcw : Memref sig .tc sp' s' e₀} {dstw : Memref sig .tc sp s e'} {hsrc : srcw.view.WordExact} {hdst : dstw.view.WordExact}
    (hN : dstw.view.dmaCredit = N) (hu : u + N < N * n)
    {kk : PUnit → Prog (TpuEff nD τ sig (Elt F) Λ₀ .tc) α} {Q : α → sProp 𝕄} :
    iprop(Batch EC (c, Proc.tc) (.dma sem) () N D n u ∗ Ow c) ⊢
      iprop((iprop(Batch EC (c, Proc.tc) (.dma sem) () N D n (u + N) ∗ Ow c) -∗ WP c (kk ⟨⟩) Q)
        -∗ WP c (Prog.lift (.waitDma2 sem srcw dstw hsrc hdst) >>= kk) Q) := by
  rw [Prog.bind_lift]
  unfold Ow
  iintro ⟨H, ⟨%W, HW⟩⟩ Hk
  iapply (wp_waitBatch EC Variants.none (c, Proc.tc) none (defs := defs₀) () hN hu) $$ [H HW]
  · isplitl [H]; · iexact H
    iexact HW
  iintro ⟨HD, HW⟩
  iapply Hk
  isplitl [HD]; · iexact HD
  iexists _
  iexact HW

/-- The last such wait. -/
theorem wait_bl {n : ℕ} {sp sp' : Space} {s s' : Shape} {e₀ e' : EltTy} {sem : DmaSem sig} {N : ℕ} {D : Fin n → sProp 𝕄} {u : ℕ}
    {srcw : Memref sig .tc sp' s' e₀} {dstw : Memref sig .tc sp s e'} {hsrc : srcw.view.WordExact} {hdst : dstw.view.WordExact}
    (hN : dstw.view.dmaCredit = N) (hN0 : 0 < N) (hu : u + N = N * n)
    {kk : PUnit → Prog (TpuEff nD τ sig (Elt F) Λ₀ .tc) α} {Q : α → sProp 𝕄} :
    iprop(Batch EC (c, Proc.tc) (.dma sem) () N D n u ∗ Ow c) ⊢
      iprop((iprop(bigSep Finset.univ D ∗ semVal ((c, Proc.tc), SemLoc.dma sem) 0 ∗ Ow c) -∗ WP c (kk ⟨⟩) Q)
        -∗ WP c (Prog.lift (.waitDma2 sem srcw dstw hsrc hdst) >>= kk) Q) := by
  rw [Prog.bind_lift]
  unfold Ow
  iintro ⟨H, ⟨%W, HW⟩⟩ Hk
  iapply (wp_waitBatchLast EC Variants.none (c, Proc.tc) none (defs := defs₀) () hN hN0 hu) $$ [H HW]
  · isplitl [H]; · iexact H
    iexact HW
  iintro ⟨HD, Hv, HW⟩
  iapply Hk
  isplitl [HD]; · iexact HD
  isplitl [Hv]; · iexact Hv
  iexists _
  iexact HW

end Waits

/-! ## The tokens, in two halves -/

section Tokens
variable {c : Dev nD} {α : Type}

def xKey (i : S32x7168.Idx) : ℕ := (i 0).val / 16
def xN : ℕ := (A22.slice (Rect.unit (s := S32x7168) ![0, 0] S16x7168.size (by decide)) (fun _ => rfl)).view.dmaCredit
theorem xN_pos : 0 < xN := by decide

def xDel (c : Dev nD) (x : FVec F S32x7168 .bf16) (t : Fin 2) : sProp 𝕄 :=
  iprop((L c cc0_scratch9 ↦[pc Finset.univ xKey t.val]{fullShare} x) ∗ (L c main_v6 ↦[pc Finset.univ xKey t.val]{fullShare} x))

instance (c : Dev nD) (x : FVec F S32x7168 .bf16) (t : Fin 2) : Storable (upEmb : UEmb _ 𝕄) (xDel c x t) := by
  unfold xDel; infer_instance

theorem off1_eq : ∀ t : Fin k0_t1_loop.trips, k0_off1 t = ![16 * t.val, 0] := by decide

theorem x_set {off : Fin 2 → ℕ} {h : ∀ a, off a + S16x7168.size a ≤ S32x7168.size a} (t : ℕ) (ho : off = ![16 * t, 0]) :
    (Rect.unit (s := S32x7168) off S16x7168.size h).set = pc Finset.univ xKey t := by
  subst ho
  ext i
  rw [Rect.mem_set_unit]
  have h1 : (i 1).val < 7168 := (i 1).isLt
  constructor
  · intro hh
    have := hh 0
    change 16 * t ≤ (i 0).val ∧ (i 0).val < 16 * t + 16 at this
    refine Finset.mem_filter.mpr ⟨Finset.mem_univ _, ?_⟩
    show (i 0).val / 16 = t
    omega
  · intro hk a
    replace hk : (i 0).val / 16 = t := (Finset.mem_filter.mp hk).2
    match a with
    | ⟨0, _⟩ => show 16 * t ≤ (i 0).val ∧ (i 0).val < 16 * t + 16; omega
    | ⟨1, _⟩ => show 0 ≤ (i 1).val ∧ (i 1).val < 0 + 7168; omega

theorem x_copy (x fd : FVec F S32x7168 .bf16) (r : Rect S32x7168) {h1} {h2} (i : S32x7168.Idx) (hi : i ∈ r.set) :
    (A22.slice r h1).view.write (Elt F) fd (ReadAs.same.apply ((A5.slice r h2).view.read (Elt F) x)) Finset.univ i = x i := by
  rw [show r.set = (A22.slice r h1).view.set from (View.set_slice_whole _ _).symm] at hi
  obtain ⟨y, -, rfl⟩ := Finset.mem_map.mp hi
  exact View.write_emb_of_mem (v := (A22.slice r h1).view) (Val := Elt F) fd _ (Finset.mem_univ y)

theorem fly_x (t : ℕ) (ht : t < 2) {off : Fin 2 → ℕ} {h h' : ∀ a, off a + S16x7168.size a ≤ S32x7168.size a} {h1 h2} (ho : off = ![16 * t, 0])
    (x fd : FVec F S32x7168 .bf16) {hp1 hp2 hp3}
    {kk : PUnit → Prog (TpuEff nD τ sig (Elt F) Λ₀ .tc) α} {Q : α → sProp 𝕄} :
    iprop((L c main_v6 ↦[pc Finset.univ xKey t]{fullShare} x) ∗ (L c cc0_scratch9 ↦[pc Finset.univ xKey t]{fullShare} fd)
        ∗ Batch EC (c, Proc.tc) (.dma cc0_scoped6.sem) () xN (xDel c x) t 0) ⊢
      iprop((Batch EC (c, Proc.tc) (.dma cc0_scoped6.sem) () xN (xDel c x) (t + 1) 0 -∗ WP c (kk ⟨⟩) Q)
        -∗ WP c (Prog.lift (.enqueueDma (A5.slice (Rect.unit (s := S32x7168) off S16x7168.size h) h2)
          (.here (p := (Proc.tc : Proc τ)) (A22.slice (Rect.unit (s := S32x7168) off S16x7168.size h') h1)) (.dma cc0_scoped6.sem) hp1 hp2 hp3) >>= kk) Q) := by
  rw [Prog.bind_lift]
  have e1 : (A5.slice (Rect.unit (s := S32x7168) off S16x7168.size h) h2).view.set = pc Finset.univ xKey t := (View.set_slice_whole _ _).trans (x_set t ho)
  have e2 : (A22.slice (Rect.unit (s := S32x7168) off S16x7168.size h') h1).view.set = pc Finset.univ xKey t := (View.set_slice_whole _ _).trans (x_set t ho)
  have h := wp_dmaBatch EC Variants.none (c, Proc.tc) none (defs := defs₀) (src := A5.slice (Rect.unit (s := S32x7168) off S16x7168.size h) h2)
    (dst := A22.slice (Rect.unit (s := S32x7168) off S16x7168.size h') h1) (via := ReadAs.same) (sm := .dma cc0_scoped6.sem)
    (hsrc := hp1) (hdst := hp2) (hsem := hp3) (k := kk) (Q := Q) (q := fullShare) (fs := x) (Sd := pc Finset.univ xKey t) (fd := fd) (D := xDel c x) (j := t) (u := 0) () xN
    rfl (by rw [e2]) ht (Nat.zero_le _) (by
      unfold xDel
      rw [e1]
      refine BIClass.sep_mono (Entails.of_eq (pointsTo_congr fun i hi => ?_)) .rfl
      exact x_copy x fd _ i ((x_set t ho).symm ▸ hi))
  rw [e1] at h
  exact h

/-- Both copies of the tokens started. -/
theorem t1_st (x fd : FVec F S32x7168 .bf16) {hok} {kk : Unit → Prog (TpuEff nD τ sig (Elt F) Λ₀ .tc) α} {Q : α → sProp 𝕄} :
    iprop((L c main_v6 ↦[Finset.univ]{fullShare} x) ∗ (L c cc0_scratch9 ↦[Finset.univ]{fullShare} fd)
        ∗ Batch EC (c, Proc.tc) (.dma cc0_scoped6.sem) () xN (xDel c x) 0 0) ⊢
      iprop((Batch EC (c, Proc.tc) (.dma cc0_scoped6.sem) () xN (xDel c x) 2 0 -∗ WP c (kk ⟨⟩) Q)
        -∗ WP c (Scf.Loop.for k0_t1_loop hok ⟨⟩ (onK (k0_t1_body (F := F))) >>= kk) Q) := by
  refine cur (st_for (fun n _ => iprop(((L c main_v6 ↦[fr Finset.univ xKey n]{fullShare} x) ∗ (L c cc0_scratch9 ↦[fr Finset.univ xKey n]{fullShare} fd)
        ∗ Batch EC (c, Proc.tc) (.dma cc0_scoped6.sem) () xN (xDel c x) n 0)
      ∗ (Batch EC (c, Proc.tc) (.dma cc0_scoped6.sem) () xN (xDel c x) 2 0 -∗ WP c (kk ⟨⟩) Q))) ?_ ?_ ?_)
  · simp only [fr_zero]
    exact .rfl
  · intro t acc
    show _ ⊢ WP c (k0_t1_body _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ t acc) _
    unfold k0_t1_body
    iintro ⟨⟨H1, H2, H3⟩, Hk⟩
    ihave H1 := (fr_split (ℓ := L c main_v6) Finset.univ xKey t.val) $$ H1
    icases H1 with ⟨H1, H1'⟩
    ihave H2 := (fr_split (ℓ := L c cc0_scratch9) Finset.univ xKey t.val) $$ H2
    icases H2 with ⟨H2, H2'⟩
    iapply (fly_x (c := c) t.val t.isLt (off1_eq t) x fd) $$ [H1 H2 H3]
    · isplitl [H1]; · iexact H1
      isplitl [H2]; · iexact H2
      iexact H3
    iintro H3
    iapply (st_pure (c := c) (v := (⟨⟩ : Unit)) .rfl)
    isplitr [Hk]
    · isplitl [H1']; · iexact H1'
      isplitl [H2']; · iexact H2'
      iexact H3
    · iexact Hk
  · intro acc
    iintro ⟨⟨-, -, H3⟩, Hk⟩
    iapply Hk
    iexact H3

theorem xKey_lt (i : S32x7168.Idx) : xKey i < 2 := by
  have : (i 0).val < 32 := (i 0).isLt
  show (i 0).val / 16 < 2
  omega

theorem x_join (x : FVec F S32x7168 .bf16) :
    bigSep Finset.univ (xDel c x) ⊢ (iprop((L c cc0_scratch9 ↦[Finset.univ]{fullShare} x) ∗ (L c main_v6 ↦[Finset.univ]{fullShare} x)) : sProp 𝕄) := by
  unfold xDel
  rw [bigSep_sep']
  exact BIClass.sep_mono (pc_join (ℓ := L c cc0_scratch9) 2 Finset.univ xKey fun i _ => xKey_lt i) (pc_join (ℓ := L c main_v6) 2 Finset.univ xKey fun i _ => xKey_lt i)

/-! ## The first rows of the second LoRA factor, expert by expert -/

def lbKey (i : S4x128x4096.Idx) : ℕ := (i 0).val
def lbN0 : ℕ := ((A16.slice (Rect.unit (s := S4x128x4096) ![0, 0, 0] S1x64x4096.size (by decide)) (fun _ => rfl)).squeeze S64x4096 squeezes_S1x64x4096_S64x4096).view.dmaCredit
theorem lbN0_pos : 0 < lbN0 := by decide

def lbDel (c : Dev nD) (q : PosShare TreeShare) (lb : FVec F S4x128x4096 .bf16) (t : Fin 4) : sProp 𝕄 :=
  iprop((L c cc0_scratch3 ↦[pc lbEarly lbKey t.val]{fullShare} lb) ∗ (L c main_v9 ↦[pc lbEarly lbKey t.val]{q} lb))

instance (c : Dev nD) (q : PosShare TreeShare) (lb : FVec F S4x128x4096 .bf16) (t : Fin 4) : Storable (upEmb : UEmb _ 𝕄) (lbDel c q lb t) := by
  unfold lbDel; infer_instance

theorem off2_eq : ∀ t : Fin k0_t2_loop.trips, k0_off2 t = ![t.val, 0, 0] := by decide

theorem lb_set0 {off : Fin 3 → ℕ} {h : ∀ a, off a + S1x64x4096.size a ≤ S4x128x4096.size a} (t : ℕ) (ht : t < 4) (ho : off = ![t, 0, 0]) :
    (Rect.unit (s := S4x128x4096) off S1x64x4096.size h).set = pc lbEarly lbKey t := by
  subst ho
  ext i
  rw [Rect.mem_set_unit]
  have h1 : (i 2).val < 4096 := (i 2).isLt
  simp only [pc, lbKey, lbEarly, Finset.mem_filter, Finset.mem_univ, true_and]
  constructor
  · intro hh
    have h0 := hh 0
    have h1 := hh 1
    change t ≤ (i 0).val ∧ (i 0).val < t + 1 at h0
    change 0 ≤ (i 1).val ∧ (i 1).val < 0 + 64 at h1
    omega
  · intro hk a
    match a with
    | ⟨0, _⟩ => show t ≤ (i 0).val ∧ (i 0).val < t + 1; omega
    | ⟨1, _⟩ => show 0 ≤ (i 1).val ∧ (i 1).val < 0 + 64; omega
    | ⟨2, _⟩ => show 0 ≤ (i 2).val ∧ (i 2).val < 0 + 4096; omega

theorem fly_lb (t : ℕ) (ht : t < 4) {off : Fin 3 → ℕ} {h h' : ∀ a, off a + S1x64x4096.size a ≤ S4x128x4096.size a} {h1 h2} (ho : off = ![t, 0, 0])
    (q : PosShare TreeShare) (lb fd : FVec F S4x128x4096 .bf16) {hp1 hp2 hp3}
    {kk : PUnit → Prog (TpuEff nD τ sig (Elt F) Λ₀ .tc) α} {Q : α → sProp 𝕄} :
    iprop((L c main_v9 ↦[pc lbEarly lbKey t]{q} lb) ∗ (L c cc0_scratch3 ↦[pc lbEarly lbKey t]{fullShare} fd)
        ∗ Batch EC (c, Proc.tc) (.dma cc0_scoped4.sem) () lbN0 (lbDel c q lb) t 0) ⊢
      iprop((Batch EC (c, Proc.tc) (.dma cc0_scoped4.sem) () lbN0 (lbDel c q lb) (t + 1) 0 -∗ WP c (kk ⟨⟩) Q)
        -∗ WP c (Prog.lift (.enqueueDma ((A9.slice (Rect.unit (s := S4x128x4096) off S1x64x4096.size h) h2).squeeze S64x4096 squeezes_S1x64x4096_S64x4096)
          (.here (p := (Proc.tc : Proc τ)) ((A16.slice (Rect.unit (s := S4x128x4096) off S1x64x4096.size h') h1).squeeze S64x4096 squeezes_S1x64x4096_S64x4096)) (.dma cc0_scoped4.sem) hp1 hp2 hp3) >>= kk) Q) := by
  rw [Prog.bind_lift]
  have e1 : ((A9.slice (Rect.unit (s := S4x128x4096) off S1x64x4096.size h) h2).squeeze S64x4096 squeezes_S1x64x4096_S64x4096).view.set = pc lbEarly lbKey t :=
    (View.set_reshape _ _).trans ((View.set_slice_whole _ _).trans (lb_set0 t ht ho))
  have e2 : ((A16.slice (Rect.unit (s := S4x128x4096) off S1x64x4096.size h') h1).squeeze S64x4096 squeezes_S1x64x4096_S64x4096).view.set = pc lbEarly lbKey t :=
    (View.set_reshape _ _).trans ((View.set_slice_whole _ _).trans (lb_set0 t ht ho))
  have h := wp_dmaBatch EC Variants.none (c, Proc.tc) none (defs := defs₀) (src := (A9.slice (Rect.unit (s := S4x128x4096) off S1x64x4096.size h) h2).squeeze S64x4096 squeezes_S1x64x4096_S64x4096)
    (dst := (A16.slice (Rect.unit (s := S4x128x4096) off S1x64x4096.size h') h1).squeeze S64x4096 squeezes_S1x64x4096_S64x4096) (via := ReadAs.same) (sm := .dma cc0_scoped4.sem)
    (hsrc := hp1) (hdst := hp2) (hsem := hp3) (k := kk) (Q := Q) (q := q) (fs := lb) (Sd := pc lbEarly lbKey t) (fd := fd) (D := lbDel c q lb) (j := t) (u := 0) () lbN0
    rfl (by rw [e2]) ht (Nat.zero_le _) (by
      unfold lbDel
      rw [e1]
      refine BIClass.sep_mono (Entails.of_eq (pointsTo_congr fun i hi => ?_)) .rfl
      exact lb_copy lb fd i (e2.symm ▸ hi))
  rw [e1] at h
  exact h

theorem t2_st (q : PosShare TreeShare) (lb fd : FVec F S4x128x4096 .bf16) {hok} {kk : Unit → Prog (TpuEff nD τ sig (Elt F) Λ₀ .tc) α} {Q : α → sProp 𝕄} :
    iprop((L c main_v9 ↦[lbEarly]{q} lb) ∗ (L c cc0_scratch3 ↦[lbEarly]{fullShare} fd)
        ∗ Batch EC (c, Proc.tc) (.dma cc0_scoped4.sem) () lbN0 (lbDel c q lb) 0 0) ⊢
      iprop((Batch EC (c, Proc.tc) (.dma cc0_scoped4.sem) () lbN0 (lbDel c q lb) 4 0 -∗ WP c (kk ⟨⟩) Q)
        -∗ WP c (Scf.Loop.for k0_t2_loop hok ⟨⟩ (onK (k0_t2_body (F := F))) >>= kk) Q) := by
  refine cur (st_for (fun n _ => iprop(((L c main_v9 ↦[fr lbEarly lbKey n]{q} lb) ∗ (L c cc0_scratch3 ↦[fr lbEarly lbKey n]{fullShare} fd)
        ∗ Batch EC (c, Proc.tc) (.dma cc0_scoped4.sem) () lbN0 (lbDel c q lb) n 0)
      ∗ (Batch EC (c, Proc.tc) (.dma cc0_scoped4.sem) () lbN0 (lbDel c q lb) 4 0 -∗ WP c (kk ⟨⟩) Q))) ?_ ?_ ?_)
  · simp only [fr_zero]
    exact .rfl
  · intro t acc
    show _ ⊢ WP c (k0_t2_body _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ t acc) _
    unfold k0_t2_body
    iintro ⟨⟨H1, H2, H3⟩, Hk⟩
    ihave H1 := (fr_split (ℓ := L c main_v9) lbEarly lbKey t.val) $$ H1
    icases H1 with ⟨H1, H1'⟩
    ihave H2 := (fr_split (ℓ := L c cc0_scratch3) lbEarly lbKey t.val) $$ H2
    icases H2 with ⟨H2, H2'⟩
    iapply (fly_lb (c := c) t.val t.isLt (off2_eq t) q lb fd) $$ [H1 H2 H3]
    · isplitl [H1]; · iexact H1
      isplitl [H2]; · iexact H2
      iexact H3
    iintro H3
    iapply (st_pure (c := c) (v := (⟨⟩ : Unit)) .rfl)
    isplitr [Hk]
    · isplitl [H1']; · iexact H1'
      isplitl [H2']; · iexact H2'
      iexact H3
    · iexact Hk
  · intro acc
    iintro ⟨⟨-, -, H3⟩, Hk⟩
    iapply Hk
    iexact H3

theorem lbKey_lt (i : S4x128x4096.Idx) : lbKey i < 4 := (i 0).isLt

theorem lb_join (q : PosShare TreeShare) (lb : FVec F S4x128x4096 .bf16) :
    bigSep Finset.univ (lbDel c q lb) ⊢ (iprop((L c cc0_scratch3 ↦[lbEarly]{fullShare} lb) ∗ (L c main_v9 ↦[lbEarly]{q} lb)) : sProp 𝕄) := by
  unfold lbDel
  rw [bigSep_sep']
  exact BIClass.sep_mono (pc_join (ℓ := L c cc0_scratch3) 4 lbEarly lbKey fun i _ => lbKey_lt i) (pc_join (ℓ := L c main_v9) 4 lbEarly lbKey fun i _ => lbKey_lt i)

/-! ## The first blocks of the up projection -/

theorem off567_eq : ∀ t : Fin k0_t3_loop.trips, k0_off5 t = ![t.val] ∧ k0_off6 t = ![256 * t.val, 0] := by decide
theorem off7_eq : ∀ (e : Fin 4) (t : Fin k0_t3_loop.trips), k0_off7 (ev e) t = ![e.val, 256 * t.val, 0] := by decide
theorem off34_eq : ∀ e : Fin 4, k0_off3 (ev e) = ![e.val, 0, 0] ∧ k0_off4 (ev e) = ![e.val, 64, 0] := by decide

theorem t3_st (I : Arr F) (e en : Fin 4) (hw1 : k0_chk1 (ev e)) {hok} {kk : Unit → Prog (TpuEff nD τ sig (Elt F) Λ₀ .tc) α} {Q : α → sProp 𝕄} :
    (Fam c I (stat e en 0 2) : sProp 𝕄) ⊢
      iprop((Fam c I (stat e en 0 7) -∗ WP c (kk ⟨⟩) Q)
        -∗ WP c (Scf.Loop.for k0_t3_loop hok ⟨⟩ (onK (k0_t3_body (F := F)) (ev e) hw1) >>= kk) Q) := by
  refine cur (st_for (fun n _ => iprop(Fam c I (stat e en 0 (2 + n)) ∗ (Fam c I (stat e en 0 7) -∗ WP c (kk ⟨⟩) Q))) .rfl ?_ ?_)
  · intro t acc
    have ht : t.val < 5 := t.isLt
    show _ ⊢ WP c (k0_t3_body _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ev e) hw1 t acc) _
    unfold k0_t3_body
    refine head_step (Fam_up c I ⟨t.val, by omega⟩ e (ph' := stat e en 0 (2 + (t.val + 1))) (fun q hq hne => ?_) ?_ ?_ (off567_eq t).2 (off7_eq e t) (off567_eq t).1) (st_pure .rfl)
    · change q ≠ t.val + 2 at hne
      unfold stat
      simp only [show (q + 44 < 2 + (t.val + 1)) ↔ (q + 44 < 2 + t.val) by omega, show (q < 2 + (t.val + 1)) ↔ (q < 2 + t.val) by omega]
    · show (stat e en 0 (2 + t.val) (t.val + 2)).free
      unfold stat
      rw [if_neg (by omega), if_neg (by omega), if_neg (by omega)]
      trivial
    · show stat e en 0 (2 + (t.val + 1)) (t.val + 2) = _
      unfold stat
      rw [if_neg (by omega), if_neg (by omega), if_pos (by omega)]
  · intro acc
    iintro ⟨H, Hk⟩
    iapply Hk
    iexact H

end Tokens

end Cert.KernelIdeal.Hand
end
-- ==== Proof.Setup.lean ====
/-
  Hand-written, untrusted. What the kernel does before it visits the first expert.
-/
module

public import proofs.«01_k».proof.Proof.Begin

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

section Steps3
variable {c : Dev nD} {α : Type}

theorem ld1 {sp : CoreSpace} {s : Shape} {e : EltTy} {m : Memref sig .tc sp s e} {r : LoadRect s} {hl : m.view.LoadsAt r}
    {k : (r.shape.Idx → Elt F e) → Prog (TpuEff nD τ sig (Elt F) Λ₀ .tc) α} {Q : α → sProp 𝕄}
    {q : PosShare TreeShare} {f : Buf (Elt F) (m.view.loc (c : Thread nD τ))} {v : r.shape.Idx → Elt F e} (hv : m.view.readAt (Elt F) r f = v) :
    (m.view.loc (c : Thread nD τ) ↦[Finset.univ]{q} f : sProp 𝕄) ⊢
      iprop(((m.view.loc (c : Thread nD τ) ↦[Finset.univ]{q} f) -∗ WP c (k v) Q) -∗ WP c (Prog.lift (.load m r hl) >>= k) Q) := by
  refine cur (st_ld (Look.here) (Finset.subset_univ _) hv ?_)
  iintro ⟨H, Hk⟩
  iapply Hk
  iexact H

theorem st1 {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {Q : α → sProp 𝕄}
    {f g : Buf (Elt F) (m.view.loc (c : Thread nD τ))} (hv : (m.access r).write (Elt F) f w Finset.univ = g) :
    (m.view.loc (c : Thread nD τ) ↦[Finset.univ]{fullShare} f : sProp 𝕄) ⊢
      iprop(((m.view.loc (c : Thread nD τ) ↦[Finset.univ]{fullShare} g) -∗ WP c (k ⟨⟩) Q) -∗ WP c (Prog.lift (.store m r w Finset.univ hx hm) >>= k) Q) := by
  refine cur (st_st (m := m) (r := r) (f := f) Lens.here hv ?_)
  iintro ⟨H, Hk⟩
  iapply Hk
  iexact H

theorem sm1 {s : Shape} {e : EltTy} {m : Memref sig .tc .smem s e} {r : Rect s} {h1 : r.shape.numel = 1} {hp : e.packing = 1}
    {k : Elt F e → Prog (TpuEff nD τ sig (Elt F) Λ₀ .tc) α} {Q : α → sProp 𝕄}
    {q : PosShare TreeShare} {f : Buf (Elt F) (m.view.loc (c : Thread nD τ))} :
    (m.view.loc (c : Thread nD τ) ↦[Finset.univ]{q} f : sProp 𝕄) ⊢
      iprop(((m.view.loc (c : Thread nD τ) ↦[Finset.univ]{q} f) -∗ ∀ v, WP c (k v) Q) -∗ WP c (smemLoad m r h1 hp >>= k) Q) := by
  refine cur (st_smem (m := m) (r := r) (f := f) (Look.here) (Finset.subset_univ _) rfl ?_)
  iintro ⟨H, Hk⟩
  ihave Hk := Hk $$ H
  iapply Hk

theorem st_ret {v v' : α} {Q : α → sProp 𝕄} (h : v = v') : Q v' ⊢ WP c (pure v) Q := by subst h; exact st_pure .rfl

theorem as1 {p : Prop} {d : Decidable p} {k : PLift p → Prog (TpuEff nD τ sig (Elt F) Λ₀ .tc) α} {Q : α → sProp 𝕄} (h : p) :
    WP c (k ⟨h⟩) Q ⊢ WP c (Prog.lift (.assume p d) >>= k) Q := st_assume h .rfl

end Steps3

/-! ## Whole buffers -/

abbrev pt (c : Dev nD) (b : Ref sig .tc) (f : Buf (Elt F) (L c b)) : sProp 𝕄 := L c b ↦[Finset.univ]{fullShare} f
abbrev sm0 (c : Dev nD) (s : DmaSem sig) : sProp 𝕄 := semVal ((c, Proc.tc), SemLoc.dma s) 0

theorem rd_all {s : Shape} {α : Type} (o : Fin s.rank → ℕ) (ho : ∀ a, o a = 0) (h : ∀ a, o a + s.size a ≤ s.size a) (f : s.Idx → α) : rdA o s.size h f = f := by
  funext i
  unfold rdA
  congr 1
  funext a
  apply Fin.ext
  rw [Rect.emb_apply]
  show o a + 1 * (i a).val = (i a).val
  rw [ho a]; omega

theorem wr_all {s : Shape} {α : Type} (o : Fin s.rank → ℕ) (ho : ∀ a, o a = 0) (h : ∀ a, o a + s.size a ≤ s.size a) (f w : s.Idx → α) : wrA o s.size h f w = w := by
  funext i
  unfold wrA
  rw [dif_pos fun a => by rw [ho a]; exact ⟨Nat.zero_le _, by have := (i a).isLt; omega⟩]
  congr 1
  funext a
  apply Fin.ext
  show (i a).val - o a = _
  rw [ho a]; rfl

theorem z2 : ∀ a : Fin 2, (![0, 0] : Fin 2 → ℕ) a = 0 := by decide

theorem gates_copy (f1 f : FVec F S2x32 .f32) : A18.view.write (Elt F) f1 (ReadAs.same.apply (A1.view.read (Elt F) f)) Finset.univ = f := by
  funext x; exact View.write_emb_of_mem (v := A18.view) (Val := Elt F) f1 _ (Finset.mem_univ x)
theorem ids_copy (f1 f : IVec S2x32 32) : A17.view.write (Elt F) f1 (ReadAs.same.apply (A0.view.read (Elt F) f)) Finset.univ = f := by
  funext x; exact View.write_emb_of_mem (v := A17.view) (Val := Elt F) f1 _ (Finset.mem_univ x)
theorem adapters_copy (f1 f : IVec S1x32 32) : A19.view.write (Elt F) f1 (ReadAs.same.apply (A2.view.read (Elt F) f)) Finset.univ = f := by
  funext x; exact View.write_emb_of_mem (v := A19.view) (Val := Elt F) f1 _ (Finset.mem_univ x)
theorem us_copy (f1 f : FVec F S4x4096 .f32) : A20.view.write (Elt F) f1 (ReadAs.same.apply (A3.view.read (Elt F) f)) Finset.univ = f := by
  funext x; exact View.write_emb_of_mem (v := A20.view) (Val := Elt F) f1 _ (Finset.mem_univ x)
theorem ds_copy (f1 f : FVec F S4x7168 .f32) : A21.view.write (Elt F) f1 (ReadAs.same.apply (A4.view.read (Elt F) f)) Finset.univ = f := by
  funext x; exact View.write_emb_of_mem (v := A21.view) (Val := Elt F) f1 _ (Finset.mem_univ x)

def n17 : ℕ := A17.view.dmaCredit
def n18 : ℕ := A18.view.dmaCredit
def n19 : ℕ := A19.view.dmaCredit
def n20 : ℕ := A20.view.dmaCredit
def n21 : ℕ := A21.view.dmaCredit

abbrev fly18 (c : Dev nD) (I : Arr F) : sProp 𝕄 := Flight EC (c, Proc.tc) (.dma cc0_scoped7.sem) () n18 iprop(pt c cc0_scratch5 I.gates ∗ pt c main_v3 I.gates)
abbrev fly19 (c : Dev nD) (I : Arr F) : sProp 𝕄 := Flight EC (c, Proc.tc) (.dma cc0_scoped8.sem) () n19 iprop(pt (F := F) c cc0_scratch6 I.adapters ∗ pt (F := F) c main_v5 I.adapters)
abbrev fly20 (c : Dev nD) (I : Arr F) : sProp 𝕄 := Flight EC (c, Proc.tc) (.dma cc0_scoped9.sem) () n20 iprop(pt c cc0_scratch7 I.us ∗ pt c main_arg5 I.us)
abbrev fly21 (c : Dev nD) (I : Arr F) : sProp 𝕄 := Flight EC (c, Proc.tc) (.dma cc0_scoped10.sem) () n21 iprop(pt c cc0_scratch8 I.ds ∗ pt c main_arg7 I.ds)

/-- One entry of the list of experts. -/
def lput (l : IVec S5 32) (p : ℕ) (hp : p < 5) (x : Fin 4) : IVec S5 32 :=
  wrA (s := S5) ![p] S1.size (fun a => by match a with | ⟨0, _⟩ => exact hp) l (fun _ => ev x)

theorem lput_eq {o : Fin 1 → ℕ} {p : ℕ} (hp : p < 5) (ho : o = ![p]) {h : ∀ a, o a + S1.size a ≤ S5.size a} (l : IVec S5 32) (x : Fin 4) :
    (A34.access (Rect.unit (s := S5) o S1.size h)).write (Elt F) l (fun _ => ev x) Finset.univ = lput l p hp x := wr_eq ho _ _

variable {c : Dev nD} {I : Arr F}

theorem st_imod {α : Type} {P P' R : sProp 𝕄} {p : Prog (TpuEff nD τ sig (Elt F) Λ₀ .tc) α} {Q : α → sProp 𝕄} (h : P ⊢ iprop(|={Set.univ}=> P'))
    (hk : iprop(P' ∗ R) ⊢ WP c p Q) : iprop(P ∗ R) ⊢ WP c p Q := by
  iintro ⟨H, HR⟩
  imod h $$ H with H
  iapply hk
  isplitl [H]; · iexact H
  iexact HR

def list2 (l : IVec S5 32) (e : Fin 4) : IVec S5 32 := lput (lput l 0 (by decide) e) 1 (by decide) 0

theorem part49_st {Q} (e en : Fin 4) (q : PosShare TreeShare) (he : I.ids (ix2 0 0) = ev e)
    (i0 : IVec S2x32 32) (x0 : FVec F S32x7168 .bf16) (g0 : FVec F S2x32 .f32) (a0 : IVec S1x32 32) (u0 : FVec F S4x4096 .f32) (d0 : FVec F S4x7168 .f32)
    (l0 : FVec F S4x128x4096 .bf16) (v0 : IVec S5 32) :
    iprop((pt (F := F) c main_v1 I.ids ∗ pt (F := F) c cc0_scratch4 i0 ∗ sm0 (F := F) c cc0_scoped5.sem)
      ∗ (pt c main_v6 I.x ∗ pt c cc0_scratch9 x0 ∗ sm0 (F := F) c cc0_scoped6.sem)
      ∗ (pt c main_v3 I.gates ∗ pt c cc0_scratch5 g0 ∗ sm0 (F := F) c cc0_scoped7.sem)
      ∗ (pt (F := F) c main_v5 I.adapters ∗ pt (F := F) c cc0_scratch6 a0 ∗ sm0 (F := F) c cc0_scoped8.sem)
      ∗ (pt c main_arg5 I.us ∗ pt c cc0_scratch7 u0 ∗ sm0 (F := F) c cc0_scoped9.sem)
      ∗ (pt c main_arg7 I.ds ∗ pt c cc0_scratch8 d0 ∗ sm0 (F := F) c cc0_scoped10.sem)
      ∗ ((L c main_v9 ↦[lbEarly]{q} I.lb) ∗ (L c cc0_scratch3 ↦[lbEarly]{fullShare} l0) ∗ sm0 (F := F) c cc0_scoped4.sem)
      ∗ Ow c ∗ Fam c I (stat e en 0 0) ∗ pt (F := F) c cc0_scratch21 v0) ⊢
    iprop((iprop((pt (F := F) c main_v1 I.ids ∗ pt (F := F) c cc0_scratch4 I.ids ∗ sm0 (F := F) c cc0_scoped5.sem)
        ∗ Batch EC (c, Proc.tc) (.dma cc0_scoped6.sem) () xN (xDel c I.x) 2 0
        ∗ fly18 c I ∗ fly19 c I ∗ fly20 c I ∗ fly21 c I
        ∗ Batch EC (c, Proc.tc) (.dma cc0_scoped4.sem) () lbN0 (lbDel c q I.lb) 4 0
        ∗ Ow c ∗ Fam c I (stat e en 0 7) ∗ pt (F := F) c cc0_scratch21 (list2 v0 e)) -∗ Q ⟨ev e, k0_pay129 (F := F) I.ids, 1#32⟩)
      -∗ WP c (onK (k0_part49 (F := F))) Q) := by
  rw [k0_part49_eq_skeleton]
  show _ ⊢ iprop(_ -∗ WP c (k0_part49_skel _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) _)
  unfold k0_part49_skel
  iintro ⟨⟨Hi, Hi', Hs5⟩, ⟨Hx, Hx', Hs6⟩, ⟨Hg, Hg', Hs7⟩, ⟨Ha, Ha', Hs8⟩, ⟨Hu, Hu', Hs9⟩, ⟨Hd, Hd', Hs10⟩, ⟨Hl, Hl', Hs4⟩, HO, HF, HL⟩ Hk
  iapply (fly_whole (c := c) (src := A0) (dst := A17) (sem := cc0_scoped5.sem) (fs := I.ids) (fd := i0) (g := I.ids) n17 (View.set_whole _) (View.set_whole _) rfl (by decide) (ids_copy (F := F) i0 I.ids)) $$ [Hi Hi' Hs5]
  · isplitl [Hi]; · iexact Hi
    isplitl [Hi']; · iexact Hi'
    iexact Hs5
  iintro HF5
  imod (batch_alloc' EC (c, Proc.tc) (sm := .dma cc0_scoped6.sem) () xN (xDel c I.x) (E := Set.univ)) $$ Hs6 with HB6
  iapply (t1_st (c := c) I.x x0) $$ [Hx Hx' HB6]
  · isplitl [Hx]; · iexact Hx
    isplitl [Hx']; · iexact Hx'
    iexact HB6
  iintro HB6
  iapply (fly_whole (c := c) (src := A1) (dst := A18) (sem := cc0_scoped7.sem) (fs := I.gates) (fd := g0) (g := I.gates) n18 (View.set_whole _) (View.set_whole _) rfl (by decide) (gates_copy g0 I.gates)) $$ [Hg Hg' Hs7]
  · isplitl [Hg]; · iexact Hg
    isplitl [Hg']; · iexact Hg'
    iexact Hs7
  iintro HF7
  iapply (fly_whole (c := c) (src := A2) (dst := A19) (sem := cc0_scoped8.sem) (fs := I.adapters) (fd := a0) (g := I.adapters) n19 (View.set_whole _) (View.set_whole _) rfl (by decide) (adapters_copy (F := F) a0 I.adapters)) $$ [Ha Ha' Hs8]
  · isplitl [Ha]; · iexact Ha
    isplitl [Ha']; · iexact Ha'
    iexact Hs8
  iintro HF8
  iapply (fly_whole (c := c) (src := A3) (dst := A20) (sem := cc0_scoped9.sem) (fs := I.us) (fd := u0) (g := I.us) n20 (View.set_whole _) (View.set_whole _) rfl (by decide) (us_copy u0 I.us)) $$ [Hu Hu' Hs9]
  · isplitl [Hu]; · iexact Hu
    isplitl [Hu']; · iexact Hu'
    iexact Hs9
  iintro HF9
  iapply (fly_whole (c := c) (src := A4) (dst := A21) (sem := cc0_scoped10.sem) (fs := I.ds) (fd := d0) (g := I.ds) n21 (View.set_whole _) (View.set_whole _) rfl (by decide) (ds_copy d0 I.ds)) $$ [Hd Hd' Hs10]
  · isplitl [Hd]; · iexact Hd
    isplitl [Hd']; · iexact Hd'
    iexact Hs10
  iintro HF10
  imod (batch_alloc' EC (c, Proc.tc) (sm := .dma cc0_scoped4.sem) () lbN0 (lbDel c q I.lb) (E := Set.univ)) $$ Hs4 with HB4
  iapply (t2_st (c := c) q I.lb l0) $$ [Hl Hl' HB4]
  · isplitl [Hl]; · iexact Hl
    isplitl [Hl']; · iexact Hl'
    iexact HB4
  iintro HB4
  iapply (wait_whole (c := c) (sem := cc0_scoped5.sem) (N := n17) rfl) $$ [HF5 HO]
  · isplitl [HF5]; · iexact HF5
    iexact HO
  iintro ⟨⟨⟨Hi', Hi⟩, Hs5⟩, HO⟩
  iapply (ld1 (c := c) (m := A17) (v := fun _ => ev e) (by
    rw [← he]; funext i; show I.ids _ = I.ids _; congr 1; funext a; apply Fin.ext
    match a with
    | ⟨0, _⟩ => have h : (i 0).val < 1 := (i 0).isLt; show 0 + 1 * (i 0).val = 0; omega
    | ⟨1, _⟩ => have h : (i 1).val < 1 := (i 1).isLt; show 0 + 1 * (i 1).val = 0; omega)) $$ Hi'
  iintro Hi'
  iapply (as1 (c := c) (chk1_ok e))
  iapply (Fam_la c I (ph := stat e en 0 0) (ph' := stat e en 0 1) e (fun q hq hne => by
      unfold stat; simp only [show (q + 44 < 1) ↔ (q + 44 < 0) by omega, show (q < 1) ↔ (q < 0) by omega])
    (by unfold stat; trivial) (by unfold stat; rfl) (off34_eq e).1) $$ HF
  iintro HF
  iapply (Fam_lb c I (ph := stat e en 0 1) (ph' := stat e en 0 2) e (fun q hq hne => by
      unfold stat; simp only [show (q + 44 < 2) ↔ (q + 44 < 1) by omega, show (q < 2) ↔ (q < 1) by omega])
    (by unfold stat; trivial) (by unfold stat; rfl) (off34_eq e).2) $$ HF
  iintro HF
  iapply (t3_st (c := c) I e en (chk1_ok e)) $$ HF
  iintro HF
  iapply (sm1 (c := c) (m := A34)) $$ HL
  iintro HL %_
  iapply (st1 (c := c) (m := A34) (lput_eq (F := F) (p := 0) (by decide) rfl v0 e)) $$ HL
  iintro HL
  iapply (sm1 (c := c) (m := A34)) $$ HL
  iintro HL %_
  iapply (st1 (c := c) (m := A34) (lput_eq (F := F) (p := 1) (by decide) rfl _ 0)) $$ HL
  iintro HL
  iapply (ld1 (c := c) (m := A17) (v := I.ids) ((rd_eq rfl _).trans (rd_all _ z2 _ _))) $$ Hi'
  iintro Hi'
  iapply (st_pure (c := c) (show Q ⟨ev e, k0_pay129 (F := F) I.ids, 1#32⟩ ⊢ Q ⟨ev e, k0_pay129 (F := F) I.ids, 1#32⟩ from .rfl))
  iapply Hk
  isplitl [Hi Hi' Hs5]
  · isplitl [Hi]; · iexact Hi
    isplitl [Hi']; · iexact Hi'
    iexact Hs5
  isplitl [HB6]; · iexact HB6
  isplitl [HF7]; · iexact HF7
  isplitl [HF8]; · iexact HF8
  isplitl [HF9]; · iexact HF9
  isplitl [HF10]; · iexact HF10
  isplitl [HB4]; · iexact HB4
  isplitl [HO]; · iexact HO
  isplitl [HF]; · iexact HF
  iexact HL

end Cert.KernelIdeal.Hand
end
-- ==== Proof.Setup2.lean ====
/-
  Hand-written, untrusted. Which experts are hit, and the row quantiser.
-/
module

public import proofs.«01_k».proof.Proof.Setup
public import Idealize.ShloMosaic.PureOps.Reduce

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

variable {c : Dev nD} {I : Arr F}

theorem ld_ids {o : Fin 2 → ℕ} {h} (f : IVec S2x32 32) (ho : o = ![0, 0]) : A17.view.readAt (Elt F) (Rect.unit (s := S2x32) o S2x32.size h).toLoadRect f = f := by
  subst ho; exact (rd_eq rfl _).trans (rd_all _ z2 _ _)

/-- The number of experts found after the first two tests. -/
abbrev n2 (v17 v36 v51 : BitVec 32) : BitVec 32 :=
  Scalar.addi (Scalar.addi 1#32 (Scalar.select (Scalar.cmpi .eq v17 0#32) 0#32 v36)) (Scalar.select (Scalar.cmpi .eq v17 1#32) 0#32 v51)

theorem c2 {e : Fin 4} {f0 : Fin 2} {v36} (h0 : v36 = fv f0) : k0_chk2 (ev e) v36 := h0 ▸ chk2_ok e f0
theorem c3 {e : Fin 4} {f0 f1 : Fin 2} {v36 v51} (h0 : v36 = fv f0) (h1 : v51 = fv f1) : k0_chk3 (ev e) v36 v51 := h0 ▸ h1 ▸ chk3_ok e f0 f1
theorem c4 {e : Fin 4} {f0 f1 f2 : Fin 2} {v66} (h2 : v66 = fv f2) : k0_chk4 (ev e) (fv f0) (fv f1) v66 := h2 ▸ chk4_ok e f0 f1 f2
theorem c5 {e : Fin 4} {f0 f1 f2 f3 : Fin 2} {v66 v81} (h2 : v66 = fv f2) (h3 : v81 = fv f3) : k0_chk5 (ev e) (fv f0) (fv f1) v66 v81 := h2 ▸ h3 ▸ chk5_ok e f0 f1 f2 f3
theorem o8 {e : Fin 4} {f0 : Fin 2} {v36} (h0 : v36 = fv f0) : k0_off8 (ev e) v36 = ![cnt1 e f0] := h0 ▸ off8_eq e f0
theorem o9 {e : Fin 4} {f0 f1 : Fin 2} {v36 v51} (h0 : v36 = fv f0) (h1 : v51 = fv f1) : k0_off9 (ev e) v36 v51 = ![cnt2 e f0 f1] := h0 ▸ h1 ▸ off9_eq e f0 f1
theorem o10 {e : Fin 4} {f0 f1 f2 : Fin 2} {v66} (h2 : v66 = fv f2) : k0_off10 (ev e) (fv f0) (fv f1) v66 = ![cnt3 e f0 f1 f2] := h2 ▸ off10_eq e f0 f1 f2

theorem ret50 {α : Type} {e : Fin 4} {f0 f1 : Fin 2} {v36 v51 : BitVec 32} {w : α} (h0 : v36 = fv f0) (h1 : v51 = fv f1) {Q : (Σ' (_ : BitVec 32) (_ : BitVec 32) (_ : BitVec 32), α) → sProp 𝕄} :
    Q ⟨fv f0, fv f1, n2 (ev e) (fv f0) (fv f1), w⟩ ⊢ Q ⟨v36, v51, n2 (ev e) v36 v51, w⟩ := by subst h0; subst h1; exact .rfl
theorem ret51 {e : Fin 4} {f0 f1 f2 f3 : Fin 2} {v66 v81 : BitVec 32} {α β : Type} {w : α} {w' : β} (h2 : v66 = fv f2) (h3 : v81 = fv f3) (h5 : k0_chk5 (ev e) (fv f0) (fv f1) v66 v81)
    {Q : (Σ' (v66 : BitVec 32) (v81 : BitVec 32) (_ : k0_chk5 (ev e) (fv f0) (fv f1) v66 v81) (_ : BitVec 32) (_ : α), β) → sProp 𝕄} :
    Q ⟨fv f2, fv f3, chk5_ok e f0 f1 f2 f3, nl (ev e) (fv f0) (fv f1) (fv f2) (fv f3), w, w'⟩ ⊢ Q ⟨v66, v81, h5, nl (ev e) (fv f0) (fv f1) v66 v81, w, w'⟩ := by subst h2; subst h3; exact .rfl

theorem part50_st {Q} (e : Fin 4) (f0 f1 : Fin 2) (l : IVec S5 32)
    (h0 : extractAt ![0, 0, 0] (k0_pay130 (k0_pay129 (F := F) I.ids) 1#32) inpos_S1x1x1_p0_0_0 = fv f0)
    (h1 : extractAt ![0, 0, 0] (k0_pay131 (F := F) I.ids) inpos_S1x1x1_p0_0_0 = fv f1) :
    iprop(pt (F := F) c cc0_scratch4 I.ids ∗ pt (F := F) c cc0_scratch21 l) ⊢
    iprop((iprop(pt (F := F) c cc0_scratch4 I.ids ∗ pt (F := F) c cc0_scratch21 (lput (lput l (cnt1 e f0) (cnt_lt e f0 0 0).1 1) (cnt2 e f0 f1) (cnt_lt e f0 f1 0).2.1 2))
        -∗ Q ⟨fv f0, fv f1, n2 (ev e) (fv f0) (fv f1), k0_pay132 (F := F) I.ids⟩)
      -∗ WP c (onK (k0_part50 (F := F)) (ev e) (k0_pay129 (F := F) I.ids) 1#32) Q) := by
  rw [k0_part50_eq_skeleton]
  show _ ⊢ iprop(_ -∗ WP c (k0_part50_skel _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) _)
  unfold k0_part50_skel
  iintro ⟨Hi, HL⟩ Hk
  iapply (as1 (c := c) (c2 h0))
  iapply (sm1 (c := c) (m := A34)) $$ HL
  iintro HL %_
  iapply (st1 (c := c) (m := A34) (lput_eq (F := F) (cnt_lt e f0 0 0).1 (o8 h0) l 1)) $$ HL
  iintro HL
  iapply (ld1 (c := c) (m := A17) (v := I.ids) (ld_ids _ rfl)) $$ Hi
  iintro Hi
  iapply (as1 (c := c) (c3 h0 h1))
  iapply (sm1 (c := c) (m := A34)) $$ HL
  iintro HL %_
  iapply (st1 (c := c) (m := A34) (lput_eq (F := F) (cnt_lt e f0 f1 0).2.1 (o9 h0 h1) _ 2)) $$ HL
  iintro HL
  iapply (ld1 (c := c) (m := A17) (v := I.ids) (ld_ids _ rfl)) $$ Hi
  iintro Hi
  iapply (st_pure (c := c) (ret50 h0 h1))
  iapply Hk
  isplitl [Hi]; · iexact Hi
  iexact HL

theorem part51_st (e : Fin 4) (f0 f1 f2 f3 : Fin 2) {Q : (Σ' (v66 : BitVec 32) (v81 : BitVec 32) (_ : k0_chk5 (ev e) (fv f0) (fv f1) v66 v81) (_ : BitVec 32) (_ : FVec F S32x7168 .f32), FVec F S32x1 .f32) → sProp 𝕄} (l : IVec S5 32)
    (h2 : extractAt ![0, 0, 0] (k0_pay133 (k0_pay132 (F := F) I.ids)) inpos_S1x1x1_p0_0_0 = fv f2)
    (h3 : extractAt ![0, 0, 0] (k0_pay134 (F := F) I.ids) inpos_S1x1x1_p0_0_0 = fv f3) :
    iprop((pt (F := F) c cc0_scratch4 I.ids ∗ pt (F := F) c cc0_scratch21 l) ∗ Batch EC (c, Proc.tc) (.dma cc0_scoped6.sem) () xN (xDel c I.x) 2 0
        ∗ fly18 c I ∗ fly19 c I ∗ fly20 c I ∗ fly21 c I ∗ Ow c) ⊢
    iprop((iprop((pt (F := F) c cc0_scratch4 I.ids ∗ pt (F := F) c cc0_scratch21 (lput l (cnt3 e f0 f1 f2) (cnt_lt e f0 f1 f2).2.2 3))
          ∗ (pt c cc0_scratch9 I.x ∗ pt c main_v6 I.x ∗ sm0 (F := F) c cc0_scoped6.sem)
          ∗ (pt c cc0_scratch5 I.gates ∗ pt c main_v3 I.gates ∗ sm0 (F := F) c cc0_scoped7.sem)
          ∗ (pt (F := F) c cc0_scratch6 I.adapters ∗ pt (F := F) c main_v5 I.adapters ∗ sm0 (F := F) c cc0_scoped8.sem)
          ∗ (pt c cc0_scratch7 I.us ∗ pt c main_arg5 I.us ∗ sm0 (F := F) c cc0_scoped9.sem)
          ∗ (pt c cc0_scratch8 I.ds ∗ pt c main_arg7 I.ds ∗ sm0 (F := F) c cc0_scoped10.sem) ∗ Ow c)
        -∗ Q ⟨fv f2, fv f3, chk5_ok e f0 f1 f2 f3, nl (ev e) (fv f0) (fv f1) (fv f2) (fv f3), k0_pay135 I.x, k0_pay136 I.x⟩)
      -∗ WP c (onK (k0_part51 (F := F)) (ev e) (fv f0) (fv f1) (n2 (ev e) (fv f0) (fv f1)) (k0_pay132 (F := F) I.ids)) Q) := by
  rw [k0_part51_eq_skeleton]
  show _ ⊢ iprop(_ -∗ WP c (k0_part51_skel _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) _)
  unfold k0_part51_skel
  iintro ⟨⟨Hi, HL⟩, HB6, HF7, HF8, HF9, HF10, HO⟩ Hk
  iapply (as1 (c := c) (c4 h2))
  iapply (sm1 (c := c) (m := A34)) $$ HL
  iintro HL %_
  iapply (st1 (c := c) (m := A34) (lput_eq (F := F) (cnt_lt e f0 f1 f2).2.2 (o10 h2) l 3)) $$ HL
  iintro HL
  iapply (ld1 (c := c) (m := A17) (v := I.ids) (ld_ids _ rfl)) $$ Hi
  iintro Hi
  iapply (as1 (c := c) (c5 h2 h3))
  iapply (wait_b (c := c) (sem := cc0_scoped6.sem) (N := xN) (u := 0) (D := xDel c I.x) (by decide) (by decide)) $$ [HB6 HO]
  · isplitl [HB6]; · iexact HB6
    iexact HO
  iintro ⟨HB6, HO⟩
  iapply (wait_bl (c := c) (sem := cc0_scoped6.sem) (N := xN) (u := xN) (D := xDel c I.x) (by decide) xN_pos (by decide)) $$ [HB6 HO]
  · isplitl [HB6]; · iexact HB6
    iexact HO
  iintro ⟨HX, Hs6, HO⟩
  ihave HX := (x_join (c := c) I.x) $$ HX
  icases HX with ⟨Hx', Hx⟩
  iapply (wait_whole (c := c) (sem := cc0_scoped7.sem) (N := n18) rfl) $$ [HF7 HO]
  · isplitl [HF7]; · iexact HF7
    iexact HO
  iintro ⟨⟨⟨Hg', Hg⟩, Hs7⟩, HO⟩
  iapply (wait_whole (c := c) (sem := cc0_scoped8.sem) (N := n19) rfl) $$ [HF8 HO]
  · isplitl [HF8]; · iexact HF8
    iexact HO
  iintro ⟨⟨⟨Ha', Ha⟩, Hs8⟩, HO⟩
  iapply (wait_whole (c := c) (sem := cc0_scoped9.sem) (N := n20) rfl) $$ [HF9 HO]
  · isplitl [HF9]; · iexact HF9
    iexact HO
  iintro ⟨⟨⟨Hu', Hu⟩, Hs9⟩, HO⟩
  iapply (wait_whole (c := c) (sem := cc0_scoped10.sem) (N := n21) rfl) $$ [HF10 HO]
  · isplitl [HF10]; · iexact HF10
    iexact HO
  iintro ⟨⟨⟨Hd', Hd⟩, Hs10⟩, HO⟩
  iapply (ld1 (c := c) (m := A22) (v := I.x) ((rd_eq rfl _).trans (rd_all _ z2 _ _))) $$ Hx'
  iintro Hx'
  iapply (st_pure (c := c) (ret51 h2 h3 (c5 h2 h3)))
  iapply Hk
  isplitl [Hi HL]
  · isplitl [Hi]; · iexact Hi
    iexact HL
  isplitl [Hx Hx' Hs6]
  · isplitl [Hx']; · iexact Hx'
    isplitl [Hx]; · iexact Hx
    iexact Hs6
  isplitl [Hg Hg' Hs7]
  · isplitl [Hg']; · iexact Hg'
    isplitl [Hg]; · iexact Hg
    iexact Hs7
  isplitl [Ha Ha' Hs8]
  · isplitl [Ha']; · iexact Ha'
    isplitl [Ha]; · iexact Ha
    iexact Hs8
  isplitl [Hu Hu' Hs9]
  · isplitl [Hu']; · iexact Hu'
    isplitl [Hu]; · iexact Hu
    iexact Hs9
  isplitl [Hd Hd' Hs10]
  · isplitl [Hd']; · iexact Hd'
    isplitl [Hd]; · iexact Hd
    iexact Hs10
  iexact HO

/-! ## The quantised rows, the scales, and the columns of ids, gates and adapters -/

def codesQ (I : Arr F) : FVec F S32x7168 .fp8e4m3 := k0_pay139 (k0_pay135 I.x) (k0_pay136 I.x)
def xsQ (I : Arr F) : FVec F S32x128 .f32 := k0_pay140 (k0_pay136 I.x)
def scQ (I : Arr F) : FVec F S1x32 .f32 := k0_pay143 (k0_pay142 (k0_pay136 I.x))

theorem part52_st {Q} (c0 : FVec F S32x7168 .fp8e4m3) (x0 : FVec F S32x128 .f32) (s0 : FVec F S1x32 .f32) :
    iprop(pt c cc0_scratch10 c0 ∗ pt c cc0_scratch12 x0 ∗ pt c cc0_scratch13 s0) ⊢
    iprop((iprop(pt c cc0_scratch10 (codesQ I) ∗ pt c cc0_scratch12 (xsQ I) ∗ pt c cc0_scratch13 s0)
        -∗ Q ⟨k0_pay141, k0_pay142 (k0_pay136 I.x), s0⟩)
      -∗ WP c (onK (k0_part52 (F := F)) (k0_pay135 I.x) (k0_pay136 I.x)) Q) := by
  rw [k0_part52_eq_skeleton]
  show _ ⊢ iprop(_ -∗ WP c (k0_part52_skel _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) _)
  unfold k0_part52_skel
  iintro ⟨Hc, Hx, Hs⟩ Hk
  iapply (ld1 (c := c) (m := A23) rfl) $$ Hc
  iintro Hc
  iapply (st1 (c := c) (m := A23) (g := codesQ I) ((wr_eq rfl _ _).trans (wr_all _ z2 _ _ _))) $$ Hc
  iintro Hc
  iapply (ld1 (c := c) (m := A25) rfl) $$ Hx
  iintro Hx
  iapply (st1 (c := c) (m := A25) (g := xsQ I) ((wr_eq rfl _ _).trans (wr_all _ z2 _ _ _))) $$ Hx
  iintro Hx
  iapply (ld1 (c := c) (m := A26) (v := s0) ((rd_eq rfl _).trans (rd_all _ z2 _ _))) $$ Hs
  iintro Hs
  iapply (st_pure (c := c) .rfl)
  iapply Hk
  isplitl [Hc]; · iexact Hc
  isplitl [Hx]; · iexact Hx
  iexact Hs

theorem bd3 (p : Fin 5) : ∀ a : Fin 3, (![p.val, 0, 0] : Fin 3 → ℕ) a + S1x32x128.size a ≤ S5x32x128.size a := by
  intro a
  have := p.isLt
  match a with
  | ⟨0, _⟩ => show p.val + 1 ≤ 5; omega
  | ⟨1, _⟩ => show 0 + 32 ≤ 32; omega
  | ⟨2, _⟩ => show 0 + 128 ≤ 128; omega

def cput (f : FVec F S5x32x128 .f32) (p : Fin 5) (w : FVec F S1x32x128 .f32) : FVec F S5x32x128 .f32 :=
  wrA (s := S5x32x128) ![p.val, 0, 0] S1x32x128.size (bd3 p) f w

def gRow0 (I : Arr F) : FVec F S1x32 .f32 := rdA (s := S2x32) ![0, 0] S1x32.size (by decide) I.gates
def gRow (I : Arr F) : FVec F S1x32 .f32 := rdA (s := S2x32) ![1, 0] S1x32.size (by decide) I.gates

/-- The five planes of columns: the two ids, the two gates, the adapter of every row. -/
def colsA (I : Arr F) (f : FVec F S5x32x128 .f32) : FVec F S5x32x128 .f32 :=
  cput (cput f 0 (k0_pay144 k0_pay141 (rdA (s := S2x32) ![0, 0] S1x32.size (by decide) I.ids))) 1
    (k0_pay145 k0_pay141 (rdA (s := S2x32) ![1, 0] S1x32.size (by decide) I.ids))
def colsB (I : Arr F) (f : FVec F S5x32x128 .f32) : FVec F S5x32x128 .f32 :=
  cput (cput (cput f 2 (k0_pay147 (k0_pay146 k0_pay141 (gRow0 I)))) 3 (k0_pay148 k0_pay141 (gRow I))) 4
    (k0_pay149 k0_pay141 I.adapters)

theorem part53_st {Q} (s0 : FVec F S1x32 .f32) (f : FVec F S5x32x128 .f32) :
    iprop(pt (F := F) c cc0_scratch4 I.ids ∗ pt c cc0_scratch5 I.gates ∗ pt (F := F) c cc0_scratch6 I.adapters ∗ pt c cc0_scratch13 s0 ∗ pt c cc0_scratch11 f) ⊢
    iprop((iprop(pt (F := F) c cc0_scratch4 I.ids ∗ pt c cc0_scratch5 I.gates ∗ pt (F := F) c cc0_scratch6 I.adapters ∗ pt c cc0_scratch13 (scQ I) ∗ pt c cc0_scratch11 (colsA I f))
        -∗ Q ⟨gRow I, I.adapters, k0_pay146 k0_pay141 (gRow0 I)⟩)
      -∗ WP c (onK (k0_part53 (F := F)) k0_pay141 (k0_pay142 (k0_pay136 I.x)) s0) Q) := by
  rw [k0_part53_eq_skeleton]
  show _ ⊢ iprop(_ -∗ WP c (k0_part53_skel _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) _)
  unfold k0_part53_skel
  iintro ⟨Hi, Hg, Ha, Hs, Hc⟩ Hk
  iapply (st1 (c := c) (m := A26) (g := scQ I) ((wr_eq rfl _ _).trans (wr_all _ z2 _ _ _))) $$ Hs
  iintro Hs
  iapply (ld1 (c := c) (m := A17) (rd_eq (o := ![0, 0]) rfl I.ids)) $$ Hi
  iintro Hi
  iapply (ld1 (c := c) (m := A17) (rd_eq (o := ![1, 0]) rfl I.ids)) $$ Hi
  iintro Hi
  iapply (ld1 (c := c) (m := A18) (v := gRow0 I) (by unfold gRow0; exact rd_eq (b := cc0_scratch5) rfl I.gates)) $$ Hg
  iintro Hg
  iapply (ld1 (c := c) (m := A18) (v := gRow I) (by unfold gRow; exact rd_eq (b := cc0_scratch5) rfl I.gates)) $$ Hg
  iintro Hg
  iapply (ld1 (c := c) (m := A19) (v := I.adapters) ((rd_eq rfl _).trans (rd_all _ z2 _ _))) $$ Ha
  iintro Ha
  iapply (ld1 (c := c) (m := A24) rfl) $$ Hc
  iintro Hc
  iapply (st1 (c := c) (m := A24) (g := cput f 0 (k0_pay144 k0_pay141 (rdA (s := S2x32) ![0, 0] S1x32.size (by decide) I.ids))) (wr_eq rfl _ _)) $$ Hc
  iintro Hc
  iapply (ld1 (c := c) (m := A24) rfl) $$ Hc
  iintro Hc
  iapply (st1 (c := c) (m := A24) (g := colsA I f) (wr_eq rfl _ _)) $$ Hc
  iintro Hc
  iapply (st_pure (c := c) .rfl)
  iapply Hk
  isplitl [Hi]; · iexact Hi
  isplitl [Hg]; · iexact Hg
  isplitl [Ha]; · iexact Ha
  isplitl [Hs]; · iexact Hs
  iexact Hc

theorem part54_st {Q} (f : FVec F S5x32x128 .f32) (y0 : FVec F S32x7168 .f32) :
    iprop(pt c cc0_scratch11 f ∗ pt c cc0_scratch19 y0) ⊢
    iprop((iprop(pt c cc0_scratch11 (colsB I f) ∗ pt c cc0_scratch19 (k0_pay150 (F := F))) -∗ Q ⟨⟩)
      -∗ WP c (onK (k0_part54 (F := F)) k0_pay141 (gRow I) I.adapters (k0_pay146 k0_pay141 (gRow0 I))) Q) := by
  rw [k0_part54_eq_skeleton]
  show _ ⊢ iprop(_ -∗ WP c (k0_part54_skel _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) _)
  unfold k0_part54_skel
  iintro ⟨Hc, Hy⟩ Hk
  iapply (ld1 (c := c) (m := A24) rfl) $$ Hc
  iintro Hc
  iapply (st1 (c := c) (m := A24) (g := cput f 2 (k0_pay147 (k0_pay146 k0_pay141 (gRow0 I)))) (wr_eq rfl _ _)) $$ Hc
  iintro Hc
  iapply (ld1 (c := c) (m := A24) rfl) $$ Hc
  iintro Hc
  iapply (st1 (c := c) (m := A24) (g := cput (cput f 2 (k0_pay147 (k0_pay146 k0_pay141 (gRow0 I)))) 3 (k0_pay148 k0_pay141 (gRow I))) (wr_eq rfl _ _)) $$ Hc
  iintro Hc
  iapply (ld1 (c := c) (m := A24) rfl) $$ Hc
  iintro Hc
  iapply (st1 (c := c) (m := A24) (g := colsB I f) (wr_eq rfl _ _)) $$ Hc
  iintro Hc
  iapply (ld1 (c := c) (m := A32) rfl) $$ Hy
  iintro Hy
  iapply (st1 (c := c) (m := A32) (g := k0_pay150 (F := F)) ((wr_eq rfl _ _).trans (wr_all _ z2 _ _ _))) $$ Hy
  iintro Hy
  iapply (st_pure (c := c) .rfl)
  iapply Hk
  isplitl [Hc]; · iexact Hc
  iexact Hy

/-! ## The flags -/

theorem fold_flag {ι : Type} [DecidableEq ι] (s : Finset ι) (g : ι → BitVec 32) (hg : ∀ i ∈ s, g i = 0#32 ∨ g i = 1#32) (hs : s.Nonempty) :
    s.fold IntOp.maxsi 2147483648#32 g = if ∃ i ∈ s, g i = 1#32 then 1#32 else 0#32 := by
  have key : ∀ t : Finset ι, t ⊆ s → t.fold IntOp.maxsi 2147483648#32 g =
      if t = ∅ then 2147483648#32 else if ∃ i ∈ t, g i = 1#32 then 1#32 else 0#32 := by
    intro t
    induction t using Finset.induction_on with
    | empty => intro _; simp
    | insert a t ha ih =>
      intro ht
      rw [Finset.fold_insert ha, ih fun x hx => ht (Finset.mem_insert_of_mem hx), if_neg (Finset.insert_ne_empty a t)]
      rcases hg a (ht (Finset.mem_insert_self a t)) with h | h
      · by_cases h1 : ∃ i ∈ t, g i = 1#32
        · obtain ⟨i, hi, hi'⟩ := h1
          rw [if_neg (Finset.ne_empty_of_mem hi), if_pos ⟨i, hi, hi'⟩, if_pos ⟨i, Finset.mem_insert_of_mem hi, hi'⟩, h]
          decide
        · have h2 : ¬ ∃ i ∈ insert a t, g i = 1#32 := by
            rintro ⟨i, hi, hi'⟩
            rcases Finset.mem_insert.mp hi with rfl | hi
            · rw [h] at hi'; exact absurd hi' (by decide)
            · exact h1 ⟨i, hi, hi'⟩
          rw [if_neg h1, if_neg h2, h]
          by_cases he : t = ∅
          · rw [if_pos he]; decide
          · rw [if_neg he]; decide
      · rw [if_pos (⟨a, Finset.mem_insert_self a t, h⟩ : ∃ i ∈ insert a t, g i = 1#32), h]
        by_cases he : t = ∅
        · rw [if_pos he]; decide
        · rw [if_neg he]
          by_cases h1 : ∃ i ∈ t, g i = 1#32
          · rw [if_pos h1]; decide
          · rw [if_neg h1]; decide
  rw [key s (Finset.Subset.refl s), if_neg (Finset.nonempty_iff_ne_empty.mp hs)]

/-- One when some entry of the ids is `k`, else zero. -/
def hit (k : BitVec 32) (ids : IVec S2x32 32) : Fin 2 := if ∃ i, ids i = k then 1 else 0

theorem flag_gen (k : BitVec 32) (ids : IVec S2x32 32) (j : S1.Idx) :
    multiReductionI .maxsi [1, 2] S1 (shapeCast S1x2x32 (select (cmpi .eq ids (broadcast S2x32 k)) (broadcast S2x32 1#32) (broadcast S2x32 0#32)) shapeCasts_S2x32_S1x2x32) 2147483648#32 reduces_S1x2x32_S1 rfl j = fv (hit k ids) := by
  refine (multiReductionI_eq_fold .maxsi _ 2147483648#32 reduces_S1x2x32_S1 rfl j).trans ?_
  have hv : ∀ i : S2x32.Idx, (select (cmpi .eq ids (broadcast S2x32 k)) (broadcast S2x32 1#32) (broadcast S2x32 0#32)) i = if ids i = k then 1#32 else 0#32 := by
    intro i
    show (if (cmpi .eq ids (broadcast S2x32 k)) i = 1#1 then 1#32 else 0#32) = _
    by_cases h : ids i = k
    · rw [if_pos h, if_pos]; show BitVec.ofBool (ids i == k) = 1#1; rw [h]; exact congrArg BitVec.ofBool (beq_self_eq_true k)
    · rw [if_neg h, if_neg]; show ¬ BitVec.ofBool (ids i == k) = 1#1; rw [beq_eq_false_iff_ne.mpr h]; decide
  have hall : ∀ i : S1x2x32.Idx, reduces_S1x2x32_S1.drop i = j := by
    intro i; funext a; apply Fin.ext
    have h1 := (reduces_S1x2x32_S1.drop i a).isLt
    have h2 := (j a).isLt
    match a with
    | ⟨0, _⟩ => change _ < 1 at h1; change _ < 1 at h2; omega
  show Finset.fold IntOp.maxsi _ _ _ = _
  rw [fold_flag]
  · unfold hit
    by_cases h : ∃ i, ids i = k
    · obtain ⟨i, hi⟩ := h
      rw [if_pos, if_pos ⟨i, hi⟩]; · rfl
      refine ⟨(Shape.reshapeEquiv shapeCasts_S2x32_S1x2x32).symm i, Finset.mem_filter.mpr ⟨Finset.mem_univ _, hall _⟩, ?_⟩
      show (select _ _ _) _ = _
      rw [hv, if_pos]
      exact (congrArg ids (Equiv.apply_symm_apply (Shape.reshapeEquiv shapeCasts_S2x32_S1x2x32) i)).trans hi
    · rw [if_neg, if_neg h]; · rfl
      rintro ⟨i, -, hi⟩
      refine h ⟨Shape.reshapeEquiv shapeCasts_S2x32_S1x2x32 i, ?_⟩
      · by_contra hne
        change (select _ _ _) _ = _ at hi
        rw [hv, if_neg hne] at hi
        exact absurd hi (by decide)
  · intro i _
    show (select _ _ _) _ = _ ∨ (select _ _ _) _ = _
    rw [hv]
    by_cases h : ids (Shape.reshapeEquiv shapeCasts_S2x32_S1x2x32 i) = k
    · rw [if_pos h]; exact .inr rfl
    · rw [if_neg h]; exact .inl rfl
  · exact ⟨ix3 0 0 0, Finset.mem_filter.mpr ⟨Finset.mem_univ _, hall _⟩⟩

theorem flag0 (ids : IVec S2x32 32) : extractAt ![0, 0, 0] (k0_pay130 (k0_pay129 (F := F) ids) 1#32) inpos_S1x1x1_p0_0_0 = fv (hit 0#32 ids) := flag_gen 0#32 ids _
theorem flag1 (ids : IVec S2x32 32) : extractAt ![0, 0, 0] (k0_pay131 (F := F) ids) inpos_S1x1x1_p0_0_0 = fv (hit 1#32 ids) := flag_gen 1#32 ids _
theorem flag2 (ids : IVec S2x32 32) : extractAt ![0, 0, 0] (k0_pay133 (k0_pay132 (F := F) ids)) inpos_S1x1x1_p0_0_0 = fv (hit 2#32 ids) := flag_gen 2#32 ids _
theorem flag3 (ids : IVec S2x32 32) : extractAt ![0, 0, 0] (k0_pay134 (F := F) ids) inpos_S1x1x1_p0_0_0 = fv (hit 3#32 ids) := flag_gen 3#32 ids _

end Cert.KernelIdeal.Hand
end
-- ==== Proof.Body.lean ====
/-
  Hand-written, untrusted. The kernel as a whole: the preparations, the loop over the experts, the results copied out.
-/
module

public import proofs.«01_k».proof.Proof.Setup2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

variable {c : Dev nD} {I : Arr F} {K : Once F} {σ : State F}

theorem St_in {o : Bool} {R X : sProp 𝕄} {w a : ℕ} : iprop(St c I K o R σ w a ∗ X) ⊢ St c I K o iprop(R ∗ X) σ w a := by
  unfold St
  iintro ⟨⟨H1, H2, H3, H4, H5, H6, H7, H8, H9, H10, H11, H12, H13, H14, H15, H16, H17, H18⟩, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact HX

theorem St_out {o : Bool} {R X : sProp 𝕄} {w a : ℕ} : St c I K o iprop(R ∗ X) σ w a ⊢ iprop(St c I K o R σ w a ∗ X) := by
  unfold St
  iintro ⟨H1, H2, H3, H4, H5, H6, H7, H8, H9, H10, H11, H12, H13, H14, H15, H16, H17, H18, HX⟩
  isplitr [HX]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact HX

section Wands
variable (e : Fin 4) (f0 f1 f2 f3 : Fin 2)

theorem loop_w (hw5 : k0_chk5 (ev e) (fv f0) (fv f1) (fv f2) (fv f3)) (sc : FVec F S1x32 .f32) (σ : State F)
    (hl : Agrees (listK e f0 f1 f2) K.live) {α : Type} {kk : Unit → Prog (TpuEff nD τ sig (Elt F) Λ₀ .tc) α} {Q : α → sProp 𝕄} {hok} :
    St c I K false (outHead c sc) (seqS e f0 f1 f2 f3 I K σ 0) 0 7 ⊢
      iprop((St c I K true (outTail c K.codes sc (endS e f0 f1 f2 f3 I K σ).yout) (endS e f0 f1 f2 f3 I K σ) 44 44 -∗ WP c (kk ()) Q)
        -∗ WP c (Scf.Loop.for (k0_t4_loop (ev e) (fv f0) (fv f1) (fv f2) (fv f3)) hok ⟨⟩
        (onK (k0_t4_body (F := F)) (ev e) (fv f0) (fv f1) (fv f2) (fv f3) hw5 (nl (ev e) (fv f0) (fv f1) (fv f2) (fv f3))) >>= kk) Q) := by
  refine cur (St_in.trans (loop_st e f0 f1 f2 f3 hw5 sc σ hl (St_out.trans ?_)))
  iintro ⟨H, Hk⟩
  iapply Hk
  iexact H

theorem t9_w {v84 v225 : BitVec 32} (hw5 : k0_chk5 (ev e) (fv f0) (fv f1) (fv f2) (fv f3))
    {α : Type} {kk : Unit → Prog (TpuEff nD τ sig (Elt F) Λ₀ .tc) α} {Q : α → sProp 𝕄} {hok} :
    (WP c (kk ()) Q : sProp 𝕄) ⊢ WP c (Scf.Loop.for (k0_t9_loop (ev e) (fv f0) (fv f1) (fv f2) (fv f3)) hok ⟨⟩
        (onK (k0_t9_body (F := F)) (ev e) (fv f0) (fv f1) (fv f2) (fv f3) hw5 v84 v225) >>= kk) Q :=
  st_for (fun _ _ => WP c (kk ()) Q) .rfl (fun t => absurd (lt_of_lt_of_eq t.isLt (t9_trips e f0 f1 f2 f3)) (Nat.not_lt_zero _)) fun _ => .rfl

end Wands

/-- A whole buffer with some contents. -/
abbrev ex (c : Dev nD) (b : Ref sig .tc) : sProp 𝕄 := iprop(∃ f : Buf (Elt F) (L c b), pt (F := F) c b f)

/-- What is held once the loop is over and only the result's two copies are under way. -/
def Near (c : Dev nD) (I : Arr F) (q : PosShare TreeShare) (co : FVec F S32x7168 .fp8e4m3) (sc : FVec F S1x32 .f32) (y : FVec F S32x7168 .bf16) : sProp 𝕄 :=
  iprop(Fam c I (fun _ => .idle) ∗ ex (F := F) c cc0_scratch7 ∗ ex (F := F) c cc0_scratch8 ∗ ex (F := F) c cc0_scratch9 ∗ ex (F := F) c cc0_scratch11 ∗ ex (F := F) c cc0_scratch12 ∗ ex (F := F) c cc0_scratch21 ∗ ex (F := F) c cc0_scratch14 ∗ ex (F := F) c cc0_scratch15 ∗ ex (F := F) c cc0_scratch16 ∗ ex (F := F) c cc0_scratch17 ∗ ex (F := F) c cc0_scratch18 ∗ ex (F := F) c cc0_scratch19
    ∗ (L c cc0_scratch3 ↦[lbEarly]{fullShare} I.lb) ∗ (L c main_v9 ↦[lbEarly]{q} I.lb) ∗ sm0 (F := F) c cc0_scoped4.sem
    ∗ pt (F := F) c main_v10_1 co ∗ ex (F := F) c cc0_scratch10 ∗ sm0 (F := F) c cc0_scoped11.sem
    ∗ pt (F := F) c main_v10_2 sc ∗ ex (F := F) c cc0_scratch13 ∗ sm0 (F := F) c cc0_scoped12.sem)

theorem Fam_idle {e en : Fin 4} : (Fam c I (stat e en 44 44) : sProp 𝕄) ⊢ Fam c I (fun _ => .idle) := by
  unfold Fam
  refine bigSep_mono fun q hq => SlotD.free_idle _ ?_
  have hq := Finset.mem_range.mp hq
  unfold stat
  rw [if_neg (show ¬ q + 44 < 44 by omega), if_pos hq]
  trivial

theorem part55_st {Q} (e : Fin 4) (f0 f1 f2 f3 : Fin 2) (q : PosShare TreeShare) (hw5 : k0_chk5 (ev e) (fv f0) (fv f1) (fv f2) (fv f3)) (sc : FVec F S1x32 .f32)
    (hl : Agrees (listK e f0 f1 f2) K.live) :
    iprop(Batch EC (c, Proc.tc) (.dma cc0_scoped4.sem) () lbN0 (lbDel c q I.lb) 4 0 ∗ Ow c ∗ Fam c I (stat (nthL e f0 f1 f2 f3 0) (nthL e f0 f1 f2 f3 1) 0 7)
        ∗ (pt (F := F) c cc0_scratch7 I.us ∗ pt (F := F) c cc0_scratch8 I.ds ∗ pt (F := F) c cc0_scratch9 I.x ∗ pt (F := F) c cc0_scratch11 K.cols ∗ pt (F := F) c cc0_scratch12 K.xs ∗ pt (F := F) c cc0_scratch21 K.live ∗ pt (F := F) c cc0_scratch14 σ.delta ∗ pt (F := F) c cc0_scratch15 σ.h ∗ pt (F := F) c cc0_scratch16 σ.act ∗ pt (F := F) c cc0_scratch17 σ.acodes ∗ pt (F := F) c cc0_scratch18 σ.coef ∗ pt (F := F) c cc0_scratch19 σ.yacc ∗ pt (F := F) c cc0_scratch20 σ.yout ∗ pt (F := F) c cc0_scratch10 K.codes) ∗ outHead c sc) ⊢
    iprop((iprop(Near c I q K.codes sc (endS e f0 f1 f2 f3 I K σ).yout ∗ Ow c
          ∗ MixedBatch EC (c, Proc.tc) (.dma cc0_scoped13.sem) () yAmt (yDel c (endS e f0 f1 f2 f3 I K σ).yout) 2 0) -∗ Q ⟨⟩)
      -∗ WP c (onK (k0_part55 (F := F)) (ev e) (fv f0) (fv f1) (fv f2) (fv f3) hw5 (nl (ev e) (fv f0) (fv f1) (fv f2) (fv f3))) Q) := by
  rw [k0_part55_eq_skeleton]
  show _ ⊢ iprop(_ -∗ WP c (k0_part55_skel _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ev e) (fv f0) (fv f1) (fv f2) (fv f3) hw5 (nl (ev e) (fv f0) (fv f1) (fv f2) (fv f3))) _)
  unfold k0_part55_skel
  iintro ⟨HB, HO, HF, ⟨G0, G1, G2, G3, G4, G5, G6, G7, G8, G9, G10, G11, G12, G13⟩, HH⟩ Hk
  iapply (wait_b (c := c) (sem := cc0_scoped4.sem) (N := lbN0) (u := 0) (D := lbDel c q I.lb) (by decide) (by decide)) $$ [HB HO]
  · isplitl [HB]; · iexact HB
    iexact HO
  iintro ⟨HB, HO⟩
  iapply (wait_b (c := c) (sem := cc0_scoped4.sem) (N := lbN0) (u := lbN0) (D := lbDel c q I.lb) (by decide) (by decide)) $$ [HB HO]
  · isplitl [HB]; · iexact HB
    iexact HO
  iintro ⟨HB, HO⟩
  iapply (wait_b (c := c) (sem := cc0_scoped4.sem) (N := lbN0) (u := (lbN0 + lbN0)) (D := lbDel c q I.lb) (by decide) (by decide)) $$ [HB HO]
  · isplitl [HB]; · iexact HB
    iexact HO
  iintro ⟨HB, HO⟩
  iapply (wait_bl (c := c) (sem := cc0_scoped4.sem) (N := lbN0) (u := lbN0 + lbN0 + lbN0) (D := lbDel c q I.lb) (by decide) lbN0_pos (by decide)) $$ [HB HO]
  · isplitl [HB]; · iexact HB
    iexact HO
  iintro ⟨HB, Hs4, HO⟩
  ihave HB := (lb_join (c := c) q I.lb) $$ HB
  icases HB with ⟨Hlb, Hv9⟩
  iapply (loop_w (c := c) (I := I) (K := K) e f0 f1 f2 f3 hw5 sc σ hl) $$ [HF HO G0 G1 G2 G3 G4 G5 G6 G7 G8 G9 G10 G11 G12 G13 Hlb HH]
  · iapply (show _ ⊢ St c I K false (outHead c sc) (seqS e f0 f1 f2 f3 I K σ 0) 0 7 from .rfl)
    unfold St
    simp only [if_false, Bool.false_eq_true]
    isplitl [HF]; · iexact HF
    isplitl [HO]; · iexact HO
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [Hlb]; · iexact Hlb
    iexact HH
  iintro HS
  unfold St outTail
  simp only [if_true]
  icases HS with ⟨HF, HO, G0, G1, G2, G3, G4, G5, G6, G7, G8, G9, G10, G11, HY, HC, Hlb, HF1, HF2, HM, ⟨%fd, HD⟩⟩
  iapply (t9_w (c := c) e f0 f1 f2 f3 hw5)
  iapply (fly_y (c := c) 1 (Rect.unit (s := S32x7168) ![0, 6656] S32x512.size inb_S32x7168_S32x512_0_6656) yHi_set yAmt1_eq (endS e f0 f1 f2 f3 I K σ).yout _ (fun _ _ => rfl) fd) $$ [HY HD HM]
  · isplitl [HY]; · iexact HY
    isplitl [HD]; · iexact HD
    iexact HM
  iintro HM
  iapply (wait_whole (c := c) (sem := cc0_scoped11.sem) (N := codesN) rfl) $$ [HF1 HO]
  · isplitl [HF1]; · iexact HF1
    iexact HO
  iintro ⟨⟨⟨Hc1, Hc2⟩, Hs11⟩, HO⟩
  iapply (wait_whole (c := c) (sem := cc0_scoped12.sem) (N := scaleN) rfl) $$ [HF2 HO]
  · isplitl [HF2]; · iexact HF2
    iexact HO
  iintro ⟨⟨⟨Hx1, Hx2⟩, Hs12⟩, HO⟩
  ihave HF := (Fam_idle (c := c) (I := I)) $$ HF
  iapply (st_pure (c := c) (show Q ⟨⟩ ⊢ Q ⟨⟩ from .rfl))
  iapply Hk
  isplitr [HO HM]
  · unfold Near
    isplitl [HF]; · iexact HF
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    isplitl [G8]; · iexists _; iexact G8
    isplitl [G9]; · iexists _; iexact G9
    isplitl [G10]; · iexists _; iexact G10
    isplitl [G11]; · iexists _; iexact G11
    isplitl [Hlb]; · iexact Hlb
    isplitl [Hv9]; · iexact Hv9
    isplitl [Hs4]; · iexact Hs4
    isplitl [Hc1]; · iexact Hc1
    isplitl [Hc2]; · iexists _; iexact Hc2
    isplitl [Hs11]; · iexact Hs11
    isplitl [Hx1]; · iexact Hx1
    isplitl [Hx2]; · iexists _; iexact Hx2
    iexact Hs12
  isplitl [HO]; · iexact HO
  iexact HM

end Cert.KernelIdeal.Hand
end
-- ==== Proof.Whole.lean ====
/-
  Hand-written, untrusted. The whole body, its pieces one after the other.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-- The contents of the scratch buffers before the kernel runs. -/
structure Junk (F : FTy → Type) where
  ids : IVec S2x32 32
  gates : FVec F S2x32 .f32
  adapters : IVec S1x32 32
  us : FVec F S4x4096 .f32
  ds : FVec F S4x7168 .f32
  x : FVec F S32x7168 .bf16
  lb : FVec F S4x128x4096 .bf16
  scale : FVec F S1x32 .f32
  once : Once F
  st : State F

section Body
variable {c : Dev nD} (I : Arr F) (J : Junk F) (e : Fin 4)

/-- The list of experts after the kernel has written it. -/
def liveOf (l : IVec S5 32) (f0 f1 f2 : Fin 2) : IVec S5 32 :=
  lput (lput (lput (list2 l e) (cnt1 e f0) (cnt_lt e f0 0 0).1 1) (cnt2 e f0 f1) (cnt_lt e f0 f1 0).2.1 2) (cnt3 e f0 f1 f2) (cnt_lt e f0 f1 f2).2.2 3

theorem live_agrees (l : IVec S5 32) (f0 f1 f2 : Fin 2) : Agrees (listK e f0 f1 f2) (liveOf e l f0 f1 f2) :=
  have h : Agrees (fun _ => none) l := fun _ _ h => nomatch h
  ((((h.put 0 e (by decide)).put 1 0 (by decide)).put (cnt1 e f0) 1 (cnt_lt e f0 0 0).1).put (cnt2 e f0 f1) 2 (cnt_lt e f0 f1 0).2.1).put (cnt3 e f0 f1 f2) 3 (cnt_lt e f0 f1 f2).2.2

/-- What the kernel computes before the loop, and the state in which the loop begins. -/
def onceOf : Once F := ⟨codesQ I, colsB I (colsA I J.once.cols), xsQ I, liveOf e J.once.live (hit 0#32 I.ids) (hit 1#32 I.ids) (hit 2#32 I.ids)⟩
def stOf : State F := { J.st with yacc := k0_pay150 (F := F) }

/-- The result the kernel writes. -/
def yOf : FVec F S32x7168 .bf16 :=
  (endS e (hit 0#32 I.ids) (hit 1#32 I.ids) (hit 2#32 I.ids) (hit 3#32 I.ids) I (onceOf I J e) (stOf J)).yout

theorem y_join (y : FVec F S32x7168 .bf16) : iprop(yDel c y 0 ∗ yDel c y 1) ⊢ (iprop(pt c main_v10_0 y ∗ pt c cc0_scratch20 y) : sProp 𝕄) := by
  have e1 : (iprop(pt c main_v10_0 y ∗ pt c cc0_scratch20 y) : sProp 𝕄)
      = iprop((L c main_v10_0 ↦[yLo ∪ yHi]{fullShare} y) ∗ (L c cc0_scratch20 ↦[yLo ∪ yHi]{fullShare} y)) := by rw [y_split]
  rw [e1]
  unfold yDel
  rw [show yPiece 0 = yLo from rfl, show yPiece 1 = yHi from rfl]
  iintro ⟨⟨H1, H2⟩, ⟨H3, H4⟩⟩
  isplitl [H1 H3]
  · iapply (pointsTo_union y_disj).2
    isplitl [H1]; · iexact H1
    iexact H3
  · iapply (pointsTo_union y_disj).2
    isplitl [H2]; · iexact H2
    iexact H4

theorem nthL_zero : ∀ (e : Fin 4) (f0 f1 f2 f3 : Fin 2), nthL e f0 f1 f2 f3 0 = e := by decide

theorem bind_w {α β : Type} {p : Prog (TpuEff nD τ sig (Elt F) Λ₀ .tc) β} {k : β → Prog (TpuEff nD τ sig (Elt F) Λ₀ .tc) α}
    {Q : α → sProp 𝕄} : (WP c p fun v => WP c (k v) Q) ⊢ WP c (p >>= k) Q := st_bind .rfl

theorem Fam_start {en : Fin 4} : (Fam c I (fun _ => .idle) : sProp 𝕄) ⊢ Fam c I (stat e en 0 0) :=
  Entails.of_eq (Fam_congr c I fun q _ => by
    unfold stat; rw [if_neg (show ¬ q + 44 < 0 by omega), if_neg (show ¬ q < 0 by omega), if_neg (show ¬ q < 0 by omega)])

/-- What the kernel is given. -/
def Given (c : Dev nD) (q : PosShare TreeShare) : sProp 𝕄 :=
  iprop(Ow c ∗ Fam c I (fun _ => .idle)
    ∗ (pt (F := F) c main_v1 I.ids ∗ pt (F := F) c cc0_scratch4 J.ids ∗ sm0 (F := F) c cc0_scoped5.sem)
    ∗ (pt c main_v6 I.x ∗ pt c cc0_scratch9 J.x ∗ sm0 (F := F) c cc0_scoped6.sem)
    ∗ (pt c main_v3 I.gates ∗ pt c cc0_scratch5 J.gates ∗ sm0 (F := F) c cc0_scoped7.sem)
    ∗ (pt (F := F) c main_v5 I.adapters ∗ pt (F := F) c cc0_scratch6 J.adapters ∗ sm0 (F := F) c cc0_scoped8.sem)
    ∗ (pt c main_arg5 I.us ∗ pt c cc0_scratch7 J.us ∗ sm0 (F := F) c cc0_scoped9.sem)
    ∗ (pt c main_arg7 I.ds ∗ pt c cc0_scratch8 J.ds ∗ sm0 (F := F) c cc0_scoped10.sem)
    ∗ ((L c main_v9 ↦[lbEarly]{q} I.lb) ∗ (L c cc0_scratch3 ↦[lbEarly]{fullShare} J.lb) ∗ sm0 (F := F) c cc0_scoped4.sem)
    ∗ pt (F := F) c cc0_scratch21 J.once.live
    ∗ (pt c cc0_scratch10 J.once.codes ∗ pt c cc0_scratch12 J.once.xs ∗ pt c cc0_scratch13 J.scale ∗ pt c cc0_scratch11 J.once.cols ∗ pt c cc0_scratch19 J.st.yacc)
    ∗ (pt c cc0_scratch14 J.st.delta ∗ pt c cc0_scratch15 J.st.h ∗ pt c cc0_scratch16 J.st.act ∗ pt c cc0_scratch17 J.st.acodes ∗ pt c cc0_scratch18 J.st.coef ∗ pt c cc0_scratch20 J.st.yout)
    ∗ (ex (F := F) c main_v10_1 ∗ ex (F := F) c main_v10_2 ∗ ex (F := F) c main_v10_0
      ∗ sm0 (F := F) c cc0_scoped11.sem ∗ sm0 (F := F) c cc0_scoped12.sem ∗ sm0 (F := F) c cc0_scoped13.sem))

/-- What it leaves. -/
def Left (c : Dev nD) (q : PosShare TreeShare) : sProp 𝕄 :=
  iprop(Ow c ∗ Near c I q (codesQ I) (scQ I) (yOf I J e)
    ∗ (pt c main_v10_0 (yOf I J e) ∗ ex (F := F) c cc0_scratch20 ∗ sm0 (F := F) c cc0_scoped13.sem)
    ∗ (pt (F := F) c main_v1 I.ids ∗ ex (F := F) c cc0_scratch4 ∗ sm0 (F := F) c cc0_scoped5.sem)
    ∗ (pt c main_v6 I.x ∗ sm0 (F := F) c cc0_scoped6.sem)
    ∗ (pt c main_v3 I.gates ∗ ex (F := F) c cc0_scratch5 ∗ sm0 (F := F) c cc0_scoped7.sem)
    ∗ (pt (F := F) c main_v5 I.adapters ∗ ex (F := F) c cc0_scratch6 ∗ sm0 (F := F) c cc0_scoped8.sem)
    ∗ (pt c main_arg5 I.us ∗ sm0 (F := F) c cc0_scoped9.sem)
    ∗ (pt c main_arg7 I.ds ∗ sm0 (F := F) c cc0_scoped10.sem))

theorem body_st (q : PosShare TreeShare) (he : I.ids (ix2 0 0) = ev e) {Q : PUnit → sProp 𝕄} :
    Given I J c q ⊢ iprop((Left I J e c q -∗ Q ⟨⟩) -∗ WP c (onK (cc0_moe_fp8_multi_lora (F := F))) Q) := by
  rw [cc0_moe_fp8_multi_lora_eq_skeleton]
  show _ ⊢ iprop(_ -∗ WP c (cc0_moe_fp8_multi_lora_skel _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) _)
  unfold cc0_moe_fp8_multi_lora_skel Given
  iintro ⟨HO, HF, HA, HB, HC, HD, HE, HG, HH, HL, ⟨G10, G12, G13, G11, G19⟩, ⟨G14, G15, G16, G17, G18, G20⟩, ⟨O1, O2, O0, S11, S12, S13⟩⟩ Hk
  ihave HF := (Fam_start (c := c) I e (en := nthL e (hit 0#32 I.ids) (hit 1#32 I.ids) (hit 2#32 I.ids) (hit 3#32 I.ids) 1)) $$ HF
  iapply (bind_w (c := c))
  iapply (part49_st (c := c) (I := I) e _ q he J.ids J.x J.gates J.adapters J.us J.ds J.lb J.once.live) $$ [HO HF HA HB HC HD HE HG HH HL]
  · isplitl [HA]; · iexact HA
    isplitl [HB]; · iexact HB
    isplitl [HC]; · iexact HC
    isplitl [HD]; · iexact HD
    isplitl [HE]; · iexact HE
    isplitl [HG]; · iexact HG
    isplitl [HH]; · iexact HH
    isplitl [HO]; · iexact HO
    isplitl [HF]; · iexact HF
    iexact HL
  iintro ⟨⟨Hv1, G4, S5⟩, HB6, HF7, HF8, HF9, HF10, HB4, HO, HF, HL⟩
  iapply (bind_w (c := c))
  iapply (part50_st (c := c) (I := I) e (hit 0#32 I.ids) (hit 1#32 I.ids) (list2 J.once.live e) (flag0 (F := F) I.ids) (flag1 (F := F) I.ids)) $$ [G4 HL]
  · isplitl [G4]; · iexact G4
    iexact HL
  iintro ⟨G4, HL⟩
  iapply (bind_w (c := c))
  iapply (part51_st (c := c) (I := I) e (hit 0#32 I.ids) (hit 1#32 I.ids) (hit 2#32 I.ids) (hit 3#32 I.ids) _ (flag2 (F := F) I.ids) (flag3 (F := F) I.ids)) $$ [G4 HL HB6 HF7 HF8 HF9 HF10 HO]
  · isplitl [G4 HL]
    · isplitl [G4]; · iexact G4
      iexact HL
    isplitl [HB6]; · iexact HB6
    isplitl [HF7]; · iexact HF7
    isplitl [HF8]; · iexact HF8
    isplitl [HF9]; · iexact HF9
    isplitl [HF10]; · iexact HF10
    iexact HO
  iintro ⟨⟨G4, HL⟩, ⟨G9, Hv6, S6⟩, ⟨G5, Hv3, S7⟩, ⟨G6, Hv5, S8⟩, ⟨G7, Ha5, S9⟩, ⟨G8, Ha7, S10⟩, HO⟩
  iapply (bind_w (c := c))
  iapply (part52_st (c := c) (I := I) J.once.codes J.once.xs J.scale) $$ [G10 G12 G13]
  · isplitl [G10]; · iexact G10
    isplitl [G12]; · iexact G12
    iexact G13
  iintro ⟨G10, G12, G13⟩
  iapply (bind_w (c := c))
  iapply (part53_st (c := c) (I := I) J.scale J.once.cols) $$ [G4 G5 G6 G13 G11]
  · isplitl [G4]; · iexact G4
    isplitl [G5]; · iexact G5
    isplitl [G6]; · iexact G6
    isplitl [G13]; · iexact G13
    iexact G11
  iintro ⟨G4, G5, G6, G13, G11⟩
  iapply (bind_w (c := c))
  iapply (part54_st (c := c) (I := I) (colsA I J.once.cols) J.st.yacc) $$ [G11 G19]
  · isplitl [G11]; · iexact G11
    iexact G19
  iintro ⟨G11, G19⟩
  iapply (bind_w (c := c))
  iapply (part55_st (c := c) (I := I) (K := onceOf I J e) (σ := stOf J) e (hit 0#32 I.ids) (hit 1#32 I.ids) (hit 2#32 I.ids) (hit 3#32 I.ids) q (chk5_ok _ _ _ _ _) (scQ I) (live_agrees e _ _ _ _))
    $$ [HB4 HO HF G7 G8 G9 G11 G12 HL G14 G15 G16 G17 G18 G19 G20 G10 G13 O1 O2 O0 S11 S12 S13]
  · isplitl [HB4]; · iexact HB4
    isplitl [HO]; · iexact HO
    isplitl [HF]
    · iapply (show (Fam c I (stat e (nthL e (hit 0#32 I.ids) (hit 1#32 I.ids) (hit 2#32 I.ids) (hit 3#32 I.ids) 1) 0 7) : sProp 𝕄) ⊢ Fam c I (stat (nthL e (hit 0#32 I.ids) (hit 1#32 I.ids) (hit 2#32 I.ids) (hit 3#32 I.ids) 0) (nthL e (hit 0#32 I.ids) (hit 1#32 I.ids) (hit 2#32 I.ids) (hit 3#32 I.ids) 1) 0 7) from
        Entails.of_eq (by rw [nthL_zero]))
      iexact HF
    isplitl [G7 G8 G9 G11 G12 HL G14 G15 G16 G17 G18 G19 G20 G10]
    · isplitl [G7]; · iexact G7
      isplitl [G8]; · iexact G8
      isplitl [G9]; · iexact G9
      isplitl [G11]; · iexact G11
      isplitl [G12]; · iexact G12
      isplitl [HL]; · iexact HL
      isplitl [G14]; · iexact G14
      isplitl [G15]; · iexact G15
      isplitl [G16]; · iexact G16
      isplitl [G17]; · iexact G17
      isplitl [G18]; · iexact G18
      isplitl [G19]; · iexact G19
      isplitl [G20]; · iexact G20
      iexact G10
    unfold outHead
    isplitl [O1]; · iexact O1
    isplitl [S11]; · iexact S11
    isplitl [G13]; · iexact G13
    isplitl [O2]; · iexact O2
    isplitl [S12]; · iexact S12
    isplitl [O0]; · iexact O0
    iexact S13
  iintro ⟨HN, HO, HM⟩
  iapply (wait_y0 (c := c) _ yAmt0_eq) $$ [HM HO]
  · isplitl [HM]; · iexact HM
    iexact HO
  iintro ⟨HM, HO⟩
  iapply (wait_y1 (c := c) _ yAmt1_eq) $$ [HM HO]
  · isplitl [HM]; · iexact HM
    iexact HO
  iintro ⟨⟨HY, S13⟩, HO⟩
  ihave HY := (y_join (c := c) _) $$ HY
  icases HY with ⟨HY, G20⟩
  iapply (st_pure (c := c) (show Q ⟨⟩ ⊢ Q ⟨⟩ from .rfl))
  iapply Hk
  unfold Left
  isplitl [HO]; · iexact HO
  isplitl [HN]; · iexact HN
  isplitl [HY G20 S13]
  · isplitl [HY]; · iexact HY
    isplitl [G20]; · iexists _; iexact G20
    iexact S13
  isplitl [Hv1 G4 S5]
  · isplitl [Hv1]; · iexact Hv1
    isplitl [G4]; · iexists _; iexact G4
    iexact S5
  isplitl [Hv6 S6]
  · isplitl [Hv6]; · iexact Hv6
    iexact S6
  isplitl [Hv3 G5 S7]
  · isplitl [Hv3]; · iexact Hv3
    isplitl [G5]; · iexists _; iexact G5
    iexact S7
  isplitl [Hv5 G6 S8]
  · isplitl [Hv5]; · iexact Hv5
    isplitl [G6]; · iexists _; iexact G6
    iexact S8
  isplitl [Ha5 S9]
  · isplitl [Ha5]; · iexact Ha5
    iexact S9
  isplitl [Ha7]; · iexact Ha7
  iexact S10

end Body

end Cert.KernelIdeal.Hand
end
-- ==== Proof.Entry.lean ====
/-
  Hand-written, untrusted. The kernel's buffers and semaphore cells as one launch holds them, cut into the pieces the body asks for, and put together again.
-/
module

public import proofs.«01_k».proof.Proof.Whole

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-! ## Families over the first numbers -/

theorem swap3 (A B C : sProp 𝕄) : iprop(A ∗ B ∗ C) ⊢ iprop(B ∗ A ∗ C) := by
  iintro ⟨H1, H2, H3⟩
  isplitl [H2]; · iexact H2
  isplitl [H1]; · iexact H1
  iexact H3

theorem bigSep_range_add (a b : ℕ) (Φ : ℕ → sProp 𝕄) :
    bigSep (Finset.range (a + b)) Φ = iprop(bigSep (Finset.range a) Φ ∗ bigSep (Finset.range b) (fun k => Φ (a + k))) := by
  induction b with
  | zero => rw [Finset.range_zero, bigSep_empty, Nat.add_zero]; exact (BI.equiv_iff.mp BI.sep_emp).symm
  | succ b ih =>
    rw [show a + (b + 1) = a + b + 1 by omega, Finset.range_add_one, bigSep_insert Finset.notMem_range_self, ih, Finset.range_add_one (n := b),
      bigSep_insert Finset.notMem_range_self]
    exact Entails.antisymm (swap3 _ _ _) (swap3 _ _ _)

/-- Pieces of one buffer at some contents each are their union at some contents. -/
theorem ex_join {ℓ : Loc nD τ sig} {T : Type} [DecidableEq T] (S : Finset T) (Kf : T → Finset (Idx ℓ))
    (h : ∀ t ∈ S, ∀ t' ∈ S, t ≠ t' → Disjoint (Kf t) (Kf t')) (f₀ : Buf (Elt F) ℓ) :
    (bigSep S fun t => iprop(∃ f : Buf (Elt F) ℓ, ℓ ↦[Kf t]{fullShare} f) : sProp 𝕄) ⊢ iprop(∃ f : Buf (Elt F) ℓ, ℓ ↦[S.biUnion Kf]{fullShare} f) := by
  classical
  induction S using Finset.induction_on with
  | empty =>
    iintro -
    iexists f₀
    rw [Finset.biUnion_empty, pointsTo_empty]
    iempintro
  | insert a S ha ih =>
    rw [bigSep_insert ha, Finset.biUnion_insert]
    have ih := ih fun t ht t' ht' => h t (Finset.mem_insert_of_mem ht) t' (Finset.mem_insert_of_mem ht')
    show iprop((∃ f : Buf (Elt F) ℓ, ℓ ↦[Kf a]{fullShare} f) ∗ bigSep S fun t => iprop(∃ f : Buf (Elt F) ℓ, ℓ ↦[Kf t]{fullShare} f)) ⊢ _
    iintro ⟨⟨%f, H1⟩, H2⟩
    ihave H2 := ih $$ H2
    icases H2 with ⟨%g, H2⟩
    iexists _
    iapply (pointsTo_join (by
      rw [Finset.disjoint_biUnion_right]
      intro t ht
      exact h a (Finset.mem_insert_self _ _) t (Finset.mem_insert_of_mem ht) (fun hh => ha (hh ▸ ht))))
    isplitl [H1]; · iexact H1
    iexact H2

section Rows
variable {A : Type} [Fintype A] [DecidableEq A] {n : ℕ} (key : A → ℕ)

theorem rows_disj (t t' : Fin n) (h : t ≠ t') : Disjoint (Finset.univ.filter fun i => key i = t.val) (Finset.univ.filter fun i : A => key i = t'.val) := by
  rw [Finset.disjoint_left]
  intro i h1 h2
  exact h (Fin.ext ((Finset.mem_filter.mp h1).2.symm.trans (Finset.mem_filter.mp h2).2))

theorem rows_all (hk : ∀ i, key i < n) : (Finset.univ.biUnion fun t : Fin n => Finset.univ.filter fun i : A => key i = t.val) = Finset.univ := by
  ext i
  simp only [Finset.mem_biUnion, Finset.mem_univ, true_and, iff_true]
  exact ⟨⟨key i, hk i⟩, Finset.mem_filter.mpr ⟨Finset.mem_univ _, rfl⟩⟩

end Rows

theorem up_disj : ∀ t ∈ (Finset.univ : Finset (Fin 28)), ∀ t' ∈ (Finset.univ : Finset (Fin 28)), t ≠ t' → Disjoint (upRows t.val) (upRows t'.val) :=
  fun t _ t' _ h => rows_disj (fun i : S7168x4096.Idx => (i 0).val / 256) t t' h
theorem dn_disj : ∀ t ∈ (Finset.univ : Finset (Fin 14)), ∀ t' ∈ (Finset.univ : Finset (Fin 14)), t ≠ t' → Disjoint (dnRows t.val) (dnRows t'.val) :=
  fun t _ t' _ h => rows_disj (fun i : S14x2048x512.Idx => (i 0).val) t t' h
theorem up_all : (Finset.univ.biUnion fun t : Fin 28 => upRows t.val) = Finset.univ :=
  rows_all (fun i : S7168x4096.Idx => (i 0).val / 256) fun i => by have : (i 0).val < 7168 := (i 0).isLt; show (i 0).val / 256 < 28; omega
theorem dn_all : (Finset.univ.biUnion fun t : Fin 14 => dnRows t.val) = Finset.univ :=
  rows_all (fun i : S14x2048x512.Idx => (i 0).val) fun i => (i 0).isLt

theorem lb_compl : (Finset.univ \ lbEarly : Finset S4x128x4096.Idx) = lbLate := by
  ext i
  simp only [lbEarly, lbLate, Finset.mem_sdiff, Finset.mem_filter, Finset.mem_univ, true_and]
  omega

/-! ## The slots -/

variable (c : Dev nD) (I : Arr F)

theorem Fam_parts : (Fam c I (fun _ => .idle) : sProp 𝕄) = iprop((laD c I).at .idle ∗ (lbD c I).at .idle
    ∗ (bigSep Finset.univ fun k : Fin 28 => (upD c I k).at .idle) ∗ bigSep Finset.univ fun k : Fin 14 => (dnD c I k).at .idle) := by
  unfold Fam
  rw [show (44 : ℕ) = 1 + (1 + (28 + 14)) from rfl, bigSep_range_add, bigSep_range_add, bigSep_range_add,
    Ring.bigSep_fin_eq_range 28 (fun k => ((upD c I k).at .idle : sProp 𝕄)) (fun k => (slotD c I (1 + (1 + k))).at .idle)
      (fun t h => by rw [show 1 + (1 + t) = (⟨t, h⟩ : Fin 28).val + 2 by show 1 + (1 + t) = t + 2; omega, slotD_up]),
    Ring.bigSep_fin_eq_range 14 (fun k => ((dnD c I k).at .idle : sProp 𝕄)) (fun k => (slotD c I (1 + (1 + (28 + k)))).at .idle)
      (fun t h => by rw [show 1 + (1 + (28 + t)) = (⟨t, h⟩ : Fin 14).val + 30 by show 1 + (1 + (28 + t)) = t + 30; omega, slotD_dn]),
    Finset.range_one, bigSep_singleton, bigSep_singleton]
  rfl

/-- The cells of the two streams of blocks. -/
abbrev upCells : sProp 𝕄 := bigSep Finset.univ fun k : Fin 28 => sm0 (F := F) c (upSem k)
abbrev dnCells : sProp 𝕄 := bigSep Finset.univ fun k : Fin 14 => sm0 (F := F) c (dnSem k)
abbrev upToks : sProp 𝕄 := bigSep Finset.univ fun k : Fin 28 => (L c main_arg4 ↦{shareTokN fullShare k.val} I.wu)
abbrev dnToks : sProp 𝕄 := bigSep Finset.univ fun k : Fin 14 => (L c main_arg6 ↦{shareTokN fullShare k.val} I.wd)

theorem up_cut (f : Buf (Elt F) (L c cc0_scratch0)) : (pt (F := F) c cc0_scratch0 f : sProp 𝕄)
    = bigSep Finset.univ fun k : Fin 28 => (L c cc0_scratch0 ↦[(upRows k.val : Finset (Idx (L c cc0_scratch0)))]{fullShare} f) := by
  have h : (L c cc0_scratch0 ↦[Finset.univ.biUnion fun k : Fin 28 => (upRows k.val : Finset (Idx (L c cc0_scratch0)))]{fullShare} f : sProp 𝕄) = _ := pointsTo_biUnion (ℓ := L c cc0_scratch0) (q := fullShare) (f := f) Finset.univ (fun k : Fin 28 => (upRows k.val : Finset (Idx (L c cc0_scratch0)))) up_disj
  rw [show (Finset.univ.biUnion fun k : Fin 28 => (upRows k.val : Finset (Idx (L c cc0_scratch0)))) = Finset.univ from up_all] at h
  exact h

theorem up_in : iprop(ex (F := F) c cc0_scratch0 ∗ upToks c I ∗ upCells (F := F) c) ⊢ bigSep Finset.univ fun k : Fin 28 => ((upD c I k).at .idle : sProp 𝕄) := by
  iintro ⟨⟨%f, H1⟩, H2⟩
  ihave H1 := (show (pt (F := F) c cc0_scratch0 f : sProp 𝕄) ⊢ bigSep Finset.univ fun k : Fin 28 => (L c cc0_scratch0 ↦[upRows k.val]{fullShare} f) from by rw [up_cut]) $$ H1
  iapply (show iprop((bigSep Finset.univ fun k : Fin 28 => (L c cc0_scratch0 ↦[upRows k.val]{fullShare} f : sProp 𝕄)) ∗ upToks c I ∗ upCells (F := F) c)
      ⊢ bigSep Finset.univ fun k : Fin 28 => ((upD c I k).at .idle : sProp 𝕄) from by
    rw [← bigSep_sep', ← bigSep_sep']
    refine bigSep_mono fun k _ => ?_
    show _ ⊢ iprop(∃ f : Buf (Elt F) (L c cc0_scratch0), (L c cc0_scratch0 ↦[upRows k.val]{fullShare} f) ∗ (L c main_arg4 ↦{shareTokN fullShare k.val} I.wu) ∗ sm0 (F := F) c (upSem k))
    iintro H
    iexists f
    iexact H)
  isplitl [H1]; · iexact H1
  iexact H2

theorem dn_cut (f : Buf (Elt F) (L c cc0_scratch1)) : (pt (F := F) c cc0_scratch1 f : sProp 𝕄)
    = bigSep Finset.univ fun k : Fin 14 => (L c cc0_scratch1 ↦[(dnRows k.val : Finset (Idx (L c cc0_scratch1)))]{fullShare} f) := by
  have h : (L c cc0_scratch1 ↦[Finset.univ.biUnion fun k : Fin 14 => (dnRows k.val : Finset (Idx (L c cc0_scratch1)))]{fullShare} f : sProp 𝕄) = _ := pointsTo_biUnion (ℓ := L c cc0_scratch1) (q := fullShare) (f := f) Finset.univ (fun k : Fin 14 => (dnRows k.val : Finset (Idx (L c cc0_scratch1)))) dn_disj
  rw [show (Finset.univ.biUnion fun k : Fin 14 => (dnRows k.val : Finset (Idx (L c cc0_scratch1)))) = Finset.univ from dn_all] at h
  exact h

theorem dn_in : iprop(ex (F := F) c cc0_scratch1 ∗ dnToks c I ∗ dnCells (F := F) c) ⊢ bigSep Finset.univ fun k : Fin 14 => ((dnD c I k).at .idle : sProp 𝕄) := by
  iintro ⟨⟨%f, H1⟩, H2⟩
  ihave H1 := (show (pt (F := F) c cc0_scratch1 f : sProp 𝕄) ⊢ bigSep Finset.univ fun k : Fin 14 => (L c cc0_scratch1 ↦[dnRows k.val]{fullShare} f) from by rw [dn_cut]) $$ H1
  iapply (show iprop((bigSep Finset.univ fun k : Fin 14 => (L c cc0_scratch1 ↦[dnRows k.val]{fullShare} f : sProp 𝕄)) ∗ dnToks c I ∗ dnCells (F := F) c)
      ⊢ bigSep Finset.univ fun k : Fin 14 => ((dnD c I k).at .idle : sProp 𝕄) from by
    rw [← bigSep_sep', ← bigSep_sep']
    refine bigSep_mono fun k _ => ?_
    show _ ⊢ iprop(∃ f : Buf (Elt F) (L c cc0_scratch1), (L c cc0_scratch1 ↦[dnRows k.val]{fullShare} f) ∗ (L c main_arg6 ↦{shareTokN fullShare k.val} I.wd) ∗ sm0 (F := F) c (dnSem k))
    iintro H
    iexists f
    iexact H)
  isplitl [H1]; · iexact H1
  iexact H2

theorem up_out (f₀ : Buf (Elt F) (L c cc0_scratch0)) : (bigSep Finset.univ fun k : Fin 28 => ((upD c I k).at .idle : sProp 𝕄)) ⊢ iprop(ex (F := F) c cc0_scratch0 ∗ upToks c I ∗ upCells (F := F) c) := by
  refine (bigSep_mono (Ψ := fun k : Fin 28 => iprop((∃ f : Buf (Elt F) (L c cc0_scratch0), L c cc0_scratch0 ↦[upRows k.val]{fullShare} f)
    ∗ (L c main_arg4 ↦{shareTokN fullShare k.val} I.wu) ∗ sm0 (F := F) c (upSem k))) fun k _ => ?_).trans ?_
  · show iprop(∃ f : Buf (Elt F) (L c cc0_scratch0), (L c cc0_scratch0 ↦[upRows k.val]{fullShare} f) ∗ (L c main_arg4 ↦{shareTokN fullShare k.val} I.wu) ∗ sm0 (F := F) c (upSem k)) ⊢ _
    iintro ⟨%f, H1, H2⟩
    isplitl [H1]; · iexists f; iexact H1
    iexact H2
  · rw [bigSep_sep', bigSep_sep']
    refine BIClass.sep_mono ((ex_join (ℓ := L c cc0_scratch0) Finset.univ (fun k : Fin 28 => (upRows k.val : Finset (Idx (L c cc0_scratch0)))) up_disj f₀).trans ?_) .rfl
    rw [show (Finset.univ.biUnion fun k : Fin 28 => (upRows k.val : Finset (Idx (L c cc0_scratch0)))) = Finset.univ from up_all]

theorem dn_out (f₀ : Buf (Elt F) (L c cc0_scratch1)) : (bigSep Finset.univ fun k : Fin 14 => ((dnD c I k).at .idle : sProp 𝕄)) ⊢ iprop(ex (F := F) c cc0_scratch1 ∗ dnToks c I ∗ dnCells (F := F) c) := by
  refine (bigSep_mono (Ψ := fun k : Fin 14 => iprop((∃ f : Buf (Elt F) (L c cc0_scratch1), L c cc0_scratch1 ↦[dnRows k.val]{fullShare} f)
    ∗ (L c main_arg6 ↦{shareTokN fullShare k.val} I.wd) ∗ sm0 (F := F) c (dnSem k))) fun k _ => ?_).trans ?_
  · show iprop(∃ f : Buf (Elt F) (L c cc0_scratch1), (L c cc0_scratch1 ↦[dnRows k.val]{fullShare} f) ∗ (L c main_arg6 ↦{shareTokN fullShare k.val} I.wd) ∗ sm0 (F := F) c (dnSem k)) ⊢ _
    iintro ⟨%f, H1, H2⟩
    isplitl [H1]; · iexists f; iexact H1
    iexact H2
  · rw [bigSep_sep', bigSep_sep']
    refine BIClass.sep_mono ((ex_join (ℓ := L c cc0_scratch1) Finset.univ (fun k : Fin 14 => (dnRows k.val : Finset (Idx (L c cc0_scratch1)))) dn_disj f₀).trans ?_) .rfl
    rw [show (Finset.univ.biUnion fun k : Fin 14 => (dnRows k.val : Finset (Idx (L c cc0_scratch1)))) = Finset.univ from dn_all]

/-! ## The kernel's own semaphore cells -/

abbrev osem0 : Fin 28 ⊕ (Fin 14 ⊕ Fin 12) → SemLoc sig :=
  Sum.elim (fun k => SemLoc.dma (upSem k)) (Sum.elim (fun k => SemLoc.dma (dnSem k)) (fun k => SemLoc.dma ((![cc0_scoped2.sem, cc0_scoped3.sem, cc0_scoped4.sem, cc0_scoped5.sem,
    cc0_scoped6.sem, cc0_scoped7.sem, cc0_scoped8.sem, cc0_scoped9.sem, cc0_scoped10.sem, cc0_scoped11.sem, cc0_scoped12.sem, cc0_scoped13.sem] : Fin 12 → DmaSem sig) k)))

set_option maxRecDepth 100000 in
theorem ownSemFacts0 : Pipeline.OwnSemFacts cfg0.spec osem0 := by decide

theorem ownSems00_eq :
    (Pipeline.ownSems0 (Ix := Unit) (Name := ℕ) (U := Pipeline.UD sig nD τ) (Lvl := ℕ) (Val := Elt F) (τ := τ) osem0 c : sProp 𝕄)
      = iprop(upCells (F := F) c ∗ dnCells (F := F) c ∗ sm0 (F := F) c cc0_scoped2.sem ∗ sm0 (F := F) c cc0_scoped3.sem ∗ sm0 (F := F) c cc0_scoped4.sem ∗ sm0 (F := F) c cc0_scoped5.sem ∗ sm0 (F := F) c cc0_scoped6.sem ∗ sm0 (F := F) c cc0_scoped7.sem ∗ sm0 (F := F) c cc0_scoped8.sem ∗ sm0 (F := F) c cc0_scoped9.sem ∗ sm0 (F := F) c cc0_scoped10.sem ∗ sm0 (F := F) c cc0_scoped11.sem ∗ sm0 (F := F) c cc0_scoped12.sem ∗ sm0 (F := F) c cc0_scoped13.sem) := by
  unfold Pipeline.ownSems0
  rw [bigSep_univ_sum, bigSep_univ_sum, bigSep_univ_eq_bigSepL (I := Fin 12) [0, 1, 2, 3, 4, 5, 6, 7, 8, 9, 10, 11] (by decide) (by decide)]
  rfl

end Cert.KernelIdeal.Hand
end
-- ==== Proof.Frame.lean ====
/-
  Hand-written, untrusted. One launch of the kernel: what the core holds before and after, and the run of the whole program with its arguments unchanged and every counter at zero.
-/
module

public import proofs.«01_k».proof.Proof.Entry
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What a launch holds -/

/-- The arrays of one launch: the host's preparation of the arguments, and the arguments read as they are. -/
def arrOf (c : Dev nD) : Arr F := ⟨V m c main_v1, V m c main_v3, V m c main_v5, V m c main_arg5, V m c main_arg7, V m c main_v6, V m c main_arg4, V m c main_arg6, V m c main_v8, V m c main_v9⟩

/-- The arrays the kernel reads, and those it writes. -/
def H0 : Finset (Ref sig .tc) := {main_v1, main_v3, main_v5, main_arg5, main_arg7, main_v6, main_arg4, main_arg6, main_v8, main_v9}
def R0 : Finset (Ref sig .tc) := {main_v10_0, main_v10_1, main_v10_2}
theorem H0_sub : H0 ⊆ Pipeline.restRefs sig cfg0.spec := by decide
theorem R0_sub : R0 ⊆ Pipeline.restRefs sig cfg0.spec \ H0 := by decide

section Launch
variable (c : Dev nD) (I : Arr F)

abbrev Scr : sProp 𝕄 := iprop(ex (F := F) c cc0_scratch0 ∗ ex (F := F) c cc0_scratch1 ∗ ex (F := F) c cc0_scratch2 ∗ ex (F := F) c cc0_scratch3 ∗ ex (F := F) c cc0_scratch4 ∗ ex (F := F) c cc0_scratch5 ∗ ex (F := F) c cc0_scratch6 ∗ ex (F := F) c cc0_scratch7 ∗ ex (F := F) c cc0_scratch8 ∗ ex (F := F) c cc0_scratch9 ∗ ex (F := F) c cc0_scratch10 ∗ ex (F := F) c cc0_scratch11 ∗ ex (F := F) c cc0_scratch12 ∗ ex (F := F) c cc0_scratch13 ∗ ex (F := F) c cc0_scratch14 ∗ ex (F := F) c cc0_scratch15 ∗ ex (F := F) c cc0_scratch16 ∗ ex (F := F) c cc0_scratch17 ∗ ex (F := F) c cc0_scratch18 ∗ ex (F := F) c cc0_scratch19 ∗ ex (F := F) c cc0_scratch20 ∗ ex (F := F) c cc0_scratch21)
abbrev Cells : sProp 𝕄 := iprop(upCells (F := F) c ∗ dnCells (F := F) c ∗ sm0 (F := F) c cc0_scoped2.sem ∗ sm0 (F := F) c cc0_scoped3.sem ∗ sm0 (F := F) c cc0_scoped4.sem ∗ sm0 (F := F) c cc0_scoped5.sem ∗ sm0 (F := F) c cc0_scoped6.sem ∗ sm0 (F := F) c cc0_scoped7.sem ∗ sm0 (F := F) c cc0_scoped8.sem ∗ sm0 (F := F) c cc0_scoped9.sem ∗ sm0 (F := F) c cc0_scoped10.sem ∗ sm0 (F := F) c cc0_scoped11.sem ∗ sm0 (F := F) c cc0_scoped12.sem ∗ sm0 (F := F) c cc0_scoped13.sem)
abbrev Read : sProp 𝕄 := iprop(pt (F := F) c main_v1 I.ids ∗ pt (F := F) c main_v3 I.gates ∗ pt (F := F) c main_v5 I.adapters ∗ pt (F := F) c main_arg5 I.us ∗ pt (F := F) c main_arg7 I.ds ∗ pt (F := F) c main_v6 I.x ∗ pt (F := F) c main_arg4 I.wu ∗ pt (F := F) c main_arg6 I.wd ∗ pt (F := F) c main_v8 I.la ∗ pt (F := F) c main_v9 I.lb)

/-- Shares of the arrays that the body never asks for. -/
def Keep : sProp 𝕄 := iprop((L c main_arg4 ↦{shareDrop fullShare 28} I.wu) ∗ (L c main_arg6 ↦{shareDrop fullShare 14} I.wd)
  ∗ (L c main_v9 ↦{shareDrop fullShare 2} I.lb) ∗ (L c main_v9 ↦[(Finset.univ \ lbEarly : Finset (Idx (L c main_v9)))]{shareTokN fullShare 1} I.lb))

theorem two_toks {ℓ : Loc nD τ sig} (S : Finset (Idx ℓ)) (f : Buf (Elt F) ℓ) :
    (bigSep Finset.univ (fun i : Fin 2 => (ℓ ↦[S]{shareTok fullShare 2 i} f)) : sProp 𝕄)
      = iprop((ℓ ↦[S]{shareTokN fullShare 0} f) ∗ (ℓ ↦[S]{shareTokN fullShare 1} f)) := bigSep_fin_two _

theorem early_split : (L c main_v9 ↦{shareTokN fullShare 1} I.lb : sProp 𝕄) ⊣⊢ iprop((L c main_v9 ↦[(lbEarly : Finset (Idx (L c main_v9)))]{shareTokN fullShare 1} I.lb)
    ∗ (L c main_v9 ↦[(Finset.univ \ lbEarly : Finset (Idx (L c main_v9)))]{shareTokN fullShare 1} I.lb)) :=
  pointsTo_split_subset (Finset.subset_univ _)

theorem v9_cut : (pt (F := F) c main_v9 I.lb : sProp 𝕄) ⊢ iprop((L c main_v9 ↦{shareDrop fullShare 2} I.lb) ∗ (L c main_v9 ↦{shareTokN fullShare 0} I.lb)
    ∗ (L c main_v9 ↦[(lbEarly : Finset (Idx (L c main_v9)))]{shareTokN fullShare 1} I.lb)
    ∗ (L c main_v9 ↦[(Finset.univ \ lbEarly : Finset (Idx (L c main_v9)))]{shareTokN fullShare 1} I.lb)) := by
  iintro H
  ihave H := (pointsTo_toks_split (ℓ := L c main_v9) (S := Finset.univ) (f := I.lb) fullShare 2) $$ H
  rw [two_toks]
  icases H with ⟨H0, H1, H2⟩
  ihave H2 := (early_split c I).1 $$ H2
  icases H2 with ⟨H2, H3⟩
  isplitl [H0]; · iexact H0
  isplitl [H1]; · iexact H1
  isplitl [H2]; · iexact H2
  iexact H3

theorem v9_join : iprop((L c main_v9 ↦{shareDrop fullShare 2} I.lb) ∗ (L c main_v9 ↦{shareTokN fullShare 0} I.lb)
    ∗ (L c main_v9 ↦[(lbEarly : Finset (Idx (L c main_v9)))]{shareTokN fullShare 1} I.lb)
    ∗ (L c main_v9 ↦[(Finset.univ \ lbEarly : Finset (Idx (L c main_v9)))]{shareTokN fullShare 1} I.lb)) ⊢ (pt (F := F) c main_v9 I.lb : sProp 𝕄) := by
  iintro ⟨H0, H1, H2, H3⟩
  iapply (pointsTo_toks_join (ℓ := L c main_v9) (S := Finset.univ) (f := I.lb) fullShare 2)
  rw [two_toks]
  isplitl [H0]; · iexact H0
  isplitl [H1]; · iexact H1
  iapply (early_split c I).2
  isplitl [H2]; · iexact H2
  iexact H3

theorem s3_cut (f : Buf (Elt F) (L c cc0_scratch3)) : (pt (F := F) c cc0_scratch3 f : sProp 𝕄)
    ⊢ iprop((L c cc0_scratch3 ↦[(lbEarly : Finset (Idx (L c cc0_scratch3)))]{fullShare} f) ∗ (L c cc0_scratch3 ↦[(lbLate : Finset (Idx (L c cc0_scratch3)))]{fullShare} f)) := by
  rw [← lb_compl]
  exact (pointsTo_split_subset (ℓ := L c cc0_scratch3) (I := (lbEarly : Finset (Idx (L c cc0_scratch3)))) (S := Finset.univ) (Finset.subset_univ _)).1

theorem s3_join (g f : Buf (Elt F) (L c cc0_scratch3)) :
    iprop((L c cc0_scratch3 ↦[(lbEarly : Finset (Idx (L c cc0_scratch3)))]{fullShare} g) ∗ (L c cc0_scratch3 ↦[(lbLate : Finset (Idx (L c cc0_scratch3)))]{fullShare} f))
      ⊢ (ex (F := F) c cc0_scratch3 : sProp 𝕄) := by
  rw [← lb_compl]
  refine (pointsTo_join_subset (ℓ := L c cc0_scratch3) (I := (lbEarly : Finset (Idx (L c cc0_scratch3)))) (S := Finset.univ) (Finset.subset_univ _)).trans ?_
  iintro H
  iexists _
  iexact H

theorem la_in (f2 : Buf (Elt F) (L c cc0_scratch2)) : iprop((L c cc0_scratch2 ↦{fullShare} f2) ∗ (L c main_v8 ↦{fullShare} I.la) ∗ sm0 (F := F) c cc0_scoped2.sem) ⊢ ((laD c I).at .idle : sProp 𝕄) := by
  show _ ⊢ iprop(∃ f : Buf (Elt F) (L c cc0_scratch2), (L c cc0_scratch2 ↦{fullShare} f) ∗ (L c main_v8 ↦{fullShare} I.la) ∗ sm0 (F := F) c cc0_scoped2.sem)
  iintro H
  iexists f2
  iexact H

theorem lb_in (f3 : Buf (Elt F) (L c cc0_scratch3)) : iprop((L c cc0_scratch3 ↦[(lbLate : Finset (Idx (L c cc0_scratch3)))]{fullShare} f3) ∗ (L c main_v9 ↦{shareTokN fullShare 0} I.lb) ∗ sm0 (F := F) c cc0_scoped3.sem) ⊢ ((lbD c I).at .idle : sProp 𝕄) := by
  show _ ⊢ iprop(∃ f : Buf (Elt F) (L c cc0_scratch3), (L c cc0_scratch3 ↦[(lbLate : Finset (Idx (L c cc0_scratch3)))]{fullShare} f) ∗ (L c main_v9 ↦{shareTokN fullShare 0} I.lb) ∗ sm0 (F := F) c cc0_scoped3.sem)
  iintro H
  iexists f3
  iexact H

/-- What a launch holds is what the body asks for, and some shares. -/
theorem enter : iprop(Ow c ∗ Scr c ∗ Cells c ∗ Read c I ∗ (ex (F := F) c main_v10_0 ∗ ex (F := F) c main_v10_1 ∗ ex (F := F) c main_v10_2)) ⊢ iprop(∃ J : Junk F, Given I J c (shareTokN fullShare 1) ∗ Keep c I) := by
  iintro ⟨HW, ⟨HS0, HS1, ⟨%f2, HS2⟩, ⟨%f3, HS3⟩, ⟨%f4, HS4⟩, ⟨%f5, HS5⟩, ⟨%f6, HS6⟩, ⟨%f7, HS7⟩, ⟨%f8, HS8⟩, ⟨%f9, HS9⟩, ⟨%f10, HS10⟩, ⟨%f11, HS11⟩, ⟨%f12, HS12⟩, ⟨%f13, HS13⟩, ⟨%f14, HS14⟩, ⟨%f15, HS15⟩, ⟨%f16, HS16⟩, ⟨%f17, HS17⟩, ⟨%f18, HS18⟩, ⟨%f19, HS19⟩, ⟨%f20, HS20⟩, ⟨%f21, HS21⟩⟩, ⟨HU, HD, HC2, HC3, HC4, HC5, HC6, HC7, HC8, HC9, HC10, HC11, HC12, HC13⟩, ⟨HH_ids, HH_gates, HH_adapters, HH_us, HH_ds, HH_x, HH_wu, HH_wd, HH_la, HH_lb⟩, HR0, HR1, HR2⟩
  ihave HT4 := (pointsTo_toks_split (ℓ := L c main_arg4) (S := Finset.univ) (f := I.wu) fullShare 28) $$ HH_wu
  icases HT4 with ⟨HK4, HT4⟩
  ihave HT6 := (pointsTo_toks_split (ℓ := L c main_arg6) (S := Finset.univ) (f := I.wd) fullShare 14) $$ HH_wd
  icases HT6 with ⟨HK6, HT6⟩
  ihave HT9 := v9_cut c I $$ HH_lb
  icases HT9 with ⟨HK9, HT9, HE9, HL9⟩
  ihave HS3 := s3_cut c f3 $$ HS3
  icases HS3 with ⟨HS3e, HS3l⟩
  iexists (⟨f4, f5, f6, f7, f8, f9, f3, f13, ⟨f10, f11, f12, f21⟩, ⟨f14, f15, f16, f17, f18, f19, f20, 0, 0⟩⟩ : Junk F)
  isplitl [HW HS2 HH_la HC2 HS3l HT9 HC3 HS0 HT4 HU HS1 HT6 HD HH_ids HS4 HC5 HH_x HS9 HC6 HH_gates HS5 HC7 HH_adapters HS6 HC8 HH_us HS7 HC9 HH_ds HS8 HC10 HE9 HS3e HC4 HS21 HS10 HS12 HS13 HS11 HS19 HS14 HS15 HS16 HS17 HS18 HS20 HR1 HR2 HR0 HC11 HC12 HC13]
  · unfold Given
    isplitl [HW]
    · iexact HW
    isplitl [HS2 HH_la HC2 HS3l HT9 HC3 HS0 HT4 HU HS1 HT6 HD]
    · rw [Fam_parts]
      isplitl [HS2 HH_la HC2]
      · iapply (la_in c I f2)
        isplitl [HS2]
        · iexact HS2
        isplitl [HH_la]
        · iexact HH_la
        iexact HC2
      isplitl [HS3l HT9 HC3]
      · iapply (lb_in c I f3)
        isplitl [HS3l]
        · iexact HS3l
        isplitl [HT9]
        · iexact HT9
        iexact HC3
      isplitl [HS0 HT4 HU]
      · iapply (up_in c I)
        isplitl [HS0]
        · iexact HS0
        isplitl [HT4]
        · iexact HT4
        iexact HU
      iapply (dn_in c I)
      isplitl [HS1]
      · iexact HS1
      isplitl [HT6]
      · iexact HT6
      iexact HD
    isplitl [HH_ids HS4 HC5]
    · isplitl [HH_ids]
      · iexact HH_ids
      isplitl [HS4]
      · iexact HS4
      iexact HC5
    isplitl [HH_x HS9 HC6]
    · isplitl [HH_x]
      · iexact HH_x
      isplitl [HS9]
      · iexact HS9
      iexact HC6
    isplitl [HH_gates HS5 HC7]
    · isplitl [HH_gates]
      · iexact HH_gates
      isplitl [HS5]
      · iexact HS5
      iexact HC7
    isplitl [HH_adapters HS6 HC8]
    · isplitl [HH_adapters]
      · iexact HH_adapters
      isplitl [HS6]
      · iexact HS6
      iexact HC8
    isplitl [HH_us HS7 HC9]
    · isplitl [HH_us]
      · iexact HH_us
      isplitl [HS7]
      · iexact HS7
      iexact HC9
    isplitl [HH_ds HS8 HC10]
    · isplitl [HH_ds]
      · iexact HH_ds
      isplitl [HS8]
      · iexact HS8
      iexact HC10
    isplitl [HE9 HS3e HC4]
    · isplitl [HE9]
      · iexact HE9
      isplitl [HS3e]
      · iexact HS3e
      iexact HC4
    isplitl [HS21]
    · iexact HS21
    isplitl [HS10 HS12 HS13 HS11 HS19]
    · isplitl [HS10]
      · iexact HS10
      isplitl [HS12]
      · iexact HS12
      isplitl [HS13]
      · iexact HS13
      isplitl [HS11]
      · iexact HS11
      iexact HS19
    isplitl [HS14 HS15 HS16 HS17 HS18 HS20]
    · isplitl [HS14]
      · iexact HS14
      isplitl [HS15]
      · iexact HS15
      isplitl [HS16]
      · iexact HS16
      isplitl [HS17]
      · iexact HS17
      isplitl [HS18]
      · iexact HS18
      iexact HS20
    isplitl [HR1]
    · iexact HR1
    isplitl [HR2]
    · iexact HR2
    isplitl [HR0]
    · iexact HR0
    isplitl [HC11]
    · iexact HC11
    isplitl [HC12]
    · iexact HC12
    iexact HC13
  unfold Keep
  isplitl [HK4]
  · iexact HK4
  isplitl [HK6]
  · iexact HK6
  isplitl [HK9]
  · iexact HK9
  iexact HL9

/-- What the body leaves, with those shares, is what a launch holds, the results at the values the run computed. -/
theorem leave (f₀ : Buf (Elt F) (L c cc0_scratch0)) (f₁ : Buf (Elt F) (L c cc0_scratch1)) (J : Junk F) (e : Fin 4) :
    iprop(Left I J e c (shareTokN fullShare 1) ∗ Keep c I) ⊢ iprop(Ow c ∗ Scr c ∗ Cells c ∗ Read c I
      ∗ pt (F := F) c main_v10_0 (yOf I J e) ∗ pt (F := F) c main_v10_1 (codesQ I) ∗ pt (F := F) c main_v10_2 (scQ I)) := by
  unfold Left Near Keep
  rw [Fam_parts]
  iintro ⟨⟨HW, ⟨⟨HLA, HLB, HUP, HDN⟩, HS7, HS8, HS9, HS11, HS12, HS21, HS14, HS15, HS16, HS17, HS18, HS19, HS3e, HE9, HC4, HR1, HS10, HC11, HR2, HS13, HC12⟩, ⟨HR0, HS20, HC13⟩, ⟨HH_ids, HS4, HC5⟩, ⟨HH_x, HC6⟩, ⟨HH_gates, HS5, HC7⟩, ⟨HH_adapters, HS6, HC8⟩, ⟨HH_us, HC9⟩, HH_ds, HC10⟩, HK4, HK6, HK9, HL9⟩
  ihave HLA := (show (laD c I).at .idle ⊢ iprop(∃ f : Buf (Elt F) (L c cc0_scratch2), (L c cc0_scratch2 ↦{fullShare} f) ∗ (L c main_v8 ↦{fullShare} I.la) ∗ sm0 (F := F) c cc0_scoped2.sem) from .rfl) $$ HLA
  icases HLA with ⟨%f2, HS2, HH_la, HC2⟩
  ihave HLB := (show (lbD c I).at .idle ⊢ iprop(∃ f : Buf (Elt F) (L c cc0_scratch3), (L c cc0_scratch3 ↦[(lbLate : Finset (Idx (L c cc0_scratch3)))]{fullShare} f) ∗ (L c main_v9 ↦{shareTokN fullShare 0} I.lb) ∗ sm0 (F := F) c cc0_scoped3.sem) from .rfl) $$ HLB
  icases HLB with ⟨%f3, HS3l, HT9, HC3⟩
  ihave HUP := up_out c I f₀ $$ HUP
  icases HUP with ⟨HS0, HT4, HU⟩
  ihave HDN := dn_out c I f₁ $$ HDN
  icases HDN with ⟨HS1, HT6, HD⟩
  isplitl [HW]
  · iexact HW
  isplitl [HS0 HS1 HS2 HS3e HS3l HS4 HS5 HS6 HS7 HS8 HS9 HS10 HS11 HS12 HS13 HS14 HS15 HS16 HS17 HS18 HS19 HS20 HS21]
  · isplitl [HS0]
    · iexact HS0
    isplitl [HS1]
    · iexact HS1
    isplitl [HS2]
    · iexists f2
      iexact HS2
    isplitl [HS3e HS3l]
    · iapply (s3_join c I.lb f3)
      isplitl [HS3e]
      · iexact HS3e
      iexact HS3l
    isplitl [HS4]
    · iexact HS4
    isplitl [HS5]
    · iexact HS5
    isplitl [HS6]
    · iexact HS6
    isplitl [HS7]
    · iexact HS7
    isplitl [HS8]
    · iexact HS8
    isplitl [HS9]
    · iexact HS9
    isplitl [HS10]
    · iexact HS10
    isplitl [HS11]
    · iexact HS11
    isplitl [HS12]
    · iexact HS12
    isplitl [HS13]
    · iexact HS13
    isplitl [HS14]
    · iexact HS14
    isplitl [HS15]
    · iexact HS15
    isplitl [HS16]
    · iexact HS16
    isplitl [HS17]
    · iexact HS17
    isplitl [HS18]
    · iexact HS18
    isplitl [HS19]
    · iexact HS19
    isplitl [HS20]
    · iexact HS20
    iexact HS21
  isplitl [HU HD HC2 HC3 HC4 HC5 HC6 HC7 HC8 HC9 HC10 HC11 HC12 HC13]
  · isplitl [HU]
    · iexact HU
    isplitl [HD]
    · iexact HD
    isplitl [HC2]
    · iexact HC2
    isplitl [HC3]
    · iexact HC3
    isplitl [HC4]
    · iexact HC4
    isplitl [HC5]
    · iexact HC5
    isplitl [HC6]
    · iexact HC6
    isplitl [HC7]
    · iexact HC7
    isplitl [HC8]
    · iexact HC8
    isplitl [HC9]
    · iexact HC9
    isplitl [HC10]
    · iexact HC10
    isplitl [HC11]
    · iexact HC11
    isplitl [HC12]
    · iexact HC12
    iexact HC13
  isplitl [HH_ids HH_gates HH_adapters HH_us HH_ds HH_x HK4 HT4 HK6 HT6 HH_la HK9 HT9 HE9 HL9]
  · isplitl [HH_ids]
    · iexact HH_ids
    isplitl [HH_gates]
    · iexact HH_gates
    isplitl [HH_adapters]
    · iexact HH_adapters
    isplitl [HH_us]
    · iexact HH_us
    isplitl [HH_ds]
    · iexact HH_ds
    isplitl [HH_x]
    · iexact HH_x
    isplitl [HK4 HT4]
    · iapply (pointsTo_toks_join (ℓ := L c main_arg4) (S := Finset.univ) (f := I.wu) fullShare 28)
      isplitl [HK4]
      · iexact HK4
      iexact HT4
    isplitl [HK6 HT6]
    · iapply (pointsTo_toks_join (ℓ := L c main_arg6) (S := Finset.univ) (f := I.wd) fullShare 14)
      isplitl [HK6]
      · iexact HK6
      iexact HT6
    isplitl [HH_la]
    · iexact HH_la
    iapply (v9_join c I)
    isplitl [HK9]
    · iexact HK9
    isplitl [HT9]
    · iexact HT9
    isplitl [HE9]
    · iexact HE9
    iexact HL9
  isplitl [HR0]
  · iexact HR0
  isplitl [HR1]
  · iexact HR1
  iexact HR2

end Launch

/-! ## The invariant of the region -/

theorem hbmPts0_eq (c : Dev nD) : (bigSep H0 (fun b => ((c : Thread nD τ).loc b) ↦{fullShare} V m c b) : sProp 𝕄) = Read c (arrOf m c) := by
  rw [BI.bigSep_eq_bigSepL_of_eq [main_v1, main_v3, main_v5, main_arg5, main_arg7, main_v6, main_arg4, main_arg6, main_v8, main_v9] (by decide) (by decide)]; rfl

theorem ownedPts0_eq (c : Dev nD) : (Pipeline.owned R0 c : sProp 𝕄) = iprop(ex (F := F) c main_v10_0 ∗ ex (F := F) c main_v10_1 ∗ ex (F := F) c main_v10_2) := by
  unfold Pipeline.owned; rw [BI.bigSep_eq_bigSepL_of_eq [main_v10_0, main_v10_1, main_v10_2] (by decide) (by decide)]; rfl

theorem PhiDR0_eq (c : Dev nD) : (Pipeline.ΦDR osem0 cfg0.spec H0 R0 (V m) c : sProp 𝕄)
    = iprop(Scr c ∗ (∃ r, prngReg c r) ∗ Cells c ∗ Read c (arrOf m c) ∗ (ex (F := F) c main_v10_0 ∗ ex (F := F) c main_v10_1 ∗ ex (F := F) c main_v10_2)) := by
  rw [Pipeline.ΦDR_eq, scopedRest0_eq, ownSems00_eq, hbmPts0_eq, ownedPts0_eq]

/-- The body from what a launch holds to what it leaves. -/
theorem body_run (c : Dev nD) (I : Arr F) (e : Fin 4) (he : I.ids (ix2 0 0) = ev e) {Q : PUnit → sProp 𝕄} (t : Fin cfg0.N) :
    iprop((Ow c ∗ Scr c ∗ Cells c ∗ Read c I ∗ (ex (F := F) c main_v10_0 ∗ ex (F := F) c main_v10_1 ∗ ex (F := F) c main_v10_2))
      ∗ ((∃ J : Junk F, Ow c ∗ Scr c ∗ Cells c ∗ Read c I ∗ pt (F := F) c main_v10_0 (yOf I J e) ∗ pt (F := F) c main_v10_1 (codesQ I) ∗ pt (F := F) c main_v10_2 (scQ I)) -∗ Q ⟨⟩))
      ⊢ WP c (bodyAt0 (F := F) t) Q := by
  iintro ⟨H, Hk⟩
  ihave H := enter c I $$ H
  icases H with ⟨%J, H, HK⟩
  iapply (body_st I J e (shareTokN fullShare 1) he) $$ H
  iintro H
  iapply Hk
  iexists J
  iapply (leave c I (fun i => I.wu (ix3 0 0 0)) (fun i => I.wd (ix3 0 0 0)) J e)
  isplitl [H]; · iexact H
  iexact HK

/-! ## The proof data and the body obligation -/

def dats (_ : Fin 1) (c : Dev nD) : Dat τ (Elt F) Unit ℕ (Pipeline.UD sig nD τ) ℕ cfg0 c where
  A w := w.elim0
  after w t := w.elim0
  Φ _ := Pipeline.ΦDR osem0 cfg0.spec H0 R0 (V m) c
  q _ := fullShare
  owed _ := 0

def bodyPre (c : Dev nD) (t : Fin cfg0.N) : sProp 𝕄 := iprop((dats m 0 c).Φ t.castSucc ∗ (dats m 0 c).owesAt () t.castSucc)
def bodyPost (c : Dev nD) (t : Fin cfg0.N) : sProp 𝕄 := iprop((dats m 0 c).Φ t.succ ∗ (dats m 0 c).owesAt () t.succ)

theorem sound_body (c : Dev nD) (t : Fin cfg0.N) (he : ∃ e, (arrOf m c).ids (ix2 0 0) = ev e) :
    bodyPre m c t ⊢ WP c (bodyAt0 (F := F) t) (fun _ => bodyPost m c t) := by
  obtain ⟨e, he⟩ := he
  unfold bodyPre bodyPost
  rw [show (dats m 0 c).Φ t.succ = (dats m 0 c).Φ t.castSucc from rfl]
  rw [show (dats m 0 c).Φ t.castSucc = Pipeline.ΦDR osem0 cfg0.spec H0 R0 (V m) c from rfl, PhiDR0_eq]
  unfold Dat.owesAt Pipeline.owesWithin
  rw [show (dats m 0 c).owed t.castSucc = 0 from rfl, show (dats m 0 c).owed t.succ = 0 from rfl]
  iintro ⟨⟨HS, HP, HC, HH, HR⟩, ⟨%W, -, HW⟩⟩
  iapply (body_run c (arrOf m c) e he t)
  isplitl [HS HC HH HR HW]
  · isplitl [HW]; · unfold Ow; iexists W; iexact HW
    isplitl [HS]; · iexact HS
    isplitl [HC]; · iexact HC
    isplitl [HH]; · iexact HH
    iexact HR
  unfold Ow
  iintro ⟨%J, ⟨%W', HW'⟩, HS, HC, HH, HR0, HR1, HR2⟩
  isplitl [HS HC HH HR0 HR1 HR2 HP]
  · isplitl [HS]; · iexact HS
    isplitl [HP]; · iexact HP
    isplitl [HC]; · iexact HC
    isplitl [HH]; · iexact HH
    isplitl [HR0]; · iexists _; iexact HR0
    isplitl [HR1]; · iexists _; iexact HR1
    iexists _; iexact HR2
  iexists W'
  isplitr
  · ipureintro; exact fun _ _ => Or.inl trivial
  iexact HW'

theorem defs₀_row (t : Fin cfg0.N) : defs₀ (F := F) .tc cfg0.body (cfg0.bodyArgs t (cfg0.slots t)) = bodyAt0 t := by
  unfold defs₀; rw [Defs.onTc_tc]

theorem no_windows (D : Fin cfg0.W → sProp 𝕄) : bigSep Finset.univ D = (iprop(emp) : sProp 𝕄) := by
  rw [show (Finset.univ : Finset (Fin cfg0.W)) = ∅ from Finset.eq_empty_of_forall_notMem fun w => w.elim0, bigSep_empty]
  rfl

theorem body_obligation (c : Dev nD) (he : ∃ e, (arrOf m c).ids (ix2 0 0) = ev e) :
    BodyObligation (dats (F := F) m 0 c) (defs₀ (F := F)) Variants.none () Set.univ := fun t => by
  rw [no_windows, no_windows, defs₀_row]
  refine triple_restated (sound_body m c t he) rfl ?_ ?_
  · unfold bodyPre; iintro ⟨H1, H2, -⟩; isplitl [H1]; · iexact H1
    iexact H2
  · intro _; unfold bodyPost; iintro ⟨H1, H2⟩; isplitl [H1]; · iexact H1
    isplitl [H2]; · iexact H2
    iempintro

/-! ## The run and the frame -/

/-- What the host writes after the kernel. -/
def T0 : Finset (Ref sig .tc) := {main_v11, main_v12, main_v13}

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl
  all_goals
    rw [StableHlo.reshape_writes, Finset.mem_singleton] at hb
    rw [Proc.devRef_injective _ hb]
    decide

set_option maxHeartbeats 800000 in
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
theorem run_main (he : ∀ c, ∃ e, (arrOf m c).ids (ix2 0 0) = ev e) :
    θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c (he c)).loose) (hshare := fun c => (dats m 0 c).share_full fun _ => rfl)
    (howed := fun _ _ => rfl) (V₀ := V0 m) (opss := [hostOps1]) sfx_sub sfx_fresh sfx_keeps sfx_T (hmain := hmainD m) (hA := fun _ w => w.elim0)
    (hin := fun _ => .rfl) (hout := fun _ => .rfl) (hQ' := fun _ h => h)

theorem frame (he : ∀ c, ∃ e, (arrOf m c).ids (ix2 0 0) = ev e) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c)⟩, h.2⟩) (run_main m ρ he)

end Cert.KernelIdeal.Hand
end
-- ==== Proof.First.lean ====
/-
  Hand-written, untrusted. The precondition, read as what the kernel uses of it: the first token's first expert is one of the four.
-/
module

public import proofs.«01_k».proof.Proof.Frame
public import proofs.«01_k».proof.Proof.Gen.Pre_first_expert_in_range
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx

variable {F : FTy → Type} [FloatOps F]

/-- The experts' numbers as the host prepares them: the first of the two of each token, then the second. -/
theorem ids_eq (m : (ℓ : Loc nD τ sig) → Buf (Elt F) ℓ) (c : Dev nD) :
    (arrOf m c).ids = transpose S2x32 [1, 0] (shapeCast S32x2 (m ((c : Thread nD τ).loc main_arg1) : IVec S32x1x2 32) shapeCasts_S32x1x2_S32x2) transposes_S32x2_S2x32_1_0 := by
  show StableHlo.after (List.flatten [hostOps0]) (fun b => m (c, b)) (Proc.devRef .tc main_v1) = _
  simp only [List.flatten_cons, List.flatten_nil, List.append_nil]
  after_results
  rfl

theorem word_range (w : BitVec 32) (h0 : (0#32).sle w = true) (h4 : w.slt 4#32 = true) : ∃ e : Fin 4, w = ev e := by
  have h0' : 0 ≤ w.toInt := by simpa [BitVec.sle] using h0
  have h4' : w.toInt < 4 := by simpa [BitVec.slt] using h4
  have hl := w.isLt
  rw [BitVec.toInt_eq_toNat_cond] at h0' h4'
  have hn : w.toNat < 4 := by split at h0' <;> omega
  exact ⟨⟨w.toNat, hn⟩, by apply BitVec.eq_of_toNat_eq; show w.toNat = (BitVec.ofNat 32 w.toNat).toNat; rw [BitVec.toNat_ofNat]; omega⟩

theorem first_read (a : IVec S32x1x2 32) : transpose S2x32 [1, 0] (shapeCast S32x2 a shapeCasts_S32x1x2_S32x2) transposes_S32x2_S2x32_1_0 (ix2 0 0) = a (ix3 0 0 0) :=
  congrArg a (Shape.reshapeEquiv_eq_of_rowMajor _ ((Shape.rowMajor_val_three (d := ![32, 1, 2]) _).trans
    (Eq.trans rfl (Shape.rowMajor_val_two (d := ![32, 2]) (transposes_S32x2_S2x32_1_0.src (ix2 0 0))).symm)))

theorem first_slice (a : IVec S32x1x2 32) (h1 : S32x1x2.Slices ![0, 0, 0] (⟨3, ![1, 1, 1]⟩ : Shape)) (h2 : (⟨3, ![1, 1, 1]⟩ : Shape).ShapeCasts (⟨0, ![]⟩ : Shape)) (g : (⟨0, ![]⟩ : Shape).Idx) :
    shapeCast (⟨0, ![]⟩ : Shape) (extractStridedSlice (⟨3, ![1, 1, 1]⟩ : Shape) ![0, 0, 0] a h1) h2 g = a (ix3 0 0 0) := by
  have hy : ∀ y : (⟨3, ![1, 1, 1]⟩ : Shape).Idx, extractStridedSlice (⟨3, ![1, 1, 1]⟩ : Shape) ![0, 0, 0] a h1 y = a (ix3 0 0 0) := by
    intro y
    refine congrArg a (funext fun k => Fin.ext ?_)
    have h0 : (y 0).val < 1 := (y 0).isLt
    have h1 : (y 1).val < 1 := (y 1).isLt
    have h2 : (y 2).val < 1 := (y 2).isLt
    match k with
    | 0 => show 0 + (y 0).val = 0; omega
    | 1 => show 0 + (y 1).val = 0; omega
    | 2 => show 0 + (y 2).val = 0; omega
  exact hy _

theorem first_of_pre (m : (ℓ : Loc nD τ sig) → Buf (Elt F) ℓ) (c : Dev nD) (a0 : FVec F S32x1x7168 .bf16) (a2 : FVec F S32x1x2 .f32) (a3 : IVec S32 32)
    (a4 : FVec F S4x7168x4096 .fp8e4m3) (a5 : FVec F S4x4096 .f32) (a6 : FVec F S4x2048x7168 .fp8e4m3) (a7 : FVec F S4x7168 .f32)
    (a8 : FVec F S4x8x7168x16 .bf16) (a9 : FVec F S4x8x16x4096 .bf16)
    (h : (haveI := Cert.Pre_first_expert_in_range.Gen.facts; Cert.Pre_first_expert_in_range.fn (F := F) a0 (m ((c : Thread nD τ).loc main_arg1)) a2 a3 a4 a5 a6 a7 a8 a9) = fun _ => 1#1) :
    ∃ e, (arrOf m c).ids (ix2 0 0) = ev e := by
  rw [ids_eq]
  have h := congrFun h (fun a => a.elim0)
  rw [first_read]
  haveI := Cert.Pre_first_expert_in_range.Gen.facts
  unfold Cert.Pre_first_expert_in_range.fn at h
  simp only [andi, cmpi, first_slice, constantI] at h
  generalize (m ((c : Thread nD τ).loc main_arg1) : IVec S32x1x2 32) (ix3 0 0 0) = w at h ⊢
  simp only [IntOp.andi, IntOp.cmpi] at h
  refine word_range w ?_ ?_
  · by_contra hc
    rw [Bool.not_eq_true] at hc
    rw [hc] at h
    simp at h
  · by_contra hc
    rw [Bool.not_eq_true] at hc
    rw [hc] at h
    simp at h

end Cert.KernelIdeal.Hand

end
-- ==== Proof.Transfer.lean ====
/-
  Hand-written, untrusted. The kernel as printed and its idealized form are the same program here: no operation was rewritten. So the run proved of the
  second, for any reading of the floats, is a run of the first.
-/
module

public import proofs.«01_k».proof.Proof.Frame
public import proofs.«01_k».proof.Proof.Gen.Kernel

@[expose] public section

open Idealize.ShloMosaic Idealize.SL.Sem

namespace Cert.Proof

attribute [local instance] Cert.Kernel.Gen.facts Cert.KernelIdeal.Gen.facts

variable {F : FTy → Type} [FloatOps F]

theorem sigEq : Cert.Kernel.sig = Cert.KernelIdeal.sig := rfl

set_option maxRecDepth 100000 in
set_option maxHeartbeats 0 in
theorem mainEq : Cert.Kernel.main (F := F) = Cert.KernelIdeal.main (F := F) := rfl

set_option maxRecDepth 100000 in
set_option maxHeartbeats 0 in
theorem defsEq : Cert.Kernel.defs (F := F) = Cert.KernelIdeal.defs (F := F) := rfl

/-- A run of the idealized program is a run of any program equal to it. -/
theorem carry {d} (hd : d = Cert.KernelIdeal.defs (F := F)) {mn} (hm : mn = Cert.KernelIdeal.main (F := F)) {s Q}
    (h : θ_run (Cert.KernelIdeal.defs (F := F)) (onTc (τ := Cert.KernelIdeal.τ) (Cert.KernelIdeal.main (F := F))) s Q) :
    θ_run d (onTc (τ := Cert.KernelIdeal.τ) mn) s Q := by
  subst hd; subst hm; exact h

end Cert.Proof
-- ==== Proof.Spec.lean ====
/-
  Hand-written, untrusted. The layer's mathematics over the extended reals, element by element: what one token's result is, from plain functions of the arguments.
-/
module

public import Idealize.ShloMosaic.Lib.Pointwise

@[expose] public section

noncomputable section

namespace Cert.Moe

open Idealize.ShloMosaic

/-- The constants: two, the reciprocal of the largest code, and the largest and smallest codes. -/
def two : EReal := Ideal.ofBits .f32 1073741824#32
def inv : EReal := Ideal.ofBits .f32 991054117#32
def top : EReal := Ideal.ofBits .f32 1138753536#32
def bot : EReal := Ideal.ofBits .f32 3286237184#32

/-- The exponent of the least power of two above `v`. -/
def expS (v : EReal) : EReal := if v = 0 then 0 else Ideal.liftRound Int.floor (Ideal.div (Ideal.log v) (Ideal.log two)) + 1

/-- The largest absolute value of a row. -/
def amaxS {n : ℕ} (f : Fin n → EReal) : EReal := Finset.fold max (Ideal.ofBits .f32 4286578688#32) (fun x => (FloatOps.absf (F := Ideal) (φ := .f32) (f x) : EReal)) Finset.univ

/-- One code: the value over the scale, clipped. -/
def codeS (v E : EReal) : EReal := min top (max bot (v * Ideal.exp2 (0 - E)))

/-- The first product's value with its correction. -/
def hS (h s u d : EReal) : EReal := h * s * u + two * d

/-- The activation. -/
def siluS (x y : EReal) : EReal := x * Ideal.logistic x * y

/-- The arguments as functions. -/
structure In where
  x : Fin 32 → Fin 7168 → EReal
  ids : Fin 2 → Fin 32 → BitVec 32
  gt : Fin 2 → Fin 32 → EReal
  ad : Fin 32 → BitVec 32
  wu : Fin 4 → Fin 7168 → Fin 4096 → EReal
  us : Fin 4 → Fin 4096 → EReal
  wd : Fin 4 → Fin 2048 → Fin 7168 → EReal
  ds : Fin 4 → Fin 7168 → EReal
  la : Fin 4 → Fin 8 → Fin 7168 → Fin 16 → EReal
  lb : Fin 4 → Fin 8 → Fin 16 → Fin 4096 → EReal

variable (A : In) (e : Fin 4) (t : Fin 32)

/-- A token's exponent, scale and codes. -/
def xE : EReal := expS (amaxS (A.x t) * inv)
def xS : EReal := Ideal.exp2 (xE A t)
def code (k : Fin 7168) : EReal := codeS (A.x t k) (xE A t)

/-- The correction of adapter `a`, and of the token's adapter. -/
def lora (a : Fin 8) (n : Fin 4096) : EReal := ∑ q : Fin 16, (∑ k : Fin 7168, A.x t k * A.la e a k q) * A.lb e a q n
def delta (n : Fin 4096) : EReal := ∑ a : Fin 8, if A.ad t = BitVec.ofNat 32 a.val then lora A e t a n else 0

/-- The first product, the activation, its exponent and its codes. -/
def hid (n : Fin 4096) : EReal := hS (∑ k : Fin 7168, code A t k * A.wu e k n) (xS A t) (A.us e n) (delta A e t n)
def act (j : Fin 2048) : EReal := siluS (hid A e t ⟨j.val, by omega⟩) (hid A e t ⟨2048 + j.val, by omega⟩)
def aE : EReal := expS (amaxS (act A e t) * inv)
def acode (j : Fin 2048) : EReal := codeS (act A e t j) (aE A e t)

/-- The token's gate for the expert. -/
def gate : EReal := (if A.ids 0 t = BitVec.ofNat 32 e.val then A.gt 0 t else 0) + (if A.ids 1 t = BitVec.ofNat 32 e.val then A.gt 1 t else 0)

/-- The expert's contribution, and the result. -/
def term (d : Fin 7168) : EReal := (∑ j : Fin 2048, acode A e t j * A.wd e j d) * Ideal.exp2 (aE A e t) * A.ds e d * gate A e t
def out (d : Fin 7168) : EReal := ∑ e : Fin 4, term A e t d

end Cert.Moe
end
-- ==== Proof.KBase.lean ====
/-
  Hand-written, untrusted. Rectangles of two and three axes read and written, element by element, and the first product and the correction as plain sums.
-/
module

public import proofs.«01_k».proof.Proof.Whole
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section Rect
variable {α : Type} {m n q r o p w : ℕ}

theorem rd2 (h : ∀ a : Fin 2, ![o, p] a + ![q, r] a ≤ ![m, n] a) (f : (⟨2, ![m, n]⟩ : Shape).Idx → α) (a : Fin q) (b : Fin r) (ha : o + a.val < m)
    (hb : p + b.val < n) : rdA (s := ⟨2, ![m, n]⟩) ![o, p] ![q, r] h f (ix2 a b) = f (ix2 ⟨o + a.val, ha⟩ ⟨p + b.val, hb⟩) := by
  refine congrArg f (funext fun i => ?_)
  match i with
  | ⟨0, _⟩ => exact Fin.ext (show o + 1 * a.val = o + a.val by omega)
  | ⟨1, _⟩ => exact Fin.ext (show p + 1 * b.val = p + b.val by omega)

theorem rd2c (h : ∀ a : Fin 2, ![0, p] a + ![m, r] a ≤ ![m, n] a) (f : (⟨2, ![m, n]⟩ : Shape).Idx → α) (a : Fin m) (b : Fin r)
    (hb : p + b.val < n) : rdA (s := ⟨2, ![m, n]⟩) ![0, p] ![m, r] h f (ix2 a b) = f (ix2 a ⟨p + b.val, hb⟩) := by
  rw [rd2 h f a b (by omega) hb]
  exact congrArg (fun z => f (ix2 z _)) (Fin.ext (Nat.zero_add _))

theorem rd3 (h : ∀ a : Fin 3, ![o, 0, p] a + ![1, m, r] a ≤ ![w, m, n] a) (f : (⟨3, ![w, m, n]⟩ : Shape).Idx → α) (a : Fin m) (b : Fin r) (ho : o < w)
    (hb : p + b.val < n) : rdA (s := ⟨3, ![w, m, n]⟩) ![o, 0, p] ![1, m, r] h f (ix3 0 a b) = f (ix3 ⟨o, ho⟩ a ⟨p + b.val, hb⟩) := by
  refine congrArg f (funext fun i => ?_)
  match i with
  | ⟨0, _⟩ => exact Fin.ext (show o + 1 * 0 = o by omega)
  | ⟨1, _⟩ => exact Fin.ext (show 0 + 1 * a.val = a.val by omega)
  | ⟨2, _⟩ => exact Fin.ext (show p + 1 * b.val = p + b.val by omega)

theorem wr2 (h : ∀ a : Fin 2, ![0, p] a + ![m, r] a ≤ ![m, n] a) (f : (⟨2, ![m, n]⟩ : Shape).Idx → α) (v : (⟨2, ![m, r]⟩ : Shape).Idx → α) (a : Fin m)
    (b : Fin n) : wrA (s := ⟨2, ![m, n]⟩) ![0, p] ![m, r] h f v (ix2 a b)
      = if hi : p ≤ b.val ∧ b.val < p + r then v (ix2 a ⟨b.val - p, by omega⟩) else f (ix2 a b) := by
  unfold wrA
  by_cases hi : p ≤ b.val ∧ b.val < p + r
  · rw [dif_pos hi, dif_pos (Fin.forall_fin_two.mpr ⟨⟨Nat.zero_le _, show a.val < 0 + m by omega⟩, hi⟩)]
    refine congrArg v (funext fun i => ?_)
    match i with
    | ⟨0, _⟩ => exact Fin.ext (show a.val - 0 = a.val by omega)
    | ⟨1, _⟩ => rfl
  · rw [dif_neg hi, dif_neg (fun hh => hi (hh 1))]

theorem wr3 (h : ∀ a : Fin 3, ![o, 0, 0] a + ![1, m, n] a ≤ ![w, m, n] a) (f : (⟨3, ![w, m, n]⟩ : Shape).Idx → α) (v : (⟨3, ![1, m, n]⟩ : Shape).Idx → α)
    (k : Fin w) (a : Fin m) (b : Fin n) : wrA (s := ⟨3, ![w, m, n]⟩) ![o, 0, 0] ![1, m, n] h f v (ix3 k a b)
      = if o = k.val then v (ix3 0 a b) else f (ix3 k a b) := by
  unfold wrA
  by_cases hi : o = k.val
  · rw [if_pos hi, dif_pos (fun i => by
      match i with
      | ⟨0, _⟩ => exact ⟨show o ≤ k.val by omega, show k.val < o + 1 by omega⟩
      | ⟨1, _⟩ => exact ⟨Nat.zero_le _, show a.val < 0 + m by omega⟩
      | ⟨2, _⟩ => exact ⟨Nat.zero_le _, show b.val < 0 + n by omega⟩)]
    refine congrArg v (funext fun i => ?_)
    match i with
    | ⟨0, _⟩ => exact Fin.ext (show k.val - o = 0 by omega)
    | ⟨1, _⟩ => exact Fin.ext (show a.val - 0 = a.val by omega)
    | ⟨2, _⟩ => exact Fin.ext (show b.val - 0 = b.val by omega)
  · rw [if_neg hi, dif_neg (fun hh => hi (by
      have h0 : o ≤ k.val ∧ k.val < o + 1 := hh 0
      omega))]

end Rect

/-! ## The correction -/

theorem pay1_apply (M : FVec Ideal S32x128 .bf16) (lb : Vec Ideal S1x128x512 .bf16) (a : Fin 32) (b : Fin 512) :
    k0_pay1 M lb (ix2 a b) = ∑ x, M (ix2 a x) * lb (ix3 0 x b) := by
  pointwise [k0_pay1]

theorem dCol_apply (M : FVec Ideal S32x128 .bf16) (lb : FVec Ideal S4x128x4096 .bf16) (e : Fin 4) (p : ℕ) (hp : p + 512 ≤ 4096) (d : FVec Ideal S32x4096 .f32)
    (a : Fin 32) (b : Fin 4096) : dCol M lb e p hp d (ix2 a b)
      = if p ≤ b.val ∧ b.val < p + 512 then ∑ x, M (ix2 a x) * lb (ix3 e x b) else d (ix2 a b) := by
  refine (wr2 (m := 32) (n := 4096) (r := 512) (p := p) _ d _ a b).trans ?_
  by_cases hi : p ≤ b.val ∧ b.val < p + 512
  · rw [dif_pos hi, if_pos hi, pay1_apply]
    refine Finset.sum_congr rfl fun x _ => congrArg (M (ix2 a x) * ·) ?_
    refine (rd3 (o := e.val) (p := p) (w := 4) (m := 128) (n := 4096) (r := 512) _ lb x _ e.isLt (by show p + (b.val - p) < 4096; omega)).trans ?_
    exact congrArg (fun z => lb (ix3 e x z)) (Fin.ext (show p + (b.val - p) = b.val by omega))
  · rw [dif_neg hi, if_neg hi]

theorem dUp_apply (M : FVec Ideal S32x128 .bf16) (lb : FVec Ideal S4x128x4096 .bf16) (e : Fin 4) (d : FVec Ideal S32x4096 .f32) (n : ℕ) (hn : n ≤ 8)
    (a : Fin 32) (b : Fin 4096) : dUp M lb e d n (ix2 a b) = if b.val < 512 * n then ∑ x, M (ix2 a x) * lb (ix3 e x b) else d (ix2 a b) := by
  induction n with
  | zero => rw [if_neg (by omega)]; rfl
  | succ n ih =>
    rw [dUp, dif_pos (by omega), dCol_apply, ih (by omega)]
    split_ifs <;> first | rfl | omega

/-! ## The first product -/

theorem pay2_apply (f : Vec Ideal S32x512 .f32) (X : Vec Ideal S32x1024 .fp8e4m3) (W : Vec Ideal S1024x512 .fp8e4m3) (a : Fin 32) (b : Fin 512) :
    k0_pay2 f X W (ix2 a b) = f (ix2 a b) + ∑ x, X (ix2 a x) * W (ix2 x b) := by
  pointwise [k0_pay2]

theorem pay9_apply (f : Vec Ideal S32x512 .f32) (X : Vec Ideal S32x512 .fp8e4m3) (W : Vec Ideal S512x512 .fp8e4m3) (a : Fin 32) (b : Fin 512) :
    k0_pay9 f X W (ix2 a b) = f (ix2 a b) + ∑ x, X (ix2 a x) * W (ix2 x b) := by
  pointwise [k0_pay9]

section Prod
variable (X : FVec Ideal S32x7168 .fp8e4m3) (W : FVec Ideal S7168x4096 .fp8e4m3) (a : Fin 32) (b : Fin 4096)

/-- One summand of the product, zero past the end. -/
def xw (k : ℕ) : EReal := if hk : k < 7168 then X (ix2 a ⟨k, hk⟩) * W (ix2 ⟨k, hk⟩ b) else 0

theorem hCol_apply (o : ℕ) (ho : o + 1024 ≤ 7168) (p : ℕ) (hp : p + 512 ≤ 4096) (h : FVec Ideal S32x4096 .f32) :
    hCol X W o ho p hp h (ix2 a b) = if p ≤ b.val ∧ b.val < p + 512 then h (ix2 a b) + ∑ k ∈ Finset.range 1024, xw X W a b (o + k) else h (ix2 a b) := by
  refine (wr2 (m := 32) (n := 4096) (r := 512) (p := p) _ h _ a b).trans ?_
  by_cases hi : p ≤ b.val ∧ b.val < p + 512
  · have hb : ∀ h', (⟨p + (b.val - p), h'⟩ : Fin 4096) = b := fun _ => Fin.ext (show p + (b.val - p) = b.val by omega)
    rw [dif_pos hi, if_pos hi, pay2_apply, Finset.sum_range]
    refine congrArg₂ (· + ·) ?_ (Finset.sum_congr rfl fun x _ => ?_)
    · refine (rd2c (m := 32) (n := 4096) (r := 512) (p := p) _ h a _ (by show p + (b.val - p) < 4096; omega)).trans ?_
      exact congrArg (fun z => h (ix2 a z)) (hb _)
    · rw [xw, dif_pos (show o + x.val < 7168 by omega)]
      refine congrArg₂ (· * ·) (rd2c (m := 32) (n := 7168) (r := 1024) (p := o) _ X a x (by omega)) ?_
      refine (rd2 (m := 7168) (n := 4096) (q := 1024) (r := 512) (o := o) (p := p) _ W x _ (by omega) (by show p + (b.val - p) < 4096; omega)).trans ?_
      exact congrArg (fun z => W (ix2 _ z)) (hb _)
  · rw [dif_neg hi, if_neg hi]

theorem hCol'_apply (o : ℕ) (ho : o + 512 ≤ 7168) (p : ℕ) (hp : p + 512 ≤ 4096) (h : FVec Ideal S32x4096 .f32) :
    hCol' X W o ho p hp h (ix2 a b) = if p ≤ b.val ∧ b.val < p + 512 then h (ix2 a b) + ∑ k ∈ Finset.range 512, xw X W a b (o + k) else h (ix2 a b) := by
  refine (wr2 (m := 32) (n := 4096) (r := 512) (p := p) _ h _ a b).trans ?_
  by_cases hi : p ≤ b.val ∧ b.val < p + 512
  · have hb : ∀ h', (⟨p + (b.val - p), h'⟩ : Fin 4096) = b := fun _ => Fin.ext (show p + (b.val - p) = b.val by omega)
    rw [dif_pos hi, if_pos hi, pay9_apply, Finset.sum_range]
    refine congrArg₂ (· + ·) ?_ (Finset.sum_congr rfl fun x _ => ?_)
    · refine (rd2c (m := 32) (n := 4096) (r := 512) (p := p) _ h a _ (by show p + (b.val - p) < 4096; omega)).trans ?_
      exact congrArg (fun z => h (ix2 a z)) (hb _)
    · rw [xw, dif_pos (show o + x.val < 7168 by omega)]
      refine congrArg₂ (· * ·) (rd2c (m := 32) (n := 7168) (r := 512) (p := o) _ X a x (by omega)) ?_
      refine (rd2 (m := 7168) (n := 4096) (q := 512) (r := 512) (o := o) (p := p) _ W x _ (by omega) (by show p + (b.val - p) < 4096; omega)).trans ?_
      exact congrArg (fun z => W (ix2 _ z)) (hb _)
  · rw [dif_neg hi, if_neg hi]

/-- Eight column blocks, each of which adds `S` to its own columns, add `S` everywhere. -/
theorem cols8_apply (f : (p : ℕ) → p + 512 ≤ 4096 → FVec Ideal S32x4096 .f32 → FVec Ideal S32x4096 .f32) (S : EReal)
    (hf : ∀ p hp h, f p hp h (ix2 a b) = if p ≤ b.val ∧ b.val < p + 512 then h (ix2 a b) + S else h (ix2 a b)) (h : FVec Ideal S32x4096 .f32) :
    cols8 f h (ix2 a b) = h (ix2 a b) + S := by
  have step : ∀ n hp g, g (ix2 a b) = (if b.val < 512 * n then h (ix2 a b) + S else h (ix2 a b)) →
      f (512 * n) hp g (ix2 a b) = if b.val < 512 * (n + 1) then h (ix2 a b) + S else h (ix2 a b) := by
    intro n hp g hg
    rw [hf, hg]
    split_ifs <;> first | rfl | omega
  have h0 : h (ix2 a b) = (if b.val < 512 * 0 then h (ix2 a b) + S else h (ix2 a b)) := by rw [if_neg (by omega)]
  have := step 7 (by decide) _ (step 6 (by decide) _ (step 5 (by decide) _ (step 4 (by decide) _ (step 3 (by decide) _ (step 2 (by decide) _
    (step 1 (by decide) _ (step 0 (by decide) _ h0)))))))
  rw [if_pos (by omega)] at this
  exact this

theorem hUp_apply (h : FVec Ideal S32x4096 .f32) (n : ℕ) (hn : n ≤ 6) : hUp X W h n (ix2 a b) = h (ix2 a b) + ∑ k ∈ Finset.range (1024 * n), xw X W a b k := by
  induction n with
  | zero => rw [Nat.mul_zero, Finset.sum_range_zero, add_zero]; rfl
  | succ n ih =>
    rw [hUp, dif_pos (by omega), cols8_apply a b _ _ (fun p hp g => hCol_apply X W a b _ _ p hp g), ih (by omega), Nat.mul_succ, Finset.sum_range_add, add_assoc]

theorem hUp'_apply (h : FVec Ideal S32x4096 .f32) (n : ℕ) (hn : n ≤ 2) :
    hUp' X W h n (ix2 a b) = h (ix2 a b) + ∑ k ∈ Finset.range (512 * n), xw X W a b (6144 + k) := by
  induction n with
  | zero => rw [Nat.mul_zero, Finset.sum_range_zero, add_zero]; rfl
  | succ n ih =>
    rw [hUp', dif_pos (by omega), cols8_apply a b _ _ (fun p hp g => hCol'_apply X W a b _ _ p hp g), ih (by omega), Nat.mul_succ, Finset.sum_range_add, add_assoc]
    simp only [Nat.add_assoc]

theorem hAll_apply (h : FVec Ideal S32x4096 .f32) : hAll X W h (ix2 a b) = ∑ k : Fin 7168, X (ix2 a k) * W (ix2 k b) := by
  have hz : hZero h (ix2 a b) = (0 : EReal) := by
    refine (wr2 (m := 32) (n := 4096) (r := 4096) (p := 0) _ h _ a b).trans ?_
    rw [dif_pos ⟨Nat.zero_le _, by omega⟩]
    pointwise [k0_pay30]
  unfold hAll
  rw [hUp'_apply _ _ _ _ _ 2 le_rfl, hUp_apply _ _ _ _ _ 6 le_rfl, hz, zero_add]
  rw [show (1024 * 6 : ℕ) = 6144 from rfl, ← Finset.sum_range_add, Finset.sum_range]
  refine Finset.sum_congr rfl fun k _ => ?_
  rw [xw, dif_pos k.isLt]

end Prod

end Cert.KernelIdeal.Hand
end
-- ==== Proof.KOnce.lean ====
/-
  Hand-written, untrusted. What the kernel computes before it visits the experts: the tokens' codes and scales, the planes of columns.
-/
module

public import proofs.«01_k».proof.Proof.KBase

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Moe (siluS hS amaxS expS codeS two top bot)

/-- The kernel's arrays as functions. -/
def inK (I : Arr Ideal) : Cert.Moe.In where
  x t k := I.x (ix2 t k)
  ids k t := I.ids (ix2 k t)
  gt k t := I.gates (ix2 k t)
  ad t := I.adapters (ix2 0 t)
  wu e k n := I.wu (ix3 e k n)
  us e n := I.us (ix2 e n)
  wd e j d := I.wd (ix3 e j d)
  ds e d := I.ds (ix2 e d)
  la e a k q := I.la (ix3 e (finProdFinEquiv (a, q)) k)
  lb e a q n := I.lb (ix3 e (finProdFinEquiv (a, q)) n)

/-! ## Codes and scales -/

theorem pay136_apply (x : Vec Ideal S32x7168 .bf16) (a : Fin 32) : k0_pay136 x (ix2 a 0) = amaxS fun k => x (ix2 a k) := by
  unfold amaxS
  pointwise [k0_pay136, k0_pay135]

theorem pay139_apply (v : FVec Ideal S32x7168 .f32) (m : FVec Ideal S32x1 .f32) (a : Fin 32) (b : Fin 7168) :
    k0_pay139 v m (ix2 a b) = codeS (v (ix2 a b)) (expS (m (ix2 a 0) * Cert.Moe.inv)) := by
  unfold codeS expS top bot two Cert.Moe.inv
  pointwise [k0_pay139, k0_pay137]
  rfl

theorem pay140_apply (m : FVec Ideal S32x1 .f32) (a : Fin 32) (b : Fin 128) : k0_pay140 m (ix2 a b) = Ideal.exp2 (expS (m (ix2 a 0) * Cert.Moe.inv)) := by
  unfold expS two Cert.Moe.inv
  pointwise [k0_pay140, k0_pay138, k0_pay137]
  rfl

/-- The one-hot rows: a sum over them picks one element. -/
theorem diag (a : Fin 32) (f : Fin 32 → EReal) :
    ∑ l : Fin 32, Scalar.select (IntOp.cmpi .eq (BitVec.ofNat 32 a.val) (BitVec.ofNat 32 l.val)) (f l) 0 = f a := by
  have h : ∀ a l : Fin 32, IntOp.cmpi .eq (BitVec.ofNat 32 a.val) (BitVec.ofNat 32 l.val) = if a = l then 1#1 else 0#1 := by decide
  rw [Finset.sum_eq_single a]
  · rw [h, if_pos rfl]; rfl
  · intro l _ hl; rw [h, if_neg (Ne.symm hl)]; rfl
  · intro h; exact absurd (Finset.mem_univ a) h

theorem diag' (a : Fin 32) (f : Fin 32 → EReal) :
    ∑ l : Fin 32, Scalar.select (IntOp.cmpi .eq (BitVec.ofNat 32 l.val) (BitVec.ofNat 32 a.val)) (f l) 0 = f a := by
  have h : ∀ a l : Fin 32, IntOp.cmpi .eq (BitVec.ofNat 32 a.val) (BitVec.ofNat 32 l.val) = if a = l then 1#1 else 0#1 := by decide
  rw [Finset.sum_eq_single a]
  · rw [h, if_pos rfl]; rfl
  · intro l _ hl; rw [h, if_neg hl]; rfl
  · intro h; exact absurd (Finset.mem_univ a) h

theorem pay143_apply (m : FVec Ideal S32x1 .f32) (a : Fin 32) : k0_pay143 (k0_pay142 m) (ix2 0 a) = Ideal.exp2 (expS (m (ix2 a 0) * Cert.Moe.inv)) := by
  refine Eq.trans ?_ (diag' a fun l => Ideal.exp2 (expS (m (ix2 l 0) * Cert.Moe.inv)))
  unfold expS two Cert.Moe.inv
  pointwise [k0_pay143, k0_pay142, k0_pay141, k0_pay138, k0_pay137]
  rfl

/-! ## The planes of columns -/

theorem pay144_apply (v : Vec Ideal S1x32 .i32) (a : Fin 32) (b : Fin 128) : k0_pay144 (F := Ideal) k0_pay141 v (ix3 0 a b) = (((v (ix2 0 a)).toInt : ℝ) : EReal) := by
  refine Eq.trans ?_ (diag a fun l => (((v (ix2 0 l)).toInt : ℝ) : EReal))
  pointwise [k0_pay144, k0_pay141]
  try rfl

theorem pay145_apply (v : Vec Ideal S1x32 .i32) (a : Fin 32) (b : Fin 128) : k0_pay145 (F := Ideal) k0_pay141 v (ix3 0 a b) = (((v (ix2 0 a)).toInt : ℝ) : EReal) :=
  pay144_apply v a b

theorem pay149_apply (v : Vec Ideal S1x32 .i32) (a : Fin 32) (b : Fin 128) : k0_pay149 (F := Ideal) k0_pay141 v (ix3 0 a b) = (((v (ix2 0 a)).toInt : ℝ) : EReal) :=
  pay144_apply v a b

theorem pay147_apply (v : Vec Ideal S1x32 .f32) (a : Fin 32) (b : Fin 128) : k0_pay147 (F := Ideal) (k0_pay146 k0_pay141 v) (ix3 0 a b) = v (ix2 0 a) := by
  refine Eq.trans ?_ (diag a fun l => v (ix2 0 l))
  pointwise [k0_pay147, k0_pay146, k0_pay141]
  try rfl

theorem pay148_apply (v : Vec Ideal S1x32 .f32) (a : Fin 32) (b : Fin 128) : k0_pay148 (F := Ideal) k0_pay141 v (ix3 0 a b) = v (ix2 0 a) :=
  pay147_apply v a b

theorem cput_apply (f : FVec Ideal S5x32x128 .f32) (p : Fin 5) (w : FVec Ideal S1x32x128 .f32) (k : Fin 5) (a : Fin 32) (b : Fin 128) :
    cput f p w (ix3 k a b) = if p = k then w (ix3 0 a b) else f (ix3 k a b) :=
  (wr3 (o := p.val) (w := 5) (m := 32) (n := 128) _ f w k a b).trans (by simp only [Fin.ext_iff])

theorem row2 {α : Type} (o : ℕ) (ho : o < 2) (h) (f : S2x32.Idx → α) (a : Fin 32) :
    rdA (s := S2x32) ![o, 0] S1x32.size h f (ix2 0 a) = f (ix2 ⟨o, ho⟩ a) :=
  (rd2 (o := o) (p := 0) (m := 2) (n := 32) (q := 1) (r := 32) _ f 0 a ho (by omega)).trans
    (congrArg (fun z => f (ix2 ⟨o, ho⟩ z)) (Fin.ext (Nat.zero_add _)))

/-- What holds once the tokens are quantised and the columns written. -/
structure OnceOk (A : Cert.Moe.In) (K : Once Ideal) : Prop where
  codes : ∀ t k, K.codes (ix2 t k) = Cert.Moe.code A t k
  xs : ∀ t l, K.xs (ix2 t l) = Cert.Moe.xS A t
  id0 : ∀ t l, K.cols (ix3 0 t l) = (((A.ids 0 t).toInt : ℝ) : EReal)
  id1 : ∀ t l, K.cols (ix3 1 t l) = (((A.ids 1 t).toInt : ℝ) : EReal)
  g0 : ∀ t l, K.cols (ix3 2 t l) = A.gt 0 t
  g1 : ∀ t l, K.cols (ix3 3 t l) = A.gt 1 t
  ad : ∀ t l, K.cols (ix3 4 t l) = (((A.ad t).toInt : ℝ) : EReal)

theorem codesQ_apply (I : Arr Ideal) (t : Fin 32) (k : Fin 7168) : codesQ I (ix2 t k) = Cert.Moe.code (inK I) t k := by
  unfold codesQ
  rw [pay139_apply, pay136_apply]; rfl

theorem scQ_apply (I : Arr Ideal) (t : Fin 32) : scQ I (ix2 0 t) = Cert.Moe.xS (inK I) t := by
  unfold scQ
  rw [pay143_apply, pay136_apply]; rfl

theorem once_ok (I : Arr Ideal) (J : Junk Ideal) (e : Fin 4) : OnceOk (inK I) (onceOf I J e) where
  codes := codesQ_apply I
  xs t l := by
    show xsQ I (ix2 t l) = _
    unfold xsQ
    rw [pay140_apply, pay136_apply]; rfl
  id0 t l := by
    show colsB I (colsA I J.once.cols) (ix3 0 t l) = _
    unfold colsB colsA
    rw [cput_apply, if_neg (by decide), cput_apply, if_neg (by decide), cput_apply, if_neg (by decide), cput_apply, if_neg (by decide), cput_apply, if_pos rfl,
      pay144_apply, row2 0 (by decide)]; rfl
  id1 t l := by
    show colsB I (colsA I J.once.cols) (ix3 1 t l) = _
    unfold colsB colsA
    rw [cput_apply, if_neg (by decide), cput_apply, if_neg (by decide), cput_apply, if_neg (by decide), cput_apply, if_pos rfl,
      pay145_apply, row2 1 (by decide)]; rfl
  g0 t l := by
    show colsB I (colsA I J.once.cols) (ix3 2 t l) = _
    unfold colsB gRow0
    rw [cput_apply, if_neg (by decide), cput_apply, if_neg (by decide), cput_apply, if_pos rfl, pay147_apply, row2 0 (by decide)]; rfl
  g1 t l := by
    show colsB I (colsA I J.once.cols) (ix3 3 t l) = _
    unfold colsB gRow
    rw [cput_apply, if_neg (by decide), cput_apply, if_pos rfl, pay148_apply, row2 1 (by decide)]; rfl
  ad t l := by
    show colsB I (colsA I J.once.cols) (ix3 4 t l) = _
    unfold colsB
    rw [cput_apply, if_pos rfl, pay149_apply]; rfl

end Cert.KernelIdeal.Hand
end
-- ==== Proof.KAct.lean ====
/-
  Hand-written, untrusted. The activation of one expert, element by element: the four column blocks, the row's largest magnitude, the codes.
-/
module

public import proofs.«01_k».proof.Proof.KBase

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Moe (siluS hS amaxS expS codeS two top bot)

/-! ## The payloads -/

theorem pay35_apply (xs : Vec Ideal S32x128 .f32) (s : EReal) (a : Fin 32) (hxs : ∀ l, xs (ix2 a l) = s) (b : Fin 512) : k0_pay35 xs (ix2 a b) = s := by
  pointwise [k0_pay35]
  simp only [hxs]
  split_ifs <;> rfl

theorem pay37_apply (xs : Vec Ideal S32x128 .f32) (h : Vec Ideal S32x512 .f32) (s : EReal) (a : Fin 32) (hxs : ∀ l, xs (ix2 a l) = s) (b : Fin 512) :
    k0_pay37 xs h (ix2 a b) = h (ix2 a b) * s := by
  have h5 := pay35_apply xs s a hxs b
  have h0 : k0_pay37 xs h (ix2 a b) = h (ix2 a b) * k0_pay35 xs (ix2 a b) := rfl
  rw [h0, h5]

theorem pay38_apply (u : Vec Ideal S1x512 .f32) (a : Fin 32) (b : Fin 512) : k0_pay38 u (ix2 a b) = u (ix2 0 b) := by
  pointwise [k0_pay38]

section Pay
variable (S h1 u1 v w : FVec Ideal S32x512 .f32) (m : FVec Ideal S32x1 .f32) (h d h2 d2 : Vec Ideal S32x512 .f32) (u u2 : Vec Ideal S1x512 .f32) (a : Fin 32) (b : Fin 512)

theorem pay41_apply : k0_pay41 S h1 u1 d h2 u2 d2 (ix2 a b)
    = siluS (h1 (ix2 a b) * u1 (ix2 a b) + two * d (ix2 a b)) (hS (h2 (ix2 a b)) (S (ix2 a b)) (u2 (ix2 0 b)) (d2 (ix2 a b))) := by
  unfold siluS hS two
  pointwise [k0_pay41, k0_pay39]

theorem pay40_apply : k0_pay40 S m h1 u1 d h2 u2 d2 (ix2 a 0)
    = max (m (ix2 a 0)) (amaxS fun b => siluS (h1 (ix2 a b) * u1 (ix2 a b) + two * d (ix2 a b)) (hS (h2 (ix2 a b)) (S (ix2 a b)) (u2 (ix2 0 b)) (d2 (ix2 a b)))) := by
  unfold siluS hS two amaxS
  pointwise [k0_pay40, k0_pay39]

theorem pay42_apply : k0_pay42 S h u d (ix2 a b)
    = hS (h (ix2 a b)) (S (ix2 a b)) (u (ix2 0 b)) (d (ix2 a b)) * Ideal.logistic (hS (h (ix2 a b)) (S (ix2 a b)) (u (ix2 0 b)) (d (ix2 a b))) := by
  unfold hS two
  pointwise [k0_pay42]

theorem pay43_apply : k0_pay43 S h (ix2 a b) = h (ix2 a b) * S (ix2 a b) := by
  pointwise [k0_pay43]

theorem pay46_apply : k0_pay46 v w u d (ix2 a b) = v (ix2 a b) * (w (ix2 a b) * u (ix2 0 b) + two * d (ix2 a b)) := by
  unfold two
  pointwise [k0_pay46, k0_pay44]

theorem pay45_apply : k0_pay45 m v w u d (ix2 a 0) = max (m (ix2 a 0)) (amaxS fun b => v (ix2 a b) * (w (ix2 a b) * u (ix2 0 b) + two * d (ix2 a b))) := by
  unfold two amaxS
  pointwise [k0_pay45, k0_pay44]

theorem pay47_apply : k0_pay47 S h u d h2 u2 d2 (ix2 a b)
    = siluS (hS (h (ix2 a b)) (S (ix2 a b)) (u (ix2 0 b)) (d (ix2 a b))) (hS (h2 (ix2 a b)) (S (ix2 a b)) (u2 (ix2 0 b)) (d2 (ix2 a b))) := by
  unfold siluS hS two
  pointwise [k0_pay47]

theorem pay48_apply : k0_pay48 S h u d h2 u2 d2 (ix2 a b)
    = FloatOps.absf (F := Ideal) (φ := .f32) (siluS (hS (h (ix2 a b)) (S (ix2 a b)) (u (ix2 0 b)) (d (ix2 a b))) (hS (h2 (ix2 a b)) (S (ix2 a b)) (u2 (ix2 0 b)) (d2 (ix2 a b)))) := by
  unfold siluS hS two
  pointwise [k0_pay48, k0_pay47]

theorem pay49_apply : k0_pay49 v (ix2 a b) = v (ix2 a b) := by
  pointwise [k0_pay49]

theorem pay51_apply : k0_pay51 S h u d h2 u2 d2 (ix2 a b)
    = siluS (hS (h (ix2 a b)) (S (ix2 a b)) (u (ix2 0 b)) (d (ix2 a b))) (hS (h2 (ix2 a b)) (S (ix2 a b)) (u2 (ix2 0 b)) (d2 (ix2 a b))) := by
  unfold siluS hS two
  pointwise [k0_pay51, k0_pay50]

theorem pay52_apply : k0_pay52 S m v h u d h2 u2 d2 (ix2 a 0)
    = max (max (m (ix2 a 0)) (Finset.fold max (Ideal.ofBits .f32 4286578688#32) (fun b => v (ix2 a b)) Finset.univ))
        (amaxS fun b => siluS (hS (h (ix2 a b)) (S (ix2 a b)) (u (ix2 0 b)) (d (ix2 a b))) (hS (h2 (ix2 a b)) (S (ix2 a b)) (u2 (ix2 0 b)) (d2 (ix2 a b)))) * Cert.Moe.inv := by
  unfold siluS hS two amaxS Cert.Moe.inv
  pointwise [k0_pay52, k0_pay50]

theorem pay36_apply : (k0_pay36 (F := Ideal)) (ix2 a 0) = 0 := by
  pointwise [k0_pay36]

end Pay

theorem pay54_apply (am : FVec Ideal S32x1 .f32) (f : Vec Ideal S32x2048 .f32) (a : Fin 32) (b : Fin 2048) :
    k0_pay54 am (Scalar.ofBits .f32 0x00000000#32) f (ix2 a b) = codeS (f (ix2 a b)) (expS (am (ix2 a 0))) := by
  unfold codeS expS top bot two
  pointwise [k0_pay54, k0_pay53]
  rfl

theorem pay55_apply (wt : FVec Ideal S32x128 .f32) (am : FVec Ideal S32x1 .f32) (a : Fin 32) (b : Fin 128) :
    k0_pay55 wt am (Scalar.ofBits .f32 0x00000000#32) (ix2 a b) = Ideal.exp2 (expS (am (ix2 a 0))) * wt (ix2 a b) := by
  unfold expS two
  pointwise [k0_pay55, k0_pay53]
  rfl

/-! ## The largest magnitude of a row -/

theorem abs_nonneg (x : EReal) : (0 : EReal) ≤ FloatOps.absf (F := Ideal) (φ := .f32) x := by
  show (0 : EReal) ≤ max x (-x)
  rcases le_total 0 x with h | h
  · exact h.trans (le_max_left _ _)
  · exact (EReal.neg_nonneg.2 h).trans (le_max_right _ _)

/-- The largest magnitude of four column blocks, taken one after another from zero, is that of the whole row. -/
theorem amax_blocks (f : Fin 2048 → EReal) :
    max (max (max (max 0 (amaxS fun b : Fin 512 => f ⟨0 + b.val, by omega⟩)) (amaxS fun b : Fin 512 => f ⟨512 + b.val, by omega⟩))
      (amaxS fun b : Fin 512 => f ⟨1024 + b.val, by omega⟩)) (amaxS fun b : Fin 512 => f ⟨1536 + b.val, by omega⟩) = amaxS f := by
  refine eq_of_forall_ge_iff fun c => ?_
  unfold amaxS
  simp only [max_le_iff, Finset.fold_max_le, Finset.mem_univ, true_implies]
  constructor
  · rintro ⟨⟨⟨⟨-, hb, h0⟩, -, h1⟩, -, h2⟩, -, h3⟩
    refine ⟨hb, fun j => ?_⟩
    have hj := j.isLt
    by_cases c0 : j.val < 512
    · have := h0 ⟨j.val, c0⟩
      rwa [show (⟨0 + j.val, by omega⟩ : Fin 2048) = j from Fin.ext (Nat.zero_add _)] at this
    by_cases c1 : j.val < 1024
    · have := h1 ⟨j.val - 512, by omega⟩
      rwa [show (⟨512 + (j.val - 512), by omega⟩ : Fin 2048) = j from Fin.ext (by show 512 + (j.val - 512) = j.val; omega)] at this
    by_cases c2 : j.val < 1536
    · have := h2 ⟨j.val - 1024, by omega⟩
      rwa [show (⟨1024 + (j.val - 1024), by omega⟩ : Fin 2048) = j from Fin.ext (by show 1024 + (j.val - 1024) = j.val; omega)] at this
    · have := h3 ⟨j.val - 1536, by omega⟩
      rwa [show (⟨1536 + (j.val - 1536), by omega⟩ : Fin 2048) = j from Fin.ext (by show 1536 + (j.val - 1536) = j.val; omega)] at this
  · rintro ⟨hb, h⟩
    exact ⟨⟨⟨⟨(abs_nonneg _).trans (h 0), hb, fun b => h _⟩, hb, fun b => h _⟩, hb, fun b => h _⟩, hb, fun b => h _⟩

/-! ## The blocks -/

theorem hB_apply (p : ℕ) (hp : p + 512 ≤ 4096) (h : FVec Ideal S32x4096 .f32) (a : Fin 32) (b : Fin 512) :
    hB p hp h (ix2 a b) = h (ix2 a ⟨p + b.val, by omega⟩) := rd2c (m := 32) (n := 4096) (r := 512) (p := p) _ h a b _

theorem uB_apply (e : Fin 4) (p : ℕ) (hp : p + 512 ≤ 4096) (us : FVec Ideal S4x4096 .f32) (b : Fin 512) :
    uB e p hp us (ix2 0 b) = us (ix2 e ⟨p + b.val, by omega⟩) :=
  (rd2 (o := e.val) (p := p) (m := 4) (n := 4096) (q := 1) (r := 512) _ us 0 b (by show e.val + 0 < 4; omega) (by omega)).trans
    (congrArg (fun z => us (ix2 z _)) (Fin.ext (Nat.add_zero _)))

section Act
variable (I : Arr Ideal) (K : Once Ideal) (σ : State Ideal) (a : Fin 32) (s : EReal) (hxs : ∀ l, K.xs (ix2 a l) = s)

/-- The first product's value with its correction, and the activation. -/
def hv (n : Fin 4096) : EReal := hS (σ.h (ix2 a n)) s (I.us (ix2 σ.e n)) (σ.delta (ix2 a n))
def av (j : Fin 2048) : EReal := siluS (hv I σ a s ⟨j.val, by omega⟩) (hv I σ a s ⟨2048 + j.val, by omega⟩)

theorem hv_eq (n m : ℕ) (hn : n < 4096) (hm : m < 4096) (h : n = m) : hv I σ a s ⟨n, hn⟩ = hv I σ a s ⟨m, hm⟩ := by subst h; rfl

theorem xsV_eq : xsV K = K.xs := rd_all _ z2 _ _

include hxs
theorem hx35 (b : Fin 512) : k0_pay35 (xsV K) (ix2 a b) = s := pay35_apply _ s a (fun l => by rw [xsV_eq]; exact hxs l) b
theorem hx37 (h : Vec Ideal S32x512 .f32) (b : Fin 512) : k0_pay37 (xsV K) h (ix2 a b) = h (ix2 a b) * s :=
  pay37_apply _ h s a (fun l => by rw [xsV_eq]; exact hxs l) b

theorem hblk (p : ℕ) (hp : p + 512 ≤ 4096) (b : Fin 512) :
    hS (hB p hp σ.h (ix2 a b)) (k0_pay35 (xsV K) (ix2 a b)) (uB σ.e p hp I.us (ix2 0 b)) (hB p hp σ.delta (ix2 a b)) = hv I σ a s ⟨p + b.val, by omega⟩ := by
  rw [hx35 K a s hxs, hB_apply, uB_apply, hB_apply]; rfl

theorem blk0 (b : Fin 512) : siluS (k0_pay37 (xsV K) (hB 0 (by decide) σ.h) (ix2 a b) * k0_pay38 (uB σ.e 0 (by decide) I.us) (ix2 a b) + two * hB 0 (by decide) σ.delta (ix2 a b))
      (hS (hB 2048 (by decide) σ.h (ix2 a b)) (k0_pay35 (xsV K) (ix2 a b)) (uB σ.e 2048 (by decide) I.us (ix2 0 b)) (hB 2048 (by decide) σ.delta (ix2 a b)))
    = av I σ a s ⟨0 + b.val, by omega⟩ := by
  rw [hblk I K σ a s hxs, hx37 K a s hxs, pay38_apply, hB_apply, uB_apply, hB_apply]
  unfold av
  rw [hv_eq I σ a s (2048 + (0 + b.val)) (2048 + b.val) (by omega) (by omega) (by omega)]
  rfl

theorem blk1 (b : Fin 512) : v398V I K σ (ix2 a b) * (v400V K σ (ix2 a b) * uB σ.e 2560 (by decide) I.us (ix2 0 b) + two * hB 2560 (by decide) σ.delta (ix2 a b))
    = av I σ a s ⟨512 + b.val, by omega⟩ := by
  unfold v398V v400V
  rw [pay42_apply, pay43_apply, hblk I K σ a s hxs]
  have h := hblk I K σ a s hxs 2560 (by decide) b
  unfold hS at h
  rw [h]
  unfold av
  rw [hv_eq I σ a s (2048 + (512 + b.val)) (2560 + b.val) (by omega) (by omega) (by omega)]
  rfl

theorem blkn (p q : ℕ) (hp : p + 512 ≤ 2048) (hq : q = 2048 + p) (b : Fin 512) :
    siluS (hS (hB p (by omega) σ.h (ix2 a b)) (k0_pay35 (xsV K) (ix2 a b)) (uB σ.e p (by omega) I.us (ix2 0 b)) (hB p (by omega) σ.delta (ix2 a b)))
      (hS (hB q (by omega) σ.h (ix2 a b)) (k0_pay35 (xsV K) (ix2 a b)) (uB σ.e q (by omega) I.us (ix2 0 b)) (hB q (by omega) σ.delta (ix2 a b)))
    = av I σ a s ⟨p + b.val, by omega⟩ := by
  rw [hblk I K σ a s hxs, hblk I K σ a s hxs]
  unfold av
  rw [hv_eq I σ a s (2048 + (p + b.val)) (q + b.val) (by omega) (by omega) (by omega)]

/-- The row's scale before it is rounded to a power of two. -/
theorem amaxV_apply : amaxV I K σ (ix2 a 0) = amaxS (av I σ a s) * Cert.Moe.inv := by
  unfold amaxV
  rw [pay52_apply, ← amax_blocks (av I σ a s)]
  unfold v413V v383V v440V
  rw [pay45_apply, pay40_apply, pay36_apply]
  simp only [pay48_apply, blk0 I K σ a s hxs, blk1 I K σ a s hxs, blkn I K σ a s hxs 1024 3072 (by decide) rfl, blkn I K σ a s hxs 1536 3584 (by decide) rfl]
  rfl

theorem act3_apply (j : Fin 2048) : act3 I K σ (ix2 a j) = av I σ a s j := by
  have hj := j.isLt
  have key : ∀ (p : ℕ) (h : p ≤ j.val ∧ j.val < p + 512) (hb), av I σ a s ⟨p + (j.val - p), hb⟩ = av I σ a s j := fun p h hb =>
    congrArg (av I σ a s) (Fin.ext (show p + (j.val - p) = j.val by omega))
  unfold act3
  refine (wr2 (m := 32) (n := 2048) (r := 512) (p := 1536) _ _ _ a j).trans ?_
  split_ifs with h3
  · rw [pay51_apply, blkn I K σ a s hxs 1536 3584 (by decide) rfl]; exact key _ h3 _
  refine (wr2 (m := 32) (n := 2048) (r := 512) (p := 1024) _ _ _ a j).trans ?_
  split_ifs with h2
  · unfold v439V; rw [pay49_apply, pay47_apply, blkn I K σ a s hxs 1024 3072 (by decide) rfl]; exact key _ h2 _
  unfold act1
  refine (wr2 (m := 32) (n := 2048) (r := 512) (p := 512) _ _ _ a j).trans ?_
  split_ifs with h1
  · rw [pay46_apply, blk1 I K σ a s hxs]; exact key _ h1 _
  unfold act0
  refine (wr2 (m := 32) (n := 2048) (r := 512) (p := 0) _ _ _ a j).trans ?_
  split_ifs with h0
  · rw [pay41_apply, blk0 I K σ a s hxs]; exact key _ h0 _
  omega

end Act

end Cert.KernelIdeal.Hand
end
-- ==== Proof.KLane.lean ====
/-
  Hand-written, untrusted. One expert's column weights, routing and adapter lanes, and its first product with the correction, element by element.
-/
module

public import proofs.«01_k».proof.Proof.KOnce
public import proofs.«01_k».proof.Proof.KAct

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem toInt_iff (x y : BitVec 32) : ((((x.toInt : ℤ) : ℝ) : EReal) = (((y.toInt : ℤ) : ℝ) : EReal)) ↔ x = y := by
  rw [EReal.coe_eq_coe_iff, Int.cast_inj, BitVec.toInt_inj]

theorem colAt_apply (K : Once Ideal) (i : ℕ) (hi : i + 1 ≤ 5) (a : Fin 32) (b : Fin 128) : colAt K i hi (ix3 0 a b) = K.cols (ix3 ⟨i, by omega⟩ a b) :=
  (rd3 (o := i) (p := 0) (w := 5) (m := 32) (n := 128) (r := 128) _ K.cols a b (by omega) (by omega)).trans
    (congrArg (fun z => K.cols (ix3 _ a z)) (Fin.ext (Nat.zero_add _)))

theorem pay25_apply (e : BitVec 32) (f g h k : Vec Ideal S1x32x128 .f32) (a : Fin 32) (b : Fin 128) : k0_pay25 e f g h k (ix2 a b)
    = (if f (ix3 0 a b) = (((e.toInt : ℤ) : ℝ) : EReal) then g (ix3 0 a b) else 0) + (if h (ix3 0 a b) = (((e.toInt : ℤ) : ℝ) : EReal) then k (ix3 0 a b) else 0) := by
  pointwise [k0_pay25, k0_pay23, k0_pay22]

theorem pay24_apply (e : BitVec 32) (f g : Vec Ideal S1x32x128 .f32) (a : Fin 32) (b : Fin 128) : k0_pay24 (F := Ideal) e f g (ix2 a b)
    = IntOp.ori (IntOp.ori 0#1 (BitVec.ofBool (decide (f (ix3 0 a b) = (((e.toInt : ℤ) : ℝ) : EReal))))) (BitVec.ofBool (decide (g (ix3 0 a b) = (((e.toInt : ℤ) : ℝ) : EReal)))) := by
  pointwise [k0_pay24, k0_pay23, k0_pay22]

theorem pay26_apply (x : Vec Ideal S32x7168 .bf16) (g : Vec Ideal S128x7168 .bf16) (a : Fin 32) (b : Fin 128) :
    k0_pay26 x g (ix2 a b) = ∑ k, x (ix2 a k) * g (ix2 b k) := by
  pointwise [k0_pay26]

theorem lora_apply (sh : FVec Ideal S32x128 .f32) (ad : Vec Ideal S1x32x128 .f32) (a : Fin 32) (b : Fin 128) :
    lora sh (iota .tc S32x128 32 [1] iota_S32x128_d1_w32) 16#32 k0_pay27 k0_pay28
      (Scalar.extui (Scalar.cmpi .sgt 16#32 0#32)) (Scalar.extui (Scalar.cmpi .slt 16#32 0#32)) ad (ix2 a b)
    = if ad (ix3 0 a b) = FloatOps.sitofp (F := Ideal) .f32 (BitVec.ofNat 32 (b.val / 16)) then sh (ix2 a b) else 0 := by
  unfold lora
  pointwise [k0_pay29, k0_pay27, k0_pay28]
  refine if_congr (Eq.congr_right ?_) rfl rfl
  refine congrArg (FloatOps.sitofp (F := Ideal) .f32) ?_
  clear sh ad a
  revert b
  decide

section Expert
variable {I : Arr Ideal} {K : Once Ideal} (ok : OnceOk (inK I) K) (e : Fin 4) (a : Fin 32)
include ok

theorem weightV_apply (b : Fin 128) : weightV K e (ix2 a b) = Cert.Moe.gate (inK I) e a := by
  unfold weightV
  rw [pay25_apply, colAt_apply, colAt_apply, colAt_apply, colAt_apply]
  have h0 := ok.id0 a b
  have h1 := ok.id1 a b
  have h2 := ok.g0 a b
  have h3 := ok.g1 a b
  unfold Cert.Moe.gate
  rw [← h2, ← h3]
  refine congrArg₂ (· + ·) (if_congr ?_ rfl rfl) (if_congr ?_ rfl rfl)
  · exact (Eq.congr_left h0).trans (toInt_iff _ _)
  · exact (Eq.congr_left h1).trans (toInt_iff _ _)

theorem routedV_apply (b : Fin 128) : routedV K e (ix2 a b)
    = IntOp.ori (IntOp.ori 0#1 (BitVec.ofBool (decide ((inK I).ids 0 a = ev e)))) (BitVec.ofBool (decide ((inK I).ids 1 a = ev e))) := by
  unfold routedV
  rw [pay24_apply, colAt_apply, colAt_apply]
  refine congrArg₂ (fun p q => IntOp.ori (IntOp.ori 0#1 (BitVec.ofBool p)) (BitVec.ofBool q)) (decide_eq_decide.2 ?_) (decide_eq_decide.2 ?_)
  · exact (Eq.congr_left (ok.id0 a b)).trans (toInt_iff _ _)
  · exact (Eq.congr_left (ok.id1 a b)).trans (toInt_iff _ _)

/-- Where the token is not routed its gate is zero. -/
theorem routed_select (X : EReal) (hX : Cert.Moe.gate (inK I) e a = 0 → X = 0) (b : Fin 128) : Scalar.select (routedV K e (ix2 a b)) X 0 = X := by
  rw [routedV_apply ok e a b]
  by_cases h0 : (inK I).ids 0 a = ev e
  · rw [decide_eq_true h0]; unfold Scalar.select
    rw [if_pos]
    cases decide ((inK I).ids 1 a = ev e) <;> rfl
  by_cases h1 : (inK I).ids 1 a = ev e
  · rw [decide_eq_true h1, decide_eq_false h0]; rfl
  · rw [hX (by unfold Cert.Moe.gate; rw [if_neg h0, if_neg h1, add_zero])]
    unfold Scalar.select
    exact ite_self _

theorem shrinkV_apply (b : Fin 128) : shrinkV I K e (ix2 a b) = ∑ k, I.x (ix2 a k) * I.la (ix3 e b k) := by
  unfold shrinkV
  rw [pay26_apply]
  refine Finset.sum_congr rfl fun k _ => ?_
  rw [rd_all _ z2, rd_all _ z2]
  refine congrArg (I.x (ix2 a k) * ·) ?_
  unfold laVal
  refine congrArg I.la (funext fun i => ?_)
  match i with
  | ⟨0, _⟩ => rfl
  | ⟨1, _⟩ => rfl
  | ⟨2, _⟩ => rfl

theorem mixV_apply (b : Fin 128) : mixV I K e (ix2 a b)
    = if (inK I).ad a = BitVec.ofNat 32 (b.val / 16) then ∑ k, I.x (ix2 a k) * I.la (ix3 e b k) else 0 := by
  unfold mixV
  rw [lora_apply, colAt_apply, shrinkV_apply ok]
  exact if_congr ((Eq.congr_left (ok.ad a b)).trans (toInt_iff _ _)) rfl rfl

/-- The eight adapters' sixteen lanes each, added up. -/
theorem delta_sum (n : Fin 4096) : ∑ x : Fin 128, mixV I K e (ix2 a x) * I.lb (ix3 e x n) = Cert.Moe.delta (inK I) e a n := by
  have h : ∀ p : Fin 8 × Fin 16, mixV I K e (ix2 a (finProdFinEquiv p)) * I.lb (ix3 e (finProdFinEquiv p) n)
      = if (inK I).ad a = BitVec.ofNat 32 p.1.val then (∑ k, I.x (ix2 a k) * I.la (ix3 e (finProdFinEquiv p) k)) * I.lb (ix3 e (finProdFinEquiv p) n) else 0 := by
    intro p
    have hp : (finProdFinEquiv p : Fin 128).val / 16 = p.1.val := by
      show (p.2.val + 16 * p.1.val) / 16 = p.1.val
      have := p.2.isLt
      omega
    rw [mixV_apply ok, hp]
    split_ifs
    · rfl
    · exact zero_mul _
  have hsum : ∑ x : Fin 128, mixV I K e (ix2 a x) * I.lb (ix3 e x n)
      = ∑ p : Fin 8 × Fin 16, mixV I K e (ix2 a (finProdFinEquiv p)) * I.lb (ix3 e (finProdFinEquiv p) n) :=
    (Equiv.sum_comp (finProdFinEquiv (m := 8) (n := 16)) (fun x : Fin 128 => mixV I K e (ix2 a x) * I.lb (ix3 e x n))).symm
  rw [hsum, Finset.sum_congr rfl fun p _ => h p, Fintype.sum_prod_type]
  unfold Cert.Moe.delta Cert.Moe.lora
  refine Finset.sum_congr rfl fun q _ => ?_
  split_ifs with hc
  · rfl
  · exact Finset.sum_const_zero

theorem afterUp_hv (σ : State Ideal) (n : Fin 4096) : hv I (afterUp I K σ) a (Cert.Moe.xS (inK I) a) n = Cert.Moe.hid (inK I) σ.e a n := by
  have h1 : (afterUp I K σ).h (ix2 a n) = ∑ k : Fin 7168, Cert.Moe.code (inK I) a k * (inK I).wu σ.e k n := by
    show hAll K.codes (upVal I.wu σ.e) σ.h (ix2 a n) = _
    rw [hAll_apply]
    refine Finset.sum_congr rfl fun k _ => ?_
    rw [ok.codes]
    refine congrArg (Cert.Moe.code (inK I) a k * ·) ?_
    show upVal I.wu σ.e (ix2 k n) = I.wu (ix3 σ.e k n)
    unfold upVal
    refine congrArg I.wu (funext fun i => ?_)
    match i with
    | ⟨0, _⟩ => rfl
    | ⟨1, _⟩ => rfl
    | ⟨2, _⟩ => rfl
  have h2 : (afterUp I K σ).delta (ix2 a n) = Cert.Moe.delta (inK I) σ.e a n := by
    show dUp (mixV I K σ.e) I.lb σ.e σ.delta 8 (ix2 a n) = _
    rw [dUp_apply _ _ _ _ 8 le_rfl, if_pos (show n.val < 512 * 8 by have := n.isLt; omega)]
    exact delta_sum ok σ.e a n
  unfold hv Cert.Moe.hid
  rw [h1, h2]
  rfl

theorem afterUp_av (σ : State Ideal) : av I (afterUp I K σ) a (Cert.Moe.xS (inK I) a) = Cert.Moe.act (inK I) σ.e a := by
  funext j
  unfold av Cert.Moe.act
  rw [afterUp_hv ok, afterUp_hv ok]

end Expert

end Cert.KernelIdeal.Hand
end
-- ==== Proof.KOut.lean ====
/-
  Hand-written, untrusted. What one expert adds to the result, and the sum over the experts visited.
-/
module

public import proofs.«01_k».proof.Proof.KLane

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The second product -/

theorem pay18_apply (ro : IVec S32x128 1) (co : Vec Ideal S32x128 .f32) (ac : Vec Ideal S32x2048 .fp8e4m3) (wd : Vec Ideal S1x2048x512 .fp8e4m3)
    (ds : Vec Ideal S1x512 .f32) (f : Vec Ideal S32x512 .f32) (a : Fin 32) (b : Fin 512) (r : BitVec 1) (c : EReal)
    (hr : ∀ l, ro (ix2 a l) = r) (hc : ∀ l, co (ix2 a l) = c) :
    k0_pay18 ro co ac wd ds f (ix2 a b) = f (ix2 a b) + Scalar.select r ((∑ x, ac (ix2 a x) * wd (ix3 0 x b)) * c * ds (ix2 0 b)) 0 := by
  pointwise [k0_pay18, k0_pay17]
  simp only [hr, hc]
  split_ifs <;> rfl

theorem pay56_apply (f : FVec Ideal S32x512 .f32) (a : Fin 32) (b : Fin 512) : k0_pay56 f (ix2 a b) = f (ix2 a b) := by
  pointwise [k0_pay56]

theorem pay57_apply (f : FVec Ideal S32x512 .f32) (a : Fin 32) (b : Fin 512) : k0_pay57 f (ix2 a b) = f (ix2 a b) := by
  pointwise [k0_pay57]

section Down
variable (ro : IVec S32x128 1) (I : Arr Ideal) (σ : State Ideal) (a : Fin 32) (r : BitVec 1) (c : EReal)
  (hr : ∀ l, ro (ix2 a l) = r) (hc : ∀ l, σ.coef (ix2 a l) = c)

/-- What the column `d` receives. -/
def dT (d : Fin 7168) : EReal :=
  Scalar.select r ((∑ x, σ.acodes (ix2 a x) * I.wd (ix3 σ.e x d)) * c * I.ds (ix2 σ.e d)) 0

include hr hc in
theorem yNew_apply (j : ℕ) (hj : j + 1 ≤ 14) (f : FVec Ideal S32x7168 .f32) (b : Fin 512) :
    yNew ro σ.coef σ.acodes I σ.e j hj f (ix2 a b) = f (ix2 a ⟨512 * j + b.val, by omega⟩) + dT I σ a r c ⟨512 * j + b.val, by omega⟩ := by
  unfold yNew dT
  rw [pay18_apply _ _ _ _ _ _ a b r c hr (fun l => by rw [rd_all _ z2]; exact hc l)]
  refine congrArg₂ (· + ·) (rd2c (m := 32) (n := 7168) (r := 512) (p := 512 * j) _ f a b _) ?_
  refine congrArg₂ (fun p q => Scalar.select r (p * c * q) 0) (Finset.sum_congr rfl fun x _ => ?_) ?_
  · rw [rd_all _ z2]
    refine congrArg (σ.acodes (ix2 a x) * ·) ?_
    refine (rd3 (o := j) (p := 0) (w := 14) (m := 2048) (n := 512) (r := 512) _ (dnVal I.wd σ.e) x b (by omega) (by omega)).trans ?_
    unfold dnVal
    refine congrArg I.wd (funext fun i => ?_)
    match i with
    | ⟨0, _⟩ => rfl
    | ⟨1, _⟩ => rfl
    | ⟨2, _⟩ => exact Fin.ext (show 512 * j + (0 + b.val) = 512 * j + b.val by omega)
  · exact (rd2 (o := σ.e.val) (p := 512 * j) (m := 4) (n := 7168) (q := 1) (r := 512) _ I.ds 0 b (by show σ.e.val + 0 < 4; omega) (by omega)).trans
      (congrArg (fun z => I.ds (ix2 z _)) (Fin.ext (Nat.add_zero _)))

theorem yUp_keeps (n : ℕ) : (yUp ro I σ n).coef = σ.coef ∧ (yUp ro I σ n).acodes = σ.acodes := by
  induction n with
  | zero => exact ⟨rfl, rfl⟩
  | succ n ih =>
    unfold yUp
    split
    · exact ih
    · exact ih

include hr hc in
theorem yUp_apply (n : ℕ) (hn : n ≤ 14) (d : Fin 7168) :
    (yUp ro I σ n).yacc (ix2 a d) = (if d.val < 512 * n then σ.yacc (ix2 a d) + dT I σ a r c d else σ.yacc (ix2 a d))
    ∧ (yUp ro I σ n).yout (ix2 a d) = (if d.val < 512 * n then σ.yacc (ix2 a d) + dT I σ a r c d else σ.yout (ix2 a d)) := by
  induction n generalizing d with
  | zero => rw [if_neg (by omega), if_neg (by omega)]; exact ⟨rfl, rfl⟩
  | succ n ih =>
    have hk := yUp_keeps ro I σ n
    have he := (yUp_e (ro := ro) (I := I) (σ := σ) n).1
    have hnew : ∀ b : Fin 512, yNew ro (yUp ro I σ n).coef (yUp ro I σ n).acodes I (yUp ro I σ n).e n hn (yUp ro I σ n).yacc (ix2 a b)
        = σ.yacc (ix2 a ⟨512 * n + b.val, by omega⟩) + dT I σ a r c ⟨512 * n + b.val, by omega⟩ := by
      intro b
      rw [hk.1, hk.2, he, yNew_apply ro I σ a r c hr hc, (ih (by omega) _).1, if_neg (by show ¬ 512 * n + b.val < 512 * n; omega)]
    rw [yUp_succ hn]
    have hd : ∀ h : 512 * n ≤ d.val ∧ d.val < 512 * n + 512, (⟨512 * n + (d.val - 512 * n), by omega⟩ : Fin 7168) = d := fun h =>
      Fin.ext (show 512 * n + (d.val - 512 * n) = d.val by omega)
    constructor
    · refine (wr2 (m := 32) (n := 7168) (r := 512) (p := 512 * n) _ _ _ a d).trans ?_
      split_ifs with h h' h'
      · rw [pay56_apply, hnew]
        exact congrArg (fun z => σ.yacc (ix2 a z) + dT I σ a r c z) (hd h)
      · omega
      · rw [(ih (by omega) d).1, if_pos (by omega)]
      · rw [(ih (by omega) d).1, if_neg (by omega)]
    · refine (wr2 (m := 32) (n := 7168) (r := 512) (p := 512 * n) _ _ _ a d).trans ?_
      split_ifs with h h' h'
      · rw [pay57_apply, hnew]
        exact congrArg (fun z => σ.yacc (ix2 a z) + dT I σ a r c z) (hd h)
      · omega
      · rw [(ih (by omega) d).2, if_pos (by omega)]
      · rw [(ih (by omega) d).2, if_neg (by omega)]

end Down

/-! ## One expert -/

section Expert
variable {I : Arr Ideal} {K : Once Ideal} (ok : OnceOk (inK I) K) (σ : State Ideal) (a : Fin 32)
include ok

theorem exUp_apply (d : Fin 7168) :
    (exUp I K σ).yacc (ix2 a d) = σ.yacc (ix2 a d) + Cert.Moe.term (inK I) σ.e a d
    ∧ (exUp I K σ).yout (ix2 a d) = σ.yacc (ix2 a d) + Cert.Moe.term (inK I) σ.e a d := by
  have hx : ∀ l, K.xs (ix2 a l) = Cert.Moe.xS (inK I) a := fun l => ok.xs a l
  have ham : amaxV I K (afterUp I K σ) (ix2 a 0) = Cert.Moe.amaxS (Cert.Moe.act (inK I) σ.e a) * Cert.Moe.inv := by
    rw [amaxV_apply I K _ a _ hx, afterUp_av ok]
  have hac : ∀ j, (preDown I K σ).acodes (ix2 a j) = Cert.Moe.acode (inK I) σ.e a j := by
    intro j
    unfold preDown quantA
    show wrA (s := S32x2048) ![0, 0] S32x2048.size _ _ _ (ix2 a j) = _
    rw [wr_all _ z2, pay54_apply, ham, rd_all _ z2]
    show Cert.Moe.codeS (act3 I K (afterUp I K σ) (ix2 a j)) _ = _
    rw [act3_apply I K _ a _ hx, afterUp_av ok]
    rfl
  have hco : ∀ l, (preDown I K σ).coef (ix2 a l) = Ideal.exp2 (Cert.Moe.aE (inK I) σ.e a) * Cert.Moe.gate (inK I) σ.e a := by
    intro l
    unfold preDown quantA
    show wrA (s := S32x128) ![0, 0] S32x128.size _ _ _ (ix2 a l) = _
    rw [wr_all _ z2, pay55_apply, ham, weightV_apply ok]
    rfl
  have hT : dT I (preDown I K σ) a (routedV K σ.e (ix2 a 0)) (Ideal.exp2 (Cert.Moe.aE (inK I) σ.e a) * Cert.Moe.gate (inK I) σ.e a) d
      = Cert.Moe.term (inK I) σ.e a d := by
    unfold dT
    rw [routed_select ok σ.e a _ (fun hg => by rw [hg, mul_zero, mul_zero, zero_mul])]
    unfold Cert.Moe.term
    rw [Finset.sum_congr rfl fun j _ => congrArg (· * _) (hac j)]
    show (∑ j, Cert.Moe.acode (inK I) σ.e a j * I.wd (ix3 σ.e j d)) * _ * I.ds (ix2 σ.e d) = (∑ j, Cert.Moe.acode (inK I) σ.e a j * I.wd (ix3 σ.e j d)) * _ * I.ds (ix2 σ.e d) * _
    rw [mul_assoc, mul_assoc, mul_assoc, mul_assoc, mul_comm (Cert.Moe.gate (inK I) σ.e a)]
  have hro : ∀ l, routedV K σ.e (ix2 a l) = routedV K σ.e (ix2 a 0) := fun l => by rw [routedV_apply ok, routedV_apply ok]
  have h := yUp_apply (routedV K σ.e) I (preDown I K σ) a _ _ hro hco 14 le_rfl d
  rw [if_pos (show d.val < 512 * 14 by have := d.isLt; omega), if_pos (show d.val < 512 * 14 by have := d.isLt; omega), hT] at h
  exact h

end Expert

/-! ## The experts visited -/

section Seq
variable (e : Fin 4) (f0 f1 f2 f3 : Fin 2) {I : Arr Ideal} {K : Once Ideal} (ok : OnceOk (inK I) K) (σ : State Ideal) (a : Fin 32) (d : Fin 7168)
include ok

theorem seqS_yacc (n : ℕ) : (seqS e f0 f1 f2 f3 I K σ n).yacc (ix2 a d)
    = σ.yacc (ix2 a d) + ∑ k ∈ Finset.range n, Cert.Moe.term (inK I) (nthL e f0 f1 f2 f3 k) a d := by
  induction n with
  | zero => rw [Finset.range_zero, Finset.sum_empty, add_zero]; rfl
  | succ n ih =>
    show (exUp I K (seqS e f0 f1 f2 f3 I K σ n)).yacc (ix2 a d) = _
    rw [(exUp_apply ok _ a d).1, ih, (seqS_e e f0 f1 f2 f3 σ n).1, Finset.sum_range_succ, add_assoc]

theorem endS_yout : (endS e f0 f1 f2 f3 I K σ).yout (ix2 a d)
    = σ.yacc (ix2 a d) + ∑ k ∈ Finset.range (cnt4 e f0 f1 f2 f3), Cert.Moe.term (inK I) (nthL e f0 f1 f2 f3 k) a d := by
  unfold endS
  rw [(exUp_apply ok _ a d).2, seqS_yacc e f0 f1 f2 f3 ok, (seqS_e e f0 f1 f2 f3 σ _).1, add_assoc, ← Finset.sum_range_succ]
  have := cnt4_pos e f0 f1 f2 f3
  rw [show cnt4 e f0 f1 f2 f3 - 1 + 1 = cnt4 e f0 f1 f2 f3 by omega]

end Seq

/-- Every expert is visited once at most, and the first one and those that some token chose are. -/
theorem nthL_inj : ∀ (e : Fin 4) (f0 f1 f2 f3 : Fin 2), ∀ x ∈ Finset.range (cnt4 e f0 f1 f2 f3), ∀ y ∈ Finset.range (cnt4 e f0 f1 f2 f3),
    nthL e f0 f1 f2 f3 x = nthL e f0 f1 f2 f3 y → x = y := by decide +kernel

theorem nthL_mem : ∀ (e : Fin 4) (f0 f1 f2 f3 : Fin 2) (k : Fin 4), (k = e ∨ (![f0, f1, f2, f3] : Fin 4 → Fin 2) k = 1) →
    ∃ x ∈ Finset.range (cnt4 e f0 f1 f2 f3), nthL e f0 f1 f2 f3 x = k := by decide +kernel

theorem visit_sum (e : Fin 4) (f0 f1 f2 f3 : Fin 2) (T : Fin 4 → EReal) (hT : ∀ k, k ≠ e → (![f0, f1, f2, f3] : Fin 4 → Fin 2) k ≠ 1 → T k = 0) :
    ∑ k ∈ Finset.range (cnt4 e f0 f1 f2 f3), T (nthL e f0 f1 f2 f3 k) = ∑ k, T k := by
  rw [← Finset.sum_image (f := T) (g := nthL e f0 f1 f2 f3) (nthL_inj e f0 f1 f2 f3)]
  refine Finset.sum_subset (Finset.subset_univ _) fun k _ hk => ?_
  refine hT k (fun h => hk ?_) (fun h => hk ?_)
  · obtain ⟨x, hx, hxk⟩ := nthL_mem e f0 f1 f2 f3 k (Or.inl h)
    exact Finset.mem_image.2 ⟨x, hx, hxk⟩
  · obtain ⟨x, hx, hxk⟩ := nthL_mem e f0 f1 f2 f3 k (Or.inr h)
    exact Finset.mem_image.2 ⟨x, hx, hxk⟩

theorem hit_no (k : BitVec 32) (ids : IVec S2x32 32) (h : hit k ids ≠ 1) (i : S2x32.Idx) : ids i ≠ k := fun hi =>
  h (by unfold hit; rw [if_pos ⟨i, hi⟩])

/-- The kernel's first result, element by element. -/
theorem yOf_apply (I : Arr Ideal) (J : Junk Ideal) (e : Fin 4) (a : Fin 32) (d : Fin 7168) : yOf I J e (ix2 a d) = Cert.Moe.out (inK I) a d := by
  unfold yOf
  rw [endS_yout _ _ _ _ _ (once_ok I J e)]
  refine (congrArg ((stOf J).yacc (ix2 a d) + ·) (visit_sum e _ _ _ _ (fun k => Cert.Moe.term (inK I) k a d) ?_)).trans ?_
  · intro k _ hk
    have hno : ∀ i, I.ids i ≠ ev k := by
      revert hk
      match k with
      | ⟨0, _⟩ => exact fun hk => hit_no _ _ hk
      | ⟨1, _⟩ => exact fun hk => hit_no _ _ hk
      | ⟨2, _⟩ => exact fun hk => hit_no _ _ hk
      | ⟨3, _⟩ => exact fun hk => hit_no _ _ hk
    have hg : Cert.Moe.gate (inK I) k a = 0 := by
      have h0 : (inK I).ids 0 a ≠ BitVec.ofNat 32 k.val := hno _
      have h1 : (inK I).ids 1 a ≠ BitVec.ofNat 32 k.val := hno _
      unfold Cert.Moe.gate
      rw [if_neg h0, if_neg h1, add_zero]
    show Cert.Moe.term (inK I) k a d = 0
    unfold Cert.Moe.term
    rw [hg, mul_zero]
  · have h0 : (stOf J).yacc (ix2 a d) = 0 := by
      show (k0_pay150 (F := Ideal)) (ix2 a d) = 0
      pointwise [k0_pay150]
    show (stOf J).yacc (ix2 a d) + _ = _
    rw [h0, zero_add]
    rfl

end Cert.KernelIdeal.Hand
end
-- ==== Proof.RunV.lean ====
/-
  Hand-written, untrusted. The run of the kernel's program over the extended reals with the values of its three results.
-/
module

public import proofs.«01_k».proof.Proof.Frame
public import proofs.«01_k».proof.Proof.KOut
public import Idealize.ShloMosaic.Lib.Pipeline.FrameSuffixV

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

local notation "𝕄" => MT nD τ sig Unit (Elt Ideal) ℕ (Pipeline.UD sig nD τ) ℕ

variable (m : (ℓ : Loc nD τ sig) → Buf (Elt Ideal) ℓ) (ρ : Dev nD → PrngReg)

theorem ix2_eta {n k : ℕ} (i : (⟨2, ![n, k]⟩ : Shape).Idx) : i = ix2 (i 0) (i 1) := by
  funext a
  match a with
  | ⟨0, _⟩ => rfl
  | ⟨1, _⟩ => rfl

/-- The first result. -/
def yK (I : Arr Ideal) : FVec Ideal S32x7168 .bf16 := fun i => Cert.Moe.out (inK I) (i 0) (i 1)

theorem yOf_eq (I : Arr Ideal) (J : Junk Ideal) (e : Fin 4) : yOf I J e = yK I := by
  funext i
  rw [ix2_eta i]
  exact yOf_apply I J e _ _

/-- What the written arrays hold after the kernel. -/
def GV (c : Dev nD) : (b : Ref sig .tc) → Buf (Elt Ideal) ((c.tc : Thread nD τ).loc b) :=
  Function.update (Function.update (Function.update (V m c) main_v10_0 (yK (arrOf m c))) main_v10_1 (codesQ (arrOf m c))) main_v10_2 (scQ (arrOf m c))

theorem GV0 (c : Dev nD) : GV m c main_v10_0 = yK (arrOf m c) := by
  unfold GV
  rw [Function.update_of_ne (by decide), Function.update_of_ne (by decide), Function.update_self]
theorem GV1 (c : Dev nD) : GV m c main_v10_1 = codesQ (arrOf m c) := by
  unfold GV
  rw [Function.update_of_ne (by decide), Function.update_self]
theorem GV2 (c : Dev nD) : GV m c main_v10_2 = scQ (arrOf m c) := by
  unfold GV
  rw [Function.update_self]

theorem PhiV_eq (G : (c : Dev nD) → (b : Ref sig .tc) → Buf (Elt Ideal) ((c.tc : Thread nD τ).loc b)) (c : Dev nD) :
    (Pipeline.ΦDRV osem0 cfg0.spec H0 R0 (V m) G c : sProp 𝕄)
    = iprop(Scr c ∗ Cells c ∗ Read c (arrOf m c) ∗ (pt (F := Ideal) c main_v10_0 (G c main_v10_0) ∗ pt (F := Ideal) c main_v10_1 (G c main_v10_1) ∗ pt (F := Ideal) c main_v10_2 (G c main_v10_2))) := by
  unfold Pipeline.ΦDRV
  rw [scopedRest0_eq, ownSems00_eq, hbmPts0_eq, BI.bigSep_eq_bigSepL_of_eq [main_v10_0, main_v10_1, main_v10_2] (by decide) (by decide)]
  rfl

def datsV (_ : Fin 1) (c : Dev nD) : Dat τ (Elt Ideal) Unit ℕ (Pipeline.UD sig nD τ) ℕ cfg0 c where
  A w := w.elim0
  after w t := w.elim0
  Φ t := Pipeline.ΦDRV osem0 cfg0.spec H0 R0 (V m) (if t.val = 0 then V m else GV m) c
  q _ := fullShare
  owed _ := 0

theorem N_one : cfg0.N = 1 := rfl

def bodyPreV (c : Dev nD) (t : Fin cfg0.N) : sProp 𝕄 := iprop((datsV m 0 c).Φ t.castSucc ∗ (datsV m 0 c).owesAt () t.castSucc)
def bodyPostV (c : Dev nD) (t : Fin cfg0.N) : sProp 𝕄 := iprop((datsV m 0 c).Φ t.succ ∗ (datsV m 0 c).owesAt () t.succ)

theorem sound_bodyV (c : Dev nD) (t : Fin cfg0.N) (he : ∃ e, (arrOf m c).ids (ix2 0 0) = ev e) :
    bodyPreV m c t ⊢ WP c (bodyAt0 (F := Ideal) t) (fun _ => bodyPostV m c t) := by
  obtain ⟨e, he⟩ := he
  have ht : t.val = 0 := by have := t.isLt; have := N_one; omega
  unfold bodyPreV bodyPostV
  rw [show (datsV m 0 c).Φ t.succ = Pipeline.ΦDRV osem0 cfg0.spec H0 R0 (V m) (GV m) c from
    congrArg (fun G => Pipeline.ΦDRV osem0 cfg0.spec H0 R0 (V m) G c) (if_neg (by show ¬ t.val + 1 = 0; omega)), PhiV_eq, GV0, GV1, GV2]
  rw [show (datsV m 0 c).Φ t.castSucc = Pipeline.ΦDRV osem0 cfg0.spec H0 R0 (V m) (V m) c from
    congrArg (fun G => Pipeline.ΦDRV osem0 cfg0.spec H0 R0 (V m) G c) (if_pos ht), PhiV_eq]
  unfold Dat.owesAt Pipeline.owesWithin
  rw [show (datsV m 0 c).owed t.castSucc = 0 from rfl, show (datsV m 0 c).owed t.succ = 0 from rfl]
  iintro ⟨⟨HS, HC, HH, HR0, HR1, HR2⟩, ⟨%W, -, HW⟩⟩
  iapply (body_run c (arrOf m c) e (by rw [← ix2_eq_valueIdx]; exact he) t)
  isplitl [HS HC HH HR0 HR1 HR2 HW]
  · isplitl [HW]; · unfold Ow; iexists W; iexact HW
    isplitl [HS]; · iexact HS
    isplitl [HC]; · iexact HC
    isplitl [HH]; · iexact HH
    isplitl [HR0]; · iexists _; iexact HR0
    isplitl [HR1]; · iexists _; iexact HR1
    iexists _; iexact HR2
  unfold Ow
  iintro ⟨%J, ⟨%W', HW'⟩, HS, HC, HH, HR⟩
  rw [yOf_eq]
  isplitl [HS HC HH HR]
  · isplitl [HS]; · iexact HS
    isplitl [HC]; · iexact HC
    isplitl [HH]; · iexact HH
    iexact HR
  iexists W'
  isplitr
  · ipureintro; exact fun _ _ => Or.inl trivial
  iexact HW'

theorem body_obligationV (c : Dev nD) (he : ∃ e, (arrOf m c).ids (ix2 0 0) = ev e) :
    BodyObligation (datsV m 0 c) (defs₀ (F := Ideal)) Variants.none () Set.univ := fun t => by
  rw [no_windows, no_windows, defs₀_row]
  refine triple_restated (sound_bodyV m c t he) rfl ?_ ?_
  · unfold bodyPreV; iintro ⟨H1, H2, -⟩; isplitl [H1]; · iexact H1
    iexact H2
  · intro _; unfold bodyPostV; iintro ⟨H1, H2⟩; isplitl [H1]; · iexact H1
    isplitl [H2]; · iexact H2
    iempintro

set_option backward.isDefEq.respectTransparency.types false in
/-- Every buffer after the run. -/
theorem run_mainV (he : ∀ c, ∃ e, (arrOf m c).ids (ix2 0 0) = ev e) :
    θ_run defs (onTc (τ := τ) (main (F := Ideal))) (s₀ m ρ) (fun r => (∀ c : Dev nD,
        (∀ w, r.2.mem ((cfg0.spec w).arr.view.loc (c.tc : Thread nD τ)) = (datsV m 0 c).arrAt w cfg0.N)
        ∧ ∀ b ∈ Pipeline.restRefs sig cfg0.spec, r.2.mem ((c.tc : Thread nD τ).loc b)
          = StableHlo.after [hostOps1 (F := Ideal)].flatten (Pipeline.withArrays cfg0.spec c (Pipeline.withR (V0 m c) R0 c (GV m c)) fun w => (datsV m 0 c).arrAt w cfg0.N) (Proc.devRef .tc b))
      ∧ r.2.sem = fun _ => 0) :=
  Pipeline.θ_run_frame_dmaR_aroundV (Q' := _) cfgs (datsV m) (0 : Fin 1) launch0 osem0 defs₀ Variants.none ownSemFacts0 H0 R0 H0_sub R0_sub m ρ main
    (hbody := fun c => (body_obligationV m c (he c)).loose) (hshare := fun c => (datsV m 0 c).share_full fun _ => rfl)
    (howed := fun _ _ => rfl) (V₀ := V0 m) (opss := [hostOps1]) sfx_sub sfx_fresh sfx_keeps (GV m) (hmain := hmainD m) (hA := fun _ w => w.elim0)
    (hin := fun _ => .rfl) (hout := fun _ => .rfl) (hQ' := fun _ h => h)

end Cert.KernelIdeal.Hand
end
-- ==== Proof.Args.lean ====
/-
  Hand-written, untrusted. The computation's inputs, read from the ten arguments.
-/
module

public import proofs.«01_k».proof.Proof.Spec
public import Idealize.ShloMosaic.Lib.Pointwise

@[expose] public section

noncomputable section

namespace Cert.Moe

open Idealize.ShloMosaic

def ofArgs (a0 : FVec Ideal (⟨3, ![32, 1, 7168]⟩ : Shape) .bf16) (a1 : IVec (⟨3, ![32, 1, 2]⟩ : Shape) 32) (a2 : FVec Ideal (⟨3, ![32, 1, 2]⟩ : Shape) .f32)
    (a3 : IVec (⟨1, ![32]⟩ : Shape) 32) (a4 : FVec Ideal (⟨3, ![4, 7168, 4096]⟩ : Shape) .fp8e4m3) (a5 : FVec Ideal (⟨2, ![4, 4096]⟩ : Shape) .f32)
    (a6 : FVec Ideal (⟨3, ![4, 2048, 7168]⟩ : Shape) .fp8e4m3) (a7 : FVec Ideal (⟨2, ![4, 7168]⟩ : Shape) .f32)
    (a8 : FVec Ideal (⟨4, ![4, 8, 7168, 16]⟩ : Shape) .bf16) (a9 : FVec Ideal (⟨4, ![4, 8, 16, 4096]⟩ : Shape) .bf16) : In where
  x t k := a0 (ix3 t 0 k)
  ids k t := a1 (ix3 t 0 k)
  gt k t := a2 (ix3 t 0 k)
  ad t := a3 (ix1 t)
  wu e k n := a4 (ix3 e k n)
  us e n := a5 (ix2 e n)
  wd e j d := a6 (ix3 e j d)
  ds e d := a7 (ix2 e d)
  la e a k q := a8 (ix4 e a k q)
  lb e a q n := a9 (ix4 e a q n)

/-- Two-coordinate indices by their coordinates. -/
theorem idx2 {n k : ℕ} (i : (⟨2, ![n, k]⟩ : Shape).Idx) : i = ix2 (i 0) (i 1) := by
  funext a
  match a with
  | ⟨0, _⟩ => rfl
  | ⟨1, _⟩ => rfl

/-- Dropping a middle axis of one element. -/
theorem drop_mid {n k : ℕ} {α : Type} (v : (⟨3, ![n, 1, k]⟩ : Shape).Idx → α) (h : (⟨3, ![n, 1, k]⟩ : Shape).ShapeCasts (⟨2, ![n, k]⟩ : Shape)) (a : Fin n) (b : Fin k) :
    shapeCast (⟨2, ![n, k]⟩ : Shape) v h (ix2 a b) = v (ix3 a 0 b) := by
  refine congrArg v (Shape.reshapeEquiv_eq_of_rowMajor _ ((Shape.rowMajor_val_three (d := ![n, 1, k]) _).trans
    (Eq.trans ?_ (Shape.rowMajor_val_two (d := ![n, k]) _).symm)))
  show (a.val * 1 + 0) * k + b.val = a.val * k + b.val
  rw [Nat.mul_one, Nat.add_zero]

end Cert.Moe
end
-- ==== Proof.KRes.lean ====
/-
  Hand-written, untrusted. The kernel's program over the extended reals: its three results over its arguments.
-/
module

public import proofs.«01_k».proof.Proof.RunV
public import proofs.«01_k».proof.Proof.First
public import proofs.«01_k».proof.Proof.Args
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

/-! ## The arrays the kernel reads -/

theorem gates_eq : (arrOf m c).gates = transpose S2x32 [1, 0] (shapeCast S32x2 (m ((c : Thread nD τ).loc main_arg2) : FVec Ideal S32x1x2 .f32) shapeCasts_S32x1x2_S32x2) transposes_S32x2_S2x32_1_0 := by
  show StableHlo.after (List.flatten [hostOps0]) (fun b => m (c, b)) (Proc.devRef .tc main_v3) = _
  simp only [List.flatten_cons, List.flatten_nil, List.append_nil]
  after_results
  rfl

theorem v5_eq : (V m c main_v5 : IVec S1x32 32) = shapeCast S1x32 (broadcastInDim S32x1 ![0] bcast_S32_S32x1_0 (m ((c : Thread nD τ).loc main_arg3) : IVec S32 32)) shapeCasts_S32x1_S1x32 := by
  show StableHlo.after (List.flatten [hostOps0]) (fun b => m (c, b)) (Proc.devRef .tc main_v5) = _
  simp only [List.flatten_cons, List.flatten_nil, List.append_nil]
  after_results
  rfl

theorem v6_eq : (V m c main_v6 : FVec Ideal S32x7168 .bf16) = shapeCast S32x7168 (m ((c : Thread nD τ).loc main_arg0) : FVec Ideal S32x1x7168 .bf16) shapeCasts_S32x1x7168_S32x7168 := by
  show StableHlo.after (List.flatten [hostOps0]) (fun b => m (c, b)) (Proc.devRef .tc main_v6) = _
  simp only [List.flatten_cons, List.flatten_nil, List.append_nil]
  after_results
  rfl

theorem v8_eq : (V m c main_v8 : FVec Ideal S4x128x7168 .bf16) = shapeCast S4x128x7168 (transpose S4x8x16x7168 [0, 1, 3, 2] (m ((c : Thread nD τ).loc main_arg8) : FVec Ideal S4x8x7168x16 .bf16) transposes_S4x8x7168x16_S4x8x16x7168_0_1_3_2) shapeCasts_S4x8x16x7168_S4x128x7168 := by
  show StableHlo.after (List.flatten [hostOps0]) (fun b => m (c, b)) (Proc.devRef .tc main_v8) = _
  simp only [List.flatten_cons, List.flatten_nil, List.append_nil]
  after_results
  rfl

theorem v9_eq : (V m c main_v9 : FVec Ideal S4x128x4096 .bf16) = shapeCast S4x128x4096 (m ((c : Thread nD τ).loc main_arg9) : FVec Ideal S4x8x16x4096 .bf16) shapeCasts_S4x8x16x4096_S4x128x4096 := by
  show StableHlo.after (List.flatten [hostOps0]) (fun b => m (c, b)) (Proc.devRef .tc main_v9) = _
  simp only [List.flatten_cons, List.flatten_nil, List.append_nil]
  after_results
  rfl

theorem adapters_apply (t : Fin 32) : (arrOf m c).adapters (ix2 0 t) = (m ((c : Thread nD τ).loc main_arg3) : IVec S32 32) (ix1 t) := by
  show (V m c main_v5 : IVec S1x32 32) (ix2 0 t) = _
  rw [v5_eq]
  pointwise

theorem x_apply (t : Fin 32) (k : Fin 7168) : (arrOf m c).x (ix2 t k) = (m ((c : Thread nD τ).loc main_arg0) : FVec Ideal S32x1x7168 .bf16) (ix3 t 0 k) := by
  show (V m c main_v6 : FVec Ideal S32x7168 .bf16) (ix2 t k) = _
  rw [v6_eq]
  exact Cert.Moe.drop_mid _ _ t k

theorem ids_apply (k : Fin 2) (t : Fin 32) : (arrOf m c).ids (ix2 k t) = (m ((c : Thread nD τ).loc main_arg1) : IVec S32x1x2 32) (ix3 t 0 k) := by
  rw [ids_eq]
  pointwise

theorem gates_apply (k : Fin 2) (t : Fin 32) : (arrOf m c).gates (ix2 k t) = (m ((c : Thread nD τ).loc main_arg2) : FVec Ideal S32x1x2 .f32) (ix3 t 0 k) := by
  rw [gates_eq]
  pointwise

theorem cast4 {n : ℕ} {α : Type} (v : (⟨4, ![4, 8, 16, n]⟩ : Shape).Idx → α) (h : (⟨4, ![4, 8, 16, n]⟩ : Shape).ShapeCasts (⟨3, ![4, 128, n]⟩ : Shape))
    (e : Fin 4) (a : Fin 8) (q : Fin 16) (k : Fin n) : shapeCast (⟨3, ![4, 128, n]⟩ : Shape) v h (ix3 e (finProdFinEquiv (a, q)) k) = v (ix4 e a q k) := by
  refine congrArg v (Shape.reshapeEquiv_eq_of_rowMajor _ ((Shape.rowMajor_val_four (d := ![4, 8, 16, n]) _).trans
    (Eq.trans ?_ (Shape.rowMajor_val_three (d := ![4, 128, n]) _).symm)))
  show ((e.val * 8 + a.val) * 16 + q.val) * n + k.val = (e.val * 128 + (finProdFinEquiv (a, q)).val) * n + k.val
  have : (finProdFinEquiv (a, q)).val = q.val + 16 * a.val := rfl
  rw [this, show (e.val * 8 + a.val) * 16 + q.val = e.val * 128 + (q.val + 16 * a.val) by ring]

theorem la_apply (e : Fin 4) (a : Fin 8) (k : Fin 7168) (q : Fin 16) :
    (arrOf m c).la (ix3 e (finProdFinEquiv (a, q)) k) = (m ((c : Thread nD τ).loc main_arg8) : FVec Ideal S4x8x7168x16 .bf16) (ix4 e a k q) := by
  show (V m c main_v8 : FVec Ideal S4x128x7168 .bf16) (ix3 e (finProdFinEquiv (a, q)) k) = _
  rw [v8_eq]
  refine (cast4 _ _ e a q k).trans ?_
  pointwise

theorem lb_apply (e : Fin 4) (a : Fin 8) (q : Fin 16) (n : Fin 4096) :
    (arrOf m c).lb (ix3 e (finProdFinEquiv (a, q)) n) = (m ((c : Thread nD τ).loc main_arg9) : FVec Ideal S4x8x16x4096 .bf16) (ix4 e a q n) := by
  show (V m c main_v9 : FVec Ideal S4x128x4096 .bf16) (ix3 e (finProdFinEquiv (a, q)) n) = _
  rw [v9_eq]
  exact cast4 _ _ e a q n

/-- What the kernel computes from, over the program's arguments. -/
def argsK : Cert.Moe.In := Cert.Moe.ofArgs (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem inK_eq : inK (arrOf m c) = argsK m c := by
  unfold inK argsK Cert.Moe.ofArgs
  congr 1
  · funext t k; exact x_apply m c t k
  · funext k t; exact ids_apply m c k t
  · funext k t; exact gates_apply m c k t
  · funext t; exact adapters_apply m c t
  · funext e a k q; exact la_apply m c e a k q
  · funext e a q n; exact lb_apply m c e a q n

/-! ## The results -/

theorem after11 (W : Valuation τ sig (Elt Ideal)) : StableHlo.after [hostOps1 (F := Ideal)].flatten W (Proc.devRef .tc main_v11)
    = shapeCast S32x1x7168 (W (Proc.devRef .tc main_v10_0) : FVec Ideal S32x7168 .bf16) shapeCasts_S32x7168_S32x1x7168 := by
  simp only [List.flatten_cons, List.flatten_nil, List.append_nil]
  after_results
  rfl
theorem after12 (W : Valuation τ sig (Elt Ideal)) : StableHlo.after [hostOps1 (F := Ideal)].flatten W (Proc.devRef .tc main_v12)
    = shapeCast S32x1x7168 (W (Proc.devRef .tc main_v10_1) : FVec Ideal S32x7168 .fp8e4m3) shapeCasts_S32x7168_S32x1x7168 := by
  simp only [List.flatten_cons, List.flatten_nil, List.append_nil]
  after_results
  rfl
theorem after13 (W : Valuation τ sig (Elt Ideal)) : StableHlo.after [hostOps1 (F := Ideal)].flatten W (Proc.devRef .tc main_v13)
    = shapeCast S32x1x1 (W (Proc.devRef .tc main_v10_2) : FVec Ideal S1x32 .f32) shapeCasts_S1x32_S32x1x1 := by
  simp only [List.flatten_cons, List.flatten_nil, List.append_nil]
  after_results
  rfl

theorem held (b : Ref sig .tc) (hb : b ∈ R0) (A : (w : Fin cfg0.W) → Buf (Elt Ideal) ((cfg0.spec w).arr.view.loc (c.tc : Thread nD τ))) :
    Pipeline.withArrays cfg0.spec c (Pipeline.withR (V0 m c) R0 c (GV m c)) A (Proc.devRef .tc b) = GV m c b :=
  (Pipeline.withArrays_of_ne _ c _ _ b fun w => w.elim0).trans (Pipeline.withR_of_mem _ _ c _ b hb)

/-- The three results as arrays, of the computation's inputs. -/
def res0 (A : Cert.Moe.In) : FVec Ideal S32x7168 .bf16 := fun i => Cert.Moe.out A (i 0) (i 1)
def res1 (A : Cert.Moe.In) : FVec Ideal S32x7168 .fp8e4m3 := fun i => Cert.Moe.code A (i 0) (i 1)
def res2 (A : Cert.Moe.In) : FVec Ideal S32x1x1 .f32 := fun i => Cert.Moe.xS A (i 0)

theorem yK_eq : yK (arrOf m c) = res0 (argsK m c) := by rw [← inK_eq]; rfl
theorem codesQ_eq : codesQ (arrOf m c) = res1 (argsK m c) := by
  rw [← inK_eq]
  funext i
  rw [Cert.Moe.idx2 i]
  exact codesQ_apply _ _ _

theorem scale_apply {α : Type} (v : S1x32.Idx → α) (i : S32x1x1.Idx) : shapeCast S32x1x1 v shapeCasts_S1x32_S32x1x1 i = v (ix2 0 (i 0)) := by
  refine congrArg v (Shape.reshapeEquiv_eq_of_rowMajor _ ((Shape.rowMajor_val_two (d := ![1, 32]) _).trans
    (Eq.trans ?_ (Shape.rowMajor_val_three (d := ![32, 1, 1]) _).symm)))
  have h1 : (i 1).val < 1 := (i 1).isLt
  have h2 : (i 2).val < 1 := (i 2).isLt
  show 0 * 32 + (i 0).val = ((i 0).val * 1 + (i 1).val) * 1 + (i 2).val
  omega

theorem scQ_eq : shapeCast S32x1x1 (scQ (arrOf m c)) shapeCasts_S1x32_S32x1x1 = res2 (argsK m c) := by
  rw [← inK_eq]
  funext i
  rw [scale_apply]
  exact scQ_apply _ _

theorem results (he : ∀ c, ∃ e, (arrOf m c).ids (ix2 0 0) = ev e) :
    θ_run defs (onTc (τ := τ) (main (F := Ideal))) ⟨m, fun _ => 0, ρ⟩ (fun r => ∀ c : Dev nD,
      r.2.mem ((c.tc : Thread nD τ).loc main_v11) = shapeCast S32x1x7168 (res0 (argsK m c)) shapeCasts_S32x7168_S32x1x7168
      ∧ r.2.mem ((c.tc : Thread nD τ).loc main_v12) = shapeCast S32x1x7168 (res1 (argsK m c)) shapeCasts_S32x7168_S32x1x7168
      ∧ r.2.mem ((c.tc : Thread nD τ).loc main_v13) = res2 (argsK m c)) :=
  (θ_run defs _ _).mono (fun r h c => ⟨
    ((h.1 c).2 main_v11 (Pipeline.mem_restRefs_of main_v11 (by decide) (by decide))).trans ((after11 _).trans
      (congrArg (fun v => shapeCast S32x1x7168 v shapeCasts_S32x7168_S32x1x7168) ((held m c main_v10_0 (by decide) _).trans ((GV0 m c).trans (yK_eq m c))))),
    ((h.1 c).2 main_v12 (Pipeline.mem_restRefs_of main_v12 (by decide) (by decide))).trans ((after12 _).trans
      (congrArg (fun v => shapeCast S32x1x7168 v shapeCasts_S32x7168_S32x1x7168) ((held m c main_v10_1 (by decide) _).trans ((GV1 m c).trans (codesQ_eq m c))))),
    ((h.1 c).2 main_v13 (Pipeline.mem_restRefs_of main_v13 (by decide) (by decide))).trans ((after13 _).trans
      ((congrArg (fun v => shapeCast S32x1x1 v shapeCasts_S1x32_S32x1x1) ((held m c main_v10_2 (by decide) _).trans (GV2 m c))).trans (scQ_eq m c)))⟩) (run_mainV m ρ he)

end Cert.KernelIdeal.Hand
end
-- ==== Proof.RefVal.lean ====
/-
  Hand-written, untrusted. What the reference computes, element by element. Its body is written out expert by expert; here the same value is
  stated once for every expert and every adapter.
-/
module

public import proofs.«01_k».proof.Proof.Gen.ReferenceIdeal.Frame
public import Idealize.ShloMosaic.Lib.Pipeline.ValueKit
public import proofs.«01_k».proof.Proof.Spec

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Moe (siluS hS amaxS expS codeS two top bot)

/-! ## The payloads -/

theorem pay6_apply (x : Vec Ideal S32x7168 .bf16) (a : Fin 32) (b : Fin 7168) :
    k0_pay6 x (ix2 a b) = codeS (x (ix2 a b)) (expS (amaxS (fun k => x (ix2 a k)) * Cert.Moe.inv)) := by
  unfold codeS expS amaxS top bot two Cert.Moe.inv
  pointwise [k0_pay6, k0_pay4, k0_pay3, k0_pay2]
  rfl

theorem pay5_apply (x : Vec Ideal S32x7168 .bf16) (a : Fin 32) :
    k0_pay5 x (ix2 a 0) = Ideal.exp2 (expS (amaxS (fun k => x (ix2 a k)) * Cert.Moe.inv)) := by
  unfold expS amaxS two Cert.Moe.inv
  pointwise [k0_pay5, k0_pay4, k0_pay3, k0_pay2]
  rfl

theorem pay31_apply (s : FVec Ideal S32x1 .f32) (c : FVec Ideal S32x7168 .fp8e4m3) (w : Vec Ideal S1x7168x4096 .fp8e4m3) (u : Vec Ideal S1x4096 .f32) (a : Fin 32) (b : Fin 4096) :
    k0_pay31 s c w u (ix2 a b) = (∑ x, c (ix2 a x) * w (ix3 0 x b)) * s (ix2 a 0) * u (ix2 0 b) := by
  pointwise [k0_pay31]

section Defs
variable {F : FTy → Type} [FloatOps F]

/-- One adapter's correction, added for the tokens that have it. -/
def addA (n : BitVec 32) (x : FVec F S32x7168 .bf16) (ad : Vec F S32x1 .i32) (la : Vec F S1x1x7168x16 .bf16) (lb : Vec F S1x1x16x4096 .bf16)
    (acc : FVec F S32x4096 .f32) : FVec F S32x4096 .f32 :=
  have la1 : FVec F S7168x16 .bf16 := shapeCast S7168x16 la shapeCasts_S1x1x7168x16_S7168x16
  have z16 : FVec F S32x16 .f32 := constant S32x16 .f32 0x00000000#32
  have p : FVec F S32x16 .f32 := matmul dot_S32x7168_S7168x16_S32x16_1_0_0_1_n_n none x la1 z16
  have pb : FVec F S32x16 .bf16 := truncf .bf16 p bitsLt_bf16_f32
  have ad1 : IVec S32x1 32 := shapeCast S32x1 ad shapeCasts_S32x1_S32x1
  have n1 : IVec S32x1 32 := broadcast S32x1 n
  have m : IVec S32x1 1 := cmpi .eq ad1 n1
  have lb1 : FVec F S16x4096 .bf16 := shapeCast S16x4096 lb shapeCasts_S1x1x16x4096_S16x4096
  have z : FVec F S32x4096 .f32 := constant S32x4096 .f32 0x00000000#32
  have q : FVec F S32x4096 .f32 := matmul dot_S32x16_S16x4096_S32x4096_1_0_0_1_n_n none pb lb1 z
  have c0 : F .f32 := Scalar.ofBits .f32 0x00000000#32
  have m1 : IVec S32x1 1 := shapeCast S32x1 m shapeCasts_S32x1_S32x1
  have m2 : IVec S32x4096 1 := broadcastTo S32x4096 m1 broadcasts_S32x1_S32x4096
  have zb : FVec F S32x4096 .f32 := broadcast S32x4096 c0
  have s : FVec F S32x4096 .f32 := select m2 q zb
  addf acc s

/-- Twice a matrix. -/
def dbl (v : FVec F S32x4096 .f32) : FVec F S32x4096 .f32 :=
  have c : F .f32 := Scalar.ofBits .f32 0x40000000#32
  have cb : FVec F S32x4096 .f32 := broadcast S32x4096 c
  mulf cb v

/-- One expert's part, weighted by the gate, added to the result. -/
def addE (n : BitVec 32) (i0 i1 : Vec F S32x1 .i32) (g0 g1 : Vec F S32x1 .f32) (v : FVec F S32x7168 .f32) (acc : FVec F S32x7168 .f32) : FVec F S32x7168 .f32 :=
  have z : F .f32 := Scalar.ofBits .f32 0x00000000#32
  have zb : FVec F S32x1 .f32 := broadcast S32x1 z
  have nb : IVec S32x1 32 := broadcast S32x1 n
  have j0 : IVec S32x1 32 := shapeCast S32x1 i0 shapeCasts_S32x1_S32x1
  have m0 : IVec S32x1 1 := cmpi .eq j0 nb
  have h0 : FVec F S32x1 .f32 := shapeCast S32x1 g0 shapeCasts_S32x1_S32x1
  have s0 : FVec F S32x1 .f32 := select m0 h0 zb
  have a0 : FVec F S32x1 .f32 := addf zb s0
  have j1 : IVec S32x1 32 := shapeCast S32x1 i1 shapeCasts_S32x1_S32x1
  have m1 : IVec S32x1 1 := cmpi .eq j1 nb
  have h1 : FVec F S32x1 .f32 := shapeCast S32x1 g1 shapeCasts_S32x1_S32x1
  have s1 : FVec F S32x1 .f32 := select m1 h1 zb
  have a1 : FVec F S32x1 .f32 := addf a0 s1
  have ab : FVec F S32x7168 .f32 := broadcastTo S32x7168 a1 broadcasts_S32x1_S32x7168
  have t : FVec F S32x7168 .f32 := mulf v ab
  addf acc t

end Defs

theorem addA_apply (n : BitVec 32) (x : FVec Ideal S32x7168 .bf16) (ad : Vec Ideal S32x1 .i32) (la : Vec Ideal S1x1x7168x16 .bf16) (lb : Vec Ideal S1x1x16x4096 .bf16)
    (acc : FVec Ideal S32x4096 .f32) (a : Fin 32) (b : Fin 4096) : addA n x ad la lb acc (ix2 a b)
    = acc (ix2 a b) + Scalar.select (IntOp.cmpi .eq (ad (ix2 a 0)) n) (∑ q, (∑ k, x (ix2 a k) * la (ix4 0 0 k q)) * lb (ix4 0 0 q b)) 0 := by
  pointwise [addA]

theorem dbl_apply (v : FVec Ideal S32x4096 .f32) (a : Fin 32) (b : Fin 4096) : dbl v (ix2 a b) = two * v (ix2 a b) := by
  unfold two
  pointwise [dbl]

/-- The activation of one row, from the first product and its correction. -/
def actR (x z : FVec Ideal S32x4096 .f32) (a : Fin 32) (j : Fin 2048) : EReal :=
  siluS (x (ix2 a ⟨j.val, by omega⟩) + z (ix2 a ⟨j.val, by omega⟩)) (x (ix2 a ⟨2048 + j.val, by omega⟩) + z (ix2 a ⟨2048 + j.val, by omega⟩))

theorem pay37_apply (x z : FVec Ideal S32x4096 .f32) (w : Vec Ideal S1x2048x7168 .fp8e4m3) (u : Vec Ideal S1x7168 .f32) (a : Fin 32) (b : Fin 7168) :
    k0_pay37 x z w u (ix2 a b)
      = (∑ j, codeS (actR x z a j) (expS (amaxS (actR x z a) * Cert.Moe.inv)) * w (ix3 0 j b)) * Ideal.exp2 (expS (amaxS (actR x z a) * Cert.Moe.inv)) * u (ix2 0 b) := by
  pointwise [k0_pay37]
  rfl

theorem addE_apply (n : BitVec 32) (i0 i1 : Vec Ideal S32x1 .i32) (g0 g1 : Vec Ideal S32x1 .f32) (v : FVec Ideal S32x7168 .f32) (acc : FVec Ideal S32x7168 .f32) (a : Fin 32) (b : Fin 7168) :
    addE n i0 i1 g0 g1 v acc (ix2 a b)
      = acc (ix2 a b) + v (ix2 a b) * (Scalar.select (IntOp.cmpi .eq (i0 (ix2 a 0)) n) (g0 (ix2 a 0)) 0 + Scalar.select (IntOp.cmpi .eq (i1 (ix2 a 0)) n) (g1 (ix2 a 0)) 0) := by
  pointwise [addE]

/-! ## The reads -/

abbrev rU (e : Fin 4) : Rect S4x7168x4096 := Rect.unit (s := S4x7168x4096) ![e.val, 0, 0] S1x7168x4096.size (by revert e; decide)
abbrev rS (e : Fin 4) : Rect S4x4096 := Rect.unit (s := S4x4096) ![e.val, 0] S1x4096.size (by revert e; decide)
abbrev rD (e : Fin 4) : Rect S4x2048x7168 := Rect.unit (s := S4x2048x7168) ![e.val, 0, 0] S1x2048x7168.size (by revert e; decide)
abbrev rT (e : Fin 4) : Rect S4x7168 := Rect.unit (s := S4x7168) ![e.val, 0] S1x7168.size (by revert e; decide)
abbrev rA (e : Fin 4) (a : Fin 8) : Rect S4x8x7168x16 := Rect.unit (s := S4x8x7168x16) ![e.val, a.val, 0, 0] S1x1x7168x16.size (by revert e a; decide)
abbrev rB (e : Fin 4) (a : Fin 8) : Rect S4x8x16x4096 := Rect.unit (s := S4x8x16x4096) ![e.val, a.val, 0, 0] S1x1x16x4096.size (by revert e a; decide)

section Value
variable {F : FTy → Type} [FloatOps F]
variable (x0 : Vec F S32x2 .i32) (x1 : Vec F S32x2 .f32) (x2 : Vec F S32x1 .i32) (x3 : Vec F S32x7168 .bf16)
  (x4 : Vec F S4x7168x4096 .fp8e4m3) (x5 : Vec F S4x4096 .f32) (x6 : Vec F S4x2048x7168 .fp8e4m3) (x7 : Vec F S4x7168 .f32)
  (x8 : Vec F S4x8x7168x16 .bf16) (x9 : Vec F S4x8x16x4096 .bf16)

/-- The corrections of the first adapters. -/
def corr (e : Fin 4) (a : Fin 8) (acc : FVec F S32x4096 .f32) : FVec F S32x4096 .f32 :=
  addA (BitVec.ofNat 32 a.val) (k0_pay2 (View.ld x3 r0_0)) (View.ld x2 r0_1) (View.ld x8 (rA e a)) (View.ld x9 (rB e a)) acc

def corrs (e : Fin 4) : FVec F S32x4096 .f32 :=
  corr x2 x3 x8 x9 e 7 (corr x2 x3 x8 x9 e 6 (corr x2 x3 x8 x9 e 5 (corr x2 x3 x8 x9 e 4 (corr x2 x3 x8 x9 e 3 (corr x2 x3 x8 x9 e 2
    (corr x2 x3 x8 x9 e 1 (corr x2 x3 x8 x9 e 0 (k0_pay32 (F := F)))))))))

def exR (e : Fin 4) (acc : FVec F S32x7168 .f32) : FVec F S32x7168 .f32 :=
  addE (BitVec.ofNat 32 e.val) (View.ld x0 r0_22) (View.ld x0 r0_23) (View.ld x1 r0_22) (View.ld x1 r0_23)
    (k0_pay37 (k0_pay31 (k0_pay5 (View.ld x3 r0_0)) (k0_pay6 (View.ld x3 r0_0)) (View.ld x4 (rU e)) (View.ld x5 (rS e))) (dbl (corrs x2 x3 x8 x9 e))
      (View.ld x6 (rD e)) (View.ld x7 (rT e))) acc

def outR : FVec F S32x7168 .bf16 :=
  truncf .bf16 (exR x0 x1 x2 x3 x4 x5 x6 x7 x8 x9 3 (exR x0 x1 x2 x3 x4 x5 x6 x7 x8 x9 2 (exR x0 x1 x2 x3 x4 x5 x6 x7 x8 x9 1
    (exR x0 x1 x2 x3 x4 x5 x6 x7 x8 x9 0 (k0_pay7 (F := F)))))) bitsLt_bf16_f32

set_option maxHeartbeats 1000000 in
theorem out_eq : out0_10 x0 x1 x2 x3 x4 x5 x6 x7 x8 x9 = View.canon [⟨r0_0, outR x0 x1 x2 x3 x4 x5 x6 x7 x8 x9⟩] := by
  unfold out0_10
  rfl

end Value

section Ideal
variable (x0 : Vec Ideal S32x2 .i32) (x1 : Vec Ideal S32x2 .f32) (x2 : Vec Ideal S32x1 .i32) (x3 : Vec Ideal S32x7168 .bf16)
  (x4 : Vec Ideal S4x7168x4096 .fp8e4m3) (x5 : Vec Ideal S4x4096 .f32) (x6 : Vec Ideal S4x2048x7168 .fp8e4m3) (x7 : Vec Ideal S4x7168 .f32)
  (x8 : Vec Ideal S4x8x7168x16 .bf16) (x9 : Vec Ideal S4x8x16x4096 .bf16)

/-- The reference's arrays as functions. -/
def inR : Cert.Moe.In where
  x t k := x3 (ix2 t k)
  ids k t := x0 (ix2 t k)
  gt k t := x1 (ix2 t k)
  ad t := x2 (ix2 t 0)
  wu e k n := x4 (ix3 e k n)
  us e n := x5 (ix2 e n)
  wd e j d := x6 (ix3 e j d)
  ds e d := x7 (ix2 e d)
  la e a k q := x8 (ix4 e a k q)
  lb e a q n := x9 (ix4 e a q n)

end Ideal

end Cert.ReferenceIdeal.Hand
end
-- ==== Proof.RefOut.lean ====
/-
  Hand-written, untrusted. The reference's three results, element by element.
-/
module

public import proofs.«01_k».proof.Proof.RefVal

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Moe (siluS hS amaxS expS codeS two top bot)

variable (x0 : Vec Ideal S32x2 .i32) (x1 : Vec Ideal S32x2 .f32) (x2 : Vec Ideal S32x1 .i32) (x3 : Vec Ideal S32x7168 .bf16)
  (x4 : Vec Ideal S4x7168x4096 .fp8e4m3) (x5 : Vec Ideal S4x4096 .f32) (x6 : Vec Ideal S4x2048x7168 .fp8e4m3) (x7 : Vec Ideal S4x7168 .f32)
  (x8 : Vec Ideal S4x8x7168x16 .bf16) (x9 : Vec Ideal S4x8x16x4096 .bf16)

/-! ## The reads -/

theorem ldU (e : Fin 4) (a : Fin 7168) (b : Fin 4096) : View.ld x4 (rU e) (ix3 0 a b) = x4 (ix3 e a b) := by
  refine congrArg x4 (funext fun i => ?_)
  match i with
  | ⟨0, _⟩ => exact Fin.ext (show e.val + 1 * 0 = e.val by omega)
  | ⟨1, _⟩ => exact Fin.ext (show 0 + 1 * a.val = a.val by omega)
  | ⟨2, _⟩ => exact Fin.ext (show 0 + 1 * b.val = b.val by omega)

theorem ldS (e : Fin 4) (b : Fin 4096) : View.ld x5 (rS e) (ix2 0 b) = x5 (ix2 e b) := by
  refine congrArg x5 (funext fun i => ?_)
  match i with
  | ⟨0, _⟩ => exact Fin.ext (show e.val + 1 * 0 = e.val by omega)
  | ⟨1, _⟩ => exact Fin.ext (show 0 + 1 * b.val = b.val by omega)

theorem ldD (e : Fin 4) (a : Fin 2048) (b : Fin 7168) : View.ld x6 (rD e) (ix3 0 a b) = x6 (ix3 e a b) := by
  refine congrArg x6 (funext fun i => ?_)
  match i with
  | ⟨0, _⟩ => exact Fin.ext (show e.val + 1 * 0 = e.val by omega)
  | ⟨1, _⟩ => exact Fin.ext (show 0 + 1 * a.val = a.val by omega)
  | ⟨2, _⟩ => exact Fin.ext (show 0 + 1 * b.val = b.val by omega)

theorem ldT (e : Fin 4) (b : Fin 7168) : View.ld x7 (rT e) (ix2 0 b) = x7 (ix2 e b) := by
  refine congrArg x7 (funext fun i => ?_)
  match i with
  | ⟨0, _⟩ => exact Fin.ext (show e.val + 1 * 0 = e.val by omega)
  | ⟨1, _⟩ => exact Fin.ext (show 0 + 1 * b.val = b.val by omega)

theorem ldA (e : Fin 4) (a : Fin 8) (k : Fin 7168) (q : Fin 16) : View.ld x8 (rA e a) (ix4 0 0 k q) = x8 (ix4 e a k q) := by
  refine congrArg x8 (funext fun i => ?_)
  match i with
  | ⟨0, _⟩ => exact Fin.ext (show e.val + 1 * 0 = e.val by omega)
  | ⟨1, _⟩ => exact Fin.ext (show a.val + 1 * 0 = a.val by omega)
  | ⟨2, _⟩ => exact Fin.ext (show 0 + 1 * k.val = k.val by omega)
  | ⟨3, _⟩ => exact Fin.ext (show 0 + 1 * q.val = q.val by omega)

theorem ldB (e : Fin 4) (a : Fin 8) (q : Fin 16) (n : Fin 4096) : View.ld x9 (rB e a) (ix4 0 0 q n) = x9 (ix4 e a q n) := by
  refine congrArg x9 (funext fun i => ?_)
  match i with
  | ⟨0, _⟩ => exact Fin.ext (show e.val + 1 * 0 = e.val by omega)
  | ⟨1, _⟩ => exact Fin.ext (show a.val + 1 * 0 = a.val by omega)
  | ⟨2, _⟩ => exact Fin.ext (show 0 + 1 * q.val = q.val by omega)
  | ⟨3, _⟩ => exact Fin.ext (show 0 + 1 * n.val = n.val by omega)

theorem ldX : View.ld x3 r0_0 = x3 := by
  funext j
  refine congrArg x3 (funext fun i => ?_)
  match i with
  | ⟨0, _⟩ => exact Fin.ext (show 0 + 1 * (j 0).val = (j 0).val by omega)
  | ⟨1, _⟩ => exact Fin.ext (show 0 + 1 * (j 1).val = (j 1).val by omega)

theorem ldAd : View.ld x2 r0_1 = x2 := by
  funext j
  refine congrArg x2 (funext fun i => ?_)
  match i with
  | ⟨0, _⟩ => exact Fin.ext (show 0 + 1 * (j 0).val = (j 0).val by omega)
  | ⟨1, _⟩ => exact Fin.ext (show 0 + 1 * (j 1).val = (j 1).val by omega)

theorem ldI0 {α : EltTy} (x : Vec Ideal S32x2 α) (a : Fin 32) : View.ld x r0_22 (ix2 a 0) = x (ix2 a 0) := by
  refine congrArg x (funext fun i => ?_)
  match i with
  | ⟨0, _⟩ => exact Fin.ext (show 0 + 1 * a.val = a.val by omega)
  | ⟨1, _⟩ => exact Fin.ext (show 0 + 1 * 0 = 0 by omega)

theorem ldI1 {α : EltTy} (x : Vec Ideal S32x2 α) (a : Fin 32) : View.ld x r0_23 (ix2 a 0) = x (ix2 a 1) := by
  refine congrArg x (funext fun i => ?_)
  match i with
  | ⟨0, _⟩ => exact Fin.ext (show 0 + 1 * a.val = a.val by omega)
  | ⟨1, _⟩ => exact Fin.ext (show 1 + 1 * 0 = 1 by omega)

/-! ## One expert -/

theorem select_eq {n : ℕ} (x y : BitVec n) (u v : EReal) : Scalar.select (IntOp.cmpi .eq x y) u v = if x = y then u else v := by
  have h : IntOp.cmpi .eq x y = BitVec.ofBool (x == y) := rfl
  rw [h]
  by_cases hxy : x = y
  · rw [if_pos hxy, beq_iff_eq.2 hxy]; rfl
  · rw [if_neg hxy, beq_eq_false_iff_ne.2 hxy]; rfl

theorem pay2_apply (x : Vec Ideal S32x7168 .bf16) (a : Fin 32) (b : Fin 7168) : k0_pay2 x (ix2 a b) = x (ix2 a b) := by
  pointwise [k0_pay2]

theorem corr_apply (e : Fin 4) (a : Fin 8) (acc : FVec Ideal S32x4096 .f32) (t : Fin 32) (n : Fin 4096) :
    corr x2 x3 x8 x9 e a acc (ix2 t n) = acc (ix2 t n) + if (inR x0 x1 x2 x3 x4 x5 x6 x7 x8 x9).ad t = BitVec.ofNat 32 a.val then Cert.Moe.lora (inR x0 x1 x2 x3 x4 x5 x6 x7 x8 x9) e t a n else 0 := by
  unfold corr
  rw [addA_apply, select_eq, ldAd]
  refine congrArg (acc (ix2 t n) + ·) (if_congr Iff.rfl (Finset.sum_congr rfl fun q _ => ?_) rfl)
  rw [ldB]
  refine congrArg (· * x9 (ix4 e a q n)) (Finset.sum_congr rfl fun k _ => ?_)
  rw [ldA, pay2_apply, ldX]
  rfl

theorem corrs_apply (e : Fin 4) (t : Fin 32) (n : Fin 4096) : corrs x2 x3 x8 x9 e (ix2 t n) = Cert.Moe.delta (inR x0 x1 x2 x3 x4 x5 x6 x7 x8 x9) e t n := by
  have h0 : (k0_pay32 (F := Ideal)) (ix2 t n) = 0 := by pointwise [k0_pay32]
  unfold corrs Cert.Moe.delta
  simp only [corr_apply x0 x1 x2 x3 x4 x5 x6 x7 x8 x9, h0, Fin.sum_univ_eight, zero_add]

theorem actR_eq (e : Fin 4) (t : Fin 32) :
    actR (k0_pay31 (k0_pay5 (View.ld x3 r0_0)) (k0_pay6 (View.ld x3 r0_0)) (View.ld x4 (rU e)) (View.ld x5 (rS e))) (dbl (corrs x2 x3 x8 x9 e)) t
      = Cert.Moe.act (inR x0 x1 x2 x3 x4 x5 x6 x7 x8 x9) e t := by
  have h : ∀ n, k0_pay31 (k0_pay5 (View.ld x3 r0_0)) (k0_pay6 (View.ld x3 r0_0)) (View.ld x4 (rU e)) (View.ld x5 (rS e)) (ix2 t n)
      + dbl (corrs x2 x3 x8 x9 e) (ix2 t n) = Cert.Moe.hid (inR x0 x1 x2 x3 x4 x5 x6 x7 x8 x9) e t n := by
    intro n
    rw [pay31_apply, dbl_apply, corrs_apply x0 x1 x2 x3 x4 x5 x6 x7 x8 x9, pay5_apply, ldS, ldX]
    unfold Cert.Moe.hid hS
    refine congrArg (fun z => z * _ * _ + _) (Finset.sum_congr rfl fun k _ => ?_)
    rw [pay6_apply, ldU]
    rfl
  funext j
  unfold actR Cert.Moe.act
  rw [h, h]

theorem exR_apply (e : Fin 4) (acc : FVec Ideal S32x7168 .f32) (t : Fin 32) (d : Fin 7168) :
    exR x0 x1 x2 x3 x4 x5 x6 x7 x8 x9 e acc (ix2 t d) = acc (ix2 t d) + Cert.Moe.term (inR x0 x1 x2 x3 x4 x5 x6 x7 x8 x9) e t d := by
  unfold exR
  rw [addE_apply, pay37_apply, actR_eq x0 x1 x2 x3 x4 x5 x6 x7 x8 x9, select_eq, select_eq, ldI0, ldI1, ldI0, ldI1, ldT]
  refine congrArg (acc (ix2 t d) + ·) ?_
  unfold Cert.Moe.term Cert.Moe.gate
  refine congrArg (fun z => z * _ * _ * _) (Finset.sum_congr rfl fun k _ => ?_)
  rw [ldD]
  rfl

theorem outR_apply (t : Fin 32) (d : Fin 7168) : outR x0 x1 x2 x3 x4 x5 x6 x7 x8 x9 (ix2 t d) = Cert.Moe.out (inR x0 x1 x2 x3 x4 x5 x6 x7 x8 x9) t d := by
  have h0 : (k0_pay7 (F := Ideal)) (ix2 t d) = 0 := by pointwise [k0_pay7]
  have ht : ∀ v : FVec Ideal S32x7168 .f32, (truncf .bf16 v bitsLt_bf16_f32 : FVec Ideal S32x7168 .bf16) (ix2 t d) = v (ix2 t d) := fun v => rfl
  unfold outR Cert.Moe.out
  rw [ht]
  simp only [exR_apply, h0, Fin.sum_univ_four, zero_add]

/-! ## The results -/

theorem out10 (t : Fin 32) (d : Fin 7168) : out0_10 x0 x1 x2 x3 x4 x5 x6 x7 x8 x9 (ix2 t d) = Cert.Moe.out (inR x0 x1 x2 x3 x4 x5 x6 x7 x8 x9) t d := by
  have h : out0_10 x0 x1 x2 x3 x4 x5 x6 x7 x8 x9 = outR x0 x1 x2 x3 x4 x5 x6 x7 x8 x9 := by
    rw [out_eq]
    generalize outR x0 x1 x2 x3 x4 x5 x6 x7 x8 x9 = v
    frame_out
  rw [h, outR_apply]

theorem out11 (t : Fin 32) (d : Fin 7168) : out0_11 x0 x1 x2 x3 x4 x5 x6 x7 x8 x9 (ix2 t d) = Cert.Moe.code (inR x0 x1 x2 x3 x4 x5 x6 x7 x8 x9) t d := by
  have h : out0_11 x0 x1 x2 x3 x4 x5 x6 x7 x8 x9 = k0_pay6 (View.ld x3 r0_0) := by
    unfold out0_11
    frame_out
  rw [h, pay6_apply, ldX]
  rfl

theorem out12 (t : Fin 32) : out0_12 x0 x1 x2 x3 x4 x5 x6 x7 x8 x9 (ix2 t 0) = Cert.Moe.xS (inR x0 x1 x2 x3 x4 x5 x6 x7 x8 x9) t := by
  have h : out0_12 x0 x1 x2 x3 x4 x5 x6 x7 x8 x9 = k0_pay5 (View.ld x3 r0_0) := by
    unfold out0_12
    frame_out
  rw [h, pay5_apply, ldX]
  rfl

end Cert.ReferenceIdeal.Hand
end
-- ==== Proof.RefRun.lean ====
/-
  Hand-written, untrusted. The reference's program over the extended reals: its three results over its arguments.
-/
module

public import proofs.«01_k».proof.Proof.RefOut
public import proofs.«01_k».proof.Proof.Args
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

/-! ## The blocks are the arrays -/

theorem idx : ∀ t : Fin cfg0.N, win0_0.index t = ![0, 0] ∧ win0_1.index t = ![0, 0] ∧ win0_2.index t = ![0, 0] ∧ win0_3.index t = ![0, 0] ∧ win0_4.index t = ![0, 0, 0]
    ∧ win0_5.index t = ![0, 0] ∧ win0_6.index t = ![0, 0, 0] ∧ win0_7.index t = ![0, 0] ∧ win0_8.index t = ![0, 0, 0, 0] ∧ win0_9.index t = ![0, 0, 0, 0]
    ∧ win0_10.index t = ![0, 0] ∧ win0_11.index t = ![0, 0] ∧ win0_12.index t = ![0, 0] :=
  (by decide +kernel : ∀ t : Fin grid0.N, _)

theorem iblk0 : iblk m c 0 t0_0 = V m c main_v0 := by blk_ext! [iblk, idx t0_0]
theorem iblk1 : iblk m c 1 t0_0 = V m c main_v1 := by blk_ext! [iblk, idx t0_0]
theorem iblk2 : iblk m c 2 t0_0 = V m c main_v2 := by blk_ext! [iblk, idx t0_0]
theorem iblk3 : iblk m c 3 t0_0 = V m c main_v3 := by blk_ext! [iblk, idx t0_0]
theorem iblk4 : iblk m c 4 t0_0 = m ((c : Thread nD τ).loc main_arg4) := by blk_ext! [iblk, V, idx t0_0]
theorem iblk5 : iblk m c 5 t0_0 = m ((c : Thread nD τ).loc main_arg5) := by blk_ext! [iblk, V, idx t0_0]
theorem iblk6 : iblk m c 6 t0_0 = m ((c : Thread nD τ).loc main_arg6) := by blk_ext! [iblk, V, idx t0_0]
theorem iblk7 : iblk m c 7 t0_0 = m ((c : Thread nD τ).loc main_arg7) := by blk_ext! [iblk, V, idx t0_0]
theorem iblk8 : iblk m c 8 t0_0 = m ((c : Thread nD τ).loc main_arg8) := by blk_ext! [iblk, V, idx t0_0]
theorem iblk9 : iblk m c 9 t0_0 = m ((c : Thread nD τ).loc main_arg9) := by blk_ext! [iblk, V, idx t0_0]

theorem v0_eq : (V m c main_v0 : IVec S32x2 32) = shapeCast S32x2 (m ((c : Thread nD τ).loc main_arg1) : IVec S32x1x2 32) shapeCasts_S32x1x2_S32x2 := by
  show StableHlo.after (List.flatten [hostOps0]) (fun b => m (c, b)) (Proc.devRef .tc main_v0) = _
  simp only [List.flatten_cons, List.flatten_nil, List.append_nil]
  after_results
  rfl

theorem v1_eq : (V m c main_v1 : FVec Ideal S32x2 .f32) = shapeCast S32x2 (m ((c : Thread nD τ).loc main_arg2) : FVec Ideal S32x1x2 .f32) shapeCasts_S32x1x2_S32x2 := by
  show StableHlo.after (List.flatten [hostOps0]) (fun b => m (c, b)) (Proc.devRef .tc main_v1) = _
  simp only [List.flatten_cons, List.flatten_nil, List.append_nil]
  after_results
  rfl

theorem v2_eq : (V m c main_v2 : IVec S32x1 32) = shapeCast S32x1 (m ((c : Thread nD τ).loc main_arg3) : IVec S32 32) shapeCasts_S32_S32x1 := by
  show StableHlo.after (List.flatten [hostOps0]) (fun b => m (c, b)) (Proc.devRef .tc main_v2) = _
  simp only [List.flatten_cons, List.flatten_nil, List.append_nil]
  after_results
  rfl

theorem v3_eq : (V m c main_v3 : FVec Ideal S32x7168 .bf16) = shapeCast S32x7168 (m ((c : Thread nD τ).loc main_arg0) : FVec Ideal S32x1x7168 .bf16) shapeCasts_S32x1x7168_S32x7168 := by
  show StableHlo.after (List.flatten [hostOps0]) (fun b => m (c, b)) (Proc.devRef .tc main_v3) = _
  simp only [List.flatten_cons, List.flatten_nil, List.append_nil]
  after_results
  rfl

theorem v0_apply (t : Fin 32) (k : Fin 2) : (V m c main_v0 : IVec S32x2 32) (ix2 t k) = (m ((c : Thread nD τ).loc main_arg1) : IVec S32x1x2 32) (ix3 t 0 k) := by
  rw [v0_eq]
  pointwise
theorem v1_apply (t : Fin 32) (k : Fin 2) : (V m c main_v1 : FVec Ideal S32x2 .f32) (ix2 t k) = (m ((c : Thread nD τ).loc main_arg2) : FVec Ideal S32x1x2 .f32) (ix3 t 0 k) := by
  rw [v1_eq]
  pointwise
theorem v2_apply (t : Fin 32) : (V m c main_v2 : IVec S32x1 32) (ix2 t 0) = (m ((c : Thread nD τ).loc main_arg3) : IVec S32 32) (ix1 t) := by
  rw [v2_eq]
  pointwise
theorem v3_apply (t : Fin 32) (k : Fin 7168) : (V m c main_v3 : FVec Ideal S32x7168 .bf16) (ix2 t k) = (m ((c : Thread nD τ).loc main_arg0) : FVec Ideal S32x1x7168 .bf16) (ix3 t 0 k) := by
  rw [v3_eq]
  exact Cert.Moe.drop_mid _ _ t k

def argsR : Cert.Moe.In := Cert.Moe.ofArgs (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem inR_eq : inR (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) = argsR m c := by
  unfold inR argsR Cert.Moe.ofArgs
  congr 1
  · funext t k; exact (congrFun (iblk3 m c) (ix2 t k)).trans (v3_apply m c t k)
  · funext k t; exact (congrFun (iblk0 m c) (ix2 t k)).trans (v0_apply m c t k)
  · funext k t; exact (congrFun (iblk1 m c) (ix2 t k)).trans (v1_apply m c t k)
  · funext t; exact (congrFun (iblk2 m c) (ix2 t 0)).trans (v2_apply m c t)
  · funext e k n; exact congrFun (iblk4 m c) (ix3 e k n)
  · funext e n; exact congrFun (iblk5 m c) (ix2 e n)
  · funext e j d; exact congrFun (iblk6 m c) (ix3 e j d)
  · funext e d; exact congrFun (iblk7 m c) (ix2 e d)
  · funext e a k q; exact congrFun (iblk8 m c) (ix4 e a k q)
  · funext e a q n; exact congrFun (iblk9 m c) (ix4 e a q n)

/-! ## The results -/

def res0 (A : Cert.Moe.In) : FVec Ideal S32x7168 .bf16 := fun i => Cert.Moe.out A (i 0) (i 1)
def res1 (A : Cert.Moe.In) : FVec Ideal S32x7168 .fp8e4m3 := fun i => Cert.Moe.code A (i 0) (i 1)
def res2 (A : Cert.Moe.In) : FVec Ideal S32x1 .f32 := fun i => Cert.Moe.xS A (i 0)

theorem final10 : (dats m 0 c).arrAt 10 cfg0.N = res0 (argsR m c) := by
  refine (dats m 0 c).arrAt_eq_of_after_last 10 t0_0 (by decide +kernel) _ fun j => ?_
  blk_simp
  rw [after0_10, ← inR_eq]
  obtain ⟨a, b, rfl⟩ : ∃ (a : Fin 32) (b : Fin 7168), j = ix2 a b := ⟨_, _, Cert.Moe.idx2 j⟩
  exact out10 _ _ _ _ _ _ _ _ _ _ a b

theorem final11 : (dats m 0 c).arrAt 11 cfg0.N = res1 (argsR m c) := by
  refine (dats m 0 c).arrAt_eq_of_after_last 11 t0_0 (by decide +kernel) _ fun j => ?_
  blk_simp
  rw [after0_11, ← inR_eq]
  obtain ⟨a, b, rfl⟩ : ∃ (a : Fin 32) (b : Fin 7168), j = ix2 a b := ⟨_, _, Cert.Moe.idx2 j⟩
  exact out11 _ _ _ _ _ _ _ _ _ _ a b

theorem final12 : (dats m 0 c).arrAt 12 cfg0.N = res2 (argsR m c) := by
  refine (dats m 0 c).arrAt_eq_of_after_last 12 t0_0 (by decide +kernel) _ fun j => ?_
  blk_simp
  rw [after0_12, ← inR_eq]
  obtain ⟨a, b, rfl⟩ : ∃ (a : Fin 32) (b : Fin 1), j = ix2 a b := ⟨_, _, Cert.Moe.idx2 j⟩
  obtain rfl : b = 0 := Subsingleton.elim _ _
  exact out12 _ _ _ _ _ _ _ _ _ _ a

theorem after5 (W : Valuation τ sig (Elt Ideal)) : StableHlo.after [hostOps1 (F := Ideal)].flatten W (Proc.devRef .tc main_v5)
    = shapeCast S32x1x7168 (W (Proc.devRef .tc main_v4_0) : FVec Ideal S32x7168 .bf16) shapeCasts_S32x7168_S32x1x7168 := by
  simp only [List.flatten_cons, List.flatten_nil, List.append_nil]
  after_results
  rfl
theorem after6 (W : Valuation τ sig (Elt Ideal)) : StableHlo.after [hostOps1 (F := Ideal)].flatten W (Proc.devRef .tc main_v6)
    = shapeCast S32x1x7168 (W (Proc.devRef .tc main_v4_1) : FVec Ideal S32x7168 .fp8e4m3) shapeCasts_S32x7168_S32x1x7168 := by
  simp only [List.flatten_cons, List.flatten_nil, List.append_nil]
  after_results
  rfl
theorem after7 (W : Valuation τ sig (Elt Ideal)) : StableHlo.after [hostOps1 (F := Ideal)].flatten W (Proc.devRef .tc main_v7)
    = shapeCast S32x1x1 (W (Proc.devRef .tc main_v4_2) : FVec Ideal S32x1 .f32) shapeCasts_S32x1_S32x1x1 := by
  simp only [List.flatten_cons, List.flatten_nil, List.append_nil]
  after_results
  rfl

theorem arr_inj : Function.Injective (Pipeline.arrRef spec0) := by decide

theorem scale_apply {α : Type} (v : S32x1.Idx → α) (i : S32x1x1.Idx) : shapeCast S32x1x1 v shapeCasts_S32x1_S32x1x1 i = v (ix2 (i 0) 0) := by
  refine congrArg v (Shape.reshapeEquiv_eq_of_rowMajor _ ((Shape.rowMajor_val_two (d := ![32, 1]) _).trans
    (Eq.trans ?_ (Shape.rowMajor_val_three (d := ![32, 1, 1]) _).symm)))
  have h1 : (i 1).val < 1 := (i 1).isLt
  have h2 : (i 2).val < 1 := (i 2).isLt
  show (i 0).val * 1 + 0 = ((i 0).val * 1 + (i 1).val) * 1 + (i 2).val
  omega

theorem scale_eq (A : Cert.Moe.In) : shapeCast S32x1x1 (res2 A) shapeCasts_S32x1_S32x1x1 = fun i => Cert.Moe.xS A (i 0) := by
  funext i
  rw [scale_apply]
  rfl

theorem results :
    θ_run defs (onTc (τ := τ) (main (F := Ideal))) ⟨m, fun _ => 0, ρ⟩ (fun r => ∀ c : Dev nD,
      r.2.mem ((c.tc : Thread nD τ).loc main_v5) = shapeCast S32x1x7168 (res0 (argsR m c)) shapeCasts_S32x7168_S32x1x7168
      ∧ r.2.mem ((c.tc : Thread nD τ).loc main_v6) = shapeCast S32x1x7168 (res1 (argsR m c)) shapeCasts_S32x7168_S32x1x7168
      ∧ r.2.mem ((c.tc : Thread nD τ).loc main_v7) = fun i : S32x1x1.Idx => Cert.Moe.xS (argsR m c) (i 0)) :=
  (θ_run defs _ _).mono (fun r h c => ⟨
    ((h c).2 main_v5 (Pipeline.mem_restRefs_of main_v5 (by decide) (by decide))).trans ((after5 _).trans
      (congrArg (fun v => shapeCast S32x1x7168 v shapeCasts_S32x7168_S32x1x7168) ((Pipeline.withArrays_arr spec0 arr_inj c _ _ 10).trans (final10 m c)))),
    ((h c).2 main_v6 (Pipeline.mem_restRefs_of main_v6 (by decide) (by decide))).trans ((after6 _).trans
      (congrArg (fun v => shapeCast S32x1x7168 v shapeCasts_S32x7168_S32x1x7168) ((Pipeline.withArrays_arr spec0 arr_inj c _ _ 11).trans (final11 m c)))),
    ((h c).2 main_v7 (Pipeline.mem_restRefs_of main_v7 (by decide) (by decide))).trans ((after7 _).trans
      ((congrArg (fun v => shapeCast S32x1x1 v shapeCasts_S32x1_S32x1x1) ((Pipeline.withArrays_arr spec0 arr_inj c _ _ 12).trans (final12 m c))).trans (scale_eq _)))⟩) (run_main m ρ)

end Cert.ReferenceIdeal.Hand
end
-- ==== Proof.Alg.lean ====
/-
  Hand-written, untrusted. The kernel and the reference compute equal results from equal arguments, over the extended reals.
-/
module

public import proofs.«01_k».proof.Defs
public import proofs.«01_k».proof.Proof.KRes
public import proofs.«01_k».proof.Proof.RefRun

@[expose] public section

noncomputable section

open Idealize.ShloMosaic Idealize.SL.Sem

namespace Cert.Proof

attribute [local instance] Cert.KernelIdeal.Gen.facts Cert.ReferenceIdeal.Gen.facts Cert.Pre_first_expert_in_range.Gen.facts

theorem algebraic : Cert.algebraic_KernelIdeal_ReferenceIdeal := by
  intro m g m' g' hpre hagree
  have he : ∀ c, ∃ e, (Cert.KernelIdeal.Hand.arrOf m c).ids (ix2 0 0) = Cert.KernelIdeal.Hand.ev e :=
    fun c => Cert.KernelIdeal.Hand.first_of_pre m c _ _ _ _ _ _ _ _ _ (hpre c)
  have hA : ∀ c, Cert.ReferenceIdeal.Hand.argsR m' c = Cert.KernelIdeal.Hand.argsK m c := by
    intro c
    obtain ⟨h0, h1, h2, h3, h4, h5, h6, h7, h8, h9⟩ := hagree c
    unfold Cert.ReferenceIdeal.Hand.argsR Cert.KernelIdeal.Hand.argsK
    rw [h0, h1, h2, h3, h4, h5, h6, h7, h8, h9]
  refine ⟨fun c => shapeCast Cert.KernelIdeal.S32x1x7168 (Cert.KernelIdeal.Hand.res0 (Cert.KernelIdeal.Hand.argsK m c)) Cert.KernelIdeal.Gen.shapeCasts_S32x7168_S32x1x7168,
    fun c => shapeCast Cert.KernelIdeal.S32x1x7168 (Cert.KernelIdeal.Hand.res1 (Cert.KernelIdeal.Hand.argsK m c)) Cert.KernelIdeal.Gen.shapeCasts_S32x7168_S32x1x7168,
    fun c => Cert.KernelIdeal.Hand.res2 (Cert.KernelIdeal.Hand.argsK m c), ?_, ?_⟩
  · refine θ_run_mono (θ_run_and (Cert.KernelIdeal.Hand.results m g he) (Cert.KernelIdeal.Hand.frame m g he)) fun r h c => ?_
    exact ⟨(h.1 c).1, (h.1 c).2.1, (h.1 c).2.2, h.2.1 c⟩
  · refine θ_run_mono (θ_run_and (Cert.ReferenceIdeal.Hand.results m' g') (Cert.ReferenceIdeal.Gen.unchanged m' g')) fun r h c => ?_
    have hr := h.1 c
    rw [hA c] at hr
    exact ⟨hr.1, hr.2.1, hr.2.2, h.2 c⟩

end Cert.Proof

end
-- ==== Proof.lean ====
module

public import proofs.«01_k».proof.Defs
public import proofs.«01_k».proof.Proof.First
public import proofs.«01_k».proof.Proof.Transfer
public import proofs.«01_k».proof.Proof.Alg
public import proofs.«01_k».proof.Proof.Gen.ReferenceIdeal.Frame

@[expose] public section

noncomputable section

open Idealize.ShloMosaic Idealize.SL.Sem

namespace Cert.Proof

attribute [local instance] Cert.Kernel.Gen.facts Cert.KernelIdeal.Gen.facts Cert.ReferenceIdeal.Gen.facts Cert.Pre_first_expert_in_range.Gen.facts

theorem frameIdeal : Cert.quiescent_KernelIdeal := fun m g h =>
  Cert.KernelIdeal.Hand.frame m g fun c => Cert.KernelIdeal.Hand.first_of_pre m c _ _ _ _ _ _ _ _ _ (h c)

theorem frameBits : Cert.quiescent_Kernel := fun m g h =>
  carry defsEq mainEq (Cert.KernelIdeal.Hand.frame (F := Bits) m g fun c => Cert.KernelIdeal.Hand.first_of_pre (F := Bits) m c _ _ _ _ _ _ _ _ _ (h c))

theorem claim : Cert.Claim :=
  ⟨Cert.Kernel.Gen.facts, Cert.KernelIdeal.Gen.facts, Cert.ReferenceIdeal.Gen.facts, Cert.Pre_first_expert_in_range.Gen.facts,
    frameBits, frameIdeal, fun m g _ => Cert.ReferenceIdeal.Gen.frame m g,
    fun m g _ => Cert.ReferenceIdeal.Gen.frame m g, trivial, algebraic⟩

end Cert.Proof

end
